-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8)
      ∧ r.2.mem ((c.tc : Thread Cert.Kernel28.nD Cert.Kernel28.τ).loc Cert.Kernel28.main_arg9) = m ((c.tc : Thread Cert.Kernel28.nD Cert.Kernel28.τ).loc Cert.Kernel28.main_arg9)
      ∧ r.2.mem ((c.tc : Thread Cert.Kernel28.nD Cert.Kernel28.τ).loc Cert.Kernel28.main_arg10) = m ((c.tc : Thread Cert.Kernel28.nD Cert.Kernel28.τ).loc Cert.Kernel28.main_arg10)
      ∧ r.2.mem ((c.tc : Thread Cert.Kernel28.nD Cert.Kernel28.τ).loc Cert.Kernel28.main_arg11) = m ((c.tc : Thread Cert.Kernel28.nD Cert.Kernel28.τ).loc Cert.Kernel28.main_arg11)
      ∧ r.2.mem ((c.tc : Thread Cert.Kernel28.nD Cert.Kernel28.τ).loc Cert.Kernel28.main_arg12) = m ((c.tc : Thread Cert.Kernel28.nD Cert.Kernel28.τ).loc Cert.Kernel28.main_arg12)
      ∧ r.2.mem ((c.tc : Thread Cert.Kernel28.nD Cert.Kernel28.τ).loc Cert.Kernel28.main_arg13) = m ((c.tc : Thread Cert.Kernel28.nD Cert.Kernel28.τ).loc Cert.Kernel28.main_arg13)
      ∧ r.2.mem ((c.tc : Thread Cert.Kernel28.nD Cert.Kernel28.τ).loc Cert.Kernel28.main_arg14) = m ((c.tc : Thread Cert.Kernel28.nD Cert.Kernel28.τ).loc Cert.Kernel28.main_arg14)
      ∧ r.2.mem ((c.tc : Thread Cert.Kernel28.nD Cert.Kernel28.τ).loc Cert.Kernel28.main_arg15) = m ((c.tc : Thread Cert.Kernel28.nD Cert.Kernel28.τ).loc Cert.Kernel28.main_arg15)
      ∧ r.2.mem ((c.tc : Thread Cert.Kernel28.nD Cert.Kernel28.τ).loc Cert.Kernel28.main_arg16) = m ((c.tc : Thread Cert.Kernel28.nD Cert.Kernel28.τ).loc Cert.Kernel28.main_arg16)
      ∧ r.2.mem ((c.tc : Thread Cert.Kernel28.nD Cert.Kernel28.τ).loc Cert.Kernel28.main_arg17) = m ((c.tc : Thread Cert.Kernel28.nD Cert.Kernel28.τ).loc Cert.Kernel28.main_arg17)
      ∧ r.2.mem ((c.tc : Thread Cert.Kernel28.nD Cert.Kernel28.τ).loc Cert.Kernel28.main_arg18) = m ((c.tc : Thread Cert.Kernel28.nD Cert.Kernel28.τ).loc Cert.Kernel28.main_arg18)
      ∧ r.2.mem ((c.tc : Thread Cert.Kernel28.nD Cert.Kernel28.τ).loc Cert.Kernel28.main_arg19) = m ((c.tc : Thread Cert.Kernel28.nD Cert.Kernel28.τ).loc Cert.Kernel28.main_arg19)
      ∧ r.2.mem ((c.tc : Thread Cert.Kernel28.nD Cert.Kernel28.τ).loc Cert.Kernel28.main_arg20) = m ((c.tc : Thread Cert.Kernel28.nD Cert.Kernel28.τ).loc Cert.Kernel28.main_arg20)
      ∧ r.2.mem ((c.tc : Thread Cert.Kernel28.nD Cert.Kernel28.τ).loc Cert.Kernel28.main_arg21) = m ((c.tc : Thread Cert.Kernel28.nD Cert.Kernel28.τ).loc Cert.Kernel28.main_arg21)
      ∧ r.2.mem ((c.tc : Thread Cert.Kernel28.nD Cert.Kernel28.τ).loc Cert.Kernel28.main_arg22) = m ((c.tc : Thread Cert.Kernel28.nD Cert.Kernel28.τ).loc Cert.Kernel28.main_arg22)
      ∧ r.2.mem ((c.tc : Thread Cert.Kernel28.nD Cert.Kernel28.τ).loc Cert.Kernel28.main_arg23) = m ((c.tc : Thread Cert.Kernel28.nD Cert.Kernel28.τ).loc Cert.Kernel28.main_arg23)
      ∧ r.2.mem ((c.tc : Thread Cert.Kernel28.nD Cert.Kernel28.τ).loc Cert.Kernel28.main_arg24) = m ((c.tc : Thread Cert.Kernel28.nD Cert.Kernel28.τ).loc Cert.Kernel28.main_arg24)
      ∧ r.2.mem ((c.tc : Thread Cert.Kernel28.nD Cert.Kernel28.τ).loc Cert.Kernel28.main_arg25) = m ((c.tc : Thread Cert.Kernel28.nD Cert.Kernel28.τ).loc Cert.Kernel28.main_arg25)
      ∧ r.2.mem ((c.tc : Thread Cert.Kernel28.nD Cert.Kernel28.τ).loc Cert.Kernel28.main_arg26) = m ((c.tc : Thread Cert.Kernel28.nD Cert.Kernel28.τ).loc Cert.Kernel28.main_arg26)
      ∧ r.2.mem ((c.tc : Thread Cert.Kernel28.nD Cert.Kernel28.τ).loc Cert.Kernel28.main_arg27) = m ((c.tc : Thread Cert.Kernel28.nD Cert.Kernel28.τ).loc Cert.Kernel28.main_arg27)
      ∧ r.2.mem ((c.tc : Thread Cert.Kernel28.nD Cert.Kernel28.τ).loc Cert.Kernel28.main_arg28) = m ((c.tc : Thread Cert.Kernel28.nD Cert.Kernel28.τ).loc Cert.Kernel28.main_arg28)
      ∧ r.2.mem ((c.tc : Thread Cert.Kernel28.nD Cert.Kernel28.τ).loc Cert.Kernel28.main_arg29) = m ((c.tc : Thread Cert.Kernel28.nD Cert.Kernel28.τ).loc Cert.Kernel28.main_arg29)
      ∧ r.2.mem ((c.tc : Thread Cert.Kernel28.nD Cert.Kernel28.τ).loc Cert.Kernel28.main_arg30) = m ((c.tc : Thread Cert.Kernel28.nD Cert.Kernel28.τ).loc Cert.Kernel28.main_arg30)
      ∧ r.2.mem ((c.tc : Thread Cert.Kernel28.nD Cert.Kernel28.τ).loc Cert.Kernel28.main_arg31) = m ((c.tc : Thread Cert.Kernel28.nD Cert.Kernel28.τ).loc Cert.Kernel28.main_arg31)
      ∧ r.2.mem ((c.tc : Thread Cert.Kernel28.nD Cert.Kernel28.τ).loc Cert.Kernel28.main_arg32) = m ((c.tc : Thread Cert.Kernel28.nD Cert.Kernel28.τ).loc Cert.Kernel28.main_arg32)
      ∧ r.2.mem ((c.tc : Thread Cert.Kernel28.nD Cert.Kernel28.τ).loc Cert.Kernel28.main_arg33) = m ((c.tc : Thread Cert.Kernel28.nD Cert.Kernel28.τ).loc Cert.Kernel28.main_arg33)
      ∧ r.2.mem ((c.tc : Thread Cert.Kernel28.nD Cert.Kernel28.τ).loc Cert.Kernel28.main_arg34) = m ((c.tc : Thread Cert.Kernel28.nD Cert.Kernel28.τ).loc Cert.Kernel28.main_arg34)
      ∧ r.2.mem ((c.tc : Thread Cert.Kernel28.nD Cert.Kernel28.τ).loc Cert.Kernel28.main_arg35) = m ((c.tc : Thread Cert.Kernel28.nD Cert.Kernel28.τ).loc Cert.Kernel28.main_arg35)
      ∧ r.2.mem ((c.tc : Thread Cert.Kernel28.nD Cert.Kernel28.τ).loc Cert.Kernel28.main_arg36) = m ((c.tc : Thread Cert.Kernel28.nD Cert.Kernel28.τ).loc Cert.Kernel28.main_arg36)
      ∧ r.2.mem ((c.tc : Thread Cert.Kernel28.nD Cert.Kernel28.τ).loc Cert.Kernel28.main_arg37) = m ((c.tc : Thread Cert.Kernel28.nD Cert.Kernel28.τ).loc Cert.Kernel28.main_arg37)
      ∧ r.2.mem ((c.tc : Thread Cert.Kernel28.nD Cert.Kernel28.τ).loc Cert.Kernel28.main_arg38) = m ((c.tc : Thread Cert.Kernel28.nD Cert.Kernel28.τ).loc Cert.Kernel28.main_arg38)
      ∧ r.2.mem ((c.tc : Thread Cert.Kernel28.nD Cert.Kernel28.τ).loc Cert.Kernel28.main_arg39) = m ((c.tc : Thread Cert.Kernel28.nD Cert.Kernel28.τ).loc Cert.Kernel28.main_arg39))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
      ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
      ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
      ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
      ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
      ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
      ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
      ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
      ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
      ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
      ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
      ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
      ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
      ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
      ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
      ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
      ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
      ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
      ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
      ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
      ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
      ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
      ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
      ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
      ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
      ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
      ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
      ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
      ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
      ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
      ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
      ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8)
      ∧ r.2.mem ((c.tc : Thread Cert.Reference28Ideal.nD Cert.Reference28Ideal.τ).loc Cert.Reference28Ideal.main_arg9) = m ((c.tc : Thread Cert.Reference28Ideal.nD Cert.Reference28Ideal.τ).loc Cert.Reference28Ideal.main_arg9)
      ∧ r.2.mem ((c.tc : Thread Cert.Reference28Ideal.nD Cert.Reference28Ideal.τ).loc Cert.Reference28Ideal.main_arg10) = m ((c.tc : Thread Cert.Reference28Ideal.nD Cert.Reference28Ideal.τ).loc Cert.Reference28Ideal.main_arg10)
      ∧ r.2.mem ((c.tc : Thread Cert.Reference28Ideal.nD Cert.Reference28Ideal.τ).loc Cert.Reference28Ideal.main_arg11) = m ((c.tc : Thread Cert.Reference28Ideal.nD Cert.Reference28Ideal.τ).loc Cert.Reference28Ideal.main_arg11)
      ∧ r.2.mem ((c.tc : Thread Cert.Reference28Ideal.nD Cert.Reference28Ideal.τ).loc Cert.Reference28Ideal.main_arg12) = m ((c.tc : Thread Cert.Reference28Ideal.nD Cert.Reference28Ideal.τ).loc Cert.Reference28Ideal.main_arg12)
      ∧ r.2.mem ((c.tc : Thread Cert.Reference28Ideal.nD Cert.Reference28Ideal.τ).loc Cert.Reference28Ideal.main_arg13) = m ((c.tc : Thread Cert.Reference28Ideal.nD Cert.Reference28Ideal.τ).loc Cert.Reference28Ideal.main_arg13)
      ∧ r.2.mem ((c.tc : Thread Cert.Reference28Ideal.nD Cert.Reference28Ideal.τ).loc Cert.Reference28Ideal.main_arg14) = m ((c.tc : Thread Cert.Reference28Ideal.nD Cert.Reference28Ideal.τ).loc Cert.Reference28Ideal.main_arg14)
      ∧ r.2.mem ((c.tc : Thread Cert.Reference28Ideal.nD Cert.Reference28Ideal.τ).loc Cert.Reference28Ideal.main_arg15) = m ((c.tc : Thread Cert.Reference28Ideal.nD Cert.Reference28Ideal.τ).loc Cert.Reference28Ideal.main_arg15)
      ∧ r.2.mem ((c.tc : Thread Cert.Reference28Ideal.nD Cert.Reference28Ideal.τ).loc Cert.Reference28Ideal.main_arg16) = m ((c.tc : Thread Cert.Reference28Ideal.nD Cert.Reference28Ideal.τ).loc Cert.Reference28Ideal.main_arg16)
      ∧ r.2.mem ((c.tc : Thread Cert.Reference28Ideal.nD Cert.Reference28Ideal.τ).loc Cert.Reference28Ideal.main_arg17) = m ((c.tc : Thread Cert.Reference28Ideal.nD Cert.Reference28Ideal.τ).loc Cert.Reference28Ideal.main_arg17)
      ∧ r.2.mem ((c.tc : Thread Cert.Reference28Ideal.nD Cert.Reference28Ideal.τ).loc Cert.Reference28Ideal.main_arg18) = m ((c.tc : Thread Cert.Reference28Ideal.nD Cert.Reference28Ideal.τ).loc Cert.Reference28Ideal.main_arg18)
      ∧ r.2.mem ((c.tc : Thread Cert.Reference28Ideal.nD Cert.Reference28Ideal.τ).loc Cert.Reference28Ideal.main_arg19) = m ((c.tc : Thread Cert.Reference28Ideal.nD Cert.Reference28Ideal.τ).loc Cert.Reference28Ideal.main_arg19)
      ∧ r.2.mem ((c.tc : Thread Cert.Reference28Ideal.nD Cert.Reference28Ideal.τ).loc Cert.Reference28Ideal.main_arg20) = m ((c.tc : Thread Cert.Reference28Ideal.nD Cert.Reference28Ideal.τ).loc Cert.Reference28Ideal.main_arg20)
      ∧ r.2.mem ((c.tc : Thread Cert.Reference28Ideal.nD Cert.Reference28Ideal.τ).loc Cert.Reference28Ideal.main_arg21) = m ((c.tc : Thread Cert.Reference28Ideal.nD Cert.Reference28Ideal.τ).loc Cert.Reference28Ideal.main_arg21)
      ∧ r.2.mem ((c.tc : Thread Cert.Reference28Ideal.nD Cert.Reference28Ideal.τ).loc Cert.Reference28Ideal.main_arg22) = m ((c.tc : Thread Cert.Reference28Ideal.nD Cert.Reference28Ideal.τ).loc Cert.Reference28Ideal.main_arg22)
      ∧ r.2.mem ((c.tc : Thread Cert.Reference28Ideal.nD Cert.Reference28Ideal.τ).loc Cert.Reference28Ideal.main_arg23) = m ((c.tc : Thread Cert.Reference28Ideal.nD Cert.Reference28Ideal.τ).loc Cert.Reference28Ideal.main_arg23)
      ∧ r.2.mem ((c.tc : Thread Cert.Reference28Ideal.nD Cert.Reference28Ideal.τ).loc Cert.Reference28Ideal.main_arg24) = m ((c.tc : Thread Cert.Reference28Ideal.nD Cert.Reference28Ideal.τ).loc Cert.Reference28Ideal.main_arg24)
      ∧ r.2.mem ((c.tc : Thread Cert.Reference28Ideal.nD Cert.Reference28Ideal.τ).loc Cert.Reference28Ideal.main_arg25) = m ((c.tc : Thread Cert.Reference28Ideal.nD Cert.Reference28Ideal.τ).loc Cert.Reference28Ideal.main_arg25)
      ∧ r.2.mem ((c.tc : Thread Cert.Reference28Ideal.nD Cert.Reference28Ideal.τ).loc Cert.Reference28Ideal.main_arg26) = m ((c.tc : Thread Cert.Reference28Ideal.nD Cert.Reference28Ideal.τ).loc Cert.Reference28Ideal.main_arg26)
      ∧ r.2.mem ((c.tc : Thread Cert.Reference28Ideal.nD Cert.Reference28Ideal.τ).loc Cert.Reference28Ideal.main_arg27) = m ((c.tc : Thread Cert.Reference28Ideal.nD Cert.Reference28Ideal.τ).loc Cert.Reference28Ideal.main_arg27)
      ∧ r.2.mem ((c.tc : Thread Cert.Reference28Ideal.nD Cert.Reference28Ideal.τ).loc Cert.Reference28Ideal.main_arg28) = m ((c.tc : Thread Cert.Reference28Ideal.nD Cert.Reference28Ideal.τ).loc Cert.Reference28Ideal.main_arg28)
      ∧ r.2.mem ((c.tc : Thread Cert.Reference28Ideal.nD Cert.Reference28Ideal.τ).loc Cert.Reference28Ideal.main_arg29) = m ((c.tc : Thread Cert.Reference28Ideal.nD Cert.Reference28Ideal.τ).loc Cert.Reference28Ideal.main_arg29)
      ∧ r.2.mem ((c.tc : Thread Cert.Reference28Ideal.nD Cert.Reference28Ideal.τ).loc Cert.Reference28Ideal.main_arg30) = m ((c.tc : Thread Cert.Reference28Ideal.nD Cert.Reference28Ideal.τ).loc Cert.Reference28Ideal.main_arg30)
      ∧ r.2.mem ((c.tc : Thread Cert.Reference28Ideal.nD Cert.Reference28Ideal.τ).loc Cert.Reference28Ideal.main_arg31) = m ((c.tc : Thread Cert.Reference28Ideal.nD Cert.Reference28Ideal.τ).loc Cert.Reference28Ideal.main_arg31)
      ∧ r.2.mem ((c.tc : Thread Cert.Reference28Ideal.nD Cert.Reference28Ideal.τ).loc Cert.Reference28Ideal.main_arg32) = m ((c.tc : Thread Cert.Reference28Ideal.nD Cert.Reference28Ideal.τ).loc Cert.Reference28Ideal.main_arg32)
      ∧ r.2.mem ((c.tc : Thread Cert.Reference28Ideal.nD Cert.Reference28Ideal.τ).loc Cert.Reference28Ideal.main_arg33) = m ((c.tc : Thread Cert.Reference28Ideal.nD Cert.Reference28Ideal.τ).loc Cert.Reference28Ideal.main_arg33)
      ∧ r.2.mem ((c.tc : Thread Cert.Reference28Ideal.nD Cert.Reference28Ideal.τ).loc Cert.Reference28Ideal.main_arg34) = m ((c.tc : Thread Cert.Reference28Ideal.nD Cert.Reference28Ideal.τ).loc Cert.Reference28Ideal.main_arg34)
      ∧ r.2.mem ((c.tc : Thread Cert.Reference28Ideal.nD Cert.Reference28Ideal.τ).loc Cert.Reference28Ideal.main_arg35) = m ((c.tc : Thread Cert.Reference28Ideal.nD Cert.Reference28Ideal.τ).loc Cert.Reference28Ideal.main_arg35)
      ∧ r.2.mem ((c.tc : Thread Cert.Reference28Ideal.nD Cert.Reference28Ideal.τ).loc Cert.Reference28Ideal.main_arg36) = m ((c.tc : Thread Cert.Reference28Ideal.nD Cert.Reference28Ideal.τ).loc Cert.Reference28Ideal.main_arg36)
      ∧ r.2.mem ((c.tc : Thread Cert.Reference28Ideal.nD Cert.Reference28Ideal.τ).loc Cert.Reference28Ideal.main_arg37) = m ((c.tc : Thread Cert.Reference28Ideal.nD Cert.Reference28Ideal.τ).loc Cert.Reference28Ideal.main_arg37)
      ∧ r.2.mem ((c.tc : Thread Cert.Reference28Ideal.nD Cert.Reference28Ideal.τ).loc Cert.Reference28Ideal.main_arg38) = m ((c.tc : Thread Cert.Reference28Ideal.nD Cert.Reference28Ideal.τ).loc Cert.Reference28Ideal.main_arg38)
      ∧ r.2.mem ((c.tc : Thread Cert.Reference28Ideal.nD Cert.Reference28Ideal.τ).loc Cert.Reference28Ideal.main_arg39) = m ((c.tc : Thread Cert.Reference28Ideal.nD Cert.Reference28Ideal.τ).loc Cert.Reference28Ideal.main_arg39))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v565) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v564) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)) (v3 : (c : Dev Cert.Kernel8Ideal.nD) → Buf (Elt Ideal) ((c.tc : Thread Cert.Kernel8Ideal.nD Cert.Kernel8Ideal.τ).loc Cert.Kernel8Ideal.main_v8_3)) (v4 : (c : Dev Cert.Kernel8Ideal.nD) → Buf (Elt Ideal) ((c.tc : Thread Cert.Kernel8Ideal.nD Cert.Kernel8Ideal.τ).loc Cert.Kernel8Ideal.main_v8_4)) (v5 : (c : Dev Cert.Kernel8Ideal.nD) → Buf (Elt Ideal) ((c.tc : Thread Cert.Kernel8Ideal.nD Cert.Kernel8Ideal.τ).loc Cert.Kernel8Ideal.main_v8_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_v8_3) = v3 c
          ∧ r.2.mem ((c.tc : Thread Cert.Kernel8Ideal.nD Cert.Kernel8Ideal.τ).loc Cert.Kernel8Ideal.main_v8_4) = v4 c
          ∧ r.2.mem ((c.tc : Thread Cert.Kernel8Ideal.nD Cert.Kernel8Ideal.τ).loc Cert.Kernel8Ideal.main_v8_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_v44) = v3 c
          ∧ r.2.mem ((c.tc : Thread Cert.Reference8Ideal.nD Cert.Reference8Ideal.τ).loc Cert.Reference8Ideal.main_v45) = v4 c
          ∧ r.2.mem ((c.tc : Thread Cert.Reference8Ideal.nD Cert.Reference8Ideal.τ).loc Cert.Reference8Ideal.main_v46) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v73) = v0 c
          ∧ r.2.mem ((c.tc : Thread Cert.Reference9Ideal.nD Cert.Reference9Ideal.τ).loc Cert.Reference9Ideal.main_v71) = v1 c
          ∧ r.2.mem ((c.tc : Thread Cert.Reference9Ideal.nD Cert.Reference9Ideal.τ).loc Cert.Reference9Ideal.main_v67) = v2 c
          ∧ r.2.mem ((c.tc : Thread Cert.Reference9Ideal.nD Cert.Reference9Ideal.τ).loc Cert.Reference9Ideal.main_v66) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v14_0)) (v1 : (c : Dev Cert.Kernel11Ideal.nD) → Buf (Elt Ideal) ((c.tc : Thread Cert.Kernel11Ideal.nD Cert.Kernel11Ideal.τ).loc Cert.Kernel11Ideal.main_v14_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14_0) = v0 c
          ∧ r.2.mem ((c.tc : Thread Cert.Kernel11Ideal.nD Cert.Kernel11Ideal.τ).loc Cert.Kernel11Ideal.main_v14_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v16) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v31) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v221) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v8) = v1 c
          ∧ r.2.mem ((c.tc : Thread Cert.Reference19Ideal.nD Cert.Reference19Ideal.τ).loc Cert.Reference19Ideal.main_v14) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v7)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v7) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v6)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v6) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v6)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v6) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v7)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v7) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)) (v2 : (c : Dev Cert.Kernel27Ideal.nD) → Buf (Elt Ideal) ((c.tc : Thread Cert.Kernel27Ideal.nD Cert.Kernel27Ideal.τ).loc Cert.Kernel27Ideal.main_v2_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_v2_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_v11) = v1 c
          ∧ r.2.mem ((c.tc : Thread Cert.Reference27Ideal.nD Cert.Reference27Ideal.τ).loc Cert.Reference27Ideal.main_v13) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)
      ∧ m' ((c.tc : Thread Cert.Reference28Ideal.nD Cert.Reference28Ideal.τ).loc Cert.Reference28Ideal.main_arg9) = m ((c.tc : Thread Cert.Kernel28Ideal.nD Cert.Kernel28Ideal.τ).loc Cert.Kernel28Ideal.main_arg9)
      ∧ m' ((c.tc : Thread Cert.Reference28Ideal.nD Cert.Reference28Ideal.τ).loc Cert.Reference28Ideal.main_arg10) = m ((c.tc : Thread Cert.Kernel28Ideal.nD Cert.Kernel28Ideal.τ).loc Cert.Kernel28Ideal.main_arg10)
      ∧ m' ((c.tc : Thread Cert.Reference28Ideal.nD Cert.Reference28Ideal.τ).loc Cert.Reference28Ideal.main_arg11) = m ((c.tc : Thread Cert.Kernel28Ideal.nD Cert.Kernel28Ideal.τ).loc Cert.Kernel28Ideal.main_arg11)
      ∧ m' ((c.tc : Thread Cert.Reference28Ideal.nD Cert.Reference28Ideal.τ).loc Cert.Reference28Ideal.main_arg12) = m ((c.tc : Thread Cert.Kernel28Ideal.nD Cert.Kernel28Ideal.τ).loc Cert.Kernel28Ideal.main_arg12)
      ∧ m' ((c.tc : Thread Cert.Reference28Ideal.nD Cert.Reference28Ideal.τ).loc Cert.Reference28Ideal.main_arg13) = m ((c.tc : Thread Cert.Kernel28Ideal.nD Cert.Kernel28Ideal.τ).loc Cert.Kernel28Ideal.main_arg13)
      ∧ m' ((c.tc : Thread Cert.Reference28Ideal.nD Cert.Reference28Ideal.τ).loc Cert.Reference28Ideal.main_arg14) = m ((c.tc : Thread Cert.Kernel28Ideal.nD Cert.Kernel28Ideal.τ).loc Cert.Kernel28Ideal.main_arg14)
      ∧ m' ((c.tc : Thread Cert.Reference28Ideal.nD Cert.Reference28Ideal.τ).loc Cert.Reference28Ideal.main_arg15) = m ((c.tc : Thread Cert.Kernel28Ideal.nD Cert.Kernel28Ideal.τ).loc Cert.Kernel28Ideal.main_arg15)
      ∧ m' ((c.tc : Thread Cert.Reference28Ideal.nD Cert.Reference28Ideal.τ).loc Cert.Reference28Ideal.main_arg16) = m ((c.tc : Thread Cert.Kernel28Ideal.nD Cert.Kernel28Ideal.τ).loc Cert.Kernel28Ideal.main_arg16)
      ∧ m' ((c.tc : Thread Cert.Reference28Ideal.nD Cert.Reference28Ideal.τ).loc Cert.Reference28Ideal.main_arg17) = m ((c.tc : Thread Cert.Kernel28Ideal.nD Cert.Kernel28Ideal.τ).loc Cert.Kernel28Ideal.main_arg17)
      ∧ m' ((c.tc : Thread Cert.Reference28Ideal.nD Cert.Reference28Ideal.τ).loc Cert.Reference28Ideal.main_arg18) = m ((c.tc : Thread Cert.Kernel28Ideal.nD Cert.Kernel28Ideal.τ).loc Cert.Kernel28Ideal.main_arg18)
      ∧ m' ((c.tc : Thread Cert.Reference28Ideal.nD Cert.Reference28Ideal.τ).loc Cert.Reference28Ideal.main_arg19) = m ((c.tc : Thread Cert.Kernel28Ideal.nD Cert.Kernel28Ideal.τ).loc Cert.Kernel28Ideal.main_arg19)
      ∧ m' ((c.tc : Thread Cert.Reference28Ideal.nD Cert.Reference28Ideal.τ).loc Cert.Reference28Ideal.main_arg20) = m ((c.tc : Thread Cert.Kernel28Ideal.nD Cert.Kernel28Ideal.τ).loc Cert.Kernel28Ideal.main_arg20)
      ∧ m' ((c.tc : Thread Cert.Reference28Ideal.nD Cert.Reference28Ideal.τ).loc Cert.Reference28Ideal.main_arg21) = m ((c.tc : Thread Cert.Kernel28Ideal.nD Cert.Kernel28Ideal.τ).loc Cert.Kernel28Ideal.main_arg21)
      ∧ m' ((c.tc : Thread Cert.Reference28Ideal.nD Cert.Reference28Ideal.τ).loc Cert.Reference28Ideal.main_arg22) = m ((c.tc : Thread Cert.Kernel28Ideal.nD Cert.Kernel28Ideal.τ).loc Cert.Kernel28Ideal.main_arg22)
      ∧ m' ((c.tc : Thread Cert.Reference28Ideal.nD Cert.Reference28Ideal.τ).loc Cert.Reference28Ideal.main_arg23) = m ((c.tc : Thread Cert.Kernel28Ideal.nD Cert.Kernel28Ideal.τ).loc Cert.Kernel28Ideal.main_arg23)
      ∧ m' ((c.tc : Thread Cert.Reference28Ideal.nD Cert.Reference28Ideal.τ).loc Cert.Reference28Ideal.main_arg24) = m ((c.tc : Thread Cert.Kernel28Ideal.nD Cert.Kernel28Ideal.τ).loc Cert.Kernel28Ideal.main_arg24)
      ∧ m' ((c.tc : Thread Cert.Reference28Ideal.nD Cert.Reference28Ideal.τ).loc Cert.Reference28Ideal.main_arg25) = m ((c.tc : Thread Cert.Kernel28Ideal.nD Cert.Kernel28Ideal.τ).loc Cert.Kernel28Ideal.main_arg25)
      ∧ m' ((c.tc : Thread Cert.Reference28Ideal.nD Cert.Reference28Ideal.τ).loc Cert.Reference28Ideal.main_arg26) = m ((c.tc : Thread Cert.Kernel28Ideal.nD Cert.Kernel28Ideal.τ).loc Cert.Kernel28Ideal.main_arg26)
      ∧ m' ((c.tc : Thread Cert.Reference28Ideal.nD Cert.Reference28Ideal.τ).loc Cert.Reference28Ideal.main_arg27) = m ((c.tc : Thread Cert.Kernel28Ideal.nD Cert.Kernel28Ideal.τ).loc Cert.Kernel28Ideal.main_arg27)
      ∧ m' ((c.tc : Thread Cert.Reference28Ideal.nD Cert.Reference28Ideal.τ).loc Cert.Reference28Ideal.main_arg28) = m ((c.tc : Thread Cert.Kernel28Ideal.nD Cert.Kernel28Ideal.τ).loc Cert.Kernel28Ideal.main_arg28)
      ∧ m' ((c.tc : Thread Cert.Reference28Ideal.nD Cert.Reference28Ideal.τ).loc Cert.Reference28Ideal.main_arg29) = m ((c.tc : Thread Cert.Kernel28Ideal.nD Cert.Kernel28Ideal.τ).loc Cert.Kernel28Ideal.main_arg29)
      ∧ m' ((c.tc : Thread Cert.Reference28Ideal.nD Cert.Reference28Ideal.τ).loc Cert.Reference28Ideal.main_arg30) = m ((c.tc : Thread Cert.Kernel28Ideal.nD Cert.Kernel28Ideal.τ).loc Cert.Kernel28Ideal.main_arg30)
      ∧ m' ((c.tc : Thread Cert.Reference28Ideal.nD Cert.Reference28Ideal.τ).loc Cert.Reference28Ideal.main_arg31) = m ((c.tc : Thread Cert.Kernel28Ideal.nD Cert.Kernel28Ideal.τ).loc Cert.Kernel28Ideal.main_arg31)
      ∧ m' ((c.tc : Thread Cert.Reference28Ideal.nD Cert.Reference28Ideal.τ).loc Cert.Reference28Ideal.main_arg32) = m ((c.tc : Thread Cert.Kernel28Ideal.nD Cert.Kernel28Ideal.τ).loc Cert.Kernel28Ideal.main_arg32)
      ∧ m' ((c.tc : Thread Cert.Reference28Ideal.nD Cert.Reference28Ideal.τ).loc Cert.Reference28Ideal.main_arg33) = m ((c.tc : Thread Cert.Kernel28Ideal.nD Cert.Kernel28Ideal.τ).loc Cert.Kernel28Ideal.main_arg33)
      ∧ m' ((c.tc : Thread Cert.Reference28Ideal.nD Cert.Reference28Ideal.τ).loc Cert.Reference28Ideal.main_arg34) = m ((c.tc : Thread Cert.Kernel28Ideal.nD Cert.Kernel28Ideal.τ).loc Cert.Kernel28Ideal.main_arg34)
      ∧ m' ((c.tc : Thread Cert.Reference28Ideal.nD Cert.Reference28Ideal.τ).loc Cert.Reference28Ideal.main_arg35) = m ((c.tc : Thread Cert.Kernel28Ideal.nD Cert.Kernel28Ideal.τ).loc Cert.Kernel28Ideal.main_arg35)
      ∧ m' ((c.tc : Thread Cert.Reference28Ideal.nD Cert.Reference28Ideal.τ).loc Cert.Reference28Ideal.main_arg36) = m ((c.tc : Thread Cert.Kernel28Ideal.nD Cert.Kernel28Ideal.τ).loc Cert.Kernel28Ideal.main_arg36)
      ∧ m' ((c.tc : Thread Cert.Reference28Ideal.nD Cert.Reference28Ideal.τ).loc Cert.Reference28Ideal.main_arg37) = m ((c.tc : Thread Cert.Kernel28Ideal.nD Cert.Kernel28Ideal.τ).loc Cert.Kernel28Ideal.main_arg37)
      ∧ m' ((c.tc : Thread Cert.Reference28Ideal.nD Cert.Reference28Ideal.τ).loc Cert.Reference28Ideal.main_arg38) = m ((c.tc : Thread Cert.Kernel28Ideal.nD Cert.Kernel28Ideal.τ).loc Cert.Kernel28Ideal.main_arg38)
      ∧ m' ((c.tc : Thread Cert.Reference28Ideal.nD Cert.Reference28Ideal.τ).loc Cert.Reference28Ideal.main_arg39) = m ((c.tc : Thread Cert.Kernel28Ideal.nD Cert.Kernel28Ideal.τ).loc Cert.Kernel28Ideal.main_arg39)) →
    ∃ (v0 : (c : Dev Cert.Kernel28Ideal.nD) → Buf (Elt Ideal) ((c.tc : Thread Cert.Kernel28Ideal.nD Cert.Kernel28Ideal.τ).loc Cert.Kernel28Ideal.main_v52_0)) (v1 : (c : Dev Cert.Kernel28Ideal.nD) → Buf (Elt Ideal) ((c.tc : Thread Cert.Kernel28Ideal.nD Cert.Kernel28Ideal.τ).loc Cert.Kernel28Ideal.main_v52_1)) (v2 : (c : Dev Cert.Kernel28Ideal.nD) → Buf (Elt Ideal) ((c.tc : Thread Cert.Kernel28Ideal.nD Cert.Kernel28Ideal.τ).loc Cert.Kernel28Ideal.main_v52_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v52_0) = v0 c
          ∧ r.2.mem ((c.tc : Thread Cert.Kernel28Ideal.nD Cert.Kernel28Ideal.τ).loc Cert.Kernel28Ideal.main_v52_1) = v1 c
          ∧ r.2.mem ((c.tc : Thread Cert.Kernel28Ideal.nD Cert.Kernel28Ideal.τ).loc Cert.Kernel28Ideal.main_v52_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8)
          ∧ r.2.mem ((c.tc : Thread Cert.Kernel28Ideal.nD Cert.Kernel28Ideal.τ).loc Cert.Kernel28Ideal.main_arg9) = m ((c.tc : Thread Cert.Kernel28Ideal.nD Cert.Kernel28Ideal.τ).loc Cert.Kernel28Ideal.main_arg9)
          ∧ r.2.mem ((c.tc : Thread Cert.Kernel28Ideal.nD Cert.Kernel28Ideal.τ).loc Cert.Kernel28Ideal.main_arg10) = m ((c.tc : Thread Cert.Kernel28Ideal.nD Cert.Kernel28Ideal.τ).loc Cert.Kernel28Ideal.main_arg10)
          ∧ r.2.mem ((c.tc : Thread Cert.Kernel28Ideal.nD Cert.Kernel28Ideal.τ).loc Cert.Kernel28Ideal.main_arg11) = m ((c.tc : Thread Cert.Kernel28Ideal.nD Cert.Kernel28Ideal.τ).loc Cert.Kernel28Ideal.main_arg11)
          ∧ r.2.mem ((c.tc : Thread Cert.Kernel28Ideal.nD Cert.Kernel28Ideal.τ).loc Cert.Kernel28Ideal.main_arg12) = m ((c.tc : Thread Cert.Kernel28Ideal.nD Cert.Kernel28Ideal.τ).loc Cert.Kernel28Ideal.main_arg12)
          ∧ r.2.mem ((c.tc : Thread Cert.Kernel28Ideal.nD Cert.Kernel28Ideal.τ).loc Cert.Kernel28Ideal.main_arg13) = m ((c.tc : Thread Cert.Kernel28Ideal.nD Cert.Kernel28Ideal.τ).loc Cert.Kernel28Ideal.main_arg13)
          ∧ r.2.mem ((c.tc : Thread Cert.Kernel28Ideal.nD Cert.Kernel28Ideal.τ).loc Cert.Kernel28Ideal.main_arg14) = m ((c.tc : Thread Cert.Kernel28Ideal.nD Cert.Kernel28Ideal.τ).loc Cert.Kernel28Ideal.main_arg14)
          ∧ r.2.mem ((c.tc : Thread Cert.Kernel28Ideal.nD Cert.Kernel28Ideal.τ).loc Cert.Kernel28Ideal.main_arg15) = m ((c.tc : Thread Cert.Kernel28Ideal.nD Cert.Kernel28Ideal.τ).loc Cert.Kernel28Ideal.main_arg15)
          ∧ r.2.mem ((c.tc : Thread Cert.Kernel28Ideal.nD Cert.Kernel28Ideal.τ).loc Cert.Kernel28Ideal.main_arg16) = m ((c.tc : Thread Cert.Kernel28Ideal.nD Cert.Kernel28Ideal.τ).loc Cert.Kernel28Ideal.main_arg16)
          ∧ r.2.mem ((c.tc : Thread Cert.Kernel28Ideal.nD Cert.Kernel28Ideal.τ).loc Cert.Kernel28Ideal.main_arg17) = m ((c.tc : Thread Cert.Kernel28Ideal.nD Cert.Kernel28Ideal.τ).loc Cert.Kernel28Ideal.main_arg17)
          ∧ r.2.mem ((c.tc : Thread Cert.Kernel28Ideal.nD Cert.Kernel28Ideal.τ).loc Cert.Kernel28Ideal.main_arg18) = m ((c.tc : Thread Cert.Kernel28Ideal.nD Cert.Kernel28Ideal.τ).loc Cert.Kernel28Ideal.main_arg18)
          ∧ r.2.mem ((c.tc : Thread Cert.Kernel28Ideal.nD Cert.Kernel28Ideal.τ).loc Cert.Kernel28Ideal.main_arg19) = m ((c.tc : Thread Cert.Kernel28Ideal.nD Cert.Kernel28Ideal.τ).loc Cert.Kernel28Ideal.main_arg19)
          ∧ r.2.mem ((c.tc : Thread Cert.Kernel28Ideal.nD Cert.Kernel28Ideal.τ).loc Cert.Kernel28Ideal.main_arg20) = m ((c.tc : Thread Cert.Kernel28Ideal.nD Cert.Kernel28Ideal.τ).loc Cert.Kernel28Ideal.main_arg20)
          ∧ r.2.mem ((c.tc : Thread Cert.Kernel28Ideal.nD Cert.Kernel28Ideal.τ).loc Cert.Kernel28Ideal.main_arg21) = m ((c.tc : Thread Cert.Kernel28Ideal.nD Cert.Kernel28Ideal.τ).loc Cert.Kernel28Ideal.main_arg21)
          ∧ r.2.mem ((c.tc : Thread Cert.Kernel28Ideal.nD Cert.Kernel28Ideal.τ).loc Cert.Kernel28Ideal.main_arg22) = m ((c.tc : Thread Cert.Kernel28Ideal.nD Cert.Kernel28Ideal.τ).loc Cert.Kernel28Ideal.main_arg22)
          ∧ r.2.mem ((c.tc : Thread Cert.Kernel28Ideal.nD Cert.Kernel28Ideal.τ).loc Cert.Kernel28Ideal.main_arg23) = m ((c.tc : Thread Cert.Kernel28Ideal.nD Cert.Kernel28Ideal.τ).loc Cert.Kernel28Ideal.main_arg23)
          ∧ r.2.mem ((c.tc : Thread Cert.Kernel28Ideal.nD Cert.Kernel28Ideal.τ).loc Cert.Kernel28Ideal.main_arg24) = m ((c.tc : Thread Cert.Kernel28Ideal.nD Cert.Kernel28Ideal.τ).loc Cert.Kernel28Ideal.main_arg24)
          ∧ r.2.mem ((c.tc : Thread Cert.Kernel28Ideal.nD Cert.Kernel28Ideal.τ).loc Cert.Kernel28Ideal.main_arg25) = m ((c.tc : Thread Cert.Kernel28Ideal.nD Cert.Kernel28Ideal.τ).loc Cert.Kernel28Ideal.main_arg25)
          ∧ r.2.mem ((c.tc : Thread Cert.Kernel28Ideal.nD Cert.Kernel28Ideal.τ).loc Cert.Kernel28Ideal.main_arg26) = m ((c.tc : Thread Cert.Kernel28Ideal.nD Cert.Kernel28Ideal.τ).loc Cert.Kernel28Ideal.main_arg26)
          ∧ r.2.mem ((c.tc : Thread Cert.Kernel28Ideal.nD Cert.Kernel28Ideal.τ).loc Cert.Kernel28Ideal.main_arg27) = m ((c.tc : Thread Cert.Kernel28Ideal.nD Cert.Kernel28Ideal.τ).loc Cert.Kernel28Ideal.main_arg27)
          ∧ r.2.mem ((c.tc : Thread Cert.Kernel28Ideal.nD Cert.Kernel28Ideal.τ).loc Cert.Kernel28Ideal.main_arg28) = m ((c.tc : Thread Cert.Kernel28Ideal.nD Cert.Kernel28Ideal.τ).loc Cert.Kernel28Ideal.main_arg28)
          ∧ r.2.mem ((c.tc : Thread Cert.Kernel28Ideal.nD Cert.Kernel28Ideal.τ).loc Cert.Kernel28Ideal.main_arg29) = m ((c.tc : Thread Cert.Kernel28Ideal.nD Cert.Kernel28Ideal.τ).loc Cert.Kernel28Ideal.main_arg29)
          ∧ r.2.mem ((c.tc : Thread Cert.Kernel28Ideal.nD Cert.Kernel28Ideal.τ).loc Cert.Kernel28Ideal.main_arg30) = m ((c.tc : Thread Cert.Kernel28Ideal.nD Cert.Kernel28Ideal.τ).loc Cert.Kernel28Ideal.main_arg30)
          ∧ r.2.mem ((c.tc : Thread Cert.Kernel28Ideal.nD Cert.Kernel28Ideal.τ).loc Cert.Kernel28Ideal.main_arg31) = m ((c.tc : Thread Cert.Kernel28Ideal.nD Cert.Kernel28Ideal.τ).loc Cert.Kernel28Ideal.main_arg31)
          ∧ r.2.mem ((c.tc : Thread Cert.Kernel28Ideal.nD Cert.Kernel28Ideal.τ).loc Cert.Kernel28Ideal.main_arg32) = m ((c.tc : Thread Cert.Kernel28Ideal.nD Cert.Kernel28Ideal.τ).loc Cert.Kernel28Ideal.main_arg32)
          ∧ r.2.mem ((c.tc : Thread Cert.Kernel28Ideal.nD Cert.Kernel28Ideal.τ).loc Cert.Kernel28Ideal.main_arg33) = m ((c.tc : Thread Cert.Kernel28Ideal.nD Cert.Kernel28Ideal.τ).loc Cert.Kernel28Ideal.main_arg33)
          ∧ r.2.mem ((c.tc : Thread Cert.Kernel28Ideal.nD Cert.Kernel28Ideal.τ).loc Cert.Kernel28Ideal.main_arg34) = m ((c.tc : Thread Cert.Kernel28Ideal.nD Cert.Kernel28Ideal.τ).loc Cert.Kernel28Ideal.main_arg34)
          ∧ r.2.mem ((c.tc : Thread Cert.Kernel28Ideal.nD Cert.Kernel28Ideal.τ).loc Cert.Kernel28Ideal.main_arg35) = m ((c.tc : Thread Cert.Kernel28Ideal.nD Cert.Kernel28Ideal.τ).loc Cert.Kernel28Ideal.main_arg35)
          ∧ r.2.mem ((c.tc : Thread Cert.Kernel28Ideal.nD Cert.Kernel28Ideal.τ).loc Cert.Kernel28Ideal.main_arg36) = m ((c.tc : Thread Cert.Kernel28Ideal.nD Cert.Kernel28Ideal.τ).loc Cert.Kernel28Ideal.main_arg36)
          ∧ r.2.mem ((c.tc : Thread Cert.Kernel28Ideal.nD Cert.Kernel28Ideal.τ).loc Cert.Kernel28Ideal.main_arg37) = m ((c.tc : Thread Cert.Kernel28Ideal.nD Cert.Kernel28Ideal.τ).loc Cert.Kernel28Ideal.main_arg37)
          ∧ r.2.mem ((c.tc : Thread Cert.Kernel28Ideal.nD Cert.Kernel28Ideal.τ).loc Cert.Kernel28Ideal.main_arg38) = m ((c.tc : Thread Cert.Kernel28Ideal.nD Cert.Kernel28Ideal.τ).loc Cert.Kernel28Ideal.main_arg38)
          ∧ r.2.mem ((c.tc : Thread Cert.Kernel28Ideal.nD Cert.Kernel28Ideal.τ).loc Cert.Kernel28Ideal.main_arg39) = m ((c.tc : Thread Cert.Kernel28Ideal.nD Cert.Kernel28Ideal.τ).loc Cert.Kernel28Ideal.main_arg39))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v250) = v0 c
          ∧ r.2.mem ((c.tc : Thread Cert.Reference28Ideal.nD Cert.Reference28Ideal.τ).loc Cert.Reference28Ideal.main_v261) = v1 c
          ∧ r.2.mem ((c.tc : Thread Cert.Reference28Ideal.nD Cert.Reference28Ideal.τ).loc Cert.Reference28Ideal.main_v272) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8)
          ∧ r.2.mem ((c.tc : Thread Cert.Reference28Ideal.nD Cert.Reference28Ideal.τ).loc Cert.Reference28Ideal.main_arg9) = m' ((c.tc : Thread Cert.Reference28Ideal.nD Cert.Reference28Ideal.τ).loc Cert.Reference28Ideal.main_arg9)
          ∧ r.2.mem ((c.tc : Thread Cert.Reference28Ideal.nD Cert.Reference28Ideal.τ).loc Cert.Reference28Ideal.main_arg10) = m' ((c.tc : Thread Cert.Reference28Ideal.nD Cert.Reference28Ideal.τ).loc Cert.Reference28Ideal.main_arg10)
          ∧ r.2.mem ((c.tc : Thread Cert.Reference28Ideal.nD Cert.Reference28Ideal.τ).loc Cert.Reference28Ideal.main_arg11) = m' ((c.tc : Thread Cert.Reference28Ideal.nD Cert.Reference28Ideal.τ).loc Cert.Reference28Ideal.main_arg11)
          ∧ r.2.mem ((c.tc : Thread Cert.Reference28Ideal.nD Cert.Reference28Ideal.τ).loc Cert.Reference28Ideal.main_arg12) = m' ((c.tc : Thread Cert.Reference28Ideal.nD Cert.Reference28Ideal.τ).loc Cert.Reference28Ideal.main_arg12)
          ∧ r.2.mem ((c.tc : Thread Cert.Reference28Ideal.nD Cert.Reference28Ideal.τ).loc Cert.Reference28Ideal.main_arg13) = m' ((c.tc : Thread Cert.Reference28Ideal.nD Cert.Reference28Ideal.τ).loc Cert.Reference28Ideal.main_arg13)
          ∧ r.2.mem ((c.tc : Thread Cert.Reference28Ideal.nD Cert.Reference28Ideal.τ).loc Cert.Reference28Ideal.main_arg14) = m' ((c.tc : Thread Cert.Reference28Ideal.nD Cert.Reference28Ideal.τ).loc Cert.Reference28Ideal.main_arg14)
          ∧ r.2.mem ((c.tc : Thread Cert.Reference28Ideal.nD Cert.Reference28Ideal.τ).loc Cert.Reference28Ideal.main_arg15) = m' ((c.tc : Thread Cert.Reference28Ideal.nD Cert.Reference28Ideal.τ).loc Cert.Reference28Ideal.main_arg15)
          ∧ r.2.mem ((c.tc : Thread Cert.Reference28Ideal.nD Cert.Reference28Ideal.τ).loc Cert.Reference28Ideal.main_arg16) = m' ((c.tc : Thread Cert.Reference28Ideal.nD Cert.Reference28Ideal.τ).loc Cert.Reference28Ideal.main_arg16)
          ∧ r.2.mem ((c.tc : Thread Cert.Reference28Ideal.nD Cert.Reference28Ideal.τ).loc Cert.Reference28Ideal.main_arg17) = m' ((c.tc : Thread Cert.Reference28Ideal.nD Cert.Reference28Ideal.τ).loc Cert.Reference28Ideal.main_arg17)
          ∧ r.2.mem ((c.tc : Thread Cert.Reference28Ideal.nD Cert.Reference28Ideal.τ).loc Cert.Reference28Ideal.main_arg18) = m' ((c.tc : Thread Cert.Reference28Ideal.nD Cert.Reference28Ideal.τ).loc Cert.Reference28Ideal.main_arg18)
          ∧ r.2.mem ((c.tc : Thread Cert.Reference28Ideal.nD Cert.Reference28Ideal.τ).loc Cert.Reference28Ideal.main_arg19) = m' ((c.tc : Thread Cert.Reference28Ideal.nD Cert.Reference28Ideal.τ).loc Cert.Reference28Ideal.main_arg19)
          ∧ r.2.mem ((c.tc : Thread Cert.Reference28Ideal.nD Cert.Reference28Ideal.τ).loc Cert.Reference28Ideal.main_arg20) = m' ((c.tc : Thread Cert.Reference28Ideal.nD Cert.Reference28Ideal.τ).loc Cert.Reference28Ideal.main_arg20)
          ∧ r.2.mem ((c.tc : Thread Cert.Reference28Ideal.nD Cert.Reference28Ideal.τ).loc Cert.Reference28Ideal.main_arg21) = m' ((c.tc : Thread Cert.Reference28Ideal.nD Cert.Reference28Ideal.τ).loc Cert.Reference28Ideal.main_arg21)
          ∧ r.2.mem ((c.tc : Thread Cert.Reference28Ideal.nD Cert.Reference28Ideal.τ).loc Cert.Reference28Ideal.main_arg22) = m' ((c.tc : Thread Cert.Reference28Ideal.nD Cert.Reference28Ideal.τ).loc Cert.Reference28Ideal.main_arg22)
          ∧ r.2.mem ((c.tc : Thread Cert.Reference28Ideal.nD Cert.Reference28Ideal.τ).loc Cert.Reference28Ideal.main_arg23) = m' ((c.tc : Thread Cert.Reference28Ideal.nD Cert.Reference28Ideal.τ).loc Cert.Reference28Ideal.main_arg23)
          ∧ r.2.mem ((c.tc : Thread Cert.Reference28Ideal.nD Cert.Reference28Ideal.τ).loc Cert.Reference28Ideal.main_arg24) = m' ((c.tc : Thread Cert.Reference28Ideal.nD Cert.Reference28Ideal.τ).loc Cert.Reference28Ideal.main_arg24)
          ∧ r.2.mem ((c.tc : Thread Cert.Reference28Ideal.nD Cert.Reference28Ideal.τ).loc Cert.Reference28Ideal.main_arg25) = m' ((c.tc : Thread Cert.Reference28Ideal.nD Cert.Reference28Ideal.τ).loc Cert.Reference28Ideal.main_arg25)
          ∧ r.2.mem ((c.tc : Thread Cert.Reference28Ideal.nD Cert.Reference28Ideal.τ).loc Cert.Reference28Ideal.main_arg26) = m' ((c.tc : Thread Cert.Reference28Ideal.nD Cert.Reference28Ideal.τ).loc Cert.Reference28Ideal.main_arg26)
          ∧ r.2.mem ((c.tc : Thread Cert.Reference28Ideal.nD Cert.Reference28Ideal.τ).loc Cert.Reference28Ideal.main_arg27) = m' ((c.tc : Thread Cert.Reference28Ideal.nD Cert.Reference28Ideal.τ).loc Cert.Reference28Ideal.main_arg27)
          ∧ r.2.mem ((c.tc : Thread Cert.Reference28Ideal.nD Cert.Reference28Ideal.τ).loc Cert.Reference28Ideal.main_arg28) = m' ((c.tc : Thread Cert.Reference28Ideal.nD Cert.Reference28Ideal.τ).loc Cert.Reference28Ideal.main_arg28)
          ∧ r.2.mem ((c.tc : Thread Cert.Reference28Ideal.nD Cert.Reference28Ideal.τ).loc Cert.Reference28Ideal.main_arg29) = m' ((c.tc : Thread Cert.Reference28Ideal.nD Cert.Reference28Ideal.τ).loc Cert.Reference28Ideal.main_arg29)
          ∧ r.2.mem ((c.tc : Thread Cert.Reference28Ideal.nD Cert.Reference28Ideal.τ).loc Cert.Reference28Ideal.main_arg30) = m' ((c.tc : Thread Cert.Reference28Ideal.nD Cert.Reference28Ideal.τ).loc Cert.Reference28Ideal.main_arg30)
          ∧ r.2.mem ((c.tc : Thread Cert.Reference28Ideal.nD Cert.Reference28Ideal.τ).loc Cert.Reference28Ideal.main_arg31) = m' ((c.tc : Thread Cert.Reference28Ideal.nD Cert.Reference28Ideal.τ).loc Cert.Reference28Ideal.main_arg31)
          ∧ r.2.mem ((c.tc : Thread Cert.Reference28Ideal.nD Cert.Reference28Ideal.τ).loc Cert.Reference28Ideal.main_arg32) = m' ((c.tc : Thread Cert.Reference28Ideal.nD Cert.Reference28Ideal.τ).loc Cert.Reference28Ideal.main_arg32)
          ∧ r.2.mem ((c.tc : Thread Cert.Reference28Ideal.nD Cert.Reference28Ideal.τ).loc Cert.Reference28Ideal.main_arg33) = m' ((c.tc : Thread Cert.Reference28Ideal.nD Cert.Reference28Ideal.τ).loc Cert.Reference28Ideal.main_arg33)
          ∧ r.2.mem ((c.tc : Thread Cert.Reference28Ideal.nD Cert.Reference28Ideal.τ).loc Cert.Reference28Ideal.main_arg34) = m' ((c.tc : Thread Cert.Reference28Ideal.nD Cert.Reference28Ideal.τ).loc Cert.Reference28Ideal.main_arg34)
          ∧ r.2.mem ((c.tc : Thread Cert.Reference28Ideal.nD Cert.Reference28Ideal.τ).loc Cert.Reference28Ideal.main_arg35) = m' ((c.tc : Thread Cert.Reference28Ideal.nD Cert.Reference28Ideal.τ).loc Cert.Reference28Ideal.main_arg35)
          ∧ r.2.mem ((c.tc : Thread Cert.Reference28Ideal.nD Cert.Reference28Ideal.τ).loc Cert.Reference28Ideal.main_arg36) = m' ((c.tc : Thread Cert.Reference28Ideal.nD Cert.Reference28Ideal.τ).loc Cert.Reference28Ideal.main_arg36)
          ∧ r.2.mem ((c.tc : Thread Cert.Reference28Ideal.nD Cert.Reference28Ideal.τ).loc Cert.Reference28Ideal.main_arg37) = m' ((c.tc : Thread Cert.Reference28Ideal.nD Cert.Reference28Ideal.τ).loc Cert.Reference28Ideal.main_arg37)
          ∧ r.2.mem ((c.tc : Thread Cert.Reference28Ideal.nD Cert.Reference28Ideal.τ).loc Cert.Reference28Ideal.main_arg38) = m' ((c.tc : Thread Cert.Reference28Ideal.nD Cert.Reference28Ideal.τ).loc Cert.Reference28Ideal.main_arg38)
          ∧ r.2.mem ((c.tc : Thread Cert.Reference28Ideal.nD Cert.Reference28Ideal.τ).loc Cert.Reference28Ideal.main_arg39) = m' ((c.tc : Thread Cert.Reference28Ideal.nD Cert.Reference28Ideal.τ).loc Cert.Reference28Ideal.main_arg39))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S1x2064x16x64 : Shape := ⟨4, ![1, 2064, 16, 64]⟩
abbrev S_ : Shape := ⟨0, ![]⟩

class Facts : Prop where
  bcast_S_S1x2064x16x64 : S_.BroadcastsInDim S1x2064x16x64 (![] : Fin 0 → Fin S1x2064x16x64.rank)

variable [Facts]

def fn {F : FTy → Type} [FloatOps F] (main_arg0 : FVec F S1x2064x16x64 .f32) (main_arg1 : FVec F S1x2064x16x64 .f32) (main_arg2 : FVec F S1x2064x16x64 .f32) (main_arg3 : FVec F S1x2064x16x64 .f32) : IVec S1x2064x16x64 1 × IVec S1x2064x16x64 1 × IVec S1x2064x16x64 1 × IVec S1x2064x16x64 1 :=
  let main_v0 : FVec F S1x2064x16x64 .f32 := Host.absf main_arg0
  let main_cst : FVec F S_ .f32 := constant S_ .f32 0x7F800000#32
  let main_v1 : FVec F S1x2064x16x64 .f32 := broadcastInDim S1x2064x16x64 ![] bcast_S_S1x2064x16x64 main_cst
  let main_v2 : IVec S1x2064x16x64 1 := cmpf .olt main_v0 main_v1
  let main_v3 : FVec F S1x2064x16x64 .f32 := Host.absf main_arg1
  let main_cst_0 : FVec F S_ .f32 := constant S_ .f32 0x7F800000#32
  let main_v4 : FVec F S1x2064x16x64 .f32 := broadcastInDim S1x2064x16x64 ![] bcast_S_S1x2064x16x64 main_cst_0
  let main_v5 : IVec S1x2064x16x64 1 := cmpf .olt main_v3 main_v4
  let main_v6 : FVec F S1x2064x16x64 .f32 := Host.absf main_arg2
  let main_cst_1 : FVec F S_ .f32 := constant S_ .f32 0x7F800000#32
  let main_v7 : FVec F S1x2064x16x64 .f32 := broadcastInDim S1x2064x16x64 ![] bcast_S_S1x2064x16x64 main_cst_1
  let main_v8 : IVec S1x2064x16x64 1 := cmpf .olt main_v6 main_v7
  let main_v9 : FVec F S1x2064x16x64 .f32 := Host.absf main_arg3
  let main_cst_2 : FVec F S_ .f32 := constant S_ .f32 0x7F800000#32
  let main_v10 : FVec F S1x2064x16x64 .f32 := broadcastInDim S1x2064x16x64 ![] bcast_S_S1x2064x16x64 main_cst_2
  let main_v11 : IVec S1x2064x16x64 1 := cmpf .olt main_v9 main_v10
  (main_v2, main_v5, main_v8, main_v11)
-- ==== Kernel.lean ====
abbrev S1x2064x16x64 : Shape := ⟨4, ![1, 2064, 16, 64]⟩
abbrev S_ : Shape := ⟨0, ![]⟩
abbrev S2064x16x64 : Shape := ⟨3, ![2064, 16, 64]⟩
abbrev S2064x1024 : Shape := ⟨2, ![2064, 1024]⟩
abbrev S2304x1024 : Shape := ⟨2, ![2304, 1024]⟩
abbrev S1x16x2064x2064 : Shape := ⟨4, ![1, 16, 2064, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x16x2064x1 : Shape := ⟨4, ![1, 16, 2064, 1]⟩
abbrev S16x2064x1 : Shape := ⟨3, ![16, 2064, 1]⟩
abbrev S16x2304x1 : Shape := ⟨3, ![16, 2304, 1]⟩
abbrev S8x128 : Shape := ⟨2, ![8, 128]⟩
abbrev S256x256 : Shape := ⟨2, ![256, 256]⟩
abbrev S2304x256 : Shape := ⟨2, ![2304, 256]⟩
abbrev S4x256x1 : Shape := ⟨3, ![4, 256, 1]⟩
abbrev S256x128 : Shape := ⟨2, ![256, 128]⟩
abbrev S512x128 : Shape := ⟨2, ![512, 128]⟩
abbrev S512x256 : Shape := ⟨2, ![512, 256]⟩
abbrev S1x256x1 : Shape := ⟨3, ![1, 256, 1]⟩
abbrev S256x1 : Shape := ⟨2, ![256, 1]⟩
abbrev S512x1 : Shape := ⟨2, ![512, 1]⟩
abbrev S1024x256 : Shape := ⟨2, ![1024, 256]⟩
abbrev S16x256 : Shape := ⟨2, ![16, 256]⟩
abbrev S32x256 : Shape := ⟨2, ![32, 256]⟩
abbrev S16x128 : Shape := ⟨2, ![16, 128]⟩
abbrev S32x128 : Shape := ⟨2, ![32, 128]⟩
abbrev S1x16x1 : Shape := ⟨3, ![1, 16, 1]⟩
abbrev S16x1 : Shape := ⟨2, ![16, 1]⟩
abbrev S32x1 : Shape := ⟨2, ![32, 1]⟩
abbrev S64x256 : Shape := ⟨2, ![64, 256]⟩
abbrev S240x128 : Shape := ⟨2, ![240, 128]⟩

abbrev nBuf : Space → Nat
  | .hbm => 74
  | .vmem => 18
  | .smem => 0
  | _ => 0

abbrev bufTy : (tb : Table) → Fin (tcTables nBuf tb) → BufTy
  | .hbm, ⟨0, _⟩ => ⟨S1x2064x16x64, .f32⟩
  | .hbm, ⟨1, _⟩ => ⟨S1x2064x16x64, .f32⟩
  | .hbm, ⟨2, _⟩ => ⟨S1x2064x16x64, .f32⟩
  | .hbm, ⟨3, _⟩ => ⟨S1x2064x16x64, .f32⟩
  | .hbm, ⟨4, _⟩ => ⟨S_, .f32⟩
  | .hbm, ⟨5, _⟩ => ⟨S1x2064x16x64, .f32⟩
  | .hbm, ⟨6, _⟩ => ⟨S1x2064x16x64, .f32⟩
  | .hbm, ⟨7, _⟩ => ⟨S2064x16x64, .f32⟩
  | .hbm, ⟨8, _⟩ => ⟨S2064x1024, .f32⟩
  | .hbm, ⟨9, _⟩ => ⟨S_, .i32⟩
  | .hbm, ⟨10, _⟩ => ⟨S_, .f32⟩
  | .hbm, ⟨11, _⟩ => ⟨S2304x1024, .f32⟩
  | .hbm, ⟨12, _⟩ => ⟨S2304x1024, .bf16⟩
  | .hbm, ⟨13, _⟩ => ⟨S2064x16x64, .f32⟩
  | .hbm, ⟨14, _⟩ => ⟨S2064x1024, .f32⟩
  | .hbm, ⟨15, _⟩ => ⟨S_, .i32⟩
  | .hbm, ⟨16, _⟩ => ⟨S_, .f32⟩
  | .hbm, ⟨17, _⟩ => ⟨S2304x1024, .f32⟩
  | .hbm, ⟨18, _⟩ => ⟨S2304x1024, .bf16⟩
  | .hbm, ⟨19, _⟩ => ⟨S2064x16x64, .f32⟩
  | .hbm, ⟨20, _⟩ => ⟨S2064x1024, .f32⟩
  | .hbm, ⟨21, _⟩ => ⟨S_, .i32⟩
  | .hbm, ⟨22, _⟩ => ⟨S_, .f32⟩
  | .hbm, ⟨23, _⟩ => ⟨S2304x1024, .f32⟩
  | .hbm, ⟨24, _⟩ => ⟨S2304x1024, .bf16⟩
  | .hbm, ⟨25, _⟩ => ⟨S2064x16x64, .f32⟩
  | .hbm, ⟨26, _⟩ => ⟨S2064x1024, .f32⟩
  | .hbm, ⟨27, _⟩ => ⟨S_, .i32⟩
  | .hbm, ⟨28, _⟩ => ⟨S_, .f32⟩
  | .hbm, ⟨29, _⟩ => ⟨S2304x1024, .f32⟩
  | .hbm, ⟨30, _⟩ => ⟨S2304x1024, .bf16⟩
  | .hbm, ⟨31, _⟩ => ⟨S1x16x2064x2064, .f32⟩
  | .hbm, ⟨32, _⟩ => ⟨S_, .f32⟩
  | .hbm, ⟨33, _⟩ => ⟨S1x16x2064x2064, .f32⟩
  | .hbm, ⟨34, _⟩ => ⟨S1x16x2064x2064, .f32⟩
  | .hbm, ⟨35, _⟩ => ⟨S2064, .i32⟩
  | .hbm, ⟨36, _⟩ => ⟨S1x2064, .i32⟩
  | .hbm, ⟨37, _⟩ => ⟨S2064, .i32⟩
  | .hbm, ⟨38, _⟩ => ⟨S2064x1, .i32⟩
  | .hbm, ⟨39, _⟩ => ⟨S2064x2064, .i32⟩
  | .hbm, ⟨40, _⟩ => ⟨S2064x2064, .i32⟩
  | .hbm, ⟨41, _⟩ => ⟨S2064x2064, .i1⟩
  | .hbm, ⟨42, _⟩ => ⟨S_, .f32⟩
  | .hbm, ⟨43, _⟩ => ⟨S1x16x2064x2064, .f32⟩
  | .hbm, ⟨44, _⟩ => ⟨S1x16x2064x2064, .f32⟩
  | .hbm, ⟨45, _⟩ => ⟨S1x16x2064x2064, .f32⟩
  | .hbm, ⟨46, _⟩ => ⟨S1x16x2064x2064, .f32⟩
  | .hbm, ⟨47, _⟩ => ⟨S1x16x2064x2064, .i1⟩
  | .hbm, ⟨48, _⟩ => ⟨S1x16x2064x2064, .f32⟩
  | .hbm, ⟨49, _⟩ => ⟨S1x16x2064x2064, .f32⟩
  | .hbm, ⟨50, _⟩ => ⟨S1x16x2064x2064, .f32⟩
  | .hbm, ⟨51, _⟩ => ⟨S1x16x2064x2064, .f32⟩
  | .hbm, ⟨52, _⟩ => ⟨S1x16x2064x2064, .f32⟩
  | .hbm, ⟨53, _⟩ => ⟨S1x16x2064x2064, .f32⟩
  | .hbm, ⟨54, _⟩ => ⟨S1x16x2064x2064, .f32⟩
  | .hbm, ⟨55, _⟩ => ⟨S1x16x2064x2064, .f32⟩
  | .hbm, ⟨56, _⟩ => ⟨S_, .f32⟩
  | .hbm, ⟨57, _⟩ => ⟨S_, .f32⟩
  | .hbm, ⟨58, _⟩ => ⟨S1x16x2064x2064, .i1⟩
  | .hbm, ⟨59, _⟩ => ⟨S1x16x2064x2064, .f32⟩
  | .hbm, ⟨60, _⟩ => ⟨S1x16x2064x2064, .f32⟩
  | .hbm, ⟨61, _⟩ => ⟨S_, .f32⟩
  | .hbm, ⟨62, _⟩ => ⟨S_, .f32⟩
  | .hbm, ⟨63, _⟩ => ⟨S1x16x2064x2064, .f32⟩
  | .hbm, ⟨64, _⟩ => ⟨S1x16x2064x1, .f32⟩
  | .hbm, ⟨65, _⟩ => ⟨S16x2064x1, .f32⟩
  | .hbm, ⟨66, _⟩ => ⟨S_, .i32⟩
  | .hbm, ⟨67, _⟩ => ⟨S_, .f32⟩
  | .hbm, ⟨68, _⟩ => ⟨S16x2304x1, .f32⟩
  | .hbm, ⟨69, _⟩ => ⟨S_, .f32⟩
  | .hbm, ⟨70, _⟩ => ⟨S8x128, .f32⟩
  | .hbm, ⟨71, _⟩ => ⟨S2304x1024, .bf16⟩
  | .hbm, ⟨72, _⟩ => ⟨S2304x1024, .bf16⟩
  | .hbm, ⟨73, _⟩ => ⟨S2304x1024, .bf16⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x256, .bf16⟩
  | .local _ .vmem, ⟨6, _⟩ => ⟨S256x256, .bf16⟩
  | .local _ .vmem, ⟨7, _⟩ => ⟨S256x256, .bf16⟩
  | .local _ .vmem, ⟨8, _⟩ => ⟨S4x256x1, .f32⟩
  | .local _ .vmem, ⟨9, _⟩ => ⟨S4x256x1, .f32⟩
  | .local _ .vmem, ⟨10, _⟩ => ⟨S256x256, .bf16⟩
  | .local _ .vmem, ⟨11, _⟩ => ⟨S256x256, .bf16⟩
  | .local _ .vmem, ⟨12, _⟩ => ⟨S2304x256, .bf16⟩
  | .local _ .vmem, ⟨13, _⟩ => ⟨S2304x256, .bf16⟩
  | .local _ .vmem, ⟨14, _⟩ => ⟨S2304x256, .bf16⟩
  | .local _ .vmem, ⟨15, _⟩ => ⟨S2304x256, .bf16⟩
  | .local _ .vmem, ⟨16, _⟩ => ⟨S2304x256, .f32⟩
  | .local _ .vmem, ⟨17, _⟩ => ⟨S2304x256, .f32⟩
  | _, _ => ⟨S1x2064x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call4_cst : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_v11 : Ref sig .tc := ⟨.hbm, 54, rfl⟩
abbrev main_v28 : Ref sig .tc := ⟨.hbm, 55, rfl⟩
abbrev main_cst_4 : Ref sig .tc := ⟨.hbm, 56, rfl⟩
abbrev main_call5_v0 : Ref sig .tc := ⟨.hbm, 57, rfl⟩
abbrev main_call5_v1 : Ref sig .tc := ⟨.hbm, 58, rfl⟩
abbrev main_call5_v2 : Ref sig .tc := ⟨.hbm, 59, rfl⟩
abbrev main_v29 : Ref sig .tc := ⟨.hbm, 60, rfl⟩
abbrev main_call6_cst : Ref sig .tc := ⟨.hbm, 61, rfl⟩
abbrev main_call6_v0 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_5 : Ref sig .tc := ⟨.hbm, 66, rfl⟩
abbrev main_call7_v0 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_v35_0 : Ref sig .tc := ⟨.hbm, 71, rfl⟩
abbrev main_v35_1 : Ref sig .tc := ⟨.hbm, 72, rfl⟩
abbrev main_v35_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v39 : BitVec 1 := Scalar.cmpi .slt arg1 c8_i32
  let v40 : BitVec 32 := Scalar.extui v39
  let c0_i32_11 : BitVec 32 := 0#32
  let v41 : BitVec 1 := Scalar.cmpi .ne v40 c0_i32_11
  v41

@[reducible] def k0_t1_loop (i : grid0.Coords) : Scf.Loop 32 :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_29 : BitVec 32 := 1#32
  ⟨c0_i32_28, v67, c1_i32_29⟩
def k0_mult1 (i : grid0.Coords) (k0_t1 : Fin (k0_t1_loop i).trips) : BitVec 32 :=
  let c0_i32_28 : BitVec 32 := 0#32
  let c1_i32_29 : BitVec 32 := 1#32
  let arg13 : BitVec 32 := Scf.iv c0_i32_28 c1_i32_29 k0_t1
  let c256_i32_79 : BitVec 32 := 256#32
  let v224 : BitVec 32 := Scalar.muli arg13 c256_i32_79
  v224
def k0_off1 (i : grid0.Coords) (k0_t1 : Fin (k0_t1_loop i).trips) : Fin 2 → Nat :=
  let c0_i32_28 : BitVec 32 := 0#32
  let c1_i32_29 : BitVec 32 := 1#32
  let arg13 : BitVec 32 := Scf.iv c0_i32_28 c1_i32_29 k0_t1
  let c256_i32_79 : BitVec 32 := 256#32
  let v224 : BitVec 32 := Scalar.muli arg13 c256_i32_79
  let v225 : BitVec 32 := v224
  let v226 : Index := Scalar.indexCast v225
  let c0_80 : Index := 0#32
  ![v226.toNat, 0]
def k0_off2 (i : grid0.Coords) (k0_t1 : Fin (k0_t1_loop i).trips) : Fin 2 → Nat :=
  let c0_i32_28 : BitVec 32 := 0#32
  let c1_i32_29 : BitVec 32 := 1#32
  let arg13 : BitVec 32 := Scf.iv c0_i32_28 c1_i32_29 k0_t1
  let c256_i32_79 : BitVec 32 := 256#32
  let v224 : BitVec 32 := Scalar.muli arg13 c256_i32_79
  let v225 : BitVec 32 := v224
  let v246 : Index := Scalar.indexCast v225
  let c128_87 : Index := 128#32
  ![v246.toNat, 128]
@[reducible] def k0_t2_loop (i : grid0.Coords) : Scf.Loop 32 :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let v64 : BitVec 32 := Scalar.addi c0_i32_28 v63
  let c1_i32_30 : BitVec 32 := 1#32
  ⟨v67, v64, c1_i32_30⟩
def k0_mult2 (i : grid0.Coords) (k0_t2 : Fin (k0_t2_loop i).trips) : BitVec 32 :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_30 : BitVec 32 := 1#32
  let arg13 : BitVec 32 := Scf.iv v67 c1_i32_30 k0_t2
  let c256_i32_79 : BitVec 32 := 256#32
  let v224 : BitVec 32 := Scalar.muli arg13 c256_i32_79
  v224
def k0_off3 (i : grid0.Coords) (k0_t2 : Fin (k0_t2_loop i).trips) : Fin 2 → Nat :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_30 : BitVec 32 := 1#32
  let arg13 : BitVec 32 := Scf.iv v67 c1_i32_30 k0_t2
  let c256_i32_79 : BitVec 32 := 256#32
  let v224 : BitVec 32 := Scalar.muli arg13 c256_i32_79
  let v225 : BitVec 32 := v224
  let v226 : Index := Scalar.indexCast v225
  let c0_80 : Index := 0#32
  ![v226.toNat, 0]
def k0_off4 (i : grid0.Coords) (k0_t2 : Fin (k0_t2_loop i).trips) : Fin 2 → Nat :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_30 : BitVec 32 := 1#32
  let arg13 : BitVec 32 := Scf.iv v67 c1_i32_30 k0_t2
  let c256_i32_79 : BitVec 32 := 256#32
  let v224 : BitVec 32 := Scalar.muli arg13 c256_i32_79
  let v225 : BitVec 32 := v224
  let v246 : Index := Scalar.indexCast v225
  let c128_87 : Index := 128#32
  ![v246.toNat, 128]
def k0_mult3 (i : grid0.Coords) : BitVec 32 :=
  let arg1 : BitVec 32 := BitVec.ofNat 32 (i 1).val
  let c256_i32 : BitVec 32 := 256#32
  let v70 : BitVec 32 := Scalar.muli arg1 c256_i32
  v70
def k0_off5 (i : grid0.Coords) : Fin 2 → Nat :=
  let arg1 : BitVec 32 := BitVec.ofNat 32 (i 1).val
  let c256_i32 : BitVec 32 := 256#32
  let v70 : BitVec 32 := Scalar.muli arg1 c256_i32
  let v71 : BitVec 32 := v70
  let v72 : Index := Scalar.indexCast v71
  let c0_31 : Index := 0#32
  ![v72.toNat, 0]
def k0_off6 (i : grid0.Coords) : Fin 2 → Nat :=
  let arg1 : BitVec 32 := BitVec.ofNat 32 (i 1).val
  let c256_i32 : BitVec 32 := 256#32
  let v70 : BitVec 32 := Scalar.muli arg1 c256_i32
  let v71 : BitVec 32 := v70
  let v94 : Index := Scalar.indexCast v71
  let c128_39 : Index := 128#32
  ![v94.toNat, 128]
def k0_cond3 (i : grid0.Coords) : BitVec 1 :=
  let arg1 : BitVec 32 := BitVec.ofNat 32 (i 1).val
  let c8_i32_12 : BitVec 32 := 8#32
  let v42 : BitVec 1 := Scalar.cmpi .eq arg1 c8_i32_12
  let v43 : BitVec 32 := Scalar.extui v42
  let c0_i32_13 : BitVec 32 := 0#32
  let v44 : BitVec 1 := Scalar.cmpi .ne v43 c0_i32_13
  v44

@[reducible] def k0_t3_loop (i : grid0.Coords) : Scf.Loop 32 :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_29 : BitVec 32 := 1#32
  ⟨c0_i32_28, v80, c1_i32_29⟩
def k0_mult4 (i : grid0.Coords) (k0_t3 : Fin (k0_t3_loop i).trips) : BitVec 32 :=
  let c0_i32_28 : BitVec 32 := 0#32
  let c1_i32_29 : BitVec 32 := 1#32
  let arg13 : BitVec 32 := Scf.iv c0_i32_28 c1_i32_29 k0_t3
  let c256_i32_84 : BitVec 32 := 256#32
  let v243 : BitVec 32 := Scalar.muli arg13 c256_i32_84
  v243
def k0_off7 (i : grid0.Coords) (k0_t3 : Fin (k0_t3_loop i).trips) : Fin 2 → Nat :=
  let c0_i32_28 : BitVec 32 := 0#32
  let c1_i32_29 : BitVec 32 := 1#32
  let arg13 : BitVec 32 := Scf.iv c0_i32_28 c1_i32_29 k0_t3
  let c256_i32_84 : BitVec 32 := 256#32
  let v243 : BitVec 32 := Scalar.muli arg13 c256_i32_84
  let v244 : BitVec 32 := v243
  let v245 : Index := Scalar.indexCast v244
  let c0_85 : Index := 0#32
  ![v245.toNat, 0]
def k0_off8 (i : grid0.Coords) (k0_t3 : Fin (k0_t3_loop i).trips) : Fin 2 → Nat :=
  let c0_i32_28 : BitVec 32 := 0#32
  let c1_i32_29 : BitVec 32 := 1#32
  let arg13 : BitVec 32 := Scf.iv c0_i32_28 c1_i32_29 k0_t3
  let c256_i32_84 : BitVec 32 := 256#32
  let v243 : BitVec 32 := Scalar.muli arg13 c256_i32_84
  let v244 : BitVec 32 := v243
  let v265 : Index := Scalar.indexCast v244
  let c128_92 : Index := 128#32
  ![v265.toNat, 128]
@[reducible] def k0_t4_loop (i : grid0.Coords) : Scf.Loop 32 :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let v77 : BitVec 32 := Scalar.addi c0_i32_28 v76
  let c1_i32_30 : BitVec 32 := 1#32
  ⟨v80, v77, c1_i32_30⟩
def k0_mult5 (i : grid0.Coords) (k0_t4 : Fin (k0_t4_loop i).trips) : BitVec 32 :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_30 : BitVec 32 := 1#32
  let arg13 : BitVec 32 := Scf.iv v80 c1_i32_30 k0_t4
  let c256_i32_84 : BitVec 32 := 256#32
  let v243 : BitVec 32 := Scalar.muli arg13 c256_i32_84
  v243
def k0_off9 (i : grid0.Coords) (k0_t4 : Fin (k0_t4_loop i).trips) : Fin 2 → Nat :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_30 : BitVec 32 := 1#32
  let arg13 : BitVec 32 := Scf.iv v80 c1_i32_30 k0_t4
  let c256_i32_84 : BitVec 32 := 256#32
  let v243 : BitVec 32 := Scalar.muli arg13 c256_i32_84
  let v244 : BitVec 32 := v243
  let v245 : Index := Scalar.indexCast v244
  let c0_85 : Index := 0#32
  ![v245.toNat, 0]
def k0_off10 (i : grid0.Coords) (k0_t4 : Fin (k0_t4_loop i).trips) : Fin 2 → Nat :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_30 : BitVec 32 := 1#32
  let arg13 : BitVec 32 := Scf.iv v80 c1_i32_30 k0_t4
  let c256_i32_84 : BitVec 32 := 256#32
  let v243 : BitVec 32 := Scalar.muli arg13 c256_i32_84
  let v244 : BitVec 32 := v243
  let v265 : Index := Scalar.indexCast v244
  let c128_92 : Index := 128#32
  ![v265.toNat, 128]
def k0_mult6 (i : grid0.Coords) : BitVec 32 :=
  let arg1 : BitVec 32 := BitVec.ofNat 32 (i 1).val
  let c256_i32 : BitVec 32 := 256#32
  let v83 : BitVec 32 := Scalar.muli arg1 c256_i32
  v83
def k0_off11 (i : grid0.Coords) : Fin 2 → Nat :=
  let arg1 : BitVec 32 := BitVec.ofNat 32 (i 1).val
  let c256_i32 : BitVec 32 := 256#32
  let v83 : BitVec 32 := Scalar.muli arg1 c256_i32
  let v84 : BitVec 32 := v83
  let v85 : Index := Scalar.indexCast v84
  let c0_31 : Index := 0#32
  ![v85.toNat, 0]
def k0_off12 (i : grid0.Coords) : Fin 2 → Nat :=
  let arg1 : BitVec 32 := BitVec.ofNat 32 (i 1).val
  let c256_i32 : BitVec 32 := 256#32
  let v83 : BitVec 32 := Scalar.muli arg1 c256_i32
  let v84 : BitVec 32 := v83
  let v107 : Index := Scalar.indexCast v84
  let c128_39 : Index := 128#32
  ![v107.toNat, 128]
def k0_cond4 (i : grid0.Coords) : BitVec 1 :=
  let arg1 : BitVec 32 := BitVec.ofNat 32 (i 1).val
  let c8_i32_14 : BitVec 32 := 8#32
  let v45 : BitVec 1 := Scalar.cmpi .eq arg1 c8_i32_14
  let v46 : BitVec 32 := Scalar.extui v45
  let c0_i32_15 : BitVec 32 := 0#32
  let v47 : BitVec 1 := Scalar.cmpi .ne v46 c0_i32_15
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2304x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2304x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S1x2064x16x64 : Shape := ⟨4, ![1, 2064, 16, 64]⟩
abbrev S1x16x2064x2064 : Shape := ⟨4, ![1, 16, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x16x64x2064 : Shape := ⟨4, ![1, 16, 64, 2064]⟩
abbrev S1x16x2064x64 : Shape := ⟨4, ![1, 16, 2064, 64]⟩
abbrev S2064x16x64 : Shape := ⟨3, ![2064, 16, 64]⟩
abbrev S2064x1024 : Shape := ⟨2, ![2064, 1024]⟩
abbrev S2304x1024 : Shape := ⟨2, ![2304, 1024]⟩

abbrev nBuf : Space → Nat
  | .hbm => 124
  | .vmem => 0
  | .smem => 0
  | _ => 0

abbrev bufTy : (tb : Table) → Fin (tcTables nBuf tb) → BufTy
  | .hbm, ⟨0, _⟩ => ⟨S1x2064x16x64, .f32⟩
  | .hbm, ⟨1, _⟩ => ⟨S1x2064x16x64, .f32⟩
  | .hbm, ⟨2, _⟩ => ⟨S1x2064x16x64, .f32⟩
  | .hbm, ⟨3, _⟩ => ⟨S1x2064x16x64, .f32⟩
  | .hbm, ⟨4, _⟩ => ⟨S1x16x2064x2064, .f32⟩
  | .hbm, ⟨5, _⟩ => ⟨S_, .f32⟩
  | .hbm, ⟨6, _⟩ => ⟨S1x16x2064x2064, .f32⟩
  | .hbm, ⟨7, _⟩ => ⟨S1x16x2064x2064, .f32⟩
  | .hbm, ⟨8, _⟩ => ⟨S2064, .i32⟩
  | .hbm, ⟨9, _⟩ => ⟨S1x2064, .i32⟩
  | .hbm, ⟨10, _⟩ => ⟨S2064, .i32⟩
  | .hbm, ⟨11, _⟩ => ⟨S2064x1, .i32⟩
  | .hbm, ⟨12, _⟩ => ⟨S2064x2064, .i32⟩
  | .hbm, ⟨13, _⟩ => ⟨S2064x2064, .i32⟩
  | .hbm, ⟨14, _⟩ => ⟨S2064x2064, .i1⟩
  | .hbm, ⟨15, _⟩ => ⟨S_, .f32⟩
  | .hbm, ⟨16, _⟩ => ⟨S1x16x2064x2064, .f32⟩
  | .hbm, ⟨17, _⟩ => ⟨S1x16x2064x2064, .f32⟩
  | .hbm, ⟨18, _⟩ => ⟨S1x16x2064x2064, .f32⟩
  | .hbm, ⟨19, _⟩ => ⟨S1x16x2064x2064, .f32⟩
  | .hbm, ⟨20, _⟩ => ⟨S1x16x2064x2064, .i1⟩
  | .hbm, ⟨21, _⟩ => ⟨S1x16x2064x2064, .f32⟩
  | .hbm, ⟨22, _⟩ => ⟨S1x16x2064x2064, .f32⟩
  | .hbm, ⟨23, _⟩ => ⟨S1x16x2064x2064, .f32⟩
  | .hbm, ⟨24, _⟩ => ⟨S1x16x2064x2064, .f32⟩
  | .hbm, ⟨25, _⟩ => ⟨S1x16x2064x2064, .f32⟩
  | .hbm, ⟨26, _⟩ => ⟨S1x16x2064x2064, .f32⟩
  | .hbm, ⟨27, _⟩ => ⟨S1x16x2064x2064, .f32⟩
  | .hbm, ⟨28, _⟩ => ⟨S1x16x2064x2064, .f32⟩
  | .hbm, ⟨29, _⟩ => ⟨S_, .f32⟩
  | .hbm, ⟨30, _⟩ => ⟨S1x16x2064x2064, .f32⟩
  | .hbm, ⟨31, _⟩ => ⟨S1x16x2064x2064, .i1⟩
  | .hbm, ⟨32, _⟩ => ⟨S_, .f32⟩
  | .hbm, ⟨33, _⟩ => ⟨S1x16x2064x2064, .f32⟩
  | .hbm, ⟨34, _⟩ => ⟨S1x16x2064x2064, .f32⟩
  | .hbm, ⟨35, _⟩ => ⟨S_, .f32⟩
  | .hbm, ⟨36, _⟩ => ⟨S1x16x2064x2064, .f32⟩
  | .hbm, ⟨37, _⟩ => ⟨S1x16x2064x2064, .i1⟩
  | .hbm, ⟨38, _⟩ => ⟨S_, .f32⟩
  | .hbm, ⟨39, _⟩ => ⟨S1x16x2064x2064, .f32⟩
  | .hbm, ⟨40, _⟩ => ⟨S1x16x2064x2064, .f32⟩
  | .hbm, ⟨41, _⟩ => ⟨S1x16x2064x2064, .f32⟩
  | .hbm, ⟨42, _⟩ => ⟨S1x16x2064x2064, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x16x2064x2064, .f32⟩
  | .hbm, ⟨51, _⟩ => ⟨S1x16x2064x2064, .i1⟩
  | .hbm, ⟨52, _⟩ => ⟨S_, .f32⟩
  | .hbm, ⟨53, _⟩ => ⟨S1x16x2064x2064, .f32⟩
  | .hbm, ⟨54, _⟩ => ⟨S1x16x2064x2064, .f32⟩
  | .hbm, ⟨55, _⟩ => ⟨S1x16x2064x2064, .f32⟩
  | .hbm, ⟨56, _⟩ => ⟨S1x16x2064x2064, .f32⟩
  | .hbm, ⟨57, _⟩ => ⟨S1x16x2064x2064, .f32⟩
  | .hbm, ⟨58, _⟩ => ⟨S_, .f32⟩
  | .hbm, ⟨59, _⟩ => ⟨S1x16x2064x2064, .f32⟩
  | .hbm, ⟨60, _⟩ => ⟨S1x16x2064x2064, .f32⟩
  | .hbm, ⟨61, _⟩ => ⟨S_, .f32⟩
  | .hbm, ⟨62, _⟩ => ⟨S_, .f32⟩
  | .hbm, ⟨63, _⟩ => ⟨S1x16x2064x2064, .i1⟩
  | .hbm, ⟨64, _⟩ => ⟨S1x16x2064x2064, .f32⟩
  | .hbm, ⟨65, _⟩ => ⟨S1x16x2064x2064, .f32⟩
  | .hbm, ⟨66, _⟩ => ⟨S_, .f32⟩
  | .hbm, ⟨67, _⟩ => ⟨S1x16x2064x2064, .f32⟩
  | .hbm, ⟨68, _⟩ => ⟨S_, .f32⟩
  | .hbm, ⟨69, _⟩ => ⟨S_, .f32⟩
  | .hbm, ⟨70, _⟩ => ⟨S1x16x2064x2064, .f32⟩
  | .hbm, ⟨71, _⟩ => ⟨S1x16x2064x2064, .f32⟩
  | .hbm, ⟨72, _⟩ => ⟨S_, .f32⟩
  | .hbm, ⟨73, _⟩ => ⟨S_, .f32⟩
  | .hbm, ⟨74, _⟩ => ⟨S1x16x2064x2064, .i1⟩
  | .hbm, ⟨75, _⟩ => ⟨S1x16x2064x2064, .f32⟩
  | .hbm, ⟨76, _⟩ => ⟨S1x16x2064x2064, .f32⟩
  | .hbm, ⟨77, _⟩ => ⟨S_, .f32⟩
  | .hbm, ⟨78, _⟩ => ⟨S1x16x2064x2064, .f32⟩
  | .hbm, ⟨79, _⟩ => ⟨S1x16x2064x2064, .f32⟩
  | .hbm, ⟨80, _⟩ => ⟨S1x16x64x2064, .f32⟩
  | .hbm, ⟨81, _⟩ => ⟨S1x2064x16x64, .f32⟩
  | .hbm, ⟨82, _⟩ => ⟨S1x16x64x2064, .f32⟩
  | .hbm, ⟨83, _⟩ => ⟨S1x16x2064x2064, .f32⟩
  | .hbm, ⟨84, _⟩ => ⟨S1x16x64x2064, .f32⟩
  | .hbm, ⟨85, _⟩ => ⟨S1x2064x16x64, .f32⟩
  | .hbm, ⟨86, _⟩ => ⟨S1x16x2064x2064, .f32⟩
  | .hbm, ⟨87, _⟩ => ⟨S_, .f32⟩
  | .hbm, ⟨88, _⟩ => ⟨S1x16x2064x2064, .f32⟩
  | .hbm, ⟨89, _⟩ => ⟨S1x16x2064x2064, .f32⟩
  | .hbm, ⟨90, _⟩ => ⟨S1x16x2064x2064, .f32⟩
  | .hbm, ⟨91, _⟩ => ⟨S_, .f32⟩
  | .hbm, ⟨92, _⟩ => ⟨S_, .f32⟩
  | .hbm, ⟨93, _⟩ => ⟨S1x16x2064x2064, .f32⟩
  | .hbm, ⟨94, _⟩ => ⟨S_, .f32⟩
  | .hbm, ⟨95, _⟩ => ⟨S1x16x2064x2064, .f32⟩
  | .hbm, ⟨96, _⟩ => ⟨S1x16x2064x2064, .f32⟩
  | .hbm, ⟨97, _⟩ => ⟨S1x16x2064x2064, .f32⟩
  | .hbm, ⟨98, _⟩ => ⟨S1x16x2064x2064, .f32⟩
  | .hbm, ⟨99, _⟩ => ⟨S_, .f32⟩
  | .hbm, ⟨100, _⟩ => ⟨S1x16x2064x2064, .f32⟩
  | .hbm, ⟨101, _⟩ => ⟨S1x16x2064x2064, .f32⟩
  | .hbm, ⟨102, _⟩ => ⟨S1x16x2064x64, .f32⟩
  | .hbm, ⟨103, _⟩ => ⟨S1x2064x16x64, .f32⟩
  | .hbm, ⟨104, _⟩ => ⟨S1x16x2064x64, .f32⟩
  | .hbm, ⟨105, _⟩ => ⟨S1x2064x16x64, .f32⟩
  | .hbm, ⟨106, _⟩ => ⟨S2064x16x64, .f32⟩
  | .hbm, ⟨107, _⟩ => ⟨S2064x1024, .f32⟩
  | .hbm, ⟨108, _⟩ => ⟨S_, .i32⟩
  | .hbm, ⟨109, _⟩ => ⟨S_, .f32⟩
  | .hbm, ⟨110, _⟩ => ⟨S2304x1024, .f32⟩
  | .hbm, ⟨111, _⟩ => ⟨S2304x1024, .bf16⟩
  | .hbm, ⟨112, _⟩ => ⟨S2064x16x64, .f32⟩
  | .hbm, ⟨113, _⟩ => ⟨S2064x1024, .f32⟩
  | .hbm, ⟨114, _⟩ => ⟨S_, .i32⟩
  | .hbm, ⟨115, _⟩ => ⟨S_, .f32⟩
  | .hbm, ⟨116, _⟩ => ⟨S2304x1024, .f32⟩
  | .hbm, ⟨117, _⟩ => ⟨S2304x1024, .bf16⟩
  | .hbm, ⟨118, _⟩ => ⟨S2064x16x64, .f32⟩
  | .hbm, ⟨119, _⟩ => ⟨S2064x1024, .f32⟩
  | .hbm, ⟨120, _⟩ => ⟨S_, .i32⟩
  | .hbm, ⟨121, _⟩ => ⟨S_, .f32⟩
  | .hbm, ⟨122, _⟩ => ⟨S2304x1024, .f32⟩
  | .hbm, ⟨123, _⟩ => ⟨S2304x1024, .bf16⟩
  | _, _ => ⟨S1x2064x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10_0 : Ref sig .tc := ⟨.hbm, 28, rfl⟩
abbrev main_call0_cst_0 : Ref sig .tc := ⟨.hbm, 29, rfl⟩
abbrev main_call0_v13 : Ref sig .tc := ⟨.hbm, 30, rfl⟩
abbrev main_call0_v14 : Ref sig .tc := ⟨.hbm, 31, rfl⟩
abbrev main_call0_cst_1 : Ref sig .tc := ⟨.hbm, 32, rfl⟩
abbrev main_call0_v15 : Ref sig .tc := ⟨.hbm, 33, rfl⟩
abbrev main_call0_v16 : Ref sig .tc := ⟨.hbm, 34, rfl⟩
abbrev main_call0_cst_2 : Ref sig .tc := ⟨.hbm, 35, rfl⟩
abbrev main_call0_v17 : Ref sig .tc := ⟨.hbm, 36, rfl⟩
abbrev main_call0_v18 : Ref sig .tc := ⟨.hbm, 37, rfl⟩
abbrev main_call0_cst_3 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_v10_1 : Ref sig .tc := ⟨.hbm, 42, rfl⟩
abbrev main_call0_cst_4 : Ref sig .tc := ⟨.hbm, 43, rfl⟩
abbrev main_call0_cst_5 : Ref sig .tc := ⟨.hbm, 44, rfl⟩
abbrev main_call0_v23 : Ref sig .tc := ⟨.hbm, 45, rfl⟩
abbrev main_call0_cst_6 : Ref sig .tc := ⟨.hbm, 46, rfl⟩
abbrev main_call0_cst_7 : Ref sig .tc := ⟨.hbm, 47, rfl⟩
abbrev main_call0_v24 : Ref sig .tc := ⟨.hbm, 48, rfl⟩
abbrev main_call0_cst_8 : Ref sig .tc := ⟨.hbm, 49, rfl⟩
abbrev main_call0_v25 : Ref sig .tc := ⟨.hbm, 50, rfl⟩
abbrev main_call0_v26 : Ref sig .tc := ⟨.hbm, 51, rfl⟩
abbrev main_call0_cst_9 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_cst_10 : Ref sig .tc := ⟨.hbm, 58, rfl⟩
abbrev main_call0_v32 : Ref sig .tc := ⟨.hbm, 59, rfl⟩
abbrev main_v10_2 : Ref sig .tc := ⟨.hbm, 60, rfl⟩
abbrev main_cst_0 : Ref sig .tc := ⟨.hbm, 61, rfl⟩
abbrev main_call1_v0 : Ref sig .tc := ⟨.hbm, 62, rfl⟩
abbrev main_v11_1 : Ref sig .tc := ⟨.hbm, 63, rfl⟩
abbrev main_call1_v2 : Ref sig .tc := ⟨.hbm, 64, rfl⟩
abbrev main_v11_0 : Ref sig .tc := ⟨.hbm, 65, rfl⟩
abbrev main_call1_cst : Ref sig .tc := ⟨.hbm, 66, rfl⟩
abbrev main_v11_2 : Ref sig .tc := ⟨.hbm, 67, rfl⟩
abbrev main_call2_cst : Ref sig .tc := ⟨.hbm, 68, rfl⟩
abbrev main_call2_v0 : Ref sig .tc := ⟨.hbm, 69, rfl⟩
abbrev main_v12 : Ref sig .tc := ⟨.hbm, 70, rfl⟩
abbrev main_v13 : Ref sig .tc := ⟨.hbm, 71, rfl⟩
abbrev main_cst_1 : Ref sig .tc := ⟨.hbm, 72, rfl⟩
abbrev main_call3_v0 : Ref sig .tc := ⟨.hbm, 73, rfl⟩
abbrev main_v14_1 : Ref sig .tc := ⟨.hbm, 74, rfl⟩
abbrev main_call3_v2 : Ref sig .tc := ⟨.hbm, 75, rfl⟩
abbrev main_v14_0 : Ref sig .tc := ⟨.hbm, 76, rfl⟩
abbrev main_call3_cst : Ref sig .tc := ⟨.hbm, 77, rfl⟩
abbrev main_v14_2 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_call4_cst : Ref sig .tc := ⟨.hbm, 87, rfl⟩
abbrev main_call4_v0 : Ref sig .tc := ⟨.hbm, 88, rfl⟩
abbrev main_v23 : Ref sig .tc := ⟨.hbm, 89, rfl⟩
abbrev main_v24 : Ref sig .tc := ⟨.hbm, 90, rfl⟩
abbrev main_call5_cst : Ref sig .tc := ⟨.hbm, 91, rfl⟩
abbrev main_call5_v0 : Ref sig .tc := ⟨.hbm, 92, rfl⟩
abbrev main_v25 : Ref sig .tc := ⟨.hbm, 93, rfl⟩
abbrev main_call6_cst : Ref sig .tc := ⟨.hbm, 94, rfl⟩
abbrev main_call6_v0 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_cst_2 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_c : Ref sig .tc := ⟨.hbm, 108, rfl⟩
abbrev main_call8_v0 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_c_3 : Ref sig .tc := ⟨.hbm, 114, rfl⟩
abbrev main_call9_v0 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_c_4 : Ref sig .tc := ⟨.hbm, 120, rfl⟩
abbrev main_call10_v0 : Ref sig .tc := ⟨.hbm, 121, rfl⟩
abbrev main_v45 : Ref sig .tc := ⟨.hbm, 122, rfl⟩
abbrev main_v46 : Ref sig .tc := ⟨.hbm, 123, rfl⟩

abbrev nD : Nat := 1
abbrev τ : Topo := Topo.v7x

variable {F : FTy → Type} [FloatOps F]
-- ==== Kernel2.lean ====
abbrev S2176x1024 : Shape := ⟨2, ![2176, 1024]⟩
abbrev S1x2048x1024 : Shape := ⟨3, ![1, 2048, 1024]⟩
abbrev S2048x1024 : Shape := ⟨2, ![2048, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S1x2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference2Ideal.lean ====
abbrev S2176x1024 : Shape := ⟨2, ![2176, 1024]⟩
abbrev S1x2048x1024 : Shape := ⟨3, ![1, 2048, 1024]⟩
abbrev S1x2176x1024 : Shape := ⟨3, ![1, 2176, 1024]⟩
abbrev S_ : Shape := ⟨0, ![]⟩
abbrev S1x2048 : Shape := ⟨2, ![1, 2048]⟩
abbrev S2048x1024 : Shape := ⟨2, ![2048, 1024]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x2048x1024, .f32⟩
  | .hbm, ⟨2, _⟩ => ⟨S1x2176x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048x1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048x1024, .f32⟩
  | .hbm, ⟨26, _⟩ => ⟨S1x2048x1024, .f32⟩
  | .hbm, ⟨27, _⟩ => ⟨S2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel3.lean ====
abbrev S1x2064x1024 : Shape := ⟨3, ![1, 2064, 1024]⟩
abbrev S1x31x1024 : Shape := ⟨3, ![1, 31, 1024]⟩
abbrev S2064x1024 : Shape := ⟨2, ![2064, 1024]⟩
abbrev S_ : Shape := ⟨0, ![]⟩
abbrev S2176x1024 : Shape := ⟨2, ![2176, 1024]⟩
abbrev S31x1024 : Shape := ⟨2, ![31, 1024]⟩
abbrev S2176x128 : Shape := ⟨2, ![2176, 128]⟩
abbrev S31x128 : Shape := ⟨2, ![31, 128]⟩
abbrev S2216x128 : Shape := ⟨2, ![2216, 128]⟩
abbrev S32x128 : Shape := ⟨2, ![32, 128]⟩
abbrev S8x128 : Shape := ⟨2, ![8, 128]⟩
abbrev S168x128 : Shape := ⟨2, ![168, 128]⟩
abbrev S128x128 : Shape := ⟨2, ![128, 128]⟩
abbrev S1x128 : Shape := ⟨2, ![1, 128]⟩

abbrev nBuf : Space → Nat
  | .hbm => 14
  | .vmem => 7
  | .smem => 0
  | _ => 0

abbrev bufTy : (tb : Table) → Fin (tcTables nBuf tb) → BufTy
  | .hbm, ⟨0, _⟩ => ⟨S1x2064x1024, .f32⟩
  | .hbm, ⟨1, _⟩ => ⟨S1x31x1024, .f32⟩
  | .hbm, ⟨2, _⟩ => ⟨S1x2064x1024, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S31x1024, .f32⟩
  | .hbm, ⟨8, _⟩ => ⟨S2064x1024, .f32⟩
  | .hbm, ⟨9, _⟩ => ⟨S_, .i32⟩
  | .hbm, ⟨10, _⟩ => ⟨S_, .f32⟩
  | .hbm, ⟨11, _⟩ => ⟨S2176x1024, .f32⟩
  | .hbm, ⟨12, _⟩ => ⟨S31x1024, .f32⟩
  | .hbm, ⟨13, _⟩ => ⟨S2176x1024, .f32⟩
  | .local _ .vmem, ⟨0, _⟩ => ⟨S2176x128, .f32⟩
  | .local _ .vmem, ⟨1, _⟩ => ⟨S2176x128, .f32⟩
  | .local _ .vmem, ⟨2, _⟩ => ⟨S31x128, .f32⟩
  | .local _ .vmem, ⟨3, _⟩ => ⟨S31x128, .f32⟩
  | .local _ .vmem, ⟨4, _⟩ => ⟨S2176x128, .f32⟩
  | .local _ .vmem, ⟨5, _⟩ => ⟨S2176x128, .f32⟩
  | .local _ .vmem, ⟨6, _⟩ => ⟨S2216x128, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v13 : BitVec 32 := Scalar.addi c0_i32 c17_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  v14
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v16 : Index := Scalar.indexCast v15
  let c0_7 : Index := 0#32
  ![v16.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v212 : Index := Scalar.indexCast v15
  let c0_41 : Index := 0#32
  ![v212.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S1x2064x1024 : Shape := ⟨3, ![1, 2064, 1024]⟩
abbrev S1x31x1024 : Shape := ⟨3, ![1, 31, 1024]⟩
abbrev S_ : Shape := ⟨0, ![]⟩
abbrev S1x30x1024 : Shape := ⟨3, ![1, 30, 1024]⟩
abbrev S1x2094x1024 : Shape := ⟨3, ![1, 2094, 1024]⟩
abbrev S1x1x1024 : Shape := ⟨3, ![1, 1, 1024]⟩
abbrev S1024 : Shape := ⟨1, ![1024]⟩
abbrev S1x1024 : Shape := ⟨2, ![1, 1024]⟩
abbrev S2064x1024 : Shape := ⟨2, ![2064, 1024]⟩
abbrev S2176x1024 : Shape := ⟨2, ![2176, 1024]⟩

abbrev nBuf : Space → Nat
  | .hbm => 698
  | .vmem => 0
  | .smem => 0
  | _ => 0

abbrev hbmTy0_0 (i : Nat) : BufTy := match i % 128 with
  | 0 => ⟨S1x2064x1024, .f32⟩
  | 1 => ⟨S1x31x1024, .f32⟩
  | 2 => ⟨S1x2064x1024, .f32⟩
  | 3 => ⟨S_, .f32⟩
  | 4 => ⟨S1x30x1024, .f32⟩
  | 5 => ⟨S1x2094x1024, .f32⟩
  | 6 => ⟨S_, .f32⟩
  | 7 => ⟨S1x30x1024, .f32⟩
  | 8 => ⟨S_, .f32⟩
  | 9 => ⟨S1x2064x1024, .f32⟩
  | 10 => ⟨S1x2064x1024, .f32⟩
  | 11 => ⟨S1x1x1024, .f32⟩
  | 12 => ⟨S1024, .f32⟩
  | 13 => ⟨S1x1x1024, .f32⟩
  | 14 => ⟨S1x2064x1024, .f32⟩
  | 15 => ⟨S1x2064x1024, .f32⟩
  | 16 => ⟨S1x2064x1024, .f32⟩
  | 17 => ⟨S1x2064x1024, .f32⟩
  | 18 => ⟨S1x1x1024, .f32⟩
  | 19 => ⟨S1024, .f32⟩
  | 20 => ⟨S1x1x1024, .f32⟩
  | 21 => ⟨S1x2064x1024, .f32⟩
  | 22 => ⟨S1x2064x1024, .f32⟩
  | 23 => ⟨S1x2064x1024, .f32⟩
  | 24 => ⟨S1x2064x1024, .f32⟩
  | 25 => ⟨S1x1x1024, .f32⟩
  | 26 => ⟨S1024, .f32⟩
  | 27 => ⟨S1x1x1024, .f32⟩
  | 28 => ⟨S1x2064x1024, .f32⟩
  | 29 => ⟨S1x2064x1024, .f32⟩
  | 30 => ⟨S1x2064x1024, .f32⟩
  | 31 => ⟨S1x2064x1024, .f32⟩
  | 32 => ⟨S1x1x1024, .f32⟩
  | 33 => ⟨S1024, .f32⟩
  | 34 => ⟨S1x1x1024, .f32⟩
  | 35 => ⟨S1x2064x1024, .f32⟩
  | 36 => ⟨S1x2064x1024, .f32⟩
  | 37 => ⟨S1x2064x1024, .f32⟩
  | 38 => ⟨S1x2064x1024, .f32⟩
  | 39 => ⟨S1x1x1024, .f32⟩
  | 40 => ⟨S1024, .f32⟩
  | 41 => ⟨S1x1x1024, .f32⟩
  | 42 => ⟨S1x2064x1024, .f32⟩
  | 43 => ⟨S1x2064x1024, .f32⟩
  | 44 => ⟨S1x2064x1024, .f32⟩
  | 45 => ⟨S1x2064x1024, .f32⟩
  | 46 => ⟨S1x1x1024, .f32⟩
  | 47 => ⟨S1024, .f32⟩
  | 48 => ⟨S1x1x1024, .f32⟩
  | 49 => ⟨S1x2064x1024, .f32⟩
  | 50 => ⟨S1x2064x1024, .f32⟩
  | 51 => ⟨S1x2064x1024, .f32⟩
  | 52 => ⟨S1x2064x1024, .f32⟩
  | 53 => ⟨S1x1x1024, .f32⟩
  | 54 => ⟨S1024, .f32⟩
  | 55 => ⟨S1x1x1024, .f32⟩
  | 56 => ⟨S1x2064x1024, .f32⟩
  | 57 => ⟨S1x2064x1024, .f32⟩
  | 58 => ⟨S1x2064x1024, .f32⟩
  | 59 => ⟨S1x2064x1024, .f32⟩
  | 60 => ⟨S1x1x1024, .f32⟩
  | 61 => ⟨S1024, .f32⟩
  | 62 => ⟨S1x1x1024, .f32⟩
  | 63 => ⟨S1x2064x1024, .f32⟩
  | 64 => ⟨S1x2064x1024, .f32⟩
  | 65 => ⟨S1x2064x1024, .f32⟩
  | 66 => ⟨S1x2064x1024, .f32⟩
  | 67 => ⟨S1x1x1024, .f32⟩
  | 68 => ⟨S1024, .f32⟩
  | 69 => ⟨S1x1x1024, .f32⟩
  | 70 => ⟨S1x2064x1024, .f32⟩
  | 71 => ⟨S1x2064x1024, .f32⟩
  | 72 => ⟨S1x2064x1024, .f32⟩
  | 73 => ⟨S1x2064x1024, .f32⟩
  | 74 => ⟨S1x1x1024, .f32⟩
  | 75 => ⟨S1024, .f32⟩
  | 76 => ⟨S1x1x1024, .f32⟩
  | 77 => ⟨S1x2064x1024, .f32⟩
  | 78 => ⟨S1x2064x1024, .f32⟩
  | 79 => ⟨S1x2064x1024, .f32⟩
  | 80 => ⟨S1x2064x1024, .f32⟩
  | 81 => ⟨S1x1x1024, .f32⟩
  | 82 => ⟨S1024, .f32⟩
  | 83 => ⟨S1x1x1024, .f32⟩
  | 84 => ⟨S1x2064x1024, .f32⟩
  | 85 => ⟨S1x2064x1024, .f32⟩
  | 86 => ⟨S1x2064x1024, .f32⟩
  | 87 => ⟨S1x2064x1024, .f32⟩
  | 88 => ⟨S1x1x1024, .f32⟩
  | 89 => ⟨S1024, .f32⟩
  | 90 => ⟨S1x1x1024, .f32⟩
  | 91 => ⟨S1x2064x1024, .f32⟩
  | 92 => ⟨S1x2064x1024, .f32⟩
  | 93 => ⟨S1x2064x1024, .f32⟩
  | 94 => ⟨S1x2064x1024, .f32⟩
  | 95 => ⟨S1x1x1024, .f32⟩
  | 96 => ⟨S1024, .f32⟩
  | 97 => ⟨S1x1x1024, .f32⟩
  | 98 => ⟨S1x2064x1024, .f32⟩
  | 99 => ⟨S1x2064x1024, .f32⟩
  | 100 => ⟨S1x2064x1024, .f32⟩
  | 101 => ⟨S1x2064x1024, .f32⟩
  | 102 => ⟨S1x1x1024, .f32⟩
  | 103 => ⟨S1024, .f32⟩
  | 104 => ⟨S1x1x1024, .f32⟩
  | 105 => ⟨S1x2064x1024, .f32⟩
  | 106 => ⟨S1x2064x1024, .f32⟩
  | 107 => ⟨S1x2064x1024, .f32⟩
  | 108 => ⟨S1x2064x1024, .f32⟩
  | 109 => ⟨S1x1x1024, .f32⟩
  | 110 => ⟨S1024, .f32⟩
  | 111 => ⟨S1x1x1024, .f32⟩
  | 112 => ⟨S1x2064x1024, .f32⟩
  | 113 => ⟨S1x2064x1024, .f32⟩
  | 114 => ⟨S1x2064x1024, .f32⟩
  | 115 => ⟨S1x2064x1024, .f32⟩
  | 116 => ⟨S1x1x1024, .f32⟩
  | 117 => ⟨S1024, .f32⟩
  | 118 => ⟨S1x1x1024, .f32⟩
  | 119 => ⟨S1x2064x1024, .f32⟩
  | 120 => ⟨S1x2064x1024, .f32⟩
  | 121 => ⟨S1x2064x1024, .f32⟩
  | 122 => ⟨S1x2064x1024, .f32⟩
  | 123 => ⟨S1x1x1024, .f32⟩
  | 124 => ⟨S1024, .f32⟩
  | 125 => ⟨S1x1x1024, .f32⟩
  | 126 => ⟨S1x2064x1024, .f32⟩
  | 127 => ⟨S1x2064x1024, .f32⟩
  | _ => ⟨S1x2064x1024, .f32⟩

abbrev hbmTy0_1 (i : Nat) : BufTy := match i % 128 with
  | 0 => ⟨S1x2064x1024, .f32⟩
  | 1 => ⟨S1x2064x1024, .f32⟩
  | 2 => ⟨S1x1x1024, .f32⟩
  | 3 => ⟨S1024, .f32⟩
  | 4 => ⟨S1x1x1024, .f32⟩
  | 5 => ⟨S1x2064x1024, .f32⟩
  | 6 => ⟨S1x2064x1024, .f32⟩
  | 7 => ⟨S1x2064x1024, .f32⟩
  | 8 => ⟨S1x2064x1024, .f32⟩
  | 9 => ⟨S1x1x1024, .f32⟩
  | 10 => ⟨S1024, .f32⟩
  | 11 => ⟨S1x1x1024, .f32⟩
  | 12 => ⟨S1x2064x1024, .f32⟩
  | 13 => ⟨S1x2064x1024, .f32⟩
  | 14 => ⟨S1x2064x1024, .f32⟩
  | 15 => ⟨S1x2064x1024, .f32⟩
  | 16 => ⟨S1x1x1024, .f32⟩
  | 17 => ⟨S1024, .f32⟩
  | 18 => ⟨S1x1x1024, .f32⟩
  | 19 => ⟨S1x2064x1024, .f32⟩
  | 20 => ⟨S1x2064x1024, .f32⟩
  | 21 => ⟨S1x2064x1024, .f32⟩
  | 22 => ⟨S1x2064x1024, .f32⟩
  | 23 => ⟨S1x1x1024, .f32⟩
  | 24 => ⟨S1024, .f32⟩
  | 25 => ⟨S1x1x1024, .f32⟩
  | 26 => ⟨S1x2064x1024, .f32⟩
  | 27 => ⟨S1x2064x1024, .f32⟩
  | 28 => ⟨S1x2064x1024, .f32⟩
  | 29 => ⟨S1x2064x1024, .f32⟩
  | 30 => ⟨S1x1x1024, .f32⟩
  | 31 => ⟨S1024, .f32⟩
  | 32 => ⟨S1x1x1024, .f32⟩
  | 33 => ⟨S1x2064x1024, .f32⟩
  | 34 => ⟨S1x2064x1024, .f32⟩
  | 35 => ⟨S1x2064x1024, .f32⟩
  | 36 => ⟨S1x2064x1024, .f32⟩
  | 37 => ⟨S1x1x1024, .f32⟩
  | 38 => ⟨S1024, .f32⟩
  | 39 => ⟨S1x1x1024, .f32⟩
  | 40 => ⟨S1x2064x1024, .f32⟩
  | 41 => ⟨S1x2064x1024, .f32⟩
  | 42 => ⟨S1x2064x1024, .f32⟩
  | 43 => ⟨S1x2064x1024, .f32⟩
  | 44 => ⟨S1x1x1024, .f32⟩
  | 45 => ⟨S1024, .f32⟩
  | 46 => ⟨S1x1x1024, .f32⟩
  | 47 => ⟨S1x2064x1024, .f32⟩
  | 48 => ⟨S1x2064x1024, .f32⟩
  | 49 => ⟨S1x2064x1024, .f32⟩
  | 50 => ⟨S1x2064x1024, .f32⟩
  | 51 => ⟨S1x1x1024, .f32⟩
  | 52 => ⟨S1024, .f32⟩
  | 53 => ⟨S1x1x1024, .f32⟩
  | 54 => ⟨S1x2064x1024, .f32⟩
  | 55 => ⟨S1x2064x1024, .f32⟩
  | 56 => ⟨S1x2064x1024, .f32⟩
  | 57 => ⟨S1x2064x1024, .f32⟩
  | 58 => ⟨S1x1x1024, .f32⟩
  | 59 => ⟨S1024, .f32⟩
  | 60 => ⟨S1x1x1024, .f32⟩
  | 61 => ⟨S1x2064x1024, .f32⟩
  | 62 => ⟨S1x2064x1024, .f32⟩
  | 63 => ⟨S1x2064x1024, .f32⟩
  | 64 => ⟨S1x2064x1024, .f32⟩
  | 65 => ⟨S1x1x1024, .f32⟩
  | 66 => ⟨S1024, .f32⟩
  | 67 => ⟨S1x1x1024, .f32⟩
  | 68 => ⟨S1x2064x1024, .f32⟩
  | 69 => ⟨S1x2064x1024, .f32⟩
  | 70 => ⟨S1x2064x1024, .f32⟩
  | 71 => ⟨S1x2064x1024, .f32⟩
  | 72 => ⟨S1x1x1024, .f32⟩
  | 73 => ⟨S1024, .f32⟩
  | 74 => ⟨S1x1x1024, .f32⟩
  | 75 => ⟨S1x2064x1024, .f32⟩
  | 76 => ⟨S1x2064x1024, .f32⟩
  | 77 => ⟨S1x2064x1024, .f32⟩
  | 78 => ⟨S1x2064x1024, .f32⟩
  | 79 => ⟨S1x1x1024, .f32⟩
  | 80 => ⟨S1024, .f32⟩
  | 81 => ⟨S1x1x1024, .f32⟩
  | 82 => ⟨S1x2064x1024, .f32⟩
  | 83 => ⟨S1x2064x1024, .f32⟩
  | 84 => ⟨S1x2064x1024, .f32⟩
  | 85 => ⟨S1x2064x1024, .f32⟩
  | 86 => ⟨S1x1x1024, .f32⟩
  | 87 => ⟨S1024, .f32⟩
  | 88 => ⟨S1x1x1024, .f32⟩
  | 89 => ⟨S1x2064x1024, .f32⟩
  | 90 => ⟨S1x2064x1024, .f32⟩
  | 91 => ⟨S1x2064x1024, .f32⟩
  | 92 => ⟨S1x2064x1024, .f32⟩
  | 93 => ⟨S1x1x1024, .f32⟩
  | 94 => ⟨S1024, .f32⟩
  | 95 => ⟨S1x1x1024, .f32⟩
  | 96 => ⟨S1x2064x1024, .f32⟩
  | 97 => ⟨S1x2064x1024, .f32⟩
  | 98 => ⟨S1x2064x1024, .f32⟩
  | 99 => ⟨S1x2064x1024, .f32⟩
  | 100 => ⟨S1x2064x1024, .f32⟩
  | 101 => ⟨S1x2064x1024, .f32⟩
  | 102 => ⟨S_, .f32⟩
  | 103 => ⟨S1x1024, .f32⟩
  | 104 => ⟨S1x1x1024, .f32⟩
  | 105 => ⟨S1x2064x1024, .f32⟩
  | 106 => ⟨S1x2064x1024, .f32⟩
  | 107 => ⟨S_, .f32⟩
  | 108 => ⟨S1024, .f32⟩
  | 109 => ⟨S1x1x1024, .f32⟩
  | 110 => ⟨S_, .f32⟩
  | 111 => ⟨S1x31x1024, .f32⟩
  | 112 => ⟨S_, .f32⟩
  | 113 => ⟨S1x2094x1024, .f32⟩
  | 114 => ⟨S1x2064x1024, .f32⟩
  | 115 => ⟨S_, .f32⟩
  | 116 => ⟨S1x1024, .f32⟩
  | 117 => ⟨S1x1x1024, .f32⟩
  | 118 => ⟨S1x2064x1024, .f32⟩
  | 119 => ⟨S1x2064x1024, .f32⟩
  | 120 => ⟨S_, .f32⟩
  | 121 => ⟨S1024, .f32⟩
  | 122 => ⟨S1x1x1024, .f32⟩
  | 123 => ⟨S_, .f32⟩
  | 124 => ⟨S1x31x1024, .f32⟩
  | 125 => ⟨S1x31x1024, .f32⟩
  | 126 => ⟨S_, .f32⟩
  | 127 => ⟨S1x2094x1024, .f32⟩
  | _ => ⟨S1x2064x1024, .f32⟩

abbrev hbmTy0_2 (i : Nat) : BufTy := match i % 128 with
  | 0 => ⟨S1x2094x1024, .f32⟩
  | 1 => ⟨S1x2064x1024, .f32⟩
  | 2 => ⟨S_, .f32⟩
  | 3 => ⟨S1x1024, .f32⟩
  | 4 => ⟨S1x1x1024, .f32⟩
  | 5 => ⟨S1x2064x1024, .f32⟩
  | 6 => ⟨S1x2064x1024, .f32⟩
  | 7 => ⟨S_, .f32⟩
  | 8 => ⟨S1024, .f32⟩
  | 9 => ⟨S1x1x1024, .f32⟩
  | 10 => ⟨S_, .f32⟩
  | 11 => ⟨S1x31x1024, .f32⟩
  | 12 => ⟨S1x31x1024, .f32⟩
  | 13 => ⟨S_, .f32⟩
  | 14 => ⟨S1x2094x1024, .f32⟩
  | 15 => ⟨S1x2094x1024, .f32⟩
  | 16 => ⟨S1x2064x1024, .f32⟩
  | 17 => ⟨S_, .f32⟩
  | 18 => ⟨S1x1024, .f32⟩
  | 19 => ⟨S1x1x1024, .f32⟩
  | 20 => ⟨S1x2064x1024, .f32⟩
  | 21 => ⟨S1x2064x1024, .f32⟩
  | 22 => ⟨S_, .f32⟩
  | 23 => ⟨S1024, .f32⟩
  | 24 => ⟨S1x1x1024, .f32⟩
  | 25 => ⟨S_, .f32⟩
  | 26 => ⟨S1x31x1024, .f32⟩
  | 27 => ⟨S1x31x1024, .f32⟩
  | 28 => ⟨S_, .f32⟩
  | 29 => ⟨S1x2094x1024, .f32⟩
  | 30 => ⟨S1x2094x1024, .f32⟩
  | 31 => ⟨S1x2064x1024, .f32⟩
  | 32 => ⟨S_, .f32⟩
  | 33 => ⟨S1x1024, .f32⟩
  | 34 => ⟨S1x1x1024, .f32⟩
  | 35 => ⟨S1x2064x1024, .f32⟩
  | 36 => ⟨S1x2064x1024, .f32⟩
  | 37 => ⟨S_, .f32⟩
  | 38 => ⟨S1024, .f32⟩
  | 39 => ⟨S1x1x1024, .f32⟩
  | 40 => ⟨S_, .f32⟩
  | 41 => ⟨S1x31x1024, .f32⟩
  | 42 => ⟨S1x31x1024, .f32⟩
  | 43 => ⟨S_, .f32⟩
  | 44 => ⟨S1x2094x1024, .f32⟩
  | 45 => ⟨S1x2094x1024, .f32⟩
  | 46 => ⟨S1x2064x1024, .f32⟩
  | 47 => ⟨S_, .f32⟩
  | 48 => ⟨S1x1024, .f32⟩
  | 49 => ⟨S1x1x1024, .f32⟩
  | 50 => ⟨S1x2064x1024, .f32⟩
  | 51 => ⟨S1x2064x1024, .f32⟩
  | 52 => ⟨S_, .f32⟩
  | 53 => ⟨S1024, .f32⟩
  | 54 => ⟨S1x1x1024, .f32⟩
  | 55 => ⟨S_, .f32⟩
  | 56 => ⟨S1x31x1024, .f32⟩
  | 57 => ⟨S1x31x1024, .f32⟩
  | 58 => ⟨S_, .f32⟩
  | 59 => ⟨S1x2094x1024, .f32⟩
  | 60 => ⟨S1x2094x1024, .f32⟩
  | 61 => ⟨S1x2064x1024, .f32⟩
  | 62 => ⟨S_, .f32⟩
  | 63 => ⟨S1x1024, .f32⟩
  | 64 => ⟨S1x1x1024, .f32⟩
  | 65 => ⟨S1x2064x1024, .f32⟩
  | 66 => ⟨S1x2064x1024, .f32⟩
  | 67 => ⟨S_, .f32⟩
  | 68 => ⟨S1024, .f32⟩
  | 69 => ⟨S1x1x1024, .f32⟩
  | 70 => ⟨S_, .f32⟩
  | 71 => ⟨S1x31x1024, .f32⟩
  | 72 => ⟨S1x31x1024, .f32⟩
  | 73 => ⟨S_, .f32⟩
  | 74 => ⟨S1x2094x1024, .f32⟩
  | 75 => ⟨S1x2094x1024, .f32⟩
  | 76 => ⟨S1x2064x1024, .f32⟩
  | 77 => ⟨S_, .f32⟩
  | 78 => ⟨S1x1024, .f32⟩
  | 79 => ⟨S1x1x1024, .f32⟩
  | 80 => ⟨S1x2064x1024, .f32⟩
  | 81 => ⟨S1x2064x1024, .f32⟩
  | 82 => ⟨S_, .f32⟩
  | 83 => ⟨S1024, .f32⟩
  | 84 => ⟨S1x1x1024, .f32⟩
  | 85 => ⟨S_, .f32⟩
  | 86 => ⟨S1x31x1024, .f32⟩
  | 87 => ⟨S1x31x1024, .f32⟩
  | 88 => ⟨S_, .f32⟩
  | 89 => ⟨S1x2094x1024, .f32⟩
  | 90 => ⟨S1x2094x1024, .f32⟩
  | 91 => ⟨S1x2064x1024, .f32⟩
  | 92 => ⟨S_, .f32⟩
  | 93 => ⟨S1x1024, .f32⟩
  | 94 => ⟨S1x1x1024, .f32⟩
  | 95 => ⟨S1x2064x1024, .f32⟩
  | 96 => ⟨S1x2064x1024, .f32⟩
  | 97 => ⟨S_, .f32⟩
  | 98 => ⟨S1024, .f32⟩
  | 99 => ⟨S1x1x1024, .f32⟩
  | 100 => ⟨S_, .f32⟩
  | 101 => ⟨S1x31x1024, .f32⟩
  | 102 => ⟨S1x31x1024, .f32⟩
  | 103 => ⟨S_, .f32⟩
  | 104 => ⟨S1x2094x1024, .f32⟩
  | 105 => ⟨S1x2094x1024, .f32⟩
  | 106 => ⟨S1x2064x1024, .f32⟩
  | 107 => ⟨S_, .f32⟩
  | 108 => ⟨S1x1024, .f32⟩
  | 109 => ⟨S1x1x1024, .f32⟩
  | 110 => ⟨S1x2064x1024, .f32⟩
  | 111 => ⟨S1x2064x1024, .f32⟩
  | 112 => ⟨S_, .f32⟩
  | 113 => ⟨S1024, .f32⟩
  | 114 => ⟨S1x1x1024, .f32⟩
  | 115 => ⟨S_, .f32⟩
  | 116 => ⟨S1x31x1024, .f32⟩
  | 117 => ⟨S1x31x1024, .f32⟩
  | 118 => ⟨S_, .f32⟩
  | 119 => ⟨S1x2094x1024, .f32⟩
  | 120 => ⟨S1x2094x1024, .f32⟩
  | 121 => ⟨S1x2064x1024, .f32⟩
  | 122 => ⟨S_, .f32⟩
  | 123 => ⟨S1x1024, .f32⟩
  | 124 => ⟨S1x1x1024, .f32⟩
  | 125 => ⟨S1x2064x1024, .f32⟩
  | 126 => ⟨S1x2064x1024, .f32⟩
  | 127 => ⟨S_, .f32⟩
  | _ => ⟨S1x2064x1024, .f32⟩

abbrev hbmTy0_3 (i : Nat) : BufTy := match i % 128 with
  | 0 => ⟨S1024, .f32⟩
  | 1 => ⟨S1x1x1024, .f32⟩
  | 2 => ⟨S_, .f32⟩
  | 3 => ⟨S1x31x1024, .f32⟩
  | 4 => ⟨S1x31x1024, .f32⟩
  | 5 => ⟨S_, .f32⟩
  | 6 => ⟨S1x2094x1024, .f32⟩
  | 7 => ⟨S1x2094x1024, .f32⟩
  | 8 => ⟨S1x2064x1024, .f32⟩
  | 9 => ⟨S_, .f32⟩
  | 10 => ⟨S1x1024, .f32⟩
  | 11 => ⟨S1x1x1024, .f32⟩
  | 12 => ⟨S1x2064x1024, .f32⟩
  | 13 => ⟨S1x2064x1024, .f32⟩
  | 14 => ⟨S_, .f32⟩
  | 15 => ⟨S1024, .f32⟩
  | 16 => ⟨S1x1x1024, .f32⟩
  | 17 => ⟨S_, .f32⟩
  | 18 => ⟨S1x31x1024, .f32⟩
  | 19 => ⟨S1x31x1024, .f32⟩
  | 20 => ⟨S_, .f32⟩
  | 21 => ⟨S1x2094x1024, .f32⟩
  | 22 => ⟨S1x2094x1024, .f32⟩
  | 23 => ⟨S1x2064x1024, .f32⟩
  | 24 => ⟨S_, .f32⟩
  | 25 => ⟨S1x1024, .f32⟩
  | 26 => ⟨S1x1x1024, .f32⟩
  | 27 => ⟨S1x2064x1024, .f32⟩
  | 28 => ⟨S1x2064x1024, .f32⟩
  | 29 => ⟨S_, .f32⟩
  | 30 => ⟨S1024, .f32⟩
  | 31 => ⟨S1x1x1024, .f32⟩
  | 32 => ⟨S_, .f32⟩
  | 33 => ⟨S1x31x1024, .f32⟩
  | 34 => ⟨S1x31x1024, .f32⟩
  | 35 => ⟨S_, .f32⟩
  | 36 => ⟨S1x2094x1024, .f32⟩
  | 37 => ⟨S1x2094x1024, .f32⟩
  | 38 => ⟨S1x2064x1024, .f32⟩
  | 39 => ⟨S_, .f32⟩
  | 40 => ⟨S1x1024, .f32⟩
  | 41 => ⟨S1x1x1024, .f32⟩
  | 42 => ⟨S1x2064x1024, .f32⟩
  | 43 => ⟨S1x2064x1024, .f32⟩
  | 44 => ⟨S_, .f32⟩
  | 45 => ⟨S1024, .f32⟩
  | 46 => ⟨S1x1x1024, .f32⟩
  | 47 => ⟨S_, .f32⟩
  | 48 => ⟨S1x31x1024, .f32⟩
  | 49 => ⟨S1x31x1024, .f32⟩
  | 50 => ⟨S_, .f32⟩
  | 51 => ⟨S1x2094x1024, .f32⟩
  | 52 => ⟨S1x2094x1024, .f32⟩
  | 53 => ⟨S1x2064x1024, .f32⟩
  | 54 => ⟨S_, .f32⟩
  | 55 => ⟨S1x1024, .f32⟩
  | 56 => ⟨S1x1x1024, .f32⟩
  | 57 => ⟨S1x2064x1024, .f32⟩
  | 58 => ⟨S1x2064x1024, .f32⟩
  | 59 => ⟨S_, .f32⟩
  | 60 => ⟨S1024, .f32⟩
  | 61 => ⟨S1x1x1024, .f32⟩
  | 62 => ⟨S_, .f32⟩
  | 63 => ⟨S1x31x1024, .f32⟩
  | 64 => ⟨S1x31x1024, .f32⟩
  | 65 => ⟨S_, .f32⟩
  | 66 => ⟨S1x2094x1024, .f32⟩
  | 67 => ⟨S1x2094x1024, .f32⟩
  | 68 => ⟨S1x2064x1024, .f32⟩
  | 69 => ⟨S_, .f32⟩
  | 70 => ⟨S1x1024, .f32⟩
  | 71 => ⟨S1x1x1024, .f32⟩
  | 72 => ⟨S1x2064x1024, .f32⟩
  | 73 => ⟨S1x2064x1024, .f32⟩
  | 74 => ⟨S_, .f32⟩
  | 75 => ⟨S1024, .f32⟩
  | 76 => ⟨S1x1x1024, .f32⟩
  | 77 => ⟨S_, .f32⟩
  | 78 => ⟨S1x31x1024, .f32⟩
  | 79 => ⟨S1x31x1024, .f32⟩
  | 80 => ⟨S_, .f32⟩
  | 81 => ⟨S1x2094x1024, .f32⟩
  | 82 => ⟨S1x2094x1024, .f32⟩
  | 83 => ⟨S1x2064x1024, .f32⟩
  | 84 => ⟨S_, .f32⟩
  | 85 => ⟨S1x1024, .f32⟩
  | 86 => ⟨S1x1x1024, .f32⟩
  | 87 => ⟨S1x2064x1024, .f32⟩
  | 88 => ⟨S1x2064x1024, .f32⟩
  | 89 => ⟨S_, .f32⟩
  | 90 => ⟨S1024, .f32⟩
  | 91 => ⟨S1x1x1024, .f32⟩
  | 92 => ⟨S_, .f32⟩
  | 93 => ⟨S1x31x1024, .f32⟩
  | 94 => ⟨S1x31x1024, .f32⟩
  | 95 => ⟨S_, .f32⟩
  | 96 => ⟨S1x2094x1024, .f32⟩
  | 97 => ⟨S1x2094x1024, .f32⟩
  | 98 => ⟨S1x2064x1024, .f32⟩
  | 99 => ⟨S_, .f32⟩
  | 100 => ⟨S1x1024, .f32⟩
  | 101 => ⟨S1x1x1024, .f32⟩
  | 102 => ⟨S1x2064x1024, .f32⟩
  | 103 => ⟨S1x2064x1024, .f32⟩
  | 104 => ⟨S_, .f32⟩
  | 105 => ⟨S1024, .f32⟩
  | 106 => ⟨S1x1x1024, .f32⟩
  | 107 => ⟨S_, .f32⟩
  | 108 => ⟨S1x31x1024, .f32⟩
  | 109 => ⟨S1x31x1024, .f32⟩
  | 110 => ⟨S_, .f32⟩
  | 111 => ⟨S1x2094x1024, .f32⟩
  | 112 => ⟨S1x2094x1024, .f32⟩
  | 113 => ⟨S1x2064x1024, .f32⟩
  | 114 => ⟨S_, .f32⟩
  | 115 => ⟨S1x1024, .f32⟩
  | 116 => ⟨S1x1x1024, .f32⟩
  | 117 => ⟨S1x2064x1024, .f32⟩
  | 118 => ⟨S1x2064x1024, .f32⟩
  | 119 => ⟨S_, .f32⟩
  | 120 => ⟨S1024, .f32⟩
  | 121 => ⟨S1x1x1024, .f32⟩
  | 122 => ⟨S_, .f32⟩
  | 123 => ⟨S1x31x1024, .f32⟩
  | 124 => ⟨S1x31x1024, .f32⟩
  | 125 => ⟨S_, .f32⟩
  | 126 => ⟨S1x2094x1024, .f32⟩
  | 127 => ⟨S1x2094x1024, .f32⟩
  | _ => ⟨S1x2064x1024, .f32⟩

abbrev hbmTy0_4 (i : Nat) : BufTy := match i % 128 with
  | 0 => ⟨S1x2064x1024, .f32⟩
  | 1 => ⟨S_, .f32⟩
  | 2 => ⟨S1x1024, .f32⟩
  | 3 => ⟨S1x1x1024, .f32⟩
  | 4 => ⟨S1x2064x1024, .f32⟩
  | 5 => ⟨S1x2064x1024, .f32⟩
  | 6 => ⟨S_, .f32⟩
  | 7 => ⟨S1024, .f32⟩
  | 8 => ⟨S1x1x1024, .f32⟩
  | 9 => ⟨S_, .f32⟩
  | 10 => ⟨S1x31x1024, .f32⟩
  | 11 => ⟨S1x31x1024, .f32⟩
  | 12 => ⟨S_, .f32⟩
  | 13 => ⟨S1x2094x1024, .f32⟩
  | 14 => ⟨S1x2094x1024, .f32⟩
  | 15 => ⟨S1x2064x1024, .f32⟩
  | 16 => ⟨S_, .f32⟩
  | 17 => ⟨S1x1024, .f32⟩
  | 18 => ⟨S1x1x1024, .f32⟩
  | 19 => ⟨S1x2064x1024, .f32⟩
  | 20 => ⟨S1x2064x1024, .f32⟩
  | 21 => ⟨S_, .f32⟩
  | 22 => ⟨S1024, .f32⟩
  | 23 => ⟨S1x1x1024, .f32⟩
  | 24 => ⟨S_, .f32⟩
  | 25 => ⟨S1x31x1024, .f32⟩
  | 26 => ⟨S1x31x1024, .f32⟩
  | 27 => ⟨S_, .f32⟩
  | 28 => ⟨S1x2094x1024, .f32⟩
  | 29 => ⟨S1x2094x1024, .f32⟩
  | 30 => ⟨S1x2064x1024, .f32⟩
  | 31 => ⟨S_, .f32⟩
  | 32 => ⟨S1x1024, .f32⟩
  | 33 => ⟨S1x1x1024, .f32⟩
  | 34 => ⟨S1x2064x1024, .f32⟩
  | 35 => ⟨S1x2064x1024, .f32⟩
  | 36 => ⟨S_, .f32⟩
  | 37 => ⟨S1024, .f32⟩
  | 38 => ⟨S1x1x1024, .f32⟩
  | 39 => ⟨S_, .f32⟩
  | 40 => ⟨S1x31x1024, .f32⟩
  | 41 => ⟨S1x31x1024, .f32⟩
  | 42 => ⟨S_, .f32⟩
  | 43 => ⟨S1x2094x1024, .f32⟩
  | 44 => ⟨S1x2094x1024, .f32⟩
  | 45 => ⟨S1x2064x1024, .f32⟩
  | 46 => ⟨S_, .f32⟩
  | 47 => ⟨S1x1024, .f32⟩
  | 48 => ⟨S1x1x1024, .f32⟩
  | 49 => ⟨S1x2064x1024, .f32⟩
  | 50 => ⟨S1x2064x1024, .f32⟩
  | 51 => ⟨S_, .f32⟩
  | 52 => ⟨S1024, .f32⟩
  | 53 => ⟨S1x1x1024, .f32⟩
  | 54 => ⟨S_, .f32⟩
  | 55 => ⟨S1x31x1024, .f32⟩
  | 56 => ⟨S1x31x1024, .f32⟩
  | 57 => ⟨S_, .f32⟩
  | 58 => ⟨S1x2094x1024, .f32⟩
  | 59 => ⟨S1x2094x1024, .f32⟩
  | 60 => ⟨S1x2064x1024, .f32⟩
  | 61 => ⟨S_, .f32⟩
  | 62 => ⟨S1x1024, .f32⟩
  | 63 => ⟨S1x1x1024, .f32⟩
  | 64 => ⟨S1x2064x1024, .f32⟩
  | 65 => ⟨S1x2064x1024, .f32⟩
  | 66 => ⟨S_, .f32⟩
  | 67 => ⟨S1024, .f32⟩
  | 68 => ⟨S1x1x1024, .f32⟩
  | 69 => ⟨S_, .f32⟩
  | 70 => ⟨S1x31x1024, .f32⟩
  | 71 => ⟨S1x31x1024, .f32⟩
  | 72 => ⟨S_, .f32⟩
  | 73 => ⟨S1x2094x1024, .f32⟩
  | 74 => ⟨S1x2094x1024, .f32⟩
  | 75 => ⟨S1x2064x1024, .f32⟩
  | 76 => ⟨S_, .f32⟩
  | 77 => ⟨S1x1024, .f32⟩
  | 78 => ⟨S1x1x1024, .f32⟩
  | 79 => ⟨S1x2064x1024, .f32⟩
  | 80 => ⟨S1x2064x1024, .f32⟩
  | 81 => ⟨S_, .f32⟩
  | 82 => ⟨S1024, .f32⟩
  | 83 => ⟨S1x1x1024, .f32⟩
  | 84 => ⟨S_, .f32⟩
  | 85 => ⟨S1x31x1024, .f32⟩
  | 86 => ⟨S1x31x1024, .f32⟩
  | 87 => ⟨S_, .f32⟩
  | 88 => ⟨S1x2094x1024, .f32⟩
  | 89 => ⟨S1x2094x1024, .f32⟩
  | 90 => ⟨S1x2064x1024, .f32⟩
  | 91 => ⟨S_, .f32⟩
  | 92 => ⟨S1x1024, .f32⟩
  | 93 => ⟨S1x1x1024, .f32⟩
  | 94 => ⟨S1x2064x1024, .f32⟩
  | 95 => ⟨S1x2064x1024, .f32⟩
  | 96 => ⟨S_, .f32⟩
  | 97 => ⟨S1024, .f32⟩
  | 98 => ⟨S1x1x1024, .f32⟩
  | 99 => ⟨S_, .f32⟩
  | 100 => ⟨S1x31x1024, .f32⟩
  | 101 => ⟨S1x31x1024, .f32⟩
  | 102 => ⟨S_, .f32⟩
  | 103 => ⟨S1x2094x1024, .f32⟩
  | 104 => ⟨S1x2094x1024, .f32⟩
  | 105 => ⟨S1x2064x1024, .f32⟩
  | 106 => ⟨S_, .f32⟩
  | 107 => ⟨S1x1024, .f32⟩
  | 108 => ⟨S1x1x1024, .f32⟩
  | 109 => ⟨S1x2064x1024, .f32⟩
  | 110 => ⟨S1x2064x1024, .f32⟩
  | 111 => ⟨S_, .f32⟩
  | 112 => ⟨S1024, .f32⟩
  | 113 => ⟨S1x1x1024, .f32⟩
  | 114 => ⟨S_, .f32⟩
  | 115 => ⟨S1x31x1024, .f32⟩
  | 116 => ⟨S1x31x1024, .f32⟩
  | 117 => ⟨S_, .f32⟩
  | 118 => ⟨S1x2094x1024, .f32⟩
  | 119 => ⟨S1x2094x1024, .f32⟩
  | 120 => ⟨S1x2064x1024, .f32⟩
  | 121 => ⟨S_, .f32⟩
  | 122 => ⟨S1x1024, .f32⟩
  | 123 => ⟨S1x1x1024, .f32⟩
  | 124 => ⟨S1x2064x1024, .f32⟩
  | 125 => ⟨S1x2064x1024, .f32⟩
  | 126 => ⟨S_, .f32⟩
  | 127 => ⟨S1024, .f32⟩
  | _ => ⟨S1x2064x1024, .f32⟩

abbrev hbmTy0_5 (i : Nat) : BufTy := match i % 128 with
  | 0 => ⟨S1x1x1024, .f32⟩
  | 1 => ⟨S_, .f32⟩
  | 2 => ⟨S1x31x1024, .f32⟩
  | 3 => ⟨S1x31x1024, .f32⟩
  | 4 => ⟨S_, .f32⟩
  | 5 => ⟨S1x2094x1024, .f32⟩
  | 6 => ⟨S1x2094x1024, .f32⟩
  | 7 => ⟨S1x2064x1024, .f32⟩
  | 8 => ⟨S_, .f32⟩
  | 9 => ⟨S1x1024, .f32⟩
  | 10 => ⟨S1x1x1024, .f32⟩
  | 11 => ⟨S1x2064x1024, .f32⟩
  | 12 => ⟨S1x2064x1024, .f32⟩
  | 13 => ⟨S_, .f32⟩
  | 14 => ⟨S1024, .f32⟩
  | 15 => ⟨S1x1x1024, .f32⟩
  | 16 => ⟨S_, .f32⟩
  | 17 => ⟨S1x31x1024, .f32⟩
  | 18 => ⟨S1x31x1024, .f32⟩
  | 19 => ⟨S_, .f32⟩
  | 20 => ⟨S1x2094x1024, .f32⟩
  | 21 => ⟨S1x2094x1024, .f32⟩
  | 22 => ⟨S1x2064x1024, .f32⟩
  | 23 => ⟨S_, .f32⟩
  | 24 => ⟨S1x1024, .f32⟩
  | 25 => ⟨S1x1x1024, .f32⟩
  | 26 => ⟨S1x2064x1024, .f32⟩
  | 27 => ⟨S1x2064x1024, .f32⟩
  | 28 => ⟨S_, .f32⟩
  | 29 => ⟨S1024, .f32⟩
  | 30 => ⟨S1x1x1024, .f32⟩
  | 31 => ⟨S_, .f32⟩
  | 32 => ⟨S1x31x1024, .f32⟩
  | 33 => ⟨S1x31x1024, .f32⟩
  | 34 => ⟨S_, .f32⟩
  | 35 => ⟨S1x2094x1024, .f32⟩
  | 36 => ⟨S1x2094x1024, .f32⟩
  | 37 => ⟨S1x2064x1024, .f32⟩
  | 38 => ⟨S_, .f32⟩
  | 39 => ⟨S1x1024, .f32⟩
  | 40 => ⟨S1x1x1024, .f32⟩
  | 41 => ⟨S1x2064x1024, .f32⟩
  | 42 => ⟨S1x2064x1024, .f32⟩
  | 43 => ⟨S_, .f32⟩
  | 44 => ⟨S1024, .f32⟩
  | 45 => ⟨S1x1x1024, .f32⟩
  | 46 => ⟨S_, .f32⟩
  | 47 => ⟨S1x31x1024, .f32⟩
  | 48 => ⟨S1x31x1024, .f32⟩
  | 49 => ⟨S_, .f32⟩
  | 50 => ⟨S1x2094x1024, .f32⟩
  | 51 => ⟨S1x2094x1024, .f32⟩
  | 52 => ⟨S1x30x1024, .f32⟩
  | 53 => ⟨S1x2064x1024, .f32⟩
  | 54 => ⟨S2064x1024, .f32⟩
  | 55 => ⟨S_, .i32⟩
  | 56 => ⟨S_, .f32⟩
  | 57 => ⟨S2176x1024, .f32⟩
  | _ => ⟨S1x2064x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x2064x1024, .f32⟩

abbrev bufTy : (tb : Table) → Fin (tcTables nBuf tb) → BufTy
  | .hbm, ⟨i, _⟩ => hbmTy i
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_cst_2 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_cst_3 : Ref sig .tc := ⟨.hbm, 235, rfl⟩
abbrev main_v228 : Ref sig .tc := ⟨.hbm, 236, rfl⟩
abbrev main_v229 : Ref sig .tc := ⟨.hbm, 237, rfl⟩
abbrev main_cst_4 : Ref sig .tc := ⟨.hbm, 238, rfl⟩
abbrev main_v230 : Ref sig .tc := ⟨.hbm, 239, rfl⟩
abbrev main_cst_5 : Ref sig .tc := ⟨.hbm, 240, rfl⟩
abbrev main_v231 : Ref sig .tc := ⟨.hbm, 241, rfl⟩
abbrev main_v232 : Ref sig .tc := ⟨.hbm, 242, rfl⟩
abbrev main_cst_6 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_7 : Ref sig .tc := ⟨.hbm, 248, rfl⟩
abbrev main_v237 : Ref sig .tc := ⟨.hbm, 249, rfl⟩
abbrev main_v238 : Ref sig .tc := ⟨.hbm, 250, rfl⟩
abbrev main_cst_8 : Ref sig .tc := ⟨.hbm, 251, rfl⟩
abbrev main_v239 : Ref sig .tc := ⟨.hbm, 252, rfl⟩
abbrev main_v240 : Ref sig .tc := ⟨.hbm, 253, rfl⟩
abbrev main_cst_9 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_10 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_11 : Ref sig .tc := ⟨.hbm, 263, rfl⟩
abbrev main_v248 : Ref sig .tc := ⟨.hbm, 264, rfl⟩
abbrev main_v249 : Ref sig .tc := ⟨.hbm, 265, rfl⟩
abbrev main_cst_12 : Ref sig .tc := ⟨.hbm, 266, rfl⟩
abbrev main_v250 : Ref sig .tc := ⟨.hbm, 267, rfl⟩
abbrev main_v251 : Ref sig .tc := ⟨.hbm, 268, rfl⟩
abbrev main_cst_13 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_14 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_v260 : Ref sig .tc := ⟨.hbm, 280, rfl⟩
abbrev main_cst_16 : Ref sig .tc := ⟨.hbm, 281, rfl⟩
abbrev main_v261 : Ref sig .tc := ⟨.hbm, 282, rfl⟩
abbrev main_v262 : Ref sig .tc := ⟨.hbm, 283, rfl⟩
abbrev main_cst_17 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_cst_18 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_v271 : Ref sig .tc := ⟨.hbm, 295, rfl⟩
abbrev main_cst_20 : Ref sig .tc := ⟨.hbm, 296, rfl⟩
abbrev main_v272 : Ref sig .tc := ⟨.hbm, 297, rfl⟩
abbrev main_v273 : Ref sig .tc := ⟨.hbm, 298, rfl⟩
abbrev main_cst_21 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_cst_22 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_v282 : Ref sig .tc := ⟨.hbm, 310, rfl⟩
abbrev main_cst_24 : Ref sig .tc := ⟨.hbm, 311, rfl⟩
abbrev main_v283 : Ref sig .tc := ⟨.hbm, 312, rfl⟩
abbrev main_v284 : Ref sig .tc := ⟨.hbm, 313, rfl⟩
abbrev main_cst_25 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_cst_26 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_v293 : Ref sig .tc := ⟨.hbm, 325, rfl⟩
abbrev main_cst_28 : Ref sig .tc := ⟨.hbm, 326, rfl⟩
abbrev main_v294 : Ref sig .tc := ⟨.hbm, 327, rfl⟩
abbrev main_v295 : Ref sig .tc := ⟨.hbm, 328, rfl⟩
abbrev main_cst_29 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_cst_30 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_v304 : Ref sig .tc := ⟨.hbm, 340, rfl⟩
abbrev main_cst_32 : Ref sig .tc := ⟨.hbm, 341, rfl⟩
abbrev main_v305 : Ref sig .tc := ⟨.hbm, 342, rfl⟩
abbrev main_v306 : Ref sig .tc := ⟨.hbm, 343, rfl⟩
abbrev main_cst_33 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_cst_34 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_v315 : Ref sig .tc := ⟨.hbm, 355, rfl⟩
abbrev main_cst_36 : Ref sig .tc := ⟨.hbm, 356, rfl⟩
abbrev main_v316 : Ref sig .tc := ⟨.hbm, 357, rfl⟩
abbrev main_v317 : Ref sig .tc := ⟨.hbm, 358, rfl⟩
abbrev main_cst_37 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_cst_38 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_v326 : Ref sig .tc := ⟨.hbm, 370, rfl⟩
abbrev main_cst_40 : Ref sig .tc := ⟨.hbm, 371, rfl⟩
abbrev main_v327 : Ref sig .tc := ⟨.hbm, 372, rfl⟩
abbrev main_v328 : Ref sig .tc := ⟨.hbm, 373, rfl⟩
abbrev main_cst_41 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_cst_42 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_v337 : Ref sig .tc := ⟨.hbm, 385, rfl⟩
abbrev main_cst_44 : Ref sig .tc := ⟨.hbm, 386, rfl⟩
abbrev main_v338 : Ref sig .tc := ⟨.hbm, 387, rfl⟩
abbrev main_v339 : Ref sig .tc := ⟨.hbm, 388, rfl⟩
abbrev main_cst_45 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_cst_46 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_v348 : Ref sig .tc := ⟨.hbm, 400, rfl⟩
abbrev main_cst_48 : Ref sig .tc := ⟨.hbm, 401, rfl⟩
abbrev main_v349 : Ref sig .tc := ⟨.hbm, 402, rfl⟩
abbrev main_v350 : Ref sig .tc := ⟨.hbm, 403, rfl⟩
abbrev main_cst_49 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_cst_50 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_v359 : Ref sig .tc := ⟨.hbm, 415, rfl⟩
abbrev main_cst_52 : Ref sig .tc := ⟨.hbm, 416, rfl⟩
abbrev main_v360 : Ref sig .tc := ⟨.hbm, 417, rfl⟩
abbrev main_v361 : Ref sig .tc := ⟨.hbm, 418, rfl⟩
abbrev main_cst_53 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_cst_54 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_v370 : Ref sig .tc := ⟨.hbm, 430, rfl⟩
abbrev main_cst_56 : Ref sig .tc := ⟨.hbm, 431, rfl⟩
abbrev main_v371 : Ref sig .tc := ⟨.hbm, 432, rfl⟩
abbrev main_v372 : Ref sig .tc := ⟨.hbm, 433, rfl⟩
abbrev main_cst_57 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_cst_58 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_v381 : Ref sig .tc := ⟨.hbm, 445, rfl⟩
abbrev main_cst_60 : Ref sig .tc := ⟨.hbm, 446, rfl⟩
abbrev main_v382 : Ref sig .tc := ⟨.hbm, 447, rfl⟩
abbrev main_v383 : Ref sig .tc := ⟨.hbm, 448, rfl⟩
abbrev main_cst_61 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_cst_62 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_v392 : Ref sig .tc := ⟨.hbm, 460, rfl⟩
abbrev main_cst_64 : Ref sig .tc := ⟨.hbm, 461, rfl⟩
abbrev main_v393 : Ref sig .tc := ⟨.hbm, 462, rfl⟩
abbrev main_v394 : Ref sig .tc := ⟨.hbm, 463, rfl⟩
abbrev main_cst_65 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_cst_66 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_v403 : Ref sig .tc := ⟨.hbm, 475, rfl⟩
abbrev main_cst_68 : Ref sig .tc := ⟨.hbm, 476, rfl⟩
abbrev main_v404 : Ref sig .tc := ⟨.hbm, 477, rfl⟩
abbrev main_v405 : Ref sig .tc := ⟨.hbm, 478, rfl⟩
abbrev main_cst_69 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_cst_70 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_v414 : Ref sig .tc := ⟨.hbm, 490, rfl⟩
abbrev main_cst_72 : Ref sig .tc := ⟨.hbm, 491, rfl⟩
abbrev main_v415 : Ref sig .tc := ⟨.hbm, 492, rfl⟩
abbrev main_v416 : Ref sig .tc := ⟨.hbm, 493, rfl⟩
abbrev main_cst_73 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_cst_74 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_v425 : Ref sig .tc := ⟨.hbm, 505, rfl⟩
abbrev main_cst_76 : Ref sig .tc := ⟨.hbm, 506, rfl⟩
abbrev main_v426 : Ref sig .tc := ⟨.hbm, 507, rfl⟩
abbrev main_v427 : Ref sig .tc := ⟨.hbm, 508, rfl⟩
abbrev main_cst_77 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_cst_78 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_v436 : Ref sig .tc := ⟨.hbm, 520, rfl⟩
abbrev main_cst_80 : Ref sig .tc := ⟨.hbm, 521, rfl⟩
abbrev main_v437 : Ref sig .tc := ⟨.hbm, 522, rfl⟩
abbrev main_v438 : Ref sig .tc := ⟨.hbm, 523, rfl⟩
abbrev main_cst_81 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_cst_82 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_v447 : Ref sig .tc := ⟨.hbm, 535, rfl⟩
abbrev main_cst_84 : Ref sig .tc := ⟨.hbm, 536, rfl⟩
abbrev main_v448 : Ref sig .tc := ⟨.hbm, 537, rfl⟩
abbrev main_v449 : Ref sig .tc := ⟨.hbm, 538, rfl⟩
abbrev main_cst_85 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_cst_86 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_v458 : Ref sig .tc := ⟨.hbm, 550, rfl⟩
abbrev main_cst_88 : Ref sig .tc := ⟨.hbm, 551, rfl⟩
abbrev main_v459 : Ref sig .tc := ⟨.hbm, 552, rfl⟩
abbrev main_v460 : Ref sig .tc := ⟨.hbm, 553, rfl⟩
abbrev main_cst_89 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_cst_90 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_v469 : Ref sig .tc := ⟨.hbm, 565, rfl⟩
abbrev main_cst_92 : Ref sig .tc := ⟨.hbm, 566, rfl⟩
abbrev main_v470 : Ref sig .tc := ⟨.hbm, 567, rfl⟩
abbrev main_v471 : Ref sig .tc := ⟨.hbm, 568, rfl⟩
abbrev main_cst_93 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_cst_94 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_v480 : Ref sig .tc := ⟨.hbm, 580, rfl⟩
abbrev main_cst_96 : Ref sig .tc := ⟨.hbm, 581, rfl⟩
abbrev main_v481 : Ref sig .tc := ⟨.hbm, 582, rfl⟩
abbrev main_v482 : Ref sig .tc := ⟨.hbm, 583, rfl⟩
abbrev main_cst_97 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_cst_98 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_v491 : Ref sig .tc := ⟨.hbm, 595, rfl⟩
abbrev main_cst_100 : Ref sig .tc := ⟨.hbm, 596, rfl⟩
abbrev main_v492 : Ref sig .tc := ⟨.hbm, 597, rfl⟩
abbrev main_v493 : Ref sig .tc := ⟨.hbm, 598, rfl⟩
abbrev main_cst_101 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_cst_102 : Ref sig .tc := ⟨.hbm, 603, rfl⟩
abbrev main_v497 : Ref sig .tc := ⟨.hbm, 604, rfl⟩
abbrev main_v498 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_v502 : Ref sig .tc := ⟨.hbm, 610, rfl⟩
abbrev main_cst_104 : Ref sig .tc := ⟨.hbm, 611, rfl⟩
abbrev main_v503 : Ref sig .tc := ⟨.hbm, 612, rfl⟩
abbrev main_v504 : Ref sig .tc := ⟨.hbm, 613, rfl⟩
abbrev main_cst_105 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_cst_106 : Ref sig .tc := ⟨.hbm, 618, rfl⟩
abbrev main_v508 : Ref sig .tc := ⟨.hbm, 619, rfl⟩
abbrev main_v509 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_v513 : Ref sig .tc := ⟨.hbm, 625, rfl⟩
abbrev main_cst_108 : Ref sig .tc := ⟨.hbm, 626, rfl⟩
abbrev main_v514 : Ref sig .tc := ⟨.hbm, 627, rfl⟩
abbrev main_v515 : Ref sig .tc := ⟨.hbm, 628, rfl⟩
abbrev main_cst_109 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_110 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_v524 : Ref sig .tc := ⟨.hbm, 640, rfl⟩
abbrev main_cst_112 : Ref sig .tc := ⟨.hbm, 641, rfl⟩
abbrev main_v525 : Ref sig .tc := ⟨.hbm, 642, rfl⟩
abbrev main_v526 : Ref sig .tc := ⟨.hbm, 643, rfl⟩
abbrev main_cst_113 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_cst_114 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_v535 : Ref sig .tc := ⟨.hbm, 655, rfl⟩
abbrev main_cst_116 : Ref sig .tc := ⟨.hbm, 656, rfl⟩
abbrev main_v536 : Ref sig .tc := ⟨.hbm, 657, rfl⟩
abbrev main_v537 : Ref sig .tc := ⟨.hbm, 658, rfl⟩
abbrev main_cst_117 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_cst_118 : Ref sig .tc := ⟨.hbm, 663, rfl⟩
abbrev main_v541 : Ref sig .tc := ⟨.hbm, 664, rfl⟩
abbrev main_v542 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_v546 : Ref sig .tc := ⟨.hbm, 670, rfl⟩
abbrev main_cst_120 : Ref sig .tc := ⟨.hbm, 671, rfl⟩
abbrev main_v547 : Ref sig .tc := ⟨.hbm, 672, rfl⟩
abbrev main_v548 : Ref sig .tc := ⟨.hbm, 673, rfl⟩
abbrev main_cst_121 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_cst_122 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_v557 : Ref sig .tc := ⟨.hbm, 685, rfl⟩
abbrev main_cst_124 : Ref sig .tc := ⟨.hbm, 686, rfl⟩
abbrev main_v558 : Ref sig .tc := ⟨.hbm, 687, rfl⟩
abbrev main_v559 : Ref sig .tc := ⟨.hbm, 688, rfl⟩
abbrev main_cst_125 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_v563 : Ref sig .tc := ⟨.hbm, 693, rfl⟩
abbrev main_v564 : Ref sig .tc := ⟨.hbm, 694, rfl⟩
abbrev main_c : Ref sig .tc := ⟨.hbm, 695, rfl⟩
abbrev main_call0_v0 : Ref sig .tc := ⟨.hbm, 696, rfl⟩
abbrev main_v565 : Ref sig .tc := ⟨.hbm, 697, rfl⟩

abbrev nD : Nat := 1
abbrev τ : Topo := Topo.v7x

variable {F : FTy → Type} [FloatOps F]
-- ==== Kernel4.lean ====
abbrev S1x2064x1024 : Shape := ⟨3, ![1, 2064, 1024]⟩
abbrev S1x31x1024 : Shape := ⟨3, ![1, 31, 1024]⟩
abbrev S2064x1024 : Shape := ⟨2, ![2064, 1024]⟩
abbrev S_ : Shape := ⟨0, ![]⟩
abbrev S2176x1024 : Shape := ⟨2, ![2176, 1024]⟩
abbrev S31x1024 : Shape := ⟨2, ![31, 1024]⟩
abbrev S2176x128 : Shape := ⟨2, ![2176, 128]⟩
abbrev S31x128 : Shape := ⟨2, ![31, 128]⟩
abbrev S2216x128 : Shape := ⟨2, ![2216, 128]⟩
abbrev S31x8x128 : Shape := ⟨3, ![31, 8, 128]⟩
abbrev S32x128 : Shape := ⟨2, ![32, 128]⟩
abbrev S8x128 : Shape := ⟨2, ![8, 128]⟩
abbrev S168x128 : Shape := ⟨2, ![168, 128]⟩
abbrev S128x128 : Shape := ⟨2, ![128, 128]⟩
abbrev S1x8x128 : Shape := ⟨3, ![1, 8, 128]⟩
abbrev S16x8x128 : Shape := ⟨3, ![16, 8, 128]⟩
abbrev S128 : Shape := ⟨1, ![128]⟩
abbrev S1x128 : Shape := ⟨2, ![1, 128]⟩

abbrev nBuf : Space → Nat
  | .hbm => 12
  | .vmem => 8
  | .smem => 0
  | _ => 0

abbrev bufTy : (tb : Table) → Fin (tcTables nBuf tb) → BufTy
  | .hbm, ⟨0, _⟩ => ⟨S1x2064x1024, .f32⟩
  | .hbm, ⟨1, _⟩ => ⟨S1x31x1024, .f32⟩
  | .hbm, ⟨2, _⟩ => ⟨S1x2064x1024, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S2064x1024, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S31x1024, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S31x128, .f32⟩
  | .local _ .vmem, ⟨5, _⟩ => ⟨S31x128, .f32⟩
  | .local _ .vmem, ⟨6, _⟩ => ⟨S2216x128, .f32⟩
  | .local _ .vmem, ⟨7, _⟩ => ⟨S31x8x128, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v17 : BitVec 32 := Scalar.addi c0_i32 c17_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v173 : BitVec 32 := Scalar.muli arg6 c128_i32
  v173
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v173 : BitVec 32 := Scalar.muli arg6 c128_i32
  let v174 : BitVec 32 := v173
  let v175 : Index := Scalar.indexCast v174
  let c0_167 : Index := 0#32
  ![v175.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v173 : BitVec 32 := Scalar.muli arg6 c128_i32
  let v174 : BitVec 32 := v173
  let v177 : Index := Scalar.indexCast v174
  let c0_168 : Index := 0#32
  ![v177.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S1x2064x1024 : Shape := ⟨3, ![1, 2064, 1024]⟩
abbrev S1x31x1024 : Shape := ⟨3, ![1, 31, 1024]⟩
abbrev S_ : Shape := ⟨0, ![]⟩
abbrev S1x30x1024 : Shape := ⟨3, ![1, 30, 1024]⟩
abbrev S1x2094x1024 : Shape := ⟨3, ![1, 2094, 1024]⟩
abbrev S1x1x1024 : Shape := ⟨3, ![1, 1, 1024]⟩
abbrev S1024 : Shape := ⟨1, ![1024]⟩
abbrev S1x1024 : Shape := ⟨2, ![1, 1024]⟩
abbrev S31x1024 : Shape := ⟨2, ![31, 1024]⟩

abbrev nBuf : Space → Nat
  | .hbm => 695
  | .vmem => 0
  | .smem => 0
  | _ => 0

abbrev hbmTy0_0 (i : Nat) : BufTy := match i % 128 with
  | 0 => ⟨S1x2064x1024, .f32⟩
  | 1 => ⟨S1x31x1024, .f32⟩
  | 2 => ⟨S1x2064x1024, .f32⟩
  | 3 => ⟨S_, .f32⟩
  | 4 => ⟨S1x30x1024, .f32⟩
  | 5 => ⟨S1x2094x1024, .f32⟩
  | 6 => ⟨S_, .f32⟩
  | 7 => ⟨S1x30x1024, .f32⟩
  | 8 => ⟨S_, .f32⟩
  | 9 => ⟨S1x2064x1024, .f32⟩
  | 10 => ⟨S1x2064x1024, .f32⟩
  | 11 => ⟨S1x1x1024, .f32⟩
  | 12 => ⟨S1024, .f32⟩
  | 13 => ⟨S1x1x1024, .f32⟩
  | 14 => ⟨S1x2064x1024, .f32⟩
  | 15 => ⟨S1x2064x1024, .f32⟩
  | 16 => ⟨S1x2064x1024, .f32⟩
  | 17 => ⟨S1x2064x1024, .f32⟩
  | 18 => ⟨S1x1x1024, .f32⟩
  | 19 => ⟨S1024, .f32⟩
  | 20 => ⟨S1x1x1024, .f32⟩
  | 21 => ⟨S1x2064x1024, .f32⟩
  | 22 => ⟨S1x2064x1024, .f32⟩
  | 23 => ⟨S1x2064x1024, .f32⟩
  | 24 => ⟨S1x2064x1024, .f32⟩
  | 25 => ⟨S1x1x1024, .f32⟩
  | 26 => ⟨S1024, .f32⟩
  | 27 => ⟨S1x1x1024, .f32⟩
  | 28 => ⟨S1x2064x1024, .f32⟩
  | 29 => ⟨S1x2064x1024, .f32⟩
  | 30 => ⟨S1x2064x1024, .f32⟩
  | 31 => ⟨S1x2064x1024, .f32⟩
  | 32 => ⟨S1x1x1024, .f32⟩
  | 33 => ⟨S1024, .f32⟩
  | 34 => ⟨S1x1x1024, .f32⟩
  | 35 => ⟨S1x2064x1024, .f32⟩
  | 36 => ⟨S1x2064x1024, .f32⟩
  | 37 => ⟨S1x2064x1024, .f32⟩
  | 38 => ⟨S1x2064x1024, .f32⟩
  | 39 => ⟨S1x1x1024, .f32⟩
  | 40 => ⟨S1024, .f32⟩
  | 41 => ⟨S1x1x1024, .f32⟩
  | 42 => ⟨S1x2064x1024, .f32⟩
  | 43 => ⟨S1x2064x1024, .f32⟩
  | 44 => ⟨S1x2064x1024, .f32⟩
  | 45 => ⟨S1x2064x1024, .f32⟩
  | 46 => ⟨S1x1x1024, .f32⟩
  | 47 => ⟨S1024, .f32⟩
  | 48 => ⟨S1x1x1024, .f32⟩
  | 49 => ⟨S1x2064x1024, .f32⟩
  | 50 => ⟨S1x2064x1024, .f32⟩
  | 51 => ⟨S1x2064x1024, .f32⟩
  | 52 => ⟨S1x2064x1024, .f32⟩
  | 53 => ⟨S1x1x1024, .f32⟩
  | 54 => ⟨S1024, .f32⟩
  | 55 => ⟨S1x1x1024, .f32⟩
  | 56 => ⟨S1x2064x1024, .f32⟩
  | 57 => ⟨S1x2064x1024, .f32⟩
  | 58 => ⟨S1x2064x1024, .f32⟩
  | 59 => ⟨S1x2064x1024, .f32⟩
  | 60 => ⟨S1x1x1024, .f32⟩
  | 61 => ⟨S1024, .f32⟩
  | 62 => ⟨S1x1x1024, .f32⟩
  | 63 => ⟨S1x2064x1024, .f32⟩
  | 64 => ⟨S1x2064x1024, .f32⟩
  | 65 => ⟨S1x2064x1024, .f32⟩
  | 66 => ⟨S1x2064x1024, .f32⟩
  | 67 => ⟨S1x1x1024, .f32⟩
  | 68 => ⟨S1024, .f32⟩
  | 69 => ⟨S1x1x1024, .f32⟩
  | 70 => ⟨S1x2064x1024, .f32⟩
  | 71 => ⟨S1x2064x1024, .f32⟩
  | 72 => ⟨S1x2064x1024, .f32⟩
  | 73 => ⟨S1x2064x1024, .f32⟩
  | 74 => ⟨S1x1x1024, .f32⟩
  | 75 => ⟨S1024, .f32⟩
  | 76 => ⟨S1x1x1024, .f32⟩
  | 77 => ⟨S1x2064x1024, .f32⟩
  | 78 => ⟨S1x2064x1024, .f32⟩
  | 79 => ⟨S1x2064x1024, .f32⟩
  | 80 => ⟨S1x2064x1024, .f32⟩
  | 81 => ⟨S1x1x1024, .f32⟩
  | 82 => ⟨S1024, .f32⟩
  | 83 => ⟨S1x1x1024, .f32⟩
  | 84 => ⟨S1x2064x1024, .f32⟩
  | 85 => ⟨S1x2064x1024, .f32⟩
  | 86 => ⟨S1x2064x1024, .f32⟩
  | 87 => ⟨S1x2064x1024, .f32⟩
  | 88 => ⟨S1x1x1024, .f32⟩
  | 89 => ⟨S1024, .f32⟩
  | 90 => ⟨S1x1x1024, .f32⟩
  | 91 => ⟨S1x2064x1024, .f32⟩
  | 92 => ⟨S1x2064x1024, .f32⟩
  | 93 => ⟨S1x2064x1024, .f32⟩
  | 94 => ⟨S1x2064x1024, .f32⟩
  | 95 => ⟨S1x1x1024, .f32⟩
  | 96 => ⟨S1024, .f32⟩
  | 97 => ⟨S1x1x1024, .f32⟩
  | 98 => ⟨S1x2064x1024, .f32⟩
  | 99 => ⟨S1x2064x1024, .f32⟩
  | 100 => ⟨S1x2064x1024, .f32⟩
  | 101 => ⟨S1x2064x1024, .f32⟩
  | 102 => ⟨S1x1x1024, .f32⟩
  | 103 => ⟨S1024, .f32⟩
  | 104 => ⟨S1x1x1024, .f32⟩
  | 105 => ⟨S1x2064x1024, .f32⟩
  | 106 => ⟨S1x2064x1024, .f32⟩
  | 107 => ⟨S1x2064x1024, .f32⟩
  | 108 => ⟨S1x2064x1024, .f32⟩
  | 109 => ⟨S1x1x1024, .f32⟩
  | 110 => ⟨S1024, .f32⟩
  | 111 => ⟨S1x1x1024, .f32⟩
  | 112 => ⟨S1x2064x1024, .f32⟩
  | 113 => ⟨S1x2064x1024, .f32⟩
  | 114 => ⟨S1x2064x1024, .f32⟩
  | 115 => ⟨S1x2064x1024, .f32⟩
  | 116 => ⟨S1x1x1024, .f32⟩
  | 117 => ⟨S1024, .f32⟩
  | 118 => ⟨S1x1x1024, .f32⟩
  | 119 => ⟨S1x2064x1024, .f32⟩
  | 120 => ⟨S1x2064x1024, .f32⟩
  | 121 => ⟨S1x2064x1024, .f32⟩
  | 122 => ⟨S1x2064x1024, .f32⟩
  | 123 => ⟨S1x1x1024, .f32⟩
  | 124 => ⟨S1024, .f32⟩
  | 125 => ⟨S1x1x1024, .f32⟩
  | 126 => ⟨S1x2064x1024, .f32⟩
  | 127 => ⟨S1x2064x1024, .f32⟩
  | _ => ⟨S1x2064x1024, .f32⟩

abbrev hbmTy0_1 (i : Nat) : BufTy := match i % 128 with
  | 0 => ⟨S1x2064x1024, .f32⟩
  | 1 => ⟨S1x2064x1024, .f32⟩
  | 2 => ⟨S1x1x1024, .f32⟩
  | 3 => ⟨S1024, .f32⟩
  | 4 => ⟨S1x1x1024, .f32⟩
  | 5 => ⟨S1x2064x1024, .f32⟩
  | 6 => ⟨S1x2064x1024, .f32⟩
  | 7 => ⟨S1x2064x1024, .f32⟩
  | 8 => ⟨S1x2064x1024, .f32⟩
  | 9 => ⟨S1x1x1024, .f32⟩
  | 10 => ⟨S1024, .f32⟩
  | 11 => ⟨S1x1x1024, .f32⟩
  | 12 => ⟨S1x2064x1024, .f32⟩
  | 13 => ⟨S1x2064x1024, .f32⟩
  | 14 => ⟨S1x2064x1024, .f32⟩
  | 15 => ⟨S1x2064x1024, .f32⟩
  | 16 => ⟨S1x1x1024, .f32⟩
  | 17 => ⟨S1024, .f32⟩
  | 18 => ⟨S1x1x1024, .f32⟩
  | 19 => ⟨S1x2064x1024, .f32⟩
  | 20 => ⟨S1x2064x1024, .f32⟩
  | 21 => ⟨S1x2064x1024, .f32⟩
  | 22 => ⟨S1x2064x1024, .f32⟩
  | 23 => ⟨S1x1x1024, .f32⟩
  | 24 => ⟨S1024, .f32⟩
  | 25 => ⟨S1x1x1024, .f32⟩
  | 26 => ⟨S1x2064x1024, .f32⟩
  | 27 => ⟨S1x2064x1024, .f32⟩
  | 28 => ⟨S1x2064x1024, .f32⟩
  | 29 => ⟨S1x2064x1024, .f32⟩
  | 30 => ⟨S1x1x1024, .f32⟩
  | 31 => ⟨S1024, .f32⟩
  | 32 => ⟨S1x1x1024, .f32⟩
  | 33 => ⟨S1x2064x1024, .f32⟩
  | 34 => ⟨S1x2064x1024, .f32⟩
  | 35 => ⟨S1x2064x1024, .f32⟩
  | 36 => ⟨S1x2064x1024, .f32⟩
  | 37 => ⟨S1x1x1024, .f32⟩
  | 38 => ⟨S1024, .f32⟩
  | 39 => ⟨S1x1x1024, .f32⟩
  | 40 => ⟨S1x2064x1024, .f32⟩
  | 41 => ⟨S1x2064x1024, .f32⟩
  | 42 => ⟨S1x2064x1024, .f32⟩
  | 43 => ⟨S1x2064x1024, .f32⟩
  | 44 => ⟨S1x1x1024, .f32⟩
  | 45 => ⟨S1024, .f32⟩
  | 46 => ⟨S1x1x1024, .f32⟩
  | 47 => ⟨S1x2064x1024, .f32⟩
  | 48 => ⟨S1x2064x1024, .f32⟩
  | 49 => ⟨S1x2064x1024, .f32⟩
  | 50 => ⟨S1x2064x1024, .f32⟩
  | 51 => ⟨S1x1x1024, .f32⟩
  | 52 => ⟨S1024, .f32⟩
  | 53 => ⟨S1x1x1024, .f32⟩
  | 54 => ⟨S1x2064x1024, .f32⟩
  | 55 => ⟨S1x2064x1024, .f32⟩
  | 56 => ⟨S1x2064x1024, .f32⟩
  | 57 => ⟨S1x2064x1024, .f32⟩
  | 58 => ⟨S1x1x1024, .f32⟩
  | 59 => ⟨S1024, .f32⟩
  | 60 => ⟨S1x1x1024, .f32⟩
  | 61 => ⟨S1x2064x1024, .f32⟩
  | 62 => ⟨S1x2064x1024, .f32⟩
  | 63 => ⟨S1x2064x1024, .f32⟩
  | 64 => ⟨S1x2064x1024, .f32⟩
  | 65 => ⟨S1x1x1024, .f32⟩
  | 66 => ⟨S1024, .f32⟩
  | 67 => ⟨S1x1x1024, .f32⟩
  | 68 => ⟨S1x2064x1024, .f32⟩
  | 69 => ⟨S1x2064x1024, .f32⟩
  | 70 => ⟨S1x2064x1024, .f32⟩
  | 71 => ⟨S1x2064x1024, .f32⟩
  | 72 => ⟨S1x1x1024, .f32⟩
  | 73 => ⟨S1024, .f32⟩
  | 74 => ⟨S1x1x1024, .f32⟩
  | 75 => ⟨S1x2064x1024, .f32⟩
  | 76 => ⟨S1x2064x1024, .f32⟩
  | 77 => ⟨S1x2064x1024, .f32⟩
  | 78 => ⟨S1x2064x1024, .f32⟩
  | 79 => ⟨S1x1x1024, .f32⟩
  | 80 => ⟨S1024, .f32⟩
  | 81 => ⟨S1x1x1024, .f32⟩
  | 82 => ⟨S1x2064x1024, .f32⟩
  | 83 => ⟨S1x2064x1024, .f32⟩
  | 84 => ⟨S1x2064x1024, .f32⟩
  | 85 => ⟨S1x2064x1024, .f32⟩
  | 86 => ⟨S1x1x1024, .f32⟩
  | 87 => ⟨S1024, .f32⟩
  | 88 => ⟨S1x1x1024, .f32⟩
  | 89 => ⟨S1x2064x1024, .f32⟩
  | 90 => ⟨S1x2064x1024, .f32⟩
  | 91 => ⟨S1x2064x1024, .f32⟩
  | 92 => ⟨S1x2064x1024, .f32⟩
  | 93 => ⟨S1x1x1024, .f32⟩
  | 94 => ⟨S1024, .f32⟩
  | 95 => ⟨S1x1x1024, .f32⟩
  | 96 => ⟨S1x2064x1024, .f32⟩
  | 97 => ⟨S1x2064x1024, .f32⟩
  | 98 => ⟨S1x2064x1024, .f32⟩
  | 99 => ⟨S1x2064x1024, .f32⟩
  | 100 => ⟨S1x2064x1024, .f32⟩
  | 101 => ⟨S1x2064x1024, .f32⟩
  | 102 => ⟨S_, .f32⟩
  | 103 => ⟨S1x1024, .f32⟩
  | 104 => ⟨S1x1x1024, .f32⟩
  | 105 => ⟨S1x2064x1024, .f32⟩
  | 106 => ⟨S1x2064x1024, .f32⟩
  | 107 => ⟨S_, .f32⟩
  | 108 => ⟨S1024, .f32⟩
  | 109 => ⟨S1x1x1024, .f32⟩
  | 110 => ⟨S_, .f32⟩
  | 111 => ⟨S1x31x1024, .f32⟩
  | 112 => ⟨S_, .f32⟩
  | 113 => ⟨S1x2094x1024, .f32⟩
  | 114 => ⟨S1x2064x1024, .f32⟩
  | 115 => ⟨S_, .f32⟩
  | 116 => ⟨S1x1024, .f32⟩
  | 117 => ⟨S1x1x1024, .f32⟩
  | 118 => ⟨S1x2064x1024, .f32⟩
  | 119 => ⟨S1x2064x1024, .f32⟩
  | 120 => ⟨S_, .f32⟩
  | 121 => ⟨S1024, .f32⟩
  | 122 => ⟨S1x1x1024, .f32⟩
  | 123 => ⟨S_, .f32⟩
  | 124 => ⟨S1x31x1024, .f32⟩
  | 125 => ⟨S1x31x1024, .f32⟩
  | 126 => ⟨S_, .f32⟩
  | 127 => ⟨S1x2094x1024, .f32⟩
  | _ => ⟨S1x2064x1024, .f32⟩

abbrev hbmTy0_2 (i : Nat) : BufTy := match i % 128 with
  | 0 => ⟨S1x2094x1024, .f32⟩
  | 1 => ⟨S1x2064x1024, .f32⟩
  | 2 => ⟨S_, .f32⟩
  | 3 => ⟨S1x1024, .f32⟩
  | 4 => ⟨S1x1x1024, .f32⟩
  | 5 => ⟨S1x2064x1024, .f32⟩
  | 6 => ⟨S1x2064x1024, .f32⟩
  | 7 => ⟨S_, .f32⟩
  | 8 => ⟨S1024, .f32⟩
  | 9 => ⟨S1x1x1024, .f32⟩
  | 10 => ⟨S_, .f32⟩
  | 11 => ⟨S1x31x1024, .f32⟩
  | 12 => ⟨S1x31x1024, .f32⟩
  | 13 => ⟨S_, .f32⟩
  | 14 => ⟨S1x2094x1024, .f32⟩
  | 15 => ⟨S1x2094x1024, .f32⟩
  | 16 => ⟨S1x2064x1024, .f32⟩
  | 17 => ⟨S_, .f32⟩
  | 18 => ⟨S1x1024, .f32⟩
  | 19 => ⟨S1x1x1024, .f32⟩
  | 20 => ⟨S1x2064x1024, .f32⟩
  | 21 => ⟨S1x2064x1024, .f32⟩
  | 22 => ⟨S_, .f32⟩
  | 23 => ⟨S1024, .f32⟩
  | 24 => ⟨S1x1x1024, .f32⟩
  | 25 => ⟨S_, .f32⟩
  | 26 => ⟨S1x31x1024, .f32⟩
  | 27 => ⟨S1x31x1024, .f32⟩
  | 28 => ⟨S_, .f32⟩
  | 29 => ⟨S1x2094x1024, .f32⟩
  | 30 => ⟨S1x2094x1024, .f32⟩
  | 31 => ⟨S1x2064x1024, .f32⟩
  | 32 => ⟨S_, .f32⟩
  | 33 => ⟨S1x1024, .f32⟩
  | 34 => ⟨S1x1x1024, .f32⟩
  | 35 => ⟨S1x2064x1024, .f32⟩
  | 36 => ⟨S1x2064x1024, .f32⟩
  | 37 => ⟨S_, .f32⟩
  | 38 => ⟨S1024, .f32⟩
  | 39 => ⟨S1x1x1024, .f32⟩
  | 40 => ⟨S_, .f32⟩
  | 41 => ⟨S1x31x1024, .f32⟩
  | 42 => ⟨S1x31x1024, .f32⟩
  | 43 => ⟨S_, .f32⟩
  | 44 => ⟨S1x2094x1024, .f32⟩
  | 45 => ⟨S1x2094x1024, .f32⟩
  | 46 => ⟨S1x2064x1024, .f32⟩
  | 47 => ⟨S_, .f32⟩
  | 48 => ⟨S1x1024, .f32⟩
  | 49 => ⟨S1x1x1024, .f32⟩
  | 50 => ⟨S1x2064x1024, .f32⟩
  | 51 => ⟨S1x2064x1024, .f32⟩
  | 52 => ⟨S_, .f32⟩
  | 53 => ⟨S1024, .f32⟩
  | 54 => ⟨S1x1x1024, .f32⟩
  | 55 => ⟨S_, .f32⟩
  | 56 => ⟨S1x31x1024, .f32⟩
  | 57 => ⟨S1x31x1024, .f32⟩
  | 58 => ⟨S_, .f32⟩
  | 59 => ⟨S1x2094x1024, .f32⟩
  | 60 => ⟨S1x2094x1024, .f32⟩
  | 61 => ⟨S1x2064x1024, .f32⟩
  | 62 => ⟨S_, .f32⟩
  | 63 => ⟨S1x1024, .f32⟩
  | 64 => ⟨S1x1x1024, .f32⟩
  | 65 => ⟨S1x2064x1024, .f32⟩
  | 66 => ⟨S1x2064x1024, .f32⟩
  | 67 => ⟨S_, .f32⟩
  | 68 => ⟨S1024, .f32⟩
  | 69 => ⟨S1x1x1024, .f32⟩
  | 70 => ⟨S_, .f32⟩
  | 71 => ⟨S1x31x1024, .f32⟩
  | 72 => ⟨S1x31x1024, .f32⟩
  | 73 => ⟨S_, .f32⟩
  | 74 => ⟨S1x2094x1024, .f32⟩
  | 75 => ⟨S1x2094x1024, .f32⟩
  | 76 => ⟨S1x2064x1024, .f32⟩
  | 77 => ⟨S_, .f32⟩
  | 78 => ⟨S1x1024, .f32⟩
  | 79 => ⟨S1x1x1024, .f32⟩
  | 80 => ⟨S1x2064x1024, .f32⟩
  | 81 => ⟨S1x2064x1024, .f32⟩
  | 82 => ⟨S_, .f32⟩
  | 83 => ⟨S1024, .f32⟩
  | 84 => ⟨S1x1x1024, .f32⟩
  | 85 => ⟨S_, .f32⟩
  | 86 => ⟨S1x31x1024, .f32⟩
  | 87 => ⟨S1x31x1024, .f32⟩
  | 88 => ⟨S_, .f32⟩
  | 89 => ⟨S1x2094x1024, .f32⟩
  | 90 => ⟨S1x2094x1024, .f32⟩
  | 91 => ⟨S1x2064x1024, .f32⟩
  | 92 => ⟨S_, .f32⟩
  | 93 => ⟨S1x1024, .f32⟩
  | 94 => ⟨S1x1x1024, .f32⟩
  | 95 => ⟨S1x2064x1024, .f32⟩
  | 96 => ⟨S1x2064x1024, .f32⟩
  | 97 => ⟨S_, .f32⟩
  | 98 => ⟨S1024, .f32⟩
  | 99 => ⟨S1x1x1024, .f32⟩
  | 100 => ⟨S_, .f32⟩
  | 101 => ⟨S1x31x1024, .f32⟩
  | 102 => ⟨S1x31x1024, .f32⟩
  | 103 => ⟨S_, .f32⟩
  | 104 => ⟨S1x2094x1024, .f32⟩
  | 105 => ⟨S1x2094x1024, .f32⟩
  | 106 => ⟨S1x2064x1024, .f32⟩
  | 107 => ⟨S_, .f32⟩
  | 108 => ⟨S1x1024, .f32⟩
  | 109 => ⟨S1x1x1024, .f32⟩
  | 110 => ⟨S1x2064x1024, .f32⟩
  | 111 => ⟨S1x2064x1024, .f32⟩
  | 112 => ⟨S_, .f32⟩
  | 113 => ⟨S1024, .f32⟩
  | 114 => ⟨S1x1x1024, .f32⟩
  | 115 => ⟨S_, .f32⟩
  | 116 => ⟨S1x31x1024, .f32⟩
  | 117 => ⟨S1x31x1024, .f32⟩
  | 118 => ⟨S_, .f32⟩
  | 119 => ⟨S1x2094x1024, .f32⟩
  | 120 => ⟨S1x2094x1024, .f32⟩
  | 121 => ⟨S1x2064x1024, .f32⟩
  | 122 => ⟨S_, .f32⟩
  | 123 => ⟨S1x1024, .f32⟩
  | 124 => ⟨S1x1x1024, .f32⟩
  | 125 => ⟨S1x2064x1024, .f32⟩
  | 126 => ⟨S1x2064x1024, .f32⟩
  | 127 => ⟨S_, .f32⟩
  | _ => ⟨S1x2064x1024, .f32⟩

abbrev hbmTy0_3 (i : Nat) : BufTy := match i % 128 with
  | 0 => ⟨S1024, .f32⟩
  | 1 => ⟨S1x1x1024, .f32⟩
  | 2 => ⟨S_, .f32⟩
  | 3 => ⟨S1x31x1024, .f32⟩
  | 4 => ⟨S1x31x1024, .f32⟩
  | 5 => ⟨S_, .f32⟩
  | 6 => ⟨S1x2094x1024, .f32⟩
  | 7 => ⟨S1x2094x1024, .f32⟩
  | 8 => ⟨S1x2064x1024, .f32⟩
  | 9 => ⟨S_, .f32⟩
  | 10 => ⟨S1x1024, .f32⟩
  | 11 => ⟨S1x1x1024, .f32⟩
  | 12 => ⟨S1x2064x1024, .f32⟩
  | 13 => ⟨S1x2064x1024, .f32⟩
  | 14 => ⟨S_, .f32⟩
  | 15 => ⟨S1024, .f32⟩
  | 16 => ⟨S1x1x1024, .f32⟩
  | 17 => ⟨S_, .f32⟩
  | 18 => ⟨S1x31x1024, .f32⟩
  | 19 => ⟨S1x31x1024, .f32⟩
  | 20 => ⟨S_, .f32⟩
  | 21 => ⟨S1x2094x1024, .f32⟩
  | 22 => ⟨S1x2094x1024, .f32⟩
  | 23 => ⟨S1x2064x1024, .f32⟩
  | 24 => ⟨S_, .f32⟩
  | 25 => ⟨S1x1024, .f32⟩
  | 26 => ⟨S1x1x1024, .f32⟩
  | 27 => ⟨S1x2064x1024, .f32⟩
  | 28 => ⟨S1x2064x1024, .f32⟩
  | 29 => ⟨S_, .f32⟩
  | 30 => ⟨S1024, .f32⟩
  | 31 => ⟨S1x1x1024, .f32⟩
  | 32 => ⟨S_, .f32⟩
  | 33 => ⟨S1x31x1024, .f32⟩
  | 34 => ⟨S1x31x1024, .f32⟩
  | 35 => ⟨S_, .f32⟩
  | 36 => ⟨S1x2094x1024, .f32⟩
  | 37 => ⟨S1x2094x1024, .f32⟩
  | 38 => ⟨S1x2064x1024, .f32⟩
  | 39 => ⟨S_, .f32⟩
  | 40 => ⟨S1x1024, .f32⟩
  | 41 => ⟨S1x1x1024, .f32⟩
  | 42 => ⟨S1x2064x1024, .f32⟩
  | 43 => ⟨S1x2064x1024, .f32⟩
  | 44 => ⟨S_, .f32⟩
  | 45 => ⟨S1024, .f32⟩
  | 46 => ⟨S1x1x1024, .f32⟩
  | 47 => ⟨S_, .f32⟩
  | 48 => ⟨S1x31x1024, .f32⟩
  | 49 => ⟨S1x31x1024, .f32⟩
  | 50 => ⟨S_, .f32⟩
  | 51 => ⟨S1x2094x1024, .f32⟩
  | 52 => ⟨S1x2094x1024, .f32⟩
  | 53 => ⟨S1x2064x1024, .f32⟩
  | 54 => ⟨S_, .f32⟩
  | 55 => ⟨S1x1024, .f32⟩
  | 56 => ⟨S1x1x1024, .f32⟩
  | 57 => ⟨S1x2064x1024, .f32⟩
  | 58 => ⟨S1x2064x1024, .f32⟩
  | 59 => ⟨S_, .f32⟩
  | 60 => ⟨S1024, .f32⟩
  | 61 => ⟨S1x1x1024, .f32⟩
  | 62 => ⟨S_, .f32⟩
  | 63 => ⟨S1x31x1024, .f32⟩
  | 64 => ⟨S1x31x1024, .f32⟩
  | 65 => ⟨S_, .f32⟩
  | 66 => ⟨S1x2094x1024, .f32⟩
  | 67 => ⟨S1x2094x1024, .f32⟩
  | 68 => ⟨S1x2064x1024, .f32⟩
  | 69 => ⟨S_, .f32⟩
  | 70 => ⟨S1x1024, .f32⟩
  | 71 => ⟨S1x1x1024, .f32⟩
  | 72 => ⟨S1x2064x1024, .f32⟩
  | 73 => ⟨S1x2064x1024, .f32⟩
  | 74 => ⟨S_, .f32⟩
  | 75 => ⟨S1024, .f32⟩
  | 76 => ⟨S1x1x1024, .f32⟩
  | 77 => ⟨S_, .f32⟩
  | 78 => ⟨S1x31x1024, .f32⟩
  | 79 => ⟨S1x31x1024, .f32⟩
  | 80 => ⟨S_, .f32⟩
  | 81 => ⟨S1x2094x1024, .f32⟩
  | 82 => ⟨S1x2094x1024, .f32⟩
  | 83 => ⟨S1x2064x1024, .f32⟩
  | 84 => ⟨S_, .f32⟩
  | 85 => ⟨S1x1024, .f32⟩
  | 86 => ⟨S1x1x1024, .f32⟩
  | 87 => ⟨S1x2064x1024, .f32⟩
  | 88 => ⟨S1x2064x1024, .f32⟩
  | 89 => ⟨S_, .f32⟩
  | 90 => ⟨S1024, .f32⟩
  | 91 => ⟨S1x1x1024, .f32⟩
  | 92 => ⟨S_, .f32⟩
  | 93 => ⟨S1x31x1024, .f32⟩
  | 94 => ⟨S1x31x1024, .f32⟩
  | 95 => ⟨S_, .f32⟩
  | 96 => ⟨S1x2094x1024, .f32⟩
  | 97 => ⟨S1x2094x1024, .f32⟩
  | 98 => ⟨S1x2064x1024, .f32⟩
  | 99 => ⟨S_, .f32⟩
  | 100 => ⟨S1x1024, .f32⟩
  | 101 => ⟨S1x1x1024, .f32⟩
  | 102 => ⟨S1x2064x1024, .f32⟩
  | 103 => ⟨S1x2064x1024, .f32⟩
  | 104 => ⟨S_, .f32⟩
  | 105 => ⟨S1024, .f32⟩
  | 106 => ⟨S1x1x1024, .f32⟩
  | 107 => ⟨S_, .f32⟩
  | 108 => ⟨S1x31x1024, .f32⟩
  | 109 => ⟨S1x31x1024, .f32⟩
  | 110 => ⟨S_, .f32⟩
  | 111 => ⟨S1x2094x1024, .f32⟩
  | 112 => ⟨S1x2094x1024, .f32⟩
  | 113 => ⟨S1x2064x1024, .f32⟩
  | 114 => ⟨S_, .f32⟩
  | 115 => ⟨S1x1024, .f32⟩
  | 116 => ⟨S1x1x1024, .f32⟩
  | 117 => ⟨S1x2064x1024, .f32⟩
  | 118 => ⟨S1x2064x1024, .f32⟩
  | 119 => ⟨S_, .f32⟩
  | 120 => ⟨S1024, .f32⟩
  | 121 => ⟨S1x1x1024, .f32⟩
  | 122 => ⟨S_, .f32⟩
  | 123 => ⟨S1x31x1024, .f32⟩
  | 124 => ⟨S1x31x1024, .f32⟩
  | 125 => ⟨S_, .f32⟩
  | 126 => ⟨S1x2094x1024, .f32⟩
  | 127 => ⟨S1x2094x1024, .f32⟩
  | _ => ⟨S1x2064x1024, .f32⟩

abbrev hbmTy0_4 (i : Nat) : BufTy := match i % 128 with
  | 0 => ⟨S1x2064x1024, .f32⟩
  | 1 => ⟨S_, .f32⟩
  | 2 => ⟨S1x1024, .f32⟩
  | 3 => ⟨S1x1x1024, .f32⟩
  | 4 => ⟨S1x2064x1024, .f32⟩
  | 5 => ⟨S1x2064x1024, .f32⟩
  | 6 => ⟨S_, .f32⟩
  | 7 => ⟨S1024, .f32⟩
  | 8 => ⟨S1x1x1024, .f32⟩
  | 9 => ⟨S_, .f32⟩
  | 10 => ⟨S1x31x1024, .f32⟩
  | 11 => ⟨S1x31x1024, .f32⟩
  | 12 => ⟨S_, .f32⟩
  | 13 => ⟨S1x2094x1024, .f32⟩
  | 14 => ⟨S1x2094x1024, .f32⟩
  | 15 => ⟨S1x2064x1024, .f32⟩
  | 16 => ⟨S_, .f32⟩
  | 17 => ⟨S1x1024, .f32⟩
  | 18 => ⟨S1x1x1024, .f32⟩
  | 19 => ⟨S1x2064x1024, .f32⟩
  | 20 => ⟨S1x2064x1024, .f32⟩
  | 21 => ⟨S_, .f32⟩
  | 22 => ⟨S1024, .f32⟩
  | 23 => ⟨S1x1x1024, .f32⟩
  | 24 => ⟨S_, .f32⟩
  | 25 => ⟨S1x31x1024, .f32⟩
  | 26 => ⟨S1x31x1024, .f32⟩
  | 27 => ⟨S_, .f32⟩
  | 28 => ⟨S1x2094x1024, .f32⟩
  | 29 => ⟨S1x2094x1024, .f32⟩
  | 30 => ⟨S1x2064x1024, .f32⟩
  | 31 => ⟨S_, .f32⟩
  | 32 => ⟨S1x1024, .f32⟩
  | 33 => ⟨S1x1x1024, .f32⟩
  | 34 => ⟨S1x2064x1024, .f32⟩
  | 35 => ⟨S1x2064x1024, .f32⟩
  | 36 => ⟨S_, .f32⟩
  | 37 => ⟨S1024, .f32⟩
  | 38 => ⟨S1x1x1024, .f32⟩
  | 39 => ⟨S_, .f32⟩
  | 40 => ⟨S1x31x1024, .f32⟩
  | 41 => ⟨S1x31x1024, .f32⟩
  | 42 => ⟨S_, .f32⟩
  | 43 => ⟨S1x2094x1024, .f32⟩
  | 44 => ⟨S1x2094x1024, .f32⟩
  | 45 => ⟨S1x2064x1024, .f32⟩
  | 46 => ⟨S_, .f32⟩
  | 47 => ⟨S1x1024, .f32⟩
  | 48 => ⟨S1x1x1024, .f32⟩
  | 49 => ⟨S1x2064x1024, .f32⟩
  | 50 => ⟨S1x2064x1024, .f32⟩
  | 51 => ⟨S_, .f32⟩
  | 52 => ⟨S1024, .f32⟩
  | 53 => ⟨S1x1x1024, .f32⟩
  | 54 => ⟨S_, .f32⟩
  | 55 => ⟨S1x31x1024, .f32⟩
  | 56 => ⟨S1x31x1024, .f32⟩
  | 57 => ⟨S_, .f32⟩
  | 58 => ⟨S1x2094x1024, .f32⟩
  | 59 => ⟨S1x2094x1024, .f32⟩
  | 60 => ⟨S1x2064x1024, .f32⟩
  | 61 => ⟨S_, .f32⟩
  | 62 => ⟨S1x1024, .f32⟩
  | 63 => ⟨S1x1x1024, .f32⟩
  | 64 => ⟨S1x2064x1024, .f32⟩
  | 65 => ⟨S1x2064x1024, .f32⟩
  | 66 => ⟨S_, .f32⟩
  | 67 => ⟨S1024, .f32⟩
  | 68 => ⟨S1x1x1024, .f32⟩
  | 69 => ⟨S_, .f32⟩
  | 70 => ⟨S1x31x1024, .f32⟩
  | 71 => ⟨S1x31x1024, .f32⟩
  | 72 => ⟨S_, .f32⟩
  | 73 => ⟨S1x2094x1024, .f32⟩
  | 74 => ⟨S1x2094x1024, .f32⟩
  | 75 => ⟨S1x2064x1024, .f32⟩
  | 76 => ⟨S_, .f32⟩
  | 77 => ⟨S1x1024, .f32⟩
  | 78 => ⟨S1x1x1024, .f32⟩
  | 79 => ⟨S1x2064x1024, .f32⟩
  | 80 => ⟨S1x2064x1024, .f32⟩
  | 81 => ⟨S_, .f32⟩
  | 82 => ⟨S1024, .f32⟩
  | 83 => ⟨S1x1x1024, .f32⟩
  | 84 => ⟨S_, .f32⟩
  | 85 => ⟨S1x31x1024, .f32⟩
  | 86 => ⟨S1x31x1024, .f32⟩
  | 87 => ⟨S_, .f32⟩
  | 88 => ⟨S1x2094x1024, .f32⟩
  | 89 => ⟨S1x2094x1024, .f32⟩
  | 90 => ⟨S1x2064x1024, .f32⟩
  | 91 => ⟨S_, .f32⟩
  | 92 => ⟨S1x1024, .f32⟩
  | 93 => ⟨S1x1x1024, .f32⟩
  | 94 => ⟨S1x2064x1024, .f32⟩
  | 95 => ⟨S1x2064x1024, .f32⟩
  | 96 => ⟨S_, .f32⟩
  | 97 => ⟨S1024, .f32⟩
  | 98 => ⟨S1x1x1024, .f32⟩
  | 99 => ⟨S_, .f32⟩
  | 100 => ⟨S1x31x1024, .f32⟩
  | 101 => ⟨S1x31x1024, .f32⟩
  | 102 => ⟨S_, .f32⟩
  | 103 => ⟨S1x2094x1024, .f32⟩
  | 104 => ⟨S1x2094x1024, .f32⟩
  | 105 => ⟨S1x2064x1024, .f32⟩
  | 106 => ⟨S_, .f32⟩
  | 107 => ⟨S1x1024, .f32⟩
  | 108 => ⟨S1x1x1024, .f32⟩
  | 109 => ⟨S1x2064x1024, .f32⟩
  | 110 => ⟨S1x2064x1024, .f32⟩
  | 111 => ⟨S_, .f32⟩
  | 112 => ⟨S1024, .f32⟩
  | 113 => ⟨S1x1x1024, .f32⟩
  | 114 => ⟨S_, .f32⟩
  | 115 => ⟨S1x31x1024, .f32⟩
  | 116 => ⟨S1x31x1024, .f32⟩
  | 117 => ⟨S_, .f32⟩
  | 118 => ⟨S1x2094x1024, .f32⟩
  | 119 => ⟨S1x2094x1024, .f32⟩
  | 120 => ⟨S1x2064x1024, .f32⟩
  | 121 => ⟨S_, .f32⟩
  | 122 => ⟨S1x1024, .f32⟩
  | 123 => ⟨S1x1x1024, .f32⟩
  | 124 => ⟨S1x2064x1024, .f32⟩
  | 125 => ⟨S1x2064x1024, .f32⟩
  | 126 => ⟨S_, .f32⟩
  | 127 => ⟨S1024, .f32⟩
  | _ => ⟨S1x2064x1024, .f32⟩

abbrev hbmTy0_5 (i : Nat) : BufTy := match i % 128 with
  | 0 => ⟨S1x1x1024, .f32⟩
  | 1 => ⟨S_, .f32⟩
  | 2 => ⟨S1x31x1024, .f32⟩
  | 3 => ⟨S1x31x1024, .f32⟩
  | 4 => ⟨S_, .f32⟩
  | 5 => ⟨S1x2094x1024, .f32⟩
  | 6 => ⟨S1x2094x1024, .f32⟩
  | 7 => ⟨S1x2064x1024, .f32⟩
  | 8 => ⟨S_, .f32⟩
  | 9 => ⟨S1x1024, .f32⟩
  | 10 => ⟨S1x1x1024, .f32⟩
  | 11 => ⟨S1x2064x1024, .f32⟩
  | 12 => ⟨S1x2064x1024, .f32⟩
  | 13 => ⟨S_, .f32⟩
  | 14 => ⟨S1024, .f32⟩
  | 15 => ⟨S1x1x1024, .f32⟩
  | 16 => ⟨S_, .f32⟩
  | 17 => ⟨S1x31x1024, .f32⟩
  | 18 => ⟨S1x31x1024, .f32⟩
  | 19 => ⟨S_, .f32⟩
  | 20 => ⟨S1x2094x1024, .f32⟩
  | 21 => ⟨S1x2094x1024, .f32⟩
  | 22 => ⟨S1x2064x1024, .f32⟩
  | 23 => ⟨S_, .f32⟩
  | 24 => ⟨S1x1024, .f32⟩
  | 25 => ⟨S1x1x1024, .f32⟩
  | 26 => ⟨S1x2064x1024, .f32⟩
  | 27 => ⟨S1x2064x1024, .f32⟩
  | 28 => ⟨S_, .f32⟩
  | 29 => ⟨S1024, .f32⟩
  | 30 => ⟨S1x1x1024, .f32⟩
  | 31 => ⟨S_, .f32⟩
  | 32 => ⟨S1x31x1024, .f32⟩
  | 33 => ⟨S1x31x1024, .f32⟩
  | 34 => ⟨S_, .f32⟩
  | 35 => ⟨S1x2094x1024, .f32⟩
  | 36 => ⟨S1x2094x1024, .f32⟩
  | 37 => ⟨S1x2064x1024, .f32⟩
  | 38 => ⟨S_, .f32⟩
  | 39 => ⟨S1x1024, .f32⟩
  | 40 => ⟨S1x1x1024, .f32⟩
  | 41 => ⟨S1x2064x1024, .f32⟩
  | 42 => ⟨S1x2064x1024, .f32⟩
  | 43 => ⟨S_, .f32⟩
  | 44 => ⟨S1024, .f32⟩
  | 45 => ⟨S1x1x1024, .f32⟩
  | 46 => ⟨S_, .f32⟩
  | 47 => ⟨S1x31x1024, .f32⟩
  | 48 => ⟨S1x31x1024, .f32⟩
  | 49 => ⟨S_, .f32⟩
  | 50 => ⟨S1x2094x1024, .f32⟩
  | 51 => ⟨S1x2094x1024, .f32⟩
  | 52 => ⟨S1x30x1024, .f32⟩
  | 53 => ⟨S1x2064x1024, .f32⟩
  | 54 => ⟨S31x1024, .f32⟩
  | _ => ⟨S1x2064x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x2064x1024, .f32⟩

abbrev bufTy : (tb : Table) → Fin (tcTables nBuf tb) → BufTy
  | .hbm, ⟨i, _⟩ => hbmTy i
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_cst_2 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_cst_3 : Ref sig .tc := ⟨.hbm, 235, rfl⟩
abbrev main_v228 : Ref sig .tc := ⟨.hbm, 236, rfl⟩
abbrev main_v229 : Ref sig .tc := ⟨.hbm, 237, rfl⟩
abbrev main_cst_4 : Ref sig .tc := ⟨.hbm, 238, rfl⟩
abbrev main_v230 : Ref sig .tc := ⟨.hbm, 239, rfl⟩
abbrev main_cst_5 : Ref sig .tc := ⟨.hbm, 240, rfl⟩
abbrev main_v231 : Ref sig .tc := ⟨.hbm, 241, rfl⟩
abbrev main_v232 : Ref sig .tc := ⟨.hbm, 242, rfl⟩
abbrev main_cst_6 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_7 : Ref sig .tc := ⟨.hbm, 248, rfl⟩
abbrev main_v237 : Ref sig .tc := ⟨.hbm, 249, rfl⟩
abbrev main_v238 : Ref sig .tc := ⟨.hbm, 250, rfl⟩
abbrev main_cst_8 : Ref sig .tc := ⟨.hbm, 251, rfl⟩
abbrev main_v239 : Ref sig .tc := ⟨.hbm, 252, rfl⟩
abbrev main_v240 : Ref sig .tc := ⟨.hbm, 253, rfl⟩
abbrev main_cst_9 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_10 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_11 : Ref sig .tc := ⟨.hbm, 263, rfl⟩
abbrev main_v248 : Ref sig .tc := ⟨.hbm, 264, rfl⟩
abbrev main_v249 : Ref sig .tc := ⟨.hbm, 265, rfl⟩
abbrev main_cst_12 : Ref sig .tc := ⟨.hbm, 266, rfl⟩
abbrev main_v250 : Ref sig .tc := ⟨.hbm, 267, rfl⟩
abbrev main_v251 : Ref sig .tc := ⟨.hbm, 268, rfl⟩
abbrev main_cst_13 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_14 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_cst_15 : Ref sig .tc := ⟨.hbm, 278, rfl⟩
abbrev main_v259 : Ref sig .tc := ⟨.hbm, 279, rfl⟩
abbrev main_v260 : Ref sig .tc := ⟨.hbm, 280, rfl⟩
abbrev main_cst_16 : Ref sig .tc := ⟨.hbm, 281, rfl⟩
abbrev main_v261 : Ref sig .tc := ⟨.hbm, 282, rfl⟩
abbrev main_v262 : Ref sig .tc := ⟨.hbm, 283, rfl⟩
abbrev main_cst_17 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_cst_18 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_cst_19 : Ref sig .tc := ⟨.hbm, 293, rfl⟩
abbrev main_v270 : Ref sig .tc := ⟨.hbm, 294, rfl⟩
abbrev main_v271 : Ref sig .tc := ⟨.hbm, 295, rfl⟩
abbrev main_cst_20 : Ref sig .tc := ⟨.hbm, 296, rfl⟩
abbrev main_v272 : Ref sig .tc := ⟨.hbm, 297, rfl⟩
abbrev main_v273 : Ref sig .tc := ⟨.hbm, 298, rfl⟩
abbrev main_cst_21 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_cst_22 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_cst_23 : Ref sig .tc := ⟨.hbm, 308, rfl⟩
abbrev main_v281 : Ref sig .tc := ⟨.hbm, 309, rfl⟩
abbrev main_v282 : Ref sig .tc := ⟨.hbm, 310, rfl⟩
abbrev main_cst_24 : Ref sig .tc := ⟨.hbm, 311, rfl⟩
abbrev main_v283 : Ref sig .tc := ⟨.hbm, 312, rfl⟩
abbrev main_v284 : Ref sig .tc := ⟨.hbm, 313, rfl⟩
abbrev main_cst_25 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_cst_26 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_cst_27 : Ref sig .tc := ⟨.hbm, 323, rfl⟩
abbrev main_v292 : Ref sig .tc := ⟨.hbm, 324, rfl⟩
abbrev main_v293 : Ref sig .tc := ⟨.hbm, 325, rfl⟩
abbrev main_cst_28 : Ref sig .tc := ⟨.hbm, 326, rfl⟩
abbrev main_v294 : Ref sig .tc := ⟨.hbm, 327, rfl⟩
abbrev main_v295 : Ref sig .tc := ⟨.hbm, 328, rfl⟩
abbrev main_cst_29 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_cst_30 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_31 : Ref sig .tc := ⟨.hbm, 338, rfl⟩
abbrev main_v303 : Ref sig .tc := ⟨.hbm, 339, rfl⟩
abbrev main_v304 : Ref sig .tc := ⟨.hbm, 340, rfl⟩
abbrev main_cst_32 : Ref sig .tc := ⟨.hbm, 341, rfl⟩
abbrev main_v305 : Ref sig .tc := ⟨.hbm, 342, rfl⟩
abbrev main_v306 : Ref sig .tc := ⟨.hbm, 343, rfl⟩
abbrev main_cst_33 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_cst_34 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_cst_35 : Ref sig .tc := ⟨.hbm, 353, rfl⟩
abbrev main_v314 : Ref sig .tc := ⟨.hbm, 354, rfl⟩
abbrev main_v315 : Ref sig .tc := ⟨.hbm, 355, rfl⟩
abbrev main_cst_36 : Ref sig .tc := ⟨.hbm, 356, rfl⟩
abbrev main_v316 : Ref sig .tc := ⟨.hbm, 357, rfl⟩
abbrev main_v317 : Ref sig .tc := ⟨.hbm, 358, rfl⟩
abbrev main_cst_37 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_cst_38 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_cst_39 : Ref sig .tc := ⟨.hbm, 368, rfl⟩
abbrev main_v325 : Ref sig .tc := ⟨.hbm, 369, rfl⟩
abbrev main_v326 : Ref sig .tc := ⟨.hbm, 370, rfl⟩
abbrev main_cst_40 : Ref sig .tc := ⟨.hbm, 371, rfl⟩
abbrev main_v327 : Ref sig .tc := ⟨.hbm, 372, rfl⟩
abbrev main_v328 : Ref sig .tc := ⟨.hbm, 373, rfl⟩
abbrev main_cst_41 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_cst_42 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_cst_43 : Ref sig .tc := ⟨.hbm, 383, rfl⟩
abbrev main_v336 : Ref sig .tc := ⟨.hbm, 384, rfl⟩
abbrev main_v337 : Ref sig .tc := ⟨.hbm, 385, rfl⟩
abbrev main_cst_44 : Ref sig .tc := ⟨.hbm, 386, rfl⟩
abbrev main_v338 : Ref sig .tc := ⟨.hbm, 387, rfl⟩
abbrev main_v339 : Ref sig .tc := ⟨.hbm, 388, rfl⟩
abbrev main_cst_45 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_cst_46 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_cst_47 : Ref sig .tc := ⟨.hbm, 398, rfl⟩
abbrev main_v347 : Ref sig .tc := ⟨.hbm, 399, rfl⟩
abbrev main_v348 : Ref sig .tc := ⟨.hbm, 400, rfl⟩
abbrev main_cst_48 : Ref sig .tc := ⟨.hbm, 401, rfl⟩
abbrev main_v349 : Ref sig .tc := ⟨.hbm, 402, rfl⟩
abbrev main_v350 : Ref sig .tc := ⟨.hbm, 403, rfl⟩
abbrev main_cst_49 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_cst_50 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_cst_51 : Ref sig .tc := ⟨.hbm, 413, rfl⟩
abbrev main_v358 : Ref sig .tc := ⟨.hbm, 414, rfl⟩
abbrev main_v359 : Ref sig .tc := ⟨.hbm, 415, rfl⟩
abbrev main_cst_52 : Ref sig .tc := ⟨.hbm, 416, rfl⟩
abbrev main_v360 : Ref sig .tc := ⟨.hbm, 417, rfl⟩
abbrev main_v361 : Ref sig .tc := ⟨.hbm, 418, rfl⟩
abbrev main_cst_53 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_cst_54 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_v368 : Ref sig .tc := ⟨.hbm, 427, rfl⟩
abbrev main_cst_55 : Ref sig .tc := ⟨.hbm, 428, rfl⟩
abbrev main_v369 : Ref sig .tc := ⟨.hbm, 429, rfl⟩
abbrev main_v370 : Ref sig .tc := ⟨.hbm, 430, rfl⟩
abbrev main_cst_56 : Ref sig .tc := ⟨.hbm, 431, rfl⟩
abbrev main_v371 : Ref sig .tc := ⟨.hbm, 432, rfl⟩
abbrev main_v372 : Ref sig .tc := ⟨.hbm, 433, rfl⟩
abbrev main_cst_57 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_cst_58 : Ref sig .tc := ⟨.hbm, 438, rfl⟩
abbrev main_v376 : Ref sig .tc := ⟨.hbm, 439, rfl⟩
abbrev main_v377 : Ref sig .tc := ⟨.hbm, 440, rfl⟩
abbrev main_v378 : Ref sig .tc := ⟨.hbm, 441, rfl⟩
abbrev main_v379 : Ref sig .tc := ⟨.hbm, 442, rfl⟩
abbrev main_cst_59 : Ref sig .tc := ⟨.hbm, 443, rfl⟩
abbrev main_v380 : Ref sig .tc := ⟨.hbm, 444, rfl⟩
abbrev main_v381 : Ref sig .tc := ⟨.hbm, 445, rfl⟩
abbrev main_cst_60 : Ref sig .tc := ⟨.hbm, 446, rfl⟩
abbrev main_v382 : Ref sig .tc := ⟨.hbm, 447, rfl⟩
abbrev main_v383 : Ref sig .tc := ⟨.hbm, 448, rfl⟩
abbrev main_cst_61 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_cst_62 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_cst_63 : Ref sig .tc := ⟨.hbm, 458, rfl⟩
abbrev main_v391 : Ref sig .tc := ⟨.hbm, 459, rfl⟩
abbrev main_v392 : Ref sig .tc := ⟨.hbm, 460, rfl⟩
abbrev main_cst_64 : Ref sig .tc := ⟨.hbm, 461, rfl⟩
abbrev main_v393 : Ref sig .tc := ⟨.hbm, 462, rfl⟩
abbrev main_v394 : Ref sig .tc := ⟨.hbm, 463, rfl⟩
abbrev main_cst_65 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_cst_66 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_cst_67 : Ref sig .tc := ⟨.hbm, 473, rfl⟩
abbrev main_v402 : Ref sig .tc := ⟨.hbm, 474, rfl⟩
abbrev main_v403 : Ref sig .tc := ⟨.hbm, 475, rfl⟩
abbrev main_cst_68 : Ref sig .tc := ⟨.hbm, 476, rfl⟩
abbrev main_v404 : Ref sig .tc := ⟨.hbm, 477, rfl⟩
abbrev main_v405 : Ref sig .tc := ⟨.hbm, 478, rfl⟩
abbrev main_cst_69 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_cst_70 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_cst_71 : Ref sig .tc := ⟨.hbm, 488, rfl⟩
abbrev main_v413 : Ref sig .tc := ⟨.hbm, 489, rfl⟩
abbrev main_v414 : Ref sig .tc := ⟨.hbm, 490, rfl⟩
abbrev main_cst_72 : Ref sig .tc := ⟨.hbm, 491, rfl⟩
abbrev main_v415 : Ref sig .tc := ⟨.hbm, 492, rfl⟩
abbrev main_v416 : Ref sig .tc := ⟨.hbm, 493, rfl⟩
abbrev main_cst_73 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_cst_74 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_cst_75 : Ref sig .tc := ⟨.hbm, 503, rfl⟩
abbrev main_v424 : Ref sig .tc := ⟨.hbm, 504, rfl⟩
abbrev main_v425 : Ref sig .tc := ⟨.hbm, 505, rfl⟩
abbrev main_cst_76 : Ref sig .tc := ⟨.hbm, 506, rfl⟩
abbrev main_v426 : Ref sig .tc := ⟨.hbm, 507, rfl⟩
abbrev main_v427 : Ref sig .tc := ⟨.hbm, 508, rfl⟩
abbrev main_cst_77 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_cst_78 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_cst_79 : Ref sig .tc := ⟨.hbm, 518, rfl⟩
abbrev main_v435 : Ref sig .tc := ⟨.hbm, 519, rfl⟩
abbrev main_v436 : Ref sig .tc := ⟨.hbm, 520, rfl⟩
abbrev main_cst_80 : Ref sig .tc := ⟨.hbm, 521, rfl⟩
abbrev main_v437 : Ref sig .tc := ⟨.hbm, 522, rfl⟩
abbrev main_v438 : Ref sig .tc := ⟨.hbm, 523, rfl⟩
abbrev main_cst_81 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_cst_82 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_cst_83 : Ref sig .tc := ⟨.hbm, 533, rfl⟩
abbrev main_v446 : Ref sig .tc := ⟨.hbm, 534, rfl⟩
abbrev main_v447 : Ref sig .tc := ⟨.hbm, 535, rfl⟩
abbrev main_cst_84 : Ref sig .tc := ⟨.hbm, 536, rfl⟩
abbrev main_v448 : Ref sig .tc := ⟨.hbm, 537, rfl⟩
abbrev main_v449 : Ref sig .tc := ⟨.hbm, 538, rfl⟩
abbrev main_cst_85 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_cst_86 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_cst_87 : Ref sig .tc := ⟨.hbm, 548, rfl⟩
abbrev main_v457 : Ref sig .tc := ⟨.hbm, 549, rfl⟩
abbrev main_v458 : Ref sig .tc := ⟨.hbm, 550, rfl⟩
abbrev main_cst_88 : Ref sig .tc := ⟨.hbm, 551, rfl⟩
abbrev main_v459 : Ref sig .tc := ⟨.hbm, 552, rfl⟩
abbrev main_v460 : Ref sig .tc := ⟨.hbm, 553, rfl⟩
abbrev main_cst_89 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_cst_90 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_v467 : Ref sig .tc := ⟨.hbm, 562, rfl⟩
abbrev main_cst_91 : Ref sig .tc := ⟨.hbm, 563, rfl⟩
abbrev main_v468 : Ref sig .tc := ⟨.hbm, 564, rfl⟩
abbrev main_v469 : Ref sig .tc := ⟨.hbm, 565, rfl⟩
abbrev main_cst_92 : Ref sig .tc := ⟨.hbm, 566, rfl⟩
abbrev main_v470 : Ref sig .tc := ⟨.hbm, 567, rfl⟩
abbrev main_v471 : Ref sig .tc := ⟨.hbm, 568, rfl⟩
abbrev main_cst_93 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_cst_94 : Ref sig .tc := ⟨.hbm, 573, rfl⟩
abbrev main_v475 : Ref sig .tc := ⟨.hbm, 574, rfl⟩
abbrev main_v476 : Ref sig .tc := ⟨.hbm, 575, rfl⟩
abbrev main_v477 : Ref sig .tc := ⟨.hbm, 576, rfl⟩
abbrev main_v478 : Ref sig .tc := ⟨.hbm, 577, rfl⟩
abbrev main_cst_95 : Ref sig .tc := ⟨.hbm, 578, rfl⟩
abbrev main_v479 : Ref sig .tc := ⟨.hbm, 579, rfl⟩
abbrev main_v480 : Ref sig .tc := ⟨.hbm, 580, rfl⟩
abbrev main_cst_96 : Ref sig .tc := ⟨.hbm, 581, rfl⟩
abbrev main_v481 : Ref sig .tc := ⟨.hbm, 582, rfl⟩
abbrev main_v482 : Ref sig .tc := ⟨.hbm, 583, rfl⟩
abbrev main_cst_97 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_cst_98 : Ref sig .tc := ⟨.hbm, 588, rfl⟩
abbrev main_v486 : Ref sig .tc := ⟨.hbm, 589, rfl⟩
abbrev main_v487 : Ref sig .tc := ⟨.hbm, 590, rfl⟩
abbrev main_v488 : Ref sig .tc := ⟨.hbm, 591, rfl⟩
abbrev main_v489 : Ref sig .tc := ⟨.hbm, 592, rfl⟩
abbrev main_cst_99 : Ref sig .tc := ⟨.hbm, 593, rfl⟩
abbrev main_v490 : Ref sig .tc := ⟨.hbm, 594, rfl⟩
abbrev main_v491 : Ref sig .tc := ⟨.hbm, 595, rfl⟩
abbrev main_cst_100 : Ref sig .tc := ⟨.hbm, 596, rfl⟩
abbrev main_v492 : Ref sig .tc := ⟨.hbm, 597, rfl⟩
abbrev main_v493 : Ref sig .tc := ⟨.hbm, 598, rfl⟩
abbrev main_cst_101 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_cst_102 : Ref sig .tc := ⟨.hbm, 603, rfl⟩
abbrev main_v497 : Ref sig .tc := ⟨.hbm, 604, rfl⟩
abbrev main_v498 : Ref sig .tc := ⟨.hbm, 605, rfl⟩
abbrev main_v499 : Ref sig .tc := ⟨.hbm, 606, rfl⟩
abbrev main_v500 : Ref sig .tc := ⟨.hbm, 607, rfl⟩
abbrev main_cst_103 : Ref sig .tc := ⟨.hbm, 608, rfl⟩
abbrev main_v501 : Ref sig .tc := ⟨.hbm, 609, rfl⟩
abbrev main_v502 : Ref sig .tc := ⟨.hbm, 610, rfl⟩
abbrev main_cst_104 : Ref sig .tc := ⟨.hbm, 611, rfl⟩
abbrev main_v503 : Ref sig .tc := ⟨.hbm, 612, rfl⟩
abbrev main_v504 : Ref sig .tc := ⟨.hbm, 613, rfl⟩
abbrev main_cst_105 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_cst_106 : Ref sig .tc := ⟨.hbm, 618, rfl⟩
abbrev main_v508 : Ref sig .tc := ⟨.hbm, 619, rfl⟩
abbrev main_v509 : Ref sig .tc := ⟨.hbm, 620, rfl⟩
abbrev main_v510 : Ref sig .tc := ⟨.hbm, 621, rfl⟩
abbrev main_v511 : Ref sig .tc := ⟨.hbm, 622, rfl⟩
abbrev main_cst_107 : Ref sig .tc := ⟨.hbm, 623, rfl⟩
abbrev main_v512 : Ref sig .tc := ⟨.hbm, 624, rfl⟩
abbrev main_v513 : Ref sig .tc := ⟨.hbm, 625, rfl⟩
abbrev main_cst_108 : Ref sig .tc := ⟨.hbm, 626, rfl⟩
abbrev main_v514 : Ref sig .tc := ⟨.hbm, 627, rfl⟩
abbrev main_v515 : Ref sig .tc := ⟨.hbm, 628, rfl⟩
abbrev main_cst_109 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_110 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_cst_111 : Ref sig .tc := ⟨.hbm, 638, rfl⟩
abbrev main_v523 : Ref sig .tc := ⟨.hbm, 639, rfl⟩
abbrev main_v524 : Ref sig .tc := ⟨.hbm, 640, rfl⟩
abbrev main_cst_112 : Ref sig .tc := ⟨.hbm, 641, rfl⟩
abbrev main_v525 : Ref sig .tc := ⟨.hbm, 642, rfl⟩
abbrev main_v526 : Ref sig .tc := ⟨.hbm, 643, rfl⟩
abbrev main_cst_113 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_cst_114 : Ref sig .tc := ⟨.hbm, 648, rfl⟩
abbrev main_v530 : Ref sig .tc := ⟨.hbm, 649, rfl⟩
abbrev main_v531 : Ref sig .tc := ⟨.hbm, 650, rfl⟩
abbrev main_v532 : Ref sig .tc := ⟨.hbm, 651, rfl⟩
abbrev main_v533 : Ref sig .tc := ⟨.hbm, 652, rfl⟩
abbrev main_cst_115 : Ref sig .tc := ⟨.hbm, 653, rfl⟩
abbrev main_v534 : Ref sig .tc := ⟨.hbm, 654, rfl⟩
abbrev main_v535 : Ref sig .tc := ⟨.hbm, 655, rfl⟩
abbrev main_cst_116 : Ref sig .tc := ⟨.hbm, 656, rfl⟩
abbrev main_v536 : Ref sig .tc := ⟨.hbm, 657, rfl⟩
abbrev main_v537 : Ref sig .tc := ⟨.hbm, 658, rfl⟩
abbrev main_cst_117 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_cst_118 : Ref sig .tc := ⟨.hbm, 663, rfl⟩
abbrev main_v541 : Ref sig .tc := ⟨.hbm, 664, rfl⟩
abbrev main_v542 : Ref sig .tc := ⟨.hbm, 665, rfl⟩
abbrev main_v543 : Ref sig .tc := ⟨.hbm, 666, rfl⟩
abbrev main_v544 : Ref sig .tc := ⟨.hbm, 667, rfl⟩
abbrev main_cst_119 : Ref sig .tc := ⟨.hbm, 668, rfl⟩
abbrev main_v545 : Ref sig .tc := ⟨.hbm, 669, rfl⟩
abbrev main_v546 : Ref sig .tc := ⟨.hbm, 670, rfl⟩
abbrev main_cst_120 : Ref sig .tc := ⟨.hbm, 671, rfl⟩
abbrev main_v547 : Ref sig .tc := ⟨.hbm, 672, rfl⟩
abbrev main_v548 : Ref sig .tc := ⟨.hbm, 673, rfl⟩
abbrev main_cst_121 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_cst_122 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_cst_123 : Ref sig .tc := ⟨.hbm, 683, rfl⟩
abbrev main_v556 : Ref sig .tc := ⟨.hbm, 684, rfl⟩
abbrev main_v557 : Ref sig .tc := ⟨.hbm, 685, rfl⟩
abbrev main_cst_124 : Ref sig .tc := ⟨.hbm, 686, rfl⟩
abbrev main_v558 : Ref sig .tc := ⟨.hbm, 687, rfl⟩
abbrev main_v559 : Ref sig .tc := ⟨.hbm, 688, rfl⟩
abbrev main_cst_125 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_v563 : Ref sig .tc := ⟨.hbm, 693, rfl⟩
abbrev main_v564 : Ref sig .tc := ⟨.hbm, 694, rfl⟩

abbrev nD : Nat := 1
abbrev τ : Topo := Topo.v7x

variable {F : FTy → Type} [FloatOps F]
-- ==== Kernel5.lean ====
abbrev S1x2064x1024 : Shape := ⟨3, ![1, 2064, 1024]⟩
abbrev S1x1024 : Shape := ⟨2, ![1, 1024]⟩
abbrev S2064x1024 : Shape := ⟨2, ![2064, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 18
  | .vmem => 10
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x1024, .f32⟩
  | .hbm, ⟨3, _⟩ => ⟨S1x2064x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S2064x1024, .f32⟩
  | .hbm, ⟨9, _⟩ => ⟨S_, .i32⟩
  | .hbm, ⟨10, _⟩ => ⟨S_, .f32⟩
  | .hbm, ⟨11, _⟩ => ⟨S2176x1024, .f32⟩
  | .hbm, ⟨12, _⟩ => ⟨S2064x1024, .f32⟩
  | .hbm, ⟨13, _⟩ => ⟨S_, .i32⟩
  | .hbm, ⟨14, _⟩ => ⟨S_, .f32⟩
  | .hbm, ⟨15, _⟩ => ⟨S2176x1024, .f32⟩
  | .hbm, ⟨16, _⟩ => ⟨S2176x1024, .bf16⟩
  | .hbm, ⟨17, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S1x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .bf16⟩
  | .local _ .vmem, ⟨8, _⟩ => ⟨S272x1024, .bf16⟩
  | .local _ .vmem, ⟨9, _⟩ => ⟨S1x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S1x2064x1024 : Shape := ⟨3, ![1, 2064, 1024]⟩
abbrev S1x1024 : Shape := ⟨2, ![1, 1024]⟩
abbrev S1024 : Shape := ⟨1, ![1024]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S2064 : Shape := ⟨1, ![2064]⟩
abbrev S2064x1024 : Shape := ⟨2, ![2064, 1024]⟩
abbrev S2176x1024 : Shape := ⟨2, ![2176, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x1024, .f32⟩
  | .hbm, ⟨3, _⟩ => ⟨S1x2064x1024, .f32⟩
  | .hbm, ⟨4, _⟩ => ⟨S1024, .f32⟩
  | .hbm, ⟨5, _⟩ => ⟨S1x2064x1024, .f32⟩
  | .hbm, ⟨6, _⟩ => ⟨S_, .f32⟩
  | .hbm, ⟨7, _⟩ => ⟨S1x2064, .f32⟩
  | .hbm, ⟨8, _⟩ => ⟨S1x2064x1, .f32⟩
  | .hbm, ⟨9, _⟩ => ⟨S_, .f32⟩
  | .hbm, ⟨10, _⟩ => ⟨S1x2064x1, .f32⟩
  | .hbm, ⟨11, _⟩ => ⟨S1x2064x1, .f32⟩
  | .hbm, ⟨12, _⟩ => ⟨S_, .f32⟩
  | .hbm, ⟨13, _⟩ => ⟨S1x2064x1, .f32⟩
  | .hbm, ⟨14, _⟩ => ⟨S1x2064x1, .f32⟩
  | .hbm, ⟨15, _⟩ => ⟨S1x2064x1, .f32⟩
  | .hbm, ⟨16, _⟩ => ⟨S1x2064x1, .f32⟩
  | .hbm, ⟨17, _⟩ => ⟨S_, .f32⟩
  | .hbm, ⟨18, _⟩ => ⟨S1x2064x1, .f32⟩
  | .hbm, ⟨19, _⟩ => ⟨S1x2064x1, .f32⟩
  | .hbm, ⟨20, _⟩ => ⟨S1x2064x1024, .f32⟩
  | .hbm, ⟨21, _⟩ => ⟨S1x2064x1024, .f32⟩
  | .hbm, ⟨22, _⟩ => ⟨S1x1x1024, .f32⟩
  | .hbm, ⟨23, _⟩ => ⟨S1x2064x1024, .f32⟩
  | .hbm, ⟨24, _⟩ => ⟨S1x2064x1024, .f32⟩
  | .hbm, ⟨25, _⟩ => ⟨S1x2064x1024, .f32⟩
  | .hbm, ⟨26, _⟩ => ⟨S1x2064x1024, .f32⟩
  | .hbm, ⟨27, _⟩ => ⟨S_, .f32⟩
  | .hbm, ⟨28, _⟩ => ⟨S1x1024, .f32⟩
  | .hbm, ⟨29, _⟩ => ⟨S1x1x1024, .f32⟩
  | .hbm, ⟨30, _⟩ => ⟨S1x2064x1024, .f32⟩
  | .hbm, ⟨31, _⟩ => ⟨S1x2064x1024, .f32⟩
  | .hbm, ⟨32, _⟩ => ⟨S_, .f32⟩
  | .hbm, ⟨33, _⟩ => ⟨S1024, .f32⟩
  | .hbm, ⟨34, _⟩ => ⟨S1x2064x1024, .f32⟩
  | .hbm, ⟨35, _⟩ => ⟨S_, .f32⟩
  | .hbm, ⟨36, _⟩ => ⟨S1x2064, .f32⟩
  | .hbm, ⟨37, _⟩ => ⟨S1x2064x1, .f32⟩
  | .hbm, ⟨38, _⟩ => ⟨S1x2064x1024, .f32⟩
  | .hbm, ⟨39, _⟩ => ⟨S1x2064x1024, .f32⟩
  | .hbm, ⟨40, _⟩ => ⟨S1x2064x1, .f32⟩
  | .hbm, ⟨41, _⟩ => ⟨S_, .f32⟩
  | .hbm, ⟨42, _⟩ => ⟨S1x2064x1, .f32⟩
  | .hbm, ⟨43, _⟩ => ⟨S1x2064x1, .f32⟩
  | .hbm, ⟨44, _⟩ => ⟨S_, .f32⟩
  | .hbm, ⟨45, _⟩ => ⟨S2064, .f32⟩
  | .hbm, ⟨46, _⟩ => ⟨S1x2064, .f32⟩
  | .hbm, ⟨47, _⟩ => ⟨S1x2064x1024, .f32⟩
  | .hbm, ⟨48, _⟩ => ⟨S1x2064x1024, .f32⟩
  | .hbm, ⟨49, _⟩ => ⟨S1x2064x1024, .f32⟩
  | .hbm, ⟨50, _⟩ => ⟨S1x2064x1024, .f32⟩
  | .hbm, ⟨51, _⟩ => ⟨S1x2064x1024, .f32⟩
  | .hbm, ⟨52, _⟩ => ⟨S1x1024, .f32⟩
  | .hbm, ⟨53, _⟩ => ⟨S2064x1024, .f32⟩
  | .hbm, ⟨54, _⟩ => ⟨S_, .i32⟩
  | .hbm, ⟨55, _⟩ => ⟨S_, .f32⟩
  | .hbm, ⟨56, _⟩ => ⟨S2176x1024, .f32⟩
  | .hbm, ⟨57, _⟩ => ⟨S2176x1024, .bf16⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel6.lean ====
abbrev S1x2064x5632 : Shape := ⟨3, ![1, 2064, 5632]⟩
abbrev S1x2064x2816 : Shape := ⟨3, ![1, 2064, 2816]⟩
abbrev S2064x5632 : Shape := ⟨2, ![2064, 5632]⟩
abbrev S_ : Shape := ⟨0, ![]⟩
abbrev S2176x5632 : Shape := ⟨2, ![2176, 5632]⟩
abbrev S2064x2816 : Shape := ⟨2, ![2064, 2816]⟩
abbrev S2176x2816 : Shape := ⟨2, ![2176, 2816]⟩
abbrev S128x2816 : Shape := ⟨2, ![128, 2816]⟩
abbrev S128x5632 : Shape := ⟨2, ![128, 5632]⟩

abbrev nBuf : Space → Nat
  | .hbm => 11
  | .vmem => 8
  | .smem => 0
  | _ => 0

abbrev bufTy : (tb : Table) → Fin (tcTables nBuf tb) → BufTy
  | .hbm, ⟨0, _⟩ => ⟨S1x2064x5632, .f32⟩
  | .hbm, ⟨1, _⟩ => ⟨S1x2064x2816, .f32⟩
  | .hbm, ⟨2, _⟩ => ⟨S2064x5632, .f32⟩
  | .hbm, ⟨3, _⟩ => ⟨S_, .i32⟩
  | .hbm, ⟨4, _⟩ => ⟨S_, .f32⟩
  | .hbm, ⟨5, _⟩ => ⟨S2176x5632, .f32⟩
  | .hbm, ⟨6, _⟩ => ⟨S2064x2816, .f32⟩
  | .hbm, ⟨7, _⟩ => ⟨S_, .i32⟩
  | .hbm, ⟨8, _⟩ => ⟨S_, .f32⟩
  | .hbm, ⟨9, _⟩ => ⟨S2176x2816, .f32⟩
  | .hbm, ⟨10, _⟩ => ⟨S2176x5632, .bf16⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x5632, .bf16⟩
  | .local _ .vmem, ⟨7, _⟩ => ⟨S128x5632, .bf16⟩
  | _, _ => ⟨S1x2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S1x2064x5632 : Shape := ⟨3, ![1, 2064, 5632]⟩
abbrev S1x2064x2816 : Shape := ⟨3, ![1, 2064, 2816]⟩
abbrev S_ : Shape := ⟨0, ![]⟩
abbrev S2064x5632 : Shape := ⟨2, ![2064, 5632]⟩
abbrev S2176x5632 : Shape := ⟨2, ![2176, 5632]⟩

abbrev nBuf : Space → Nat
  | .hbm => 30
  | .vmem => 0
  | .smem => 0
  | _ => 0

abbrev bufTy : (tb : Table) → Fin (tcTables nBuf tb) → BufTy
  | .hbm, ⟨0, _⟩ => ⟨S1x2064x5632, .f32⟩
  | .hbm, ⟨1, _⟩ => ⟨S1x2064x2816, .f32⟩
  | .hbm, ⟨2, _⟩ => ⟨S1x2064x2816, .f32⟩
  | .hbm, ⟨3, _⟩ => ⟨S1x2064x2816, .f32⟩
  | .hbm, ⟨4, _⟩ => ⟨S1x2064x2816, .f32⟩
  | .hbm, ⟨5, _⟩ => ⟨S1x2064x2816, .f32⟩
  | .hbm, ⟨6, _⟩ => ⟨S_, .f32⟩
  | .hbm, ⟨7, _⟩ => ⟨S1x2064x2816, .f32⟩
  | .hbm, ⟨8, _⟩ => ⟨S1x2064x2816, .f32⟩
  | .hbm, ⟨9, _⟩ => ⟨S_, .f32⟩
  | .hbm, ⟨10, _⟩ => ⟨S1x2064x2816, .f32⟩
  | .hbm, ⟨11, _⟩ => ⟨S1x2064x2816, .f32⟩
  | .hbm, ⟨12, _⟩ => ⟨S_, .f32⟩
  | .hbm, ⟨13, _⟩ => ⟨S1x2064x2816, .f32⟩
  | .hbm, ⟨14, _⟩ => ⟨S1x2064x2816, .f32⟩
  | .hbm, ⟨15, _⟩ => ⟨S1x2064x2816, .f32⟩
  | .hbm, ⟨16, _⟩ => ⟨S1x2064x2816, .f32⟩
  | .hbm, ⟨17, _⟩ => ⟨S1x2064x2816, .f32⟩
  | .hbm, ⟨18, _⟩ => ⟨S1x2064x2816, .f32⟩
  | .hbm, ⟨19, _⟩ => ⟨S1x2064x2816, .f32⟩
  | .hbm, ⟨20, _⟩ => ⟨S1x2064x2816, .f32⟩
  | .hbm, ⟨21, _⟩ => ⟨S1x2064x2816, .f32⟩
  | .hbm, ⟨22, _⟩ => ⟨S1x2064x2816, .f32⟩
  | .hbm, ⟨23, _⟩ => ⟨S1x2064x2816, .f32⟩
  | .hbm, ⟨24, _⟩ => ⟨S1x2064x5632, .f32⟩
  | .hbm, ⟨25, _⟩ => ⟨S2064x5632, .f32⟩
  | .hbm, ⟨26, _⟩ => ⟨S_, .i32⟩
  | .hbm, ⟨27, _⟩ => ⟨S_, .f32⟩
  | .hbm, ⟨28, _⟩ => ⟨S2176x5632, .f32⟩
  | .hbm, ⟨29, _⟩ => ⟨S2176x5632, .bf16⟩
  | _, _ => ⟨S1x2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_call2_v0 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel7.lean ====
abbrev S1x2064x1024 : Shape := ⟨3, ![1, 2064, 1024]⟩
abbrev S1x1024 : Shape := ⟨2, ![1, 1024]⟩
abbrev S2064x1024 : Shape := ⟨2, ![2064, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 18
  | .vmem => 10
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S1x2064x1024, .f32⟩
  | .hbm, ⟨3, _⟩ => ⟨S1x2064x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S2064x1024, .f32⟩
  | .hbm, ⟨9, _⟩ => ⟨S_, .i32⟩
  | .hbm, ⟨10, _⟩ => ⟨S_, .f32⟩
  | .hbm, ⟨11, _⟩ => ⟨S2176x1024, .f32⟩
  | .hbm, ⟨12, _⟩ => ⟨S2064x1024, .f32⟩
  | .hbm, ⟨13, _⟩ => ⟨S_, .i32⟩
  | .hbm, ⟨14, _⟩ => ⟨S_, .f32⟩
  | .hbm, ⟨15, _⟩ => ⟨S2176x1024, .f32⟩
  | .hbm, ⟨16, _⟩ => ⟨S2176x1024, .f32⟩
  | .hbm, ⟨17, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S1x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S1x2064x1024 : Shape := ⟨3, ![1, 2064, 1024]⟩
abbrev S1x1024 : Shape := ⟨2, ![1, 1024]⟩
abbrev S1024 : Shape := ⟨1, ![1024]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S2064 : Shape := ⟨1, ![2064]⟩
abbrev S2064x1024 : Shape := ⟨2, ![2064, 1024]⟩
abbrev S2176x1024 : Shape := ⟨2, ![2176, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S1x2064x1024, .f32⟩
  | .hbm, ⟨3, _⟩ => ⟨S1x2064x1024, .f32⟩
  | .hbm, ⟨4, _⟩ => ⟨S1024, .f32⟩
  | .hbm, ⟨5, _⟩ => ⟨S1x2064x1024, .f32⟩
  | .hbm, ⟨6, _⟩ => ⟨S_, .f32⟩
  | .hbm, ⟨7, _⟩ => ⟨S1x2064, .f32⟩
  | .hbm, ⟨8, _⟩ => ⟨S1x2064x1, .f32⟩
  | .hbm, ⟨9, _⟩ => ⟨S_, .f32⟩
  | .hbm, ⟨10, _⟩ => ⟨S1x2064x1, .f32⟩
  | .hbm, ⟨11, _⟩ => ⟨S1x2064x1, .f32⟩
  | .hbm, ⟨12, _⟩ => ⟨S_, .f32⟩
  | .hbm, ⟨13, _⟩ => ⟨S1x2064x1, .f32⟩
  | .hbm, ⟨14, _⟩ => ⟨S1x2064x1, .f32⟩
  | .hbm, ⟨15, _⟩ => ⟨S1x2064x1, .f32⟩
  | .hbm, ⟨16, _⟩ => ⟨S1x2064x1, .f32⟩
  | .hbm, ⟨17, _⟩ => ⟨S_, .f32⟩
  | .hbm, ⟨18, _⟩ => ⟨S1x2064x1, .f32⟩
  | .hbm, ⟨19, _⟩ => ⟨S1x2064x1, .f32⟩
  | .hbm, ⟨20, _⟩ => ⟨S1x2064x1024, .f32⟩
  | .hbm, ⟨21, _⟩ => ⟨S1x2064x1024, .f32⟩
  | .hbm, ⟨22, _⟩ => ⟨S1x1x1024, .f32⟩
  | .hbm, ⟨23, _⟩ => ⟨S1x2064x1024, .f32⟩
  | .hbm, ⟨24, _⟩ => ⟨S1x2064x1024, .f32⟩
  | .hbm, ⟨25, _⟩ => ⟨S1x2064x1024, .f32⟩
  | .hbm, ⟨26, _⟩ => ⟨S_, .f32⟩
  | .hbm, ⟨27, _⟩ => ⟨S1x1024, .f32⟩
  | .hbm, ⟨28, _⟩ => ⟨S1x1x1024, .f32⟩
  | .hbm, ⟨29, _⟩ => ⟨S1x2064x1024, .f32⟩
  | .hbm, ⟨30, _⟩ => ⟨S1x2064x1024, .f32⟩
  | .hbm, ⟨31, _⟩ => ⟨S_, .f32⟩
  | .hbm, ⟨32, _⟩ => ⟨S1024, .f32⟩
  | .hbm, ⟨33, _⟩ => ⟨S1x2064x1024, .f32⟩
  | .hbm, ⟨34, _⟩ => ⟨S_, .f32⟩
  | .hbm, ⟨35, _⟩ => ⟨S1x2064, .f32⟩
  | .hbm, ⟨36, _⟩ => ⟨S1x2064x1, .f32⟩
  | .hbm, ⟨37, _⟩ => ⟨S1x2064x1024, .f32⟩
  | .hbm, ⟨38, _⟩ => ⟨S1x2064x1024, .f32⟩
  | .hbm, ⟨39, _⟩ => ⟨S1x2064x1024, .f32⟩
  | .hbm, ⟨40, _⟩ => ⟨S1x2064x1, .f32⟩
  | .hbm, ⟨41, _⟩ => ⟨S_, .f32⟩
  | .hbm, ⟨42, _⟩ => ⟨S1x2064x1, .f32⟩
  | .hbm, ⟨43, _⟩ => ⟨S1x2064x1, .f32⟩
  | .hbm, ⟨44, _⟩ => ⟨S_, .f32⟩
  | .hbm, ⟨45, _⟩ => ⟨S2064, .f32⟩
  | .hbm, ⟨46, _⟩ => ⟨S1x2064, .f32⟩
  | .hbm, ⟨47, _⟩ => ⟨S1x2064x1024, .f32⟩
  | .hbm, ⟨48, _⟩ => ⟨S1x2064x1024, .f32⟩
  | .hbm, ⟨49, _⟩ => ⟨S1x2064x1024, .f32⟩
  | .hbm, ⟨50, _⟩ => ⟨S1x2064x1024, .f32⟩
  | .hbm, ⟨51, _⟩ => ⟨S1x2064x1024, .f32⟩
  | .hbm, ⟨52, _⟩ => ⟨S1x1024, .f32⟩
  | .hbm, ⟨53, _⟩ => ⟨S2064x1024, .f32⟩
  | .hbm, ⟨54, _⟩ => ⟨S_, .i32⟩
  | .hbm, ⟨55, _⟩ => ⟨S_, .f32⟩
  | .hbm, ⟨56, _⟩ => ⟨S2176x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel8.lean ====
abbrev S1x2064x7168 : Shape := ⟨3, ![1, 2064, 7168]⟩
abbrev S1x2064x1024 : Shape := ⟨3, ![1, 2064, 1024]⟩
abbrev S1x2048 : Shape := ⟨2, ![1, 2048]⟩
abbrev S2064x7168 : Shape := ⟨2, ![2064, 7168]⟩
abbrev S_ : Shape := ⟨0, ![]⟩
abbrev S2176x7168 : Shape := ⟨2, ![2176, 7168]⟩
abbrev S2064x1024 : Shape := ⟨2, ![2064, 1024]⟩
abbrev S2176x1024 : Shape := ⟨2, ![2176, 1024]⟩
abbrev S1x1024 : Shape := ⟨2, ![1, 1024]⟩
abbrev S272x1024 : Shape := ⟨2, ![272, 1024]⟩
abbrev S1024 : Shape := ⟨1, ![1024]⟩

abbrev nBuf : Space → Nat
  | .hbm => 27
  | .vmem => 22
  | .smem => 0
  | _ => 0

abbrev bufTy : (tb : Table) → Fin (tcTables nBuf tb) → BufTy
  | .hbm, ⟨0, _⟩ => ⟨S1x2064x7168, .f32⟩
  | .hbm, ⟨1, _⟩ => ⟨S1x2064x1024, .f32⟩
  | .hbm, ⟨2, _⟩ => ⟨S1x2064x1024, .f32⟩
  | .hbm, ⟨3, _⟩ => ⟨S1x2048, .f32⟩
  | .hbm, ⟨4, _⟩ => ⟨S1x2064x1024, .f32⟩
  | .hbm, ⟨5, _⟩ => ⟨S2064x7168, .f32⟩
  | .hbm, ⟨6, _⟩ => ⟨S_, .i32⟩
  | .hbm, ⟨7, _⟩ => ⟨S_, .f32⟩
  | .hbm, ⟨8, _⟩ => ⟨S2176x7168, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S2064x1024, .f32⟩
  | .hbm, ⟨14, _⟩ => ⟨S_, .i32⟩
  | .hbm, ⟨15, _⟩ => ⟨S_, .f32⟩
  | .hbm, ⟨16, _⟩ => ⟨S2176x1024, .f32⟩
  | .hbm, ⟨17, _⟩ => ⟨S2064x1024, .f32⟩
  | .hbm, ⟨18, _⟩ => ⟨S_, .i32⟩
  | .hbm, ⟨19, _⟩ => ⟨S_, .f32⟩
  | .hbm, ⟨20, _⟩ => ⟨S2176x1024, .f32⟩
  | .hbm, ⟨21, _⟩ => ⟨S2176x1024, .bf16⟩
  | .hbm, ⟨22, _⟩ => ⟨S2176x1024, .bf16⟩
  | .hbm, ⟨23, _⟩ => ⟨S2176x1024, .bf16⟩
  | .hbm, ⟨24, _⟩ => ⟨S2176x1024, .bf16⟩
  | .hbm, ⟨25, _⟩ => ⟨S1x1024, .f32⟩
  | .hbm, ⟨26, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S1x1024, .f32⟩
  | .local _ .vmem, ⟨9, _⟩ => ⟨S1x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .bf16⟩
  | .local _ .vmem, ⟨13, _⟩ => ⟨S272x1024, .bf16⟩
  | .local _ .vmem, ⟨14, _⟩ => ⟨S272x1024, .bf16⟩
  | .local _ .vmem, ⟨15, _⟩ => ⟨S272x1024, .bf16⟩
  | .local _ .vmem, ⟨16, _⟩ => ⟨S272x1024, .bf16⟩
  | .local _ .vmem, ⟨17, _⟩ => ⟨S272x1024, .bf16⟩
  | .local _ .vmem, ⟨18, _⟩ => ⟨S272x1024, .bf16⟩
  | .local _ .vmem, ⟨19, _⟩ => ⟨S272x1024, .bf16⟩
  | .local _ .vmem, ⟨20, _⟩ => ⟨S1x1024, .f32⟩
  | .local _ .vmem, ⟨21, _⟩ => ⟨S1x1024, .f32⟩
  | _, _ => ⟨S1x2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference8Ideal.lean ====
abbrev S1x2064x7168 : Shape := ⟨3, ![1, 2064, 7168]⟩
abbrev S1x2064x1024 : Shape := ⟨3, ![1, 2064, 1024]⟩
abbrev S1x2048 : Shape := ⟨2, ![1, 2048]⟩
abbrev S1x2064x2048 : Shape := ⟨3, ![1, 2064, 2048]⟩
abbrev S2048 : Shape := ⟨1, ![2048]⟩
abbrev S1x1x2048 : Shape := ⟨3, ![1, 1, 2048]⟩
abbrev S_ : Shape := ⟨0, ![]⟩
abbrev S2064x1024 : Shape := ⟨2, ![2064, 1024]⟩
abbrev S2176x1024 : Shape := ⟨2, ![2176, 1024]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S1x2064x7168, .f32⟩
  | .hbm, ⟨1, _⟩ => ⟨S1x2064x1024, .f32⟩
  | .hbm, ⟨2, _⟩ => ⟨S1x2064x1024, .f32⟩
  | .hbm, ⟨3, _⟩ => ⟨S1x2048, .f32⟩
  | .hbm, ⟨4, _⟩ => ⟨S1x2064x1024, .f32⟩
  | .hbm, ⟨5, _⟩ => ⟨S1x2064x2048, .f32⟩
  | .hbm, ⟨6, _⟩ => ⟨S2048, .f32⟩
  | .hbm, ⟨7, _⟩ => ⟨S1x1x2048, .f32⟩
  | .hbm, ⟨8, _⟩ => ⟨S1x2064x2048, .f32⟩
  | .hbm, ⟨9, _⟩ => ⟨S1x2064x2048, .f32⟩
  | .hbm, ⟨10, _⟩ => ⟨S1x2064x2048, .f32⟩
  | .hbm, ⟨11, _⟩ => ⟨S1x2064x2048, .f32⟩
  | .hbm, ⟨12, _⟩ => ⟨S_, .f32⟩
  | .hbm, ⟨13, _⟩ => ⟨S1x2064x2048, .f32⟩
  | .hbm, ⟨14, _⟩ => ⟨S1x2064x2048, .f32⟩
  | .hbm, ⟨15, _⟩ => ⟨S_, .f32⟩
  | .hbm, ⟨16, _⟩ => ⟨S1x2064x2048, .f32⟩
  | .hbm, ⟨17, _⟩ => ⟨S1x2064x2048, .f32⟩
  | .hbm, ⟨18, _⟩ => ⟨S_, .f32⟩
  | .hbm, ⟨19, _⟩ => ⟨S1x2064x2048, .f32⟩
  | .hbm, ⟨20, _⟩ => ⟨S1x2064x2048, .f32⟩
  | .hbm, ⟨21, _⟩ => ⟨S1x2064x2048, .f32⟩
  | .hbm, ⟨22, _⟩ => ⟨S1x2064x1024, .f32⟩
  | .hbm, ⟨23, _⟩ => ⟨S1x2064x1024, .f32⟩
  | .hbm, ⟨24, _⟩ => ⟨S1x2064x1024, .f32⟩
  | .hbm, ⟨25, _⟩ => ⟨S1x2064x1024, .f32⟩
  | .hbm, ⟨26, _⟩ => ⟨S1x2064x1024, .f32⟩
  | .hbm, ⟨27, _⟩ => ⟨S1x2064x1024, .f32⟩
  | .hbm, ⟨28, _⟩ => ⟨S1x2064x1024, .f32⟩
  | .hbm, ⟨29, _⟩ => ⟨S1x2064x1024, .f32⟩
  | .hbm, ⟨30, _⟩ => ⟨S1x2064x1024, .f32⟩
  | .hbm, ⟨31, _⟩ => ⟨S1x2064x1024, .f32⟩
  | .hbm, ⟨32, _⟩ => ⟨S1x2064x1024, .f32⟩
  | .hbm, ⟨33, _⟩ => ⟨S1x2064x2048, .f32⟩
  | .hbm, ⟨34, _⟩ => ⟨S1x2064x2048, .f32⟩
  | .hbm, ⟨35, _⟩ => ⟨S_, .f32⟩
  | .hbm, ⟨36, _⟩ => ⟨S1x2048, .f32⟩
  | .hbm, ⟨37, _⟩ => ⟨S1x1x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S1x2064x1024, .f32⟩
  | .hbm, ⟨42, _⟩ => ⟨S2064x1024, .f32⟩
  | .hbm, ⟨43, _⟩ => ⟨S_, .i32⟩
  | .hbm, ⟨44, _⟩ => ⟨S_, .f32⟩
  | .hbm, ⟨45, _⟩ => ⟨S2176x1024, .f32⟩
  | .hbm, ⟨46, _⟩ => ⟨S2176x1024, .bf16⟩
  | .hbm, ⟨47, _⟩ => ⟨S1x2064x1024, .f32⟩
  | .hbm, ⟨48, _⟩ => ⟨S2064x1024, .f32⟩
  | .hbm, ⟨49, _⟩ => ⟨S_, .i32⟩
  | .hbm, ⟨50, _⟩ => ⟨S_, .f32⟩
  | .hbm, ⟨51, _⟩ => ⟨S2176x1024, .f32⟩
  | .hbm, ⟨52, _⟩ => ⟨S2176x1024, .bf16⟩
  | .hbm, ⟨53, _⟩ => ⟨S2064x1024, .f32⟩
  | .hbm, ⟨54, _⟩ => ⟨S_, .i32⟩
  | .hbm, ⟨55, _⟩ => ⟨S_, .f32⟩
  | .hbm, ⟨56, _⟩ => ⟨S2176x1024, .f32⟩
  | .hbm, ⟨57, _⟩ => ⟨S2176x1024, .bf16⟩
  | .hbm, ⟨58, _⟩ => ⟨S2064x1024, .f32⟩
  | .hbm, ⟨59, _⟩ => ⟨S_, .i32⟩
  | .hbm, ⟨60, _⟩ => ⟨S_, .f32⟩
  | .hbm, ⟨61, _⟩ => ⟨S2176x1024, .f32⟩
  | .hbm, ⟨62, _⟩ => ⟨S2176x1024, .bf16⟩
  | .hbm, ⟨63, _⟩ => ⟨S1x1024, .f32⟩
  | .hbm, ⟨64, _⟩ => ⟨S1x1024, .f32⟩
  | _, _ => ⟨S1x2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_4 : Ref sig .tc := ⟨.hbm, 49, rfl⟩
abbrev main_call1_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_call2_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_call3_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel9.lean ====
abbrev S1x2064x1024 : Shape := ⟨3, ![1, 2064, 1024]⟩
abbrev S1x1024 : Shape := ⟨2, ![1, 1024]⟩
abbrev S2064x1024 : Shape := ⟨2, ![2064, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 17
  | .vmem => 12
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x2064x1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S2176x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S1x2064x1024 : Shape := ⟨3, ![1, 2064, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1x2064 : Shape := ⟨2, ![1, 2064]⟩
abbrev S1x2064x1 : Shape := ⟨3, ![1, 2064, 1]⟩
abbrev S2064 : Shape := ⟨1, ![2064]⟩
abbrev S2064x1024 : Shape := ⟨2, ![2064, 1024]⟩
abbrev S2176x1024 : Shape := ⟨2, ![2176, 1024]⟩

abbrev nBuf : Space → Nat
  | .hbm => 114
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x2064x1024, .f32⟩
  | .hbm, ⟨5, _⟩ => ⟨S1024, .f32⟩
  | .hbm, ⟨6, _⟩ => ⟨S1x1x1024, .f32⟩
  | .hbm, ⟨7, _⟩ => ⟨S1x2064x1024, .f32⟩
  | .hbm, ⟨8, _⟩ => ⟨S1x2064x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1x2064, .f32⟩
  | .hbm, ⟨13, _⟩ => ⟨S1x2064x1, .f32⟩
  | .hbm, ⟨14, _⟩ => ⟨S_, .f32⟩
  | .hbm, ⟨15, _⟩ => ⟨S1x2064x1, .f32⟩
  | .hbm, ⟨16, _⟩ => ⟨S1x2064x1, .f32⟩
  | .hbm, ⟨17, _⟩ => ⟨S1x2064x1024, .f32⟩
  | .hbm, ⟨18, _⟩ => ⟨S1x2064x1024, .f32⟩
  | .hbm, ⟨19, _⟩ => ⟨S1x2064x1024, .f32⟩
  | .hbm, ⟨20, _⟩ => ⟨S_, .f32⟩
  | .hbm, ⟨21, _⟩ => ⟨S1x2064, .f32⟩
  | .hbm, ⟨22, _⟩ => ⟨S1x2064x1, .f32⟩
  | .hbm, ⟨23, _⟩ => ⟨S_, .f32⟩
  | .hbm, ⟨24, _⟩ => ⟨S1x2064x1, .f32⟩
  | .hbm, ⟨25, _⟩ => ⟨S1x2064x1, .f32⟩
  | .hbm, ⟨26, _⟩ => ⟨S_, .f32⟩
  | .hbm, ⟨27, _⟩ => ⟨S1x2064x1, .f32⟩
  | .hbm, ⟨28, _⟩ => ⟨S1x2064x1, .f32⟩
  | .hbm, ⟨29, _⟩ => ⟨S1x2064x1, .f32⟩
  | .hbm, ⟨30, _⟩ => ⟨S1x2064x1, .f32⟩
  | .hbm, ⟨31, _⟩ => ⟨S_, .f32⟩
  | .hbm, ⟨32, _⟩ => ⟨S1x2064x1, .f32⟩
  | .hbm, ⟨33, _⟩ => ⟨S1x2064x1, .f32⟩
  | .hbm, ⟨34, _⟩ => ⟨S1x2064x1024, .f32⟩
  | .hbm, ⟨35, _⟩ => ⟨S1x2064x1024, .f32⟩
  | .hbm, ⟨36, _⟩ => ⟨S1x1x1024, .f32⟩
  | .hbm, ⟨37, _⟩ => ⟨S1x2064x1024, .f32⟩
  | .hbm, ⟨38, _⟩ => ⟨S1x2064x1024, .f32⟩
  | .hbm, ⟨39, _⟩ => ⟨S1x1x1024, .f32⟩
  | .hbm, ⟨40, _⟩ => ⟨S1x2064x1024, .f32⟩
  | .hbm, ⟨41, _⟩ => ⟨S1x2064x1024, .f32⟩
  | .hbm, ⟨42, _⟩ => ⟨S1x2064x1024, .f32⟩
  | .hbm, ⟨43, _⟩ => ⟨S1x2064x1024, .f32⟩
  | .hbm, ⟨44, _⟩ => ⟨S_, .f32⟩
  | .hbm, ⟨45, _⟩ => ⟨S1x2064x1024, .f32⟩
  | .hbm, ⟨46, _⟩ => ⟨S1x2064x1024, .f32⟩
  | .hbm, ⟨47, _⟩ => ⟨S_, .f32⟩
  | .hbm, ⟨48, _⟩ => ⟨S1x2064x1024, .f32⟩
  | .hbm, ⟨49, _⟩ => ⟨S1x2064x1024, .f32⟩
  | .hbm, ⟨50, _⟩ => ⟨S_, .f32⟩
  | .hbm, ⟨51, _⟩ => ⟨S1x2064x1024, .f32⟩
  | .hbm, ⟨52, _⟩ => ⟨S1x2064x1024, .f32⟩
  | .hbm, ⟨53, _⟩ => ⟨S1x2064x1024, .f32⟩
  | .hbm, ⟨54, _⟩ => ⟨S1x2064x1024, .f32⟩
  | .hbm, ⟨55, _⟩ => ⟨S1x2064x1024, .f32⟩
  | .hbm, ⟨56, _⟩ => ⟨S1x2064x1024, .f32⟩
  | .hbm, ⟨57, _⟩ => ⟨S1x2064x1024, .f32⟩
  | .hbm, ⟨58, _⟩ => ⟨S1x2064x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S1x2064x1024, .f32⟩
  | .hbm, ⟨65, _⟩ => ⟨S_, .f32⟩
  | .hbm, ⟨66, _⟩ => ⟨S1x1024, .f32⟩
  | .hbm, ⟨67, _⟩ => ⟨S1x1x1024, .f32⟩
  | .hbm, ⟨68, _⟩ => ⟨S1x2064x1024, .f32⟩
  | .hbm, ⟨69, _⟩ => ⟨S1x2064x1024, .f32⟩
  | .hbm, ⟨70, _⟩ => ⟨S_, .f32⟩
  | .hbm, ⟨71, _⟩ => ⟨S1024, .f32⟩
  | .hbm, ⟨72, _⟩ => ⟨S1x2064x1024, .f32⟩
  | .hbm, ⟨73, _⟩ => ⟨S_, .f32⟩
  | .hbm, ⟨74, _⟩ => ⟨S1x2064, .f32⟩
  | .hbm, ⟨75, _⟩ => ⟨S1x2064x1, .f32⟩
  | .hbm, ⟨76, _⟩ => ⟨S1x2064x1024, .f32⟩
  | .hbm, ⟨77, _⟩ => ⟨S1x2064x1024, .f32⟩
  | .hbm, ⟨78, _⟩ => ⟨S1x2064x1, .f32⟩
  | .hbm, ⟨79, _⟩ => ⟨S_, .f32⟩
  | .hbm, ⟨80, _⟩ => ⟨S1x2064x1, .f32⟩
  | .hbm, ⟨81, _⟩ => ⟨S1x2064x1, .f32⟩
  | .hbm, ⟨82, _⟩ => ⟨S_, .f32⟩
  | .hbm, ⟨83, _⟩ => ⟨S2064, .f32⟩
  | .hbm, ⟨84, _⟩ => ⟨S1x2064, .f32⟩
  | .hbm, ⟨85, _⟩ => ⟨S1x2064x1024, .f32⟩
  | .hbm, ⟨86, _⟩ => ⟨S1x2064x1024, .f32⟩
  | .hbm, ⟨87, _⟩ => ⟨S1x2064x1024, .f32⟩
  | .hbm, ⟨88, _⟩ => ⟨S1x2064x1024, .f32⟩
  | .hbm, ⟨89, _⟩ => ⟨S1x2064x1024, .f32⟩
  | .hbm, ⟨90, _⟩ => ⟨S1x2064x1024, .f32⟩
  | .hbm, ⟨91, _⟩ => ⟨S_, .f32⟩
  | .hbm, ⟨92, _⟩ => ⟨S1x2064, .f32⟩
  | .hbm, ⟨93, _⟩ => ⟨S1x2064x1, .f32⟩
  | .hbm, ⟨94, _⟩ => ⟨S_, .f32⟩
  | .hbm, ⟨95, _⟩ => ⟨S1x2064x1, .f32⟩
  | .hbm, ⟨96, _⟩ => ⟨S1x2064x1, .f32⟩
  | .hbm, ⟨97, _⟩ => ⟨S_, .f32⟩
  | .hbm, ⟨98, _⟩ => ⟨S2064, .f32⟩
  | .hbm, ⟨99, _⟩ => ⟨S1x2064, .f32⟩
  | .hbm, ⟨100, _⟩ => ⟨S1x2064x1024, .f32⟩
  | .hbm, ⟨101, _⟩ => ⟨S1x2064x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1x1024, .f32⟩
  | .hbm, ⟨107, _⟩ => ⟨S_, .f32⟩
  | .hbm, ⟨108, _⟩ => ⟨S1024, .f32⟩
  | .hbm, ⟨109, _⟩ => ⟨S1x1024, .f32⟩
  | .hbm, ⟨110, _⟩ => ⟨S2064x1024, .f32⟩
  | .hbm, ⟨111, _⟩ => ⟨S_, .i32⟩
  | .hbm, ⟨112, _⟩ => ⟨S_, .f32⟩
  | .hbm, ⟨113, _⟩ => ⟨S2176x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c : Ref sig .tc := ⟨.hbm, 111, rfl⟩
abbrev main_call2_v0 : Ref sig .tc := ⟨.hbm, 112, rfl⟩
abbrev main_v73 : Ref sig .tc := ⟨.hbm, 113, rfl⟩

abbrev nD : Nat := 1
abbrev τ : Topo := Topo.v7x

variable {F : FTy → Type} [FloatOps F]
-- ==== Kernel10.lean ====
abbrev S1x2064x7168 : Shape := ⟨3, ![1, 2064, 7168]⟩
abbrev S1x2064x1024 : Shape := ⟨3, ![1, 2064, 1024]⟩
abbrev S2064x7168 : Shape := ⟨2, ![2064, 7168]⟩
abbrev S_ : Shape := ⟨0, ![]⟩
abbrev S2176x7168 : Shape := ⟨2, ![2176, 7168]⟩
abbrev S2064x1024 : Shape := ⟨2, ![2064, 1024]⟩
abbrev S2176x1024 : Shape := ⟨2, ![2176, 1024]⟩
abbrev S2176x2048 : Shape := ⟨2, ![2176, 2048]⟩
abbrev S272x1024 : Shape := ⟨2, ![272, 1024]⟩
abbrev S272x2048 : Shape := ⟨2, ![272, 2048]⟩

abbrev nBuf : Space → Nat
  | .hbm => 11
  | .vmem => 8
  | .smem => 0
  | _ => 0

abbrev bufTy : (tb : Table) → Fin (tcTables nBuf tb) → BufTy
  | .hbm, ⟨0, _⟩ => ⟨S1x2064x7168, .f32⟩
  | .hbm, ⟨1, _⟩ => ⟨S1x2064x1024, .f32⟩
  | .hbm, ⟨2, _⟩ => ⟨S2064x7168, .f32⟩
  | .hbm, ⟨3, _⟩ => ⟨S_, .i32⟩
  | .hbm, ⟨4, _⟩ => ⟨S_, .f32⟩
  | .hbm, ⟨5, _⟩ => ⟨S2176x7168, .f32⟩
  | .hbm, ⟨6, _⟩ => ⟨S2064x1024, .f32⟩
  | .hbm, ⟨7, _⟩ => ⟨S_, .i32⟩
  | .hbm, ⟨8, _⟩ => ⟨S_, .f32⟩
  | .hbm, ⟨9, _⟩ => ⟨S2176x1024, .f32⟩
  | .hbm, ⟨10, _⟩ => ⟨S2176x2048, .bf16⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x2048, .bf16⟩
  | .local _ .vmem, ⟨7, _⟩ => ⟨S272x2048, .bf16⟩
  | _, _ => ⟨S1x2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S1x2064x7168 : Shape := ⟨3, ![1, 2064, 7168]⟩
abbrev S1x2064x1024 : Shape := ⟨3, ![1, 2064, 1024]⟩
abbrev S1x2064x2048 : Shape := ⟨3, ![1, 2064, 2048]⟩
abbrev S_ : Shape := ⟨0, ![]⟩
abbrev S2064x2048 : Shape := ⟨2, ![2064, 2048]⟩
abbrev S2176x2048 : Shape := ⟨2, ![2176, 2048]⟩

abbrev nBuf : Space → Nat
  | .hbm => 27
  | .vmem => 0
  | .smem => 0
  | _ => 0

abbrev bufTy : (tb : Table) → Fin (tcTables nBuf tb) → BufTy
  | .hbm, ⟨0, _⟩ => ⟨S1x2064x7168, .f32⟩
  | .hbm, ⟨1, _⟩ => ⟨S1x2064x1024, .f32⟩
  | .hbm, ⟨2, _⟩ => ⟨S1x2064x2048, .f32⟩
  | .hbm, ⟨3, _⟩ => ⟨S1x2064x1024, .f32⟩
  | .hbm, ⟨4, _⟩ => ⟨S1x2064x1024, .f32⟩
  | .hbm, ⟨5, _⟩ => ⟨S1x2064x1024, .f32⟩
  | .hbm, ⟨6, _⟩ => ⟨S1x2064x1024, .f32⟩
  | .hbm, ⟨7, _⟩ => ⟨S_, .f32⟩
  | .hbm, ⟨8, _⟩ => ⟨S1x2064x1024, .f32⟩
  | .hbm, ⟨9, _⟩ => ⟨S1x2064x1024, .f32⟩
  | .hbm, ⟨10, _⟩ => ⟨S_, .f32⟩
  | .hbm, ⟨11, _⟩ => ⟨S1x2064x1024, .f32⟩
  | .hbm, ⟨12, _⟩ => ⟨S1x2064x1024, .f32⟩
  | .hbm, ⟨13, _⟩ => ⟨S_, .f32⟩
  | .hbm, ⟨14, _⟩ => ⟨S1x2064x1024, .f32⟩
  | .hbm, ⟨15, _⟩ => ⟨S1x2064x1024, .f32⟩
  | .hbm, ⟨16, _⟩ => ⟨S1x2064x1024, .f32⟩
  | .hbm, ⟨17, _⟩ => ⟨S1x2064x1024, .f32⟩
  | .hbm, ⟨18, _⟩ => ⟨S1x2064x1024, .f32⟩
  | .hbm, ⟨19, _⟩ => ⟨S1x2064x1024, .f32⟩
  | .hbm, ⟨20, _⟩ => ⟨S1x2064x1024, .f32⟩
  | .hbm, ⟨21, _⟩ => ⟨S1x2064x2048, .f32⟩
  | .hbm, ⟨22, _⟩ => ⟨S2064x2048, .f32⟩
  | .hbm, ⟨23, _⟩ => ⟨S_, .i32⟩
  | .hbm, ⟨24, _⟩ => ⟨S_, .f32⟩
  | .hbm, ⟨25, _⟩ => ⟨S2176x2048, .f32⟩
  | .hbm, ⟨26, _⟩ => ⟨S2176x2048, .bf16⟩
  | _, _ => ⟨S1x2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S1x2064x16x64 : Shape := ⟨4, ![1, 2064, 16, 64]⟩
abbrev S_ : Shape := ⟨0, ![]⟩
abbrev S2064x16x64 : Shape := ⟨3, ![2064, 16, 64]⟩
abbrev S2064x1024 : Shape := ⟨2, ![2064, 1024]⟩
abbrev S2304x1024 : Shape := ⟨2, ![2304, 1024]⟩
abbrev S16x2304x1 : Shape := ⟨3, ![16, 2304, 1]⟩
abbrev S256x512 : Shape := ⟨2, ![256, 512]⟩
abbrev S2304x512 : Shape := ⟨2, ![2304, 512]⟩
abbrev S8x256x1 : Shape := ⟨3, ![8, 256, 1]⟩
abbrev S256x256 : Shape := ⟨2, ![256, 256]⟩
abbrev S256x128 : Shape := ⟨2, ![256, 128]⟩
abbrev S512x128 : Shape := ⟨2, ![512, 128]⟩
abbrev S512x256 : Shape := ⟨2, ![512, 256]⟩
abbrev S512x1 : Shape := ⟨2, ![512, 1]⟩
abbrev S2048x256 : Shape := ⟨2, ![2048, 256]⟩
abbrev S256x1 : Shape := ⟨2, ![256, 1]⟩
abbrev S1x256x1 : Shape := ⟨3, ![1, 256, 1]⟩
abbrev S16x256 : Shape := ⟨2, ![16, 256]⟩
abbrev S32x256 : Shape := ⟨2, ![32, 256]⟩
abbrev S16x128 : Shape := ⟨2, ![16, 128]⟩
abbrev S32x128 : Shape := ⟨2, ![32, 128]⟩
abbrev S32x1 : Shape := ⟨2, ![32, 1]⟩
abbrev S128x256 : Shape := ⟨2, ![128, 256]⟩
abbrev S16x1 : Shape := ⟨2, ![16, 1]⟩
abbrev S1x16x1 : Shape := ⟨3, ![1, 16, 1]⟩
abbrev S240x128 : Shape := ⟨2, ![240, 128]⟩
abbrev S240x1 : Shape := ⟨2, ![240, 1]⟩
abbrev S1x240x1 : Shape := ⟨3, ![1, 240, 1]⟩

abbrev nBuf : Space → Nat
  | .hbm => 26
  | .vmem => 10
  | .smem => 0
  | _ => 0

abbrev bufTy : (tb : Table) → Fin (tcTables nBuf tb) → BufTy
  | .hbm, ⟨0, _⟩ => ⟨S1x2064x16x64, .f32⟩
  | .hbm, ⟨1, _⟩ => ⟨S1x2064x16x64, .f32⟩
  | .hbm, ⟨2, _⟩ => ⟨S1x2064x16x64, .f32⟩
  | .hbm, ⟨3, _⟩ => ⟨S_, .f32⟩
  | .hbm, ⟨4, _⟩ => ⟨S1x2064x16x64, .f32⟩
  | .hbm, ⟨5, _⟩ => ⟨S1x2064x16x64, .f32⟩
  | .hbm, ⟨6, _⟩ => ⟨S2064x16x64, .f32⟩
  | .hbm, ⟨7, _⟩ => ⟨S2064x1024, .f32⟩
  | .hbm, ⟨8, _⟩ => ⟨S_, .i32⟩
  | .hbm, ⟨9, _⟩ => ⟨S_, .f32⟩
  | .hbm, ⟨10, _⟩ => ⟨S2304x1024, .f32⟩
  | .hbm, ⟨11, _⟩ => ⟨S2304x1024, .bf16⟩
  | .hbm, ⟨12, _⟩ => ⟨S2064x16x64, .f32⟩
  | .hbm, ⟨13, _⟩ => ⟨S2064x1024, .f32⟩
  | .hbm, ⟨14, _⟩ => ⟨S_, .i32⟩
  | .hbm, ⟨15, _⟩ => ⟨S_, .f32⟩
  | .hbm, ⟨16, _⟩ => ⟨S2304x1024, .f32⟩
  | .hbm, ⟨17, _⟩ => ⟨S2304x1024, .bf16⟩
  | .hbm, ⟨18, _⟩ => ⟨S2064x16x64, .f32⟩
  | .hbm, ⟨19, _⟩ => ⟨S2064x1024, .f32⟩
  | .hbm, ⟨20, _⟩ => ⟨S_, .i32⟩
  | .hbm, ⟨21, _⟩ => ⟨S_, .f32⟩
  | .hbm, ⟨22, _⟩ => ⟨S2304x1024, .f32⟩
  | .hbm, ⟨23, _⟩ => ⟨S2304x1024, .bf16⟩
  | .hbm, ⟨24, _⟩ => ⟨S2304x1024, .bf16⟩
  | .hbm, ⟨25, _⟩ => ⟨S16x2304x1, .f32⟩
  | .local _ .vmem, ⟨0, _⟩ => ⟨S256x512, .bf16⟩
  | .local _ .vmem, ⟨1, _⟩ => ⟨S256x512, .bf16⟩
  | .local _ .vmem, ⟨2, _⟩ => ⟨S2304x512, .bf16⟩
  | .local _ .vmem, ⟨3, _⟩ => ⟨S2304x512, .bf16⟩
  | .local _ .vmem, ⟨4, _⟩ => ⟨S2304x512, .bf16⟩
  | .local _ .vmem, ⟨5, _⟩ => ⟨S2304x512, .bf16⟩
  | .local _ .vmem, ⟨6, _⟩ => ⟨S256x512, .bf16⟩
  | .local _ .vmem, ⟨7, _⟩ => ⟨S256x512, .bf16⟩
  | .local _ .vmem, ⟨8, _⟩ => ⟨S8x256x1, .f32⟩
  | .local _ .vmem, ⟨9, _⟩ => ⟨S8x256x1, .f32⟩
  | _, _ => ⟨S1x2064x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c8_i32 : BitVec 32 := 8#32
  let v33 : BitVec 1 := Scalar.cmpi .slt arg1 c8_i32
  let v34 : BitVec 32 := Scalar.extui v33
  let c0_i32 : BitVec 32 := 0#32
  let v35 : BitVec 1 := Scalar.cmpi .ne v34 c0_i32
  v35

def k0_mult1 (i : grid0.Coords) : BitVec 32 :=
  let arg1 : BitVec 32 := BitVec.ofNat 32 (i 1).val
  let c256_i32 : BitVec 32 := 256#32
  let v49 : BitVec 32 := Scalar.muli arg1 c256_i32
  v49
def k0_off1 (i : grid0.Coords) : Fin 2 → Nat :=
  let arg1 : BitVec 32 := BitVec.ofNat 32 (i 1).val
  let c256_i32 : BitVec 32 := 256#32
  let v49 : BitVec 32 := Scalar.muli arg1 c256_i32
  let v50 : BitVec 32 := v49
  let v51 : Index := Scalar.indexCast v50
  let c0_17 : Index := 0#32
  ![v51.toNat, 0]
def k0_off2 (i : grid0.Coords) : Fin 2 → Nat :=
  let arg1 : BitVec 32 := BitVec.ofNat 32 (i 1).val
  let c256_i32 : BitVec 32 := 256#32
  let v49 : BitVec 32 := Scalar.muli arg1 c256_i32
  let v50 : BitVec 32 := v49
  let v67 : Index := Scalar.indexCast v50
  let c128_23 : Index := 128#32
  ![v67.toNat, 128]
def k0_off3 (i : grid0.Coords) : Fin 2 → Nat :=
  let arg1 : BitVec 32 := BitVec.ofNat 32 (i 1).val
  let c256_i32 : BitVec 32 := 256#32
  let v49 : BitVec 32 := Scalar.muli arg1 c256_i32
  let v50 : BitVec 32 := v49
  let v83 : Index := Scalar.indexCast v50
  let c256_29 : Index := 256#32
  ![v83.toNat, 256]
def k0_off4 (i : grid0.Coords) : Fin 2 → Nat :=
  let arg1 : BitVec 32 := BitVec.ofNat 32 (i 1).val
  let c256_i32 : BitVec 32 := 256#32
  let v49 : BitVec 32 := Scalar.muli arg1 c256_i32
  let v50 : BitVec 32 := v49
  let v99 : Index := Scalar.indexCast v50
  let c384_35 : Index := 384#32
  ![v99.toNat, 384]
@[reducible] def k0_t1_loop (i : grid0.Coords) : Scf.Loop 32 :=
  let c0_i32_54 : BitVec 32 := 0#32
  let arg1 : BitVec 32 := BitVec.ofNat 32 (i 1).val
  let v178 : BitVec 32 := Scalar.subi arg1 c0_i32_54
  let c1_i32 : BitVec 32 := 1#32
  let v180 : BitVec 32 := Scalar.divsi v178 c1_i32
  let v181 : BitVec 32 := Scalar.muli v180 c1_i32
  let v182 : BitVec 32 := Scalar.addi c0_i32_54 v181
  let c1_i32_55 : BitVec 32 := 1#32
  ⟨c0_i32_54, v182, c1_i32_55⟩
def k0_mult2 (i : grid0.Coords) (k0_t1 : Fin (k0_t1_loop i).trips) : BitVec 32 :=
  let arg1 : BitVec 32 := BitVec.ofNat 32 (i 1).val
  let c1_i32_82 : BitVec 32 := 1#32
  let v237 : BitVec 32 := Scalar.subi arg1 c1_i32_82
  let c0_i32_54 : BitVec 32 := 0#32
  let c1_i32_55 : BitVec 32 := 1#32
  let arg7 : BitVec 32 := Scf.iv c0_i32_54 c1_i32_55 k0_t1
  let v238 : BitVec 32 := Scalar.subi v237 arg7
  let c256_i32_83 : BitVec 32 := 256#32
  let v239 : BitVec 32 := Scalar.muli v238 c256_i32_83
  v239
def k0_off5 (i : grid0.Coords) (k0_t1 : Fin (k0_t1_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let c1_i32_55 : BitVec 32 := 1#32
  let arg7 : BitVec 32 := Scf.iv c0_i32_54 c1_i32_55 k0_t1
  let v238 : BitVec 32 := Scalar.subi v237 arg7
  let c256_i32_83 : BitVec 32 := 256#32
  let v239 : BitVec 32 := Scalar.muli v238 c256_i32_83
  let v240 : BitVec 32 := v239
  let v241 : Index := Scalar.indexCast v240
  let c0_84 : Index := 0#32
  ![v241.toNat, 0]
def k0_off6 (i : grid0.Coords) (k0_t1 : Fin (k0_t1_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let c1_i32_55 : BitVec 32 := 1#32
  let arg7 : BitVec 32 := Scf.iv c0_i32_54 c1_i32_55 k0_t1
  let v238 : BitVec 32 := Scalar.subi v237 arg7
  let c256_i32_83 : BitVec 32 := 256#32
  let v239 : BitVec 32 := Scalar.muli v238 c256_i32_83
  let v240 : BitVec 32 := v239
  let v255 : Index := Scalar.indexCast v240
  let c128_89 : Index := 128#32
  ![v255.toNat, 128]
def k0_off7 (i : grid0.Coords) (k0_t1 : Fin (k0_t1_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let c1_i32_55 : BitVec 32 := 1#32
  let arg7 : BitVec 32 := Scf.iv c0_i32_54 c1_i32_55 k0_t1
  let v238 : BitVec 32 := Scalar.subi v237 arg7
  let c256_i32_83 : BitVec 32 := 256#32
  let v239 : BitVec 32 := Scalar.muli v238 c256_i32_83
  let v240 : BitVec 32 := v239
  let v269 : Index := Scalar.indexCast v240
  let c256_94 : Index := 256#32
  ![v269.toNat, 256]
def k0_off8 (i : grid0.Coords) (k0_t1 : Fin (k0_t1_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let c1_i32_55 : BitVec 32 := 1#32
  let arg7 : BitVec 32 := Scf.iv c0_i32_54 c1_i32_55 k0_t1
  let v238 : BitVec 32 := Scalar.subi v237 arg7
  let c256_i32_83 : BitVec 32 := 256#32
  let v239 : BitVec 32 := Scalar.muli v238 c256_i32_83
  let v240 : BitVec 32 := v239
  let v283 : Index := Scalar.indexCast v240
  let c384_99 : Index := 384#32
  ![v283.toNat, 384]
@[reducible] def k0_t2_loop (i : grid0.Coords) : Scf.Loop 32 :=
  let c0_i32_54 : BitVec 32 := 0#32
  let arg1 : BitVec 32 := BitVec.ofNat 32 (i 1).val
  let v178 : BitVec 32 := Scalar.subi arg1 c0_i32_54
  let c1_i32 : BitVec 32 := 1#32
  let v180 : BitVec 32 := Scalar.divsi v178 c1_i32
  let v181 : BitVec 32 := Scalar.muli v180 c1_i32
  let v182 : BitVec 32 := Scalar.addi c0_i32_54 v181
  let v179 : BitVec 32 := Scalar.addi c0_i32_54 v178
  let c1_i32_56 : BitVec 32 := 1#32
  ⟨v182, v179, c1_i32_56⟩
def k0_mult3 (i : grid0.Coords) (k0_t2 : Fin (k0_t2_loop i).trips) : BitVec 32 :=
  let arg1 : BitVec 32 := BitVec.ofNat 32 (i 1).val
  let c1_i32_82 : BitVec 32 := 1#32
  let v237 : BitVec 32 := Scalar.subi arg1 c1_i32_82
  let c0_i32_54 : BitVec 32 := 0#32
  let v178 : BitVec 32 := Scalar.subi arg1 c0_i32_54
  let c1_i32 : BitVec 32 := 1#32
  let v180 : BitVec 32 := Scalar.divsi v178 c1_i32
  let v181 : BitVec 32 := Scalar.muli v180 c1_i32
  let v182 : BitVec 32 := Scalar.addi c0_i32_54 v181
  let c1_i32_56 : BitVec 32 := 1#32
  let arg7 : BitVec 32 := Scf.iv v182 c1_i32_56 k0_t2
  let v238 : BitVec 32 := Scalar.subi v237 arg7
  let c256_i32_83 : BitVec 32 := 256#32
  let v239 : BitVec 32 := Scalar.muli v238 c256_i32_83
  v239
def k0_off9 (i : grid0.Coords) (k0_t2 : Fin (k0_t2_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let v178 : BitVec 32 := Scalar.subi arg1 c0_i32_54
  let c1_i32 : BitVec 32 := 1#32
  let v180 : BitVec 32 := Scalar.divsi v178 c1_i32
  let v181 : BitVec 32 := Scalar.muli v180 c1_i32
  let v182 : BitVec 32 := Scalar.addi c0_i32_54 v181
  let c1_i32_56 : BitVec 32 := 1#32
  let arg7 : BitVec 32 := Scf.iv v182 c1_i32_56 k0_t2
  let v238 : BitVec 32 := Scalar.subi v237 arg7
  let c256_i32_83 : BitVec 32 := 256#32
  let v239 : BitVec 32 := Scalar.muli v238 c256_i32_83
  let v240 : BitVec 32 := v239
  let v241 : Index := Scalar.indexCast v240
  let c0_84 : Index := 0#32
  ![v241.toNat, 0]
def k0_off10 (i : grid0.Coords) (k0_t2 : Fin (k0_t2_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let v178 : BitVec 32 := Scalar.subi arg1 c0_i32_54
  let c1_i32 : BitVec 32 := 1#32
  let v180 : BitVec 32 := Scalar.divsi v178 c1_i32
  let v181 : BitVec 32 := Scalar.muli v180 c1_i32
  let v182 : BitVec 32 := Scalar.addi c0_i32_54 v181
  let c1_i32_56 : BitVec 32 := 1#32
  let arg7 : BitVec 32 := Scf.iv v182 c1_i32_56 k0_t2
  let v238 : BitVec 32 := Scalar.subi v237 arg7
  let c256_i32_83 : BitVec 32 := 256#32
  let v239 : BitVec 32 := Scalar.muli v238 c256_i32_83
  let v240 : BitVec 32 := v239
  let v255 : Index := Scalar.indexCast v240
  let c128_89 : Index := 128#32
  ![v255.toNat, 128]
def k0_off11 (i : grid0.Coords) (k0_t2 : Fin (k0_t2_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let v178 : BitVec 32 := Scalar.subi arg1 c0_i32_54
  let c1_i32 : BitVec 32 := 1#32
  let v180 : BitVec 32 := Scalar.divsi v178 c1_i32
  let v181 : BitVec 32 := Scalar.muli v180 c1_i32
  let v182 : BitVec 32 := Scalar.addi c0_i32_54 v181
  let c1_i32_56 : BitVec 32 := 1#32
  let arg7 : BitVec 32 := Scf.iv v182 c1_i32_56 k0_t2
  let v238 : BitVec 32 := Scalar.subi v237 arg7
  let c256_i32_83 : BitVec 32 := 256#32
  let v239 : BitVec 32 := Scalar.muli v238 c256_i32_83
  let v240 : BitVec 32 := v239
  let v269 : Index := Scalar.indexCast v240
  let c256_94 : Index := 256#32
  ![v269.toNat, 256]
def k0_off12 (i : grid0.Coords) (k0_t2 : Fin (k0_t2_loop i).trips) : Fin 2 → Nat :=
  let arg1 : BitVec 32 := BitVec.ofNat 32 (i 1).val
  let c1_i32_82 : BitVec 32 := 1#32
  let v237 : BitVec 32 := Scalar.subi arg1 c1_i32_82
  let c0_i32_54 : BitVec 32 := 0#32
  let v178 : BitVec 32 := Scalar.subi arg1 c0_i32_54
  let c1_i32 : BitVec 32 := 1#32
  let v180 : BitVec 32 := Scalar.divsi v178 c1_i32
  let v181 : BitVec 32 := Scalar.muli v180 c1_i32
  let v182 : BitVec 32 := Scalar.addi c0_i32_54 v181
  let c1_i32_56 : BitVec 32 := 1#32
  let arg7 : BitVec 32 := Scf.iv v182 c1_i32_56 k0_t2
  let v238 : BitVec 32 := Scalar.subi v237 arg7
  let c256_i32_83 : BitVec 32 := 256#32
  let v239 : BitVec 32 := Scalar.muli v238 c256_i32_83
  let v240 : BitVec 32 := v239
  let v283 : Index := Scalar.indexCast v240
  let c384_99 : Index := 384#32
  ![v283.toNat, 384]
def k0_cond2 (i : grid0.Coords) : BitVec 1 :=
  let arg1 : BitVec 32 := BitVec.ofNat 32 (i 1).val
  let c8_i32_7 : BitVec 32 := 8#32
  let v36 : BitVec 1 := Scalar.cmpi .eq arg1 c8_i32_7
  let v37 : BitVec 32 := Scalar.extui v36
  let c0_i32_8 : BitVec 32 := 0#32
  let v38 : BitVec 1 := Scalar.cmpi .ne v37 c0_i32_8
  v38

def k0_mult4 (i : grid0.Coords) : BitVec 32 :=
  let arg1 : BitVec 32 := BitVec.ofNat 32 (i 1).val
  let c256_i32 : BitVec 32 := 256#32
  let v62 : BitVec 32 := Scalar.muli arg1 c256_i32
  v62
def k0_off13 (i : grid0.Coords) : Fin 2 → Nat :=
  let arg1 : BitVec 32 := BitVec.ofNat 32 (i 1).val
  let c256_i32 : BitVec 32 := 256#32
  let v62 : BitVec 32 := Scalar.muli arg1 c256_i32
  let v63 : BitVec 32 := v62
  let v64 : Index := Scalar.indexCast v63
  let c0_17 : Index := 0#32
  ![v64.toNat, 0]
def k0_off14 (i : grid0.Coords) : Fin 2 → Nat :=
  let arg1 : BitVec 32 := BitVec.ofNat 32 (i 1).val
  let c256_i32 : BitVec 32 := 256#32
  let v62 : BitVec 32 := Scalar.muli arg1 c256_i32
  let v63 : BitVec 32 := v62
  let v80 : Index := Scalar.indexCast v63
  let c128_23 : Index := 128#32
  ![v80.toNat, 128]
def k0_off15 (i : grid0.Coords) : Fin 2 → Nat :=
  let arg1 : BitVec 32 := BitVec.ofNat 32 (i 1).val
  let c256_i32 : BitVec 32 := 256#32
  let v62 : BitVec 32 := Scalar.muli arg1 c256_i32
  let v63 : BitVec 32 := v62
  let v96 : Index := Scalar.indexCast v63
  let c256_29 : Index := 256#32
  ![v96.toNat, 256]
def k0_off16 (i : grid0.Coords) : Fin 2 → Nat :=
  let arg1 : BitVec 32 := BitVec.ofNat 32 (i 1).val
  let c256_i32 : BitVec 32 := 256#32
  let v62 : BitVec 32 := Scalar.muli arg1 c256_i32
  let v63 : BitVec 32 := v62
  let v112 : Index := Scalar.indexCast v63
  let c384_35 : Index := 384#32
  ![v112.toNat, 384]
@[reducible] def k0_t3_loop (i : grid0.Coords) : Scf.Loop 32 :=
  let c0_i32_54 : BitVec 32 := 0#32
  let arg1 : BitVec 32 := BitVec.ofNat 32 (i 1).val
  let v191 : BitVec 32 := Scalar.subi arg1 c0_i32_54
  let c1_i32 : BitVec 32 := 1#32
  let v193 : BitVec 32 := Scalar.divsi v191 c1_i32
  let v194 : BitVec 32 := Scalar.muli v193 c1_i32
  let v195 : BitVec 32 := Scalar.addi c0_i32_54 v194
  let c1_i32_55 : BitVec 32 := 1#32
  ⟨c0_i32_54, v195, c1_i32_55⟩
def k0_mult5 (i : grid0.Coords) (k0_t3 : Fin (k0_t3_loop i).trips) : BitVec 32 :=
  let arg1 : BitVec 32 := BitVec.ofNat 32 (i 1).val
  let c1_i32_125 : BitVec 32 := 1#32
  let v294 : BitVec 32 := Scalar.subi arg1 c1_i32_125
  let c0_i32_54 : BitVec 32 := 0#32
  let c1_i32_55 : BitVec 32 := 1#32
  let arg7 : BitVec 32 := Scf.iv c0_i32_54 c1_i32_55 k0_t3
  let v295 : BitVec 32 := Scalar.subi v294 arg7
  let c256_i32_126 : BitVec 32 := 256#32
  let v296 : BitVec 32 := Scalar.muli v295 c256_i32_126
  v296
def k0_off17 (i : grid0.Coords) (k0_t3 : Fin (k0_t3_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let c1_i32_55 : BitVec 32 := 1#32
  let arg7 : BitVec 32 := Scf.iv c0_i32_54 c1_i32_55 k0_t3
  let v295 : BitVec 32 := Scalar.subi v294 arg7
  let c256_i32_126 : BitVec 32 := 256#32
  let v296 : BitVec 32 := Scalar.muli v295 c256_i32_126
  let v297 : BitVec 32 := v296
  let v298 : Index := Scalar.indexCast v297
  let c0_127 : Index := 0#32
  ![v298.toNat, 0]
def k0_off18 (i : grid0.Coords) (k0_t3 : Fin (k0_t3_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let c1_i32_55 : BitVec 32 := 1#32
  let arg7 : BitVec 32 := Scf.iv c0_i32_54 c1_i32_55 k0_t3
  let v295 : BitVec 32 := Scalar.subi v294 arg7
  let c256_i32_126 : BitVec 32 := 256#32
  let v296 : BitVec 32 := Scalar.muli v295 c256_i32_126
  let v297 : BitVec 32 := v296
  let v312 : Index := Scalar.indexCast v297
  let c128_132 : Index := 128#32
  ![v312.toNat, 128]
def k0_off19 (i : grid0.Coords) (k0_t3 : Fin (k0_t3_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let c1_i32_55 : BitVec 32 := 1#32
  let arg7 : BitVec 32 := Scf.iv c0_i32_54 c1_i32_55 k0_t3
  let v295 : BitVec 32 := Scalar.subi v294 arg7
  let c256_i32_126 : BitVec 32 := 256#32
  let v296 : BitVec 32 := Scalar.muli v295 c256_i32_126
  let v297 : BitVec 32 := v296
  let v326 : Index := Scalar.indexCast v297
  let c256_137 : Index := 256#32
  ![v326.toNat, 256]
def k0_off20 (i : grid0.Coords) (k0_t3 : Fin (k0_t3_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let c1_i32_55 : BitVec 32 := 1#32
  let arg7 : BitVec 32 := Scf.iv c0_i32_54 c1_i32_55 k0_t3
  let v295 : BitVec 32 := Scalar.subi v294 arg7
  let c256_i32_126 : BitVec 32 := 256#32
  let v296 : BitVec 32 := Scalar.muli v295 c256_i32_126
  let v297 : BitVec 32 := v296
  let v340 : Index := Scalar.indexCast v297
  let c384_142 : Index := 384#32
  ![v340.toNat, 384]
@[reducible] def k0_t4_loop (i : grid0.Coords) : Scf.Loop 32 :=
  let c0_i32_54 : BitVec 32 := 0#32
  let arg1 : BitVec 32 := BitVec.ofNat 32 (i 1).val
  let v191 : BitVec 32 := Scalar.subi arg1 c0_i32_54
  let c1_i32 : BitVec 32 := 1#32
  let v193 : BitVec 32 := Scalar.divsi v191 c1_i32
  let v194 : BitVec 32 := Scalar.muli v193 c1_i32
  let v195 : BitVec 32 := Scalar.addi c0_i32_54 v194
  let v192 : BitVec 32 := Scalar.addi c0_i32_54 v191
  let c1_i32_56 : BitVec 32 := 1#32
  ⟨v195, v192, c1_i32_56⟩
def k0_mult6 (i : grid0.Coords) (k0_t4 : Fin (k0_t4_loop i).trips) : BitVec 32 :=
  let arg1 : BitVec 32 := BitVec.ofNat 32 (i 1).val
  let c1_i32_125 : BitVec 32 := 1#32
  let v294 : BitVec 32 := Scalar.subi arg1 c1_i32_125
  let c0_i32_54 : BitVec 32 := 0#32
  let v191 : BitVec 32 := Scalar.subi arg1 c0_i32_54
  let c1_i32 : BitVec 32 := 1#32
  let v193 : BitVec 32 := Scalar.divsi v191 c1_i32
  let v194 : BitVec 32 := Scalar.muli v193 c1_i32
  let v195 : BitVec 32 := Scalar.addi c0_i32_54 v194
  let c1_i32_56 : BitVec 32 := 1#32
  let arg7 : BitVec 32 := Scf.iv v195 c1_i32_56 k0_t4
  let v295 : BitVec 32 := Scalar.subi v294 arg7
  let c256_i32_126 : BitVec 32 := 256#32
  let v296 : BitVec 32 := Scalar.muli v295 c256_i32_126
  v296
def k0_off21 (i : grid0.Coords) (k0_t4 : Fin (k0_t4_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let v191 : BitVec 32 := Scalar.subi arg1 c0_i32_54
  let c1_i32 : BitVec 32 := 1#32
  let v193 : BitVec 32 := Scalar.divsi v191 c1_i32
  let v194 : BitVec 32 := Scalar.muli v193 c1_i32
  let v195 : BitVec 32 := Scalar.addi c0_i32_54 v194
  let c1_i32_56 : BitVec 32 := 1#32
  let arg7 : BitVec 32 := Scf.iv v195 c1_i32_56 k0_t4
  let v295 : BitVec 32 := Scalar.subi v294 arg7
  let c256_i32_126 : BitVec 32 := 256#32
  let v296 : BitVec 32 := Scalar.muli v295 c256_i32_126
  let v297 : BitVec 32 := v296
  let v298 : Index := Scalar.indexCast v297
  let c0_127 : Index := 0#32
  ![v298.toNat, 0]
def k0_off22 (i : grid0.Coords) (k0_t4 : Fin (k0_t4_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let v191 : BitVec 32 := Scalar.subi arg1 c0_i32_54
  let c1_i32 : BitVec 32 := 1#32
  let v193 : BitVec 32 := Scalar.divsi v191 c1_i32
  let v194 : BitVec 32 := Scalar.muli v193 c1_i32
  let v195 : BitVec 32 := Scalar.addi c0_i32_54 v194
  let c1_i32_56 : BitVec 32 := 1#32
  let arg7 : BitVec 32 := Scf.iv v195 c1_i32_56 k0_t4
  let v295 : BitVec 32 := Scalar.subi v294 arg7
  let c256_i32_126 : BitVec 32 := 256#32
  let v296 : BitVec 32 := Scalar.muli v295 c256_i32_126
  let v297 : BitVec 32 := v296
  let v312 : Index := Scalar.indexCast v297
  let c128_132 : Index := 128#32
  ![v312.toNat, 128]
def k0_off23 (i : grid0.Coords) (k0_t4 : Fin (k0_t4_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let v191 : BitVec 32 := Scalar.subi arg1 c0_i32_54
  let c1_i32 : BitVec 32 := 1#32
  let v193 : BitVec 32 := Scalar.divsi v191 c1_i32
  let v194 : BitVec 32 := Scalar.muli v193 c1_i32
  let v195 : BitVec 32 := Scalar.addi c0_i32_54 v194
  let c1_i32_56 : BitVec 32 := 1#32
  let arg7 : BitVec 32 := Scf.iv v195 c1_i32_56 k0_t4
  let v295 : BitVec 32 := Scalar.subi v294 arg7
  let c256_i32_126 : BitVec 32 := 256#32
  let v296 : BitVec 32 := Scalar.muli v295 c256_i32_126
  let v297 : BitVec 32 := v296
  let v326 : Index := Scalar.indexCast v297
  let c256_137 : Index := 256#32
  ![v326.toNat, 256]
def k0_off24 (i : grid0.Coords) (k0_t4 : Fin (k0_t4_loop i).trips) : Fin 2 → Nat :=
  let arg1 : BitVec 32 := BitVec.ofNat 32 (i 1).val
  let c1_i32_125 : BitVec 32 := 1#32
  let v294 : BitVec 32 := Scalar.subi arg1 c1_i32_125
  let c0_i32_54 : BitVec 32 := 0#32
  let v191 : BitVec 32 := Scalar.subi arg1 c0_i32_54
  let c1_i32 : BitVec 32 := 1#32
  let v193 : BitVec 32 := Scalar.divsi v191 c1_i32
  let v194 : BitVec 32 := Scalar.muli v193 c1_i32
  let v195 : BitVec 32 := Scalar.addi c0_i32_54 v194
  let c1_i32_56 : BitVec 32 := 1#32
  let arg7 : BitVec 32 := Scf.iv v195 c1_i32_56 k0_t4
  let v295 : BitVec 32 := Scalar.subi v294 arg7
  let c256_i32_126 : BitVec 32 := 256#32
  let v296 : BitVec 32 := Scalar.muli v295 c256_i32_126
  let v297 : BitVec 32 := v296
  let v340 : Index := Scalar.indexCast v297
  let c384_142 : Index := 384#32
  ![v340.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S1x2064x16x64 : Shape := ⟨4, ![1, 2064, 16, 64]⟩
abbrev S1x16x2064x2064 : Shape := ⟨4, ![1, 16, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x16x64x2064 : Shape := ⟨4, ![1, 16, 64, 2064]⟩
abbrev S1x16x2064x1 : Shape := ⟨4, ![1, 16, 2064, 1]⟩
abbrev S16x2064x1 : Shape := ⟨3, ![16, 2064, 1]⟩
abbrev S2064x16x64 : Shape := ⟨3, ![2064, 16, 64]⟩
abbrev S2064x1024 : Shape := ⟨2, ![2064, 1024]⟩
abbrev S2304x1024 : Shape := ⟨2, ![2304, 1024]⟩
abbrev S16x2304x1 : Shape := ⟨3, ![16, 2304, 1]⟩

abbrev nBuf : Space → Nat
  | .hbm => 56
  | .vmem => 0
  | .smem => 0
  | _ => 0

abbrev bufTy : (tb : Table) → Fin (tcTables nBuf tb) → BufTy
  | .hbm, ⟨0, _⟩ => ⟨S1x2064x16x64, .f32⟩
  | .hbm, ⟨1, _⟩ => ⟨S1x2064x16x64, .f32⟩
  | .hbm, ⟨2, _⟩ => ⟨S1x2064x16x64, .f32⟩
  | .hbm, ⟨3, _⟩ => ⟨S1x16x2064x2064, .f32⟩
  | .hbm, ⟨4, _⟩ => ⟨S_, .f32⟩
  | .hbm, ⟨5, _⟩ => ⟨S1x16x2064x2064, .f32⟩
  | .hbm, ⟨6, _⟩ => ⟨S1x16x2064x2064, .f32⟩
  | .hbm, ⟨7, _⟩ => ⟨S2064, .i32⟩
  | .hbm, ⟨8, _⟩ => ⟨S1x2064, .i32⟩
  | .hbm, ⟨9, _⟩ => ⟨S2064, .i32⟩
  | .hbm, ⟨10, _⟩ => ⟨S2064x1, .i32⟩
  | .hbm, ⟨11, _⟩ => ⟨S2064x2064, .i32⟩
  | .hbm, ⟨12, _⟩ => ⟨S2064x2064, .i32⟩
  | .hbm, ⟨13, _⟩ => ⟨S2064x2064, .i1⟩
  | .hbm, ⟨14, _⟩ => ⟨S_, .f32⟩
  | .hbm, ⟨15, _⟩ => ⟨S1x16x2064x2064, .f32⟩
  | .hbm, ⟨16, _⟩ => ⟨S1x16x2064x2064, .f32⟩
  | .hbm, ⟨17, _⟩ => ⟨S1x16x2064x2064, .f32⟩
  | .hbm, ⟨18, _⟩ => ⟨S1x16x2064x2064, .f32⟩
  | .hbm, ⟨19, _⟩ => ⟨S1x16x2064x2064, .i1⟩
  | .hbm, ⟨20, _⟩ => ⟨S1x16x2064x2064, .f32⟩
  | .hbm, ⟨21, _⟩ => ⟨S1x16x2064x2064, .f32⟩
  | .hbm, ⟨22, _⟩ => ⟨S1x16x2064x2064, .f32⟩
  | .hbm, ⟨23, _⟩ => ⟨S1x16x2064x2064, .f32⟩
  | .hbm, ⟨24, _⟩ => ⟨S1x16x2064x2064, .f32⟩
  | .hbm, ⟨25, _⟩ => ⟨S1x16x2064x2064, .f32⟩
  | .hbm, ⟨26, _⟩ => ⟨S1x16x2064x2064, .f32⟩
  | .hbm, ⟨27, _⟩ => ⟨S1x16x2064x2064, .f32⟩
  | .hbm, ⟨28, _⟩ => ⟨S_, .f32⟩
  | .hbm, ⟨29, _⟩ => ⟨S_, .f32⟩
  | .hbm, ⟨30, _⟩ => ⟨S1x16x2064x2064, .i1⟩
  | .hbm, ⟨31, _⟩ => ⟨S1x16x2064x2064, .f32⟩
  | .hbm, ⟨32, _⟩ => ⟨S1x16x2064x2064, .f32⟩
  | .hbm, ⟨33, _⟩ => ⟨S_, .f32⟩
  | .hbm, ⟨34, _⟩ => ⟨S_, .f32⟩
  | .hbm, ⟨35, _⟩ => ⟨S1x16x2064x2064, .f32⟩
  | .hbm, ⟨36, _⟩ => ⟨S1x16x2064x2064, .f32⟩
  | .hbm, ⟨37, _⟩ => ⟨S_, .f32⟩
  | .hbm, ⟨38, _⟩ => ⟨S_, .f32⟩
  | .hbm, ⟨39, _⟩ => ⟨S1x16x2064x2064, .i1⟩
  | .hbm, ⟨40, _⟩ => ⟨S1x16x2064x2064, .f32⟩
  | .hbm, ⟨41, _⟩ => ⟨S1x16x2064x2064, .f32⟩
  | .hbm, ⟨42, _⟩ => ⟨S1x16x2064x2064, .f32⟩
  | .hbm, ⟨43, _⟩ => ⟨S1x16x64x2064, .f32⟩
  | .hbm, ⟨44, _⟩ => ⟨S1x2064x16x64, .f32⟩
  | .hbm, ⟨45, _⟩ => ⟨S1x16x2064x1, .f32⟩
  | .hbm, ⟨46, _⟩ => ⟨S16x2064x1, .f32⟩
  | .hbm, ⟨47, _⟩ => ⟨S2064x16x64, .f32⟩
  | .hbm, ⟨48, _⟩ => ⟨S2064x1024, .f32⟩
  | .hbm, ⟨49, _⟩ => ⟨S_, .i32⟩
  | .hbm, ⟨50, _⟩ => ⟨S_, .f32⟩
  | .hbm, ⟨51, _⟩ => ⟨S2304x1024, .f32⟩
  | .hbm, ⟨52, _⟩ => ⟨S2304x1024, .bf16⟩
  | .hbm, ⟨53, _⟩ => ⟨S_, .i32⟩
  | .hbm, ⟨54, _⟩ => ⟨S_, .f32⟩
  | .hbm, ⟨55, _⟩ => ⟨S16x2304x1, .f32⟩
  | _, _ => ⟨S1x2064x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v10 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_call2_cst : Ref sig .tc := ⟨.hbm, 33, rfl⟩
abbrev main_call2_v0 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c : Ref sig .tc := ⟨.hbm, 49, rfl⟩
abbrev main_call4_v0 : Ref sig .tc := ⟨.hbm, 50, rfl⟩
abbrev main_v22 : Ref sig .tc := ⟨.hbm, 51, rfl⟩
abbrev main_v23 : Ref sig .tc := ⟨.hbm, 52, rfl⟩
abbrev main_c_2 : Ref sig .tc := ⟨.hbm, 53, rfl⟩
abbrev main_call5_v0 : Ref sig .tc := ⟨.hbm, 54, rfl⟩
abbrev main_v24 : Ref sig .tc := ⟨.hbm, 55, rfl⟩

abbrev nD : Nat := 1
abbrev τ : Topo := Topo.v7x

variable {F : FTy → Type} [FloatOps F]
-- ==== Kernel12.lean ====
abbrev S1x2064x7168 : Shape := ⟨3, ![1, 2064, 7168]⟩
abbrev S2064x7168 : Shape := ⟨2, ![2064, 7168]⟩
abbrev S_ : Shape := ⟨0, ![]⟩
abbrev S2176x7168 : Shape := ⟨2, ![2176, 7168]⟩
abbrev S2176x1024 : Shape := ⟨2, ![2176, 1024]⟩
abbrev S272x1024 : Shape := ⟨2, ![272, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1x2064x7168, .f32⟩
  | .hbm, ⟨1, _⟩ => ⟨S2064x7168, .f32⟩
  | .hbm, ⟨2, _⟩ => ⟨S_, .i32⟩
  | .hbm, ⟨3, _⟩ => ⟨S_, .f32⟩
  | .hbm, ⟨4, _⟩ => ⟨S2176x7168, .f32⟩
  | .hbm, ⟨5, _⟩ => ⟨S2176x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | _, _ => ⟨S1x2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S1x2064x7168 : Shape := ⟨3, ![1, 2064, 7168]⟩
abbrev S1x2064x2048 : Shape := ⟨3, ![1, 2064, 2048]⟩
abbrev S1x2064x1024 : Shape := ⟨3, ![1, 2064, 1024]⟩
abbrev S_ : Shape := ⟨0, ![]⟩
abbrev S2064x1024 : Shape := ⟨2, ![2064, 1024]⟩
abbrev S2176x1024 : Shape := ⟨2, ![2176, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1x2064x7168, .f32⟩
  | .hbm, ⟨1, _⟩ => ⟨S1x2064x2048, .f32⟩
  | .hbm, ⟨2, _⟩ => ⟨S1x2064x1024, .f32⟩
  | .hbm, ⟨3, _⟩ => ⟨S1x2064x1024, .f32⟩
  | .hbm, ⟨4, _⟩ => ⟨S1x2064x1024, .f32⟩
  | .hbm, ⟨5, _⟩ => ⟨S1x2064x1024, .f32⟩
  | .hbm, ⟨6, _⟩ => ⟨S_, .f32⟩
  | .hbm, ⟨7, _⟩ => ⟨S1x2064x1024, .f32⟩
  | .hbm, ⟨8, _⟩ => ⟨S1x2064x1024, .f32⟩
  | .hbm, ⟨9, _⟩ => ⟨S_, .f32⟩
  | .hbm, ⟨10, _⟩ => ⟨S1x2064x1024, .f32⟩
  | .hbm, ⟨11, _⟩ => ⟨S1x2064x1024, .f32⟩
  | .hbm, ⟨12, _⟩ => ⟨S1x2064x1024, .f32⟩
  | .hbm, ⟨13, _⟩ => ⟨S2064x1024, .f32⟩
  | .hbm, ⟨14, _⟩ => ⟨S_, .i32⟩
  | .hbm, ⟨15, _⟩ => ⟨S_, .f32⟩
  | .hbm, ⟨16, _⟩ => ⟨S2176x1024, .f32⟩
  | _, _ => ⟨S1x2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel13.lean ====
abbrev S1x2064x5632 : Shape := ⟨3, ![1, 2064, 5632]⟩
abbrev S2064x5632 : Shape := ⟨2, ![2064, 5632]⟩
abbrev S_ : Shape := ⟨0, ![]⟩
abbrev S2176x5632 : Shape := ⟨2, ![2176, 5632]⟩
abbrev S2176x2816 : Shape := ⟨2, ![2176, 2816]⟩
abbrev S128x2816 : Shape := ⟨2, ![128, 2816]⟩

abbrev nBuf : Space → Nat
  | .hbm => 6
  | .vmem => 6
  | .smem => 0
  | _ => 0

abbrev bufTy : (tb : Table) → Fin (tcTables nBuf tb) → BufTy
  | .hbm, ⟨0, _⟩ => ⟨S1x2064x5632, .f32⟩
  | .hbm, ⟨1, _⟩ => ⟨S2064x5632, .f32⟩
  | .hbm, ⟨2, _⟩ => ⟨S_, .i32⟩
  | .hbm, ⟨3, _⟩ => ⟨S_, .f32⟩
  | .hbm, ⟨4, _⟩ => ⟨S2176x5632, .f32⟩
  | .hbm, ⟨5, _⟩ => ⟨S2176x2816, .bf16⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .bf16⟩
  | .local _ .vmem, ⟨5, _⟩ => ⟨S128x2816, .bf16⟩
  | _, _ => ⟨S1x2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S1x2064x5632 : Shape := ⟨3, ![1, 2064, 5632]⟩
abbrev S1x2064x2816 : Shape := ⟨3, ![1, 2064, 2816]⟩
abbrev S_ : Shape := ⟨0, ![]⟩
abbrev S2064x2816 : Shape := ⟨2, ![2064, 2816]⟩
abbrev S2176x2816 : Shape := ⟨2, ![2176, 2816]⟩

abbrev nBuf : Space → Nat
  | .hbm => 18
  | .vmem => 0
  | .smem => 0
  | _ => 0

abbrev bufTy : (tb : Table) → Fin (tcTables nBuf tb) → BufTy
  | .hbm, ⟨0, _⟩ => ⟨S1x2064x5632, .f32⟩
  | .hbm, ⟨1, _⟩ => ⟨S1x2064x2816, .f32⟩
  | .hbm, ⟨2, _⟩ => ⟨S1x2064x2816, .f32⟩
  | .hbm, ⟨3, _⟩ => ⟨S1x2064x2816, .f32⟩
  | .hbm, ⟨4, _⟩ => ⟨S1x2064x2816, .f32⟩
  | .hbm, ⟨5, _⟩ => ⟨S_, .f32⟩
  | .hbm, ⟨6, _⟩ => ⟨S1x2064x2816, .f32⟩
  | .hbm, ⟨7, _⟩ => ⟨S1x2064x2816, .f32⟩
  | .hbm, ⟨8, _⟩ => ⟨S_, .f32⟩
  | .hbm, ⟨9, _⟩ => ⟨S1x2064x2816, .f32⟩
  | .hbm, ⟨10, _⟩ => ⟨S1x2064x2816, .f32⟩
  | .hbm, ⟨11, _⟩ => ⟨S1x2064x2816, .f32⟩
  | .hbm, ⟨12, _⟩ => ⟨S1x2064x2816, .f32⟩
  | .hbm, ⟨13, _⟩ => ⟨S2064x2816, .f32⟩
  | .hbm, ⟨14, _⟩ => ⟨S_, .i32⟩
  | .hbm, ⟨15, _⟩ => ⟨S_, .f32⟩
  | .hbm, ⟨16, _⟩ => ⟨S2176x2816, .f32⟩
  | .hbm, ⟨17, _⟩ => ⟨S2176x2816, .bf16⟩
  | _, _ => ⟨S1x2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel14.lean ====
abbrev S1x2064x1024 : Shape := ⟨3, ![1, 2064, 1024]⟩
abbrev S1x1024 : Shape := ⟨2, ![1, 1024]⟩
abbrev S2064x1024 : Shape := ⟨2, ![2064, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩

abbrev nBuf : Space → Nat
  | .hbm => 7
  | .vmem => 5
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S2176x1024, .bf16⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S272x1024, .bf16⟩
  | .local _ .vmem, ⟨4, _⟩ => ⟨S272x1024, .bf16⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S1x2064x1024 : Shape := ⟨3, ![1, 2064, 1024]⟩
abbrev S1x1024 : Shape := ⟨2, ![1, 1024]⟩
abbrev S1024 : Shape := ⟨1, ![1024]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S2064x1024 : Shape := ⟨2, ![2064, 1024]⟩
abbrev S2176x1024 : Shape := ⟨2, ![2176, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S1024, .f32⟩
  | .hbm, ⟨3, _⟩ => ⟨S1x2064x1024, .f32⟩
  | .hbm, ⟨4, _⟩ => ⟨S_, .f32⟩
  | .hbm, ⟨5, _⟩ => ⟨S1x2064, .f32⟩
  | .hbm, ⟨6, _⟩ => ⟨S1x2064x1, .f32⟩
  | .hbm, ⟨7, _⟩ => ⟨S_, .f32⟩
  | .hbm, ⟨8, _⟩ => ⟨S1x2064x1, .f32⟩
  | .hbm, ⟨9, _⟩ => ⟨S1x2064x1, .f32⟩
  | .hbm, ⟨10, _⟩ => ⟨S_, .f32⟩
  | .hbm, ⟨11, _⟩ => ⟨S1x2064x1, .f32⟩
  | .hbm, ⟨12, _⟩ => ⟨S1x2064x1, .f32⟩
  | .hbm, ⟨13, _⟩ => ⟨S1x2064x1, .f32⟩
  | .hbm, ⟨14, _⟩ => ⟨S1x2064x1024, .f32⟩
  | .hbm, ⟨15, _⟩ => ⟨S1x2064x1024, .f32⟩
  | .hbm, ⟨16, _⟩ => ⟨S1x1x1024, .f32⟩
  | .hbm, ⟨17, _⟩ => ⟨S1x2064x1024, .f32⟩
  | .hbm, ⟨18, _⟩ => ⟨S1x2064x1024, .f32⟩
  | .hbm, ⟨19, _⟩ => ⟨S2064x1024, .f32⟩
  | .hbm, ⟨20, _⟩ => ⟨S_, .i32⟩
  | .hbm, ⟨21, _⟩ => ⟨S_, .f32⟩
  | .hbm, ⟨22, _⟩ => ⟨S2176x1024, .f32⟩
  | .hbm, ⟨23, _⟩ => ⟨S2176x1024, .bf16⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S1x2064x1024 : Shape := ⟨3, ![1, 2064, 1024]⟩
abbrev S1x1024 : Shape := ⟨2, ![1, 1024]⟩
abbrev S2064x1024 : Shape := ⟨2, ![2064, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩

abbrev nBuf : Space → Nat
  | .hbm => 12
  | .vmem => 7
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x1024, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S2064x1024, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S2176x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S1x1024, .f32⟩
  | .local _ .vmem, ⟨5, _⟩ => ⟨S272x1024, .f32⟩
  | .local _ .vmem, ⟨6, _⟩ => ⟨S272x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S1x2064x1024 : Shape := ⟨3, ![1, 2064, 1024]⟩
abbrev S1x1024 : Shape := ⟨2, ![1, 1024]⟩
abbrev S1024 : Shape := ⟨1, ![1024]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S2064x1024 : Shape := ⟨2, ![2064, 1024]⟩
abbrev S2176x1024 : Shape := ⟨2, ![2176, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1x1024, .f32⟩
  | .hbm, ⟨3, _⟩ => ⟨S1024, .f32⟩
  | .hbm, ⟨4, _⟩ => ⟨S1x2064x1024, .f32⟩
  | .hbm, ⟨5, _⟩ => ⟨S_, .f32⟩
  | .hbm, ⟨6, _⟩ => ⟨S1x2064, .f32⟩
  | .hbm, ⟨7, _⟩ => ⟨S1x2064x1, .f32⟩
  | .hbm, ⟨8, _⟩ => ⟨S_, .f32⟩
  | .hbm, ⟨9, _⟩ => ⟨S1x2064x1, .f32⟩
  | .hbm, ⟨10, _⟩ => ⟨S1x2064x1, .f32⟩
  | .hbm, ⟨11, _⟩ => ⟨S_, .f32⟩
  | .hbm, ⟨12, _⟩ => ⟨S1x2064x1, .f32⟩
  | .hbm, ⟨13, _⟩ => ⟨S1x2064x1, .f32⟩
  | .hbm, ⟨14, _⟩ => ⟨S1x2064x1, .f32⟩
  | .hbm, ⟨15, _⟩ => ⟨S1x2064x1024, .f32⟩
  | .hbm, ⟨16, _⟩ => ⟨S1x2064x1024, .f32⟩
  | .hbm, ⟨17, _⟩ => ⟨S1x1x1024, .f32⟩
  | .hbm, ⟨18, _⟩ => ⟨S1x2064x1024, .f32⟩
  | .hbm, ⟨19, _⟩ => ⟨S1x2064x1024, .f32⟩
  | .hbm, ⟨20, _⟩ => ⟨S1x2064x1024, .f32⟩
  | .hbm, ⟨21, _⟩ => ⟨S2064x1024, .f32⟩
  | .hbm, ⟨22, _⟩ => ⟨S_, .i32⟩
  | .hbm, ⟨23, _⟩ => ⟨S_, .f32⟩
  | .hbm, ⟨24, _⟩ => ⟨S2176x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel16.lean ====
abbrev S1x2064x7168 : Shape := ⟨3, ![1, 2064, 7168]⟩
abbrev S1x2064x1024 : Shape := ⟨3, ![1, 2064, 1024]⟩
abbrev S1x2048 : Shape := ⟨2, ![1, 2048]⟩
abbrev S2064x7168 : Shape := ⟨2, ![2064, 7168]⟩
abbrev S_ : Shape := ⟨0, ![]⟩
abbrev S2176x7168 : Shape := ⟨2, ![2176, 7168]⟩
abbrev S2064x1024 : Shape := ⟨2, ![2064, 1024]⟩
abbrev S2176x1024 : Shape := ⟨2, ![2176, 1024]⟩
abbrev S272x1024 : Shape := ⟨2, ![272, 1024]⟩
abbrev S1x1024 : Shape := ⟨2, ![1, 1024]⟩

abbrev nBuf : Space → Nat
  | .hbm => 17
  | .vmem => 12
  | .smem => 0
  | _ => 0

abbrev bufTy : (tb : Table) → Fin (tcTables nBuf tb) → BufTy
  | .hbm, ⟨0, _⟩ => ⟨S1x2064x7168, .f32⟩
  | .hbm, ⟨1, _⟩ => ⟨S1x2064x1024, .f32⟩
  | .hbm, ⟨2, _⟩ => ⟨S1x2064x1024, .f32⟩
  | .hbm, ⟨3, _⟩ => ⟨S1x2048, .f32⟩
  | .hbm, ⟨4, _⟩ => ⟨S2064x7168, .f32⟩
  | .hbm, ⟨5, _⟩ => ⟨S_, .i32⟩
  | .hbm, ⟨6, _⟩ => ⟨S_, .f32⟩
  | .hbm, ⟨7, _⟩ => ⟨S2176x7168, .f32⟩
  | .hbm, ⟨8, _⟩ => ⟨S2064x1024, .f32⟩
  | .hbm, ⟨9, _⟩ => ⟨S_, .i32⟩
  | .hbm, ⟨10, _⟩ => ⟨S_, .f32⟩
  | .hbm, ⟨11, _⟩ => ⟨S2176x1024, .f32⟩
  | .hbm, ⟨12, _⟩ => ⟨S2064x1024, .f32⟩
  | .hbm, ⟨13, _⟩ => ⟨S_, .i32⟩
  | .hbm, ⟨14, _⟩ => ⟨S_, .f32⟩
  | .hbm, ⟨15, _⟩ => ⟨S2176x1024, .f32⟩
  | .hbm, ⟨16, _⟩ => ⟨S2176x1024, .bf16⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S1x1024, .f32⟩
  | .local _ .vmem, ⟨9, _⟩ => ⟨S1x1024, .f32⟩
  | .local _ .vmem, ⟨10, _⟩ => ⟨S272x1024, .bf16⟩
  | .local _ .vmem, ⟨11, _⟩ => ⟨S272x1024, .bf16⟩
  | _, _ => ⟨S1x2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1x2064x7168 : Shape := ⟨3, ![1, 2064, 7168]⟩
abbrev S1x2064x1024 : Shape := ⟨3, ![1, 2064, 1024]⟩
abbrev S1x2048 : Shape := ⟨2, ![1, 2048]⟩
abbrev S1x2064x2048 : Shape := ⟨3, ![1, 2064, 2048]⟩
abbrev S2048 : Shape := ⟨1, ![2048]⟩
abbrev S1x1x2048 : Shape := ⟨3, ![1, 1, 2048]⟩
abbrev S_ : Shape := ⟨0, ![]⟩
abbrev S2064x1024 : Shape := ⟨2, ![2064, 1024]⟩
abbrev S2176x1024 : Shape := ⟨2, ![2176, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x2064x7168, .f32⟩
  | .hbm, ⟨1, _⟩ => ⟨S1x2064x1024, .f32⟩
  | .hbm, ⟨2, _⟩ => ⟨S1x2064x1024, .f32⟩
  | .hbm, ⟨3, _⟩ => ⟨S1x2048, .f32⟩
  | .hbm, ⟨4, _⟩ => ⟨S1x2064x2048, .f32⟩
  | .hbm, ⟨5, _⟩ => ⟨S2048, .f32⟩
  | .hbm, ⟨6, _⟩ => ⟨S1x1x2048, .f32⟩
  | .hbm, ⟨7, _⟩ => ⟨S1x2064x2048, .f32⟩
  | .hbm, ⟨8, _⟩ => ⟨S1x2064x2048, .f32⟩
  | .hbm, ⟨9, _⟩ => ⟨S1x2064x2048, .f32⟩
  | .hbm, ⟨10, _⟩ => ⟨S1x2064x2048, .f32⟩
  | .hbm, ⟨11, _⟩ => ⟨S_, .f32⟩
  | .hbm, ⟨12, _⟩ => ⟨S1x2064x2048, .f32⟩
  | .hbm, ⟨13, _⟩ => ⟨S1x2064x2048, .f32⟩
  | .hbm, ⟨14, _⟩ => ⟨S_, .f32⟩
  | .hbm, ⟨15, _⟩ => ⟨S1x2064x2048, .f32⟩
  | .hbm, ⟨16, _⟩ => ⟨S1x2064x2048, .f32⟩
  | .hbm, ⟨17, _⟩ => ⟨S1x2064x1024, .f32⟩
  | .hbm, ⟨18, _⟩ => ⟨S1x2064x1024, .f32⟩
  | .hbm, ⟨19, _⟩ => ⟨S1x2064x1024, .f32⟩
  | .hbm, ⟨20, _⟩ => ⟨S1x2064x1024, .f32⟩
  | .hbm, ⟨21, _⟩ => ⟨S1x2064x1024, .f32⟩
  | .hbm, ⟨22, _⟩ => ⟨S2064x1024, .f32⟩
  | .hbm, ⟨23, _⟩ => ⟨S_, .i32⟩
  | .hbm, ⟨24, _⟩ => ⟨S_, .f32⟩
  | .hbm, ⟨25, _⟩ => ⟨S2176x1024, .f32⟩
  | .hbm, ⟨26, _⟩ => ⟨S2176x1024, .bf16⟩
  | _, _ => ⟨S1x2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel17.lean ====
abbrev S1x2064x1024 : Shape := ⟨3, ![1, 2064, 1024]⟩
abbrev S1x1024 : Shape := ⟨2, ![1, 1024]⟩
abbrev S2064x1024 : Shape := ⟨2, ![2064, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S2176x1024, .bf16⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S272x1024, .bf16⟩
  | .local _ .vmem, ⟨6, _⟩ => ⟨S272x1024, .bf16⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S1x2064x1024 : Shape := ⟨3, ![1, 2064, 1024]⟩
abbrev S1x1024 : Shape := ⟨2, ![1, 1024]⟩
abbrev S2064x1024 : Shape := ⟨2, ![2064, 1024]⟩
abbrev S_ : Shape := ⟨0, ![]⟩
abbrev S2176x1024 : Shape := ⟨2, ![2176, 1024]⟩
abbrev S1024 : Shape := ⟨1, ![1024]⟩
abbrev S2176 : Shape := ⟨1, ![2176]⟩
abbrev S2176x1 : Shape := ⟨2, ![2176, 1]⟩

abbrev nBuf : Space → Nat
  | .hbm => 51
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S1024, .f32⟩
  | .hbm, ⟨9, _⟩ => ⟨S1x1024, .f32⟩
  | .hbm, ⟨10, _⟩ => ⟨S2176x1024, .f32⟩
  | .hbm, ⟨11, _⟩ => ⟨S2176x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S2176, .f32⟩
  | .hbm, ⟨16, _⟩ => ⟨S2176x1, .f32⟩
  | .hbm, ⟨17, _⟩ => ⟨S_, .f32⟩
  | .hbm, ⟨18, _⟩ => ⟨S2176x1, .f32⟩
  | .hbm, ⟨19, _⟩ => ⟨S2176x1, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S_, .f32⟩
  | .hbm, ⟨24, _⟩ => ⟨S2176, .f32⟩
  | .hbm, ⟨25, _⟩ => ⟨S2176x1, .f32⟩
  | .hbm, ⟨26, _⟩ => ⟨S_, .f32⟩
  | .hbm, ⟨27, _⟩ => ⟨S2176x1, .f32⟩
  | .hbm, ⟨28, _⟩ => ⟨S2176x1, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S1x1024, .f32⟩
  | .hbm, ⟨36, _⟩ => ⟨S2176x1024, .f32⟩
  | .hbm, ⟨37, _⟩ => ⟨S2176x1024, .f32⟩
  | .hbm, ⟨38, _⟩ => ⟨S1x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176x1024, .f32⟩
  | .hbm, ⟨45, _⟩ => ⟨S2176x1024, .f32⟩
  | .hbm, ⟨46, _⟩ => ⟨S_, .f32⟩
  | .hbm, ⟨47, _⟩ => ⟨S2176x1024, .f32⟩
  | .hbm, ⟨48, _⟩ => ⟨S2176x1024, .f32⟩
  | .hbm, ⟨49, _⟩ => ⟨S2176x1024, .f32⟩
  | .hbm, ⟨50, _⟩ => ⟨S2176x1024, .bf16⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel18.lean ====
abbrev S1x2064x1024 : Shape := ⟨3, ![1, 2064, 1024]⟩
abbrev S1x31x1024 : Shape := ⟨3, ![1, 31, 1024]⟩
abbrev S2064x1024 : Shape := ⟨2, ![2064, 1024]⟩
abbrev S_ : Shape := ⟨0, ![]⟩
abbrev S2176x1024 : Shape := ⟨2, ![2176, 1024]⟩
abbrev S31x1024 : Shape := ⟨2, ![31, 1024]⟩
abbrev S2176x128 : Shape := ⟨2, ![2176, 128]⟩
abbrev S31x128 : Shape := ⟨2, ![31, 128]⟩
abbrev S2216x128 : Shape := ⟨2, ![2216, 128]⟩
abbrev S32x128 : Shape := ⟨2, ![32, 128]⟩
abbrev S8x128 : Shape := ⟨2, ![8, 128]⟩
abbrev S168x128 : Shape := ⟨2, ![168, 128]⟩
abbrev S128x128 : Shape := ⟨2, ![128, 128]⟩
abbrev S1x128 : Shape := ⟨2, ![1, 128]⟩

abbrev nBuf : Space → Nat
  | .hbm => 8
  | .vmem => 7
  | .smem => 0
  | _ => 0

abbrev bufTy : (tb : Table) → Fin (tcTables nBuf tb) → BufTy
  | .hbm, ⟨0, _⟩ => ⟨S1x2064x1024, .f32⟩
  | .hbm, ⟨1, _⟩ => ⟨S1x31x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S31x1024, .f32⟩
  | .hbm, ⟨7, _⟩ => ⟨S2176x1024, .f32⟩
  | .local _ .vmem, ⟨0, _⟩ => ⟨S2176x128, .f32⟩
  | .local _ .vmem, ⟨1, _⟩ => ⟨S2176x128, .f32⟩
  | .local _ .vmem, ⟨2, _⟩ => ⟨S31x128, .f32⟩
  | .local _ .vmem, ⟨3, _⟩ => ⟨S31x128, .f32⟩
  | .local _ .vmem, ⟨4, _⟩ => ⟨S2176x128, .f32⟩
  | .local _ .vmem, ⟨5, _⟩ => ⟨S2176x128, .f32⟩
  | .local _ .vmem, ⟨6, _⟩ => ⟨S2216x128, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v13 : BitVec 32 := Scalar.addi c0_i32 c17_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  v14
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v16 : Index := Scalar.indexCast v15
  let c0_7 : Index := 0#32
  ![v16.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v212 : Index := Scalar.indexCast v15
  let c0_41 : Index := 0#32
  ![v212.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S1x2064x1024 : Shape := ⟨3, ![1, 2064, 1024]⟩
abbrev S1x31x1024 : Shape := ⟨3, ![1, 31, 1024]⟩
abbrev S_ : Shape := ⟨0, ![]⟩
abbrev S1x2176x1024 : Shape := ⟨3, ![1, 2176, 1024]⟩
abbrev S1x30x1024 : Shape := ⟨3, ![1, 30, 1024]⟩
abbrev S1x2206x1024 : Shape := ⟨3, ![1, 2206, 1024]⟩
abbrev S1x1x1024 : Shape := ⟨3, ![1, 1, 1024]⟩
abbrev S1024 : Shape := ⟨1, ![1024]⟩
abbrev S2176x1024 : Shape := ⟨2, ![2176, 1024]⟩

abbrev nBuf : Space → Nat
  | .hbm => 228
  | .vmem => 0
  | .smem => 0
  | _ => 0

abbrev hbmTy0_0 (i : Nat) : BufTy := match i % 128 with
  | 0 => ⟨S1x2064x1024, .f32⟩
  | 1 => ⟨S1x31x1024, .f32⟩
  | 2 => ⟨S_, .i32⟩
  | 3 => ⟨S_, .f32⟩
  | 4 => ⟨S1x2176x1024, .f32⟩
  | 5 => ⟨S_, .f32⟩
  | 6 => ⟨S1x30x1024, .f32⟩
  | 7 => ⟨S1x2206x1024, .f32⟩
  | 8 => ⟨S_, .f32⟩
  | 9 => ⟨S1x2176x1024, .f32⟩
  | 10 => ⟨S1x2176x1024, .f32⟩
  | 11 => ⟨S1x1x1024, .f32⟩
  | 12 => ⟨S1024, .f32⟩
  | 13 => ⟨S1x1x1024, .f32⟩
  | 14 => ⟨S1x2176x1024, .f32⟩
  | 15 => ⟨S1x2176x1024, .f32⟩
  | 16 => ⟨S1x2176x1024, .f32⟩
  | 17 => ⟨S1x2176x1024, .f32⟩
  | 18 => ⟨S1x1x1024, .f32⟩
  | 19 => ⟨S1024, .f32⟩
  | 20 => ⟨S1x1x1024, .f32⟩
  | 21 => ⟨S1x2176x1024, .f32⟩
  | 22 => ⟨S1x2176x1024, .f32⟩
  | 23 => ⟨S1x2176x1024, .f32⟩
  | 24 => ⟨S1x2176x1024, .f32⟩
  | 25 => ⟨S1x1x1024, .f32⟩
  | 26 => ⟨S1024, .f32⟩
  | 27 => ⟨S1x1x1024, .f32⟩
  | 28 => ⟨S1x2176x1024, .f32⟩
  | 29 => ⟨S1x2176x1024, .f32⟩
  | 30 => ⟨S1x2176x1024, .f32⟩
  | 31 => ⟨S1x2176x1024, .f32⟩
  | 32 => ⟨S1x1x1024, .f32⟩
  | 33 => ⟨S1024, .f32⟩
  | 34 => ⟨S1x1x1024, .f32⟩
  | 35 => ⟨S1x2176x1024, .f32⟩
  | 36 => ⟨S1x2176x1024, .f32⟩
  | 37 => ⟨S1x2176x1024, .f32⟩
  | 38 => ⟨S1x2176x1024, .f32⟩
  | 39 => ⟨S1x1x1024, .f32⟩
  | 40 => ⟨S1024, .f32⟩
  | 41 => ⟨S1x1x1024, .f32⟩
  | 42 => ⟨S1x2176x1024, .f32⟩
  | 43 => ⟨S1x2176x1024, .f32⟩
  | 44 => ⟨S1x2176x1024, .f32⟩
  | 45 => ⟨S1x2176x1024, .f32⟩
  | 46 => ⟨S1x1x1024, .f32⟩
  | 47 => ⟨S1024, .f32⟩
  | 48 => ⟨S1x1x1024, .f32⟩
  | 49 => ⟨S1x2176x1024, .f32⟩
  | 50 => ⟨S1x2176x1024, .f32⟩
  | 51 => ⟨S1x2176x1024, .f32⟩
  | 52 => ⟨S1x2176x1024, .f32⟩
  | 53 => ⟨S1x1x1024, .f32⟩
  | 54 => ⟨S1024, .f32⟩
  | 55 => ⟨S1x1x1024, .f32⟩
  | 56 => ⟨S1x2176x1024, .f32⟩
  | 57 => ⟨S1x2176x1024, .f32⟩
  | 58 => ⟨S1x2176x1024, .f32⟩
  | 59 => ⟨S1x2176x1024, .f32⟩
  | 60 => ⟨S1x1x1024, .f32⟩
  | 61 => ⟨S1024, .f32⟩
  | 62 => ⟨S1x1x1024, .f32⟩
  | 63 => ⟨S1x2176x1024, .f32⟩
  | 64 => ⟨S1x2176x1024, .f32⟩
  | 65 => ⟨S1x2176x1024, .f32⟩
  | 66 => ⟨S1x2176x1024, .f32⟩
  | 67 => ⟨S1x1x1024, .f32⟩
  | 68 => ⟨S1024, .f32⟩
  | 69 => ⟨S1x1x1024, .f32⟩
  | 70 => ⟨S1x2176x1024, .f32⟩
  | 71 => ⟨S1x2176x1024, .f32⟩
  | 72 => ⟨S1x2176x1024, .f32⟩
  | 73 => ⟨S1x2176x1024, .f32⟩
  | 74 => ⟨S1x1x1024, .f32⟩
  | 75 => ⟨S1024, .f32⟩
  | 76 => ⟨S1x1x1024, .f32⟩
  | 77 => ⟨S1x2176x1024, .f32⟩
  | 78 => ⟨S1x2176x1024, .f32⟩
  | 79 => ⟨S1x2176x1024, .f32⟩
  | 80 => ⟨S1x2176x1024, .f32⟩
  | 81 => ⟨S1x1x1024, .f32⟩
  | 82 => ⟨S1024, .f32⟩
  | 83 => ⟨S1x1x1024, .f32⟩
  | 84 => ⟨S1x2176x1024, .f32⟩
  | 85 => ⟨S1x2176x1024, .f32⟩
  | 86 => ⟨S1x2176x1024, .f32⟩
  | 87 => ⟨S1x2176x1024, .f32⟩
  | 88 => ⟨S1x1x1024, .f32⟩
  | 89 => ⟨S1024, .f32⟩
  | 90 => ⟨S1x1x1024, .f32⟩
  | 91 => ⟨S1x2176x1024, .f32⟩
  | 92 => ⟨S1x2176x1024, .f32⟩
  | 93 => ⟨S1x2176x1024, .f32⟩
  | 94 => ⟨S1x2176x1024, .f32⟩
  | 95 => ⟨S1x1x1024, .f32⟩
  | 96 => ⟨S1024, .f32⟩
  | 97 => ⟨S1x1x1024, .f32⟩
  | 98 => ⟨S1x2176x1024, .f32⟩
  | 99 => ⟨S1x2176x1024, .f32⟩
  | 100 => ⟨S1x2176x1024, .f32⟩
  | 101 => ⟨S1x2176x1024, .f32⟩
  | 102 => ⟨S1x1x1024, .f32⟩
  | 103 => ⟨S1024, .f32⟩
  | 104 => ⟨S1x1x1024, .f32⟩
  | 105 => ⟨S1x2176x1024, .f32⟩
  | 106 => ⟨S1x2176x1024, .f32⟩
  | 107 => ⟨S1x2176x1024, .f32⟩
  | 108 => ⟨S1x2176x1024, .f32⟩
  | 109 => ⟨S1x1x1024, .f32⟩
  | 110 => ⟨S1024, .f32⟩
  | 111 => ⟨S1x1x1024, .f32⟩
  | 112 => ⟨S1x2176x1024, .f32⟩
  | 113 => ⟨S1x2176x1024, .f32⟩
  | 114 => ⟨S1x2176x1024, .f32⟩
  | 115 => ⟨S1x2176x1024, .f32⟩
  | 116 => ⟨S1x1x1024, .f32⟩
  | 117 => ⟨S1024, .f32⟩
  | 118 => ⟨S1x1x1024, .f32⟩
  | 119 => ⟨S1x2176x1024, .f32⟩
  | 120 => ⟨S1x2176x1024, .f32⟩
  | 121 => ⟨S1x2176x1024, .f32⟩
  | 122 => ⟨S1x2176x1024, .f32⟩
  | 123 => ⟨S1x1x1024, .f32⟩
  | 124 => ⟨S1024, .f32⟩
  | 125 => ⟨S1x1x1024, .f32⟩
  | 126 => ⟨S1x2176x1024, .f32⟩
  | 127 => ⟨S1x2176x1024, .f32⟩
  | _ => ⟨S1x2064x1024, .f32⟩

abbrev hbmTy0_1 (i : Nat) : BufTy := match i % 128 with
  | 0 => ⟨S1x2176x1024, .f32⟩
  | 1 => ⟨S1x2176x1024, .f32⟩
  | 2 => ⟨S1x1x1024, .f32⟩
  | 3 => ⟨S1024, .f32⟩
  | 4 => ⟨S1x1x1024, .f32⟩
  | 5 => ⟨S1x2176x1024, .f32⟩
  | 6 => ⟨S1x2176x1024, .f32⟩
  | 7 => ⟨S1x2176x1024, .f32⟩
  | 8 => ⟨S1x2176x1024, .f32⟩
  | 9 => ⟨S1x1x1024, .f32⟩
  | 10 => ⟨S1024, .f32⟩
  | 11 => ⟨S1x1x1024, .f32⟩
  | 12 => ⟨S1x2176x1024, .f32⟩
  | 13 => ⟨S1x2176x1024, .f32⟩
  | 14 => ⟨S1x2176x1024, .f32⟩
  | 15 => ⟨S1x2176x1024, .f32⟩
  | 16 => ⟨S1x1x1024, .f32⟩
  | 17 => ⟨S1024, .f32⟩
  | 18 => ⟨S1x1x1024, .f32⟩
  | 19 => ⟨S1x2176x1024, .f32⟩
  | 20 => ⟨S1x2176x1024, .f32⟩
  | 21 => ⟨S1x2176x1024, .f32⟩
  | 22 => ⟨S1x2176x1024, .f32⟩
  | 23 => ⟨S1x1x1024, .f32⟩
  | 24 => ⟨S1024, .f32⟩
  | 25 => ⟨S1x1x1024, .f32⟩
  | 26 => ⟨S1x2176x1024, .f32⟩
  | 27 => ⟨S1x2176x1024, .f32⟩
  | 28 => ⟨S1x2176x1024, .f32⟩
  | 29 => ⟨S1x2176x1024, .f32⟩
  | 30 => ⟨S1x1x1024, .f32⟩
  | 31 => ⟨S1024, .f32⟩
  | 32 => ⟨S1x1x1024, .f32⟩
  | 33 => ⟨S1x2176x1024, .f32⟩
  | 34 => ⟨S1x2176x1024, .f32⟩
  | 35 => ⟨S1x2176x1024, .f32⟩
  | 36 => ⟨S1x2176x1024, .f32⟩
  | 37 => ⟨S1x1x1024, .f32⟩
  | 38 => ⟨S1024, .f32⟩
  | 39 => ⟨S1x1x1024, .f32⟩
  | 40 => ⟨S1x2176x1024, .f32⟩
  | 41 => ⟨S1x2176x1024, .f32⟩
  | 42 => ⟨S1x2176x1024, .f32⟩
  | 43 => ⟨S1x2176x1024, .f32⟩
  | 44 => ⟨S1x1x1024, .f32⟩
  | 45 => ⟨S1024, .f32⟩
  | 46 => ⟨S1x1x1024, .f32⟩
  | 47 => ⟨S1x2176x1024, .f32⟩
  | 48 => ⟨S1x2176x1024, .f32⟩
  | 49 => ⟨S1x2176x1024, .f32⟩
  | 50 => ⟨S1x2176x1024, .f32⟩
  | 51 => ⟨S1x1x1024, .f32⟩
  | 52 => ⟨S1024, .f32⟩
  | 53 => ⟨S1x1x1024, .f32⟩
  | 54 => ⟨S1x2176x1024, .f32⟩
  | 55 => ⟨S1x2176x1024, .f32⟩
  | 56 => ⟨S1x2176x1024, .f32⟩
  | 57 => ⟨S1x2176x1024, .f32⟩
  | 58 => ⟨S1x1x1024, .f32⟩
  | 59 => ⟨S1024, .f32⟩
  | 60 => ⟨S1x1x1024, .f32⟩
  | 61 => ⟨S1x2176x1024, .f32⟩
  | 62 => ⟨S1x2176x1024, .f32⟩
  | 63 => ⟨S1x2176x1024, .f32⟩
  | 64 => ⟨S1x2176x1024, .f32⟩
  | 65 => ⟨S1x1x1024, .f32⟩
  | 66 => ⟨S1024, .f32⟩
  | 67 => ⟨S1x1x1024, .f32⟩
  | 68 => ⟨S1x2176x1024, .f32⟩
  | 69 => ⟨S1x2176x1024, .f32⟩
  | 70 => ⟨S1x2176x1024, .f32⟩
  | 71 => ⟨S1x2176x1024, .f32⟩
  | 72 => ⟨S1x1x1024, .f32⟩
  | 73 => ⟨S1024, .f32⟩
  | 74 => ⟨S1x1x1024, .f32⟩
  | 75 => ⟨S1x2176x1024, .f32⟩
  | 76 => ⟨S1x2176x1024, .f32⟩
  | 77 => ⟨S1x2176x1024, .f32⟩
  | 78 => ⟨S1x2176x1024, .f32⟩
  | 79 => ⟨S1x1x1024, .f32⟩
  | 80 => ⟨S1024, .f32⟩
  | 81 => ⟨S1x1x1024, .f32⟩
  | 82 => ⟨S1x2176x1024, .f32⟩
  | 83 => ⟨S1x2176x1024, .f32⟩
  | 84 => ⟨S1x2176x1024, .f32⟩
  | 85 => ⟨S1x2176x1024, .f32⟩
  | 86 => ⟨S1x1x1024, .f32⟩
  | 87 => ⟨S1024, .f32⟩
  | 88 => ⟨S1x1x1024, .f32⟩
  | 89 => ⟨S1x2176x1024, .f32⟩
  | 90 => ⟨S1x2176x1024, .f32⟩
  | 91 => ⟨S1x2176x1024, .f32⟩
  | 92 => ⟨S1x2176x1024, .f32⟩
  | 93 => ⟨S1x1x1024, .f32⟩
  | 94 => ⟨S1024, .f32⟩
  | 95 => ⟨S1x1x1024, .f32⟩
  | 96 => ⟨S1x2176x1024, .f32⟩
  | 97 => ⟨S1x2176x1024, .f32⟩
  | 98 => ⟨S1x2176x1024, .f32⟩
  | 99 => ⟨S2176x1024, .f32⟩
  | _ => ⟨S1x2064x1024, .f32⟩

abbrev hbmTy (i : Nat) : BufTy := match i / 128 with
  | 0 => hbmTy0_0 i
  | 1 => hbmTy0_1 i
  | _ => ⟨S1x2064x1024, .f32⟩

abbrev bufTy : (tb : Table) → Fin (tcTables nBuf tb) → BufTy
  | .hbm, ⟨i, _⟩ => hbmTy i
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩

abbrev nD : Nat := 1
abbrev τ : Topo := Topo.v7x

variable {F : FTy → Type} [FloatOps F]
-- ==== Kernel19.lean ====
abbrev S1x1024x1792 : Shape := ⟨3, ![1, 1024, 1792]⟩
abbrev S1024x1792 : Shape := ⟨2, ![1024, 1792]⟩
abbrev S256x1792 : Shape := ⟨2, ![256, 1792]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1792, .f32⟩
  | .hbm, ⟨1, _⟩ => ⟨S1x1024x1792, .f32⟩
  | .hbm, ⟨2, _⟩ => ⟨S1x1024x1792, .f32⟩
  | .hbm, ⟨3, _⟩ => ⟨S1x1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .hbm, ⟨9, _⟩ => ⟨S1024x1792, .f32⟩
  | .hbm, ⟨10, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S1x1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1x1024x1792 : Shape := ⟨3, ![1, 1024, 1792]⟩
abbrev S1024x1792 : Shape := ⟨2, ![1024, 1792]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1792, .f32⟩
  | .hbm, ⟨1, _⟩ => ⟨S1x1024x1792, .f32⟩
  | .hbm, ⟨2, _⟩ => ⟨S1x1024x1792, .f32⟩
  | .hbm, ⟨3, _⟩ => ⟨S1x1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S_, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S1024x1792, .f32⟩
  | .hbm, ⟨23, _⟩ => ⟨S_, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | .hbm, ⟨37, _⟩ => ⟨S1024x1792, .f32⟩
  | .hbm, ⟨38, _⟩ => ⟨S_, .f32⟩
  | .hbm, ⟨39, _⟩ => ⟨S1024x1792, .f32⟩
  | .hbm, ⟨40, _⟩ => ⟨S1024x1792, .f32⟩
  | _, _ => ⟨S1x1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel20.lean ====
abbrev S1x2064x2816 : Shape := ⟨3, ![1, 2064, 2816]⟩
abbrev S1x2816x1024 : Shape := ⟨3, ![1, 2816, 1024]⟩
abbrev S2064x2816 : Shape := ⟨2, ![2064, 2816]⟩
abbrev S_ : Shape := ⟨0, ![]⟩
abbrev S2176x2816 : Shape := ⟨2, ![2176, 2816]⟩
abbrev S2816x1024 : Shape := ⟨2, ![2816, 1024]⟩
abbrev S2176x1024 : Shape := ⟨2, ![2176, 1024]⟩
abbrev S544x2816 : Shape := ⟨2, ![544, 2816]⟩
abbrev S544x1024 : Shape := ⟨2, ![544, 1024]⟩

abbrev nBuf : Space → Nat
  | .hbm => 10
  | .vmem => 5
  | .smem => 0
  | _ => 0

abbrev bufTy : (tb : Table) → Fin (tcTables nBuf tb) → BufTy
  | .hbm, ⟨0, _⟩ => ⟨S1x2064x2816, .f32⟩
  | .hbm, ⟨1, _⟩ => ⟨S1x2816x1024, .f32⟩
  | .hbm, ⟨2, _⟩ => ⟨S2064x2816, .f32⟩
  | .hbm, ⟨3, _⟩ => ⟨S_, .i32⟩
  | .hbm, ⟨4, _⟩ => ⟨S_, .f32⟩
  | .hbm, ⟨5, _⟩ => ⟨S2176x2816, .f32⟩
  | .hbm, ⟨6, _⟩ => ⟨S2176x2816, .bf16⟩
  | .hbm, ⟨7, _⟩ => ⟨S2816x1024, .f32⟩
  | .hbm, ⟨8, _⟩ => ⟨S2816x1024, .bf16⟩
  | .hbm, ⟨9, _⟩ => ⟨S2176x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | _, _ => ⟨S1x2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S1x2064x2816 : Shape := ⟨3, ![1, 2064, 2816]⟩
abbrev S1x2816x1024 : Shape := ⟨3, ![1, 2816, 1024]⟩
abbrev S2816x1024 : Shape := ⟨2, ![2816, 1024]⟩
abbrev S1x2064x1024 : Shape := ⟨3, ![1, 2064, 1024]⟩
abbrev S2064x1024 : Shape := ⟨2, ![2064, 1024]⟩
abbrev S_ : Shape := ⟨0, ![]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x2064x2816, .f32⟩
  | .hbm, ⟨1, _⟩ => ⟨S1x2816x1024, .f32⟩
  | .hbm, ⟨2, _⟩ => ⟨S2816x1024, .f32⟩
  | .hbm, ⟨3, _⟩ => ⟨S1x2064x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | _, _ => ⟨S1x2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel21.lean ====
abbrev S1x2064x1024 : Shape := ⟨3, ![1, 2064, 1024]⟩
abbrev S1x2816x1024 : Shape := ⟨3, ![1, 2816, 1024]⟩
abbrev S2064x1024 : Shape := ⟨2, ![2064, 1024]⟩
abbrev S_ : Shape := ⟨0, ![]⟩
abbrev S2176x1024 : Shape := ⟨2, ![2176, 1024]⟩
abbrev S2816x1024 : Shape := ⟨2, ![2816, 1024]⟩
abbrev S2176x2816 : Shape := ⟨2, ![2176, 2816]⟩
abbrev S544x1024 : Shape := ⟨2, ![544, 1024]⟩
abbrev S544x2816 : Shape := ⟨2, ![544, 2816]⟩

abbrev nBuf : Space → Nat
  | .hbm => 10
  | .vmem => 5
  | .smem => 0
  | _ => 0

abbrev bufTy : (tb : Table) → Fin (tcTables nBuf tb) → BufTy
  | .hbm, ⟨0, _⟩ => ⟨S1x2064x1024, .f32⟩
  | .hbm, ⟨1, _⟩ => ⟨S1x2816x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S2176x1024, .bf16⟩
  | .hbm, ⟨7, _⟩ => ⟨S2816x1024, .f32⟩
  | .hbm, ⟨8, _⟩ => ⟨S2816x1024, .bf16⟩
  | .hbm, ⟨9, _⟩ => ⟨S2176x2816, .f32⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S544x2816, .f32⟩
  | .local _ .vmem, ⟨4, _⟩ => ⟨S544x2816, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S1x2064x1024 : Shape := ⟨3, ![1, 2064, 1024]⟩
abbrev S1x2816x1024 : Shape := ⟨3, ![1, 2816, 1024]⟩
abbrev S2816x1024 : Shape := ⟨2, ![2816, 1024]⟩
abbrev S1024x2816 : Shape := ⟨2, ![1024, 2816]⟩
abbrev S1x2064x2816 : Shape := ⟨3, ![1, 2064, 2816]⟩
abbrev S2064x2816 : Shape := ⟨2, ![2064, 2816]⟩
abbrev S_ : Shape := ⟨0, ![]⟩
abbrev S2176x2816 : Shape := ⟨2, ![2176, 2816]⟩

abbrev nBuf : Space → Nat
  | .hbm => 9
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2816x1024, .f32⟩
  | .hbm, ⟨2, _⟩ => ⟨S2816x1024, .f32⟩
  | .hbm, ⟨3, _⟩ => ⟨S1024x2816, .f32⟩
  | .hbm, ⟨4, _⟩ => ⟨S1x2064x2816, .f32⟩
  | .hbm, ⟨5, _⟩ => ⟨S2064x2816, .f32⟩
  | .hbm, ⟨6, _⟩ => ⟨S_, .i32⟩
  | .hbm, ⟨7, _⟩ => ⟨S_, .f32⟩
  | .hbm, ⟨8, _⟩ => ⟨S2176x2816, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel22.lean ====
abbrev S1x2064x1024 : Shape := ⟨3, ![1, 2064, 1024]⟩
abbrev S1x1024x7168 : Shape := ⟨3, ![1, 1024, 7168]⟩
abbrev S2064x1024 : Shape := ⟨2, ![2064, 1024]⟩
abbrev S_ : Shape := ⟨0, ![]⟩
abbrev S2176x1024 : Shape := ⟨2, ![2176, 1024]⟩
abbrev S1024x7168 : Shape := ⟨2, ![1024, 7168]⟩
abbrev S1024x4x1792 : Shape := ⟨3, ![1024, 4, 1792]⟩
abbrev S4x1024x1792 : Shape := ⟨3, ![4, 1024, 1792]⟩
abbrev S2176x7168 : Shape := ⟨2, ![2176, 7168]⟩
abbrev S544x1024 : Shape := ⟨2, ![544, 1024]⟩
abbrev S1x1024x1792 : Shape := ⟨3, ![1, 1024, 1792]⟩
abbrev S544x1792 : Shape := ⟨2, ![544, 1792]⟩
abbrev S1024x1792 : Shape := ⟨2, ![1024, 1792]⟩

abbrev nBuf : Space → Nat
  | .hbm => 12
  | .vmem => 6
  | .smem => 0
  | _ => 0

abbrev bufTy : (tb : Table) → Fin (tcTables nBuf tb) → BufTy
  | .hbm, ⟨0, _⟩ => ⟨S1x2064x1024, .f32⟩
  | .hbm, ⟨1, _⟩ => ⟨S1x1024x7168, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S2176x1024, .bf16⟩
  | .hbm, ⟨7, _⟩ => ⟨S1024x7168, .f32⟩
  | .hbm, ⟨8, _⟩ => ⟨S1024x4x1792, .f32⟩
  | .hbm, ⟨9, _⟩ => ⟨S4x1024x1792, .f32⟩
  | .hbm, ⟨10, _⟩ => ⟨S4x1024x1792, .bf16⟩
  | .hbm, ⟨11, _⟩ => ⟨S2176x7168, .f32⟩
  | .local _ .vmem, ⟨0, _⟩ => ⟨S544x1024, .bf16⟩
  | .local _ .vmem, ⟨1, _⟩ => ⟨S544x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S544x1792, .f32⟩
  | .local _ .vmem, ⟨5, _⟩ => ⟨S544x1792, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S1x2064x1024 : Shape := ⟨3, ![1, 2064, 1024]⟩
abbrev S1x1024x7168 : Shape := ⟨3, ![1, 1024, 7168]⟩
abbrev S1024x7168 : Shape := ⟨2, ![1024, 7168]⟩
abbrev S1x2064x7168 : Shape := ⟨3, ![1, 2064, 7168]⟩
abbrev S2064x7168 : Shape := ⟨2, ![2064, 7168]⟩
abbrev S_ : Shape := ⟨0, ![]⟩
abbrev S2176x7168 : Shape := ⟨2, ![2176, 7168]⟩

abbrev nBuf : Space → Nat
  | .hbm => 8
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x1024x7168, .f32⟩
  | .hbm, ⟨2, _⟩ => ⟨S1024x7168, .f32⟩
  | .hbm, ⟨3, _⟩ => ⟨S1x2064x7168, .f32⟩
  | .hbm, ⟨4, _⟩ => ⟨S2064x7168, .f32⟩
  | .hbm, ⟨5, _⟩ => ⟨S_, .i32⟩
  | .hbm, ⟨6, _⟩ => ⟨S_, .f32⟩
  | .hbm, ⟨7, _⟩ => ⟨S2176x7168, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel23.lean ====
abbrev S1x2064x2816 : Shape := ⟨3, ![1, 2064, 2816]⟩
abbrev S1x2064x1024 : Shape := ⟨3, ![1, 2064, 1024]⟩
abbrev S2064x2816 : Shape := ⟨2, ![2064, 2816]⟩
abbrev S_ : Shape := ⟨0, ![]⟩
abbrev S2176x2816 : Shape := ⟨2, ![2176, 2816]⟩
abbrev S2064x1024 : Shape := ⟨2, ![2064, 1024]⟩
abbrev S2176x1024 : Shape := ⟨2, ![2176, 1024]⟩
abbrev S2816x1024 : Shape := ⟨2, ![2816, 1024]⟩
abbrev S2176x256 : Shape := ⟨2, ![2176, 256]⟩
abbrev S256x1024 : Shape := ⟨2, ![256, 1024]⟩

abbrev nBuf : Space → Nat
  | .hbm => 13
  | .vmem => 5
  | .smem => 0
  | _ => 0

abbrev bufTy : (tb : Table) → Fin (tcTables nBuf tb) → BufTy
  | .hbm, ⟨0, _⟩ => ⟨S1x2064x2816, .f32⟩
  | .hbm, ⟨1, _⟩ => ⟨S1x2064x1024, .f32⟩
  | .hbm, ⟨2, _⟩ => ⟨S2064x2816, .f32⟩
  | .hbm, ⟨3, _⟩ => ⟨S_, .i32⟩
  | .hbm, ⟨4, _⟩ => ⟨S_, .f32⟩
  | .hbm, ⟨5, _⟩ => ⟨S2176x2816, .f32⟩
  | .hbm, ⟨6, _⟩ => ⟨S2176x2816, .bf16⟩
  | .hbm, ⟨7, _⟩ => ⟨S2064x1024, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S2176x1024, .bf16⟩
  | .hbm, ⟨12, _⟩ => ⟨S2816x1024, .f32⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S256x1024, .f32⟩
  | .local _ .vmem, ⟨4, _⟩ => ⟨S256x1024, .f32⟩
  | _, _ => ⟨S1x2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference23Ideal.lean ====
abbrev S1x2064x2816 : Shape := ⟨3, ![1, 2064, 2816]⟩
abbrev S1x2064x1024 : Shape := ⟨3, ![1, 2064, 1024]⟩
abbrev S2064x2816 : Shape := ⟨2, ![2064, 2816]⟩
abbrev S2816x2064 : Shape := ⟨2, ![2816, 2064]⟩
abbrev S2064x1024 : Shape := ⟨2, ![2064, 1024]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x2064x2816, .f32⟩
  | .hbm, ⟨1, _⟩ => ⟨S1x2064x1024, .f32⟩
  | .hbm, ⟨2, _⟩ => ⟨S2064x2816, .f32⟩
  | .hbm, ⟨3, _⟩ => ⟨S2816x2064, .f32⟩
  | .hbm, ⟨4, _⟩ => ⟨S2064x1024, .f32⟩
  | .hbm, ⟨5, _⟩ => ⟨S2816x1024, .f32⟩
  | _, _ => ⟨S1x2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S1x2064x1024 : Shape := ⟨3, ![1, 2064, 1024]⟩
abbrev S1x2064x7168 : Shape := ⟨3, ![1, 2064, 7168]⟩
abbrev S2064x1024 : Shape := ⟨2, ![2064, 1024]⟩
abbrev S_ : Shape := ⟨0, ![]⟩
abbrev S2176x1024 : Shape := ⟨2, ![2176, 1024]⟩
abbrev S2064x7168 : Shape := ⟨2, ![2064, 7168]⟩
abbrev S2176x7168 : Shape := ⟨2, ![2176, 7168]⟩
abbrev S4x1024x1792 : Shape := ⟨3, ![4, 1024, 1792]⟩
abbrev S2176x1792 : Shape := ⟨2, ![2176, 1792]⟩
abbrev S1x1024x1792 : Shape := ⟨3, ![1, 1024, 1792]⟩
abbrev S1024x1792 : Shape := ⟨2, ![1024, 1792]⟩

abbrev nBuf : Space → Nat
  | .hbm => 13
  | .vmem => 5
  | .smem => 0
  | _ => 0

abbrev bufTy : (tb : Table) → Fin (tcTables nBuf tb) → BufTy
  | .hbm, ⟨0, _⟩ => ⟨S1x2064x1024, .f32⟩
  | .hbm, ⟨1, _⟩ => ⟨S1x2064x7168, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S2176x1024, .bf16⟩
  | .hbm, ⟨7, _⟩ => ⟨S2064x7168, .f32⟩
  | .hbm, ⟨8, _⟩ => ⟨S_, .i32⟩
  | .hbm, ⟨9, _⟩ => ⟨S_, .f32⟩
  | .hbm, ⟨10, _⟩ => ⟨S2176x7168, .f32⟩
  | .hbm, ⟨11, _⟩ => ⟨S2176x7168, .bf16⟩
  | .hbm, ⟨12, _⟩ => ⟨S4x1024x1792, .f32⟩
  | .local _ .vmem, ⟨0, _⟩ => ⟨S2176x1024, .bf16⟩
  | .local _ .vmem, ⟨1, _⟩ => ⟨S2176x1792, .bf16⟩
  | .local _ .vmem, ⟨2, _⟩ => ⟨S2176x1792, .bf16⟩
  | .local _ .vmem, ⟨3, _⟩ => ⟨S1x1024x1792, .f32⟩
  | .local _ .vmem, ⟨4, _⟩ => ⟨S1x1024x1792, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2176x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference24Ideal.lean ====
abbrev S1x2064x1024 : Shape := ⟨3, ![1, 2064, 1024]⟩
abbrev S1x2064x7168 : Shape := ⟨3, ![1, 2064, 7168]⟩
abbrev S2064x1024 : Shape := ⟨2, ![2064, 1024]⟩
abbrev S1024x2064 : Shape := ⟨2, ![1024, 2064]⟩
abbrev S2064x7168 : Shape := ⟨2, ![2064, 7168]⟩
abbrev S1024x7168 : Shape := ⟨2, ![1024, 7168]⟩
abbrev S1024x4x1792 : Shape := ⟨3, ![1024, 4, 1792]⟩
abbrev S4x1024x1792 : Shape := ⟨3, ![4, 1024, 1792]⟩

abbrev nBuf : Space → Nat
  | .hbm => 8
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2064x7168, .f32⟩
  | .hbm, ⟨2, _⟩ => ⟨S2064x1024, .f32⟩
  | .hbm, ⟨3, _⟩ => ⟨S1024x2064, .f32⟩
  | .hbm, ⟨4, _⟩ => ⟨S2064x7168, .f32⟩
  | .hbm, ⟨5, _⟩ => ⟨S1024x7168, .f32⟩
  | .hbm, ⟨6, _⟩ => ⟨S1024x4x1792, .f32⟩
  | .hbm, ⟨7, _⟩ => ⟨S4x1024x1792, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel25.lean ====
abbrev S1x2064x7168 : Shape := ⟨3, ![1, 2064, 7168]⟩
abbrev S1x1024x7168 : Shape := ⟨3, ![1, 1024, 7168]⟩
abbrev S2064x7168 : Shape := ⟨2, ![2064, 7168]⟩
abbrev S_ : Shape := ⟨0, ![]⟩
abbrev S2176x7168 : Shape := ⟨2, ![2176, 7168]⟩
abbrev S1024x7168 : Shape := ⟨2, ![1024, 7168]⟩
abbrev S1024x4x1792 : Shape := ⟨3, ![1024, 4, 1792]⟩
abbrev S4x1024x1792 : Shape := ⟨3, ![4, 1024, 1792]⟩
abbrev S2176x1024 : Shape := ⟨2, ![2176, 1024]⟩
abbrev S1088x1792 : Shape := ⟨2, ![1088, 1792]⟩
abbrev S1x1024x1792 : Shape := ⟨3, ![1, 1024, 1792]⟩
abbrev S1088x1024 : Shape := ⟨2, ![1088, 1024]⟩
abbrev S1024x1792 : Shape := ⟨2, ![1024, 1792]⟩

abbrev nBuf : Space → Nat
  | .hbm => 12
  | .vmem => 6
  | .smem => 0
  | _ => 0

abbrev bufTy : (tb : Table) → Fin (tcTables nBuf tb) → BufTy
  | .hbm, ⟨0, _⟩ => ⟨S1x2064x7168, .f32⟩
  | .hbm, ⟨1, _⟩ => ⟨S1x1024x7168, .f32⟩
  | .hbm, ⟨2, _⟩ => ⟨S2064x7168, .f32⟩
  | .hbm, ⟨3, _⟩ => ⟨S_, .i32⟩
  | .hbm, ⟨4, _⟩ => ⟨S_, .f32⟩
  | .hbm, ⟨5, _⟩ => ⟨S2176x7168, .f32⟩
  | .hbm, ⟨6, _⟩ => ⟨S2176x7168, .bf16⟩
  | .hbm, ⟨7, _⟩ => ⟨S1024x7168, .f32⟩
  | .hbm, ⟨8, _⟩ => ⟨S1024x4x1792, .f32⟩
  | .hbm, ⟨9, _⟩ => ⟨S4x1024x1792, .f32⟩
  | .hbm, ⟨10, _⟩ => ⟨S4x1024x1792, .bf16⟩
  | .hbm, ⟨11, _⟩ => ⟨S2176x1024, .f32⟩
  | .local _ .vmem, ⟨0, _⟩ => ⟨S1088x1792, .bf16⟩
  | .local _ .vmem, ⟨1, _⟩ => ⟨S1088x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1088x1024, .f32⟩
  | .local _ .vmem, ⟨5, _⟩ => ⟨S1088x1024, .f32⟩
  | _, _ => ⟨S1x2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference25Ideal.lean ====
abbrev S1x2064x7168 : Shape := ⟨3, ![1, 2064, 7168]⟩
abbrev S1x1024x7168 : Shape := ⟨3, ![1, 1024, 7168]⟩
abbrev S1024x7168 : Shape := ⟨2, ![1024, 7168]⟩
abbrev S7168x1024 : Shape := ⟨2, ![7168, 1024]⟩
abbrev S1x2064x1024 : Shape := ⟨3, ![1, 2064, 1024]⟩
abbrev S2064x1024 : Shape := ⟨2, ![2064, 1024]⟩
abbrev S_ : Shape := ⟨0, ![]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2064x7168, .f32⟩
  | .hbm, ⟨1, _⟩ => ⟨S1x1024x7168, .f32⟩
  | .hbm, ⟨2, _⟩ => ⟨S1024x7168, .f32⟩
  | .hbm, ⟨3, _⟩ => ⟨S7168x1024, .f32⟩
  | .hbm, ⟨4, _⟩ => ⟨S1x2064x1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | _, _ => ⟨S1x2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel26.lean ====
abbrev S8x448x128 : Shape := ⟨3, ![8, 448, 128]⟩
abbrev S448x128 : Shape := ⟨2, ![448, 128]⟩
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x448x128, .f32⟩
  | .hbm, ⟨1, _⟩ => ⟨S448x128, .f32⟩
  | .local _ .vmem, ⟨0, _⟩ => ⟨S8x64x128, .f32⟩
  | .local _ .vmem, ⟨1, _⟩ => ⟨S8x64x128, .f32⟩
  | .local _ .vmem, ⟨2, _⟩ => ⟨S64x128, .f32⟩
  | .local _ .vmem, ⟨3, _⟩ => ⟨S64x128, .f32⟩
  | _, _ => ⟨S8x448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference26Ideal.lean ====
abbrev S8x448x128 : Shape := ⟨3, ![8, 448, 128]⟩
abbrev S_ : Shape := ⟨0, ![]⟩
abbrev S448x128 : Shape := ⟨2, ![448, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x448x128, .f32⟩
  | .hbm, ⟨1, _⟩ => ⟨S_, .f32⟩
  | .hbm, ⟨2, _⟩ => ⟨S448x128, .f32⟩
  | _, _ => ⟨S8x448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S1x2064x7168 : Shape := ⟨3, ![1, 2064, 7168]⟩
abbrev S2064x7168 : Shape := ⟨2, ![2064, 7168]⟩
abbrev S_ : Shape := ⟨0, ![]⟩
abbrev S2176x7168 : Shape := ⟨2, ![2176, 7168]⟩
abbrev S2304x1024 : Shape := ⟨2, ![2304, 1024]⟩
abbrev S128x1024 : Shape := ⟨2, ![128, 1024]⟩

abbrev nBuf : Space → Nat
  | .hbm => 8
  | .vmem => 12
  | .smem => 0
  | _ => 0

abbrev bufTy : (tb : Table) → Fin (tcTables nBuf tb) → BufTy
  | .hbm, ⟨0, _⟩ => ⟨S1x2064x7168, .f32⟩
  | .hbm, ⟨1, _⟩ => ⟨S2064x7168, .f32⟩
  | .hbm, ⟨2, _⟩ => ⟨S_, .i32⟩
  | .hbm, ⟨3, _⟩ => ⟨S_, .f32⟩
  | .hbm, ⟨4, _⟩ => ⟨S2176x7168, .f32⟩
  | .hbm, ⟨5, _⟩ => ⟨S2304x1024, .bf16⟩
  | .hbm, ⟨6, _⟩ => ⟨S2304x1024, .bf16⟩
  | .hbm, ⟨7, _⟩ => ⟨S2304x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | _, _ => ⟨S1x2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c16_i32 : BitVec 32 := 16#32
  let v0 : BitVec 32 := Scalar.minsi arg0 c16_i32
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c16_i32 : BitVec 32 := 16#32
  let v0 : BitVec 32 := Scalar.minsi arg0 c16_i32
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c16_i32 : BitVec 32 := 16#32
  let v0 : BitVec 32 := Scalar.minsi arg0 c16_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S1x2064x7168 : Shape := ⟨3, ![1, 2064, 7168]⟩
abbrev S1x2064x1024 : Shape := ⟨3, ![1, 2064, 1024]⟩
abbrev S2064x1024 : Shape := ⟨2, ![2064, 1024]⟩
abbrev S_ : Shape := ⟨0, ![]⟩
abbrev S2304x1024 : Shape := ⟨2, ![2304, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1x2064x7168, .f32⟩
  | .hbm, ⟨1, _⟩ => ⟨S1x2064x1024, .f32⟩
  | .hbm, ⟨2, _⟩ => ⟨S2064x1024, .f32⟩
  | .hbm, ⟨3, _⟩ => ⟨S1x2064x1024, .f32⟩
  | .hbm, ⟨4, _⟩ => ⟨S2064x1024, .f32⟩
  | .hbm, ⟨5, _⟩ => ⟨S1x2064x1024, .f32⟩
  | .hbm, ⟨6, _⟩ => ⟨S2064x1024, .f32⟩
  | .hbm, ⟨7, _⟩ => ⟨S_, .f32⟩
  | .hbm, ⟨8, _⟩ => ⟨S2064x1024, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2304x1024, .f32⟩
  | .hbm, ⟨13, _⟩ => ⟨S2304x1024, .bf16⟩
  | .hbm, ⟨14, _⟩ => ⟨S_, .i32⟩
  | .hbm, ⟨15, _⟩ => ⟨S_, .f32⟩
  | .hbm, ⟨16, _⟩ => ⟨S2304x1024, .f32⟩
  | .hbm, ⟨17, _⟩ => ⟨S2304x1024, .bf16⟩
  | .hbm, ⟨18, _⟩ => ⟨S_, .i32⟩
  | .hbm, ⟨19, _⟩ => ⟨S_, .f32⟩
  | .hbm, ⟨20, _⟩ => ⟨S2304x1024, .f32⟩
  | .hbm, ⟨21, _⟩ => ⟨S2304x1024, .bf16⟩
  | _, _ => ⟨S1x2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call2_v0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel28.lean ====
abbrev S16x128 : Shape := ⟨2, ![16, 128]⟩
abbrev S1x1024 : Shape := ⟨2, ![1, 1024]⟩
abbrev S1x2048 : Shape := ⟨2, ![1, 2048]⟩
abbrev S1x31x128 : Shape := ⟨3, ![1, 31, 128]⟩
abbrev S2048 : Shape := ⟨1, ![2048]⟩
abbrev S1024 : Shape := ⟨1, ![1024]⟩
abbrev S3968 : Shape := ⟨1, ![3968]⟩
abbrev S15232 : Shape := ⟨1, ![15232]⟩
abbrev S_ : Shape := ⟨0, ![]⟩
abbrev S15360 : Shape := ⟨1, ![15360]⟩
abbrev S120x128 : Shape := ⟨2, ![120, 128]⟩
abbrev S8x128 : Shape := ⟨2, ![8, 128]⟩

abbrev nBuf : Space → Nat
  | .hbm => 103
  | .vmem => 14
  | .smem => 0
  | _ => 0

abbrev bufTy : (tb : Table) → Fin (tcTables nBuf tb) → BufTy
  | .hbm, ⟨0, _⟩ => ⟨S16x128, .f32⟩
  | .hbm, ⟨1, _⟩ => ⟨S1x1024, .f32⟩
  | .hbm, ⟨2, _⟩ => ⟨S1x2048, .f32⟩
  | .hbm, ⟨3, _⟩ => ⟨S1x31x128, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16x128, .f32⟩
  | .hbm, ⟨11, _⟩ => ⟨S1x1024, .f32⟩
  | .hbm, ⟨12, _⟩ => ⟨S1x2048, .f32⟩
  | .hbm, ⟨13, _⟩ => ⟨S1x31x128, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S16x128, .f32⟩
  | .hbm, ⟨21, _⟩ => ⟨S1x1024, .f32⟩
  | .hbm, ⟨22, _⟩ => ⟨S1x2048, .f32⟩
  | .hbm, ⟨23, _⟩ => ⟨S1x31x128, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S16x128, .f32⟩
  | .hbm, ⟨31, _⟩ => ⟨S1x1024, .f32⟩
  | .hbm, ⟨32, _⟩ => ⟨S1x2048, .f32⟩
  | .hbm, ⟨33, _⟩ => ⟨S1x31x128, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S2048, .f32⟩
  | .hbm, ⟨41, _⟩ => ⟨S1024, .f32⟩
  | .hbm, ⟨42, _⟩ => ⟨S2048, .f32⟩
  | .hbm, ⟨43, _⟩ => ⟨S3968, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S15232, .f32⟩
  | .hbm, ⟨51, _⟩ => ⟨S_, .i32⟩
  | .hbm, ⟨52, _⟩ => ⟨S_, .f32⟩
  | .hbm, ⟨53, _⟩ => ⟨S15360, .f32⟩
  | .hbm, ⟨54, _⟩ => ⟨S120x128, .f32⟩
  | .hbm, ⟨55, _⟩ => ⟨S2048, .f32⟩
  | .hbm, ⟨56, _⟩ => ⟨S1024, .f32⟩
  | .hbm, ⟨57, _⟩ => ⟨S2048, .f32⟩
  | .hbm, ⟨58, _⟩ => ⟨S3968, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S15232, .f32⟩
  | .hbm, ⟨66, _⟩ => ⟨S_, .i32⟩
  | .hbm, ⟨67, _⟩ => ⟨S_, .f32⟩
  | .hbm, ⟨68, _⟩ => ⟨S15360, .f32⟩
  | .hbm, ⟨69, _⟩ => ⟨S120x128, .f32⟩
  | .hbm, ⟨70, _⟩ => ⟨S2048, .f32⟩
  | .hbm, ⟨71, _⟩ => ⟨S1024, .f32⟩
  | .hbm, ⟨72, _⟩ => ⟨S2048, .f32⟩
  | .hbm, ⟨73, _⟩ => ⟨S3968, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S15232, .f32⟩
  | .hbm, ⟨81, _⟩ => ⟨S_, .i32⟩
  | .hbm, ⟨82, _⟩ => ⟨S_, .f32⟩
  | .hbm, ⟨83, _⟩ => ⟨S15360, .f32⟩
  | .hbm, ⟨84, _⟩ => ⟨S120x128, .f32⟩
  | .hbm, ⟨85, _⟩ => ⟨S2048, .f32⟩
  | .hbm, ⟨86, _⟩ => ⟨S1024, .f32⟩
  | .hbm, ⟨87, _⟩ => ⟨S2048, .f32⟩
  | .hbm, ⟨88, _⟩ => ⟨S3968, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S15232, .f32⟩
  | .hbm, ⟨96, _⟩ => ⟨S_, .i32⟩
  | .hbm, ⟨97, _⟩ => ⟨S_, .f32⟩
  | .hbm, ⟨98, _⟩ => ⟨S15360, .f32⟩
  | .hbm, ⟨99, _⟩ => ⟨S120x128, .f32⟩
  | .hbm, ⟨100, _⟩ => ⟨S120x128, .f32⟩
  | .hbm, ⟨101, _⟩ => ⟨S120x128, .f32⟩
  | .hbm, ⟨102, _⟩ => ⟨S120x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_c : Ref sig .tc := ⟨.hbm, 51, rfl⟩
abbrev main_call0_v0 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_c_0 : Ref sig .tc := ⟨.hbm, 66, rfl⟩
abbrev main_call1_v0 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_1 : Ref sig .tc := ⟨.hbm, 81, rfl⟩
abbrev main_call2_v0 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_2 : Ref sig .tc := ⟨.hbm, 96, rfl⟩
abbrev main_call3_v0 : Ref sig .tc := ⟨.hbm, 97, rfl⟩
abbrev main_v50 : Ref sig .tc := ⟨.hbm, 98, rfl⟩
abbrev main_v51 : Ref sig .tc := ⟨.hbm, 99, rfl⟩
abbrev main_v52_0 : Ref sig .tc := ⟨.hbm, 100, rfl⟩
abbrev main_v52_1 : Ref sig .tc := ⟨.hbm, 101, rfl⟩
abbrev main_v52_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S16x128 : Shape := ⟨2, ![16, 128]⟩
abbrev S1x1024 : Shape := ⟨2, ![1, 1024]⟩
abbrev S1x2048 : Shape := ⟨2, ![1, 2048]⟩
abbrev S1x31x128 : Shape := ⟨3, ![1, 31, 128]⟩
abbrev S_ : Shape := ⟨0, ![]⟩
abbrev S8x128 : Shape := ⟨2, ![8, 128]⟩
abbrev S31x128 : Shape := ⟨2, ![31, 128]⟩
abbrev S1x128 : Shape := ⟨2, ![1, 128]⟩
abbrev S120x128 : Shape := ⟨2, ![120, 128]⟩

abbrev nBuf : Space → Nat
  | .hbm => 406
  | .vmem => 0
  | .smem => 0
  | _ => 0

abbrev hbmTy0_0 (i : Nat) : BufTy := match i % 128 with
  | 0 => ⟨S16x128, .f32⟩
  | 1 => ⟨S1x1024, .f32⟩
  | 2 => ⟨S1x2048, .f32⟩
  | 3 => ⟨S1x31x128, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S16x128, .f32⟩
  | 11 => ⟨S1x1024, .f32⟩
  | 12 => ⟨S1x2048, .f32⟩
  | 13 => ⟨S1x31x128, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S16x128, .f32⟩
  | 21 => ⟨S1x1024, .f32⟩
  | 22 => ⟨S1x2048, .f32⟩
  | 23 => ⟨S1x31x128, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S16x128, .f32⟩
  | 31 => ⟨S1x1024, .f32⟩
  | 32 => ⟨S1x2048, .f32⟩
  | 33 => ⟨S1x31x128, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S_, .f32⟩
  | 41 => ⟨S16x128, .f32⟩
  | 42 => ⟨S16x128, .f32⟩
  | 43 => ⟨S_, .f32⟩
  | 44 => ⟨S16x128, .f32⟩
  | 45 => ⟨S16x128, .f32⟩
  | 46 => ⟨S16x128, .f32⟩
  | 47 => ⟨S_, .f32⟩
  | 48 => ⟨S16x128, .f32⟩
  | 49 => ⟨S16x128, .f32⟩
  | 50 => ⟨S16x128, .f32⟩
  | 51 => ⟨S_, .f32⟩
  | 52 => ⟨S16x128, .f32⟩
  | 53 => ⟨S16x128, .f32⟩
  | 54 => ⟨S16x128, .f32⟩
  | 55 => ⟨S_, .f32⟩
  | 56 => ⟨S16x128, .f32⟩
  | 57 => ⟨S16x128, .f32⟩
  | 58 => ⟨S_, .f32⟩
  | 59 => ⟨S16x128, .f32⟩
  | 60 => ⟨S16x128, .f32⟩
  | 61 => ⟨S16x128, .f32⟩
  | 62 => ⟨S_, .f32⟩
  | 63 => ⟨S16x128, .f32⟩
  | 64 => ⟨S16x128, .f32⟩
  | 65 => ⟨S16x128, .f32⟩
  | 66 => ⟨S_, .f32⟩
  | 67 => ⟨S16x128, .f32⟩
  | 68 => ⟨S16x128, .f32⟩
  | 69 => ⟨S16x128, .f32⟩
  | 70 => ⟨S_, .f32⟩
  | 71 => ⟨S16x128, .f32⟩
  | 72 => ⟨S16x128, .f32⟩
  | 73 => ⟨S_, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S_, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S16x128, .f32⟩

abbrev hbmTy0_1 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S_, .f32⟩
  | 12 => ⟨S1x31x128, .f32⟩
  | 13 => ⟨S1x31x128, .f32⟩
  | 14 => ⟨S_, .f32⟩
  | 15 => ⟨S1x31x128, .f32⟩
  | 16 => ⟨S1x31x128, .f32⟩
  | 17 => ⟨S1x31x128, .f32⟩
  | 18 => ⟨S_, .f32⟩
  | 19 => ⟨S1x31x128, .f32⟩
  | 20 => ⟨S1x31x128, .f32⟩
  | 21 => ⟨S1x31x128, .f32⟩
  | 22 => ⟨S_, .f32⟩
  | 23 => ⟨S1x31x128, .f32⟩
  | 24 => ⟨S1x31x128, .f32⟩
  | 25 => ⟨S1x31x128, .f32⟩
  | 26 => ⟨S_, .f32⟩
  | 27 => ⟨S1x31x128, .f32⟩
  | 28 => ⟨S1x31x128, .f32⟩
  | 29 => ⟨S_, .f32⟩
  | 30 => ⟨S1x31x128, .f32⟩
  | 31 => ⟨S1x31x128, .f32⟩
  | 32 => ⟨S1x31x128, .f32⟩
  | 33 => ⟨S_, .f32⟩
  | 34 => ⟨S1x31x128, .f32⟩
  | 35 => ⟨S1x31x128, .f32⟩
  | 36 => ⟨S1x31x128, .f32⟩
  | 37 => ⟨S_, .f32⟩
  | 38 => ⟨S1x31x128, .f32⟩
  | 39 => ⟨S1x31x128, .f32⟩
  | 40 => ⟨S1x31x128, .f32⟩
  | 41 => ⟨S_, .f32⟩
  | 42 => ⟨S1x31x128, .f32⟩
  | 43 => ⟨S1x31x128, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S16x128, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S8x128, .f32⟩
  | 115 => ⟨S16x128, .f32⟩
  | 116 => ⟨S31x128, .f32⟩
  | 117 => ⟨S8x128, .f32⟩
  | 118 => ⟨S8x128, .f32⟩
  | 119 => ⟨S8x128, .f32⟩
  | 120 => ⟨S8x128, .f32⟩
  | 121 => ⟨S8x128, .f32⟩
  | 122 => ⟨S8x128, .f32⟩
  | 123 => ⟨S_, .f32⟩
  | 124 => ⟨S1x128, .f32⟩
  | 125 => ⟨S120x128, .f32⟩
  | 126 => ⟨S8x128, .f32⟩
  | 127 => ⟨S16x128, .f32⟩
  | _ => ⟨S16x128, .f32⟩

abbrev hbmTy0_3 (i : Nat) : BufTy := match i % 128 with
  | 0 => ⟨S31x128, .f32⟩
  | 1 => ⟨S8x128, .f32⟩
  | 2 => ⟨S8x128, .f32⟩
  | 3 => ⟨S8x128, .f32⟩
  | 4 => ⟨S8x128, .f32⟩
  | 5 => ⟨S8x128, .f32⟩
  | 6 => ⟨S8x128, .f32⟩
  | 7 => ⟨S_, .f32⟩
  | 8 => ⟨S1x128, .f32⟩
  | 9 => ⟨S120x128, .f32⟩
  | 10 => ⟨S8x128, .f32⟩
  | 11 => ⟨S16x128, .f32⟩
  | 12 => ⟨S31x128, .f32⟩
  | 13 => ⟨S8x128, .f32⟩
  | 14 => ⟨S8x128, .f32⟩
  | 15 => ⟨S8x128, .f32⟩
  | 16 => ⟨S8x128, .f32⟩
  | 17 => ⟨S8x128, .f32⟩
  | 18 => ⟨S8x128, .f32⟩
  | 19 => ⟨S_, .f32⟩
  | 20 => ⟨S1x128, .f32⟩
  | 21 => ⟨S120x128, .f32⟩
  | _ => ⟨S16x128, .f32⟩

abbrev hbmTy (i : Nat) : BufTy := match i / 128 with
  | 0 => hbmTy0_0 i
  | 1 => hbmTy0_1 i
  | 2 => hbmTy0_2 i
  | 3 => hbmTy0_3 i
  | _ => ⟨S16x128, .f32⟩

abbrev bufTy : (tb : Table) → Fin (tcTables nBuf tb) → BufTy
  | .hbm, ⟨i, _⟩ => hbmTy i
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_cst_89 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_v258 : Ref sig .tc := ⟨.hbm, 389, rfl⟩
abbrev main_v259 : Ref sig .tc := ⟨.hbm, 390, rfl⟩
abbrev main_cst_90 : Ref sig .tc := ⟨.hbm, 391, rfl⟩
abbrev main_v260 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_cst_91 : Ref sig .tc := ⟨.hbm, 403, rfl⟩
abbrev main_v271 : Ref sig .tc := ⟨.hbm, 404, rfl⟩
abbrev main_v272 : Ref sig .tc := ⟨.hbm, 405, rfl⟩

abbrev nD : Nat := 1
abbrev τ : Topo := Topo.v7x

variable {F : FTy → Type} [FloatOps F]
-- ==== Proof.Attn.Window.lean ====
/- The running totals of the host: a window as long as the last axis, padded on one side. -/
module

public import Idealize.ShloMosaic.Lib.Pipeline.ValueKit

@[expose] public section

set_option maxRecDepth 16384

noncomputable section

open Idealize.ShloMosaic Idealize.ShloMosaic.TcCoe Idealize.SL.Sem

namespace Cert.Attn

/-- A fold of additions is the sum. -/
theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- The places of a window along the last axis. -/
def place (N : ℕ) : Fin N ≃ (⟨4, ![1, 1, 1, N]⟩ : Shape).Idx where
  toFun n := ix4 (0 : Fin 1) (0 : Fin 1) (0 : Fin 1) n
  invFun y := y 3
  left_inv n := rfl
  right_inv y := by
    funext a
    match a with
    | 0 => exact Subsingleton.elim (α := Fin 1) _ _
    | 1 => exact Subsingleton.elim (α := Fin 1) _ _
    | 2 => exact Subsingleton.elim (α := Fin 1) _ _
    | 3 => rfl

variable {H N L U : ℕ}

/-- One entry of a running total along the last axis: the window's places that are inside the operand. -/
theorem window_at (x : (⟨4, ![1, H, N, N]⟩ : Shape).Idx → EReal) (h) (b : Fin 1) (e : Fin H) (t s : Fin N) :
    Ideal.hostReduceWindowAdd (s := ⟨4, ![1, H, N, N]⟩) (t := ⟨4, ![1, H, N, N]⟩) ![1, 1, 1, N] ![1, 1, 1, 1] ![0, 0, 0, L] ![0, 0, 0, U] h x 0 (ix4 b e t s)
      = ∑ n : Fin N, if hc : L ≤ s.val + n.val ∧ s.val + n.val - L < N then x (ix4 b e t ⟨s.val + n.val - L, hc.2⟩) else 0 := by
  have hb := b.isLt
  have he := e.isLt
  have ht := t.isLt
  unfold Ideal.hostReduceWindowAdd Host.reduceWindow
  refine (foldl_add _ _ _).trans ?_
  rw [zero_add, ← Fin.sum_univ_def]
  refine Fintype.sum_equiv ((⟨4, ![1, 1, 1, N]⟩ : Shape).rowMajor.symm.trans (place N).symm) _ _ fun n => ?_
  have p0 : ((⟨4, ![1, 1, 1, N]⟩ : Shape).rowMajor.symm n (0 : Fin 4)).val < 1 := ((⟨4, ![1, 1, 1, N]⟩ : Shape).rowMajor.symm n (0 : Fin 4)).isLt
  have p1 : ((⟨4, ![1, 1, 1, N]⟩ : Shape).rowMajor.symm n (1 : Fin 4)).val < 1 := ((⟨4, ![1, 1, 1, N]⟩ : Shape).rowMajor.symm n (1 : Fin 4)).isLt
  have p2 : ((⟨4, ![1, 1, 1, N]⟩ : Shape).rowMajor.symm n (2 : Fin 4)).val < 1 := ((⟨4, ![1, 1, 1, N]⟩ : Shape).rowMajor.symm n (2 : Fin 4)).isLt
  have p3 : ((⟨4, ![1, 1, 1, N]⟩ : Shape).rowMajor.symm n (3 : Fin 4)).val = (((⟨4, ![1, 1, 1, N]⟩ : Shape).rowMajor.symm.trans (place N).symm) n).val := rfl
  generalize ((⟨4, ![1, 1, 1, N]⟩ : Shape).rowMajor.symm.trans (place N).symm) n = n' at p3 ⊢
  have hn := n'.isLt
  by_cases hc : L ≤ s.val + n'.val ∧ s.val + n'.val - L < N
  · rw [dif_pos hc, dif_pos]
    · refine congrArg x (funext fun a => Fin.ext ?_)
      match a with
      | 0 => show b.val * 1 + ((⟨4, ![1, 1, 1, N]⟩ : Shape).rowMajor.symm n (0 : Fin 4)).val - 0 = b.val; omega
      | 1 => show e.val * 1 + ((⟨4, ![1, 1, 1, N]⟩ : Shape).rowMajor.symm n (1 : Fin 4)).val - 0 = e.val; omega
      | 2 => show t.val * 1 + ((⟨4, ![1, 1, 1, N]⟩ : Shape).rowMajor.symm n (2 : Fin 4)).val - 0 = t.val; omega
      | 3 => show s.val * 1 + ((⟨4, ![1, 1, 1, N]⟩ : Shape).rowMajor.symm n (3 : Fin 4)).val - L = s.val + n'.val - L; omega
    · intro a
      match a with
      | 0 => show 0 ≤ b.val * 1 + ((⟨4, ![1, 1, 1, N]⟩ : Shape).rowMajor.symm n (0 : Fin 4)).val ∧ b.val * 1 + ((⟨4, ![1, 1, 1, N]⟩ : Shape).rowMajor.symm n (0 : Fin 4)).val - 0 < 1; omega
      | 1 => show 0 ≤ e.val * 1 + ((⟨4, ![1, 1, 1, N]⟩ : Shape).rowMajor.symm n (1 : Fin 4)).val ∧ e.val * 1 + ((⟨4, ![1, 1, 1, N]⟩ : Shape).rowMajor.symm n (1 : Fin 4)).val - 0 < H; omega
      | 2 => show 0 ≤ t.val * 1 + ((⟨4, ![1, 1, 1, N]⟩ : Shape).rowMajor.symm n (2 : Fin 4)).val ∧ t.val * 1 + ((⟨4, ![1, 1, 1, N]⟩ : Shape).rowMajor.symm n (2 : Fin 4)).val - 0 < N; omega
      | 3 => show L ≤ s.val * 1 + ((⟨4, ![1, 1, 1, N]⟩ : Shape).rowMajor.symm n (3 : Fin 4)).val ∧ s.val * 1 + ((⟨4, ![1, 1, 1, N]⟩ : Shape).rowMajor.symm n (3 : Fin 4)).val - L < N; omega
  · rw [dif_neg hc, dif_neg]
    intro hin
    have h3 : L ≤ s.val * 1 + ((⟨4, ![1, 1, 1, N]⟩ : Shape).rowMajor.symm n (3 : Fin 4)).val ∧ s.val * 1 + ((⟨4, ![1, 1, 1, N]⟩ : Shape).rowMajor.symm n (3 : Fin 4)).val - L < N := hin 3
    omega

/-- A sum of reals, taken at the ideal values. -/
theorem coe_sum (n : ℕ) (u : ℕ → ℝ) : ∑ k : Fin n, ((u k.val : ℝ) : EReal) = ((∑ k ∈ Finset.range n, u k : ℝ) : EReal) := by
  rw [Finset.sum_range]
  induction n with
  | zero => simp
  | succ n ih => rw [Fin.sum_univ_castSucc, Fin.sum_univ_castSucc, EReal.coe_add]; exact congrArg (· + _) ih

/-- The total of the columns from one on. -/
theorem cum_from (x : (⟨4, ![1, H, N, N]⟩ : Shape).Idx → EReal) (h) (b : Fin 1) (e : Fin H) (t s : Fin N) (f : ℕ → ℝ)
    (hx : ∀ s : Fin N, x (ix4 b e t s) = ((f s.val : ℝ) : EReal)) :
    Ideal.hostReduceWindowAdd (s := ⟨4, ![1, H, N, N]⟩) (t := ⟨4, ![1, H, N, N]⟩) ![1, 1, 1, N] ![1, 1, 1, 1] ![0, 0, 0, 0] ![0, 0, 0, U] h x 0 (ix4 b e t s)
      = ((∑ n ∈ Finset.range (N - s.val), f (s.val + n) : ℝ) : EReal) := by
  rw [window_at]
  refine (Finset.sum_congr rfl fun n _ => ?_ : _ = ∑ n : Fin N, (((fun n => if s.val + n < N then f (s.val + n) else 0) n.val : ℝ) : EReal)).trans ?_
  · by_cases hc : s.val + n.val < N
    · rw [dif_pos ⟨by omega, by omega⟩, hx]
      show _ = ((if s.val + n.val < N then f (s.val + n.val) else 0 : ℝ) : EReal)
      rw [if_pos hc]; rfl
    · rw [dif_neg (by omega)]
      show _ = ((if s.val + n.val < N then f (s.val + n.val) else 0 : ℝ) : EReal)
      rw [if_neg hc]; rfl
  · refine (coe_sum N (fun n => if s.val + n < N then f (s.val + n) else 0)).trans (congrArg _ ?_)
    rw [← Finset.sum_subset (Finset.range_subset_range.2 (by omega : N - s.val ≤ N)) (fun n _ hn => by
      rw [Finset.mem_range, not_lt] at hn; exact if_neg (by omega))]
    exact Finset.sum_congr rfl fun n hn => by rw [Finset.mem_range] at hn; exact if_pos (by omega)

/-- The total of the columns up to one. -/
theorem cum_upto (x : (⟨4, ![1, H, N, N]⟩ : Shape).Idx → EReal) (h) (b : Fin 1) (e : Fin H) (t s : Fin N) (f : ℕ → ℝ)
    (hL : L + 1 = N) (hx : ∀ s : Fin N, x (ix4 b e t s) = ((f s.val : ℝ) : EReal)) :
    Ideal.hostReduceWindowAdd (s := ⟨4, ![1, H, N, N]⟩) (t := ⟨4, ![1, H, N, N]⟩) ![1, 1, 1, N] ![1, 1, 1, 1] ![0, 0, 0, L] ![0, 0, 0, U] h x 0 (ix4 b e t s)
      = ((∑ n ∈ Finset.range (s.val + 1), f n : ℝ) : EReal) := by
  have hs := s.isLt
  rw [window_at]
  refine (Finset.sum_congr rfl fun n _ => ?_ : _ = ∑ n : Fin N, (((fun n => if L ≤ s.val + n then f (s.val + n - L) else 0) n.val : ℝ) : EReal)).trans ?_
  · have hn := n.isLt
    by_cases hc : L ≤ s.val + n.val
    · rw [dif_pos ⟨hc, by omega⟩, hx]
      show _ = ((if L ≤ s.val + n.val then f (s.val + n.val - L) else 0 : ℝ) : EReal)
      rw [if_pos hc]
    · rw [dif_neg (by omega)]
      show _ = ((if L ≤ s.val + n.val then f (s.val + n.val - L) else 0 : ℝ) : EReal)
      rw [if_neg hc]; rfl
  · refine (coe_sum N (fun n => if L ≤ s.val + n then f (s.val + n - L) else 0)).trans (congrArg _ ?_)
    refine (congrArg (fun M => ∑ k ∈ Finset.range M, if L ≤ s.val + k then f (s.val + k - L) else 0)
      (show N = (L - s.val) + (s.val + 1) by omega)).trans ?_
    rw [Finset.sum_range_add, Finset.sum_eq_zero (fun n hn => by
      rw [Finset.mem_range] at hn; exact if_neg (by omega)), zero_add]
    exact Finset.sum_congr rfl fun n hn => by
      rw [if_pos (by omega)]; exact congrArg f (by omega)

end Cert.Attn
-- ==== Proof.Attn.Real.lean ====
/- The real mathematics of one row of the attention: a stick-breaking weight of each column from the running total of the
   softplus of the scores, its gradient from a second running total, and what one tile of 256 columns adds to each. -/
module

public import Mathlib.Analysis.SpecialFunctions.Log.Basic
public import Mathlib.Algebra.BigOperators.Intervals

@[expose] public section

noncomputable section

namespace Cert.Attn

open Finset

/-- The softplus of a score, as the kernel computes it. -/
def sp (z : ℝ) : ℝ := max z 0 - Real.log (1 / (1 + Real.exp (0 - |z|)))

/-- The logistic of a score, as the kernel computes it. -/
def sg (z : ℝ) : ℝ :=
  if 0 ≤ z then 1 / (1 + Real.exp (0 - |z|)) else Real.exp (0 - |z|) * (1 / (1 + Real.exp (0 - |z|)))

/-- Products of rows with rows, of rows with columns and of columns with columns. -/
def NT (q k : ℕ → ℕ → ℝ) (a b : ℕ) : ℝ := ∑ l ∈ range 128, q a l * k b l
def NN (x k : ℕ → ℕ → ℝ) (a l : ℕ) : ℝ := ∑ b ∈ range 256, x a b * k b l
def TN (n : ℕ) (x q : ℕ → ℕ → ℝ) (b l : ℕ) : ℝ := ∑ a ∈ range n, x a b * q a l

/-- The triangle of ones, and the running total it computes. -/
def tri (a b : ℕ) : ℝ := if a ≤ b then 1 else 0

theorem NN_tri (x : ℕ → ℕ → ℝ) (a b : ℕ) (hb : b < 256) : NN x tri a b = ∑ c ∈ range (b + 1), x a c := by
  unfold NN tri
  rw [← sum_subset (range_subset_range.2 (by omega : b + 1 ≤ 256)) (fun c _ hc => by
    rw [mem_range, not_lt] at hc; rw [if_neg (by omega), mul_zero])]
  exact sum_congr rfl fun c hc => by rw [mem_range] at hc; rw [if_pos (by omega), mul_one]

section Row

/- The rows: how many columns row `a` sees, its scores, the products of its cotangent with the values, its total. -/
variable (T : ℕ → ℕ) (z gd : ℕ → ℕ → ℝ) (rt : ℕ → ℝ)

/-- The softplus of the seen columns, and their running total. -/
def S (a s : ℕ) : ℝ := if s < T a then sp (z a s) else 0
def P (a n : ℕ) : ℝ := ∑ s ∈ range n, S T z a s
/-- The weights, their gradient's terms, the running total of these, and the gradient of the score. -/
def A (a s : ℕ) : ℝ := if s < T a then Real.exp (z a s - (rt a - P T z a s)) else 0
def G (a s : ℕ) : ℝ := A T z rt a s * gd a s
def C (a n : ℕ) : ℝ := ∑ s ∈ range n, G T z gd rt a s
def DZ (a s : ℕ) : ℝ := if s < T a then G T z gd rt a s - sg (z a s) * C T z gd rt a (s + 1) else 0
/-- What the first `n` columns give to the gradient of the query. -/
def DQ (k : ℕ → ℕ → ℝ) (n a l : ℕ) : ℝ := ∑ s ∈ range n, DZ T z gd rt a s * k s l

theorem P_tile (o a b : ℕ) (hb : b < 256) :
    P T z a o + NN (fun a b => S T z a (o + b)) tri a b = P T z a (o + b + 1) := by
  rw [NN_tri _ a b hb, P, P, add_assoc o b 1]; exact (sum_range_add _ o (b + 1)).symm

theorem C_tile (o a b : ℕ) (hb : b < 256) :
    C T z gd rt a o + NN (fun a b => G T z gd rt a (o + b)) tri a b = C T z gd rt a (o + b + 1) := by
  rw [NN_tri _ a b hb, C, C, add_assoc o b 1]; exact (sum_range_add _ o (b + 1)).symm

theorem DQ_tile (k : ℕ → ℕ → ℝ) (o a l : ℕ) :
    DQ T z gd rt k o a l + NN (fun a b => DZ T z gd rt a (o + b)) (fun b l => k (o + b) l) a l
      = DQ T z gd rt k (o + 256) a l := by
  rw [DQ, DQ, NN]; exact (sum_range_add _ o 256).symm

/-- The weight as a tile computes it: its running total holds the column itself, whose softplus is put back. -/
theorem A_tile (o a b : ℕ) (hb : b < 256) :
    z a (o + b) - (rt a - P T z a o - NN (fun a b => S T z a (o + b)) tri a b + S T z a (o + b))
      = z a (o + b) - (rt a - P T z a (o + b)) := by
  have h := P_tile T z o a b hb
  have e : P T z a (o + b + 1) = P T z a (o + b) + S T z a (o + b) := sum_range_succ _ _
  linarith

end Row

end Cert.Attn
-- ==== Proof.Attn.Scalars.lean ====
/- The host's softplus and its derivative, and the mask, at real scores. -/
module

public import proofs.«01_k».proof.Proof.Attn.Window
public import proofs.«01_k».proof.Proof.Attn.Real

@[expose] public section

set_option maxRecDepth 16384

noncomputable section

open Idealize.ShloMosaic Idealize.ShloMosaic.TcCoe Idealize.SL.Sem

namespace Cert.Attn

/-- The kernel's softplus is the logarithm of one and the exponential, written to stay in range. -/
theorem sp_eq (z : ℝ) : sp z = max z 0 + Real.log (1 + Real.exp (-|z|)) := by
  unfold sp
  rw [one_div, Real.log_inv, zero_sub, sub_neg_eq_add]

theorem exp_sp (z : ℝ) : Real.exp (sp z) = 1 + Real.exp z := by
  have h1 : 0 < 1 + Real.exp (-|z|) := by positivity
  rw [sp_eq, Real.exp_add, Real.exp_log h1]
  rcases le_total 0 z with h | h
  · rw [max_eq_left h, abs_of_nonneg h, mul_add, mul_one, ← Real.exp_add, add_neg_cancel, Real.exp_zero, add_comm]
  · rw [max_eq_right h, abs_of_nonpos h, Real.exp_zero, one_mul, neg_neg]

/-- The derivative as the host takes it, the exponential of the difference, is the kernel's logistic. -/
theorem sg_eq (z : ℝ) : Real.exp (z - sp z) = sg z := by
  rw [Real.exp_sub, exp_sp]
  unfold sg
  rw [zero_sub]
  have h1 : 0 < 1 + Real.exp z := by positivity
  split
  · next h =>
    rw [abs_of_nonneg h, Real.exp_neg]
    have : Real.exp z ≠ 0 := (Real.exp_pos z).ne'
    field_simp
    ring
  · next h =>
    rw [abs_of_neg (not_le.1 h), neg_neg]
    field_simp

theorem zero_bits : Ideal.ofBits .f32 0x00000000#32 = ((0 : ℝ) : EReal) := by simp [Ideal.ofBits, Ideal.ieee]
theorem eighth_bits : Ideal.ofBits .f32 0x3E000000#32 = (((1 / 8 : ℝ)) : EReal) := by
  simp [Ideal.ofBits, Ideal.ieee]; rw [← EReal.coe_mul]; norm_num
theorem top_bits : Ideal.ofBits .f32 0x7F800000#32 = (⊤ : EReal) := by simp [Ideal.ofBits, Ideal.ieee]
theorem bot_bits : Ideal.ofBits .f32 0xFF800000#32 = (⊥ : EReal) := by simp [Ideal.ofBits, Ideal.ieee]

end Cert.Attn
-- ==== Proof.Attn.RefZ.lean ====
/- The reference at real arguments: the scores, their softplus and its running total. -/
module

public import proofs.«01_k».proof.Proof.Attn.Scalars
public import proofs.«01_k».proof.Proof.Gen.ReferenceIdeal.Read
public import Idealize.ShloMosaic.Lib.WordCmp

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Attn

/-- An array of one row of heads: entry `(t, h, l)` is the real number `f h t l`. -/
def IsH (x : FVec Ideal S1x2064x16x64 .f32) (f : ℕ → ℕ → ℕ → ℝ) : Prop :=
  ∀ (t : Fin 2064) (h : Fin 16) (l : Fin 64), x (ix4 (0 : Fin 1) t h l) = ((f h t l : ℝ) : EReal)

variable {q k v d : FVec Ideal S1x2064x16x64 .f32} {Q K V D : ℕ → ℕ → ℕ → ℝ}
variable (h : Fin 16) (t s : Fin 2064)

/-- A score: the product of the rows, scaled. -/
def sc (Q K : ℕ → ℕ → ℕ → ℝ) (h t s : ℕ) : ℝ := (∑ l ∈ Finset.range 64, Q h t l * K h s l) * (1 / 8)

theorem coe_sum_mul' (n : ℕ) (u v : ℕ → ℝ) :
    ∑ k : Fin n, ((u k.val : ℝ) : EReal) * ((v k.val : ℝ) : EReal) = ((∑ k ∈ Finset.range n, u k * v k : ℝ) : EReal) :=
  (Finset.sum_congr rfl fun k _ => (EReal.coe_mul _ _).symm).trans (coe_sum n fun k => u k * v k)

theorem ref_z (hq : IsH q Q) (hk : IsH k K) :
    val_main_v2 (F := Ideal) q k (ix4 (0 : Fin 1) h t s) = ((sc Q K h t s : ℝ) : EReal) := by
  pointwise [val_main_v2, val_main_v0, val_main_v1, val_main_cst]
  simp only [hq _ _ _, hk _ _ _]
  rw [coe_sum_mul' 64 (Q h t) (K h s), eighth_bits, ← EReal.coe_mul]
  rfl

/-- The softplus as the host writes it. -/
theorem softplus_at (z : ℝ) : (if (z : EReal) ≠ (z : EReal) then (z : EReal) else max (z : EReal) 0 + Ideal.log1p (Ideal.exp (-max (z : EReal) (-(z : EReal)))))
    = ((sp z : ℝ) : EReal) := by
  have e : max (z : EReal) (-(z : EReal)) = ((|z| : ℝ) : EReal) := by
    rw [← EReal.coe_neg]; exact (EReal.coe_strictMono.monotone.map_max).symm
  have e0 : max (z : EReal) 0 = ((max z 0 : ℝ) : EReal) := (EReal.coe_strictMono.monotone.map_max (a := z) (b := 0)).symm
  rw [if_neg (fun h => h rfl), e, ← EReal.coe_neg, Ideal.exp_coe, e0]
  show _ + Ideal.log (1 + _) = _
  rw [← EReal.coe_one, ← EReal.coe_add, Ideal.log_coe, if_neg (not_le.2 (by positivity)), ← EReal.coe_add, sp_eq]

theorem ref_sp (z : ℝ) (hz : val_main_v2 (F := Ideal) q k (ix4 (0 : Fin 1) h t s) = (z : EReal)) :
    val_main_v10_0 (F := Ideal) q k (ix4 (0 : Fin 1) h t s) = ((sp z : ℝ) : EReal) := by
  pointwise [val_main_v10_0, val_main_call0_v4, val_main_call0_v6, val_main_call0_v11, val_main_call0_v3, val_main_call0_v5, val_main_call0_v1, val_main_call0_v10, val_main_call0_v9, val_main_call0_v8, val_main_call0_v7, val_main_call0_v2, val_main_call0_v0, val_main_call0_cst]
  rw [hz]
  exact softplus_at z

theorem ref_sg (z : ℝ) (hz : val_main_v2 (F := Ideal) q k (ix4 (0 : Fin 1) h t s) = (z : EReal)) :
    val_main_v10_1 (F := Ideal) q k (ix4 (0 : Fin 1) h t s) = ((sg z : ℝ) : EReal) := by
  have e := ref_sp h t s z hz
  pointwise [val_main_v10_1, val_main_call0_v21, val_main_call0_v20, val_main_call0_v16, val_main_call0_v14, val_main_call0_v13, val_main_call0_v15, val_main_call0_v18, val_main_call0_v17, val_main_call0_v19, val_main_call0_cst_0, val_main_call0_cst_1, val_main_call0_cst_2, val_main_call0_cst_3]
  rw [hz, e, top_bits, if_neg (EReal.coe_ne_top z), if_neg (EReal.coe_ne_top (sp z)), ← EReal.coe_sub, Ideal.exp_coe, sg_eq]

theorem ref_mask : val_main_v11_1 (F := Ideal) (ix4 (0 : Fin 1) h t s) = 1 ↔ s.val < t.val := by
  have hs := s.isLt
  have ht := t.isLt
  pointwise [val_main_v11_1, val_main_v9, val_main_v7, val_main_v8, val_main_v4, val_main_v3, val_main_v5, val_main_v6]
  exact WordCmp.cmpi_slt_ofNat_eq_one_iff (by omega) (by omega)

theorem ref_mask' : val_main_v14_1 (F := Ideal) (ix4 (0 : Fin 1) h t s) = 1 ↔ s.val < t.val := by
  have hs := s.isLt
  have ht := t.isLt
  pointwise [val_main_v14_1, val_main_v9, val_main_v7, val_main_v8, val_main_v4, val_main_v3, val_main_v5, val_main_v6]
  exact WordCmp.cmpi_slt_ofNat_eq_one_iff (by omega) (by omega)

/-- The softplus of the seen columns. -/
theorem ref_S (hq : IsH q Q) (hk : IsH k K) :
    val_main_v11_0 (F := Ideal) q k (ix4 (0 : Fin 1) h t s) = ((S id (sc Q K h) t s : ℝ) : EReal) := by
  have e := ref_sp h t s _ (ref_z h t s hq hk)
  have i := ref_mask h t s
  pointwise [val_main_v11_0, val_main_call1_v2, val_main_call1_v0, val_main_cst_0]
  rw [e]
  unfold Scalar.select S
  by_cases hm : s.val < t.val
  · rw [if_pos (i.2 hm)]; exact congrArg _ (if_pos hm).symm
  · rw [if_neg (fun h => hm (i.1 h))]
    refine Eq.trans ?_ (congrArg (fun r : ℝ => (r : EReal)) (if_neg hm : _ = (0 : ℝ)).symm)
    exact zero_bits

/-- Its total from one column on. -/
theorem ref_cum (hq : IsH q Q) (hk : IsH k K) :
    val_main_v12 (F := Ideal) q k (ix4 (0 : Fin 1) h t s)
      = ((∑ n ∈ Finset.range (2064 - s), S id (sc Q K h) t (s + n) : ℝ) : EReal) := by
  unfold val_main_v12 Host.reduceWindowAdd
  have e0 : val_main_call2_v0 (F := Ideal) (Shape.Idx.first h_S_) = (0 : EReal) := by
    pointwise [val_main_call2_v0, val_main_call2_cst]
  rw [e0]
  exact cum_from _ _ (0 : Fin 1) h t s (S id (sc Q K h) t) fun s => ref_S h t s hq hk

end Cert.Attn
-- ==== Proof.Attn.Row.lean ====
/- A row of the attention depends on that row alone, and on the columns it sees. -/
module

public import proofs.«01_k».proof.Proof.Attn.Real

@[expose] public section

noncomputable section

namespace Cert.Attn

variable {T T' : ℕ → ℕ} {z z' gd gd' : ℕ → ℕ → ℝ} {r r' : ℕ → ℝ} {a a' : ℕ}

theorem S_row (hT : T a = T' a') (hz : ∀ s < T a, z a s = z' a' s) (s : ℕ) : S T z a s = S T' z' a' s := by
  unfold S
  by_cases h : s < T a
  · rw [if_pos h, if_pos (hT ▸ h), hz s h]
  · rw [if_neg h, if_neg (hT ▸ h)]

theorem P_row (hT : T a = T' a') (hz : ∀ s < T a, z a s = z' a' s) (n : ℕ) : P T z a n = P T' z' a' n :=
  Finset.sum_congr rfl fun s _ => S_row hT hz s

theorem A_row (hT : T a = T' a') (hz : ∀ s < T a, z a s = z' a' s) (hr : r a = r' a') (s : ℕ) : A T z r a s = A T' z' r' a' s := by
  unfold A
  by_cases h : s < T a
  · rw [if_pos h, if_pos (hT ▸ h), hz s h, hr, P_row hT hz]
  · rw [if_neg h, if_neg (hT ▸ h)]

/-- A row gives nothing to a column it does not see. -/
theorem A_out {s : ℕ} (h : T a ≤ s) : A T z r a s = 0 := if_neg (by omega)
theorem DZ_out {s : ℕ} (h : T a ≤ s) : DZ T z gd r a s = 0 := if_neg (by omega)

theorem G_row (hT : T a = T' a') (hz : ∀ s < T a, z a s = z' a' s) (hg : ∀ s < T a, gd a s = gd' a' s) (hr : r a = r' a') (s : ℕ) :
    G T z gd r a s = G T' z' gd' r' a' s := by
  unfold G
  by_cases h : s < T a
  · rw [A_row hT hz hr, hg s h]
  · rw [A_out (by omega), A_out (by omega), zero_mul, zero_mul]

theorem DZ_row (hT : T a = T' a') (hz : ∀ s < T a, z a s = z' a' s) (hg : ∀ s < T a, gd a s = gd' a' s) (hr : r a = r' a') (s : ℕ) :
    DZ T z gd r a s = DZ T' z' gd' r' a' s := by
  unfold DZ
  by_cases h : s < T a
  · rw [if_pos h, if_pos (hT ▸ h), hz s h, G_row hT hz hg hr, C, C, Finset.sum_congr rfl fun s _ => G_row hT hz hg hr s]
  · rw [if_neg h, if_neg (hT ▸ h)]

end Cert.Attn
-- ==== Proof.Attn.RefG.lean ====
/- The reference's gradients at real arguments. -/
module

public import proofs.«01_k».proof.Proof.Attn.RefZ
public import proofs.«01_k».proof.Proof.Attn.Row

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Attn

variable {q k v d : FVec Ideal S1x2064x16x64 .f32} {Q K V D : ℕ → ℕ → ℕ → ℝ}
variable (h : Fin 16) (t s : Fin 2064) (l : Fin 64)

/-- The product of a cotangent's row with a value's. -/
def gp (D V : ℕ → ℕ → ℕ → ℝ) (h t s : ℕ) : ℝ := ∑ l ∈ Finset.range 64, D h t l * V h s l

/-- The total of a row's softplus, its weights and the gradient of its scores. -/
def tot (Q K : ℕ → ℕ → ℕ → ℝ) (h t : ℕ) : ℝ := P id (sc Q K h) t 2064
def wt (Q K : ℕ → ℕ → ℕ → ℝ) (h t s : ℕ) : ℝ := A id (sc Q K h) (tot Q K h) t s
def dz (Q K V D : ℕ → ℕ → ℕ → ℝ) (h t s : ℕ) : ℝ := DZ id (sc Q K h) (gp D V h) (tot Q K h) t s

theorem tail_sum (f : ℕ → ℝ) (n s : ℕ) (hs : s ≤ n) : ∑ j ∈ Finset.range (n - s), f (s + j) = (∑ j ∈ Finset.range n, f j) - ∑ j ∈ Finset.range s, f j := by
  have e := Finset.sum_range_add f s (n - s)
  rw [Nat.add_sub_cancel' hs] at e
  linarith

theorem ref_w (hq : IsH q Q) (hk : IsH k K) :
    val_main_v15 (F := Ideal) q k (ix4 (0 : Fin 1) h t s) = ((wt Q K h t s : ℝ) : EReal) := by
  have e := ref_z h t s hq hk
  have r := ref_cum h t s hq hk
  have i := ref_mask' h t s
  pointwise [val_main_v15, val_main_v14_0, val_main_v13, val_main_call3_v2, val_main_call3_v0, val_main_cst_1]
  rw [e, r, ← EReal.coe_sub]
  change Ideal.exp (Scalar.select _ _ (Ideal.ofBits .f32 0xFF800000#32)) = _
  rw [bot_bits]
  unfold Scalar.select wt A
  by_cases hm : s.val < t.val
  · rw [if_pos (i.2 hm), Ideal.exp_coe]
    refine congrArg _ (Eq.trans ?_ (if_pos hm).symm)
    rw [tail_sum _ _ _ (by omega)]
    rfl
  · rw [if_neg (fun h => hm (i.1 h)), Ideal.exp_bot]
    exact (congrArg (fun r : ℝ => (r : EReal)) (if_neg hm : _ = (0 : ℝ))).symm

theorem ref_gp (hv : IsH v V) (hd : IsH d D) :
    val_main_v19 (F := Ideal) v d (ix4 (0 : Fin 1) h t s) = ((gp D V h t s : ℝ) : EReal) := by
  pointwise [val_main_v19, val_main_v18]
  simp only [hv _ _ _, hd _ _ _]
  exact coe_sum_mul' 64 (D h t) (V h s)

/-- The gradient's terms, zero at the columns not seen. -/
theorem ref_G (hq : IsH q Q) (hk : IsH k K) (hv : IsH v V) (hd : IsH d D) :
    val_main_v23 (F := Ideal) q k v d (ix4 (0 : Fin 1) h t s) = ((G id (sc Q K h) (gp D V h) (tot Q K h) t s : ℝ) : EReal) := by
  have e := ref_w h t s hq hk
  have g := ref_gp h t s hv hd
  have i := ref_mask' h t s
  pointwise [val_main_v23, val_main_v22, val_main_call4_v0, val_main_call4_cst]
  rw [e, g, ← EReal.coe_mul]
  unfold Scalar.select G
  by_cases hm : s.val < t.val
  · rw [if_pos (i.2 hm), mul_comm]; rfl
  · rw [if_neg (fun h => hm (i.1 h)), A_out (by exact not_lt.1 hm), zero_mul]
    exact EReal.coe_zero.symm

theorem ref_C (hq : IsH q Q) (hk : IsH k K) (hv : IsH v V) (hd : IsH d D) :
    val_main_v25 (F := Ideal) q k v d (ix4 (0 : Fin 1) h t s) = ((-C id (sc Q K h) (gp D V h) (tot Q K h) t (s + 1) : ℝ) : EReal) := by
  unfold val_main_v25 Host.reduceWindowAdd
  have e0 : val_main_call5_v0 (F := Ideal) (Shape.Idx.first h_S_) = (0 : EReal) := by
    pointwise [val_main_call5_v0, val_main_call5_cst]
  rw [e0]
  refine (cum_upto _ _ (0 : Fin 1) h t s (fun s => -G id (sc Q K h) (gp D V h) (tot Q K h) t s) rfl fun s => ?_).trans ?_
  · have e := ref_G h t s hq hk hv hd
    pointwise [val_main_v24]
    rw [e, ← EReal.coe_neg]
  · rw [Finset.sum_neg_distrib]; rfl

/-- The gradient of the scores. -/
theorem ref_dz (hq : IsH q Q) (hk : IsH k K) (hv : IsH v V) (hd : IsH d D) :
    val_main_v30 (F := Ideal) q k v d (ix4 (0 : Fin 1) h t s) = ((dz Q K V D h t s * (1 / 8) : ℝ) : EReal) := by
  have e := ref_G h t s hq hk hv hd
  have c := ref_C h t s hq hk hv hd
  have g := ref_sg h t s _ (ref_z h t s hq hk)
  have i := ref_mask h t s
  pointwise [val_main_v30, val_main_v29, val_main_cst_2, val_main_v28, val_main_v27, val_main_v26, val_main_call6_v0, val_main_call6_cst]
  rw [e, c, g, eighth_bits]
  unfold Scalar.select dz DZ
  by_cases hm : s.val < t.val
  · rw [if_pos (i.2 hm), if_pos (show s.val < id t.val from hm), ← EReal.coe_mul, ← EReal.coe_add, ← EReal.coe_mul]
    exact congrArg _ (by ring)
  · have e0 : G id (sc Q K h) (gp D V h) (tot Q K h) t s = 0 := by unfold G; rw [A_out (by exact not_lt.1 hm), zero_mul]
    rw [if_neg (fun h => hm (i.1 h)), if_neg (show ¬ s.val < id t.val from hm), e0]
    rw [EReal.coe_zero, add_zero, zero_mul, zero_mul, EReal.coe_zero]

/-- The gradients of the queries, of the keys and of the values, head by head. -/
theorem ref_dq (hq : IsH q Q) (hk : IsH k K) (hv : IsH v V) (hd : IsH d D) :
    val_main_v34 (F := Ideal) q k v d (ix4 (0 : Fin 1) t h l) = ((∑ s ∈ Finset.range 2064, dz Q K V D h t s * (1 / 8) * K h s l : ℝ) : EReal) := by
  have e := fun s => ref_dz h t s hq hk hv hd
  pointwise [val_main_v34, val_main_v33]
  simp only [e, hk _ _ _]
  exact coe_sum_mul' 2064 (fun s => dz Q K V D h t s * (1 / 8)) (fun s => K h s l)

theorem ref_dk (hq : IsH q Q) (hk : IsH k K) (hv : IsH v V) (hd : IsH d D) :
    val_main_v32 (F := Ideal) q k v d (ix4 (0 : Fin 1) s h l) = ((∑ t ∈ Finset.range 2064, dz Q K V D h t s * (1 / 8) * Q h t l : ℝ) : EReal) := by
  have e := fun t => ref_dz h t s hq hk hv hd
  pointwise [val_main_v32, val_main_v31]
  simp only [e, hq _ _ _]
  exact coe_sum_mul' 2064 (fun t => dz Q K V D h t s * (1 / 8)) (fun t => Q h t l)

theorem ref_dv (hq : IsH q Q) (hk : IsH k K) (hd : IsH d D) :
    val_main_v21 (F := Ideal) q k d (ix4 (0 : Fin 1) s h l) = ((∑ t ∈ Finset.range 2064, D h t l * wt Q K h t s : ℝ) : EReal) := by
  have e := fun t => ref_w h t s hq hk
  pointwise [val_main_v21, val_main_v20, val_main_v18]
  simp only [e, hd _ _ _]
  exact coe_sum_mul' 2064 (fun t => D h t l) (fun t => wt Q K h t s)

/-- The word zero is the number zero. -/
theorem sitofp_zero : FloatOps.sitofp (F := Ideal) .f32 (0#32) = ((0 : ℝ) : EReal) := by
  show (((0#32 : BitVec 32).toInt : ℝ) : EReal) = _
  simp

/-- The three results: the heads side by side, zero below the last row. -/
def dqR (Q K V D : ℕ → ℕ → ℕ → ℝ) (r c : ℕ) : ℝ :=
  if r < 2064 then ∑ s ∈ Finset.range 2064, dz Q K V D (c / 64) r s * (1 / 8) * K (c / 64) s (c % 64) else 0
def dkR (Q K V D : ℕ → ℕ → ℕ → ℝ) (r c : ℕ) : ℝ :=
  if r < 2064 then ∑ t ∈ Finset.range 2064, dz Q K V D (c / 64) t r * (1 / 8) * Q (c / 64) t (c % 64) else 0
def dvR (Q K D : ℕ → ℕ → ℕ → ℝ) (r c : ℕ) : ℝ :=
  if r < 2064 then ∑ t ∈ Finset.range 2064, D (c / 64) t (c % 64) * wt Q K (c / 64) t r else 0

theorem ref_out0 (hq : IsH q Q) (hk : IsH k K) (hv : IsH v V) (hd : IsH d D) (r : Fin 2304) (c : Fin 1024) :
    val_main_v38 (F := Ideal) q k v d (ix2 r c) = ((dqR Q K V D r c : ℝ) : EReal) := by
  have e := fun t h l => ref_dq h t l hq hk hv hd
  pointwise [val_main_v38, val_main_v37, val_main_v36, val_main_v35, val_main_call8_v0, val_main_c]
  unfold dqR
  by_cases hr : r.val < 2064
  · rw [dif_pos hr, if_pos hr, e]
  · rw [dif_neg hr, if_neg hr]
    exact sitofp_zero

theorem ref_out1 (hq : IsH q Q) (hk : IsH k K) (hv : IsH v V) (hd : IsH d D) (r : Fin 2304) (c : Fin 1024) :
    val_main_v42 (F := Ideal) q k v d (ix2 r c) = ((dkR Q K V D r c : ℝ) : EReal) := by
  have e := fun t h l => ref_dk h t l hq hk hv hd
  pointwise [val_main_v42, val_main_v41, val_main_v40, val_main_v39, val_main_call9_v0, val_main_c_3]
  unfold dkR
  by_cases hr : r.val < 2064
  · rw [dif_pos hr, if_pos hr, e]
  · rw [dif_neg hr, if_neg hr]
    exact sitofp_zero

theorem ref_out2 (hq : IsH q Q) (hk : IsH k K) (hd : IsH d D) (r : Fin 2304) (c : Fin 1024) :
    val_main_v46 (F := Ideal) q k d (ix2 r c) = ((dvR Q K D r c : ℝ) : EReal) := by
  have e := fun t h l => ref_dv h t l hq hk hd
  pointwise [val_main_v46, val_main_v45, val_main_v44, val_main_v43, val_main_call10_v0, val_main_c_4]
  unfold dvR
  by_cases hr : r.val < 2064
  · rw [dif_pos hr, if_pos hr, e]
  · rw [dif_neg hr, if_neg hr]
    exact sitofp_zero

end Cert.Attn
-- ==== Proof.Attn.Is.lean ====
/- Arrays of two axes at the ideal values whose entries are real numbers.  `Is v f` says that entry `(a, b)` of `v` is the
   real number `f a b`; each operation of a kernel body takes such arrays to such arrays, and its lemma here names the
   real function of the result.  The functions are over plain natural numbers, so no lemma mentions a shape. -/
module

public import proofs.«01_k».proof.Proof.Gen.KernelIdeal.Value
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem

namespace Cert.Attn

/-- Entry `(a, b)` of the array is the real number `f a b`. -/
def Is {d : Fin 2 → ℕ} (v : (⟨2, d⟩ : Shape).Idx → EReal) (f : ℕ → ℕ → ℝ) : Prop :=
  ∀ y : (⟨2, d⟩ : Shape).Idx, v y = ((f (y (0 : Fin 2)).val (y (1 : Fin 2)).val : ℝ) : EReal)

/-- Entry `(a, b)` of the array of bits is set exactly where `p a b`. -/
def IsB {d : Fin 2 → ℕ} (v : (⟨2, d⟩ : Shape).Idx → BitVec 1) (p : ℕ → ℕ → Prop) : Prop :=
  ∀ y : (⟨2, d⟩ : Shape).Idx, v y = 1 ↔ p (y (0 : Fin 2)).val (y (1 : Fin 2)).val

variable {d : Fin 2 → ℕ} {φ : FTy} {f g : ℕ → ℕ → ℝ} {p : ℕ → ℕ → Prop}

theorem Is.congr {v : (⟨2, d⟩ : Shape).Idx → EReal} (h : Is v f) (e : ∀ a b, a < d 0 → b < d 1 → f a b = g a b) : Is v g :=
  fun y => by rw [h y, e _ _ (y (0 : Fin 2)).isLt (y (1 : Fin 2)).isLt]

theorem Is.at {v : (⟨2, d⟩ : Shape).Idx → EReal} (h : Is v f) (a : Fin (d 0)) (b : Fin (d 1)) :
    v (fun x => Fin.cases a (fun x => Fin.cases b (fun x => x.elim0) x) x) = ((f a b : ℝ) : EReal) := h _

theorem Is.add {v w : FVec Ideal ⟨2, d⟩ φ} (hv : Is v f) (hw : Is w g) : Is (addf v w) (fun a b => f a b + g a b) :=
  fun y => by show v y + w y = _; rw [hv y, hw y, ← EReal.coe_add]

theorem Is.sub {v w : FVec Ideal ⟨2, d⟩ φ} (hv : Is v f) (hw : Is w g) : Is (subf v w) (fun a b => f a b - g a b) :=
  fun y => by show v y - w y = _; rw [hv y, hw y, ← EReal.coe_sub]

theorem Is.mul {v w : FVec Ideal ⟨2, d⟩ φ} (hv : Is v f) (hw : Is w g) : Is (mulf v w) (fun a b => f a b * g a b) :=
  fun y => by show v y * w y = _; rw [hv y, hw y, ← EReal.coe_mul]

theorem Is.div {v w : FVec Ideal ⟨2, d⟩ φ} (hv : Is v f) (hw : Is w g) (h0 : ∀ a b, g a b ≠ 0) :
    Is (divf v w) (fun a b => f a b / g a b) :=
  fun y => by
    show Ideal.div (v y) (w y) = _
    rw [hv y, hw y, Ideal.div_coe (h0 _ _), ← EReal.coe_mul, mul_one_div]

theorem Is.max {v w : FVec Ideal ⟨2, d⟩ φ} (hv : Is v f) (hw : Is w g) : Is (maximumf v w) (fun a b => max (f a b) (g a b)) :=
  fun y => by show Max.max (v y) (w y) = _; rw [hv y, hw y]; exact (EReal.coe_strictMono.monotone.map_max).symm

theorem Is.abs {v : FVec Ideal ⟨2, d⟩ φ} (hv : Is v f) : Is (absf v) (fun a b => |f a b|) :=
  fun y => by show Max.max (v y) (-(v y)) = _; rw [hv y, ← EReal.coe_neg]; exact (EReal.coe_strictMono.monotone.map_max).symm

theorem Is.exp {v : FVec Ideal ⟨2, d⟩ φ} (hv : Is v f) : Is (exp v) (fun a b => Real.exp (f a b)) :=
  fun y => by show Ideal.exp (v y) = _; rw [hv y, Ideal.exp_coe]

theorem Is.log {v : FVec Ideal ⟨2, d⟩ φ} (hv : Is v f) (h0 : ∀ a b, 0 < f a b) : Is (log v) (fun a b => Real.log (f a b)) :=
  fun y => by show Ideal.log (v y) = _; rw [hv y, Ideal.log_coe, if_neg (not_le.2 (h0 _ _))]

theorem Is.zero : Is (broadcast (⟨2, d⟩ : Shape) (Scalar.ofBits (F := Ideal) .f32 0x00000000#32)) (fun _ _ => 0) :=
  fun y => by show Ideal.ofBits .f32 0x00000000#32 = _; simp [Ideal.ofBits, Ideal.ieee]

theorem Is.one : Is (broadcast (⟨2, d⟩ : Shape) (Scalar.ofBits (F := Ideal) .f32 0x3F800000#32)) (fun _ _ => 1) :=
  fun y => by
    show Ideal.ofBits .f32 0x3F800000#32 = _
    simp [Ideal.ofBits, Ideal.ieee]; rw [← EReal.coe_mul]; norm_num

theorem Is.select {c : IVec ⟨2, d⟩ 1} {v w : (⟨2, d⟩ : Shape).Idx → EReal} [∀ a b, Decidable (p a b)] (hc : IsB c p) (hv : Is v f) (hw : Is w g) :
    Is (select c v w) (fun a b => if p a b then f a b else g a b) :=
  fun y => by
    show (if c y = 1 then v y else w y) = _
    by_cases h : p (y (0 : Fin 2)).val (y (1 : Fin 2)).val
    · rw [if_pos ((hc y).2 h), hv y]; simp only [if_pos h]
    · rw [if_neg (fun e => h ((hc y).1 e)), hw y]; simp only [if_neg h]

theorem Is.oge {v w : FVec Ideal ⟨2, d⟩ φ} (hv : Is v f) (hw : Is w g) : IsB (cmpf .oge v w) (fun a b => g a b ≤ f a b) :=
  fun y => by
    show Ideal.cmp .oge (v y) (w y) = 1 ↔ _
    rw [hv y, hw y]
    show BitVec.ofBool (decide _) = 1#1 ↔ _
    by_cases h : g (y (0 : Fin 2)).val (y (1 : Fin 2)).val ≤ f (y (0 : Fin 2)).val (y (1 : Fin 2)).val <;> simp [h]

/-- A slice reads at its offsets. -/
theorem Is.slice {e off : Fin 2 → ℕ} {v : (⟨2, d⟩ : Shape).Idx → EReal} (hv : Is v f) (h : Shape.Slices (⟨2, d⟩ : Shape) off (⟨2, e⟩ : Shape)) :
    Is (extractStridedSlice (⟨2, e⟩ : Shape) off v h) (fun a b => f (off 0 + a) (off 1 + b)) :=
  fun y => hv _

/-- Two arrays of `n` rows and more, one after the other. -/
theorem Is.cat {e k : Fin 2 → ℕ} {v : (⟨2, d⟩ : Shape).Idx → EReal} {w : (⟨2, e⟩ : Shape).Idx → EReal} (hv : Is v f) (hw : Is w g)
    (h : Shape.Concatenates [(⟨2, d⟩ : Shape), (⟨2, e⟩ : Shape)] (⟨2, k⟩ : Shape) (0 : Fin 2)) :
    Is (concatenate (⟨2, k⟩ : Shape) (0 : Fin 2) [⟨(⟨2, d⟩ : Shape), v⟩, ⟨(⟨2, e⟩ : Shape), w⟩] h) (fun a b => if a < d 0 then f a b else g (a - d 0) b) :=
  fun y => by
    rw [concatenate_pair_apply]
    by_cases hl : (y (0 : Fin 2)).val < d 0
    · refine (dif_pos hl).trans ?_; rw [hv]; simp only [if_pos hl]; rfl
    · refine (dif_neg hl).trans ?_; rw [hw]; simp only [if_neg hl]; rfl

/-- A column repeated along the rows. -/
theorem Is.bcol {n m : ℕ} {v : (⟨2, ![n, 1]⟩ : Shape).Idx → EReal} (hv : Is v f) (h : Shape.Broadcasts (⟨2, ![n, 1]⟩ : Shape) (⟨2, ![n, m]⟩ : Shape)) :
    Is (broadcastTo (⟨2, ![n, m]⟩ : Shape) v h) (fun a _ => f a 0) :=
  fun y => by
    refine (broadcastTo_apply v h y (ix2 (y (0 : Fin 2)) (0 : Fin 1)) fun a => ?_).trans (hv _)
    have h0 : (y (0 : Fin 2)).val < n := (y (0 : Fin 2)).isLt
    match a with
    | 0 =>
      show (y (0 : Fin 2)).val = if n = 1 then 0 else (y (0 : Fin 2)).val
      split <;> omega
    | 1 => rfl

/-- A cast to the same shape. -/
theorem Is.cast {v : (⟨2, d⟩ : Shape).Idx → EReal} (hv : Is v f) (h : Shape.ShapeCasts (⟨2, d⟩ : Shape) (⟨2, d⟩ : Shape)) :
    Is (shapeCast (⟨2, d⟩ : Shape) v h) f :=
  fun y => by rw [shapeCast_apply v h y y rfl]; exact hv y

/-- A rounding to another format is the identity at the ideal values. -/
theorem Is.trunc {v : FVec Ideal ⟨2, d⟩ .f32} (hv : Is v f) (h) : Is (truncf .bf16 v h) f := fun y => hv y

end Cert.Attn
-- ==== Proof.Attn.Mm.lean ====
/- The matrix products of the attention's body at real entries, one lemma for each set of shapes. -/
module

public import proofs.«01_k».proof.Proof.Attn.Is
public import proofs.«01_k».proof.Proof.Attn.Real

@[expose] public section

set_option maxRecDepth 16384

noncomputable section

open Idealize.ShloMosaic Idealize.ShloMosaic.TcCoe Idealize.SL.Sem
open Cert.KernelIdeal Cert.KernelIdeal.Gen

namespace Cert.Attn

variable {f g : ℕ → ℕ → ℝ} {φ ψ : FTy}

/-- A sum of products of reals is the real sum. -/
theorem coe_sum_mul (n : ℕ) (u v : ℕ → ℝ) :
    ∑ k : Fin n, ((u k.val : ℝ) : EReal) * ((v k.val : ℝ) : EReal) = ((∑ k ∈ Finset.range n, u k * v k : ℝ) : EReal) := by
  rw [Finset.sum_range]
  induction n with
  | zero => simp
  | succ n ih => rw [Fin.sum_univ_castSucc, Fin.sum_univ_castSucc, EReal.coe_add, EReal.coe_mul]; exact congrArg (· + _) ih

theorem is_nt512 {q : FVec Ideal S512x128 .bf16} {k : FVec Ideal S256x128 .bf16} (hq : Is q f) (hk : Is k g) :
    Is (matmul dot_S512x128_S256x128_S512x256_1_1_0_0_n_n none q k (constant S512x256 .f32 0x00000000#32)) (NT f g) := fun y => by
  idx_vars y
  pointwise []
  simp only [hq _, hk _]
  exact coe_sum_mul 128 (f y0) (g y1)

theorem is_nn512 {q : FVec Ideal S512x256 .bf16} {k : FVec Ideal S256x128 .bf16} (hq : Is q f) (hk : Is k g) :
    Is (matmul dot_S512x256_S256x128_S512x128_1_0_0_1_n_n none q k (constant S512x128 .f32 0x00000000#32)) (NN f g) := fun y => by
  idx_vars y
  pointwise []
  simp only [hq _, hk _]
  exact coe_sum_mul 256 (f y0) (fun k => g k y1)

theorem is_tn512 {q : FVec Ideal S512x256 .bf16} {k : FVec Ideal S512x128 .bf16} (hq : Is q f) (hk : Is k g) :
    Is (matmul dot_S512x256_S512x128_S256x128_0_0_1_1_n_n none q k (constant S256x128 .f32 0x00000000#32)) (TN 512 f g) := fun y => by
  idx_vars y
  pointwise []
  simp only [hq _, hk _]
  exact coe_sum_mul 512 (fun k => f k y0) (fun k => g k y1)

theorem is_cum512 {q : FVec Ideal S1024x256 .bf16} {k : FVec Ideal S256x256 .bf16} (hq : Is q f) (hk : Is k g) :
    Is (matmul dot_S1024x256_S256x256_S1024x256_1_0_0_1_n_n none q k (constant S1024x256 .f32 0x00000000#32)) (NN f g) := fun y => by
  idx_vars y
  pointwise []
  simp only [hq _, hk _]
  exact coe_sum_mul 256 (f y0) (fun k => g k y1)

theorem is_nt32 {q : FVec Ideal S32x128 .bf16} {k : FVec Ideal S256x128 .bf16} (hq : Is q f) (hk : Is k g) :
    Is (matmul dot_S32x128_S256x128_S32x256_1_1_0_0_n_n none q k (constant S32x256 .f32 0x00000000#32)) (NT f g) := fun y => by
  idx_vars y
  pointwise []
  simp only [hq _, hk _]
  exact coe_sum_mul 128 (f y0) (g y1)

theorem is_nn32 {q : FVec Ideal S32x256 .bf16} {k : FVec Ideal S256x128 .bf16} (hq : Is q f) (hk : Is k g) :
    Is (matmul dot_S32x256_S256x128_S32x128_1_0_0_1_n_n none q k (constant S32x128 .f32 0x00000000#32)) (NN f g) := fun y => by
  idx_vars y
  pointwise []
  simp only [hq _, hk _]
  exact coe_sum_mul 256 (f y0) (fun k => g k y1)

theorem is_tn32 {q : FVec Ideal S32x256 .bf16} {k : FVec Ideal S32x128 .bf16} (hq : Is q f) (hk : Is k g) :
    Is (matmul dot_S32x256_S32x128_S256x128_0_0_1_1_n_n none q k (constant S256x128 .f32 0x00000000#32)) (TN 32 f g) := fun y => by
  idx_vars y
  pointwise []
  simp only [hq _, hk _]
  exact coe_sum_mul 32 (fun k => f k y0) (fun k => g k y1)

theorem is_cum32 {q : FVec Ideal S64x256 .bf16} {k : FVec Ideal S256x256 .bf16} (hq : Is q f) (hk : Is k g) :
    Is (matmul dot_S64x256_S256x256_S64x256_1_0_0_1_n_n none q k (constant S64x256 .f32 0x00000000#32)) (NN f g) := fun y => by
  idx_vars y
  pointwise []
  simp only [hq _, hk _]
  exact coe_sum_mul 256 (f y0) (fun k => g k y1)

end Cert.Attn
-- ==== Proof.Attn.Ops.lean ====
/- The stages of one tile of the attention's backward pass at real entries, for any number of rows: the softplus and the
   logistic of the scores, the weights, the gradient of the scores, the last column of a running total.  `T a` is the
   number of columns row `a` sees, `o` the first column of the tile; the real functions are those of whole rows. -/
module

public import proofs.«01_k».proof.Proof.Attn.Is
public import proofs.«01_k».proof.Proof.Attn.Real

@[expose] public section

set_option maxRecDepth 16384

noncomputable section

open Idealize.ShloMosaic Idealize.ShloMosaic.TcCoe Idealize.SL.Sem

namespace Cert.Attn

variable {n m : ℕ} {f g h : ℕ → ℕ → ℝ}

/-- An array of `n` rows of 256 columns. -/
abbrev M (n : ℕ) : Type := FVec Ideal (⟨2, ![n, 256]⟩ : Shape) FTy.f32
/-- Zeros and ones of that shape. -/
abbrev Z0 (n : ℕ) : M n := broadcast (⟨2, ![n, 256]⟩ : Shape) (Scalar.ofBits (F := Ideal) .f32 0x00000000#32)
abbrev I1 (n : ℕ) : M n := broadcast (⟨2, ![n, 256]⟩ : Shape) (Scalar.ofBits (F := Ideal) .f32 0x3F800000#32)

theorem is_e {z : M n} (hz : Is z f) : Is (exp (subf (Z0 n) (absf z))) (fun a b => Real.exp (0 - |f a b|)) := (Is.zero.sub hz.abs).exp

theorem is_inv {e : M n} (he : Is e (fun a b => Real.exp (f a b))) : Is (divf (I1 n) (addf (I1 n) e)) (fun a b => 1 / (1 + Real.exp (f a b))) :=
  Is.one.div (Is.one.add he) fun a b => (by positivity : 0 < 1 + Real.exp (f a b)).ne'

theorem is_sp {z i : M n} (hz : Is z f) (hi : Is i (fun a b => 1 / (1 + Real.exp (0 - |f a b|)))) :
    Is (subf (maximumf z (Z0 n)) (log i)) (fun a b => sp (f a b)) :=
  (hz.max Is.zero).sub (hi.log fun a b => by positivity)

theorem is_sg {z e i : M n} (hz : Is z f) (he : Is e (fun a b => Real.exp (0 - |f a b|)))
    (hi : Is i (fun a b => 1 / (1 + Real.exp (0 - |f a b|)))) :
    Is (select (cmpf .oge z (Z0 n)) i (mulf e i)) (fun a b => sg (f a b)) :=
  Is.select (hz.oge Is.zero) hi (he.mul hi)

section Tile

variable {T : ℕ → ℕ} {z gd : ℕ → ℕ → ℝ} {rt : ℕ → ℝ} {o : ℕ}

/-- Every column of the tile is seen by every row. -/
theorem is_S {v : M n} (hT : ∀ a < n, o + 256 ≤ T a) (hv : Is v (fun a b => sp (z a (o + b)))) : Is v (fun a b => S T z a (o + b)) :=
  hv.congr fun a b ha hb => by
    have h1 := hT a ha
    have h2 : b < 256 := hb
    rw [S, if_pos (by omega)]

theorem is_Sm {c : IVec (⟨2, ![n, 256]⟩ : Shape) 1} {v : M n} (hc : IsB c (fun a b => o + b < T a)) (hv : Is v (fun a b => sp (z a (o + b)))) :
    Is (select c v (Z0 n)) (fun a b => S T z a (o + b)) := Is.select hc hv Is.zero

/-- The exponential of the weight. -/
theorem is_w {zv pw sv : M n} {rv pv : FVec Ideal (⟨2, ![n, 1]⟩ : Shape) FTy.f32} {hb}
    (hz : Is zv (fun a b => z a (o + b))) (hr : Is rv (fun a _ => rt a)) (hp : Is pv (fun a _ => P T z a o))
    (hw : Is pw (NN (fun a b => S T z a (o + b)) tri)) (hs : Is sv (fun a b => S T z a (o + b))) :
    Is (exp (subf zv (addf (subf (broadcastTo (⟨2, ![n, 256]⟩ : Shape) (subf rv pv) hb) pw) sv)))
      (fun a b => Real.exp (z a (o + b) - (rt a - P T z a (o + b)))) :=
  (Is.exp (hz.sub (((hr.sub hp).bcol hb |>.sub hw).add hs))).congr fun a b _ h => congrArg Real.exp (A_tile T z rt o a b h)

theorem is_A {v : M n} (hT : ∀ a < n, o + 256 ≤ T a) (hv : Is v (fun a b => Real.exp (z a (o + b) - (rt a - P T z a (o + b))))) :
    Is v (fun a b => A T z rt a (o + b)) :=
  hv.congr fun a b ha hb => by
    have h1 := hT a ha
    have h2 : b < 256 := hb
    rw [A, if_pos (by omega)]

theorem is_Am {c : IVec (⟨2, ![n, 256]⟩ : Shape) 1} {v : M n} (hc : IsB c (fun a b => o + b < T a))
    (hv : Is v (fun a b => Real.exp (z a (o + b) - (rt a - P T z a (o + b))))) :
    Is (select c v (Z0 n)) (fun a b => A T z rt a (o + b)) := Is.select hc hv Is.zero

/-- The gradient of the scores before the mask. -/
theorem is_d {gv sv gw : M n} {cv : FVec Ideal (⟨2, ![n, 1]⟩ : Shape) FTy.f32} {hb}
    (hg : Is gv (fun a b => G T z gd rt a (o + b))) (hs : Is sv (fun a b => sg (z a (o + b))))
    (hc : Is cv (fun a _ => C T z gd rt a o)) (hw : Is gw (NN (fun a b => G T z gd rt a (o + b)) tri)) :
    Is (subf gv (mulf sv (addf (broadcastTo (⟨2, ![n, 256]⟩ : Shape) cv hb) gw)))
      (fun a b => G T z gd rt a (o + b) - sg (z a (o + b)) * C T z gd rt a (o + b + 1)) :=
  (hg.sub (hs.mul ((hc.bcol hb).add hw))).congr fun a b _ h => by rw [C_tile T z gd rt o a b h]

theorem is_DZ {v : M n} (hT : ∀ a < n, o + 256 ≤ T a)
    (hv : Is v (fun a b => G T z gd rt a (o + b) - sg (z a (o + b)) * C T z gd rt a (o + b + 1))) :
    Is v (fun a b => DZ T z gd rt a (o + b)) :=
  hv.congr fun a b ha hb => by
    have h1 := hT a ha
    have h2 : b < 256 := hb
    rw [DZ, if_pos (by omega)]

theorem is_DZm {c : IVec (⟨2, ![n, 256]⟩ : Shape) 1} {v : M n} (hc : IsB c (fun a b => o + b < T a))
    (hv : Is v (fun a b => G T z gd rt a (o + b) - sg (z a (o + b)) * C T z gd rt a (o + b + 1))) :
    Is (select c v (Z0 n)) (fun a b => DZ T z gd rt a (o + b)) := Is.select hc hv Is.zero

/-- The running totals after the tile, from the last column. -/
theorem is_Pnext {pv : FVec Ideal (⟨2, ![n, 1]⟩ : Shape) FTy.f32} {pw : M n} {h} (hp : Is pv (fun a _ => P T z a o))
    (hw : Is pw (NN (fun a b => S T z a (o + b)) tri)) :
    Is (addf pv (extractStridedSlice (⟨2, ![n, 1]⟩ : Shape) ![0, 255] pw h)) (fun a _ => P T z a (o + 256)) :=
  (hp.add (hw.slice h)).congr fun a b _ h => by
    have h1 : b = 0 := Nat.lt_one_iff.1 h
    subst h1
    show P T z a o + NN _ tri (0 + a) 255 = _
    rw [zero_add, P_tile T z o a 255 (by norm_num)]

theorem is_Cnext {cv : FVec Ideal (⟨2, ![n, 1]⟩ : Shape) FTy.f32} {gw : M n} {h} (hc : Is cv (fun a _ => C T z gd rt a o))
    (hw : Is gw (NN (fun a b => G T z gd rt a (o + b)) tri)) :
    Is (addf cv (extractStridedSlice (⟨2, ![n, 1]⟩ : Shape) ![0, 255] gw h)) (fun a _ => C T z gd rt a (o + 256)) :=
  (hc.add (hw.slice h)).congr fun a b _ h => by
    have h1 : b = 0 := Nat.lt_one_iff.1 h
    subst h1
    show C T z gd rt a o + NN _ tri (0 + a) 255 = _
    rw [zero_add, C_tile T z gd rt o a 255 (by norm_num)]

theorem is_DQnext {dv mv : FVec Ideal (⟨2, ![n, 128]⟩ : Shape) FTy.f32} {k : ℕ → ℕ → ℝ} (hd : Is dv (DQ T z gd rt k o))
    (hm : Is mv (NN (fun a b => DZ T z gd rt a (o + b)) (fun b l => k (o + b) l))) :
    Is (addf dv mv) (DQ T z gd rt k (o + 256)) :=
  (hd.add hm).congr fun a b _ _ => DQ_tile T z gd rt k o a b

end Tile

/-- A product of rows is row by row. -/
theorem NN_row (x y : ℕ → ℕ → ℝ) (k : ℕ → ℕ → ℝ) (a a' b : ℕ) (e : ∀ c, x a c = y a' c) : NN x k a b = NN y k a' b :=
  Finset.sum_congr rfl fun c _ => by rw [e c]

/-- The stacked arrays of two pairs of heads, `n` rows the first. -/
def two (n : ℕ) (f g : ℕ → ℕ → ℝ) (a b : ℕ) : ℝ := if a < n then f a b else g (a - n) b

/-- The two halves of a product of two stacked arrays. -/
theorem is_half0 {x : FVec Ideal (⟨2, ![m, 256]⟩ : Shape) FTy.f32} {k : ℕ → ℕ → ℝ} {hh}
    (hx : Is x (NN (two n f g) k)) :
    Is (extractStridedSlice (⟨2, ![n, 256]⟩ : Shape) ![0, 0] x hh) (NN f k) :=
  (hx.slice hh).congr fun a b ha _ => by
    show NN _ k (0 + a) (0 + b) = _
    rw [zero_add, zero_add]
    exact NN_row _ _ _ _ _ _ fun c => if_pos ha

theorem is_half1 {x : FVec Ideal (⟨2, ![m, 256]⟩ : Shape) FTy.f32} {k : ℕ → ℕ → ℝ} {hh}
    (hx : Is x (NN (two n f g) k)) :
    Is (extractStridedSlice (⟨2, ![n, 256]⟩ : Shape) ![n, 0] x hh) (NN g k) :=
  (hx.slice hh).congr fun a b ha _ => by
    show NN _ k (n + a) (0 + b) = _
    rw [zero_add]
    refine NN_row _ _ _ _ _ _ fun c => (if_neg (by omega)).trans ?_
    rw [Nat.add_sub_cancel_left]

end Cert.Attn
-- ==== Proof.Attn.Tile512.lean ====
/- One full tile of the sweep over 512 stacked rows: what each stage of the loop's body holds. -/
module

public import proofs.«01_k».proof.Proof.Attn.Mm
public import proofs.«01_k».proof.Proof.Attn.Ops

@[expose] public section

set_option maxRecDepth 16384

noncomputable section

open Idealize.ShloMosaic Idealize.ShloMosaic.TcCoe Idealize.SL.Sem
open Cert.KernelIdeal Cert.KernelIdeal.Gen

namespace Cert.Attn.Full

section Scores

variable {f g : ℕ → ℕ → ℝ} {o : ℕ} {q : FVec Ideal S512x128 .bf16} {k : Vec Ideal S256x128 .bf16}
  (hq : Is q f) (hk : Is k (fun b l => g (o + b) l))

include hq hk

theorem z : Is (k0_pay8 q k) (fun a b => NT f g a (o + b)) := is_nt512 hq (hk.cast _)
theorem e : Is (k0_pay9 q k) (fun a b => Real.exp (0 - |NT f g a (o + b)|)) := is_e (z hq hk)
theorem inv : Is (k0_pay10 q k) (fun a b => 1 / (1 + Real.exp (0 - |NT f g a (o + b)|))) := is_inv (e hq hk)
theorem sp : Is (k0_pay11 q k) (fun a b => sp (NT f g a (o + b))) := is_sp (z hq hk) (inv hq hk)
theorem sg : Is (k0_pay12 q k) (fun a b => sg (NT f g a (o + b))) := is_sg (z hq hk) (e hq hk) (inv hq hk)

end Scores

variable {T : ℕ → ℕ} {o : ℕ} {z0 z1 d0 d1 : ℕ → ℕ → ℝ} {r0 r1 : ℕ → ℝ}

section Weights

variable {tv : FVec Ideal S256x256 .bf16} {sv : FVec Ideal S1024x256 .bf16} {zv0 sv0 zv1 sv1 : FVec Ideal S512x256 .f32}
  {rv0 pv0 rv1 pv1 : FVec Ideal S512x1 .f32} {do0 do1 : FVec Ideal S512x128 .bf16} {v0 v1 : Vec Ideal S256x128 .bf16}
  {D0 D1 V0 V1 : ℕ → ℕ → ℝ}
  (hT : ∀ a < 512, o + 256 ≤ T a) (ht : Is tv tri)
  (hs : Is sv (two 512 (fun a b => S T z0 a (o + b)) (fun a b => S T z1 a (o + b))))
  (hz0 : Is zv0 (fun a b => z0 a (o + b))) (hs0 : Is sv0 (fun a b => S T z0 a (o + b)))
  (hr0 : Is rv0 (fun a _ => r0 a)) (hp0 : Is pv0 (fun a _ => P T z0 a o))
  (hz1 : Is zv1 (fun a b => z1 a (o + b))) (hs1 : Is sv1 (fun a b => S T z1 a (o + b)))
  (hr1 : Is rv1 (fun a _ => r1 a)) (hp1 : Is pv1 (fun a _ => P T z1 a o))
  (hd0 : Is do0 D0) (hv0 : Is v0 (fun b l => V0 (o + b) l)) (hd1 : Is do1 D1) (hv1 : Is v1 (fun b l => V1 (o + b) l))

include ht hs in
theorem pw : Is (k0_pay19 tv sv) (NN (two 512 (fun a b => S T z0 a (o + b)) (fun a b => S T z1 a (o + b))) tri) := is_cum512 hs ht

include ht hs in
theorem pw0 : Is (k0_pay27 tv sv) (NN (fun a b => S T z0 a (o + b)) tri) := is_half0 (hh := slices_S1024x256_o0_0_S512x256) (pw ht hs)

include hT ht hs hz0 hs0 hr0 hp0 in
theorem a0 : Is (k0_pay20 tv rv0 pv0 zv0 sv0 sv) (fun a b => A T z0 r0 a (o + b)) :=
  is_A hT (is_w hz0 hr0 hp0 (is_half0 (hh := slices_S1024x256_o0_0_S512x256) (pw ht hs)) hs0)

include hT ht hs hz1 hs1 hr1 hp1 in
theorem a1 : Is (k0_pay23 tv rv1 pv1 zv1 sv1 sv) (fun a b => A T z1 r1 a (o + b)) :=
  is_A hT (is_w hz1 hr1 hp1 (is_half1 (hh := slices_S1024x256_o512_0_S512x256) (pw ht hs)) hs1)

include hT ht hs hz0 hs0 hr0 hp0 hd0 hv0 in
theorem g0 : Is (k0_pay22 tv do0 rv0 pv0 zv0 sv0 sv v0) (fun a b => G T z0 (NT D0 V0) r0 a (o + b)) :=
  (a0 hT ht hs hz0 hs0 hr0 hp0).mul (is_nt512 hd0 (hv0.cast _))

include hT ht hs hz1 hs1 hr1 hp1 hd1 hv1 in
theorem g1 : Is (k0_pay25 tv do1 rv1 pv1 zv1 sv1 sv v1) (fun a b => G T z1 (NT D1 V1) r1 a (o + b)) :=
  (a1 hT ht hs hz1 hs1 hr1 hp1).mul (is_nt512 hd1 (hv1.cast _))

include hT ht hs hz0 hs0 hr0 hp0 hz1 hs1 hr1 hp1 hd0 hv0 hd1 hv1 in
theorem gw : Is (k0_pay26 tv do0 do1 rv0 rv1 pv0 pv1 zv0 sv0 zv1 sv1 sv v0 v1)
    (NN (two 512 (fun a b => G T z0 (NT D0 V0) r0 a (o + b)) (fun a b => G T z1 (NT D1 V1) r1 a (o + b))) tri) :=
  is_cum512 (((g0 hT ht hs hz0 hs0 hr0 hp0 hd0 hv0).cat (g1 hT ht hs hz1 hs1 hr1 hp1 hd1 hv1) _).trunc _) ht

include hT ht hs hz0 hs0 hr0 hp0 hz1 hs1 hr1 hp1 hd0 hv0 hd1 hv1 in
theorem dz0 {cv0 : FVec Ideal S512x1 .f32} {lv0 : FVec Ideal S512x256 .f32} (hc0 : Is cv0 (fun a _ => C T z0 (NT D0 V0) r0 a o))
    (hl0 : Is lv0 (fun a b => Attn.sg (z0 a (o + b)))) :
    Is (k0_pay29 tv do0 do1 rv0 rv1 pv0 cv0 pv1 zv0 sv0 lv0 zv1 sv1 sv v0 v1) (fun a b => DZ T z0 (NT D0 V0) r0 a (o + b)) := by
  refine Is.trunc ?_ _
  refine is_DZ hT ?_
  refine is_d (g0 hT ht hs hz0 hs0 hr0 hp0 hd0 hv0) hl0 hc0 ?_
  exact is_half0 (hh := slices_S1024x256_o0_0_S512x256) (gw hT ht hs hz0 hs0 hr0 hp0 hz1 hs1 hr1 hp1 hd0 hv0 hd1 hv1)

end Weights

theorem dz1 {cv1 : FVec Ideal S512x1 .f32} {lv1 gv1 : FVec Ideal S512x256 .f32} {gwv : FVec Ideal S1024x256 .f32}
    {g0 gd1 : ℕ → ℕ → ℝ} (hT : ∀ a < 512, o + 256 ≤ T a) (hc1 : Is cv1 (fun a _ => C T z1 gd1 r1 a o))
    (hl1 : Is lv1 (fun a b => Attn.sg (z1 a (o + b)))) (hg1 : Is gv1 (fun a b => G T z1 gd1 r1 a (o + b)))
    (hw : Is gwv (NN (two 512 g0 (fun a b => G T z1 gd1 r1 a (o + b))) tri)) :
    Is (k0_pay37 cv1 lv1 gv1 gwv) (fun a b => DZ T z1 gd1 r1 a (o + b)) := by
  refine Is.trunc ?_ _
  refine is_DZ hT ?_
  refine is_d hg1 hl1 hc1 ?_
  exact is_half1 (hh := slices_S1024x256_o512_0_S512x256) hw

end Cert.Attn.Full
-- ==== Proof.Attn.Reads.lean ====
/- Loads and stores of a rectangle of a memref whose contents are real numbers, and the data of one sweep of the attention:
   two pairs of heads, each with its stacked rows, and what the loop carries and accumulates. -/
module

public import proofs.«01_k».proof.Proof.Attn.Is
public import proofs.«01_k».proof.Proof.Attn.Real

@[expose] public section

set_option maxRecDepth 16384

noncomputable section

open Idealize.ShloMosaic Idealize.ShloMosaic.TcCoe Idealize.SL.Sem

namespace Cert.Attn

section Views

variable {sig : RefSig} {κ : Kind} {σ : Space} {d : Fin 2 → ℕ} {F g : ℕ → ℕ → ℝ} {off size : Fin 2 → ℕ} {o0 o1 : ℕ}

theorem Is.load {v : View sig κ σ (⟨2, d⟩ : Shape) .f32} {f : v.ty.Contents (Elt Ideal)} (h : Is (v.read (Elt Ideal) f) F)
    (inb : ∀ a, off a + size a ≤ (⟨2, d⟩ : Shape).size a) (e : off = ![o0, o1]) :
    Is (d := size) (v.readAt (Elt Ideal) (Rect.unit (s := (⟨2, d⟩ : Shape)) off size inb).toLoadRect f) (fun a b => F (o0 + a) (o1 + b)) := fun y => by
  subst e
  refine (h _).trans ?_
  show ((F (o0 + 1 * (y (0 : Fin 2)).val) (o1 + 1 * (y (1 : Fin 2)).val) : ℝ) : EReal) = _
  rw [one_mul, one_mul]

theorem Is.loadb {v : View sig κ σ (⟨2, d⟩ : Shape) .bf16} {f : v.ty.Contents (Elt Ideal)} (h : Is (v.read (Elt Ideal) f) F)
    (inb : ∀ a, off a + size a ≤ (⟨2, d⟩ : Shape).size a) (e : off = ![o0, o1]) :
    Is (d := size) (v.readAt (Elt Ideal) (Rect.unit (s := (⟨2, d⟩ : Shape)) off size inb).toLoadRect f) (fun a b => F (o0 + a) (o1 + b)) := fun y => by
  subst e
  refine (h _).trans ?_
  show ((F (o0 + 1 * (y (0 : Fin 2)).val) (o1 + 1 * (y (1 : Fin 2)).val) : ℝ) : EReal) = _
  rw [one_mul, one_mul]

theorem Is.store {v : View sig κ σ (⟨2, d⟩ : Shape) .f32} {f : v.ty.Contents (Elt Ideal)} {L : List (View.Piece (Elt Ideal) (⟨2, d⟩ : Shape) .f32)}
    (h : Is (v.read (Elt Ideal) (v.writes (Elt Ideal) f L)) F) {inb : ∀ a, off a + size a ≤ (⟨2, d⟩ : Shape).size a}
    {w : (Rect.unit (s := (⟨2, d⟩ : Shape)) off size inb).shape.Idx → Elt Ideal .f32} (hw : Is (d := size) w g) (e : off = ![o0, o1]) :
    Is (v.read (Elt Ideal) (v.writes (Elt Ideal) f (⟨Rect.unit off size inb, w⟩ :: L)))
      (fun a b => if (o0 ≤ a ∧ a < o0 + size 0) ∧ (o1 ≤ b ∧ b < o1 + size 1) then g (a - o0) (b - o1) else F a b) := fun y => by
  rw [View.read_writes_cons_unit v f inb w L y e]
  by_cases hy : ((o0 ≤ (y (0 : Fin 2)).val ∧ (y (0 : Fin 2)).val < o0 + size 0) ∧ (o1 ≤ (y (1 : Fin 2)).val ∧ (y (1 : Fin 2)).val < o1 + size 1))
  · rw [dif_pos (Fin.forall_fin_two.2 hy)]; simp only [if_pos hy]; exact hw _
  · rw [dif_neg (fun H => hy (Fin.forall_fin_two.1 H))]; simp only [if_neg hy]; exact h y

/-- What is read of whole contents given by an array. -/
theorem Is.whole {μ : Memref sig κ σ (⟨2, d⟩ : Shape) .f32} (hμ : μ.IsWhole) {x : (⟨2, d⟩ : Shape).Idx → Elt Ideal .f32} (hx : Is x F) :
    Is (μ.view.read (Elt Ideal) (hμ.unread x)) F := by rw [hμ.read_unread]; exact hx

theorem Is.wholeb {μ : Memref sig κ σ (⟨2, d⟩ : Shape) .bf16} (hμ : μ.IsWhole) {x : (⟨2, d⟩ : Shape).Idx → Elt Ideal .bf16} (hx : Is x F) :
    Is (μ.view.read (Elt Ideal) (hμ.unread x)) F := by rw [hμ.read_unread]; exact hx

end Views

/-- One pair of heads' stacked rows: queries, keys, cotangents, values and totals. -/
structure Pr where
  Q : ℕ → ℕ → ℝ
  K : ℕ → ℕ → ℝ
  D : ℕ → ℕ → ℝ
  V : ℕ → ℕ → ℝ
  R : ℕ → ℝ

namespace Pr

variable (p : Pr) (T : ℕ → ℕ)

/-- The pair's running totals, weights and gradients. -/
abbrev tot (a n : ℕ) : ℝ := P T (NT p.Q p.K) a n
abbrev tog (a n : ℕ) : ℝ := C T (NT p.Q p.K) (NT p.D p.V) p.R a n
abbrev dz (a s : ℕ) : ℝ := DZ T (NT p.Q p.K) (NT p.D p.V) p.R a s
abbrev wt (a s : ℕ) : ℝ := A T (NT p.Q p.K) p.R a s
abbrev dq (n a l : ℕ) : ℝ := DQ T (NT p.Q p.K) (NT p.D p.V) p.R p.K n a l

end Pr

/-- What the loop over the tiles carries when the columns before `o` are done. -/
def CarryIs (n : ℕ) (T : ℕ → ℕ) (p0 p1 : Pr) (o : ℕ)
    (cr : FVec Ideal (⟨2, ![n, 1]⟩ : Shape) .f32 × FVec Ideal (⟨2, ![n, 1]⟩ : Shape) .f32 × FVec Ideal (⟨2, ![n, 128]⟩ : Shape) .f32
      × FVec Ideal (⟨2, ![n, 1]⟩ : Shape) .f32 × FVec Ideal (⟨2, ![n, 1]⟩ : Shape) .f32 × FVec Ideal (⟨2, ![n, 128]⟩ : Shape) .f32) : Prop :=
  (Is cr.1 (fun a _ => p0.tot T a o) ∧ Is cr.2.1 (fun a _ => p0.tog T a o) ∧ Is cr.2.2.1 (p0.dq T o)) ∧
  (Is cr.2.2.2.1 (fun a _ => p1.tot T a o) ∧ Is cr.2.2.2.2.1 (fun a _ => p1.tog T a o) ∧ Is cr.2.2.2.2.2 (p1.dq T o))

/-- Two pairs side by side along the lanes. -/
def side (f g : ℕ → ℕ → ℝ) (s l : ℕ) : ℝ := if l < 128 then f s l else g s (l - 128)

/-- What `n` stacked rows give to the gradients of the keys and of the values. -/
def dkF (n : ℕ) (T : ℕ → ℕ) (p0 p1 : Pr) : ℕ → ℕ → ℝ := side (TN n (p0.dz T) p0.Q) (TN n (p1.dz T) p1.Q)
def dvF (n : ℕ) (T : ℕ → ℕ) (p0 p1 : Pr) : ℕ → ℕ → ℝ := side (TN n (p0.wt T) p0.D) (TN n (p1.wt T) p1.D)

/-- An accumulator after the columns `lo ≤ s < hi`. -/
def upto (F g : ℕ → ℕ → ℝ) (hi s l : ℕ) : ℝ := F s l + if s < hi then g s l else 0

theorem upto_next {F g : ℕ → ℕ → ℝ} (o s l : ℕ) :
    (if o ≤ s ∧ s < o + 256 then upto F g o s l + g s l else upto F g o s l) = upto F g (o + 256) s l := by
  unfold upto
  by_cases h1 : s < o
  · rw [if_neg (by omega), if_pos h1, if_pos (by omega)]
  · by_cases h2 : s < o + 256
    · rw [if_pos (by omega), if_neg h1, if_pos h2]; ring
    · rw [if_neg (by omega), if_neg h1, if_neg h2]

section Views

variable {sig : RefSig} {κ : Kind} {σ : Space} {F g h : ℕ → ℕ → ℝ} {o : ℕ} {o1 o2 : Fin 2 → ℕ}

/-- The two stores of one tile, one for each pair of heads. -/
theorem Is.tile {v : View sig κ σ (⟨2, ![2304, 256]⟩ : Shape) .f32} {f : v.ty.Contents (Elt Ideal)}
    {L : List (View.Piece (Elt Ideal) (⟨2, ![2304, 256]⟩ : Shape) .f32)}
    (hF : Is (v.read (Elt Ideal) (v.writes (Elt Ideal) f L)) (upto F (side g h) o))
    {inb1 : ∀ a, o1 a + (![256, 128] : Fin 2 → ℕ) a ≤ (⟨2, ![2304, 256]⟩ : Shape).size a}
    {inb2 : ∀ a, o2 a + (![256, 128] : Fin 2 → ℕ) a ≤ (⟨2, ![2304, 256]⟩ : Shape).size a}
    {w1 : (Rect.unit (s := (⟨2, ![2304, 256]⟩ : Shape)) o1 ![256, 128] inb1).shape.Idx → Elt Ideal .f32}
    {w2 : (Rect.unit (s := (⟨2, ![2304, 256]⟩ : Shape)) o2 ![256, 128] inb2).shape.Idx → Elt Ideal .f32}
    (e1 : o1 = ![o, 0]) (e2 : o2 = ![o, 128])
    (h1 : Is (d := ![256, 128]) w1 (fun b l => upto F (side g h) o (o + b) (0 + l) + g (o + b) l))
    (h2 : Is (d := ![256, 128]) w2 (fun b l => upto F (side g h) o (o + b) (128 + l) + h (o + b) l)) :
    Is (v.read (Elt Ideal) (v.writes (Elt Ideal) f (⟨Rect.unit o2 ![256, 128] inb2, w2⟩ :: ⟨Rect.unit o1 ![256, 128] inb1, w1⟩ :: L)))
      (upto F (side g h) (o + 256)) := by
  refine ((hF.store h1 e1).store h2 e2).congr fun s l _ hl => ?_
  have hl' : l < 256 := hl
  rw [← upto_next]
  show (if (o ≤ s ∧ s < o + 256) ∧ (128 ≤ l ∧ l < 128 + 128) then _ else if (o ≤ s ∧ s < o + 256) ∧ (0 ≤ l ∧ l < 0 + 128) then _ else _) = _
  by_cases hs : o ≤ s ∧ s < o + 256
  · rw [if_pos hs]
    have es : o + (s - o) = s := by omega
    by_cases h : l < 128
    · rw [if_neg (by omega), if_pos (by omega), es, side, if_pos h, Nat.sub_zero, zero_add]
    · rw [if_pos (by omega), es, side, if_neg h, show 128 + (l - 128) = l by omega]
  · rw [if_neg hs, if_neg (fun H => hs H.1), if_neg (fun H => hs H.1)]

end Views

end Cert.Attn
-- ==== Proof.Attn.Loop512.lean ====
/- The loop over the full tiles of the sweep over 512 stacked rows: one trip, and by induction every trip. -/
module

public import proofs.«01_k».proof.Proof.Attn.Tile512
public import proofs.«01_k».proof.Proof.Attn.Reads

@[expose] public section

set_option maxRecDepth 16384

noncomputable section

open Idealize.ShloMosaic Idealize.ShloMosaic.TcCoe Idealize.SL.Sem
open Cert.KernelIdeal Cert.KernelIdeal.Gen

namespace Cert.Attn.Full

variable {T : ℕ → ℕ} {p0 p1 : Pr} {F E : ℕ → ℕ → ℝ}

variable (𝒱 : Variants)
  (c : Dev nD)
  (bd : Option 𝒱.V)
  (i : grid0.Coords)
  (arg2 : Memref sig .tc .vmem S256x256 .bf16)
  (harg2 : arg2.IsWhole)
  (arg3 : Memref sig .tc .vmem S2304x256 .bf16)
  (harg3 : arg3.IsWhole)
  (arg4 : Memref sig .tc .vmem S2304x256 .bf16)
  (harg4 : arg4.IsWhole)
  (arg5 : Memref sig .tc .vmem S256x256 .bf16)
  (harg5 : arg5.IsWhole)
  (arg6 : Memref sig .tc .vmem S4x256x1 .f32)
  (harg6 : arg6.IsWhole)
  (arg7 : Memref sig .tc .hbm S8x128 .f32)
  (harg7 : arg7.IsWhole)
  (arg8 : Memref sig .tc .vmem S256x256 .bf16)
  (harg8 : arg8.IsWhole)
  (arg9 : Memref sig .tc .vmem S2304x256 .bf16)
  (harg9 : arg9.IsWhole)
  (arg10 : Memref sig .tc .vmem S2304x256 .bf16)
  (harg10 : arg10.IsWhole)
  (arg11 : Memref sig .tc .vmem S2304x256 .f32)
  (harg11 : arg11.IsWhole)
  (arg12 : Memref sig .tc .vmem S2304x256 .f32)
  (harg12 : arg12.IsWhole)
  (arg1 : BitVec 32)
  (v3 : IVec S256x256 32)
  (v4 : IVec S256x256 32)
  (v8 : FVec Ideal S256x256 .bf16)
  (v17 : FVec Ideal S512x128 .bf16)
  (v23 : FVec Ideal S512x128 .bf16)
  (v32 : FVec Ideal S512x128 .bf16)
  (v38 : FVec Ideal S512x128 .bf16)
  (k0_h2 : k0_cond2 i = 1#1)
  (v50 : Vec Ideal S1x256x1 .f32)
  (v52 : Vec Ideal S1x256x1 .f32)
  (v55 : Vec Ideal S1x256x1 .f32)
  (v57 : Vec Ideal S1x256x1 .f32)
  (X_arg3 : BufTy.Contents (Elt Ideal) arg3.view.ty)
  (X_arg4 : BufTy.Contents (Elt Ideal) arg4.view.ty)
  (hK : Is (arg3.view.read (Elt Ideal) X_arg3) (side p0.K p1.K)) (hV : Is (arg4.view.read (Elt Ideal) X_arg4) (side p0.V p1.V))
  (ht : Is v8 tri) (hq0 : Is v17 p0.Q) (hq1 : Is v23 p1.Q) (hd0 : Is v32 p0.D) (hd1 : Is v38 p1.D)
  (hr0 : Is (k0_pay79 v50 v52) (fun a _ => p0.R a)) (hr1 : Is (k0_pay80 v55 v57) (fun a _ => p1.R a))

section Trip

variable (k : Fin (k0_t1_loop i).trips) (hT : ∀ a < 512, 256 * k.val + 256 ≤ T a)

include hK hV ht hq0 hq1 hd0 hd1 hr0 hr1 hT in
/-- One trip: what it carries on and what the two accumulators hold after it. -/
theorem trip (acc : FVec Ideal S512x1 .f32 × FVec Ideal S512x1 .f32 × FVec Ideal S512x128 .f32 × FVec Ideal S512x1 .f32 × FVec Ideal S512x1 .f32 × FVec Ideal S512x128 .f32)
    (f11 : BufTy.Contents (Elt Ideal) arg11.view.ty) (f12 : BufTy.Contents (Elt Ideal) arg12.view.ty)
    (hc : CarryIs 512 T p0 p1 (256 * k.val) acc)
    (h11 : Is (arg11.view.read (Elt Ideal) f11) (upto F (dkF 512 T p0 p1) (256 * k.val)))
    (h12 : Is (arg12.view.read (Elt Ideal) f12) (upto E (dvF 512 T p0 p1) (256 * k.val))) :
    CarryIs 512 T p0 p1 (256 * k.val + 256) (tripR_k0_t1 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 k acc f11 f12)
    ∧ Is (arg11.view.read (Elt Ideal) (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 k acc f11 f12).1)) (upto F (dkF 512 T p0 p1) (256 * k.val + 256))
    ∧ Is (arg12.view.read (Elt Ideal) (arg12.view.writes (Elt Ideal) f12 (tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 k acc f11 f12).2)) (upto E (dvF 512 T p0 p1) (256 * k.val + 256)) := by
  obtain ⟨⟨hp0, hc0, hq⟩, hp1, hc1, hq'⟩ := hc
  have hk0 := (hK.loadb (k0_off1_inb i k ‹_›) (k0_off1_eq i k)).congr (g := fun b l => p0.K (256 * k.val + b) l) fun a b _ hb => by
    have h : b < 128 := hb
    rw [side, if_pos (by omega), zero_add]
  have hk1 := (hK.loadb (k0_off2_inb i k ‹_›) (k0_off2_eq i k)).congr (g := fun b l => p1.K (256 * k.val + b) l) fun a b _ hb => by
    rw [side, if_neg (by omega), Nat.add_sub_cancel_left]
  have hv0 := (hV.loadb (k0_off1_inb i k ‹_›) (k0_off1_eq i k)).congr (g := fun b l => p0.V (256 * k.val + b) l) fun a b _ hb => by
    have h : b < 128 := hb
    rw [side, if_pos (by omega), zero_add]
  have hv1 := (hV.loadb (k0_off2_inb i k ‹_›) (k0_off2_eq i k)).congr (g := fun b l => p1.V (256 * k.val + b) l) fun a b _ hb => by
    rw [side, if_neg (by omega), Nat.add_sub_cancel_left]
  have hz0 := z hq0 hk0
  have hz1 := z hq1 hk1
  have hs0 := is_S hT (sp hq0 hk0)
  have hs1 := is_S hT (sp hq1 hk1)
  have hs := (hs0.cat hs1 concatenates_S512x256_S512x256_S1024x256_d0).trunc bitsLt_bf16_f32
  have hw := pw ht hs
  have hgw := gw hT ht hs hz0 hs0 hr0 hp0 hz1 hs1 hr1 hp1 hd0 hv0 hd1 hv1
  have hdz0 := dz0 hT ht hs hz0 hs0 hr0 hp0 hz1 hs1 hr1 hp1 hd0 hv0 hd1 hv1 hc0 (sg hq0 hk0)
  have hg1 := g1 hT ht hs hz1 hs1 hr1 hp1 hd1 hv1
  have hdz1 := dz1 hT hc1 (sg hq1 hk1) hg1 hgw
  have ha0 := (a0 hT ht hs hz0 hs0 hr0 hp0).trunc bitsLt_bf16_f32
  have ha1 := (a1 hT ht hs hz1 hs1 hr1 hp1).trunc bitsLt_bf16_f32
  unfold tripR_k0_t1 tripL_k0_t1 trip_k0_t1
  dsimp only
  refine ⟨⟨⟨?_, ?_, ?_⟩, ?_, ?_, ?_⟩, ?_, ?_⟩
  · exact is_Pnext (h := slices_S512x256_o0_255_S512x1) hp0 (is_half0 (hh := slices_S1024x256_o0_0_S512x256) hw)
  · exact is_Cnext (h := slices_S512x256_o0_255_S512x1) hc0 (is_half0 (hh := slices_S1024x256_o0_0_S512x256) hgw)
  · exact is_DQnext hq (is_nn512 hdz0 (hk0.cast _))
  · exact is_Pnext (h := slices_S512x256_o0_255_S512x1) hp1 (is_half1 (hh := slices_S1024x256_o512_0_S512x256) hw)
  · exact is_Cnext (h := slices_S512x256_o0_255_S512x1) hc1 (is_half1 (hh := slices_S1024x256_o512_0_S512x256) hgw)
  · exact is_DQnext hq' (is_nn512 hdz1 (hk1.cast _))
  · refine Is.tile (L := []) h11 (k0_off1_eq i k) (k0_off2_eq i k) ?_ ?_
    · exact ((h11.load (k0_off1_inb i k ‹_›) (k0_off1_eq i k)).add (is_tn512 hdz0 hq0)).cast _
    · exact ((h11.load (k0_off2_inb i k ‹_›) (k0_off2_eq i k)).add (is_tn512 hdz1 hq1)).cast _
  · refine Is.tile (L := []) h12 (k0_off1_eq i k) (k0_off2_eq i k) ?_ ?_
    · exact ((h12.load (k0_off1_inb i k ‹_›) (k0_off1_eq i k)).add (is_tn512 ha0 hd0)).cast _
    · exact ((h12.load (k0_off2_inb i k ‹_›) (k0_off2_eq i k)).add (is_tn512 ha1 hd1)).cast _

end Trip

variable (G_arg11 : BufTy.Contents (Elt Ideal) arg11.view.ty) (G_arg12 : BufTy.Contents (Elt Ideal) arg12.view.ty)
  (init : FVec Ideal S512x1 .f32 × FVec Ideal S512x1 .f32 × FVec Ideal S512x128 .f32 × FVec Ideal S512x1 .f32 × FVec Ideal S512x1 .f32 × FVec Ideal S512x128 .f32)

include hK hV ht hq0 hq1 hd0 hd1 hr0 hr1 in
/-- Every trip. -/
theorem loop (hT : ∀ a < 512, 256 * (k0_t1_loop i).trips ≤ T a) (h0 : CarryIs 512 T p0 p1 0 init)
    (h11 : Is (arg11.view.read (Elt Ideal) G_arg11) F) (h12 : Is (arg12.view.read (Elt Ideal) G_arg12) E) (n : ℕ) (hn : n ≤ (k0_t1_loop i).trips) :
    CarryIs 512 T p0 p1 (256 * n) (st_k0_t1 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 G_arg11 G_arg12 init n).1
    ∧ Is (arg11.view.read (Elt Ideal) (arg11.view.writes (Elt Ideal) G_arg11 (st_k0_t1 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 G_arg11 G_arg12 init n).2.1)) (upto F (dkF 512 T p0 p1) (256 * n))
    ∧ Is (arg12.view.read (Elt Ideal) (arg12.view.writes (Elt Ideal) G_arg12 (st_k0_t1 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 G_arg11 G_arg12 init n).2.2)) (upto E (dvF 512 T p0 p1) (256 * n)) := by
  induction n with
  | zero =>
    refine ⟨h0, h11.congr fun s l _ _ => ?_, h12.congr fun s l _ _ => ?_⟩
    · rw [upto, if_neg (by omega), add_zero]
    · rw [upto, if_neg (by omega), add_zero]
  | succ n ih =>
    have ih := ih (by omega)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 G_arg11 G_arg12 init ⟨n, hn⟩
    rw [hs, View.writes_append, View.writes_append]
    exact trip 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 hK hV ht hq0 hq1 hd0 hd1 hr0 hr1 ⟨n, hn⟩ (fun a ha => (by omega : 256 * n + 256 ≤ 256 * (k0_t1_loop i).trips).trans (hT a ha)) _ _ _ ih.1 ih.2.1 ih.2.2

include hK hV ht hq0 hq1 hd0 hd1 hr0 hr1 in
/-- Every trip of the loop over the whole tiles, and none of the one after it. -/
theorem both (v67 : BitVec 32) (hT : ∀ a < 512, 256 * (k0_t1_loop i).trips ≤ T a) (h0 : CarryIs 512 T p0 p1 0 init)
    (h11 : Is (arg11.view.read (Elt Ideal) G_arg11) F) (h12 : Is (arg12.view.read (Elt Ideal) G_arg12) E) (n n' : ℕ) (hn : n = (k0_t1_loop i).trips) (hn' : n' = 0) :
    let r := st_k0_t1 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 G_arg11 G_arg12 init n
    let q := st_k0_t2 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 v67 X_arg3 X_arg4 (arg11.view.writes (Elt Ideal) G_arg11 r.2.1) (arg12.view.writes (Elt Ideal) G_arg12 r.2.2) (r.1.1, r.1.2.1, r.1.2.2.1, r.1.2.2.2.1, r.1.2.2.2.2.1, r.1.2.2.2.2.2) n'
    CarryIs 512 T p0 p1 (256 * n) q.1
    ∧ Is (arg11.view.read (Elt Ideal) (arg11.view.writes (Elt Ideal) G_arg11 (q.2.1 ++ r.2.1))) (upto F (dkF 512 T p0 p1) (256 * n))
    ∧ Is (arg12.view.read (Elt Ideal) (arg12.view.writes (Elt Ideal) G_arg12 (q.2.2 ++ r.2.2))) (upto E (dvF 512 T p0 p1) (256 * n)) := by
  subst hn'
  exact loop 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 X_arg3 X_arg4 hK hV ht hq0 hq1 hd0 hd1 hr0 hr1 G_arg11 G_arg12 init hT h0 h11 h12 n (le_of_eq hn)

end Cert.Attn.Full
-- ==== Proof.Attn.Diag512.lean ====
/- The tile on the diagonal, over 512 stacked rows: what each stage holds, the columns a row does not see masked out. -/
module

public import proofs.«01_k».proof.Proof.Attn.Mm
public import proofs.«01_k».proof.Proof.Attn.Ops

@[expose] public section

set_option maxRecDepth 16384

noncomputable section

open Idealize.ShloMosaic Idealize.ShloMosaic.TcCoe Idealize.SL.Sem
open Cert.KernelIdeal Cert.KernelIdeal.Gen

namespace Cert.Attn.Diag

variable {T : ℕ → ℕ} {o : ℕ} {c : IVec S512x256 1} {tv : FVec Ideal S256x256 .bf16}

section Scores

variable {f g : ℕ → ℕ → ℝ} {q : FVec Ideal S512x128 .bf16} {k : Vec Ideal S256x128 .bf16}
  (hc : IsB c (fun a b => o + b < T a)) (hq : Is q f) (hk : Is k (fun b l => g (o + b) l))

include hq hk in
theorem z : Is (k0_pay84 q k) (fun a b => NT f g a (o + b)) := is_nt512 hq (hk.cast _)
include hq hk in
theorem e : Is (k0_pay85 q k) (fun a b => Real.exp (0 - |NT f g a (o + b)|)) := is_e (z hq hk)
include hq hk in
theorem inv : Is (k0_pay88 (k0_pay86 q k) k0_pay87) (fun a b => 1 / (1 + Real.exp (0 - |NT f g a (o + b)|))) := is_inv (e hq hk)
include hc hq hk in
theorem sp : Is (k0_pay89 c (k0_pay84 q k) (k0_pay86 q k) k0_pay87) (fun a b => S T (NT f g) a (o + b)) :=
  is_Sm hc (is_sp (z hq hk) (inv hq hk))
include hq hk in
theorem sg : Is (k0_pay90 (k0_pay84 q k) (k0_pay85 q k) (k0_pay86 q k) k0_pay87) (fun a b => sg (NT f g a (o + b))) :=
  is_sg (z hq hk) (e hq hk) (inv hq hk)
/-- The second pair's scores are written in one piece. -/
theorem inv_eq : k0_pay93 q k = k0_pay88 (k0_pay86 q k) k0_pay87 := rfl
include hc hq hk in
theorem sp1 : Is (k0_pay94 q c k) (fun a b => S T (NT f g) a (o + b)) := sp hc hq hk
include hq hk in
theorem sg1 : Is (k0_pay95 q k) (fun a b => Attn.sg (NT f g a (o + b))) := sg hq hk

end Scores

section Weights

variable {z0 z1 : ℕ → ℕ → ℝ} {r0 r1 : ℕ → ℝ} {zv0 sv0 zv1 sv1 : FVec Ideal S512x256 .f32} {pwv : FVec Ideal S1024x256 .f32}
  {rv0 pv0 rv1 pv1 : FVec Ideal S512x1 .f32} {do0 do1 : FVec Ideal S512x128 .bf16} {v0 v1 : Vec Ideal S256x128 .bf16}
  {D0 D1 V0 V1 : ℕ → ℕ → ℝ} {av0 : FVec Ideal S512x256 .f32}
  (hc : IsB c (fun a b => o + b < T a)) (ht : Is tv tri)
  (hz0 : Is zv0 (fun a b => z0 a (o + b))) (hs0 : Is sv0 (fun a b => S T z0 a (o + b)))
  (hr0 : Is rv0 (fun a _ => r0 a)) (hp0 : Is pv0 (fun a _ => P T z0 a o))
  (hz1 : Is zv1 (fun a b => z1 a (o + b))) (hs1 : Is sv1 (fun a b => S T z1 a (o + b)))
  (hr1 : Is rv1 (fun a _ => r1 a)) (hp1 : Is pv1 (fun a _ => P T z1 a o))
  (hd0 : Is do0 D0) (hv0 : Is v0 (fun b l => V0 (o + b) l)) (hd1 : Is do1 D1) (hv1 : Is v1 (fun b l => V1 (o + b) l))
  (ha0 : Is av0 (fun a b => A T z0 r0 a (o + b)))
  (hw : Is pwv (NN (two 512 (fun a b => S T z0 a (o + b)) (fun a b => S T z1 a (o + b))) tri))

section First

variable {q0 q1 : FVec Ideal S512x128 .bf16} {k0 k1 : Vec Ideal S256x128 .bf16} {Q0 Q1 K0 K1 : ℕ → ℕ → ℝ}
  (hq0 : Is q0 Q0) (hk0 : Is k0 (fun b l => K0 (o + b) l)) (hq1 : Is q1 Q1) (hk1 : Is k1 (fun b l => K1 (o + b) l))
  (hp : Is pv0 (fun a _ => P T (NT Q0 K0) a o))

include hc ht hq0 hk0 hq1 hk1 in
theorem pw : Is (k0_pay96 tv q1 c (k0_pay84 q0 k0) (k0_pay86 q0 k0) k0_pay87 k1)
    (NN (two 512 (fun a b => S T (NT Q0 K0) a (o + b)) (fun a b => S T (NT Q1 K1) a (o + b))) tri) :=
  is_cum512 (((sp hc hq0 hk0).cat (sp1 hc hq1 hk1) _).trunc _) ht

include hc ht hq0 hk0 hq1 hk1 hr0 hp in
theorem a0 : Is (k0_pay97 tv q1 c rv0 pv0 (k0_pay84 q0 k0) (k0_pay86 q0 k0) k0_pay87 k1) (fun a b => A T (NT Q0 K0) r0 a (o + b)) :=
  is_Am hc (is_w (z hq0 hk0) hr0 hp (is_half0 (hh := slices_S1024x256_o0_0_S512x256) (pw hc ht hq0 hk0 hq1 hk1)) (sp hc hq0 hk0))

end First

include ha0 hd0 hv0 in
theorem g0 : Is (k0_pay99 do0 av0 v0) (fun a b => G T z0 (NT D0 V0) r0 a (o + b)) := ha0.mul (is_nt512 hd0 (hv0.cast _))

include hc hw hz1 hs1 hr1 hp1 in
theorem a1 : Is (k0_pay100 c rv1 pv1 zv1 sv1 pwv) (fun a b => A T z1 r1 a (o + b)) :=
  is_Am hc (is_w hz1 hr1 hp1 (is_half1 (hh := slices_S1024x256_o512_0_S512x256) hw) hs1)

include hc hw hz1 hs1 hr1 hp1 hd1 hv1 in
theorem g1 : Is (k0_pay102 do1 c rv1 pv1 zv1 sv1 pwv v1) (fun a b => G T z1 (NT D1 V1) r1 a (o + b)) :=
  (a1 hc hz1 hs1 hr1 hp1 hw).mul (is_nt512 hd1 (hv1.cast _))

include hc ht ha0 hw hz1 hs1 hr1 hp1 hd0 hv0 hd1 hv1 in
theorem gw : Is (k0_pay103 tv do0 do1 c rv1 pv1 zv1 sv1 pwv av0 v0 v1)
    (NN (two 512 (fun a b => G T z0 (NT D0 V0) r0 a (o + b)) (fun a b => G T z1 (NT D1 V1) r1 a (o + b))) tri) :=
  is_cum512 (((g0 hd0 hv0 ha0).cat (g1 hc hz1 hs1 hr1 hp1 hd1 hv1 hw) _).trunc _) ht

include hc ht ha0 hw hz1 hs1 hr1 hp1 hd0 hv0 hd1 hv1 in
theorem dz0 {cv0 : FVec Ideal S512x1 .f32} {lv0 : FVec Ideal S512x256 .f32} (hc0 : Is cv0 (fun a _ => C T z0 (NT D0 V0) r0 a o))
    (hl0 : Is lv0 (fun a b => Attn.sg (z0 a (o + b)))) :
    Is (k0_pay104 tv do0 do1 c rv1 cv0 pv1 lv0 zv1 sv1 pwv av0 v0 v1) (fun a b => DZ T z0 (NT D0 V0) r0 a (o + b)) := by
  refine Is.trunc ?_ _
  refine is_DZm hc ?_
  refine is_d (g0 hd0 hv0 ha0) hl0 hc0 ?_
  exact is_half0 (hh := slices_S1024x256_o0_0_S512x256) (gw hc ht hz1 hs1 hr1 hp1 hd0 hv0 hd1 hv1 ha0 hw)

end Weights

theorem dz1 {z1 g0 gd1 : ℕ → ℕ → ℝ} {r1 : ℕ → ℝ} {cv1 : FVec Ideal S512x1 .f32} {lv1 gv1 : FVec Ideal S512x256 .f32}
    {gwv : FVec Ideal S1024x256 .f32} (hc : IsB c (fun a b => o + b < T a)) (hc1 : Is cv1 (fun a _ => C T z1 gd1 r1 a o))
    (hl1 : Is lv1 (fun a b => Attn.sg (z1 a (o + b)))) (hg1 : Is gv1 (fun a b => G T z1 gd1 r1 a (o + b)))
    (hw : Is gwv (NN (two 512 g0 (fun a b => G T z1 gd1 r1 a (o + b))) tri)) :
    Is (k0_pay108 c cv1 lv1 gv1 gwv) (fun a b => DZ T z1 gd1 r1 a (o + b)) := by
  refine Is.trunc ?_ _
  refine is_DZm hc ?_
  refine is_d hg1 hl1 hc1 ?_
  exact is_half1 (hh := slices_S1024x256_o512_0_S512x256) hw

end Cert.Attn.Diag
-- ==== Proof.Attn.Blocks.lean ====
/- What the sweep reads off its blocks: the triangle of ones, the mask of the diagonal, the two heads of a pair stacked with
   the other head's lanes zero, their totals stacked, the zeros the loop starts from, and the gradient of the queries
   put together from the two stacked halves. -/
module

public import proofs.«01_k».proof.Proof.Attn.Reads
public import Idealize.ShloMosaic.Lib.WordCmp

@[expose] public section

set_option maxRecDepth 16384

noncomputable section

open Idealize.ShloMosaic Idealize.ShloMosaic.TcCoe Idealize.SL.Sem
open Cert.KernelIdeal Cert.KernelIdeal.Gen

namespace Cert.Attn

section Bits

variable {d : Fin 2 → ℕ} {p q : ℕ → ℕ → Prop}

theorem IsB.congr {v : (⟨2, d⟩ : Shape).Idx → BitVec 1} (h : IsB v p) (e : ∀ a b, a < d 0 → b < d 1 → (p a b ↔ q a b)) : IsB v q :=
  fun y => (h y).trans (e _ _ (y (0 : Fin 2)).isLt (y (1 : Fin 2)).isLt)

theorem IsB.slice {e off : Fin 2 → ℕ} {v : (⟨2, d⟩ : Shape).Idx → BitVec 1} (hv : IsB v p) (h : Shape.Slices (⟨2, d⟩ : Shape) off (⟨2, e⟩ : Shape)) :
    IsB (extractStridedSlice (⟨2, e⟩ : Shape) off v h) (fun a b => p (off 0 + a) (off 1 + b)) :=
  fun y => hv _

theorem IsB.cat {e k : Fin 2 → ℕ} {v : (⟨2, d⟩ : Shape).Idx → BitVec 1} {w : (⟨2, e⟩ : Shape).Idx → BitVec 1} (hv : IsB v p) (hw : IsB w q)
    (h : Shape.Concatenates [(⟨2, d⟩ : Shape), (⟨2, e⟩ : Shape)] (⟨2, k⟩ : Shape) (0 : Fin 2)) :
    IsB (concatenate (⟨2, k⟩ : Shape) (0 : Fin 2) [⟨(⟨2, d⟩ : Shape), v⟩, ⟨(⟨2, e⟩ : Shape), w⟩] h) (fun a b => if a < d 0 then p a b else q (a - d 0) b) :=
  fun y => by
    rw [concatenate_pair_apply]
    by_cases hl : (y (0 : Fin 2)).val < d 0
    · refine (iff_of_eq (congrArg (· = 1) (dif_pos hl))).trans ?_; refine (hv _).trans ?_; simp only [if_pos hl]; exact Iff.rfl
    · refine (iff_of_eq (congrArg (· = 1) (dif_neg hl))).trans ?_; refine (hw _).trans ?_; simp only [if_neg hl]; exact Iff.rfl

theorem slt_iff {a b : ℕ} (ha : a < 2 ^ 31) (hb : b < 2 ^ 31) :
    IntOp.cmpi .slt (BitVec.ofNat 32 a) (BitVec.ofNat 32 b) = 1 ↔ a < b := WordCmp.cmpi_slt_ofNat_eq_one_iff ha hb

end Bits

/-- Two heads of `n` rows stacked: the first keeps the first 64 lanes, the second the others. -/
def stack (n : ℕ) (f : ℕ → ℕ → ℝ) (a l : ℕ) : ℝ :=
  if a < n then (if l < 64 then f a l else 0) else (if l < 64 then 0 else f (a - n) l)

theorem is_tri : Is (k0_pay223 (F := Ideal)) tri := fun y => by
  idx_vars y
  have h0 := y0.isLt
  have h1 := y1.isLt
  pointwise [k0_pay223]
  have e : IntOp.cmpi .sle (BitVec.ofNat 32 y0.val) (BitVec.ofNat 32 y1.val) = BitVec.ofBool (decide (y0.val ≤ y1.val)) :=
    WordCmp.cmpi_sle_ofNat (by omega) (by omega)
  show _ = ((tri y0.val y1.val : ℝ) : EReal)
  unfold tri
  by_cases h : y0.val ≤ y1.val
  · rw [e, if_pos h, decide_eq_true h]; show ((((1 : ℤ) : ℝ)) : EReal) = _; norm_num
  · rw [e, if_neg h, decide_eq_false h]; show ((((0 : ℤ) : ℝ)) : EReal) = _; norm_num

theorem is_first : IsB k0_pay224 (fun _ l => l < 64) := fun y => by
  idx_vars y
  have h1 := y1.isLt
  pointwise [k0_pay224]
  exact slt_iff (by omega) (by norm_num)

theorem is_before : IsB (cmpi .slt (iota .tc S256x256 32 [1] iota_S256x256_d1_w32) (iota .tc S256x256 32 [0] iota_S256x256_d0_w32)) (fun a b => b < a) := fun y => by
  idx_vars y
  have h0 := y0.isLt
  have h1 := y1.isLt
  pointwise
  exact slt_iff (by omega) (by omega)

/-- The mask of a diagonal tile: of each head's rows, the columns before the row. -/
theorem is_mask : IsB (k0_pay78 (iota .tc S256x256 32 [0] iota_S256x256_d0_w32) (iota .tc S256x256 32 [1] iota_S256x256_d1_w32)) (fun a b => b < a % 256) := by
  have h := is_before
  refine (IsB.cat h h concatenates_S256x256_S256x256_S512x256_d0).congr fun a b ha hb => ?_
  have ha' : a < 512 := ha
  show (if a < 256 then b < a else b < a - 256) ↔ _
  split <;> omega

theorem is_mask16 : IsB (k0_pay184 (iota .tc S256x256 32 [0] iota_S256x256_d0_w32) (iota .tc S256x256 32 [1] iota_S256x256_d1_w32)) (fun a b => b < a % 16) := by
  have h := is_before
  have s := h.slice slices_S256x256_o0_0_S16x256
  refine (IsB.cat s s concatenates_S16x256_S16x256_S32x256_d0).congr fun a b ha hb => ?_
  have ha' : a < 32 := ha
  show (if a < 16 then 0 + b < 0 + a else 0 + b < 0 + (a - 16)) ↔ _
  split <;> omega

theorem is_stack {v : Vec Ideal S256x128 .bf16} {f : ℕ → ℕ → ℝ} (hv : Is v f) : Is (k0_pay225 v) (stack 256 f) := by
  have hz : Is (broadcast S256x128 (Scalar.ofBits (F := Ideal) .bf16 0x0000#16)) (fun _ _ => 0) := fun y => by
    show Ideal.ofBits .bf16 0x0000#16 = _; simp [Ideal.ofBits, Ideal.ieee]
  exact (Is.select is_first (hv.cast shapeCasts_S256x128_S256x128) hz).cat
    (Is.select is_first hz (hv.cast shapeCasts_S256x128_S256x128)) concatenates_S256x128_S256x128_S512x128_d0

theorem is_stack1 {v : Vec Ideal S256x128 .bf16} {f : ℕ → ℕ → ℝ} (hv : Is v f) : Is (k0_pay226 v) (stack 256 f) := is_stack hv
theorem is_stack2 {v : Vec Ideal S256x128 .bf16} {f : ℕ → ℕ → ℝ} (hv : Is v f) : Is (k0_pay228 v) (stack 256 f) := is_stack hv
theorem is_stack3 {v : Vec Ideal S256x128 .bf16} {f : ℕ → ℕ → ℝ} (hv : Is v f) : Is (k0_pay229 v) (stack 256 f) := is_stack hv

/-- The first 16 rows of each head of a stacked pair. -/
theorem is_cut {v : FVec Ideal S512x128 .bf16} {f : ℕ → ℕ → ℝ} (hv : Is v (stack 256 f)) : Is (k0_pay185 v) (stack 16 f) := by
  refine ((hv.slice slices_S512x128_o0_0_S16x128).cat (hv.slice slices_S512x128_o256_0_S16x128) concatenates_S16x128_S16x128_S32x128_d0).congr fun a b ha hb => ?_
  have ha' : a < 32 := ha
  show (if a < 16 then stack 256 f (0 + a) (0 + b) else stack 256 f (256 + (a - 16)) (0 + b)) = _
  unfold stack
  by_cases h : a < 16
  · rw [if_pos h, if_pos h, if_pos (by omega), zero_add, zero_add]
  · rw [if_neg h, if_neg h, if_neg (by omega), zero_add, show 256 + (a - 16) - 256 = a - 16 by omega]

theorem is_cut1 {v : FVec Ideal S512x128 .bf16} {f : ℕ → ℕ → ℝ} (hv : Is v (stack 256 f)) : Is (k0_pay186 v) (stack 16 f) := is_cut hv
theorem is_cut2 {v : FVec Ideal S512x128 .bf16} {f : ℕ → ℕ → ℝ} (hv : Is v (stack 256 f)) : Is (k0_pay187 v) (stack 16 f) := is_cut hv
theorem is_cut3 {v : FVec Ideal S512x128 .bf16} {f : ℕ → ℕ → ℝ} (hv : Is v (stack 256 f)) : Is (k0_pay188 v) (stack 16 f) := is_cut hv

/-- Two columns of totals stacked. -/
def stackR (n : ℕ) (r r' : ℕ → ℝ) (a : ℕ) : ℝ := if a < n then r a else r' (a - n)

/-- A column held under a leading axis of length one. -/
def IsC {n : ℕ} (v : (⟨3, ![1, n, 1]⟩ : Shape).Idx → EReal) (r : ℕ → ℝ) : Prop :=
  ∀ y : (⟨3, ![1, n, 1]⟩ : Shape).Idx, v y = ((r (y (1 : Fin 3)).val : ℝ) : EReal)

theorem IsC.cast {n : ℕ} {v : (⟨3, ![1, n, 1]⟩ : Shape).Idx → EReal} {r : ℕ → ℝ} (hv : IsC v r)
    (h : Shape.ShapeCasts (⟨3, ![1, n, 1]⟩ : Shape) (⟨2, ![n, 1]⟩ : Shape)) : Is (shapeCast (⟨2, ![n, 1]⟩ : Shape) v h) (fun a _ => r a) := fun y => by
  have h1 : (y (1 : Fin 2)).val < 1 := (y (1 : Fin 2)).isLt
  refine (shapeCast_apply v h y (ix3 (0 : Fin 1) (show Fin n from y (0 : Fin 2)) (0 : Fin 1)) ?_).trans (hv _)
  rw [Shape.rowMajor_val_two, Shape.rowMajor_val_succ, Shape.rowMajor_val_two]
  show 0 * _ + ((y (0 : Fin 2)).val * 1 + 0) = (y (0 : Fin 2)).val * 1 + (y (1 : Fin 2)).val
  omega

theorem is_rt {v w : Vec Ideal S1x256x1 .f32} {r r' : ℕ → ℝ} (hv : IsC v r) (hw : IsC w r') : Is (k0_pay79 v w) (fun a _ => stackR 256 r r' a) :=
  (hv.cast shapeCasts_S1x256x1_S256x1).cat (hw.cast shapeCasts_S1x256x1_S256x1) concatenates_S256x1_S256x1_S512x1_d0
theorem is_rt1 {v w : Vec Ideal S1x256x1 .f32} {r r' : ℕ → ℝ} (hv : IsC v r) (hw : IsC w r') : Is (k0_pay80 v w) (fun a _ => stackR 256 r r' a) :=
  is_rt hv hw
theorem is_rt16 {v w : Vec Ideal S1x16x1 .f32} {r r' : ℕ → ℝ} (hv : IsC v r) (hw : IsC w r') : Is (k0_pay189 v w) (fun a _ => stackR 16 r r' a) :=
  (hv.cast shapeCasts_S1x16x1_S16x1).cat (hw.cast shapeCasts_S1x16x1_S16x1) concatenates_S16x1_S16x1_S32x1_d0
theorem is_rt161 {v w : Vec Ideal S1x16x1 .f32} {r r' : ℕ → ℝ} (hv : IsC v r) (hw : IsC w r') : Is (k0_pay190 v w) (fun a _ => stackR 16 r r' a) :=
  is_rt16 hv hw

/-- The loop starts from zeros: no column is done. -/
theorem carry_zero (T : ℕ → ℕ) (p0 p1 : Pr) :
    CarryIs 512 T p0 p1 0 (k0_pay81 (F := Ideal), k0_pay81 (F := Ideal), k0_pay82 (F := Ideal), k0_pay81 (F := Ideal), k0_pay81 (F := Ideal), k0_pay83 (F := Ideal)) :=
  ⟨⟨Is.zero, Is.zero, Is.zero⟩, Is.zero, Is.zero, Is.zero⟩

theorem carry_zero32 (T : ℕ → ℕ) (p0 p1 : Pr) :
    CarryIs 32 T p0 p1 0 (k0_pay191 (F := Ideal), k0_pay191 (F := Ideal), k0_pay192 (F := Ideal), k0_pay191 (F := Ideal), k0_pay191 (F := Ideal), k0_pay193 (F := Ideal)) :=
  ⟨⟨Is.zero, Is.zero, Is.zero⟩, Is.zero, Is.zero, Is.zero⟩

theorem is_eighth {d : Fin 2 → ℕ} : Is (broadcast (⟨2, d⟩ : Shape) (Scalar.ofBits (F := Ideal) .f32 0x3E000000#32)) (fun _ _ => 1 / 8) := fun y => by
  show Ideal.ofBits .f32 0x3E000000#32 = _
  simp [Ideal.ofBits, Ideal.ieee]; rw [← EReal.coe_mul]; norm_num

/-- The gradient of a pair's queries from its two stacked halves. -/
def halves (n : ℕ) (f : ℕ → ℕ → ℝ) (a l : ℕ) : ℝ := (if l < 64 then f a l else f (n + a) l) * (1 / 8)

theorem is_dq {v : FVec Ideal S512x128 .f32} {f : ℕ → ℕ → ℝ} (hv : Is v f) : Is (k0_pay112 k0_pay224 v) (halves 256 f) := by
  refine (((Is.select is_first (hv.slice slices_S512x128_o0_0_S256x128) (hv.slice slices_S512x128_o256_0_S256x128)).mul is_eighth).trunc bitsLt_bf16_f32).congr fun a b _ _ => ?_
  show (if b < 64 then f (0 + a) (0 + b) else f (256 + a) (0 + b)) * (1 / 8) = _
  rw [zero_add, zero_add, halves]

theorem is_dq1 {v : FVec Ideal S512x128 .f32} {w : FVec Ideal S256x128 .f32} {f : ℕ → ℕ → ℝ} (hv : Is v f) (hw : Is w f) : Is (k0_pay1 k0_pay224 v w) (halves 256 f) := by
  refine (((Is.select is_first hw (hv.slice slices_S512x128_o256_0_S256x128)).mul is_eighth).trunc bitsLt_bf16_f32).congr fun a b _ _ => ?_
  show (if b < 64 then f a b else f (256 + a) (0 + b)) * (1 / 8) = _
  rw [zero_add, halves]

theorem is_dq16 {v : FVec Ideal S32x128 .f32} {f : ℕ → ℕ → ℝ} (hv : Is v f) : Is (k0_pay2 k0_pay224 v) (halves 16 f) := by
  refine (((Is.select (is_first.slice slices_S256x128_o0_0_S16x128) (hv.slice slices_S32x128_o0_0_S16x128) (hv.slice slices_S32x128_o16_0_S16x128)).mul is_eighth).trunc bitsLt_bf16_f32).congr fun a b _ _ => ?_
  show (if 0 + b < 64 then f (0 + a) (0 + b) else f (16 + a) (0 + b)) * (1 / 8) = _
  rw [zero_add, zero_add, halves]

theorem is_dq161 {v : FVec Ideal S32x128 .f32} {f : ℕ → ℕ → ℝ} (hv : Is v f) : Is (k0_pay4 k0_pay224 v) (halves 16 f) := is_dq16 hv

theorem is_rest : Is (k0_pay3 (F := Ideal)) (fun _ _ => 0) := fun y => by
  show Ideal.ofBits .bf16 0x0000#16 = _; simp [Ideal.ofBits, Ideal.ieee]
theorem is_rest1 : Is (k0_pay5 (F := Ideal)) (fun _ _ => 0) := is_rest

theorem is_empty : Is (k0_pay221 (F := Ideal)) (fun _ _ => 0) := Is.cast Is.zero shapeCasts_S2304x256_S2304x256
theorem is_empty1 : Is (k0_pay222 (F := Ideal)) (fun _ _ => 0) := is_empty

end Cert.Attn
-- ==== Proof.Attn.Step512.lean ====
/- The diagonal tile of the sweep over 512 stacked rows: what it adds to the two accumulators, and the gradient of the
   queries it leaves. -/
module

public import proofs.«01_k».proof.Proof.Attn.Diag512
public import proofs.«01_k».proof.Proof.Attn.Blocks

@[expose] public section

set_option maxRecDepth 16384

noncomputable section

open Idealize.ShloMosaic Idealize.ShloMosaic.TcCoe Idealize.SL.Sem
open Cert.KernelIdeal Cert.KernelIdeal.Gen

namespace Cert.Attn.Diag

variable {T : ℕ → ℕ} {p0 p1 : Pr} {o : ℕ} {F E : ℕ → ℕ → ℝ}
  {c : IVec S512x256 1} {tv : FVec Ideal S256x256 .bf16} {q0 q1 d0 d1 : FVec Ideal S512x128 .bf16} {rv0 rv1 : FVec Ideal S512x1 .f32}
  {k0 k1 v0 v1 : Vec Ideal S256x128 .bf16} {old : Vec Ideal S256x128 .f32} {f : ℕ → ℕ → ℝ}
  {cr : FVec Ideal S512x1 .f32 × FVec Ideal S512x1 .f32 × FVec Ideal S512x128 .f32 × FVec Ideal S512x1 .f32 × FVec Ideal S512x1 .f32 × FVec Ideal S512x128 .f32}

/-- What the diagonal tile reads. -/
structure In (T : ℕ → ℕ) (p0 p1 : Pr) (o : ℕ) (c : IVec S512x256 1) (tv : FVec Ideal S256x256 .bf16) (q0 q1 d0 d1 : FVec Ideal S512x128 .bf16)
    (rv0 rv1 : FVec Ideal S512x1 .f32) (k0 k1 v0 v1 : Vec Ideal S256x128 .bf16)
    (cr : FVec Ideal S512x1 .f32 × FVec Ideal S512x1 .f32 × FVec Ideal S512x128 .f32 × FVec Ideal S512x1 .f32 × FVec Ideal S512x1 .f32 × FVec Ideal S512x128 .f32) : Prop where
  hc : IsB c (fun a b => o + b < T a)
  ht : Is tv tri
  hq0 : Is q0 p0.Q
  hq1 : Is q1 p1.Q
  hd0 : Is d0 p0.D
  hd1 : Is d1 p1.D
  hr0 : Is rv0 (fun a _ => p0.R a)
  hr1 : Is rv1 (fun a _ => p1.R a)
  hk0 : Is k0 (fun b l => p0.K (o + b) l)
  hk1 : Is k1 (fun b l => p1.K (o + b) l)
  hv0 : Is v0 (fun b l => p0.V (o + b) l)
  hv1 : Is v1 (fun b l => p1.V (o + b) l)
  hcr : CarryIs 512 T p0 p1 o cr

variable (h : In T p0 p1 o c tv q0 q1 d0 d1 rv0 rv1 k0 k1 v0 v1 cr)

/-- The tile's scores, weights and their gradients, as the body names them. -/
abbrev Zv (q : FVec Ideal S512x128 .bf16) (k : Vec Ideal S256x128 .bf16) := k0_pay84 (F := Ideal) q k
abbrev Pv (tv : FVec Ideal S256x256 .bf16) (c : IVec S512x256 1) (q0 q1 : FVec Ideal S512x128 .bf16) (k0 k1 : Vec Ideal S256x128 .bf16) :=
  k0_pay96 (F := Ideal) tv q1 c (k0_pay84 q0 k0) (k0_pay86 q0 k0) k0_pay87 k1
abbrev Av (tv : FVec Ideal S256x256 .bf16) (c : IVec S512x256 1) (q0 q1 : FVec Ideal S512x128 .bf16) (k0 k1 : Vec Ideal S256x128 .bf16)
    (rv0 pc0 : FVec Ideal S512x1 .f32) :=
  k0_pay97 (F := Ideal) tv q1 c rv0 pc0 (k0_pay84 q0 k0) (k0_pay86 q0 k0) k0_pay87 k1
abbrev Lv (q : FVec Ideal S512x128 .bf16) (k : Vec Ideal S256x128 .bf16) := k0_pay90 (F := Ideal) (k0_pay84 q k) (k0_pay85 q k) (k0_pay86 q k) k0_pay87

include h

theorem hpw : Is (Pv tv c q0 q1 k0 k1) (NN (two 512 (fun a b => S T (NT p0.Q p0.K) a (o + b)) (fun a b => S T (NT p1.Q p1.K) a (o + b))) tri) :=
  pw h.hc h.ht h.hq0 h.hk0 h.hq1 h.hk1

theorem ha0 : Is (Av tv c q0 q1 k0 k1 rv0 cr.1) (fun a b => p0.wt T a (o + b)) :=
  a0 h.hc h.ht h.hr0 h.hq0 h.hk0 h.hq1 h.hk1 h.hcr.1.1

theorem ha1 : Is (k0_pay100 c rv1 cr.2.2.2.1 (k0_pay91 q1 k1) (k0_pay94 q1 c k1) (Pv tv c q0 q1 k0 k1)) (fun a b => p1.wt T a (o + b)) :=
  a1 h.hc (z h.hq1 h.hk1) (sp1 h.hc h.hq1 h.hk1) h.hr1 h.hcr.2.1 (hpw h)

theorem hdz0 : Is (k0_pay104 tv d0 d1 c rv1 cr.2.1 cr.2.2.2.1 (Lv q0 k0) (k0_pay91 q1 k1) (k0_pay94 q1 c k1) (Pv tv c q0 q1 k0 k1)
    (Av tv c q0 q1 k0 k1 rv0 cr.1) v0 v1) (fun a b => p0.dz T a (o + b)) :=
  dz0 h.hc h.ht (z h.hq1 h.hk1) (sp1 h.hc h.hq1 h.hk1) h.hr1 h.hcr.2.1 h.hd0 h.hv0 h.hd1 h.hv1 (ha0 h) (hpw h) h.hcr.1.2.1 (sg h.hq0 h.hk0)

theorem hdz1 : Is (k0_pay108 c cr.2.2.2.2.1 (k0_pay95 q1 k1)
    (k0_pay102 d1 c rv1 cr.2.2.2.1 (k0_pay91 q1 k1) (k0_pay94 q1 c k1) (Pv tv c q0 q1 k0 k1) v1)
    (k0_pay103 tv d0 d1 c rv1 cr.2.2.2.1 (k0_pay91 q1 k1) (k0_pay94 q1 c k1) (Pv tv c q0 q1 k0 k1) (Av tv c q0 q1 k0 k1 rv0 cr.1) v0 v1))
    (fun a b => p1.dz T a (o + b)) :=
  dz1 h.hc h.hcr.2.2.1 (sg1 h.hq1 h.hk1) (g1 h.hc (z h.hq1 h.hk1) (sp1 h.hc h.hq1 h.hk1) h.hr1 h.hcr.2.1 h.hd1 h.hv1 (hpw h))
    (gw h.hc h.ht (z h.hq1 h.hk1) (sp1 h.hc h.hq1 h.hk1) h.hr1 h.hcr.2.1 h.hd0 h.hv0 h.hd1 h.hv1 (ha0 h) (hpw h))

theorem dk0 (ho : Is old f) : Is (k0_pay106 tv q0 d0 d1 c rv1 cr.2.1 cr.2.2.2.1 (Lv q0 k0) (k0_pay91 q1 k1) (k0_pay94 q1 c k1) (Pv tv c q0 q1 k0 k1)
    (Av tv c q0 q1 k0 k1 rv0 cr.1) v0 v1 old) (fun b l => f b l + TN 512 (p0.dz T) p0.Q (o + b) l) :=
  (ho.add (is_tn512 (hdz0 h) h.hq0)).cast _

theorem dv0 (ho : Is old f) : Is (k0_pay107 d0 (k0_pay98 tv q1 c rv0 cr.1 (k0_pay84 q0 k0) (k0_pay86 q0 k0) k0_pay87 k1) old (constant S256x128 .f32 0x00000000#32))
    (fun b l => f b l + TN 512 (p0.wt T) p0.D (o + b) l) :=
  (ho.add (is_tn512 ((ha0 h).trunc bitsLt_bf16_f32) h.hd0)).cast _

theorem dk1 (ho : Is old f) : Is (k0_pay110 q1 c cr.2.2.2.2.1 (k0_pay95 q1 k1)
    (k0_pay102 d1 c rv1 cr.2.2.2.1 (k0_pay91 q1 k1) (k0_pay94 q1 c k1) (Pv tv c q0 q1 k0 k1) v1)
    (k0_pay103 tv d0 d1 c rv1 cr.2.2.2.1 (k0_pay91 q1 k1) (k0_pay94 q1 c k1) (Pv tv c q0 q1 k0 k1) (Av tv c q0 q1 k0 k1 rv0 cr.1) v0 v1) old)
    (fun b l => f b l + TN 512 (p1.dz T) p1.Q (o + b) l) :=
  (ho.add (is_tn512 (hdz1 h) h.hq1)).cast _

theorem dv1 (ho : Is old f) : Is (k0_pay111 d1 (k0_pay101 c rv1 cr.2.2.2.1 (k0_pay91 q1 k1) (k0_pay94 q1 c k1) (Pv tv c q0 q1 k0 k1)) old)
    (fun b l => f b l + TN 512 (p1.wt T) p1.D (o + b) l) :=
  (ho.add (is_tn512 ((ha1 h).trunc bitsLt_bf16_f32) h.hd1)).cast _

theorem dq0 : Is (k0_pay105 tv d0 d1 c rv1 cr.2.1 cr.2.2.1 cr.2.2.2.1 (Lv q0 k0) (k0_pay91 q1 k1) (k0_pay94 q1 c k1) (Pv tv c q0 q1 k0 k1)
    (Av tv c q0 q1 k0 k1 rv0 cr.1) v0 v1 k0) (p0.dq T (o + 256)) :=
  is_DQnext h.hcr.1.2.2 (is_nn512 (hdz0 h) (h.hk0.cast _))

theorem dq1 : Is (k0_pay109 c cr.2.2.2.2.1 cr.2.2.2.2.2 (k0_pay95 q1 k1)
    (k0_pay102 d1 c rv1 cr.2.2.2.1 (k0_pay91 q1 k1) (k0_pay94 q1 c k1) (Pv tv c q0 q1 k0 k1) v1)
    (k0_pay103 tv d0 d1 c rv1 cr.2.2.2.1 (k0_pay91 q1 k1) (k0_pay94 q1 c k1) (Pv tv c q0 q1 k0 k1) (Av tv c q0 q1 k0 k1 rv0 cr.1) v0 v1) k1)
    (p1.dq T (o + 256)) :=
  is_DQnext h.hcr.2.2.2 (is_nn512 (hdz1 h) (h.hk1.cast _))

theorem dq1' : Is (k0_pay113 c cr.2.2.2.2.1 cr.2.2.2.2.2 (k0_pay95 q1 k1)
    (k0_pay102 d1 c rv1 cr.2.2.2.1 (k0_pay91 q1 k1) (k0_pay94 q1 c k1) (Pv tv c q0 q1 k0 k1) v1)
    (k0_pay103 tv d0 d1 c rv1 cr.2.2.2.1 (k0_pay91 q1 k1) (k0_pay94 q1 c k1) (Pv tv c q0 q1 k0 k1) (Av tv c q0 q1 k0 k1 rv0 cr.1) v0 v1) k1)
    (p1.dq T (o + 256)) :=
  ((dq1 h).slice slices_S512x128_o0_0_S256x128).congr fun a b _ _ => by
    show p1.dq T (o + 256) (0 + a) (0 + b) = _
    rw [zero_add, zero_add]

section Accumulators

variable {sig' : RefSig} {κ : Kind} {σ : Space} {v : View sig' κ σ (⟨2, ![2304, 256]⟩ : Shape) .f32} {f' : v.ty.Contents (Elt Ideal)}
  {L : List (View.Piece (Elt Ideal) (⟨2, ![2304, 256]⟩ : Shape) .f32)} {o1 o2 : Fin 2 → ℕ}
  {inb1 inb1' : ∀ a, o1 a + (![256, 128] : Fin 2 → ℕ) a ≤ (⟨2, ![2304, 256]⟩ : Shape).size a}
  {inb2 inb2' : ∀ a, o2 a + (![256, 128] : Fin 2 → ℕ) a ≤ (⟨2, ![2304, 256]⟩ : Shape).size a}

/-- The accumulator of the keys' gradient after the diagonal tile: the second pair's store reads after the first's. -/
theorem acc11 (hb : Is (v.read (Elt Ideal) (v.writes (Elt Ideal) f' L)) (upto F (dkF 512 T p0 p1) o)) (e1 : o1 = ![o, 0]) (e2 : o2 = ![o, 128])
    {w1 : (Rect.unit (s := (⟨2, ![2304, 256]⟩ : Shape)) o1 ![256, 128] inb1).shape.Idx → Elt Ideal .f32}
    (h1 : w1 = k0_pay106 tv q0 d0 d1 c rv1 cr.2.1 cr.2.2.2.1 (Lv q0 k0) (k0_pay91 q1 k1) (k0_pay94 q1 c k1) (Pv tv c q0 q1 k0 k1)
      (Av tv c q0 q1 k0 k1 rv0 cr.1) v0 v1 (v.readAt (Elt Ideal) (Rect.unit (s := (⟨2, ![2304, 256]⟩ : Shape)) o1 ![256, 128] inb1').toLoadRect (v.writes (Elt Ideal) f' L))) :
    Is (v.read (Elt Ideal) (v.writes (Elt Ideal) f' (⟨Rect.unit o2 ![256, 128] inb2,
      k0_pay110 q1 c cr.2.2.2.2.1 (k0_pay95 q1 k1)
        (k0_pay102 d1 c rv1 cr.2.2.2.1 (k0_pay91 q1 k1) (k0_pay94 q1 c k1) (Pv tv c q0 q1 k0 k1) v1)
        (k0_pay103 tv d0 d1 c rv1 cr.2.2.2.1 (k0_pay91 q1 k1) (k0_pay94 q1 c k1) (Pv tv c q0 q1 k0 k1) (Av tv c q0 q1 k0 k1 rv0 cr.1) v0 v1)
        (v.readAt (Elt Ideal) (Rect.unit (s := (⟨2, ![2304, 256]⟩ : Shape)) o2 ![256, 128] inb2').toLoadRect
          (v.writes (Elt Ideal) f' (⟨Rect.unit o1 ![256, 128] inb1, w1⟩ :: L)))⟩ :: ⟨Rect.unit o1 ![256, 128] inb1, w1⟩ :: L)))
      (upto F (dkF 512 T p0 p1) (o + 256)) := by
  subst h1
  have hw1 := dk0 h (hb.load inb1' e1)
  refine Is.tile hb e1 e2 hw1 ?_
  refine (dk1 h ((hb.store hw1 e1).load inb2' e2)).congr fun b l _ hl => ?_
  have e : (![256, 128] : Fin 2 → ℕ) 1 = 128 := rfl
  rw [if_neg (by omega)]; rfl

theorem acc12 (hb : Is (v.read (Elt Ideal) (v.writes (Elt Ideal) f' L)) (upto F (dvF 512 T p0 p1) o)) (e1 : o1 = ![o, 0]) (e2 : o2 = ![o, 128])
    {w1 : (Rect.unit (s := (⟨2, ![2304, 256]⟩ : Shape)) o1 ![256, 128] inb1).shape.Idx → Elt Ideal .f32}
    (h1 : w1 = k0_pay107 d0 (k0_pay98 tv q1 c rv0 cr.1 (k0_pay84 q0 k0) (k0_pay86 q0 k0) k0_pay87 k1)
      (v.readAt (Elt Ideal) (Rect.unit (s := (⟨2, ![2304, 256]⟩ : Shape)) o1 ![256, 128] inb1').toLoadRect (v.writes (Elt Ideal) f' L)) (constant S256x128 .f32 0x00000000#32)) :
    Is (v.read (Elt Ideal) (v.writes (Elt Ideal) f' (⟨Rect.unit o2 ![256, 128] inb2,
      k0_pay111 d1 (k0_pay101 c rv1 cr.2.2.2.1 (k0_pay91 q1 k1) (k0_pay94 q1 c k1) (Pv tv c q0 q1 k0 k1))
        (v.readAt (Elt Ideal) (Rect.unit (s := (⟨2, ![2304, 256]⟩ : Shape)) o2 ![256, 128] inb2').toLoadRect
          (v.writes (Elt Ideal) f' (⟨Rect.unit o1 ![256, 128] inb1, w1⟩ :: L)))⟩ :: ⟨Rect.unit o1 ![256, 128] inb1, w1⟩ :: L)))
      (upto F (dvF 512 T p0 p1) (o + 256)) := by
  subst h1
  have hw1 := dv0 h (hb.load inb1' e1)
  refine Is.tile hb e1 e2 hw1 ?_
  refine (dv1 h ((hb.store hw1 e1).load inb2' e2)).congr fun b l _ hl => ?_
  have e : (![256, 128] : Fin 2 → ℕ) 1 = 128 := rfl
  rw [if_neg (by omega)]; rfl

end Accumulators

end Cert.Attn.Diag
-- ==== Proof.Attn.Heads.lean ====
/- The heads of one block, and the bounds of the sweep's loops. -/
module

public import proofs.«01_k».proof.Proof.Attn.Blocks

@[expose] public section

set_option maxRecDepth 16384

noncomputable section

open Idealize.ShloMosaic Idealize.ShloMosaic.TcCoe Idealize.SL.Sem
open Cert.KernelIdeal Cert.KernelIdeal.Gen

namespace Cert.Attn

/-- Where the loop over the whole tiles stops and where the one over the left-over steps stops. -/
abbrev stop (b : Fin 9) : BitVec 32 := Scalar.addi 0#32 (Scalar.muli (Scalar.divsi (Scalar.subi (BitVec.ofNat 32 b.val) 0#32) 1#32) 1#32)
abbrev last (b : Fin 9) : BitVec 32 := Scalar.addi 0#32 (Scalar.subi (BitVec.ofNat 32 b.val) 0#32)

/-- The tiles before the diagonal one, and no others. -/
theorem trips1 (i : grid0.Coords) : (k0_t1_loop i).trips = (i 1).val :=
  (by decide +kernel : ∀ b : Fin 9, Scf.trips 0#32 (stop b) 1#32 = b.val) (i 1)
theorem trips2 (i : grid0.Coords) : (k0_t2_loop i).trips = 0 :=
  (by decide +kernel : ∀ b : Fin 9, Scf.trips (stop b) (last b) 1#32 = 0) (i 1)
theorem trips3 (i : grid0.Coords) : (k0_t3_loop i).trips = (i 1).val := trips1 i
theorem trips4 (i : grid0.Coords) : (k0_t4_loop i).trips = 0 := trips2 i

/-- One pair of the block's heads: `p` is the pair, `n` the number of its rows. -/
def pr (n : ℕ) (qb kb vb db rb : ℕ → ℕ → ℝ) (p : ℕ) : Pr where
  Q := stack n fun a l => qb a (128 * p + l)
  K := fun s l => kb s (128 * p + l)
  D := stack n fun a l => db a (128 * p + l)
  V := fun s l => vb s (128 * p + l)
  R := stackR n (rb (2 * p)) (rb (2 * p + 1))

/-- The columns a stacked row of the block at `o` sees. -/
def seen (n o a : ℕ) : ℕ := o + a % n

/-- Both pairs' lanes side by side are the block. -/
theorem side_pr (f : ℕ → ℕ → ℝ) : side (fun s l => f s (128 * 0 + l)) (fun s l => f s (128 * 1 + l)) = f := by
  funext s l
  unfold side
  split
  · exact congrArg (f s) (by omega)
  · exact congrArg (f s) (by omega)

/-- A load of one row of the totals. -/
theorem isC_load {arg6 : Memref sig .tc .vmem S4x256x1 .f32} (harg6 : arg6.IsWhole) {x4 : Vec Ideal S4x256x1 .f32} {rb : ℕ → ℕ → ℝ}
    (hx : ∀ (e : Fin 4) (a : Fin 256), x4 (ix3 e a (0 : Fin 1)) = ((rb e a : ℝ) : EReal)) {n : ℕ} (e : ℕ)
    (inb : ∀ a, (![e, 0, 0] : Fin 3 → ℕ) a + (![1, n, 1] : Fin 3 → ℕ) a ≤ S4x256x1.size a) :
    IsC (n := n) (arg6.view.readAt (Elt Ideal) (Rect.unit (s := S4x256x1) ![e, 0, 0] ![1, n, 1] inb).toLoadRect (harg6.unread x4)) (rb e) := fun y => by
  have h0 : (y (0 : Fin 3)).val < 1 := (y (0 : Fin 3)).isLt
  have h1 : (y (1 : Fin 3)).val < n := (y (1 : Fin 3)).isLt
  have h2 : (y (2 : Fin 3)).val < 1 := (y (2 : Fin 3)).isLt
  have b0 : e + 1 ≤ 4 := inb 0
  have b1 : 0 + n ≤ 256 := inb 1
  rw [View.readAt_apply, harg6.read_unread]
  refine Eq.trans (congrArg x4 ?_) (hx ⟨e, by omega⟩ ⟨(y (1 : Fin 3)).val, by omega⟩)
  funext a
  apply Fin.ext
  match a with
  | 0 => show e + 1 * (y (0 : Fin 3)).val = e; omega
  | 1 => show 0 + 1 * (y (1 : Fin 3)).val = (y (1 : Fin 3)).val; omega
  | 2 => show 0 + 1 * (y (2 : Fin 3)).val = 0; omega

end Cert.Attn
-- ==== Proof.Attn.Rows.lean ====
/- A block of the queries' gradient put together from its stores. -/
module

public import proofs.«01_k».proof.Proof.Attn.Heads

@[expose] public section

set_option maxRecDepth 16384

noncomputable section

open Idealize.ShloMosaic Idealize.ShloMosaic.TcCoe Idealize.SL.Sem
open Cert.KernelIdeal Cert.KernelIdeal.Gen

namespace Cert.Attn

variable {sig : RefSig} {κ : Kind} {σ : Space} {d : Fin 2 → ℕ} {F g : ℕ → ℕ → ℝ} {o0 o1 : ℕ} {size off : Fin 2 → ℕ}

/-- The entries of `v` where `c` holds are the reals `f`. -/
def IsOn {d : Fin 2 → ℕ} (c : ℕ → ℕ → Prop) (v : (⟨2, d⟩ : Shape).Idx → EReal) (f : ℕ → ℕ → ℝ) : Prop :=
  ∀ y : (⟨2, d⟩ : Shape).Idx, c (y (0 : Fin 2)).val (y (1 : Fin 2)).val → v y = ((f (y (0 : Fin 2)).val (y (1 : Fin 2)).val : ℝ) : EReal)

theorem IsOn.store {v : View sig κ σ (⟨2, d⟩ : Shape) .bf16} {f : v.ty.Contents (Elt Ideal)} {L : List (View.Piece (Elt Ideal) (⟨2, d⟩ : Shape) .bf16)}
    {c : ℕ → ℕ → Prop} (h : IsOn c (v.read (Elt Ideal) (v.writes (Elt Ideal) f L)) F) {inb : ∀ a, off a + size a ≤ (⟨2, d⟩ : Shape).size a}
    {w : (Rect.unit (s := (⟨2, d⟩ : Shape)) off size inb).shape.Idx → Elt Ideal .bf16} (hw : Is (d := size) w g) (e : off = ![o0, o1]) :
    IsOn (fun a b => c a b ∨ ((o0 ≤ a ∧ a < o0 + size 0) ∧ (o1 ≤ b ∧ b < o1 + size 1)))
      (v.read (Elt Ideal) (v.writes (Elt Ideal) f (⟨Rect.unit off size inb, w⟩ :: L)))
      (fun a b => if (o0 ≤ a ∧ a < o0 + size 0) ∧ (o1 ≤ b ∧ b < o1 + size 1) then g (a - o0) (b - o1) else F a b) := fun y hc => by
  rw [View.read_writes_cons_unit v f inb w L y e]
  by_cases hy : ((o0 ≤ (y (0 : Fin 2)).val ∧ (y (0 : Fin 2)).val < o0 + size 0) ∧ (o1 ≤ (y (1 : Fin 2)).val ∧ (y (1 : Fin 2)).val < o1 + size 1))
  · rw [dif_pos (Fin.forall_fin_two.2 hy)]; simp only [if_pos hy]; exact hw _
  · rw [dif_neg (fun h' => hy (Fin.forall_fin_two.1 h'))]; simp only [if_neg hy]; exact h y (hc.resolve_right hy)

/-- A store of the whole accumulator. -/
theorem is_start {v : View sig κ σ (⟨2, ![2304, 256]⟩ : Shape) .f32} {f : v.ty.Contents (Elt Ideal)}
    {inb : ∀ a, (![0, 0] : Fin 2 → ℕ) a + (![2304, 256] : Fin 2 → ℕ) a ≤ (⟨2, ![2304, 256]⟩ : Shape).size a}
    {w : (Rect.unit (s := (⟨2, ![2304, 256]⟩ : Shape)) ![0, 0] ![2304, 256] inb).shape.Idx → Elt Ideal .f32} (hw : Is (d := ![2304, 256]) w F) :
    Is (v.read (Elt Ideal) (v.writes (Elt Ideal) f [⟨Rect.unit ![0, 0] ![2304, 256] inb, w⟩])) F := fun y => by
  have b0 : (y (0 : Fin 2)).val < 2304 := (y (0 : Fin 2)).isLt
  have b1 : (y (1 : Fin 2)).val < 256 := (y (1 : Fin 2)).isLt
  have e0 : (![2304, 256] : Fin 2 → ℕ) 0 = 2304 := rfl
  have e1 : (![2304, 256] : Fin 2 → ℕ) 1 = 256 := rfl
  rw [View.read_writes_cons_unit v f inb w [] y rfl, dif_pos (Fin.forall_fin_two.2 ⟨⟨by show 0 ≤ _; omega, by show _ < 0 + 2304; omega⟩, ⟨by show 0 ≤ _; omega, by show _ < 0 + 256; omega⟩⟩)]
  exact hw _

/-- A block of 256 rows: the two pairs' lanes. -/
theorem is_block {v : View sig κ σ (⟨2, ![256, 256]⟩ : Shape) .bf16} {f : v.ty.Contents (Elt Ideal)} {g h : ℕ → ℕ → ℝ}
    {inb1 : ∀ a, (![0, 0] : Fin 2 → ℕ) a + (![256, 128] : Fin 2 → ℕ) a ≤ (⟨2, ![256, 256]⟩ : Shape).size a}
    {inb2 : ∀ a, (![0, 128] : Fin 2 → ℕ) a + (![256, 128] : Fin 2 → ℕ) a ≤ (⟨2, ![256, 256]⟩ : Shape).size a}
    {w1 : (Rect.unit (s := (⟨2, ![256, 256]⟩ : Shape)) ![0, 0] ![256, 128] inb1).shape.Idx → Elt Ideal .bf16}
    {w2 : (Rect.unit (s := (⟨2, ![256, 256]⟩ : Shape)) ![0, 128] ![256, 128] inb2).shape.Idx → Elt Ideal .bf16}
    (h1 : Is (d := ![256, 128]) w1 g) (h2 : Is (d := ![256, 128]) w2 h) :
    Is (v.read (Elt Ideal) (v.writes (Elt Ideal) f [⟨Rect.unit ![0, 128] ![256, 128] inb2, w2⟩, ⟨Rect.unit ![0, 0] ![256, 128] inb1, w1⟩])) (side g h) := fun y => by
  have b0 : (y (0 : Fin 2)).val < 256 := (y (0 : Fin 2)).isLt
  have b1 : (y (1 : Fin 2)).val < 256 := (y (1 : Fin 2)).isLt
  have e0 : (![256, 128] : Fin 2 → ℕ) 0 = 256 := rfl
  have e1 : (![256, 128] : Fin 2 → ℕ) 1 = 128 := rfl
  have hE : IsOn (fun _ _ => False) (v.read (Elt Ideal) (v.writes (Elt Ideal) f [])) (fun _ _ => 0) := fun _ h => h.elim
  refine (((hE.store h1 rfl).store h2 rfl) y (by omega)).trans (congrArg _ ?_)
  show (if _ then h _ _ else if _ then g _ _ else _) = _
  unfold side
  by_cases hl : (y (1 : Fin 2)).val < 128
  · rw [if_neg (by omega), if_pos (by omega), if_pos hl]; rfl
  · rw [if_pos (by omega), if_neg hl]; rfl

/-- The last block: 16 rows of the two pairs' lanes and zeros below them. -/
theorem is_block16 {v : View sig κ σ (⟨2, ![256, 256]⟩ : Shape) .bf16} {f : v.ty.Contents (Elt Ideal)} {g h : ℕ → ℕ → ℝ}
    {inb1 : ∀ a, (![0, 0] : Fin 2 → ℕ) a + (![16, 128] : Fin 2 → ℕ) a ≤ (⟨2, ![256, 256]⟩ : Shape).size a}
    {inb2 : ∀ a, (![16, 0] : Fin 2 → ℕ) a + (![240, 128] : Fin 2 → ℕ) a ≤ (⟨2, ![256, 256]⟩ : Shape).size a}
    {inb3 : ∀ a, (![0, 128] : Fin 2 → ℕ) a + (![16, 128] : Fin 2 → ℕ) a ≤ (⟨2, ![256, 256]⟩ : Shape).size a}
    {inb4 : ∀ a, (![16, 128] : Fin 2 → ℕ) a + (![240, 128] : Fin 2 → ℕ) a ≤ (⟨2, ![256, 256]⟩ : Shape).size a}
    {w1 : (Rect.unit (s := (⟨2, ![256, 256]⟩ : Shape)) ![0, 0] ![16, 128] inb1).shape.Idx → Elt Ideal .bf16}
    {w2 : (Rect.unit (s := (⟨2, ![256, 256]⟩ : Shape)) ![16, 0] ![240, 128] inb2).shape.Idx → Elt Ideal .bf16}
    {w3 : (Rect.unit (s := (⟨2, ![256, 256]⟩ : Shape)) ![0, 128] ![16, 128] inb3).shape.Idx → Elt Ideal .bf16}
    {w4 : (Rect.unit (s := (⟨2, ![256, 256]⟩ : Shape)) ![16, 128] ![240, 128] inb4).shape.Idx → Elt Ideal .bf16}
    (h1 : Is (d := ![16, 128]) w1 g) (h2 : Is (d := ![240, 128]) w2 fun _ _ => 0) (h3 : Is (d := ![16, 128]) w3 h) (h4 : Is (d := ![240, 128]) w4 fun _ _ => 0) :
    Is (v.read (Elt Ideal) (v.writes (Elt Ideal) f [⟨Rect.unit ![16, 128] ![240, 128] inb4, w4⟩, ⟨Rect.unit ![0, 128] ![16, 128] inb3, w3⟩,
      ⟨Rect.unit ![16, 0] ![240, 128] inb2, w2⟩, ⟨Rect.unit ![0, 0] ![16, 128] inb1, w1⟩])) (fun a b => if a < 16 then side g h a b else 0) := fun y => by
  have b0 : (y (0 : Fin 2)).val < 256 := (y (0 : Fin 2)).isLt
  have b1 : (y (1 : Fin 2)).val < 256 := (y (1 : Fin 2)).isLt
  have e0 : (![16, 128] : Fin 2 → ℕ) 0 = 16 := rfl
  have e1 : (![16, 128] : Fin 2 → ℕ) 1 = 128 := rfl
  have f0 : (![240, 128] : Fin 2 → ℕ) 0 = 240 := rfl
  have f1 : (![240, 128] : Fin 2 → ℕ) 1 = 128 := rfl
  have hE : IsOn (fun _ _ => False) (v.read (Elt Ideal) (v.writes (Elt Ideal) f [])) (fun _ _ => 0) := fun _ h => h.elim
  refine (((((hE.store h1 rfl).store h2 rfl).store h3 rfl).store h4 rfl) y (by omega)).trans (congrArg _ ?_)
  show (if _ then _ else if _ then h _ _ else if _ then _ else if _ then g _ _ else _) = if (y (0 : Fin 2)).val < 16 then side g h (y (0 : Fin 2)).val (y (1 : Fin 2)).val else 0
  unfold side
  by_cases ha : (y (0 : Fin 2)).val < 16
  · by_cases hl : (y (1 : Fin 2)).val < 128
    · rw [if_neg (by omega), if_neg (by omega), if_neg (by omega), if_pos (by omega), if_pos ha, if_pos hl]; rfl
    · rw [if_neg (by omega), if_pos (by omega), if_pos ha, if_neg hl]; rfl
  · by_cases hl : (y (1 : Fin 2)).val < 128
    · rw [if_neg (by omega), if_neg (by omega), if_pos (by omega), if_neg ha]
    · rw [if_pos (by omega), if_neg ha]

/-- The two accumulators as they are written out. -/
theorem is_out {v : Vec Ideal S2304x256 .f32} {f : ℕ → ℕ → ℝ} (hv : Is v f) : Is (k0_pay6 v) f :=
  hv.trunc bitsLt_bf16_f32
theorem is_out1 {v : Vec Ideal S2304x256 .f32} {f : ℕ → ℕ → ℝ} (hv : Is v f) : Is (k0_pay7 v) f := is_out hv

theorem is_all {v : View sig κ σ (⟨2, ![2304, 256]⟩ : Shape) .bf16} {f : v.ty.Contents (Elt Ideal)}
    {inb : ∀ a, (![0, 0] : Fin 2 → ℕ) a + (![2304, 256] : Fin 2 → ℕ) a ≤ (⟨2, ![2304, 256]⟩ : Shape).size a}
    {w : (Rect.unit (s := (⟨2, ![2304, 256]⟩ : Shape)) ![0, 0] ![2304, 256] inb).shape.Idx → Elt Ideal .bf16} (hw : Is (d := ![2304, 256]) w F) :
    Is (v.read (Elt Ideal) (v.writes (Elt Ideal) f [⟨Rect.unit ![0, 0] ![2304, 256] inb, w⟩])) F := fun y => by
  have b0 : (y (0 : Fin 2)).val < 2304 := (y (0 : Fin 2)).isLt
  have b1 : (y (1 : Fin 2)).val < 256 := (y (1 : Fin 2)).isLt
  rw [View.read_writes_cons_unit v f inb w [] y rfl, dif_pos (Fin.forall_fin_two.2 ⟨⟨by show 0 ≤ _; omega, by show _ < 0 + 2304; omega⟩, ⟨by show 0 ≤ _; omega, by show _ < 0 + 256; omega⟩⟩)]
  exact hw _

end Cert.Attn
-- ==== Proof.Attn.RunA.lean ====
/- The first row block of some heads' sweep: what it leaves in the two accumulators
   and in the block of the queries' gradient. -/
module

public import proofs.«01_k».proof.Proof.Attn.Loop512
public import proofs.«01_k».proof.Proof.Attn.Step512
public import proofs.«01_k».proof.Proof.Attn.Rows

@[expose] public section

set_option maxRecDepth 16384

noncomputable section

open Idealize.ShloMosaic Idealize.ShloMosaic.TcCoe Idealize.SL.Sem
open Cert.KernelIdeal Cert.KernelIdeal.Gen

namespace Cert.Attn.First

variable (c : Dev nD) (i : grid0.Coords)
  (arg2 : Memref sig .tc .vmem S256x256 .bf16) (harg2 : arg2.IsWhole)
  (arg3 : Memref sig .tc .vmem S2304x256 .bf16) (harg3 : arg3.IsWhole)
  (arg4 : Memref sig .tc .vmem S2304x256 .bf16) (harg4 : arg4.IsWhole)
  (arg5 : Memref sig .tc .vmem S256x256 .bf16) (harg5 : arg5.IsWhole)
  (arg6 : Memref sig .tc .vmem S4x256x1 .f32) (harg6 : arg6.IsWhole)
  (arg8 : Memref sig .tc .vmem S256x256 .bf16) (harg8 : arg8.IsWhole)
  (arg9 : Memref sig .tc .vmem S2304x256 .bf16) (harg9 : arg9.IsWhole)
  (arg10 : Memref sig .tc .vmem S2304x256 .bf16) (harg10 : arg10.IsWhole)
  (arg11 : Memref sig .tc .vmem S2304x256 .f32) (harg11 : arg11.IsWhole)
  (arg12 : Memref sig .tc .vmem S2304x256 .f32) (harg12 : arg12.IsWhole)
  (hc0 : cond0_0 i) (hc1 : cond0_1 i) (hc2 : ¬cond0_2 i) (hc3 : ¬cond0_3 i)
  (x0 : Vec Ideal S256x256 .bf16) (x1 : Vec Ideal S2304x256 .bf16) (x2 : Vec Ideal S2304x256 .bf16) (x3 : Vec Ideal S256x256 .bf16)
  (x4 : Vec Ideal S4x256x1 .f32)
  {qb kb vb db rb : ℕ → ℕ → ℝ}
  (hx0 : Is x0 qb) (hx1 : Is x1 kb) (hx2 : Is x2 vb) (hx3 : Is x3 db)
  (hx4 : ∀ (e : Fin 4) (a : Fin 256), x4 (ix3 e a (0 : Fin 1)) = ((rb e a : ℝ) : EReal))

/-- How many whole tiles the row block goes over. -/
abbrev full := Scf.trips (k0_t1_loop i).lb (k0_t1_loop i).ub (k0_t1_loop i).st

include hx0 hx1 hx2 hx3 hx4

set_option maxHeartbeats 1000000 in
/-- The two accumulators and the queries' gradient after the row block. -/
theorem run :
    Is (arg11.view.read (Elt Ideal) (arg11.view.writes (Elt Ideal) arg11.view.junk (kernelRun0_A (F := Ideal) c i arg2 harg2 arg3 harg3 arg4 harg4 arg5 harg5 arg6 harg6 arg8 harg8 arg9 harg9 arg10 harg10 arg11 harg11 arg12 harg12 hc0 hc1 hc2 hc3 x0 x1 x2 x3 x4).2.2.2.1))
      (upto (fun _ _ => 0) (dkF 512 (seen 256 (256 * (i 1).val)) (pr 256 qb kb vb db rb 0) (pr 256 qb kb vb db rb 1)) (256 * (i 1).val + 256)) ∧
    Is (arg12.view.read (Elt Ideal) (arg12.view.writes (Elt Ideal) arg12.view.junk (kernelRun0_A (F := Ideal) c i arg2 harg2 arg3 harg3 arg4 harg4 arg5 harg5 arg6 harg6 arg8 harg8 arg9 harg9 arg10 harg10 arg11 harg11 arg12 harg12 hc0 hc1 hc2 hc3 x0 x1 x2 x3 x4).2.2.2.2.1))
      (upto (fun _ _ => 0) (dvF 512 (seen 256 (256 * (i 1).val)) (pr 256 qb kb vb db rb 0) (pr 256 qb kb vb db rb 1)) (256 * (i 1).val + 256)) ∧
    ∀ w : View sig .tc .vmem S256x256 .bf16, Is (w.read (Elt Ideal) (w.writes (Elt Ideal) w.junk (kernelRun0_A (F := Ideal) c i arg2 harg2 arg3 harg3 arg4 harg4 arg5 harg5 arg6 harg6 arg8 harg8 arg9 harg9 arg10 harg10 arg11 harg11 arg12 harg12 hc0 hc1 hc2 hc3 x0 x1 x2 x3 x4).1))
      (side (halves 256 ((pr 256 qb kb vb db rb 0).dq (seen 256 (256 * (i 1).val)) (256 * (i 1).val + 256))) (halves 256 ((pr 256 qb kb vb db rb 1).dq (seen 256 (256 * (i 1).val)) (256 * (i 1).val + 256)))) := by
  have hq0 := (is_stack ((hx0.wholeb harg2).loadb inb_S256x256_S256x128_0_0 rfl)).congr (g := (pr 256 qb kb vb db rb 0).Q) fun a l _ _ => by simp only [pr, zero_add, mul_zero]
  have hq1 := (is_stack1 ((hx0.wholeb harg2).loadb inb_S256x256_S256x128_0_128 rfl)).congr (g := (pr 256 qb kb vb db rb 1).Q) fun a l _ _ => by simp only [pr, zero_add, mul_one]
  have hd0 := (is_stack2 ((hx3.wholeb harg5).loadb inb_S256x256_S256x128_0_0 rfl)).congr (g := (pr 256 qb kb vb db rb 0).D) fun a l _ _ => by simp only [pr, zero_add, mul_zero]
  have hd1 := (is_stack3 ((hx3.wholeb harg5).loadb inb_S256x256_S256x128_0_128 rfl)).congr (g := (pr 256 qb kb vb db rb 1).D) fun a l _ _ => by simp only [pr, zero_add, mul_one]
  have hr0 := is_rt (isC_load harg6 hx4 (n := 256) 0 inb_S4x256x1_S1x256x1_0_0_0) (isC_load harg6 hx4 (n := 256) 1 inb_S4x256x1_S1x256x1_1_0_0)
  have hr1 := is_rt1 (isC_load harg6 hx4 (n := 256) 2 inb_S4x256x1_S1x256x1_2_0_0) (isC_load harg6 hx4 (n := 256) 3 inb_S4x256x1_S1x256x1_3_0_0)
  have hK : Is (arg3.view.read (Elt Ideal) (harg3.unread x1)) (side (pr 256 qb kb vb db rb 0).K (pr 256 qb kb vb db rb 1).K) := by
    rw [show side (pr 256 qb kb vb db rb 0).K (pr 256 qb kb vb db rb 1).K = kb from side_pr kb]; exact hx1.wholeb harg3
  have hV : Is (arg4.view.read (Elt Ideal) (harg4.unread x2)) (side (pr 256 qb kb vb db rb 0).V (pr 256 qb kb vb db rb 1).V) := by
    rw [show side (pr 256 qb kb vb db rb 0).V (pr 256 qb kb vb db rb 1).V = vb from side_pr vb]; exact hx2.wholeb harg4
  have hb := Full.both (F := fun _ _ => 0) (E := fun _ _ => 0) (p0 := pr 256 qb kb vb db rb 0) (p1 := pr 256 qb kb vb db rb 1) (T := seen 256 (256 * (i 1).val)) Variants.none c none i arg2 harg2 arg3 harg3 arg4 harg4 arg5 harg5 arg6 harg6 (Memref.whole main_v34) (Memref.isWhole_whole _) arg8 harg8 arg9 harg9 arg10 harg10 arg11 harg11 arg12 harg12 (BitVec.ofNat 32 (i 1).val)
    (iota .tc S256x256 32 [0] iota_S256x256_d0_w32) (iota .tc S256x256 32 [1] iota_S256x256_d1_w32) k0_pay223 _ _ _ _ hc1 _ _ _ _ _ _ hK hV is_tri hq0 hq1 hd0 hd1 hr0 hr1
    (arg11.view.writes (Elt Ideal) arg11.view.junk kernelRun0_A.sl.HS0_1) (arg12.view.writes (Elt Ideal) arg12.view.junk kernelRun0_A.sl.HS1_1) (k0_pay81, k0_pay81, k0_pay82, k0_pay81, k0_pay81, k0_pay83) (kernelRun0_A.sl.v67 i)
    (fun a _ => by rw [trips1]; exact Nat.le_add_right _ _) (carry_zero _ _ _) (is_start is_empty) (is_start is_empty1)
    (full i) (Scf.trips (k0_t2_loop i).lb (k0_t2_loop i).ub (k0_t2_loop i).st) rfl (trips2 i)
  have hn : (full i) = (i 1).val := trips1 i
  have hm : IsB (k0_pay78 (iota .tc S256x256 32 [0] iota_S256x256_d0_w32) (iota .tc S256x256 32 [1] iota_S256x256_d1_w32)) (fun a b => 256 * (full i) + b < seen 256 (256 * (i 1).val) a) :=
    is_mask.congr fun a b _ _ => by rw [hn]; unfold seen; omega
  have e5 : k0_off5 i = ![256 * (full i), 0] := by rw [hn]; exact k0_off5_eq i
  have e6 : k0_off6 i = ![256 * (full i), 128] := by rw [hn]; exact k0_off6_eq i
  simp only [← View.writes_append, List.append_assoc] at hb
  obtain ⟨hcr, h11, h12⟩ := hb
  have hk0 := (hK.loadb (k0_off5_inb i hc1) e5).congr (g := fun b l => (pr 256 qb kb vb db rb 0).K (256 * (full i) + b) l) fun a b _ hb => by
    have h : b < 128 := hb
    rw [side, if_pos (by omega), zero_add]
  have hk1 := (hK.loadb (k0_off6_inb i hc1) e6).congr (g := fun b l => (pr 256 qb kb vb db rb 1).K (256 * (full i) + b) l) fun a b _ hb => by
    rw [side, if_neg (by omega), Nat.add_sub_cancel_left]
  have hv0 := (hV.loadb (k0_off5_inb i hc1) e5).congr (g := fun b l => (pr 256 qb kb vb db rb 0).V (256 * (full i) + b) l) fun a b _ hb => by
    have h : b < 128 := hb
    rw [side, if_pos (by omega), zero_add]
  have hv1 := (hV.loadb (k0_off6_inb i hc1) e6).congr (g := fun b l => (pr 256 qb kb vb db rb 1).V (256 * (full i) + b) l) fun a b _ hb => by
    rw [side, if_neg (by omega), Nat.add_sub_cancel_left]
  have hI : Diag.In _ (pr 256 qb kb vb db rb 0) (pr 256 qb kb vb db rb 1) _ _ _ _ _ _ _ _ _ _ _ _ _ _ := ⟨hm, is_tri, hq0, hq1, hd0, hd1, hr0, hr1, hk0, hk1, hv0, hv1, hcr⟩
  have k11 : Is (arg11.view.read (Elt Ideal) (arg11.view.writes (Elt Ideal) arg11.view.junk (kernelRun0_A (F := Ideal) c i arg2 harg2 arg3 harg3 arg4 harg4 arg5 harg5 arg6 harg6 arg8 harg8 arg9 harg9 arg10 harg10 arg11 harg11 arg12 harg12 hc0 hc1 hc2 hc3 x0 x1 x2 x3 x4).2.2.2.1))
      (upto (fun _ _ => 0) (dkF 512 (seen 256 (256 * (i 1).val)) (pr 256 qb kb vb db rb 0) (pr 256 qb kb vb db rb 1)) (256 * (full i) + 256)) := by
    unfold kernelRun0_A
    dsimp only
    unfold kernelRun0_A.sl.HS0_1_1
    have := Diag.acc11 (inb1 := k0_off5_inb i hc1) (inb1' := k0_off5_inb i hc1) (inb2 := k0_off6_inb i hc1) (inb2' := k0_off6_inb i hc1) hI h11 e5 e6 rfl
    refine (congrArg (fun L => Is (arg11.view.read (Elt Ideal) (arg11.view.writes (Elt Ideal) arg11.view.junk L)) (upto (fun _ _ => 0) (dkF 512 (seen 256 (256 * (i 1).val)) (pr 256 qb kb vb db rb 0) (pr 256 qb kb vb db rb 1)) (256 * (full i) + 256))) ?_).mp this
    refine congrArg₂ List.cons ?p2 (congrArg₂ List.cons ?p1 (congrArg₂ (· ++ ·) ?b (congrArg₂ (· ++ ·) ?a rfl)))
    case b => rfl
    case a => rfl
    case p1 =>
      refine congrArg (Sigma.mk _) ?_
      congr 1
      all_goals try rfl
    case p2 =>
      refine congrArg (Sigma.mk _) ?_
      congr 1
      all_goals try rfl
  have k12 : Is (arg12.view.read (Elt Ideal) (arg12.view.writes (Elt Ideal) arg12.view.junk (kernelRun0_A (F := Ideal) c i arg2 harg2 arg3 harg3 arg4 harg4 arg5 harg5 arg6 harg6 arg8 harg8 arg9 harg9 arg10 harg10 arg11 harg11 arg12 harg12 hc0 hc1 hc2 hc3 x0 x1 x2 x3 x4).2.2.2.2.1))
      (upto (fun _ _ => 0) (dvF 512 (seen 256 (256 * (i 1).val)) (pr 256 qb kb vb db rb 0) (pr 256 qb kb vb db rb 1)) (256 * (full i) + 256)) := by
    unfold kernelRun0_A
    dsimp only
    unfold kernelRun0_A.sl.HS1_1_1
    have := Diag.acc12 (inb1 := k0_off5_inb i hc1) (inb1' := k0_off5_inb i hc1) (inb2 := k0_off6_inb i hc1) (inb2' := k0_off6_inb i hc1) hI h12 e5 e6 rfl
    refine (congrArg (fun L => Is (arg12.view.read (Elt Ideal) (arg12.view.writes (Elt Ideal) arg12.view.junk L)) (upto (fun _ _ => 0) (dvF 512 (seen 256 (256 * (i 1).val)) (pr 256 qb kb vb db rb 0) (pr 256 qb kb vb db rb 1)) (256 * (full i) + 256))) ?_).mp this
    refine congrArg₂ List.cons ?p2 (congrArg₂ List.cons ?p1 (congrArg₂ (· ++ ·) ?b (congrArg₂ (· ++ ·) ?a rfl)))
    case b => rfl
    case a => rfl
    case p1 =>
      refine congrArg (Sigma.mk _) ?_
      congr 1
      all_goals try rfl
    case p2 =>
      refine congrArg (Sigma.mk _) ?_
      congr 1
      all_goals try rfl
  have d0 := (Diag.dq0 hI).congr (g := (pr 256 qb kb vb db rb 0).dq (seen 256 (256 * (i 1).val)) (256 * (i 1).val + 256)) fun a b _ _ => by rw [hn]
  have d1 := (Diag.dq1 hI).congr (g := (pr 256 qb kb vb db rb 1).dq (seen 256 (256 * (i 1).val)) (256 * (i 1).val + 256)) fun a b _ _ => by rw [hn]
  have d1' := (Diag.dq1' hI).congr (g := (pr 256 qb kb vb db rb 1).dq (seen 256 (256 * (i 1).val)) (256 * (i 1).val + 256)) fun a b _ _ => by rw [hn]
  rw [hn] at k11 k12
  refine ⟨k11, k12, fun w => ?_⟩
  unfold kernelRun0_A
  dsimp only
  refine is_block ((congrArg (fun v => Is (k0_pay112 (F := Ideal) k0_pay224 v) _) ?_).mp (is_dq d0))
    ((congrArg₂ (fun v w => Is (k0_pay1 (F := Ideal) k0_pay224 v w) _) ?_ ?_).mp (is_dq1 d1 d1'))
  · unfold kernelRun0_A.sl.r_25
    congr 1
    all_goals try rfl
  · unfold kernelRun0_A.sl.r_26
    congr 1
    all_goals try rfl
  · unfold kernelRun0_A.sl.r_27
    congr 1
    all_goals try rfl
end Cert.Attn.First
-- ==== Proof.Attn.RunB.lean ====
/- One row block of the sweep that is neither the first nor the last of its heads: what it leaves in the two accumulators
   and in the block of the queries' gradient. -/
module

public import proofs.«01_k».proof.Proof.Attn.Loop512
public import proofs.«01_k».proof.Proof.Attn.Step512
public import proofs.«01_k».proof.Proof.Attn.Rows

@[expose] public section

set_option maxRecDepth 16384

noncomputable section

open Idealize.ShloMosaic Idealize.ShloMosaic.TcCoe Idealize.SL.Sem
open Cert.KernelIdeal Cert.KernelIdeal.Gen

namespace Cert.Attn.Inner

variable (c : Dev nD) (i : grid0.Coords)
  (arg2 : Memref sig .tc .vmem S256x256 .bf16) (harg2 : arg2.IsWhole)
  (arg3 : Memref sig .tc .vmem S2304x256 .bf16) (harg3 : arg3.IsWhole)
  (arg4 : Memref sig .tc .vmem S2304x256 .bf16) (harg4 : arg4.IsWhole)
  (arg5 : Memref sig .tc .vmem S256x256 .bf16) (harg5 : arg5.IsWhole)
  (arg6 : Memref sig .tc .vmem S4x256x1 .f32) (harg6 : arg6.IsWhole)
  (arg8 : Memref sig .tc .vmem S256x256 .bf16) (harg8 : arg8.IsWhole)
  (arg9 : Memref sig .tc .vmem S2304x256 .bf16) (harg9 : arg9.IsWhole)
  (arg10 : Memref sig .tc .vmem S2304x256 .bf16) (harg10 : arg10.IsWhole)
  (arg11 : Memref sig .tc .vmem S2304x256 .f32) (harg11 : arg11.IsWhole)
  (arg12 : Memref sig .tc .vmem S2304x256 .f32) (harg12 : arg12.IsWhole)
  (hc0 : ¬cond0_0 i) (hc1 : cond0_1 i) (hc2 : ¬cond0_2 i) (hc3 : ¬cond0_3 i)
  (x0 : Vec Ideal S256x256 .bf16) (x1 : Vec Ideal S2304x256 .bf16) (x2 : Vec Ideal S2304x256 .bf16) (x3 : Vec Ideal S256x256 .bf16)
  (x4 : Vec Ideal S4x256x1 .f32) (xs0 : Vec Ideal S2304x256 .f32) (xs1 : Vec Ideal S2304x256 .f32)
  {qb kb vb db rb : ℕ → ℕ → ℝ} {F E : ℕ → ℕ → ℝ}
  (hx0 : Is x0 qb) (hx1 : Is x1 kb) (hx2 : Is x2 vb) (hx3 : Is x3 db)
  (hx4 : ∀ (e : Fin 4) (a : Fin 256), x4 (ix3 e a (0 : Fin 1)) = ((rb e a : ℝ) : EReal))
  (hs0 : Is xs0 F) (hs1 : Is xs1 E)

/-- How many whole tiles the row block goes over. -/
abbrev full := Scf.trips (k0_t1_loop i).lb (k0_t1_loop i).ub (k0_t1_loop i).st

include hx0 hx1 hx2 hx3 hx4 hs0 hs1

set_option maxHeartbeats 2000000 in
/-- The two accumulators and the queries' gradient after the row block. -/
theorem run :
    Is (arg11.view.read (Elt Ideal) (arg11.view.writes (Elt Ideal) (harg11.unread xs0) (kernelRun0_B (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.2.1))
      (upto F (dkF 512 (seen 256 (256 * (i 1).val)) (pr 256 qb kb vb db rb 0) (pr 256 qb kb vb db rb 1)) (256 * (i 1).val + 256)) ∧
    Is (arg12.view.read (Elt Ideal) (arg12.view.writes (Elt Ideal) (harg12.unread xs1) (kernelRun0_B (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.2.2.1))
      (upto E (dvF 512 (seen 256 (256 * (i 1).val)) (pr 256 qb kb vb db rb 0) (pr 256 qb kb vb db rb 1)) (256 * (i 1).val + 256)) ∧
    ∀ w : View sig .tc .vmem S256x256 .bf16, Is (w.read (Elt Ideal) (w.writes (Elt Ideal) w.junk (kernelRun0_B (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).1))
      (side (halves 256 ((pr 256 qb kb vb db rb 0).dq (seen 256 (256 * (i 1).val)) (256 * (i 1).val + 256))) (halves 256 ((pr 256 qb kb vb db rb 1).dq (seen 256 (256 * (i 1).val)) (256 * (i 1).val + 256)))) := by
  have hq0 := (is_stack ((hx0.wholeb harg2).loadb inb_S256x256_S256x128_0_0 rfl)).congr (g := (pr 256 qb kb vb db rb 0).Q) fun a l _ _ => by simp only [pr, zero_add, mul_zero]
  have hq1 := (is_stack1 ((hx0.wholeb harg2).loadb inb_S256x256_S256x128_0_128 rfl)).congr (g := (pr 256 qb kb vb db rb 1).Q) fun a l _ _ => by simp only [pr, zero_add, mul_one]
  have hd0 := (is_stack2 ((hx3.wholeb harg5).loadb inb_S256x256_S256x128_0_0 rfl)).congr (g := (pr 256 qb kb vb db rb 0).D) fun a l _ _ => by simp only [pr, zero_add, mul_zero]
  have hd1 := (is_stack3 ((hx3.wholeb harg5).loadb inb_S256x256_S256x128_0_128 rfl)).congr (g := (pr 256 qb kb vb db rb 1).D) fun a l _ _ => by simp only [pr, zero_add, mul_one]
  have hr0 := is_rt (isC_load harg6 hx4 (n := 256) 0 inb_S4x256x1_S1x256x1_0_0_0) (isC_load harg6 hx4 (n := 256) 1 inb_S4x256x1_S1x256x1_1_0_0)
  have hr1 := is_rt1 (isC_load harg6 hx4 (n := 256) 2 inb_S4x256x1_S1x256x1_2_0_0) (isC_load harg6 hx4 (n := 256) 3 inb_S4x256x1_S1x256x1_3_0_0)
  have hK : Is (arg3.view.read (Elt Ideal) (harg3.unread x1)) (side (pr 256 qb kb vb db rb 0).K (pr 256 qb kb vb db rb 1).K) := by
    rw [show side (pr 256 qb kb vb db rb 0).K (pr 256 qb kb vb db rb 1).K = kb from side_pr kb]; exact hx1.wholeb harg3
  have hV : Is (arg4.view.read (Elt Ideal) (harg4.unread x2)) (side (pr 256 qb kb vb db rb 0).V (pr 256 qb kb vb db rb 1).V) := by
    rw [show side (pr 256 qb kb vb db rb 0).V (pr 256 qb kb vb db rb 1).V = vb from side_pr vb]; exact hx2.wholeb harg4
  have hb := Full.both (F := F) (E := E) (p0 := pr 256 qb kb vb db rb 0) (p1 := pr 256 qb kb vb db rb 1) (T := seen 256 (256 * (i 1).val)) Variants.none c none i arg2 harg2 arg3 harg3 arg4 harg4 arg5 harg5 arg6 harg6 (Memref.whole main_v34) (Memref.isWhole_whole _) arg8 harg8 arg9 harg9 arg10 harg10 arg11 harg11 arg12 harg12 (BitVec.ofNat 32 (i 1).val)
    (iota .tc S256x256 32 [0] iota_S256x256_d0_w32) (iota .tc S256x256 32 [1] iota_S256x256_d1_w32) k0_pay223 _ _ _ _ hc1 _ _ _ _ _ _ hK hV is_tri hq0 hq1 hd0 hd1 hr0 hr1
    (harg11.unread xs0) (harg12.unread xs1) (k0_pay81, k0_pay81, k0_pay82, k0_pay81, k0_pay81, k0_pay83) (kernelRun0_B.sl.v67 i)
    (fun a _ => by rw [trips1]; exact Nat.le_add_right _ _) (carry_zero _ _ _) (hs0.whole harg11) (hs1.whole harg12)
    (full i) (Scf.trips (k0_t2_loop i).lb (k0_t2_loop i).ub (k0_t2_loop i).st) rfl (trips2 i)
  have hn : (full i) = (i 1).val := trips1 i
  have hm : IsB (k0_pay78 (iota .tc S256x256 32 [0] iota_S256x256_d0_w32) (iota .tc S256x256 32 [1] iota_S256x256_d1_w32)) (fun a b => 256 * (full i) + b < seen 256 (256 * (i 1).val) a) :=
    is_mask.congr fun a b _ _ => by rw [hn]; unfold seen; omega
  have e5 : k0_off5 i = ![256 * (full i), 0] := by rw [hn]; exact k0_off5_eq i
  have e6 : k0_off6 i = ![256 * (full i), 128] := by rw [hn]; exact k0_off6_eq i
  obtain ⟨hcr, h11, h12⟩ := hb
  have hk0 := (hK.loadb (k0_off5_inb i hc1) e5).congr (g := fun b l => (pr 256 qb kb vb db rb 0).K (256 * (full i) + b) l) fun a b _ hb => by
    have h : b < 128 := hb
    rw [side, if_pos (by omega), zero_add]
  have hk1 := (hK.loadb (k0_off6_inb i hc1) e6).congr (g := fun b l => (pr 256 qb kb vb db rb 1).K (256 * (full i) + b) l) fun a b _ hb => by
    rw [side, if_neg (by omega), Nat.add_sub_cancel_left]
  have hv0 := (hV.loadb (k0_off5_inb i hc1) e5).congr (g := fun b l => (pr 256 qb kb vb db rb 0).V (256 * (full i) + b) l) fun a b _ hb => by
    have h : b < 128 := hb
    rw [side, if_pos (by omega), zero_add]
  have hv1 := (hV.loadb (k0_off6_inb i hc1) e6).congr (g := fun b l => (pr 256 qb kb vb db rb 1).V (256 * (full i) + b) l) fun a b _ hb => by
    rw [side, if_neg (by omega), Nat.add_sub_cancel_left]
  have hI : Diag.In _ (pr 256 qb kb vb db rb 0) (pr 256 qb kb vb db rb 1) _ _ _ _ _ _ _ _ _ _ _ _ _ _ := ⟨hm, is_tri, hq0, hq1, hd0, hd1, hr0, hr1, hk0, hk1, hv0, hv1, hcr⟩
  have k11 : Is (arg11.view.read (Elt Ideal) (arg11.view.writes (Elt Ideal) (harg11.unread xs0) (kernelRun0_B (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.2.1))
      (upto F (dkF 512 (seen 256 (256 * (i 1).val)) (pr 256 qb kb vb db rb 0) (pr 256 qb kb vb db rb 1)) (256 * (full i) + 256)) := by
    unfold kernelRun0_B
    dsimp only
    unfold kernelRun0_B.sl.HS0_1
    have := Diag.acc11 (inb1 := k0_off5_inb i hc1) (inb1' := k0_off5_inb i hc1) (inb2 := k0_off6_inb i hc1) (inb2' := k0_off6_inb i hc1) hI h11 e5 e6 rfl
    refine (congrArg (fun L => Is (arg11.view.read (Elt Ideal) (arg11.view.writes (Elt Ideal) (harg11.unread xs0) L)) (upto F (dkF 512 (seen 256 (256 * (i 1).val)) (pr 256 qb kb vb db rb 0) (pr 256 qb kb vb db rb 1)) (256 * (full i) + 256))) ?_).mp this
    refine congrArg₂ List.cons ?p2 (congrArg₂ List.cons ?p1 (congrArg₂ (· ++ ·) ?a ?b))
    case b => rfl
    case a => rfl
    case p1 =>
      refine congrArg (Sigma.mk _) ?_
      congr 1
      all_goals try rfl
    case p2 =>
      refine congrArg (Sigma.mk _) ?_
      congr 1
      all_goals try rfl
  have k12 : Is (arg12.view.read (Elt Ideal) (arg12.view.writes (Elt Ideal) (harg12.unread xs1) (kernelRun0_B (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.2.2.1))
      (upto E (dvF 512 (seen 256 (256 * (i 1).val)) (pr 256 qb kb vb db rb 0) (pr 256 qb kb vb db rb 1)) (256 * (full i) + 256)) := by
    unfold kernelRun0_B
    dsimp only
    unfold kernelRun0_B.sl.HS1_1
    have := Diag.acc12 (inb1 := k0_off5_inb i hc1) (inb1' := k0_off5_inb i hc1) (inb2 := k0_off6_inb i hc1) (inb2' := k0_off6_inb i hc1) hI h12 e5 e6 rfl
    refine (congrArg (fun L => Is (arg12.view.read (Elt Ideal) (arg12.view.writes (Elt Ideal) (harg12.unread xs1) L)) (upto E (dvF 512 (seen 256 (256 * (i 1).val)) (pr 256 qb kb vb db rb 0) (pr 256 qb kb vb db rb 1)) (256 * (full i) + 256))) ?_).mp this
    refine congrArg₂ List.cons ?p2 (congrArg₂ List.cons ?p1 (congrArg₂ (· ++ ·) ?a ?b))
    case b => rfl
    case a => rfl
    case p1 =>
      refine congrArg (Sigma.mk _) ?_
      congr 1
      all_goals try rfl
    case p2 =>
      refine congrArg (Sigma.mk _) ?_
      congr 1
      all_goals try rfl
  have d0 := (Diag.dq0 hI).congr (g := (pr 256 qb kb vb db rb 0).dq (seen 256 (256 * (i 1).val)) (256 * (i 1).val + 256)) fun a b _ _ => by rw [hn]
  have d1 := (Diag.dq1 hI).congr (g := (pr 256 qb kb vb db rb 1).dq (seen 256 (256 * (i 1).val)) (256 * (i 1).val + 256)) fun a b _ _ => by rw [hn]
  have d1' := (Diag.dq1' hI).congr (g := (pr 256 qb kb vb db rb 1).dq (seen 256 (256 * (i 1).val)) (256 * (i 1).val + 256)) fun a b _ _ => by rw [hn]
  rw [hn] at k11 k12
  refine ⟨k11, k12, fun w => ?_⟩
  unfold kernelRun0_B
  dsimp only
  refine is_block ((congrArg (fun v => Is (k0_pay112 (F := Ideal) k0_pay224 v) _) ?_).mp (is_dq d0))
    ((congrArg₂ (fun v w => Is (k0_pay1 (F := Ideal) k0_pay224 v w) _) ?_ ?_).mp (is_dq1 d1 d1'))
  · unfold kernelRun0_B.sl.r_25
    congr 1
    all_goals try rfl
  · unfold kernelRun0_B.sl.r_26
    congr 1
    all_goals try rfl
  · unfold kernelRun0_B.sl.r_27
    congr 1
    all_goals try rfl
end Cert.Attn.Inner
-- ==== Proof.Attn.Tile32.lean ====
/- One full tile of the sweep over 32 stacked rows: what each stage of the loop's body holds. -/
module

public import proofs.«01_k».proof.Proof.Attn.Mm
public import proofs.«01_k».proof.Proof.Attn.Ops

@[expose] public section

set_option maxRecDepth 16384

noncomputable section

open Idealize.ShloMosaic Idealize.ShloMosaic.TcCoe Idealize.SL.Sem
open Cert.KernelIdeal Cert.KernelIdeal.Gen

namespace Cert.Attn.Short

section Scores

variable {f g : ℕ → ℕ → ℝ} {o : ℕ} {q : FVec Ideal S32x128 .bf16} {k : Vec Ideal S256x128 .bf16}
  (hq : Is q f) (hk : Is k (fun b l => g (o + b) l))

include hq hk

theorem z : Is (k0_pay114 q k) (fun a b => NT f g a (o + b)) := is_nt32 hq (hk.cast _)
theorem e : Is (k0_pay115 q k) (fun a b => Real.exp (0 - |NT f g a (o + b)|)) := is_e (z hq hk)
theorem inv : Is (k0_pay116 q k) (fun a b => 1 / (1 + Real.exp (0 - |NT f g a (o + b)|))) := is_inv (e hq hk)
theorem sp : Is (k0_pay117 q k) (fun a b => sp (NT f g a (o + b))) := is_sp (z hq hk) (inv hq hk)
theorem sg : Is (k0_pay118 q k) (fun a b => sg (NT f g a (o + b))) := is_sg (z hq hk) (e hq hk) (inv hq hk)

end Scores

variable {T : ℕ → ℕ} {o : ℕ} {z0 z1 d0 d1 : ℕ → ℕ → ℝ} {r0 r1 : ℕ → ℝ}

section Weights

variable {tv : FVec Ideal S256x256 .bf16} {sv : FVec Ideal S64x256 .bf16} {zv0 sv0 zv1 sv1 : FVec Ideal S32x256 .f32}
  {rv0 pv0 rv1 pv1 : FVec Ideal S32x1 .f32} {do0 do1 : FVec Ideal S32x128 .bf16} {v0 v1 : Vec Ideal S256x128 .bf16}
  {D0 D1 V0 V1 : ℕ → ℕ → ℝ}
  (hT : ∀ a < 32, o + 256 ≤ T a) (ht : Is tv tri)
  (hs : Is sv (two 32 (fun a b => S T z0 a (o + b)) (fun a b => S T z1 a (o + b))))
  (hz0 : Is zv0 (fun a b => z0 a (o + b))) (hs0 : Is sv0 (fun a b => S T z0 a (o + b)))
  (hr0 : Is rv0 (fun a _ => r0 a)) (hp0 : Is pv0 (fun a _ => P T z0 a o))
  (hz1 : Is zv1 (fun a b => z1 a (o + b))) (hs1 : Is sv1 (fun a b => S T z1 a (o + b)))
  (hr1 : Is rv1 (fun a _ => r1 a)) (hp1 : Is pv1 (fun a _ => P T z1 a o))
  (hd0 : Is do0 D0) (hv0 : Is v0 (fun b l => V0 (o + b) l)) (hd1 : Is do1 D1) (hv1 : Is v1 (fun b l => V1 (o + b) l))

include ht hs in
theorem pw : Is (k0_pay125 tv sv) (NN (two 32 (fun a b => S T z0 a (o + b)) (fun a b => S T z1 a (o + b))) tri) := is_cum32 hs ht

include ht hs in
theorem pw0 : Is (k0_pay133 tv sv) (NN (fun a b => S T z0 a (o + b)) tri) := is_half0 (hh := slices_S64x256_o0_0_S32x256) (pw ht hs)

include hT ht hs hz0 hs0 hr0 hp0 in
theorem a0 : Is (k0_pay126 tv rv0 pv0 zv0 sv0 sv) (fun a b => A T z0 r0 a (o + b)) :=
  is_A hT (is_w hz0 hr0 hp0 (is_half0 (hh := slices_S64x256_o0_0_S32x256) (pw ht hs)) hs0)

include hT ht hs hz1 hs1 hr1 hp1 in
theorem a1 : Is (k0_pay129 tv rv1 pv1 zv1 sv1 sv) (fun a b => A T z1 r1 a (o + b)) :=
  is_A hT (is_w hz1 hr1 hp1 (is_half1 (hh := slices_S64x256_o32_0_S32x256) (pw ht hs)) hs1)

include hT ht hs hz0 hs0 hr0 hp0 hd0 hv0 in
theorem g0 : Is (k0_pay128 tv do0 rv0 pv0 zv0 sv0 sv v0) (fun a b => G T z0 (NT D0 V0) r0 a (o + b)) :=
  (a0 hT ht hs hz0 hs0 hr0 hp0).mul (is_nt32 hd0 (hv0.cast _))

include hT ht hs hz1 hs1 hr1 hp1 hd1 hv1 in
theorem g1 : Is (k0_pay131 tv do1 rv1 pv1 zv1 sv1 sv v1) (fun a b => G T z1 (NT D1 V1) r1 a (o + b)) :=
  (a1 hT ht hs hz1 hs1 hr1 hp1).mul (is_nt32 hd1 (hv1.cast _))

include hT ht hs hz0 hs0 hr0 hp0 hz1 hs1 hr1 hp1 hd0 hv0 hd1 hv1 in
theorem gw : Is (k0_pay132 tv do0 do1 rv0 rv1 pv0 pv1 zv0 sv0 zv1 sv1 sv v0 v1)
    (NN (two 32 (fun a b => G T z0 (NT D0 V0) r0 a (o + b)) (fun a b => G T z1 (NT D1 V1) r1 a (o + b))) tri) :=
  is_cum32 (((g0 hT ht hs hz0 hs0 hr0 hp0 hd0 hv0).cat (g1 hT ht hs hz1 hs1 hr1 hp1 hd1 hv1) _).trunc _) ht

include hT ht hs hz0 hs0 hr0 hp0 hz1 hs1 hr1 hp1 hd0 hv0 hd1 hv1 in
theorem dz0 {cv0 : FVec Ideal S32x1 .f32} {lv0 : FVec Ideal S32x256 .f32} (hc0 : Is cv0 (fun a _ => C T z0 (NT D0 V0) r0 a o))
    (hl0 : Is lv0 (fun a b => Attn.sg (z0 a (o + b)))) :
    Is (k0_pay135 tv do0 do1 rv0 rv1 pv0 cv0 pv1 zv0 sv0 lv0 zv1 sv1 sv v0 v1) (fun a b => DZ T z0 (NT D0 V0) r0 a (o + b)) := by
  refine Is.trunc ?_ _
  refine is_DZ hT ?_
  refine is_d (g0 hT ht hs hz0 hs0 hr0 hp0 hd0 hv0) hl0 hc0 ?_
  exact is_half0 (hh := slices_S64x256_o0_0_S32x256) (gw hT ht hs hz0 hs0 hr0 hp0 hz1 hs1 hr1 hp1 hd0 hv0 hd1 hv1)

end Weights

theorem dz1 {cv1 : FVec Ideal S32x1 .f32} {lv1 gv1 : FVec Ideal S32x256 .f32} {gwv : FVec Ideal S64x256 .f32}
    {g0 gd1 : ℕ → ℕ → ℝ} (hT : ∀ a < 32, o + 256 ≤ T a) (hc1 : Is cv1 (fun a _ => C T z1 gd1 r1 a o))
    (hl1 : Is lv1 (fun a b => Attn.sg (z1 a (o + b)))) (hg1 : Is gv1 (fun a b => G T z1 gd1 r1 a (o + b)))
    (hw : Is gwv (NN (two 32 g0 (fun a b => G T z1 gd1 r1 a (o + b))) tri)) :
    Is (k0_pay143 cv1 lv1 gv1 gwv) (fun a b => DZ T z1 gd1 r1 a (o + b)) := by
  refine Is.trunc ?_ _
  refine is_DZ hT ?_
  refine is_d hg1 hl1 hc1 ?_
  exact is_half1 (hh := slices_S64x256_o32_0_S32x256) hw

end Cert.Attn.Short
-- ==== Proof.Attn.Loop32.lean ====
/- The loop over the full tiles of the sweep over 32 stacked rows: one trip, and by induction every trip. -/
module

public import proofs.«01_k».proof.Proof.Attn.Tile32
public import proofs.«01_k».proof.Proof.Attn.Reads

@[expose] public section

set_option maxRecDepth 16384

noncomputable section

open Idealize.ShloMosaic Idealize.ShloMosaic.TcCoe Idealize.SL.Sem
open Cert.KernelIdeal Cert.KernelIdeal.Gen

namespace Cert.Attn.Short

variable {T : ℕ → ℕ} {p0 p1 : Pr} {F E : ℕ → ℕ → ℝ}

variable (𝒱 : Variants)
  (c : Dev nD)
  (bd : Option 𝒱.V)
  (i : grid0.Coords)
  (arg2 : Memref sig .tc .vmem S256x256 .bf16)
  (harg2 : arg2.IsWhole)
  (arg3 : Memref sig .tc .vmem S2304x256 .bf16)
  (harg3 : arg3.IsWhole)
  (arg4 : Memref sig .tc .vmem S2304x256 .bf16)
  (harg4 : arg4.IsWhole)
  (arg5 : Memref sig .tc .vmem S256x256 .bf16)
  (harg5 : arg5.IsWhole)
  (arg6 : Memref sig .tc .vmem S4x256x1 .f32)
  (harg6 : arg6.IsWhole)
  (arg7 : Memref sig .tc .hbm S8x128 .f32)
  (harg7 : arg7.IsWhole)
  (arg8 : Memref sig .tc .vmem S256x256 .bf16)
  (harg8 : arg8.IsWhole)
  (arg9 : Memref sig .tc .vmem S2304x256 .bf16)
  (harg9 : arg9.IsWhole)
  (arg10 : Memref sig .tc .vmem S2304x256 .bf16)
  (harg10 : arg10.IsWhole)
  (arg11 : Memref sig .tc .vmem S2304x256 .f32)
  (harg11 : arg11.IsWhole)
  (arg12 : Memref sig .tc .vmem S2304x256 .f32)
  (harg12 : arg12.IsWhole)
  (arg1 : BitVec 32)
  (v3 : IVec S256x256 32)
  (v4 : IVec S256x256 32)
  (v8 : FVec Ideal S256x256 .bf16)
  (v17 : FVec Ideal S512x128 .bf16)
  (v23 : FVec Ideal S512x128 .bf16)
  (v32 : FVec Ideal S512x128 .bf16)
  (v38 : FVec Ideal S512x128 .bf16)
  (k0_h3 : k0_cond3 i = 1#1)
  (v63 : Vec Ideal S1x16x1 .f32)
  (v65 : Vec Ideal S1x16x1 .f32)
  (v68 : Vec Ideal S1x16x1 .f32)
  (v70 : Vec Ideal S1x16x1 .f32)
  (X_arg3 : BufTy.Contents (Elt Ideal) arg3.view.ty)
  (X_arg4 : BufTy.Contents (Elt Ideal) arg4.view.ty)
  (hK : Is (arg3.view.read (Elt Ideal) X_arg3) (side p0.K p1.K)) (hV : Is (arg4.view.read (Elt Ideal) X_arg4) (side p0.V p1.V))
  (ht : Is v8 tri) (hq0 : Is (k0_pay185 v17) p0.Q) (hq1 : Is (k0_pay186 v23) p1.Q) (hd0 : Is (k0_pay187 v32) p0.D) (hd1 : Is (k0_pay188 v38) p1.D)
  (hr0 : Is (k0_pay189 v63 v65) (fun a _ => p0.R a)) (hr1 : Is (k0_pay190 v68 v70) (fun a _ => p1.R a))

section Trip

variable (k : Fin (k0_t3_loop i).trips) (hT : ∀ a < 32, 256 * k.val + 256 ≤ T a)

include hK hV ht hq0 hq1 hd0 hd1 hr0 hr1 hT in
/-- One trip: what it carries on and what the two accumulators hold after it. -/
theorem trip (acc : FVec Ideal S32x1 .f32 × FVec Ideal S32x1 .f32 × FVec Ideal S32x128 .f32 × FVec Ideal S32x1 .f32 × FVec Ideal S32x1 .f32 × FVec Ideal S32x128 .f32)
    (f11 : BufTy.Contents (Elt Ideal) arg11.view.ty) (f12 : BufTy.Contents (Elt Ideal) arg12.view.ty)
    (hc : CarryIs 32 T p0 p1 (256 * k.val) acc)
    (h11 : Is (arg11.view.read (Elt Ideal) f11) (upto F (dkF 32 T p0 p1) (256 * k.val)))
    (h12 : Is (arg12.view.read (Elt Ideal) f12) (upto E (dvF 32 T p0 p1) (256 * k.val))) :
    CarryIs 32 T p0 p1 (256 * k.val + 256) (tripR_k0_t3 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 k acc f11 f12)
    ∧ Is (arg11.view.read (Elt Ideal) (arg11.view.writes (Elt Ideal) f11 (tripL_k0_t3 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 k acc f11 f12).1)) (upto F (dkF 32 T p0 p1) (256 * k.val + 256))
    ∧ Is (arg12.view.read (Elt Ideal) (arg12.view.writes (Elt Ideal) f12 (tripL_k0_t3 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 k acc f11 f12).2)) (upto E (dvF 32 T p0 p1) (256 * k.val + 256)) := by
  obtain ⟨⟨hp0, hc0, hq⟩, hp1, hc1, hq'⟩ := hc
  have hk0 := (hK.loadb (k0_off7_inb i k ‹_›) (k0_off7_eq i k)).congr (g := fun b l => p0.K (256 * k.val + b) l) fun a b _ hb => by
    have h : b < 128 := hb
    rw [side, if_pos (by omega), zero_add]
  have hk1 := (hK.loadb (k0_off8_inb i k ‹_›) (k0_off8_eq i k)).congr (g := fun b l => p1.K (256 * k.val + b) l) fun a b _ hb => by
    rw [side, if_neg (by omega), Nat.add_sub_cancel_left]
  have hv0 := (hV.loadb (k0_off7_inb i k ‹_›) (k0_off7_eq i k)).congr (g := fun b l => p0.V (256 * k.val + b) l) fun a b _ hb => by
    have h : b < 128 := hb
    rw [side, if_pos (by omega), zero_add]
  have hv1 := (hV.loadb (k0_off8_inb i k ‹_›) (k0_off8_eq i k)).congr (g := fun b l => p1.V (256 * k.val + b) l) fun a b _ hb => by
    rw [side, if_neg (by omega), Nat.add_sub_cancel_left]
  have hz0 := z hq0 hk0
  have hz1 := z hq1 hk1
  have hs0 := is_S hT (sp hq0 hk0)
  have hs1 := is_S hT (sp hq1 hk1)
  have hs := (hs0.cat hs1 concatenates_S32x256_S32x256_S64x256_d0).trunc bitsLt_bf16_f32
  have hw := pw ht hs
  have hgw := gw hT ht hs hz0 hs0 hr0 hp0 hz1 hs1 hr1 hp1 hd0 hv0 hd1 hv1
  have hdz0 := dz0 hT ht hs hz0 hs0 hr0 hp0 hz1 hs1 hr1 hp1 hd0 hv0 hd1 hv1 hc0 (sg hq0 hk0)
  have hg1 := g1 hT ht hs hz1 hs1 hr1 hp1 hd1 hv1
  have hdz1 := dz1 hT hc1 (sg hq1 hk1) hg1 hgw
  have ha0 := (a0 hT ht hs hz0 hs0 hr0 hp0).trunc bitsLt_bf16_f32
  have ha1 := (a1 hT ht hs hz1 hs1 hr1 hp1).trunc bitsLt_bf16_f32
  unfold tripR_k0_t3 tripL_k0_t3 trip_k0_t3
  dsimp only
  refine ⟨⟨⟨?_, ?_, ?_⟩, ?_, ?_, ?_⟩, ?_, ?_⟩
  · exact is_Pnext (h := slices_S32x256_o0_255_S32x1) hp0 (is_half0 (hh := slices_S64x256_o0_0_S32x256) hw)
  · exact is_Cnext (h := slices_S32x256_o0_255_S32x1) hc0 (is_half0 (hh := slices_S64x256_o0_0_S32x256) hgw)
  · exact is_DQnext hq (is_nn32 hdz0 (hk0.cast _))
  · exact is_Pnext (h := slices_S32x256_o0_255_S32x1) hp1 (is_half1 (hh := slices_S64x256_o32_0_S32x256) hw)
  · exact is_Cnext (h := slices_S32x256_o0_255_S32x1) hc1 (is_half1 (hh := slices_S64x256_o32_0_S32x256) hgw)
  · exact is_DQnext hq' (is_nn32 hdz1 (hk1.cast _))
  · refine Is.tile (L := []) h11 (k0_off7_eq i k) (k0_off8_eq i k) ?_ ?_
    · exact ((h11.load (k0_off7_inb i k ‹_›) (k0_off7_eq i k)).add (is_tn32 hdz0 hq0)).cast _
    · exact ((h11.load (k0_off8_inb i k ‹_›) (k0_off8_eq i k)).add (is_tn32 hdz1 hq1)).cast _
  · refine Is.tile (L := []) h12 (k0_off7_eq i k) (k0_off8_eq i k) ?_ ?_
    · exact ((h12.load (k0_off7_inb i k ‹_›) (k0_off7_eq i k)).add (is_tn32 ha0 hd0)).cast _
    · exact ((h12.load (k0_off8_inb i k ‹_›) (k0_off8_eq i k)).add (is_tn32 ha1 hd1)).cast _

end Trip

variable (G_arg11 : BufTy.Contents (Elt Ideal) arg11.view.ty) (G_arg12 : BufTy.Contents (Elt Ideal) arg12.view.ty)
  (init : FVec Ideal S32x1 .f32 × FVec Ideal S32x1 .f32 × FVec Ideal S32x128 .f32 × FVec Ideal S32x1 .f32 × FVec Ideal S32x1 .f32 × FVec Ideal S32x128 .f32)

include hK hV ht hq0 hq1 hd0 hd1 hr0 hr1 in
/-- Every trip. -/
theorem loop (hT : ∀ a < 32, 256 * (k0_t3_loop i).trips ≤ T a) (h0 : CarryIs 32 T p0 p1 0 init)
    (h11 : Is (arg11.view.read (Elt Ideal) G_arg11) F) (h12 : Is (arg12.view.read (Elt Ideal) G_arg12) E) (n : ℕ) (hn : n ≤ (k0_t3_loop i).trips) :
    CarryIs 32 T p0 p1 (256 * n) (st_k0_t3 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 G_arg11 G_arg12 init n).1
    ∧ Is (arg11.view.read (Elt Ideal) (arg11.view.writes (Elt Ideal) G_arg11 (st_k0_t3 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 G_arg11 G_arg12 init n).2.1)) (upto F (dkF 32 T p0 p1) (256 * n))
    ∧ Is (arg12.view.read (Elt Ideal) (arg12.view.writes (Elt Ideal) G_arg12 (st_k0_t3 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 G_arg11 G_arg12 init n).2.2)) (upto E (dvF 32 T p0 p1) (256 * n)) := by
  induction n with
  | zero =>
    refine ⟨h0, h11.congr fun s l _ _ => ?_, h12.congr fun s l _ _ => ?_⟩
    · rw [upto, if_neg (by omega), add_zero]
    · rw [upto, if_neg (by omega), add_zero]
  | succ n ih =>
    have ih := ih (by omega)
    have hs := st_k0_t3_succ (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 G_arg11 G_arg12 init ⟨n, hn⟩
    rw [hs, View.writes_append, View.writes_append]
    exact trip 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 hK hV ht hq0 hq1 hd0 hd1 hr0 hr1 ⟨n, hn⟩ (fun a ha => (by omega : 256 * n + 256 ≤ 256 * (k0_t3_loop i).trips).trans (hT a ha)) _ _ _ ih.1 ih.2.1 ih.2.2

include hK hV ht hq0 hq1 hd0 hd1 hr0 hr1 in
/-- Every trip of the loop over the whole tiles, and none of the one after it. -/
theorem both (v67 : BitVec 32) (hT : ∀ a < 32, 256 * (k0_t3_loop i).trips ≤ T a) (h0 : CarryIs 32 T p0 p1 0 init)
    (h11 : Is (arg11.view.read (Elt Ideal) G_arg11) F) (h12 : Is (arg12.view.read (Elt Ideal) G_arg12) E) (n n' : ℕ) (hn : n = (k0_t3_loop i).trips) (hn' : n' = 0) :
    let r := st_k0_t3 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 G_arg11 G_arg12 init n
    let q := st_k0_t4 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 v67 X_arg3 X_arg4 (arg11.view.writes (Elt Ideal) G_arg11 r.2.1) (arg12.view.writes (Elt Ideal) G_arg12 r.2.2) (r.1.1, r.1.2.1, r.1.2.2.1, r.1.2.2.2.1, r.1.2.2.2.2.1, r.1.2.2.2.2.2) n'
    CarryIs 32 T p0 p1 (256 * n) q.1
    ∧ Is (arg11.view.read (Elt Ideal) (arg11.view.writes (Elt Ideal) G_arg11 (q.2.1 ++ r.2.1))) (upto F (dkF 32 T p0 p1) (256 * n))
    ∧ Is (arg12.view.read (Elt Ideal) (arg12.view.writes (Elt Ideal) G_arg12 (q.2.2 ++ r.2.2))) (upto E (dvF 32 T p0 p1) (256 * n)) := by
  subst hn'
  exact loop 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 X_arg3 X_arg4 hK hV ht hq0 hq1 hd0 hd1 hr0 hr1 G_arg11 G_arg12 init hT h0 h11 h12 n (le_of_eq hn)

end Cert.Attn.Short
-- ==== Proof.Attn.Diag32.lean ====
/- The tile on the diagonal, over 32 stacked rows: what each stage holds, the columns a row does not see masked out. -/
module

public import proofs.«01_k».proof.Proof.Attn.Mm
public import proofs.«01_k».proof.Proof.Attn.Ops

@[expose] public section

set_option maxRecDepth 16384

noncomputable section

open Idealize.ShloMosaic Idealize.ShloMosaic.TcCoe Idealize.SL.Sem
open Cert.KernelIdeal Cert.KernelIdeal.Gen

namespace Cert.Attn.Last

variable {T : ℕ → ℕ} {o : ℕ} {c : IVec S32x256 1} {tv : FVec Ideal S256x256 .bf16}

section Scores

variable {f g : ℕ → ℕ → ℝ} {q : FVec Ideal S32x128 .bf16} {k : Vec Ideal S256x128 .bf16}
  (hc : IsB c (fun a b => o + b < T a)) (hq : Is q f) (hk : Is k (fun b l => g (o + b) l))

include hq hk in
theorem z : Is (k0_pay194 q k) (fun a b => NT f g a (o + b)) := is_nt32 hq (hk.cast _)
include hq hk in
theorem e : Is (k0_pay195 q k) (fun a b => Real.exp (0 - |NT f g a (o + b)|)) := is_e (z hq hk)
include hq hk in
theorem inv : Is (k0_pay196 q k) (fun a b => 1 / (1 + Real.exp (0 - |NT f g a (o + b)|))) := is_inv (e hq hk)
include hc hq hk in
theorem sp : Is (k0_pay197 c q k) (fun a b => S T (NT f g) a (o + b)) := is_Sm hc (is_sp (z hq hk) (inv hq hk))
include hq hk in
theorem sg : Is (k0_pay198 q k) (fun a b => sg (NT f g a (o + b))) := is_sg (z hq hk) (e hq hk) (inv hq hk)

end Scores

section Weights

variable {z0 z1 : ℕ → ℕ → ℝ} {r0 r1 : ℕ → ℝ} {zv0 sv0 zv1 sv1 : FVec Ideal S32x256 .f32} {pwv : FVec Ideal S64x256 .f32}
  {rv0 pv0 rv1 pv1 : FVec Ideal S32x1 .f32} {do0 do1 : FVec Ideal S32x128 .bf16} {v0 v1 : Vec Ideal S256x128 .bf16}
  {D0 D1 V0 V1 : ℕ → ℕ → ℝ} {av0 : FVec Ideal S32x256 .f32}
  (hc : IsB c (fun a b => o + b < T a)) (ht : Is tv tri)
  (hz0 : Is zv0 (fun a b => z0 a (o + b))) (hs0 : Is sv0 (fun a b => S T z0 a (o + b)))
  (hr0 : Is rv0 (fun a _ => r0 a)) (hp0 : Is pv0 (fun a _ => P T z0 a o))
  (hz1 : Is zv1 (fun a b => z1 a (o + b))) (hs1 : Is sv1 (fun a b => S T z1 a (o + b)))
  (hr1 : Is rv1 (fun a _ => r1 a)) (hp1 : Is pv1 (fun a _ => P T z1 a o))
  (hd0 : Is do0 D0) (hv0 : Is v0 (fun b l => V0 (o + b) l)) (hd1 : Is do1 D1) (hv1 : Is v1 (fun b l => V1 (o + b) l))
  {sv : FVec Ideal S64x256 .bf16} (hs : Is sv (two 32 (fun a b => S T z0 a (o + b)) (fun a b => S T z1 a (o + b))))

/-- The zeros the product starts from. -/
abbrev z64 : FVec Ideal S64x256 .f32 := constant S64x256 .f32 0x00000000#32

include ht hs in
theorem pw : Is (k0_pay205 tv sv z64) (NN (two 32 (fun a b => S T z0 a (o + b)) (fun a b => S T z1 a (o + b))) tri) := is_cum32 hs ht

include hc ht hs hz0 hs0 hr0 hp0 in
theorem a0 : Is (k0_pay206 tv c rv0 pv0 zv0 sv0 sv z64) (fun a b => A T z0 r0 a (o + b)) :=
  is_Am hc (is_w hz0 hr0 hp0 (is_half0 (hh := slices_S64x256_o0_0_S32x256) (pw ht hs)) hs0)

include hc ht hs hz1 hs1 hr1 hp1 in
theorem a1 : Is (k0_pay209 tv c rv1 pv1 zv1 sv1 sv z64) (fun a b => A T z1 r1 a (o + b)) :=
  is_Am hc (is_w hz1 hr1 hp1 (is_half1 (hh := slices_S64x256_o32_0_S32x256) (pw ht hs)) hs1)

include hc ht hs hz0 hs0 hr0 hp0 hd0 hv0 in
theorem g0 : Is (k0_pay208 tv c do0 rv0 pv0 zv0 sv0 sv z64 v0) (fun a b => G T z0 (NT D0 V0) r0 a (o + b)) :=
  (a0 hc ht hz0 hs0 hr0 hp0 hs).mul (is_nt32 hd0 (hv0.cast _))

include hc ht hs hz1 hs1 hr1 hp1 hd1 hv1 in
theorem g1 : Is (k0_pay211 tv c do1 rv1 pv1 zv1 sv1 sv z64 v1) (fun a b => G T z1 (NT D1 V1) r1 a (o + b)) :=
  (a1 hc ht hz1 hs1 hr1 hp1 hs).mul (is_nt32 hd1 (hv1.cast _))

include hc ht hs hz0 hs0 hr0 hp0 hz1 hs1 hr1 hp1 hd0 hv0 hd1 hv1 in
theorem gw : Is (k0_pay212 tv c do0 do1 rv0 rv1 pv0 pv1 zv0 sv0 zv1 sv1 sv z64 v0 v1)
    (NN (two 32 (fun a b => G T z0 (NT D0 V0) r0 a (o + b)) (fun a b => G T z1 (NT D1 V1) r1 a (o + b))) tri) :=
  is_cum32 (((g0 hc ht hz0 hs0 hr0 hp0 hd0 hv0 hs).cat (g1 hc ht hz1 hs1 hr1 hp1 hd1 hv1 hs) _).trunc _) ht

include hc ht hs hz0 hs0 hr0 hp0 hz1 hs1 hr1 hp1 hd0 hv0 hd1 hv1 in
theorem dz0 {cv0 : FVec Ideal S32x1 .f32} {lv0 : FVec Ideal S32x256 .f32} (hc0 : Is cv0 (fun a _ => C T z0 (NT D0 V0) r0 a o))
    (hl0 : Is lv0 (fun a b => Attn.sg (z0 a (o + b)))) :
    Is (k0_pay213 tv c do0 do1 rv0 rv1 pv0 cv0 pv1 zv0 sv0 lv0 zv1 sv1 sv z64 v0 v1) (fun a b => DZ T z0 (NT D0 V0) r0 a (o + b)) := by
  refine Is.trunc ?_ _
  refine is_DZm hc ?_
  refine is_d (g0 hc ht hz0 hs0 hr0 hp0 hd0 hv0 hs) hl0 hc0 ?_
  exact is_half0 (hh := slices_S64x256_o0_0_S32x256) (gw hc ht hz0 hs0 hr0 hp0 hz1 hs1 hr1 hp1 hd0 hv0 hd1 hv1 hs)

end Weights

theorem dz1 {z1 g0 gd1 : ℕ → ℕ → ℝ} {r1 : ℕ → ℝ} {cv1 : FVec Ideal S32x1 .f32} {lv1 gv1 : FVec Ideal S32x256 .f32}
    {gwv : FVec Ideal S64x256 .f32} (hc : IsB c (fun a b => o + b < T a)) (hc1 : Is cv1 (fun a _ => C T z1 gd1 r1 a o))
    (hl1 : Is lv1 (fun a b => Attn.sg (z1 a (o + b)))) (hg1 : Is gv1 (fun a b => G T z1 gd1 r1 a (o + b)))
    (hw : Is gwv (NN (two 32 g0 (fun a b => G T z1 gd1 r1 a (o + b))) tri)) :
    Is (k0_pay217 c cv1 lv1 gv1 gwv) (fun a b => DZ T z1 gd1 r1 a (o + b)) := by
  refine Is.trunc ?_ _
  refine is_DZm hc ?_
  refine is_d hg1 hl1 hc1 ?_
  exact is_half1 (hh := slices_S64x256_o32_0_S32x256) hw

end Cert.Attn.Last
-- ==== Proof.Attn.Step32.lean ====
/- The diagonal tile of the sweep over 32 stacked rows: what it adds to the two accumulators, and the gradient of the
   queries it leaves. -/
module

public import proofs.«01_k».proof.Proof.Attn.Diag32
public import proofs.«01_k».proof.Proof.Attn.Blocks

@[expose] public section

set_option maxRecDepth 16384

noncomputable section

open Idealize.ShloMosaic Idealize.ShloMosaic.TcCoe Idealize.SL.Sem
open Cert.KernelIdeal Cert.KernelIdeal.Gen

namespace Cert.Attn.Last

variable {T : ℕ → ℕ} {p0 p1 : Pr} {o : ℕ} {F E : ℕ → ℕ → ℝ}
  {c : IVec S32x256 1} {tv : FVec Ideal S256x256 .bf16} {q0 q1 d0 d1 : FVec Ideal S32x128 .bf16} {rv0 rv1 : FVec Ideal S32x1 .f32}
  {k0 k1 v0 v1 : Vec Ideal S256x128 .bf16} {old : Vec Ideal S256x128 .f32} {f : ℕ → ℕ → ℝ}
  {cr : FVec Ideal S32x1 .f32 × FVec Ideal S32x1 .f32 × FVec Ideal S32x128 .f32 × FVec Ideal S32x1 .f32 × FVec Ideal S32x1 .f32 × FVec Ideal S32x128 .f32}

/-- What the diagonal tile reads. -/
structure In (T : ℕ → ℕ) (p0 p1 : Pr) (o : ℕ) (c : IVec S32x256 1) (tv : FVec Ideal S256x256 .bf16) (q0 q1 d0 d1 : FVec Ideal S32x128 .bf16)
    (rv0 rv1 : FVec Ideal S32x1 .f32) (k0 k1 v0 v1 : Vec Ideal S256x128 .bf16)
    (cr : FVec Ideal S32x1 .f32 × FVec Ideal S32x1 .f32 × FVec Ideal S32x128 .f32 × FVec Ideal S32x1 .f32 × FVec Ideal S32x1 .f32 × FVec Ideal S32x128 .f32) : Prop where
  hc : IsB c (fun a b => o + b < T a)
  ht : Is tv tri
  hq0 : Is q0 p0.Q
  hq1 : Is q1 p1.Q
  hd0 : Is d0 p0.D
  hd1 : Is d1 p1.D
  hr0 : Is rv0 (fun a _ => p0.R a)
  hr1 : Is rv1 (fun a _ => p1.R a)
  hk0 : Is k0 (fun b l => p0.K (o + b) l)
  hk1 : Is k1 (fun b l => p1.K (o + b) l)
  hv0 : Is v0 (fun b l => p0.V (o + b) l)
  hv1 : Is v1 (fun b l => p1.V (o + b) l)
  hcr : CarryIs 32 T p0 p1 o cr

variable (h : In T p0 p1 o c tv q0 q1 d0 d1 rv0 rv1 k0 k1 v0 v1 cr)

/-- The tile's scores and their gradients, as the body names them. -/
abbrev Z0 (q : FVec Ideal S32x128 .bf16) (k : Vec Ideal S256x128 .bf16) := k0_pay194 (F := Ideal) q k
abbrev Z1 (q : FVec Ideal S32x128 .bf16) (k : Vec Ideal S256x128 .bf16) := k0_pay199 (F := Ideal) q k
abbrev S0 (c : IVec S32x256 1) (q : FVec Ideal S32x128 .bf16) (k : Vec Ideal S256x128 .bf16) := k0_pay197 (F := Ideal) c q k
abbrev S1 (c : IVec S32x256 1) (q : FVec Ideal S32x128 .bf16) (k : Vec Ideal S256x128 .bf16) := k0_pay202 (F := Ideal) c q k
abbrev SS (c : IVec S32x256 1) (q0 q1 : FVec Ideal S32x128 .bf16) (k0 k1 : Vec Ideal S256x128 .bf16) := k0_pay204 (F := Ideal) c q0 q1 k0 k1

include h

theorem hz0 : Is (Z0 q0 k0) (fun a b => NT p0.Q p0.K a (o + b)) := z h.hq0 h.hk0
theorem hz1 : Is (Z1 q1 k1) (fun a b => NT p1.Q p1.K a (o + b)) := z h.hq1 h.hk1
theorem hs0 : Is (S0 c q0 k0) (fun a b => S T (NT p0.Q p0.K) a (o + b)) := sp h.hc h.hq0 h.hk0
theorem hs1 : Is (S1 c q1 k1) (fun a b => S T (NT p1.Q p1.K) a (o + b)) := sp h.hc h.hq1 h.hk1
theorem hl1 : Is (k0_pay203 q1 k1) (fun a b => Attn.sg (NT p1.Q p1.K a (o + b))) := sg h.hq1 h.hk1
theorem hss : Is (SS c q0 q1 k0 k1) (two 32 (fun a b => S T (NT p0.Q p0.K) a (o + b)) (fun a b => S T (NT p1.Q p1.K) a (o + b))) :=
  ((hs0 h).cat (hs1 h) concatenates_S32x256_S32x256_S64x256_d0).trunc bitsLt_bf16_f32

theorem ha0 : Is (k0_pay207 tv c rv0 cr.1 (Z0 q0 k0) (S0 c q0 k0) (SS c q0 q1 k0 k1) z64) (fun a b => p0.wt T a (o + b)) :=
  (a0 h.hc h.ht (hz0 h) (hs0 h) h.hr0 h.hcr.1.1 (hss h)).trunc bitsLt_bf16_f32

theorem ha1 : Is (k0_pay210 tv c rv1 cr.2.2.2.1 (Z1 q1 k1) (S1 c q1 k1) (SS c q0 q1 k0 k1) z64) (fun a b => p1.wt T a (o + b)) :=
  (a1 h.hc h.ht (hz1 h) (hs1 h) h.hr1 h.hcr.2.1 (hss h)).trunc bitsLt_bf16_f32

theorem hdz0 : Is (k0_pay213 tv c d0 d1 rv0 rv1 cr.1 cr.2.1 cr.2.2.2.1 (Z0 q0 k0) (S0 c q0 k0) (k0_pay198 q0 k0) (Z1 q1 k1) (S1 c q1 k1)
    (SS c q0 q1 k0 k1) z64 v0 v1) (fun a b => p0.dz T a (o + b)) :=
  dz0 h.hc h.ht (hz0 h) (hs0 h) h.hr0 h.hcr.1.1 (hz1 h) (hs1 h) h.hr1 h.hcr.2.1 h.hd0 h.hv0 h.hd1 h.hv1 (hss h) h.hcr.1.2.1 (sg h.hq0 h.hk0)

theorem hg1 : Is (k0_pay211 tv c d1 rv1 cr.2.2.2.1 (Z1 q1 k1) (S1 c q1 k1) (SS c q0 q1 k0 k1) z64 v1)
    (fun a b => G T (NT p1.Q p1.K) (NT p1.D p1.V) p1.R a (o + b)) :=
  g1 h.hc h.ht (hz1 h) (hs1 h) h.hr1 h.hcr.2.1 h.hd1 h.hv1 (hss h)

theorem hgw : Is (k0_pay212 tv c d0 d1 rv0 rv1 cr.1 cr.2.2.2.1 (Z0 q0 k0) (S0 c q0 k0) (Z1 q1 k1) (S1 c q1 k1) (SS c q0 q1 k0 k1) z64 v0 v1)
    (NN (two 32 (fun a b => G T (NT p0.Q p0.K) (NT p0.D p0.V) p0.R a (o + b)) (fun a b => G T (NT p1.Q p1.K) (NT p1.D p1.V) p1.R a (o + b))) tri) :=
  gw h.hc h.ht (hz0 h) (hs0 h) h.hr0 h.hcr.1.1 (hz1 h) (hs1 h) h.hr1 h.hcr.2.1 h.hd0 h.hv0 h.hd1 h.hv1 (hss h)

theorem hdz1 : Is (k0_pay217 c cr.2.2.2.2.1 (k0_pay203 q1 k1)
    (k0_pay211 tv c d1 rv1 cr.2.2.2.1 (Z1 q1 k1) (S1 c q1 k1) (SS c q0 q1 k0 k1) z64 v1)
    (k0_pay212 tv c d0 d1 rv0 rv1 cr.1 cr.2.2.2.1 (Z0 q0 k0) (S0 c q0 k0) (Z1 q1 k1) (S1 c q1 k1) (SS c q0 q1 k0 k1) z64 v0 v1))
    (fun a b => p1.dz T a (o + b)) :=
  dz1 h.hc h.hcr.2.2.1 (hl1 h) (hg1 h) (hgw h)

theorem dk0 (ho : Is old f) : Is (k0_pay215 q0 (k0_pay213 tv c d0 d1 rv0 rv1 cr.1 cr.2.1 cr.2.2.2.1 (Z0 q0 k0) (S0 c q0 k0) (k0_pay198 q0 k0)
    (Z1 q1 k1) (S1 c q1 k1) (SS c q0 q1 k0 k1) z64 v0 v1) old) (fun b l => f b l + TN 32 (p0.dz T) p0.Q (o + b) l) :=
  (ho.add (is_tn32 (hdz0 h) h.hq0)).cast _

theorem dv0 (ho : Is old f) : Is (k0_pay216 d0 (k0_pay207 tv c rv0 cr.1 (Z0 q0 k0) (S0 c q0 k0) (SS c q0 q1 k0 k1) z64) old)
    (fun b l => f b l + TN 32 (p0.wt T) p0.D (o + b) l) :=
  (ho.add (is_tn32 (ha0 h) h.hd0)).cast _

theorem dk1 (ho : Is old f) : Is (k0_pay219 c q1 cr.2.2.2.2.1 (k0_pay203 q1 k1)
    (k0_pay211 tv c d1 rv1 cr.2.2.2.1 (Z1 q1 k1) (S1 c q1 k1) (SS c q0 q1 k0 k1) z64 v1)
    (k0_pay212 tv c d0 d1 rv0 rv1 cr.1 cr.2.2.2.1 (Z0 q0 k0) (S0 c q0 k0) (Z1 q1 k1) (S1 c q1 k1) (SS c q0 q1 k0 k1) z64 v0 v1) old)
    (fun b l => f b l + TN 32 (p1.dz T) p1.Q (o + b) l) :=
  (ho.add (is_tn32 (hdz1 h) h.hq1)).cast _

theorem dv1 (ho : Is old f) : Is (k0_pay220 d1 (k0_pay210 tv c rv1 cr.2.2.2.1 (Z1 q1 k1) (S1 c q1 k1) (SS c q0 q1 k0 k1) z64) old)
    (fun b l => f b l + TN 32 (p1.wt T) p1.D (o + b) l) :=
  (ho.add (is_tn32 (ha1 h) h.hd1)).cast _

theorem dq0 : Is (k0_pay214 tv c d0 d1 rv0 rv1 cr.1 cr.2.1 cr.2.2.1 cr.2.2.2.1 (Z0 q0 k0) (S0 c q0 k0) (k0_pay198 q0 k0) (Z1 q1 k1) (S1 c q1 k1)
    (SS c q0 q1 k0 k1) z64 v0 v1 k0) (p0.dq T (o + 256)) :=
  is_DQnext h.hcr.1.2.2 (is_nn32 (hdz0 h) (h.hk0.cast _))

theorem dq1 : Is (k0_pay218 c cr.2.2.2.2.1 cr.2.2.2.2.2 (k0_pay203 q1 k1)
    (k0_pay211 tv c d1 rv1 cr.2.2.2.1 (Z1 q1 k1) (S1 c q1 k1) (SS c q0 q1 k0 k1) z64 v1)
    (k0_pay212 tv c d0 d1 rv0 rv1 cr.1 cr.2.2.2.1 (Z0 q0 k0) (S0 c q0 k0) (Z1 q1 k1) (S1 c q1 k1) (SS c q0 q1 k0 k1) z64 v0 v1) k1)
    (p1.dq T (o + 256)) :=
  is_DQnext h.hcr.2.2.2 (is_nn32 (hdz1 h) (h.hk1.cast _))

section Accumulators

variable {sig' : RefSig} {κ : Kind} {σ : Space} {v : View sig' κ σ (⟨2, ![2304, 256]⟩ : Shape) .f32} {f' : v.ty.Contents (Elt Ideal)}
  {L : List (View.Piece (Elt Ideal) (⟨2, ![2304, 256]⟩ : Shape) .f32)} {o1 o2 : Fin 2 → ℕ}
  {inb1 inb1' : ∀ a, o1 a + (![256, 128] : Fin 2 → ℕ) a ≤ (⟨2, ![2304, 256]⟩ : Shape).size a}
  {inb2 inb2' : ∀ a, o2 a + (![256, 128] : Fin 2 → ℕ) a ≤ (⟨2, ![2304, 256]⟩ : Shape).size a}

/-- The accumulator of the keys' gradient after the last tile: the second pair's store reads after the first's. -/
theorem acc11 (hb : Is (v.read (Elt Ideal) (v.writes (Elt Ideal) f' L)) (upto F (dkF 32 T p0 p1) o)) (e1 : o1 = ![o, 0]) (e2 : o2 = ![o, 128])
    {w1 : (Rect.unit (s := (⟨2, ![2304, 256]⟩ : Shape)) o1 ![256, 128] inb1).shape.Idx → Elt Ideal .f32}
    (h1 : w1 = k0_pay215 q0 (k0_pay213 tv c d0 d1 rv0 rv1 cr.1 cr.2.1 cr.2.2.2.1 (Z0 q0 k0) (S0 c q0 k0) (k0_pay198 q0 k0)
      (Z1 q1 k1) (S1 c q1 k1) (SS c q0 q1 k0 k1) z64 v0 v1) (v.readAt (Elt Ideal) (Rect.unit (s := (⟨2, ![2304, 256]⟩ : Shape)) o1 ![256, 128] inb1').toLoadRect (v.writes (Elt Ideal) f' L))) :
    Is (v.read (Elt Ideal) (v.writes (Elt Ideal) f' (⟨Rect.unit o2 ![256, 128] inb2,
      k0_pay219 c q1 cr.2.2.2.2.1 (k0_pay203 q1 k1)
        (k0_pay211 tv c d1 rv1 cr.2.2.2.1 (Z1 q1 k1) (S1 c q1 k1) (SS c q0 q1 k0 k1) z64 v1)
        (k0_pay212 tv c d0 d1 rv0 rv1 cr.1 cr.2.2.2.1 (Z0 q0 k0) (S0 c q0 k0) (Z1 q1 k1) (S1 c q1 k1) (SS c q0 q1 k0 k1) z64 v0 v1)
        (v.readAt (Elt Ideal) (Rect.unit (s := (⟨2, ![2304, 256]⟩ : Shape)) o2 ![256, 128] inb2').toLoadRect
          (v.writes (Elt Ideal) f' (⟨Rect.unit o1 ![256, 128] inb1, w1⟩ :: L)))⟩ :: ⟨Rect.unit o1 ![256, 128] inb1, w1⟩ :: L)))
      (upto F (dkF 32 T p0 p1) (o + 256)) := by
  subst h1
  have hw1 := dk0 h (hb.load inb1' e1)
  refine Is.tile hb e1 e2 hw1 ?_
  refine (dk1 h ((hb.store hw1 e1).load inb2' e2)).congr fun b l _ hl => ?_
  have e : (![256, 128] : Fin 2 → ℕ) 1 = 128 := rfl
  rw [if_neg (by omega)]; rfl

theorem acc12 (hb : Is (v.read (Elt Ideal) (v.writes (Elt Ideal) f' L)) (upto F (dvF 32 T p0 p1) o)) (e1 : o1 = ![o, 0]) (e2 : o2 = ![o, 128])
    {w1 : (Rect.unit (s := (⟨2, ![2304, 256]⟩ : Shape)) o1 ![256, 128] inb1).shape.Idx → Elt Ideal .f32}
    (h1 : w1 = k0_pay216 d0 (k0_pay207 tv c rv0 cr.1 (Z0 q0 k0) (S0 c q0 k0) (SS c q0 q1 k0 k1) z64)
      (v.readAt (Elt Ideal) (Rect.unit (s := (⟨2, ![2304, 256]⟩ : Shape)) o1 ![256, 128] inb1').toLoadRect (v.writes (Elt Ideal) f' L))) :
    Is (v.read (Elt Ideal) (v.writes (Elt Ideal) f' (⟨Rect.unit o2 ![256, 128] inb2,
      k0_pay220 d1 (k0_pay210 tv c rv1 cr.2.2.2.1 (Z1 q1 k1) (S1 c q1 k1) (SS c q0 q1 k0 k1) z64)
        (v.readAt (Elt Ideal) (Rect.unit (s := (⟨2, ![2304, 256]⟩ : Shape)) o2 ![256, 128] inb2').toLoadRect
          (v.writes (Elt Ideal) f' (⟨Rect.unit o1 ![256, 128] inb1, w1⟩ :: L)))⟩ :: ⟨Rect.unit o1 ![256, 128] inb1, w1⟩ :: L)))
      (upto F (dvF 32 T p0 p1) (o + 256)) := by
  subst h1
  have hw1 := dv0 h (hb.load inb1' e1)
  refine Is.tile hb e1 e2 hw1 ?_
  refine (dv1 h ((hb.store hw1 e1).load inb2' e2)).congr fun b l _ hl => ?_
  have e : (![256, 128] : Fin 2 → ℕ) 1 = 128 := rfl
  rw [if_neg (by omega)]; rfl

end Accumulators

end Cert.Attn.Last
-- ==== Proof.Attn.RunC.lean ====
/- The last row block of some heads' sweep, with its 16 rows: the gradients it writes out. -/
module

public import proofs.«01_k».proof.Proof.Attn.Loop32
public import proofs.«01_k».proof.Proof.Attn.Step32
public import proofs.«01_k».proof.Proof.Attn.Rows

@[expose] public section

set_option maxRecDepth 16384

noncomputable section

open Idealize.ShloMosaic Idealize.ShloMosaic.TcCoe Idealize.SL.Sem
open Cert.KernelIdeal Cert.KernelIdeal.Gen

namespace Cert.Attn.Final

variable (c : Dev nD) (i : grid0.Coords)
  (arg2 : Memref sig .tc .vmem S256x256 .bf16) (harg2 : arg2.IsWhole)
  (arg3 : Memref sig .tc .vmem S2304x256 .bf16) (harg3 : arg3.IsWhole)
  (arg4 : Memref sig .tc .vmem S2304x256 .bf16) (harg4 : arg4.IsWhole)
  (arg5 : Memref sig .tc .vmem S256x256 .bf16) (harg5 : arg5.IsWhole)
  (arg6 : Memref sig .tc .vmem S4x256x1 .f32) (harg6 : arg6.IsWhole)
  (arg8 : Memref sig .tc .vmem S256x256 .bf16) (harg8 : arg8.IsWhole)
  (arg9 : Memref sig .tc .vmem S2304x256 .bf16) (harg9 : arg9.IsWhole)
  (arg10 : Memref sig .tc .vmem S2304x256 .bf16) (harg10 : arg10.IsWhole)
  (arg11 : Memref sig .tc .vmem S2304x256 .f32) (harg11 : arg11.IsWhole)
  (arg12 : Memref sig .tc .vmem S2304x256 .f32) (harg12 : arg12.IsWhole)
  (hc0 : ¬cond0_0 i) (hc1 : ¬cond0_1 i) (hc2 : cond0_2 i) (hc3 : cond0_3 i)
  (x0 : Vec Ideal S256x256 .bf16) (x1 : Vec Ideal S2304x256 .bf16) (x2 : Vec Ideal S2304x256 .bf16) (x3 : Vec Ideal S256x256 .bf16)
  (x4 : Vec Ideal S4x256x1 .f32) (xs0 : Vec Ideal S2304x256 .f32) (xs1 : Vec Ideal S2304x256 .f32)
  {qb kb vb db rb : ℕ → ℕ → ℝ} {F E : ℕ → ℕ → ℝ}
  (hx0 : Is x0 qb) (hx1 : Is x1 kb) (hx2 : Is x2 vb) (hx3 : Is x3 db)
  (hx4 : ∀ (e : Fin 4) (a : Fin 256), x4 (ix3 e a (0 : Fin 1)) = ((rb e a : ℝ) : EReal))
  (hs0 : Is xs0 F) (hs1 : Is xs1 E)

/-- How many whole tiles the row block goes over. -/
abbrev full := Scf.trips (k0_t3_loop i).lb (k0_t3_loop i).ub (k0_t3_loop i).st

include hx0 hx1 hx2 hx3 hx4 hs0 hs1

set_option maxHeartbeats 1000000 in
/-- The three gradients. -/
theorem run :
    (∀ w : View sig .tc .vmem S2304x256 .bf16, Is (w.read (Elt Ideal) (w.writes (Elt Ideal) w.junk (kernelRun0_C (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.1))
      (upto F (dkF 32 (seen 16 (256 * (i 1).val)) (pr 16 qb kb vb db rb 0) (pr 16 qb kb vb db rb 1)) (256 * (i 1).val + 256))) ∧
    (∀ w : View sig .tc .vmem S2304x256 .bf16, Is (w.read (Elt Ideal) (w.writes (Elt Ideal) w.junk (kernelRun0_C (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.1))
      (upto E (dvF 32 (seen 16 (256 * (i 1).val)) (pr 16 qb kb vb db rb 0) (pr 16 qb kb vb db rb 1)) (256 * (i 1).val + 256))) ∧
    ∀ w : View sig .tc .vmem S256x256 .bf16, Is (w.read (Elt Ideal) (w.writes (Elt Ideal) w.junk (kernelRun0_C (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).1))
      (fun a b => if a < 16 then side (halves 16 ((pr 16 qb kb vb db rb 0).dq (seen 16 (256 * (i 1).val)) (256 * (i 1).val + 256))) (halves 16 ((pr 16 qb kb vb db rb 1).dq (seen 16 (256 * (i 1).val)) (256 * (i 1).val + 256))) a b else 0) := by
  have hq0 := (is_cut (is_stack ((hx0.wholeb harg2).loadb inb_S256x256_S256x128_0_0 rfl))).congr (g := (pr 16 qb kb vb db rb 0).Q) fun a l _ _ => by simp only [pr, zero_add, mul_zero]
  have hq1 := (is_cut1 (is_stack1 ((hx0.wholeb harg2).loadb inb_S256x256_S256x128_0_128 rfl))).congr (g := (pr 16 qb kb vb db rb 1).Q) fun a l _ _ => by simp only [pr, zero_add, mul_one]
  have hd0 := (is_cut2 (is_stack2 ((hx3.wholeb harg5).loadb inb_S256x256_S256x128_0_0 rfl))).congr (g := (pr 16 qb kb vb db rb 0).D) fun a l _ _ => by simp only [pr, zero_add, mul_zero]
  have hd1 := (is_cut3 (is_stack3 ((hx3.wholeb harg5).loadb inb_S256x256_S256x128_0_128 rfl))).congr (g := (pr 16 qb kb vb db rb 1).D) fun a l _ _ => by simp only [pr, zero_add, mul_one]
  have hr0 := is_rt16 (isC_load harg6 hx4 (n := 16) 0 inb_S4x256x1_S1x16x1_0_0_0) (isC_load harg6 hx4 (n := 16) 1 inb_S4x256x1_S1x16x1_1_0_0)
  have hr1 := is_rt161 (isC_load harg6 hx4 (n := 16) 2 inb_S4x256x1_S1x16x1_2_0_0) (isC_load harg6 hx4 (n := 16) 3 inb_S4x256x1_S1x16x1_3_0_0)
  have hK : Is (arg3.view.read (Elt Ideal) (harg3.unread x1)) (side (pr 16 qb kb vb db rb 0).K (pr 16 qb kb vb db rb 1).K) := by
    rw [show side (pr 16 qb kb vb db rb 0).K (pr 16 qb kb vb db rb 1).K = kb from side_pr kb]; exact hx1.wholeb harg3
  have hV : Is (arg4.view.read (Elt Ideal) (harg4.unread x2)) (side (pr 16 qb kb vb db rb 0).V (pr 16 qb kb vb db rb 1).V) := by
    rw [show side (pr 16 qb kb vb db rb 0).V (pr 16 qb kb vb db rb 1).V = vb from side_pr vb]; exact hx2.wholeb harg4
  have hb := Short.both (F := F) (E := E) (p0 := pr 16 qb kb vb db rb 0) (p1 := pr 16 qb kb vb db rb 1) (T := seen 16 (256 * (i 1).val)) Variants.none c none i arg2 harg2 arg3 harg3 arg4 harg4 arg5 harg5 arg6 harg6 (Memref.whole main_v34) (Memref.isWhole_whole _) arg8 harg8 arg9 harg9 arg10 harg10 arg11 harg11 arg12 harg12 (BitVec.ofNat 32 (i 1).val)
    (iota .tc S256x256 32 [0] iota_S256x256_d0_w32) (iota .tc S256x256 32 [1] iota_S256x256_d1_w32) k0_pay223 _ _ _ _ hc2 _ _ _ _ _ _ hK hV is_tri hq0 hq1 hd0 hd1 hr0 hr1
    (harg11.unread xs0) (harg12.unread xs1) (k0_pay191, k0_pay191, k0_pay192, k0_pay191, k0_pay191, k0_pay193) (kernelRun0_C.sl.v80 i)
    (fun a _ => by rw [trips3]; exact Nat.le_add_right _ _) (carry_zero32 _ _ _) (hs0.whole harg11) (hs1.whole harg12)
    (full i) (Scf.trips (k0_t4_loop i).lb (k0_t4_loop i).ub (k0_t4_loop i).st) rfl (trips4 i)
  have hn : (full i) = (i 1).val := trips3 i
  have hm : IsB (k0_pay184 (iota .tc S256x256 32 [0] iota_S256x256_d0_w32) (iota .tc S256x256 32 [1] iota_S256x256_d1_w32)) (fun a b => 256 * (full i) + b < seen 16 (256 * (i 1).val) a) :=
    is_mask16.congr fun a b _ _ => by rw [hn]; unfold seen; omega
  have e5 : k0_off11 i = ![256 * (full i), 0] := by rw [hn]; exact k0_off11_eq i
  have e6 : k0_off12 i = ![256 * (full i), 128] := by rw [hn]; exact k0_off12_eq i
  obtain ⟨hcr, h11, h12⟩ := hb
  have hk0 := (hK.loadb (k0_off11_inb i hc2) e5).congr (g := fun b l => (pr 16 qb kb vb db rb 0).K (256 * (full i) + b) l) fun a b _ hb => by
    have h : b < 128 := hb
    rw [side, if_pos (by omega), zero_add]
  have hk1 := (hK.loadb (k0_off12_inb i hc2) e6).congr (g := fun b l => (pr 16 qb kb vb db rb 1).K (256 * (full i) + b) l) fun a b _ hb => by
    rw [side, if_neg (by omega), Nat.add_sub_cancel_left]
  have hv0 := (hV.loadb (k0_off11_inb i hc2) e5).congr (g := fun b l => (pr 16 qb kb vb db rb 0).V (256 * (full i) + b) l) fun a b _ hb => by
    have h : b < 128 := hb
    rw [side, if_pos (by omega), zero_add]
  have hv1 := (hV.loadb (k0_off12_inb i hc2) e6).congr (g := fun b l => (pr 16 qb kb vb db rb 1).V (256 * (full i) + b) l) fun a b _ hb => by
    rw [side, if_neg (by omega), Nat.add_sub_cancel_left]
  have hI : Last.In _ (pr 16 qb kb vb db rb 0) (pr 16 qb kb vb db rb 1) _ _ _ _ _ _ _ _ _ _ _ _ _ _ := ⟨hm, is_tri, hq0, hq1, hd0, hd1, hr0, hr1, hk0, hk1, hv0, hv1, hcr⟩
  have k11 : Is (arg11.view.read (Elt Ideal) (arg11.view.writes (Elt Ideal) (harg11.unread xs0) (kernelRun0_C (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.2.1))
      (upto F (dkF 32 (seen 16 (256 * (i 1).val)) (pr 16 qb kb vb db rb 0) (pr 16 qb kb vb db rb 1)) (256 * (full i) + 256)) := by
    unfold kernelRun0_C
    dsimp only
    unfold kernelRun0_C.sl.HS0_2 kernelRun0_C.sl.HS0_1
    have := Last.acc11 (inb1 := k0_off11_inb i hc2) (inb1' := k0_off11_inb i hc2) (inb2 := k0_off12_inb i hc2) (inb2' := k0_off12_inb i hc2) hI h11 e5 e6 rfl
    refine (congrArg (fun L => Is (arg11.view.read (Elt Ideal) (arg11.view.writes (Elt Ideal) (harg11.unread xs0) L)) (upto F (dkF 32 (seen 16 (256 * (i 1).val)) (pr 16 qb kb vb db rb 0) (pr 16 qb kb vb db rb 1)) (256 * (full i) + 256))) ?_).mp this
    refine congrArg₂ List.cons ?p2 (congrArg₂ List.cons ?p1 (congrArg₂ (· ++ ·) ?a ?b))
    case b => rfl
    case a => rfl
    case p1 =>
      refine congrArg (Sigma.mk _) ?_
      congr 1
      all_goals try rfl
    case p2 =>
      refine congrArg (Sigma.mk _) ?_
      congr 1
      all_goals try rfl
  have k12 : Is (arg12.view.read (Elt Ideal) (arg12.view.writes (Elt Ideal) (harg12.unread xs1) (kernelRun0_C (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.2.2.1))
      (upto E (dvF 32 (seen 16 (256 * (i 1).val)) (pr 16 qb kb vb db rb 0) (pr 16 qb kb vb db rb 1)) (256 * (full i) + 256)) := by
    unfold kernelRun0_C
    dsimp only
    unfold kernelRun0_C.sl.HS1_2 kernelRun0_C.sl.HS1_1
    have := Last.acc12 (inb1 := k0_off11_inb i hc2) (inb1' := k0_off11_inb i hc2) (inb2 := k0_off12_inb i hc2) (inb2' := k0_off12_inb i hc2) hI h12 e5 e6 rfl
    refine (congrArg (fun L => Is (arg12.view.read (Elt Ideal) (arg12.view.writes (Elt Ideal) (harg12.unread xs1) L)) (upto E (dvF 32 (seen 16 (256 * (i 1).val)) (pr 16 qb kb vb db rb 0) (pr 16 qb kb vb db rb 1)) (256 * (full i) + 256))) ?_).mp this
    refine congrArg₂ List.cons ?p2 (congrArg₂ List.cons ?p1 (congrArg₂ (· ++ ·) ?a ?b))
    case b => rfl
    case a => rfl
    case p1 =>
      refine congrArg (Sigma.mk _) ?_
      congr 1
      all_goals try rfl
    case p2 =>
      refine congrArg (Sigma.mk _) ?_
      congr 1
      all_goals try rfl
  have d0 := (Last.dq0 hI).congr (g := (pr 16 qb kb vb db rb 0).dq (seen 16 (256 * (i 1).val)) (256 * (i 1).val + 256)) fun a b _ _ => by rw [hn]
  have d1 := (Last.dq1 hI).congr (g := (pr 16 qb kb vb db rb 1).dq (seen 16 (256 * (i 1).val)) (256 * (i 1).val + 256)) fun a b _ _ => by rw [hn]
  rw [hn] at k11 k12
  have k9 : ∀ w : View sig .tc .vmem S2304x256 .bf16, Is (w.read (Elt Ideal) (w.writes (Elt Ideal) w.junk (kernelRun0_C (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.1)) _ := fun w =>
    is_all (is_out ((k11.load inb_S2304x256_S2304x256_0_0 rfl).congr fun a b _ _ => by rw [zero_add, zero_add]))
  have k10 : ∀ w : View sig .tc .vmem S2304x256 .bf16, Is (w.read (Elt Ideal) (w.writes (Elt Ideal) w.junk (kernelRun0_C (F := Ideal) c i arg2 harg2 arg3 harg3 arg4 harg4 arg5 harg5 arg6 harg6 arg8 harg8 arg9 harg9 arg10 harg10 arg11 harg11 arg12 harg12 hc0 hc1 hc2 hc3 x0 x1 x2 x3 x4 xs0 xs1).2.2.1)) _ := fun w =>
    is_all (is_out1 ((k12.load inb_S2304x256_S2304x256_0_0 rfl).congr fun a b _ _ => by rw [zero_add, zero_add]))
  refine ⟨k9, k10, fun w => ?_⟩
  unfold kernelRun0_C
  dsimp only
  refine is_block16 ((congrArg (fun v => Is (k0_pay2 (F := Ideal) k0_pay224 v) _) ?_).mp (is_dq16 d0)) is_rest
    ((congrArg (fun v => Is (k0_pay4 (F := Ideal) k0_pay224 v) _) ?_).mp (is_dq161 d1)) is_rest1
  · unfold kernelRun0_C.sl.r_29
    congr 1
    all_goals try rfl
  · unfold kernelRun0_C.sl.r_30
    congr 1
    all_goals try rfl
end Cert.Attn.Final
-- ==== Proof.Attn.Sweep.lean ====
/- The sweep over the row blocks: what the two accumulators and the three gradients hold at every point of the grid. -/
module

public import proofs.«01_k».proof.Proof.Attn.RunA
public import proofs.«01_k».proof.Proof.Attn.RunB
public import proofs.«01_k».proof.Proof.Attn.RunC

@[expose] public section

set_option maxRecDepth 16384

noncomputable section

open Idealize.ShloMosaic Idealize.ShloMosaic.TcCoe Idealize.SL.Sem
open Cert.KernelIdeal Cert.KernelIdeal.Gen

namespace Cert.Attn

variable (m : (ℓ : Loc nD τ sig) → Buf (Elt Ideal) ℓ) (c : Dev nD) {Q K V D R : ℕ → ℕ → ℝ}

/-- The grid's points, by head group and row block. -/
theorem coord : ∀ t : Fin cfg0.N, (grid0.coords t 1).val = t.val % 9 := (by decide +kernel : ∀ t : Fin grid0.N, (grid0.coords t 1).val = t.val % 9)

/-- What the five operands' blocks hold: the arrays' rows and lanes. -/
structure Arrays (Q K V D R : ℕ → ℕ → ℝ) : Prop where
  q : ∀ t : Fin cfg0.N, Is (d := ![256, 256]) (iblk m c 0 t) (fun a l => Q (256 * (t.val % 9) + a) (256 * (t.val / 9) + l))
  k : ∀ t : Fin cfg0.N, Is (d := ![2304, 256]) (iblk m c 1 t) (fun s l => K s (256 * (t.val / 9) + l))
  v : ∀ t : Fin cfg0.N, Is (d := ![2304, 256]) (iblk m c 2 t) (fun s l => V s (256 * (t.val / 9) + l))
  d : ∀ t : Fin cfg0.N, Is (d := ![256, 256]) (iblk m c 3 t) (fun a l => D (256 * (t.val % 9) + a) (256 * (t.val / 9) + l))
  r : ∀ (t : Fin cfg0.N) (e : Fin 4) (a : Fin 256), (iblk m c 4 t : Vec Ideal S4x256x1 .f32) (ix3 e a (0 : Fin 1)) = ((R (4 * (t.val / 9) + e.val) (256 * (t.val % 9) + a.val) : ℝ) : EReal)

/-- Pair `p` of head group `g` at row block `i`, with `n` rows. -/
def pair (Q K V D R : ℕ → ℕ → ℝ) (n g i p : ℕ) : Pr :=
  pr n (fun a l => Q (256 * i + a) (256 * g + l)) (fun s l => K s (256 * g + l)) (fun s l => V s (256 * g + l))
    (fun a l => D (256 * i + a) (256 * g + l)) (fun e a => R (4 * g + e) (256 * i + a)) p

/-- The two accumulators after the first `i` row blocks. -/
def accK (Q K V D R : ℕ → ℕ → ℝ) (g : ℕ) : ℕ → ℕ → ℕ → ℝ
  | 0 => fun _ _ => 0
  | i + 1 => upto (accK Q K V D R g i) (dkF 512 (seen 256 (256 * i)) (pair Q K V D R 256 g i 0) (pair Q K V D R 256 g i 1)) (256 * i + 256)
def accV (Q K V D R : ℕ → ℕ → ℝ) (g : ℕ) : ℕ → ℕ → ℕ → ℝ
  | 0 => fun _ _ => 0
  | i + 1 => upto (accV Q K V D R g i) (dvF 512 (seen 256 (256 * i)) (pair Q K V D R 256 g i 0) (pair Q K V D R 256 g i 1)) (256 * i + 256)

/-- A block of the queries' gradient. -/
def dqF (Q K V D R : ℕ → ℕ → ℝ) (n g i : ℕ) : ℕ → ℕ → ℝ :=
  side (halves n ((pair Q K V D R n g i 0).dq (seen n (256 * i)) (256 * i + 256))) (halves n ((pair Q K V D R n g i 1).dq (seen n (256 * i)) (256 * i + 256)))

variable {m c}

/-- The first row block of a head group. -/
theorem at_first (H : Arrays m c Q K V D R) (t : Fin cfg0.N) (h0 : t.val % 9 = 0) :
    Is (d := ![2304, 256]) (outsAt0 m c t.val t.isLt).2.2.2.1 (accK Q K V D R (t.val / 9) 1) ∧
    Is (d := ![2304, 256]) (outsAt0 m c t.val t.isLt).2.2.2.2 (accV Q K V D R (t.val / 9) 1) ∧
    Is (d := ![256, 256]) (outsAt0 m c t.val t.isLt).1 (dqF Q K V D R 256 (t.val / 9) (t.val % 9)) := by
  have r := First.run (rb := fun e a => R (4 * (t.val / 9) + e) (256 * (t.val % 9) + a)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) ((hcond0_0 t).mpr h0) ((hcond0_1 t).mpr (by omega)) (fun h => (by omega : ¬ t.val % 9 = 8) ((hcond0_2 t).mp h)) (fun h => (by omega : ¬ t.val % 9 = 8) ((hcond0_3 t).mp h))
    _ _ _ _ (iblk m c 4 t) (H.q t) (H.k t) (H.v t) (H.d t) (H.r t)
  have e := coord t
  rw [outsAt0_A m c t h0 (by omega) (by omega) (by omega)]
  refine ⟨?_, ?_, ?_⟩
  · dsimp only
    unfold sout0_A_0
    refine r.1.congr fun a b _ _ => ?_
    rw [e, h0]; rfl
  · dsimp only
    unfold sout0_A_1
    refine r.2.1.congr fun a b _ _ => ?_
    rw [e, h0]; rfl
  · dsimp only
    unfold out0_A_5
    refine (r.2.2 VO0_5).congr fun a b _ _ => ?_
    rw [e]; rfl

/-- A later row block of a head group, the last left out. -/
theorem at_inner (H : Arrays m c Q K V D R) (t : Fin cfg0.N) (h0 : ¬ t.val % 9 = 0) (h1 : t.val % 9 ≤ 7)
    (hK : Is (d := ![2304, 256]) (outsAt0 m c (t.val - 1) (Nat.lt_of_le_of_lt (Nat.sub_le _ _) t.isLt)).2.2.2.1 (accK Q K V D R (t.val / 9) (t.val % 9)))
    (hV : Is (d := ![2304, 256]) (outsAt0 m c (t.val - 1) (Nat.lt_of_le_of_lt (Nat.sub_le _ _) t.isLt)).2.2.2.2 (accV Q K V D R (t.val / 9) (t.val % 9))) :
    Is (d := ![2304, 256]) (outsAt0 m c t.val t.isLt).2.2.2.1 (accK Q K V D R (t.val / 9) (t.val % 9 + 1)) ∧
    Is (d := ![2304, 256]) (outsAt0 m c t.val t.isLt).2.2.2.2 (accV Q K V D R (t.val / 9) (t.val % 9 + 1)) ∧
    Is (d := ![256, 256]) (outsAt0 m c t.val t.isLt).1 (dqF Q K V D R 256 (t.val / 9) (t.val % 9)) := by
  have r := Inner.run (rb := fun e a => R (4 * (t.val / 9) + e) (256 * (t.val % 9) + a)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) (fun h => h0 ((hcond0_0 t).mp h)) ((hcond0_1 t).mpr h1) (fun h => (by omega : ¬ t.val % 9 = 8) ((hcond0_2 t).mp h)) (fun h => (by omega : ¬ t.val % 9 = 8) ((hcond0_3 t).mp h))
    _ _ _ _ (iblk m c 4 t) _ _ (H.q t) (H.k t) (H.v t) (H.d t) (H.r t) hK hV
  have e := coord t
  rw [outsAt0_B m c t h0 h1 (by omega) (by omega)]
  refine ⟨?_, ?_, ?_⟩
  · dsimp only
    unfold sout0_B_0
    refine r.1.congr fun a b _ _ => ?_
    rw [e]; rfl
  · dsimp only
    unfold sout0_B_1
    refine r.2.1.congr fun a b _ _ => ?_
    rw [e]; rfl
  · dsimp only
    unfold out0_B_5
    refine (r.2.2 VO0_5).congr fun a b _ _ => ?_
    rw [e]; rfl

/-- The last row block of a head group. -/
theorem at_last (H : Arrays m c Q K V D R) (t : Fin cfg0.N) (h8 : t.val % 9 = 8)
    (hK : Is (d := ![2304, 256]) (outsAt0 m c (t.val - 1) (Nat.lt_of_le_of_lt (Nat.sub_le _ _) t.isLt)).2.2.2.1 (accK Q K V D R (t.val / 9) 8))
    (hV : Is (d := ![2304, 256]) (outsAt0 m c (t.val - 1) (Nat.lt_of_le_of_lt (Nat.sub_le _ _) t.isLt)).2.2.2.2 (accV Q K V D R (t.val / 9) 8)) :
    Is (d := ![2304, 256]) (outsAt0 m c t.val t.isLt).2.1
      (upto (accK Q K V D R (t.val / 9) 8) (dkF 32 (seen 16 2048) (pair Q K V D R 16 (t.val / 9) 8 0) (pair Q K V D R 16 (t.val / 9) 8 1)) 2304) ∧
    Is (d := ![2304, 256]) (outsAt0 m c t.val t.isLt).2.2.1
      (upto (accV Q K V D R (t.val / 9) 8) (dvF 32 (seen 16 2048) (pair Q K V D R 16 (t.val / 9) 8 0) (pair Q K V D R 16 (t.val / 9) 8 1)) 2304) ∧
    Is (d := ![256, 256]) (outsAt0 m c t.val t.isLt).1 (fun a b => if a < 16 then dqF Q K V D R 16 (t.val / 9) 8 a b else 0) := by
  have r := Final.run (rb := fun e a => R (4 * (t.val / 9) + e) (256 * (t.val % 9) + a)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    scM0_0 (Memref.isWhole_whole _) scM0_1 (Memref.isWhole_whole _) (fun h => (by omega : ¬ t.val % 9 = 0) ((hcond0_0 t).mp h)) (fun h => (by omega : ¬ t.val % 9 ≤ 7) ((hcond0_1 t).mp h)) ((hcond0_2 t).mpr h8) ((hcond0_3 t).mpr h8)
    _ _ _ _ (iblk m c 4 t) _ _ (H.q t) (H.k t) (H.v t) (H.d t) (H.r t) hK hV
  have e := coord t
  rw [outsAt0_C m c t (by omega) (by omega) h8 h8]
  refine ⟨?_, ?_, ?_⟩
  · dsimp only
    unfold out0_C_6
    refine (r.1 VO0_6).congr fun a b _ _ => ?_
    rw [e, h8]; rfl
  · dsimp only
    unfold out0_C_7
    refine (r.2.1 VO0_7).congr fun a b _ _ => ?_
    rw [e, h8]; rfl
  · dsimp only
    unfold out0_C_5
    refine (r.2.2 VO0_5).congr fun a b _ _ => ?_
    rw [e, h8]; rfl

/-- The accumulators after every row block but the last. -/
theorem acc (H : Arrays m c Q K V D R) : ∀ (n : ℕ) (hn : n < cfg0.N), n % 9 ≤ 7 →
    Is (d := ![2304, 256]) (outsAt0 m c n hn).2.2.2.1 (accK Q K V D R (n / 9) (n % 9 + 1)) ∧
    Is (d := ![2304, 256]) (outsAt0 m c n hn).2.2.2.2 (accV Q K V D R (n / 9) (n % 9 + 1)) ∧
    Is (d := ![256, 256]) (outsAt0 m c n hn).1 (dqF Q K V D R 256 (n / 9) (n % 9)) := by
  intro n
  induction n with
  | zero => intro hn _; exact at_first H ⟨0, hn⟩ rfl
  | succ n ih =>
    intro hn h
    by_cases h0 : (n + 1) % 9 = 0
    · have r := at_first H ⟨n + 1, hn⟩ h0
      rw [show (n + 1) % 9 + 1 = 1 by omega]
      exact r
    · have p := ih (Nat.lt_of_succ_lt hn) (by omega)
      rw [show n / 9 = (n + 1) / 9 by omega, show n % 9 + 1 = (n + 1) % 9 by omega] at p
      exact at_inner H ⟨n + 1, hn⟩ h0 h p.1 p.2.1

/-- The three gradients after the last row block. -/
theorem grads (H : Arrays m c Q K V D R) (t : Fin cfg0.N) (h8 : t.val % 9 = 8) :
    Is (d := ![2304, 256]) (outsAt0 m c t.val t.isLt).2.1
      (upto (accK Q K V D R (t.val / 9) 8) (dkF 32 (seen 16 2048) (pair Q K V D R 16 (t.val / 9) 8 0) (pair Q K V D R 16 (t.val / 9) 8 1)) 2304) ∧
    Is (d := ![2304, 256]) (outsAt0 m c t.val t.isLt).2.2.1
      (upto (accV Q K V D R (t.val / 9) 8) (dvF 32 (seen 16 2048) (pair Q K V D R 16 (t.val / 9) 8 0) (pair Q K V D R 16 (t.val / 9) 8 1)) 2304) ∧
    Is (d := ![256, 256]) (outsAt0 m c t.val t.isLt).1 (fun a b => if a < 16 then dqF Q K V D R 16 (t.val / 9) 8 a b else 0) := by
  have p := acc H (t.val - 1) (Nat.lt_of_le_of_lt (Nat.sub_le _ _) t.isLt) (by omega)
  rw [show (t.val - 1) / 9 = t.val / 9 by omega, show (t.val - 1) % 9 + 1 = 8 by omega] at p
  exact at_last H t h8 p.1 p.2.1

end Cert.Attn
-- ==== Proof.Attn.Sum.lean ====
/- The sums over the rows: what the sweep over the row blocks leaves, head by head and row by row. -/
module

public import proofs.«01_k».proof.Proof.Attn.Sweep
public import proofs.«01_k».proof.Proof.Attn.Row

@[expose] public section

noncomputable section

namespace Cert.Attn

open Finset

/-- The product of a head's row with a head's column. -/
def hd (X Y : ℕ → ℕ → ℝ) (h t s : ℕ) : ℝ := ∑ l ∈ range 64, X t (64 * h + l) * Y s (64 * h + l)

/-- A head's weights and the gradient of its scores. -/
def wH (Q K R : ℕ → ℕ → ℝ) (h t s : ℕ) : ℝ := A id (hd Q K h) (R h) t s
def zH (Q K V D R : ℕ → ℕ → ℝ) (h t s : ℕ) : ℝ := DZ id (hd Q K h) (hd D V h) (R h) t s

theorem wH_out {Q K R : ℕ → ℕ → ℝ} {h t s : ℕ} (e : t ≤ s) : wH Q K R h t s = 0 := A_out e
theorem zH_out {Q K V D R : ℕ → ℕ → ℝ} {h t s : ℕ} (e : t ≤ s) : zH Q K V D R h t s = 0 := DZ_out e

/-- Stacked rows times columns are the two heads' products. -/
theorem NT_stack0 {n a : ℕ} (ha : a < n) (f k : ℕ → ℕ → ℝ) (b : ℕ) : NT (stack n f) k a b = ∑ l ∈ range 64, f a l * k b l := by
  rw [NT, show (128 : ℕ) = 64 + 64 from rfl, sum_range_add, sum_eq_zero (s := range 64) (f := fun x => stack n f a (64 + x) * k b (64 + x)), add_zero]
  · exact sum_congr rfl fun l hl => by rw [mem_range] at hl; rw [stack, if_pos ha, if_pos hl]
  · intro l hl; rw [stack, if_pos ha, if_neg (by omega), zero_mul]

theorem NT_stack1 {n a : ℕ} (ha : n ≤ a) (f k : ℕ → ℕ → ℝ) (b : ℕ) :
    NT (stack n f) k a b = ∑ l ∈ range 64, f (a - n) (64 + l) * k b (64 + l) := by
  rw [NT, show (128 : ℕ) = 64 + 64 from rfl, sum_range_add, sum_eq_zero (s := range 64) (f := fun x => stack n f a x * k b x), zero_add]
  · exact sum_congr rfl fun l hl => by rw [stack, if_neg (by omega), if_neg (by omega)]
  · intro l hl; rw [mem_range] at hl; rw [stack, if_neg (by omega), if_pos hl, zero_mul]

/-- Columns of stacked rows times the rows keep the head of the lane. -/
theorem TN_stack {n : ℕ} (x f : ℕ → ℕ → ℝ) (y : ℕ → ℕ → ℝ) (s l : ℕ) (hl : l < 128)
    (h0 : ∀ a < n, x a s = y 0 a) (h1 : ∀ a < n, x (n + a) s = y 1 a) :
    TN (n + n) x (stack n f) s l = ∑ a ∈ range n, y (l / 64) a * f a l := by
  rw [TN, sum_range_add]
  by_cases e : l < 64
  · rw [show l / 64 = 0 by omega, sum_eq_zero (s := range n) (f := fun i => x (n + i) s * stack n f (n + i) l), add_zero]
    · exact sum_congr rfl fun a ha => by rw [mem_range] at ha; rw [stack, if_pos ha, if_pos e, h0 a ha]
    · intro a _; rw [stack, if_neg (by omega), if_pos e, mul_zero]
  · rw [show l / 64 = 1 by omega, sum_eq_zero (s := range n) (f := fun i => x i s * stack n f i l), zero_add]
    · exact sum_congr rfl fun a ha => by
        rw [mem_range] at ha; rw [stack, if_neg (by omega), if_neg e, h1 a ha, Nat.add_sub_cancel_left]
    · intro a ha; rw [mem_range] at ha; rw [stack, if_pos ha, if_neg e, mul_zero]

variable (Q K V D R : ℕ → ℕ → ℝ)

/-- The arrays of a pair. -/
theorem pair_Q (n g i p : ℕ) : (pair Q K V D R n g i p).Q = stack n fun a l => Q (256 * i + a) (256 * g + (128 * p + l)) := rfl
theorem pair_D (n g i p : ℕ) : (pair Q K V D R n g i p).D = stack n fun a l => D (256 * i + a) (256 * g + (128 * p + l)) := rfl
theorem pair_K (n g i p : ℕ) : (pair Q K V D R n g i p).K = fun s l => K s (256 * g + (128 * p + l)) := rfl
theorem pair_V (n g i p : ℕ) : (pair Q K V D R n g i p).V = fun s l => V s (256 * g + (128 * p + l)) := rfl
theorem pair_R (n g i p : ℕ) : (pair Q K V D R n g i p).R
    = stackR n (fun a => R (4 * g + 2 * p) (256 * i + a)) (fun a => R (4 * g + 2 * p + 1) (256 * i + a)) := rfl

/-- The rows of a pair are rows of its two heads. -/
theorem pair_z0 (n g i p a s : ℕ) (ha : a < n) :
    NT (pair Q K V D R n g i p).Q (pair Q K V D R n g i p).K a s = hd Q K (4 * g + 2 * p) (256 * i + a) s := by
  rw [pair_Q, pair_K]
  refine (NT_stack0 ha _ _ _).trans (sum_congr rfl fun l _ => ?_)
  rw [show 256 * g + (128 * p + l) = 64 * (4 * g + 2 * p) + l by omega]

theorem pair_z1 (n g i p a s : ℕ) :
    NT (pair Q K V D R n g i p).Q (pair Q K V D R n g i p).K (n + a) s = hd Q K (4 * g + 2 * p + 1) (256 * i + a) s := by
  rw [pair_Q, pair_K]
  refine (NT_stack1 (Nat.le_add_right n a) _ _ _).trans (sum_congr rfl fun l _ => ?_)
  rw [show 256 * g + (128 * p + (64 + l)) = 64 * (4 * g + 2 * p + 1) + l by omega, Nat.add_sub_cancel_left]

theorem pair_g0 (n g i p a s : ℕ) (ha : a < n) :
    NT (pair Q K V D R n g i p).D (pair Q K V D R n g i p).V a s = hd D V (4 * g + 2 * p) (256 * i + a) s := by
  rw [pair_D, pair_V]
  refine (NT_stack0 ha _ _ _).trans (sum_congr rfl fun l _ => ?_)
  rw [show 256 * g + (128 * p + l) = 64 * (4 * g + 2 * p) + l by omega]

theorem pair_g1 (n g i p a s : ℕ) :
    NT (pair Q K V D R n g i p).D (pair Q K V D R n g i p).V (n + a) s = hd D V (4 * g + 2 * p + 1) (256 * i + a) s := by
  rw [pair_D, pair_V]
  refine (NT_stack1 (Nat.le_add_right n a) _ _ _).trans (sum_congr rfl fun l _ => ?_)
  rw [show 256 * g + (128 * p + (64 + l)) = 64 * (4 * g + 2 * p + 1) + l by omega, Nat.add_sub_cancel_left]

theorem pair_r0 (n g i p a : ℕ) (ha : a < n) : (pair Q K V D R n g i p).R a = R (4 * g + 2 * p) (256 * i + a) := by
  rw [pair_R, stackR, if_pos ha]

theorem pair_r1 (n g i p a : ℕ) : (pair Q K V D R n g i p).R (n + a) = R (4 * g + 2 * p + 1) (256 * i + a) := by
  rw [pair_R, stackR, if_neg (by omega), Nat.add_sub_cancel_left]

theorem seen0 (n i a : ℕ) (ha : a < n) : seen n (256 * i) a = id (256 * i + a) := by rw [seen, Nat.mod_eq_of_lt ha]; rfl
theorem seen1 (n i a : ℕ) (ha : a < n) : seen n (256 * i) (n + a) = id (256 * i + a) := by
  rw [seen, Nat.add_mod_left, Nat.mod_eq_of_lt ha]; rfl

theorem pair_dz0 (n g i p a s : ℕ) (ha : a < n) :
    (pair Q K V D R n g i p).dz (seen n (256 * i)) a s = zH Q K V D R (4 * g + 2 * p) (256 * i + a) s :=
  DZ_row (seen0 n i a ha) (fun s _ => pair_z0 Q K V D R n g i p a s ha) (fun s _ => pair_g0 Q K V D R n g i p a s ha) (pair_r0 Q K V D R n g i p a ha) s
theorem pair_dz1 (n g i p a s : ℕ) (ha : a < n) :
    (pair Q K V D R n g i p).dz (seen n (256 * i)) (n + a) s = zH Q K V D R (4 * g + 2 * p + 1) (256 * i + a) s :=
  DZ_row (seen1 n i a ha) (fun s _ => pair_z1 Q K V D R n g i p a s) (fun s _ => pair_g1 Q K V D R n g i p a s) (pair_r1 Q K V D R n g i p a) s
theorem pair_wt0 (n g i p a s : ℕ) (ha : a < n) :
    (pair Q K V D R n g i p).wt (seen n (256 * i)) a s = wH Q K R (4 * g + 2 * p) (256 * i + a) s :=
  A_row (seen0 n i a ha) (fun s _ => pair_z0 Q K V D R n g i p a s ha) (pair_r0 Q K V D R n g i p a ha) s
theorem pair_wt1 (n g i p a s : ℕ) (ha : a < n) :
    (pair Q K V D R n g i p).wt (seen n (256 * i)) (n + a) s = wH Q K R (4 * g + 2 * p + 1) (256 * i + a) s :=
  A_row (seen1 n i a ha) (fun s _ => pair_z1 Q K V D R n g i p a s) (pair_r1 Q K V D R n g i p a) s

/-- What one block's rows give to the keys' and the values' gradients. -/
theorem dkF_block (n g i s l : ℕ) (hl : l < 256) :
    dkF (n + n) (seen n (256 * i)) (pair Q K V D R n g i 0) (pair Q K V D R n g i 1) s l
      = ∑ a ∈ range n, zH Q K V D R (4 * g + l / 64) (256 * i + a) s * Q (256 * i + a) (256 * g + l) := by
  unfold dkF side
  split
  · refine (TN_stack _ (fun a l => Q (256 * i + a) (256 * g + (128 * 0 + l))) (fun j a => zH Q K V D R (4 * g + 2 * 0 + j) (256 * i + a) s) s l (by omega)
      (fun a ha => pair_dz0 Q K V D R n g i 0 a s ha) (fun a ha => pair_dz1 Q K V D R n g i 0 a s ha)).trans (sum_congr rfl fun a _ => ?_)
    rw [show 4 * g + 2 * 0 + l / 64 = 4 * g + l / 64 by omega, show 256 * g + (128 * 0 + l) = 256 * g + l by omega]
  · refine (TN_stack _ (fun a l => Q (256 * i + a) (256 * g + (128 * 1 + l))) (fun j a => zH Q K V D R (4 * g + 2 * 1 + j) (256 * i + a) s) s (l - 128) (by omega)
      (fun a ha => pair_dz0 Q K V D R n g i 1 a s ha) (fun a ha => pair_dz1 Q K V D R n g i 1 a s ha)).trans (sum_congr rfl fun a _ => ?_)
    rw [show 4 * g + 2 * 1 + (l - 128) / 64 = 4 * g + l / 64 by omega, show 256 * g + (128 * 1 + (l - 128)) = 256 * g + l by omega]

theorem dvF_block (n g i s l : ℕ) (hl : l < 256) :
    dvF (n + n) (seen n (256 * i)) (pair Q K V D R n g i 0) (pair Q K V D R n g i 1) s l
      = ∑ a ∈ range n, wH Q K R (4 * g + l / 64) (256 * i + a) s * D (256 * i + a) (256 * g + l) := by
  unfold dvF side
  split
  · refine (TN_stack _ (fun a l => D (256 * i + a) (256 * g + (128 * 0 + l))) (fun j a => wH Q K R (4 * g + 2 * 0 + j) (256 * i + a) s) s l (by omega)
      (fun a ha => pair_wt0 Q K V D R n g i 0 a s ha) (fun a ha => pair_wt1 Q K V D R n g i 0 a s ha)).trans (sum_congr rfl fun a _ => ?_)
    rw [show 4 * g + 2 * 0 + l / 64 = 4 * g + l / 64 by omega, show 256 * g + (128 * 0 + l) = 256 * g + l by omega]
  · refine (TN_stack _ (fun a l => D (256 * i + a) (256 * g + (128 * 1 + l))) (fun j a => wH Q K R (4 * g + 2 * 1 + j) (256 * i + a) s) s (l - 128) (by omega)
      (fun a ha => pair_wt0 Q K V D R n g i 1 a s ha) (fun a ha => pair_wt1 Q K V D R n g i 1 a s ha)).trans (sum_congr rfl fun a _ => ?_)
    rw [show 4 * g + 2 * 1 + (l - 128) / 64 = 4 * g + l / 64 by omega, show 256 * g + (128 * 1 + (l - 128)) = 256 * g + l by omega]

/-- A block gives nothing to the columns past its last row. -/
theorem upto_block {F g : ℕ → ℕ → ℝ} {hi s l : ℕ} (h : hi ≤ s → g s l = 0) : upto F g hi s l = F s l + g s l := by
  unfold upto
  by_cases e : s < hi
  · rw [if_pos e]
  · rw [if_neg e, h (by omega)]

theorem accK_eq (g s l : ℕ) (hl : l < 256) : ∀ i, accK Q K V D R g i s l
    = ∑ t ∈ range (256 * i), zH Q K V D R (4 * g + l / 64) t s * Q t (256 * g + l)
  | 0 => rfl
  | i + 1 => by
    have b := dkF_block Q K V D R 256 g i s l hl
    have e : accK Q K V D R g (i + 1) = upto (accK Q K V D R g i) (dkF 512 (seen 256 (256 * i)) (pair Q K V D R 256 g i 0) (pair Q K V D R 256 g i 1)) (256 * i + 256) := rfl
    rw [e, upto_block fun h => ?_, accK_eq g s l hl i, show 256 * (i + 1) = 256 * i + 256 by omega, sum_range_add]
    · exact congrArg _ b
    · exact b.trans (sum_eq_zero fun a ha => by rw [mem_range] at ha; rw [zH_out (by omega), zero_mul])

theorem accV_eq (g s l : ℕ) (hl : l < 256) : ∀ i, accV Q K V D R g i s l
    = ∑ t ∈ range (256 * i), wH Q K R (4 * g + l / 64) t s * D t (256 * g + l)
  | 0 => rfl
  | i + 1 => by
    have b := dvF_block Q K V D R 256 g i s l hl
    have e : accV Q K V D R g (i + 1) = upto (accV Q K V D R g i) (dvF 512 (seen 256 (256 * i)) (pair Q K V D R 256 g i 0) (pair Q K V D R 256 g i 1)) (256 * i + 256) := rfl
    rw [e, upto_block fun h => ?_, accV_eq g s l hl i, show 256 * (i + 1) = 256 * i + 256 by omega, sum_range_add]
    · exact congrArg _ b
    · exact b.trans (sum_eq_zero fun a ha => by rw [mem_range] at ha; rw [wH_out (by omega), zero_mul])

/-- The gradients of the keys, of the values and of the queries over all rows. -/
theorem dk_eq (g s l : ℕ) (hl : l < 256) (hs : s < 2304) :
    upto (accK Q K V D R g 8) (dkF 32 (seen 16 2048) (pair Q K V D R 16 g 8 0) (pair Q K V D R 16 g 8 1)) 2304 s l
      = ∑ t ∈ range 2064, zH Q K V D R (4 * g + l / 64) t s * Q t (256 * g + l) := by
  unfold upto
  rw [if_pos hs, accK_eq Q K V D R g s l hl, show 2064 = 256 * 8 + 16 from rfl, sum_range_add]
  exact congrArg _ (dkF_block Q K V D R 16 g 8 s l hl)

theorem dv_eq (g s l : ℕ) (hl : l < 256) (hs : s < 2304) :
    upto (accV Q K V D R g 8) (dvF 32 (seen 16 2048) (pair Q K V D R 16 g 8 0) (pair Q K V D R 16 g 8 1)) 2304 s l
      = ∑ t ∈ range 2064, wH Q K R (4 * g + l / 64) t s * D t (256 * g + l) := by
  unfold upto
  rw [if_pos hs, accV_eq Q K V D R g s l hl, show 2064 = 256 * 8 + 16 from rfl, sum_range_add]
  exact congrArg _ (dvF_block Q K V D R 16 g 8 s l hl)

theorem dq_eq (n g i a l : ℕ) (ha : a < n) (hl : l < 256) (hn : n ≤ 256) (hi : 256 * i + a < 2064) :
    dqF Q K V D R n g i a l = (∑ s ∈ range 2064, zH Q K V D R (4 * g + l / 64) (256 * i + a) s * K s (256 * g + l)) * (1 / 8) := by
  have cut : ∀ (h L : ℕ), ∑ s ∈ range (256 * i + 256), zH Q K V D R h (256 * i + a) s * K s L
      = ∑ s ∈ range 2064, zH Q K V D R h (256 * i + a) s * K s L := fun h L => by
    rw [← sum_subset (range_subset_range.2 (by omega : 256 * i + a ≤ 256 * i + 256)) (fun s _ hs => by
      rw [mem_range, not_lt] at hs; rw [zH_out hs, zero_mul])]
    exact sum_subset (range_subset_range.2 (by omega : 256 * i + a ≤ 2064)) (fun s _ hs => by
      rw [mem_range, not_lt] at hs; rw [zH_out hs, zero_mul])
  have two : ∀ p j, j < 128 → p < 2 → halves n ((pair Q K V D R n g i p).dq (seen n (256 * i)) (256 * i + 256)) a j
      = (∑ s ∈ range 2064, zH Q K V D R (4 * g + 2 * p + j / 64) (256 * i + a) s * K s (256 * g + (128 * p + j))) * (1 / 8) := fun p j hj hp => by
    unfold halves
    congr 1
    split
    · rw [← cut, show 4 * g + 2 * p + j / 64 = 4 * g + 2 * p by omega]
      exact sum_congr rfl fun s _ => congrArg (· * _) (pair_dz0 Q K V D R n g i p a s ha)
    · rw [← cut, show 4 * g + 2 * p + j / 64 = 4 * g + 2 * p + 1 by omega]
      exact sum_congr rfl fun s _ => congrArg (· * _) (pair_dz1 Q K V D R n g i p a s ha)
  unfold dqF side
  split
  · rw [two 0 l (by omega) (by omega), show 4 * g + 2 * 0 + l / 64 = 4 * g + l / 64 by omega, show 256 * g + (128 * 0 + l) = 256 * g + l by omega]
  · rw [two 1 (l - 128) (by omega) (by omega), show 4 * g + 2 * 1 + (l - 128) / 64 = 4 * g + l / 64 by omega,
      show 256 * g + (128 * 1 + (l - 128)) = 256 * g + l by omega]

end Cert.Attn
-- ==== Proof.Attn.Host.lean ====
/- The five operands the host prepares, at real arguments. -/
module

public import proofs.«01_k».proof.Proof.Attn.RefG
public import proofs.«01_k».proof.Proof.Attn.Sum

@[expose] public section

set_option maxRecDepth 16384

noncomputable section

open Idealize.ShloMosaic Idealize.ShloMosaic.TcCoe Idealize.SL.Sem
open Cert.KernelIdeal Cert.KernelIdeal.Gen

namespace Cert.Attn

variable (m : (ℓ : Loc nD τ sig) → Buf (Elt Ideal) ℓ) (c : Dev nD)
variable {Q K V' D : ℕ → ℕ → ℕ → ℝ}

theorem idx : ∀ t : Fin cfg0.N, win0_0.index t = ![t.val % 9, t.val / 9] ∧ win0_1.index t = ![0, t.val / 9] ∧ win0_2.index t = ![0, t.val / 9]
    ∧ win0_3.index t = ![t.val % 9, t.val / 9] ∧ win0_4.index t = ![t.val / 9, t.val % 9, 0] ∧ win0_5.index t = ![t.val % 9, t.val / 9]
    ∧ win0_6.index t = ![0, t.val / 9] ∧ win0_7.index t = ![0, t.val / 9] ∧ t.val < 36 :=
  (by decide +kernel : ∀ t : Fin grid0.N, _)

/-- The heads side by side, zero below the last row. -/
def flat (X : ℕ → ℕ → ℕ → ℝ) (t c : ℕ) : ℝ := if t < 2064 then X (c / 64) t (c % 64) else 0

/-- The scores' operand: scaled, the heads side by side, zero rows below. -/
theorem V_q : Gen.V m c main_v5 = truncf .bf16 (pad S2304x1024 ![0, 0] ![240, 0] ![0, 0] (shapeCast S2064x1024 (shapeCast S2064x16x64
    (mulf (m ((c : Thread nD τ).loc main_arg0)) (broadcastInDim S1x2064x16x64 ![] bcast_S_S1x2064x16x64 (constant S_ .f32 0x3E000000#32)))
    shapeCasts_S1x2064x16x64_S2064x16x64) shapeCasts_S2064x16x64_S2064x1024) (sitofp (F := Ideal) .f32 (constantI S_ 32 0#32))
    pads_S2064x1024_S2304x1024_02400_000 h_S_) bitsLt_bf16_f32 := by
  unfold Gen.V
  simp only [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, List.flatten_cons, List.flatten_nil, List.cons_append, List.nil_append, List.append_nil]
  entry_read
  rfl

theorem V_q_at (hq : IsH (m ((c : Thread nD τ).loc main_arg0)) Q) (r : Fin 2304) (l : Fin 1024) :
    (Gen.V m c main_v5 : Vec Ideal S2304x1024 .bf16) (ix2 r l) = ((flat (fun h t l => Q h t l * (1 / 8)) r l : ℝ) : EReal) := by
  rw [V_q]
  pointwise
  unfold flat
  by_cases hr : r.val < 2064
  · rw [dif_pos hr, if_pos hr, hq _ _ _, eighth_bits, ← EReal.coe_mul]
  · rw [dif_neg hr, if_neg hr, sitofp_zero]

/-- A head-split argument, the heads side by side, zero rows below. -/
def wide (x : Vec Ideal S1x2064x16x64 .f32) : Vec Ideal S2304x1024 .bf16 :=
  truncf .bf16 (pad S2304x1024 ![0, 0] ![240, 0] ![0, 0] (shapeCast S2064x1024 (shapeCast S2064x16x64 x
    shapeCasts_S1x2064x16x64_S2064x16x64) shapeCasts_S2064x16x64_S2064x1024) (sitofp (F := Ideal) .f32 (constantI S_ 32 0#32))
    pads_S2064x1024_S2304x1024_02400_000 h_S_) bitsLt_bf16_f32

theorem wide_at {x : Vec Ideal S1x2064x16x64 .f32} {X : ℕ → ℕ → ℕ → ℝ} (hx : IsH x X) (r : Fin 2304) (l : Fin 1024) :
    wide x (ix2 r l) = ((flat X r l : ℝ) : EReal) := by
  pointwise [wide]
  unfold flat
  by_cases hr : r.val < 2064
  · rw [dif_pos hr, if_pos hr, hx _ _ _]
  · rw [dif_neg hr, if_neg hr, sitofp_zero]

theorem V_k : Gen.V m c main_v9 = wide (m ((c : Thread nD τ).loc main_arg1)) := by
  unfold Gen.V
  simp only [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, List.flatten_cons, List.flatten_nil, List.cons_append, List.nil_append, List.append_nil]
  entry_read
  rfl

theorem V_v : Gen.V m c main_v13 = wide (m ((c : Thread nD τ).loc main_arg2)) := by
  unfold Gen.V
  simp only [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, List.flatten_cons, List.flatten_nil, List.cons_append, List.nil_append, List.append_nil]
  entry_read
  rfl

theorem V_d : Gen.V m c main_v17 = wide (m ((c : Thread nD τ).loc main_arg3)) := by
  unfold Gen.V
  simp only [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, List.flatten_cons, List.flatten_nil, List.cons_append, List.nil_append, List.append_nil]
  entry_read
  rfl

/-- The scores of every pair of rows, as the host writes them. -/
def hz (q k : FVec Ideal S1x2064x16x64 .f32) : FVec Ideal S1x16x2064x2064 .f32 :=
  mulf (F := Ideal) (Host.dotGeneral dot_S1x2064x16x64_S1x2064x16x64_S1x16x2064x2064_3_3_1_1_02_02 none q k)
    (broadcastInDim S1x16x2064x2064 ![] bcast_S_S1x16x2064x2064 (constant S_ .f32 0x3E000000#32))

/-- Zero at every pair. -/
def h0 : FVec Ideal S1x16x2064x2064 .f32 := broadcastInDim S1x16x2064x2064 ![] bcast_S_S1x16x2064x2064 (constant S_ .f32 0x00000000#32)

/-- The softplus, as the host writes it. -/
def hsp (z : FVec Ideal S1x16x2064x2064 .f32) : FVec Ideal S1x16x2064x2064 .f32 :=
  select (cmpf (F := Ideal) .une (subf (F := Ideal) z h0) (subf (F := Ideal) z h0)) (addf (F := Ideal) z h0)
    (addf (F := Ideal) (maximumf (F := Ideal) z h0) (Host.log1p (F := Ideal) (Host.exp (F := Ideal) (Host.negf (F := Ideal) (Host.absf (F := Ideal) (subf (F := Ideal) z h0))))))

/-- Whether the column lies before the row. -/
def hmask : Vec Ideal S1x16x2064x2064 .i1 :=
  broadcastInDim S1x16x2064x2064 ![2, 3] bcast_S2064x2064_S1x16x2064x2064_2_3
    (cmpi .slt (broadcastInDim S2064x2064 ![0, 1] bcast_S1x2064_S2064x2064_0_1 (broadcastInDim S1x2064 ![1] bcast_S2064_S1x2064_1 (iotaInDim S2064 32 0)))
      (broadcastInDim S2064x2064 ![0, 1] bcast_S2064x1_S2064x2064_0_1 (broadcastInDim S2064x1 ![0] bcast_S2064_S2064x1_0 (iotaInDim S2064 32 0))))

/-- The softplus of the seen columns, as the host writes it. -/
def hS (q k : FVec Ideal S1x2064x16x64 .f32) : FVec Ideal S1x16x2064x2064 .f32 := select hmask (hsp (hz q k)) h0

/-- Its totals from each column on. -/
def hcum (q k : FVec Ideal S1x2064x16x64 .f32) : FVec Ideal S1x16x2064x2064 .f32 :=
  Host.reduceWindowAdd (F := Ideal) ![1, 1, 1, 2064] ![1, 1, 1, 1] ![0, 0, 0, 0] ![0, 0, 0, 2063] (hS q k)
    (broadcastInDim S_ ![] bcast_S_S_ (constant S_ .f32 0x00000000#32))
    reduceWindows_S1x16x2064x2064_S1x16x2064x2064_w1s1p0_0_w1s1p0_0_w1s1p0_0_w2064s1p0_2063 h_S_

theorem V_r : Gen.V m c main_v33 = pad S16x2304x1 ![0, 0, 0] ![0, 240, 0] ![0, 0, 0]
    (shapeCast S16x2064x1 (extractStridedSlice S1x16x2064x1 ![0, 0, 0, 0]
      (hcum (m ((c : Thread nD τ).loc main_arg0)) (m ((c : Thread nD τ).loc main_arg1))) slices_S1x16x2064x2064_S1x16x2064x1_0_0_0_0) shapeCasts_S1x16x2064x1_S16x2064x1)
    (sitofp (F := Ideal) .f32 (constantI S_ 32 0#32)) pads_S16x2064x1_S16x2304x1_000_02400_000 h_S_ := by
  unfold Gen.V
  simp only [hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, List.flatten_cons, List.flatten_nil, List.cons_append, List.nil_append, List.append_nil]
  entry_read
  rfl

variable {q k : Vec Ideal S1x2064x16x64 .f32} (h : Fin 16) (t s : Fin 2064)

theorem hz_at (hq : IsH q Q) (hk : IsH k K) : hz q k (ix4 (0 : Fin 1) h t s) = ((sc Q K h t s : ℝ) : EReal) := by
  pointwise [hz]
  simp only [hq _ _ _, hk _ _ _]
  rw [coe_sum_mul' 64 (Q h t) (K h s), eighth_bits, ← EReal.coe_mul]
  rfl

theorem hsp_at {x : Vec Ideal S1x16x2064x2064 .f32} {z : ℝ} (hz : x (ix4 (0 : Fin 1) h t s) = (z : EReal)) :
    hsp x (ix4 (0 : Fin 1) h t s) = ((sp z : ℝ) : EReal) := by
  pointwise [hsp, h0]
  rw [hz]
  exact softplus_at z

theorem hmask_at : hmask (ix4 (0 : Fin 1) h t s) = 1 ↔ s.val < t.val := by
  have hs := s.isLt
  have ht := t.isLt
  pointwise [hmask]
  exact WordCmp.cmpi_slt_ofNat_eq_one_iff (by omega) (by omega)

theorem hS_at (hq : IsH q Q) (hk : IsH k K) : hS q k (ix4 (0 : Fin 1) h t s) = ((S id (sc Q K h) t s : ℝ) : EReal) := by
  have e := hsp_at h t s (hz_at h t s hq hk)
  have i := hmask_at h t s
  pointwise [hS, h0]
  rw [e]
  unfold Scalar.select S
  by_cases hm : s.val < t.val
  · rw [if_pos (i.2 hm)]; exact congrArg _ (if_pos hm).symm
  · rw [if_neg (fun h => hm (i.1 h))]
    refine Eq.trans ?_ (congrArg (fun r : ℝ => (r : EReal)) (if_neg hm : _ = (0 : ℝ)).symm)
    first | exact zero_bits | exact EReal.coe_zero.symm

theorem hcum_at (hq : IsH q Q) (hk : IsH k K) : hcum q k (ix4 (0 : Fin 1) h t s)
    = ((∑ n ∈ Finset.range (2064 - s), S id (sc Q K h) t (s + n) : ℝ) : EReal) := by
  unfold hcum Host.reduceWindowAdd
  have e0 : (broadcastInDim S_ ![] bcast_S_S_ (constant (F := Ideal) S_ .f32 0x00000000#32)) (Shape.Idx.first h_S_) = (0 : EReal) := by
    pointwise
  rw [e0]
  exact cum_from _ _ (0 : Fin 1) h t s (S id (sc Q K h) t) fun s => hS_at h t s hq hk

/-- A row's total over the seen columns, zero below the last row. -/
def flatR (Q K : ℕ → ℕ → ℕ → ℝ) (h t : ℕ) : ℝ := if t < 2064 then tot Q K h t else 0

theorem V_r_at (hq : IsH (m ((c : Thread nD τ).loc main_arg0)) Q) (hk : IsH (m ((c : Thread nD τ).loc main_arg1)) K) (h : Fin 16) (r : Fin 2304) :
    (Gen.V m c main_v33 : Vec Ideal S16x2304x1 .f32) (ix3 h r (0 : Fin 1)) = ((flatR Q K h r : ℝ) : EReal) := by
  rw [V_r]
  pointwise
  unfold flatR
  by_cases hr : r.val < 2064
  · rw [dif_pos hr, if_pos hr]
    refine (hcum_at h ⟨r.val, hr⟩ 0 hq hk).trans (congrArg _ ?_)
    exact Finset.sum_congr rfl fun n _ => congrArg (S id (sc Q K h) r.val) (Nat.zero_add n)
  · rw [dif_neg hr, if_neg hr, sitofp_zero]

theorem blk_q (hq : IsH (m ((c : Thread nD τ).loc main_arg0)) Q) (t : Fin cfg0.N) :
    Is (d := ![256, 256]) (iblk m c 0 t) (fun a l => flat (fun h t l => Q h t l * (1 / 8)) (256 * (t.val % 9) + a) (256 * (t.val / 9) + l)) := fun y => by
  have h0 : (y 0).val < 256 := (y 0).isLt
  have h1 : (y 1).val < 256 := (y 1).isLt
  have ht := (idx t).2.2.2.2.2.2.2.2
  unfold iblk
  blk_simp [idx t]
  refine (congrArg (Gen.V m c main_v5) (?_ : _ = ix2 ⟨256 * (t.val % 9) + (y 0).val, by omega⟩ ⟨256 * (t.val / 9) + (y 1).val, by omega⟩)).trans (V_q_at m c hq _ _)
  blk_ext [idx t]

theorem blk_k (hk : IsH (m ((c : Thread nD τ).loc main_arg1)) K) (t : Fin cfg0.N) :
    Is (d := ![2304, 256]) (iblk m c 1 t) (fun s l => flat K s (256 * (t.val / 9) + l)) := fun y => by
  have h0 : (y 0).val < 2304 := (y 0).isLt
  have h1 : (y 1).val < 256 := (y 1).isLt
  have ht := (idx t).2.2.2.2.2.2.2.2
  unfold iblk
  blk_simp [idx t]
  refine (congrArg (Gen.V m c main_v9) (?_ : _ = ix2 ⟨(y 0).val, by omega⟩ ⟨256 * (t.val / 9) + (y 1).val, by omega⟩)).trans ((congrFun (V_k m c) _).trans (wide_at hk _ _))
  blk_ext [idx t]

theorem blk_v (hv : IsH (m ((c : Thread nD τ).loc main_arg2)) V') (t : Fin cfg0.N) :
    Is (d := ![2304, 256]) (iblk m c 2 t) (fun s l => flat V' s (256 * (t.val / 9) + l)) := fun y => by
  have h0 : (y 0).val < 2304 := (y 0).isLt
  have h1 : (y 1).val < 256 := (y 1).isLt
  have ht := (idx t).2.2.2.2.2.2.2.2
  unfold iblk
  blk_simp [idx t]
  refine (congrArg (Gen.V m c main_v13) (?_ : _ = ix2 ⟨(y 0).val, by omega⟩ ⟨256 * (t.val / 9) + (y 1).val, by omega⟩)).trans ((congrFun (V_v m c) _).trans (wide_at hv _ _))
  blk_ext [idx t]

theorem blk_d (hd : IsH (m ((c : Thread nD τ).loc main_arg3)) D) (t : Fin cfg0.N) :
    Is (d := ![256, 256]) (iblk m c 3 t) (fun a l => flat D (256 * (t.val % 9) + a) (256 * (t.val / 9) + l)) := fun y => by
  have h0 : (y 0).val < 256 := (y 0).isLt
  have h1 : (y 1).val < 256 := (y 1).isLt
  have ht := (idx t).2.2.2.2.2.2.2.2
  unfold iblk
  blk_simp [idx t]
  refine (congrArg (Gen.V m c main_v17) (?_ : _ = ix2 ⟨256 * (t.val % 9) + (y 0).val, by omega⟩ ⟨256 * (t.val / 9) + (y 1).val, by omega⟩)).trans ((congrFun (V_d m c) _).trans (wide_at hd _ _))
  blk_ext [idx t]

theorem blk_r (hq : IsH (m ((c : Thread nD τ).loc main_arg0)) Q) (hk : IsH (m ((c : Thread nD τ).loc main_arg1)) K) (t : Fin cfg0.N) (e : Fin 4) (a : Fin 256) :
    (iblk m c 4 t : Vec Ideal S4x256x1 .f32) (ix3 e a (0 : Fin 1)) = ((flatR Q K (4 * (t.val / 9) + e.val) (256 * (t.val % 9) + a.val) : ℝ) : EReal) := by
  have ht := (idx t).2.2.2.2.2.2.2.2
  unfold iblk
  blk_simp [idx t]
  refine (congrArg (Gen.V m c main_v33) (?_ : _ = ix3 ⟨4 * (t.val / 9) + e.val, by omega⟩ ⟨256 * (t.val % 9) + a.val, by omega⟩ (0 : Fin 1))).trans (V_r_at m c hq hk _ _)
  blk_ext [idx t]

/-- The operands the blocks are cut from. -/
theorem arrays (hq : IsH (m ((c : Thread nD τ).loc main_arg0)) Q) (hk : IsH (m ((c : Thread nD τ).loc main_arg1)) K)
    (hv : IsH (m ((c : Thread nD τ).loc main_arg2)) V') (hd : IsH (m ((c : Thread nD τ).loc main_arg3)) D) :
    Arrays m c (flat fun h t l => Q h t l * (1 / 8)) (flat K) (flat V') (flat D) (flatR Q K) where
  q := blk_q m c hq
  k := blk_k m c hk
  v := blk_v m c hv
  d := blk_d m c hd
  r := blk_r m c hq hk

end Cert.Attn
-- ==== Proof.Attn.Flat.lean ====
/- The sums over rows of the flat arrays are the heads' own. -/
module

public import proofs.«01_k».proof.Proof.Attn.Host

@[expose] public section

noncomputable section

namespace Cert.Attn

open Finset

variable (Q K V D : ℕ → ℕ → ℕ → ℝ)

/-- The scaled rows, the heads side by side. -/
def flatQ : ℕ → ℕ → ℝ := flat fun h t l => Q h t l * (1 / 8)

theorem flat_at {X : ℕ → ℕ → ℕ → ℝ} {h t l : ℕ} (ht : t < 2064) (hl : l < 64) : flat X t (64 * h + l) = X h t l := by
  rw [flat, if_pos ht, show (64 * h + l) / 64 = h by omega, show (64 * h + l) % 64 = l by omega]

theorem hd_z {h t s : ℕ} (ht : t < 2064) (hs : s < 2064) : hd (flatQ Q) (flat K) h t s = sc Q K h t s := by
  rw [hd, sc, sum_mul]
  refine sum_congr rfl fun l hl => ?_
  rw [mem_range] at hl
  rw [flatQ, flat_at ht hl, flat_at hs hl]
  ring

theorem hd_g {h t s : ℕ} (ht : t < 2064) (hs : s < 2064) : hd (flat D) (flat V) h t s = gp D V h t s := by
  rw [hd, gp]
  refine sum_congr rfl fun l hl => ?_
  rw [mem_range] at hl
  rw [flat_at ht hl, flat_at hs hl]

theorem wH_flat {h t : ℕ} (ht : t < 2064) (s : ℕ) : wH (flatQ Q) (flat K) (flatR Q K) h t s = wt Q K h t s :=
  A_row rfl (fun s hs => hd_z Q K ht (lt_trans (show s < t from hs) ht)) (if_pos ht) s

theorem zH_flat {h t : ℕ} (ht : t < 2064) (s : ℕ) : zH (flatQ Q) (flat K) (flat V) (flat D) (flatR Q K) h t s = dz Q K V D h t s :=
  DZ_row rfl (fun s hs => hd_z Q K ht (lt_trans (show s < t from hs) ht)) (fun s hs => hd_g V D ht (lt_trans (show s < t from hs) ht)) (if_pos ht) s

theorem dk_flat (g s l : ℕ) (hl : l < 256) :
    ∑ t ∈ range 2064, zH (flatQ Q) (flat K) (flat V) (flat D) (flatR Q K) (4 * g + l / 64) t s * flatQ Q t (256 * g + l) = dkR Q K V D s (256 * g + l) := by
  unfold dkR
  rw [show (256 * g + l) / 64 = 4 * g + l / 64 by omega, show (256 * g + l) % 64 = l % 64 by omega]
  split
  · refine sum_congr rfl fun t ht => ?_
    rw [mem_range] at ht
    rw [zH_flat Q K V D ht, show 256 * g + l = 64 * (4 * g + l / 64) + l % 64 by omega, flatQ, flat_at ht (Nat.mod_lt _ (by norm_num))]
    ring
  · refine sum_eq_zero fun t ht => ?_
    rw [mem_range] at ht
    rw [zH_out (by omega), zero_mul]

theorem dv_flat (g s l : ℕ) (hl : l < 256) :
    ∑ t ∈ range 2064, wH (flatQ Q) (flat K) (flatR Q K) (4 * g + l / 64) t s * flat D t (256 * g + l) = dvR Q K D s (256 * g + l) := by
  unfold dvR
  rw [show (256 * g + l) / 64 = 4 * g + l / 64 by omega, show (256 * g + l) % 64 = l % 64 by omega]
  split
  · refine sum_congr rfl fun t ht => ?_
    rw [mem_range] at ht
    rw [wH_flat Q K ht, show 256 * g + l = 64 * (4 * g + l / 64) + l % 64 by omega, flat_at ht (Nat.mod_lt _ (by norm_num))]
    ring
  · refine sum_eq_zero fun t ht => ?_
    rw [mem_range] at ht
    rw [wH_out (by omega), zero_mul]

theorem dq_flat (g t l : ℕ) (hl : l < 256) (ht : t < 2064) :
    (∑ s ∈ range 2064, zH (flatQ Q) (flat K) (flat V) (flat D) (flatR Q K) (4 * g + l / 64) t s * flat K s (256 * g + l)) * (1 / 8) = dqR Q K V D t (256 * g + l) := by
  unfold dqR
  rw [if_pos ht, show (256 * g + l) / 64 = 4 * g + l / 64 by omega, show (256 * g + l) % 64 = l % 64 by omega, sum_mul]
  refine sum_congr rfl fun s hs => ?_
  rw [mem_range] at hs
  rw [zH_flat Q K V D ht, show 256 * g + l = 64 * (4 * g + l / 64) + l % 64 by omega, flat_at hs (Nat.mod_lt _ (by norm_num))]
  ring

end Cert.Attn
-- ==== Proof.Attn.Final.lean ====
/- The three gradients after the run. -/
module

public import proofs.«01_k».proof.Proof.Attn.Flat

@[expose] public section

set_option maxRecDepth 16384

noncomputable section

open Idealize.ShloMosaic Idealize.ShloMosaic.TcCoe Idealize.SL.Sem
open Cert.KernelIdeal Cert.KernelIdeal.Gen
open Idealize.ShloMosaic.Pipeline (Dat)

namespace Cert.Attn

variable (m : (ℓ : Loc nD τ sig) → Buf (Elt Ideal) ℓ) (c : Dev nD)
variable {Q K V' D : ℕ → ℕ → ℕ → ℝ}

/-- The keys' and the values' gradients leave with a head group's last block. -/
theorem last6 : ∀ t : Fin cfg0.N, (cfg0.win 6).flush t = true → t.val % 9 = 8 := (by decide +kernel : ∀ t : Fin grid0.N, _)
theorem last7 : ∀ t : Fin cfg0.N, (cfg0.win 7).flush t = true → t.val % 9 = 8 := (by decide +kernel : ∀ t : Fin grid0.N, _)

/-- A block of the queries' gradient. -/
theorem point5 (H : Arrays m c (flatQ Q) (flat K) (flat V') (flat D) (flatR Q K)) (t : Fin cfg0.N) (y : (⟨2, ![256, 256]⟩ : Shape).Idx) :
    (outsAt0 m c t.val t.isLt).1 y = ((dqR Q K V' D (256 * (t.val % 9) + (y 0).val) (256 * (t.val / 9) + (y 1).val) : ℝ) : EReal) := by
  have h0 : (y 0).val < 256 := (y 0).isLt
  have h1 : (y 1).val < 256 := (y 1).isLt
  by_cases h : t.val % 9 = 8
  · refine ((grads H t h).2.2 y).trans (congrArg _ ?_)
    beta_reduce
    by_cases ha : (y 0).val < 16
    · rw [if_pos ha, dq_eq _ _ _ _ _ 16 _ _ _ _ ha h1 (by omega) (by omega), h, dq_flat Q K V' D _ _ _ h1 (by omega)]
    · rw [if_neg ha, dqR, if_neg (by omega)]
  · refine ((acc H t.val t.isLt (by omega)).2.2 y).trans (congrArg _ ?_)
    rw [dq_eq _ _ _ _ _ 256 _ _ _ _ h0 h1 le_rfl (by omega), dq_flat Q K V' D _ _ _ h1 (by omega)]

theorem final5 (hq : IsH (m ((c : Thread nD τ).loc main_arg0)) Q) (hk : IsH (m ((c : Thread nD τ).loc main_arg1)) K)
    (hv : IsH (m ((c : Thread nD τ).loc main_arg2)) V') (hd : IsH (m ((c : Thread nD τ).loc main_arg3)) D) :
    (dats m 0 c).arrAt 5 (cfgs 0).N = Cert.ReferenceIdeal.Read.val_main_v38 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine (point5 m c (arrays m c hq hk hv hd) t y).trans ?_
  have h0 : (y 0).val < 256 := (y 0).isLt
  have h1 : (y 1).val < 256 := (y 1).isLt
  have ht := (idx t).2.2.2.2.2.2.2.2
  refine ((congrArg _ (?_ : _ = ix2 ⟨256 * (t.val % 9) + (y 0).val, by omega⟩ ⟨256 * (t.val / 9) + (y 1).val, by omega⟩)).trans (ref_out0 hq hk hv hd _ _)).symm
  blk_ext [idx t]

theorem final6 (hq : IsH (m ((c : Thread nD τ).loc main_arg0)) Q) (hk : IsH (m ((c : Thread nD τ).loc main_arg1)) K)
    (hv : IsH (m ((c : Thread nD τ).loc main_arg2)) V') (hd : IsH (m ((c : Thread nD τ).loc main_arg3)) D) :
    (dats m 0 c).arrAt 6 (cfgs 0).N = Cert.ReferenceIdeal.Read.val_main_v42 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 6 _ (by decide +kernel) fun t hf y => ?_
  have h8 := last6 t hf
  blk_simp
  rw [after0_6]
  have h0 : (y 0).val < 2304 := (y 0).isLt
  have h1 : (y 1).val < 256 := (y 1).isLt
  have ht := (idx t).2.2.2.2.2.2.2.2
  refine (((grads (arrays m c hq hk hv hd) t h8).1 y).trans (congrArg _ ((dk_eq _ _ _ _ _ _ _ _ h1 h0).trans (dk_flat Q K V' D _ _ _ h1)))).trans ?_
  refine ((congrArg _ (?_ : _ = ix2 ⟨(y 0).val, by omega⟩ ⟨256 * (t.val / 9) + (y 1).val, by omega⟩)).trans (ref_out1 hq hk hv hd _ _)).symm
  blk_ext [idx t]

theorem final7 (hq : IsH (m ((c : Thread nD τ).loc main_arg0)) Q) (hk : IsH (m ((c : Thread nD τ).loc main_arg1)) K)
    (hv : IsH (m ((c : Thread nD τ).loc main_arg2)) V') (hd : IsH (m ((c : Thread nD τ).loc main_arg3)) D) :
    (dats m 0 c).arrAt 7 (cfgs 0).N = Cert.ReferenceIdeal.Read.val_main_v46 (F := Ideal) (m ((c : Thread nD τ).loc main_arg0))
      (m ((c : Thread nD τ).loc main_arg1)) (m ((c : Thread nD τ).loc main_arg3)) := by
  refine (dats m 0 c).arrAt_eq_of_covers 7 _ (by decide +kernel) fun t hf y => ?_
  have h8 := last7 t hf
  blk_simp
  rw [after0_7]
  have h0 : (y 0).val < 2304 := (y 0).isLt
  have h1 : (y 1).val < 256 := (y 1).isLt
  have ht := (idx t).2.2.2.2.2.2.2.2
  refine (((grads (arrays m c hq hk hv hd) t h8).2.1 y).trans (congrArg _ ((dv_eq _ _ _ _ _ _ _ _ h1 h0).trans (dv_flat Q K D _ _ _ h1)))).trans ?_
  refine ((congrArg _ (?_ : _ = ix2 ⟨(y 0).val, by omega⟩ ⟨256 * (t.val / 9) + (y 1).val, by omega⟩)).trans (ref_out2 hq hk hd _ _)).symm
  blk_ext [idx t]

end Cert.Attn
-- ==== Proof.Attn.Claims.lean ====
/- The claims about the attention's gradients: the frames, and the kernel's three results equal to the reference's. -/
module

public import proofs.«01_k».proof.Defs
public import proofs.«01_k».proof.Proof.Gen.Kernel.Frame
public import proofs.«01_k».proof.Proof.Gen.ReferenceIdeal
public import proofs.«01_k».proof.Proof.Gen.ReferenceIdeal.Run
public import proofs.«01_k».proof.Proof.Gen.Pre_finite
public import proofs.«01_k».proof.Proof.Attn.Final
public import Idealize.ShloMosaic.Lib.Claim
public import Idealize.ShloMosaic.Lib.Quiescent

@[expose] public section

set_option maxRecDepth 16384

noncomputable section

namespace Cert.Attn

open Idealize.ShloMosaic Idealize.ShloMosaic.TcCoe Idealize.SL.Sem

theorem frame : Cert.quiescent_Kernel (hKernel := Cert.Kernel.Gen.facts) :=
  fun m g _ => Cert.Kernel.Gen.frame m g

theorem frame_ideal : Cert.quiescent_KernelIdeal (hKernelIdeal := Cert.KernelIdeal.Gen.facts) :=
  fun m g _ => Cert.KernelIdeal.Gen.frame m g

theorem frame_ideal_finite : Cert.quiescent_KernelIdeal_pre_finite (hKernelIdeal := Cert.KernelIdeal.Gen.facts) (hPre_finite := Cert.Pre_finite.Gen.facts) :=
  fun m g _ => Cert.KernelIdeal.Gen.frame m g

theorem frame_ref : Cert.quiescent_ReferenceIdeal (hReferenceIdeal := Cert.ReferenceIdeal.Gen.facts) :=
  fun m g _ => (θ_run Cert.ReferenceIdeal.defs _ _).mono
    (fun r h => ⟨fun c => (h c).2.2.2, sem_eq_zero_of_no_sems (by decide) r.2⟩) (Cert.ReferenceIdeal.Value.run m g)

theorem frame_ref_finite : Cert.quiescent_ReferenceIdeal_pre_finite (hReferenceIdeal := Cert.ReferenceIdeal.Gen.facts) (hPre_finite := Cert.Pre_finite.Gen.facts) :=
  fun m g _ => frame_ref m g trivial

/-- A value whose size is below the top is a number. -/
theorem real_of_lt {x : EReal} (h : FloatOps.cmpf (F := Ideal) (φ := .f32) .olt (max x (-x)) (Ideal.ofBits .f32 0x7F800000#32) = 1#1) : x = ((x.toReal : ℝ) : EReal) := by
  rw [top_bits] at h
  have hlt : max x (-x) < ⊤ := by
    by_contra hn
    have : FloatOps.cmpf (F := Ideal) (φ := .f32) .olt (max x (-x)) ⊤ = 0#1 := by
      simp [FloatOps.cmpf, Ideal.cmp, hn]
    rw [this] at h
    exact absurd h (by decide)
  refine (EReal.coe_toReal (fun e => ?_) fun e => ?_).symm
  · rw [e] at hlt; simp at hlt
  · rw [e] at hlt; simp at hlt

/-- The entries of an array of numbers. -/
def entry (x : FVec Ideal Cert.KernelIdeal.S1x2064x16x64 .f32) (h t l : ℕ) : ℝ :=
  if hb : h < 16 ∧ t < 2064 ∧ l < 64 then (x (ix4 (0 : Fin 1) ⟨t, hb.2.1⟩ ⟨h, hb.1⟩ ⟨l, hb.2.2⟩) : EReal).toReal else 0

theorem entry_is {x : FVec Ideal Cert.KernelIdeal.S1x2064x16x64 .f32} (h : ∀ i, (x i : EReal) = (((x i : EReal).toReal : ℝ) : EReal)) : IsH x (entry x) :=
  fun t e l => (h _).trans (congrArg _ (dif_pos ⟨e.isLt, t.isLt, l.isLt⟩ : entry x e t l = _).symm)

section
variable (m : (ℓ : Loc Cert.KernelIdeal.nD Cert.KernelIdeal.τ Cert.KernelIdeal.sig) → Buf (Elt Ideal) ℓ)

theorem reals (h : Cert.Pre_KernelIdeal_finite (hPre_finite := Cert.Pre_finite.Gen.facts) m) (c : Dev Cert.KernelIdeal.nD) :
    (∃ Q, IsH (m ((c : Thread Cert.KernelIdeal.nD Cert.KernelIdeal.τ).loc Cert.KernelIdeal.main_arg0)) Q)
    ∧ (∃ K, IsH (m ((c : Thread Cert.KernelIdeal.nD Cert.KernelIdeal.τ).loc Cert.KernelIdeal.main_arg1)) K)
    ∧ (∃ V, IsH (m ((c : Thread Cert.KernelIdeal.nD Cert.KernelIdeal.τ).loc Cert.KernelIdeal.main_arg2)) V)
    ∧ ∃ D, IsH (m ((c : Thread Cert.KernelIdeal.nD Cert.KernelIdeal.τ).loc Cert.KernelIdeal.main_arg3)) D :=
  ⟨⟨_, entry_is fun i => real_of_lt (congrFun (h c).1 i)⟩, ⟨_, entry_is fun i => real_of_lt (congrFun (h c).2.1 i)⟩,
    ⟨_, entry_is fun i => real_of_lt (congrFun (h c).2.2.1 i)⟩, ⟨_, entry_is fun i => real_of_lt (congrFun (h c).2.2.2 i)⟩⟩
end

section
variable {x0 x1 x2 x3 y0 y1 y2 y3 : FVec Ideal Cert.KernelIdeal.S1x2064x16x64 .f32}

/-- Equal arguments have equal gradients. -/
theorem same5 (e0 : x0 = y0) (e1 : x1 = y1) (e2 : x2 = y2) (e3 : x3 = y3) :
    Cert.ReferenceIdeal.Read.val_main_v38 (F := Ideal) x0 x1 x2 x3 = Cert.ReferenceIdeal.Read.val_main_v38 y0 y1 y2 y3 := by rw [e0, e1, e2, e3]
theorem same6 (e0 : x0 = y0) (e1 : x1 = y1) (e2 : x2 = y2) (e3 : x3 = y3) :
    Cert.ReferenceIdeal.Read.val_main_v42 (F := Ideal) x0 x1 x2 x3 = Cert.ReferenceIdeal.Read.val_main_v42 y0 y1 y2 y3 := by rw [e0, e1, e2, e3]
theorem same7 (e0 : x0 = y0) (e1 : x1 = y1) (e3 : x3 = y3) :
    Cert.ReferenceIdeal.Read.val_main_v46 (F := Ideal) x0 x1 x3 = Cert.ReferenceIdeal.Read.val_main_v46 y0 y1 y3 := by rw [e0, e1, e3]
end

set_option maxHeartbeats 2000000 in
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · refine (θ_run Cert.ReferenceIdeal.defs _ _).mono (fun r h c => ?_) (Cert.ReferenceIdeal.Value.run m' g')
    obtain ⟨⟨Q, hq⟩, ⟨K, hk⟩, ⟨V, hv⟩, ⟨D, hd⟩⟩ := reals m hpre c
    have a0 := (hagree c).1
    have a1 := (hagree c).2.1
    have a2 := (hagree c).2.2.1
    have a3 := (hagree c).2.2.2
    have h5 := final5 m c hq hk hv hd
    have h6 := final6 m c hq hk hv hd
    have h7 := final7 m c hq hk hv hd
    have r5 := (h c).1.trans (Cert.ReferenceIdeal.Read.val_main_v38_eq m' c)
    have r6 := (h c).2.1.trans (Cert.ReferenceIdeal.Read.val_main_v42_eq m' c)
    have r7 := (h c).2.2.1.trans (Cert.ReferenceIdeal.Read.val_main_v46_eq _ _ _)
    have e5 := same5 a0 a1 a2 a3
    have e6 := same6 a0 a1 a2 a3
    have e7 := same7 a0 a1 a3
    have k := (h c).2.2.2
    clear h
    have l5 := r5.trans e5
    have l6 := r6.trans e6
    have l7 := r7.trans e7
    have g5 := l5.trans h5.symm
    have g6 := l6.trans h6.symm
    have g7 := l7.trans h7.symm
    exact ⟨g5, g6, g7, k⟩

end Cert.Attn

end
-- ==== Proof.Loss.Value.lean ====
/- The loss head: what the kernel's two result arrays hold, set beside the reference's terms.  The error of each row
   block times 1/1024 is the gradient of `0.5 · Σ mean(err²)`, and the column sums of the squared error over eight row
   blocks of 256 rows, added one block after another, are its column sums over the 2048 rows. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Loss

open Cert.Kernel2Ideal Cert.Kernel2Ideal.Gen

variable (m : (ℓ : Loc nD τ sig) → Buf (Elt Ideal) ℓ)

/-- The word of 1/1024. -/
theorem c_scale : Ideal.ofBits .f32 0x3A800000#32 = (((1 / 1024 : ℝ)) : EReal) := by
  simp [Ideal.ofBits, Ideal.ieee]; rw [← EReal.coe_mul]; norm_num

/-- The word of 1024. -/
theorem c_1024 : Ideal.ofBits .f32 0x44800000#32 = (((1024 : ℝ)) : EReal) := by
  simp [Ideal.ofBits, Ideal.ieee]; rw [← EReal.coe_mul]; norm_num

/-- The word of one half. -/
theorem c_half : Ideal.ofBits .f32 0x3F000000#32 = (((1 / 2 : ℝ)) : EReal) := by
  simp [Ideal.ofBits, Ideal.ieee]; rw [← EReal.coe_mul]; norm_num

/-- The word of two. -/
theorem c_two : Ideal.ofBits .f32 0x40000000#32 = (((2 : ℝ)) : EReal) := by
  simp [Ideal.ofBits, Ideal.ieee]; rw [← EReal.coe_mul]; norm_num

/-- Which block each window is on at each point. -/
theorem idx : ∀ t : Fin cfg0.N, win0_0.index t = ![t.val, 0] ∧ win0_1.index t = ![t.val, 0] ∧ win0_2.index t = ![t.val, 0]
    ∧ win0_3.index t = ![0, 0] ∧ t.val < 8 :=
  (by decide +kernel : ∀ t : Fin grid0.N, _)

open Cert.Reference2Ideal.Read in
/-- The reference's gradient at one element. -/
theorem ref_dy (x0 : FVec Ideal S2176x1024 .f32) (x1 : FVec Ideal S1x2048x1024 .f32) (j : S2048x1024.Idx) :
    val_main_v17 (F := Ideal) x0 x1 j
      = (x0 (ix2 ⟨16 + (j 0).val, by have : (j 0).val < 2048 := (j 0).isLt; omega⟩ (j 1)) - x1 (ix3 0 (j 0) (j 1))) * Ideal.ofBits .f32 0x3A800000#32 := by
  pointwise [val_main_v17, val_main_v16, val_main_v15, val_main_v14, val_main_v13, val_main_v12, val_main_v11, val_main_v5, val_main_v4,
    val_main_v2, val_main_v1, val_main_v0, val_main_cst, val_main_cst_4, val_main_cst_5, val_main_cst_6]
  rw [c_scale, c_1024, c_half, c_two, Ideal.div_coe (by norm_num), ← EReal.coe_mul, ← mul_assoc, ← EReal.coe_mul, mul_comm]
  norm_num

open Cert.Reference2Ideal.Read in
/-- The reference's column sum of the squared error. -/
theorem ref_part (x0 : FVec Ideal S2176x1024 .f32) (x1 : FVec Ideal S1x2048x1024 .f32) (j : S1x1024.Idx) :
    val_main_v20 (F := Ideal) x0 x1 j
      = ∑ r : Fin 2048, (x0 (ix2 ⟨16 + r.val, by omega⟩ (j 1)) - x1 (ix3 0 r (j 1))) * (x0 (ix2 ⟨16 + r.val, by omega⟩ (j 1)) - x1 (ix3 0 r (j 1))) := by
  pointwise [val_main_v20, val_main_v19, val_main_v18, val_main_v1, val_main_v0, val_main_cst_7]

/-- A block of the loss's input rows: the 16 leading rows are left out. -/
theorem blk0 (c : Dev nD) (t : Fin cfg0.N) (y : S256x1024.Idx) (i : S2176x1024.Idx)
    (h0 : (i 0).val = 16 + (t.val * 256 + (y 0).val)) (h1 : (i 1).val = (y 1).val) :
    iblk m c 0 t y = m ((c : Thread nD τ).loc main_arg0) i := by
  unfold iblk
  blk_simp [idx t]
  entry_read
  pointwise
  blk_ext [idx t]

/-- A block of the target's rows. -/
theorem blk1 (c : Dev nD) (t : Fin cfg0.N) (y : S256x1024.Idx) (i : S1x2048x1024.Idx)
    (h0 : (i 1).val = t.val * 256 + (y 0).val) (h1 : (i 2).val = (y 1).val) :
    iblk m c 1 t y = m ((c : Thread nD τ).loc main_arg1) i := by
  unfold iblk
  blk_simp [idx t]
  entry_read
  pointwise
  blk_ext [idx t]

/-- The gradient block of a point, at an index of the block. -/
theorem point2 (c : Dev nD) (t : Fin cfg0.N) (y) : k0_pay2 (iblk m c 0 t) (iblk m c 1 t) y
    = Cert.Reference2Ideal.Read.val_main_v17 (F := Ideal) (m ((c : Thread nD τ).loc main_arg0)) (m ((c : Thread nD τ).loc main_arg1)) (((cfg0.win 2).blk t).view.emb y) := by
  rw [ref_dy]
  pointwise [k0_pay2, k0_pay1]
  rw [blk0 m c t y _ ?_ ?_, blk1 m c t y _ ?_ ?_]
  all_goals (blk_simp [idx t] <;> try omega)

/-- The gradient's array after the run. -/
theorem final2 (c : Dev nD) : (dats m 0 c).arrAt 2 (cfgs 0).N
    = Cert.Reference2Ideal.Read.val_main_v17 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine Eq.trans ?_ (point2 m c t y)
  by_cases h : t.val % 8 = 0
  · rw [outsAt0_A m c t h]; frame_out
  · rw [outsAt0_B m c t h]; frame_out

/-- The zero block the sum starts from. -/
theorem hzero (j) : k0_pay3 (F := Ideal) j = 0 := by pointwise [k0_pay3]

/-- One block's step: the running sum plus the column sums of the squared error of 256 rows. -/
theorem hpay (x0 x1 acc j) : k0_pay4 (F := Ideal) x0 x1 acc j
    = acc j + ∑ r : Fin 256, (x0 (ix2 r (j 1)) - x1 (ix2 r (j 1))) * (x0 (ix2 r (j 1)) - x1 (ix2 r (j 1))) := by
  pointwise [k0_pay4, k0_pay1]

/-- The column sums' array after the run. -/
theorem final3 (c : Dev nD) : (dats m 0 c).arrAt 3 (cfgs 0).N
    = Cert.Reference2Ideal.Read.val_main_v20 (F := Ideal) (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) _
    (fun t h j => by rw [outsAt0_A m c t h]; frame_out; rw [hpay, hzero])
    (fun t h j => by rw [outsAt0_B m c t h]; frame_out; rw [hpay])
    (le_of_eq N_0) t0_7 rfl j, zero_add, ref_part]
  refine Fin.sum_mul_add_congr fun t k hl => ?_
  have e0 := blk0 m c t (ix2 k (j 1)) (ix2 ⟨16 + (t.val * 256 + k.val), by omega⟩ (j 1)) rfl rfl
  have e1 := blk1 m c t (ix2 k (j 1)) (ix3 0 ⟨t.val * 256 + k.val, hl⟩ (j 1)) rfl rfl
  rw [e0, e1]

end Cert.Kernel2Ideal.Loss
-- ==== Proof.Loss.Claims.lean ====
/- The claims about the loss head: the frames, and the kernel's two results equal to the reference's. -/
module

public import proofs.«01_k».proof.Defs
public import proofs.«01_k».proof.Proof.Gen.Kernel2.Frame
public import proofs.«01_k».proof.Proof.Gen.Reference2Ideal
public import proofs.«01_k».proof.Proof.Gen.Reference2Ideal.Run
public import proofs.«01_k».proof.Proof.Loss.Value
public import Idealize.ShloMosaic.Lib.Claim
public import Idealize.ShloMosaic.Lib.Quiescent

@[expose] public section

set_option maxRecDepth 16384

noncomputable section

namespace Cert.Loss

open Idealize.ShloMosaic Idealize.ShloMosaic.TcCoe Idealize.SL.Sem

theorem frame : Cert.quiescent_Kernel2 (hKernel2 := Cert.Kernel2.Gen.facts) :=
  fun m g _ => Cert.Kernel2.Gen.frame m g

theorem frame_ideal : Cert.quiescent_Kernel2Ideal (hKernel2Ideal := Cert.Kernel2Ideal.Gen.facts) :=
  fun m g _ => Cert.Kernel2Ideal.Gen.frame m g

theorem frame_ref : Cert.quiescent_Reference2Ideal (hReference2Ideal := Cert.Reference2Ideal.Gen.facts) :=
  fun m g _ => (θ_run Cert.Reference2Ideal.defs _ _).mono
    (fun r h => ⟨fun c => (h c).2.2, sem_eq_zero_of_no_sems (by decide) r.2⟩) (Cert.Reference2Ideal.Value.run m g)

theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    · exact (Cert.Kernel2Ideal.Loss.final2 m c).symm
    · exact (Cert.Kernel2Ideal.Loss.final3 m c).symm

end Cert.Loss

end
-- ==== Proof.Conv.Taps.lean ====
/- What the depthwise convolution and its two gradients share: a load read at an index, the rotation by a tap's remainder,
   and the taps summed in the order of their remainders. -/
module

public import Idealize.ShloMosaic.Lib.Pipeline.ValueKit

@[expose] public section

set_option maxRecDepth 16384

noncomputable section

open Idealize.ShloMosaic Idealize.ShloMosaic.TcCoe Idealize.SL.Sem

namespace Cert.Conv

section Load

variable {sig : RefSig} {κ : Kind} {σ : Space} {d : Fin 2 → ℕ} {n0 n1 : ℕ} {off : Fin 2 → ℕ} {o0 o1 : ℕ} {F : ℕ → ℕ → EReal}

/-- A rectangle's load read at one of its places. -/
theorem load_off {v : View sig κ σ (⟨2, d⟩ : Shape) .f32} {f : v.ty.Contents (Elt Ideal)} (h : ∀ y, v.read (Elt Ideal) f y = F (y 0).val (y 1).val)
    (e : off = ![o0, o1]) (inb : ∀ a, off a + (![n0, n1] : Fin 2 → ℕ) a ≤ (⟨2, d⟩ : Shape).size a) (a : Fin n0) (b : Fin n1) :
    v.readAt (Elt Ideal) (Rect.unit (s := (⟨2, d⟩ : Shape)) off ![n0, n1] inb).toLoadRect f (ix2 a b) = F (o0 + a.val) (o1 + b.val) := by
  subst e
  refine (h _).trans ?_
  show F (o0 + 1 * a.val) (o1 + 1 * b.val) = _
  rw [one_mul, one_mul]

/-- The same at literal offsets. -/
theorem load_at {v : View sig κ σ (⟨2, d⟩ : Shape) .f32} {f : v.ty.Contents (Elt Ideal)} (h : ∀ y, v.read (Elt Ideal) f y = F (y 0).val (y 1).val)
    (inb : ∀ a, (![o0, o1] : Fin 2 → ℕ) a + (![n0, n1] : Fin 2 → ℕ) a ≤ (⟨2, d⟩ : Shape).size a) (a : Fin n0) (b : Fin n1) :
    v.readAt (Elt Ideal) (Rect.unit (s := (⟨2, d⟩ : Shape)) ![o0, o1] ![n0, n1] inb).toLoadRect f (ix2 a b) = F (o0 + a.val) (o1 + b.val) :=
  load_off h rfl inb a b

end Load

/-- A window rotated by a tap's remainder, read a whole number of eights further. -/
theorem wrap {c d r : ℕ} (h1 : 161 ≤ d) (h2 : d ≤ 168) (hc : c ≤ 24) (hr : r < 128) : (c + r + 168 - d) % 168 = r + (c + (168 - d)) := by
  rw [show c + r + 168 - d = r + (c + (168 - d)) by omega]; exact Nat.mod_eq_of_lt (by omega)

theorem wrap0 {d r : ℕ} (h1 : 161 ≤ d) (h2 : d ≤ 168) (hr : r < 128) : (r + 168 - d) % 168 = r + (168 - d) := by
  rw [show r + 168 - d = r + (168 - d) by omega]; exact Nat.mod_eq_of_lt (by omega)

/-- Thirty-one taps by their remainders of eight. -/
theorem order (T : ℕ → EReal) :
    T 0 + T 8 + T 16 + T 24 + T 1 + T 9 + T 17 + T 25 + T 2 + T 10 + T 18 + T 26 + T 3 + T 11 + T 19 + T 27 + T 4 + T 12 + T 20 + T 28
      + T 5 + T 13 + T 21 + T 29 + T 6 + T 14 + T 22 + T 30 + T 7 + T 15 + T 23 = ∑ j ∈ Finset.range 31, T j := by
  simp only [Finset.sum_range_succ, Finset.sum_range_zero, zero_add]
  ac_rfl

/-- The same when the operand starts two rows further. -/
theorem order2 (T : ℕ → EReal) :
    T 6 + T 14 + T 22 + T 30 + T 7 + T 15 + T 23 + T 0 + T 8 + T 16 + T 24 + T 1 + T 9 + T 17 + T 25 + T 2 + T 10 + T 18 + T 26 + T 3 + T 11
      + T 19 + T 27 + T 4 + T 12 + T 20 + T 28 + T 5 + T 13 + T 21 + T 29 = ∑ j ∈ Finset.range 31, T j := by
  simp only [Finset.sum_range_succ, Finset.sum_range_zero, zero_add]
  ac_rfl

/-- The taps from the last to the first. -/
theorem down (T : ℕ → EReal) :
    T 30 + T 29 + T 28 + T 27 + T 26 + T 25 + T 24 + T 23 + T 22 + T 21 + T 20 + T 19 + T 18 + T 17 + T 16 + T 15 + T 14 + T 13 + T 12 + T 11
      + T 10 + T 9 + T 8 + T 7 + T 6 + T 5 + T 4 + T 3 + T 2 + T 1 + T 0 = ∑ j ∈ Finset.range 31, T j := by
  simp only [Finset.sum_range_succ, Finset.sum_range_zero, zero_add]
  ac_rfl

/-- The integer zero as a float. -/
theorem sitofp_zero : FloatOps.sitofp (F := Ideal) .f32 (0#32 : BitVec 32) = (0 : EReal) := by
  simp [FloatOps.sitofp]

/-- An array of rows read at any row and lane: zero outside. -/
def rows (n m : ℕ) (x : Fin n → Fin m → EReal) (a l : ℕ) : EReal := if h : a < n ∧ l < m then x ⟨a, h.1⟩ ⟨l, h.2⟩ else 0

theorem rows_in {n m : ℕ} (x : Fin n → Fin m → EReal) {a l : ℕ} (ha : a < n) (hl : l < m) : rows n m x a l = x ⟨a, ha⟩ ⟨l, hl⟩ := dif_pos ⟨ha, hl⟩

theorem rows_out {n m : ℕ} (x : Fin n → Fin m → EReal) {a l : ℕ} (ha : n ≤ a) : rows n m x a l = 0 := dif_neg fun h => absurd h.1 (by omega)

end Cert.Conv
-- ==== Proof.ConvDx.Block.lean ====
/- What the call for the convolution's input leaves in its block: every row a sum over the taps. -/
module

public import proofs.«01_k».proof.Proof.Gen.Kernel3Ideal.Value
public import proofs.«01_k».proof.Proof.Conv.Taps
public import Idealize.ShloMosaic.Lib.WritesUnit

@[expose] public section

set_option maxRecDepth 16384

noncomputable section

open Idealize.ShloMosaic Idealize.ShloMosaic.TcCoe Idealize.SL.Sem
open Cert.Kernel3Ideal Cert.Kernel3Ideal.Gen Cert.Conv

namespace Cert.ConvDx

/-- One row of the result: the taps, each at its own row of the padded operand. -/
def conv (x w : ℕ → ℕ → EReal) (a l : ℕ) : EReal := ∑ j ∈ Finset.range 31, x (a + j) l * w j l

variable (𝒱 : Variants) (c : Dev nD) (bd : Option 𝒱.V) (i : grid0.Coords)
  (arg1 : Memref sig .tc .vmem S2176x128 .f32) (harg1 : arg1.IsWhole)
  (arg2 : Memref sig .tc .vmem S31x128 .f32) (harg2 : arg2.IsWhole)
  (arg3 : Memref sig .tc .vmem S2176x128 .f32) (harg3 : arg3.IsWhole)
  (arg4 : Memref sig .tc .vmem S2216x128 .f32) (harg4 : arg4.IsWhole)

theorem off1_eq : ∀ k : Fin k0_t1_loop.trips, k0_off1 k = ![128 * k.val, 0] := by decide +kernel

theorem off2_eq : ∀ k : Fin k0_t1_loop.trips, k0_off2 k = ![128 * k.val, 0] := by decide +kernel

section Loop

variable (X_arg2 : BufTy.Contents (Elt Ideal) arg2.view.ty) (X_arg4 : BufTy.Contents (Elt Ideal) arg4.view.ty) {x w : ℕ → ℕ → EReal}
  (hw : ∀ y, arg2.view.read (Elt Ideal) X_arg2 y = w (y 0).val (y 1).val) (hx : ∀ y, arg4.view.read (Elt Ideal) X_arg4 y = x (y 0).val (y 1).val)

include hw hx

/-- One trip stores its rows of the result. -/
theorem trip (k : Fin k0_t1_loop.trips) :
    ∀ p ∈ tripL_k0_t1 (F := Ideal) 𝒱 c bd i arg1 harg1 arg2 harg2 arg3 harg3 arg4 harg4 X_arg2 X_arg4 k,
      ∀ z : p.1.shape.Idx, p.2 z = conv x w ((p.1.emb z) 0).val ((p.1.emb z) 1).val := by
  unfold tripL_k0_t1 trip_k0_t1
  dsimp only
  intro p hp
  rw [List.mem_singleton] at hp
  subst hp
  intro (z : S128x128.Idx)
  obtain ⟨r, l, rfl⟩ : ∃ (r l : Fin 128), z = ix2 r l := ⟨z 0, z 1, by funext a; match a with | 0 => rfl | 1 => rfl⟩
  refine (?_ : (k0_pay4 (F := Ideal) _ _ _ _ _ _ _ : S128x128.Idx → EReal) (ix2 r l) = conv x w (128 * k.val + r.val) l.val).trans ?_
  · simp only [trip_k0_t1.sl.r, trip_k0_t1.sl.r_1, trip_k0_t1.sl.r_2, trip_k0_t1.sl.r_3, trip_k0_t1.sl.r_4, trip_k0_t1.sl.r_5,
      trip_k0_t1.sl.r_6, trip_k0_t1.sl.r_7, trip_k0_t1.sl.r_8, trip_k0_t1.sl.r_9, trip_k0_t1.sl.r_10, trip_k0_t1.sl.r_11,
      trip_k0_t1.sl.r_12, trip_k0_t1.sl.r_13, trip_k0_t1.sl.r_14, trip_k0_t1.sl.r_15, trip_k0_t1.sl.r_16]
    pointwise [k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21]
    have hr := r.isLt
    simp only [load_at hw, load_off hx (off1_eq k)]
    simp (disch := omega) only [wrap, wrap0, zero_add, Nat.reduceSub, Nat.reduceAdd]
    have o := order fun j => x (128 * k.val + r.val + j) l.val * w j l.val
    have e1 : ∀ a : ℕ, x (128 * k.val + (a + r.val)) = x (128 * k.val + r.val + a) := fun a => congrArg x (by omega)
    have e2 : ∀ a : ℕ, x (128 * k.val + (r.val + a)) = x (128 * k.val + r.val + a) := fun a => congrArg x (by omega)
    simp only [e1, e2, add_zero, Fin.val_zero] at o ⊢
    exact o
  · show _ = conv x w (k0_off2 k 0 + 1 * r.val) (k0_off2 k 1 + 1 * l.val)
    rw [off2_eq k, one_mul, one_mul]
    exact congrArg _ (Nat.zero_add _).symm

/-- Every piece that the loop stores is some trip's. -/
theorem pieces : ∀ n, ∀ p ∈ pb_k0_t1 (F := Ideal) 𝒱 c bd i arg1 harg1 arg2 harg2 arg3 harg3 arg4 harg4 X_arg2 X_arg4 n,
      ∀ z : p.1.shape.Idx, p.2 z = conv x w ((p.1.emb z) 0).val ((p.1.emb z) 1).val
  | 0, p, hp => absurd hp List.not_mem_nil
  | n + 1, p, hp => by
    rw [pb_k0_t1.eq_2] at hp
    unfold pb_k0_t1Step at hp
    split at hp
    · rcases List.mem_append.1 hp with h | h
      · exact trip 𝒱 c bd i arg1 harg1 arg2 harg2 arg3 harg3 arg4 harg4 X_arg2 X_arg4 hw hx _ p h
      · exact pieces n p h
    · exact pieces n p hp

end Loop

/-- The padded operand: the block's rows, then zeros. -/
def padded (x : ℕ → ℕ → EReal) (a l : ℕ) : EReal := if a < 2176 then x a l else 0

theorem scratch {x0 : Vec Ideal S2176x128 .f32} {x : ℕ → ℕ → EReal} (h0 : ∀ y, x0 y = x (y 0).val (y 1).val) (y : S2216x128.Idx) :
    arg4.view.read (Elt Ideal) (arg4.view.writes (Elt Ideal) arg4.view.junk (kernelRun0_A.sl.HS0_3 c arg1 harg1 x0)) y = padded x (y 0).val (y 1).val := by
  unfold kernelRun0_A.sl.HS0_3
  have hy : (y 0).val < 2216 := (y 0).isLt
  by_cases ha : (y 0).val < 2176
  · refine (View.read_writes_cons_rows_of_mem _ _ _ _ _ y (ix2 (⟨(y 0).val, ha⟩ : Fin 2176) (y 1)) rfl (Nat.zero_add _).symm rfl).trans ?_
    rw [padded, if_pos ha]
    pointwise [k0_pay3]
    refine (load_at (F := x) (fun z => by rw [harg1.read_unread]; exact h0 z) _ _ _).trans ?_
    rw [Nat.zero_add, Nat.zero_add]
  · rw [padded, if_neg ha]
    refine (View.read_writes_cons_rows_of_not_mem _ _ _ _ _ y rfl rfl (Or.inr (by show 0 + 2176 ≤ _; omega))).trans ?_
    by_cases hb : (y 0).val < 2208
    · refine (View.read_writes_cons_rows_of_not_mem _ _ _ _ _ y rfl rfl (Or.inl (by show _ < 2208; omega))).trans ?_
      refine (View.read_writes_cons_rows_of_mem _ _ _ _ _ y (ix2 (⟨(y 0).val - 2176, by omega⟩ : Fin 32) (y 1)) rfl (by show _ = 2176 + ((y 0).val - 2176); omega) rfl).trans ?_
      pointwise [k0_pay1]
    · refine (View.read_writes_cons_rows_of_mem _ _ _ _ _ y (ix2 (⟨(y 0).val - 2208, by omega⟩ : Fin 8) (y 1)) rfl (by show _ = 2208 + ((y 0).val - 2208); omega) rfl).trans ?_
      pointwise [k0_pay2]

theorem block {x0 : Vec Ideal S2176x128 .f32} {x1 : Vec Ideal S31x128 .f32} {x w : ℕ → ℕ → EReal} (h0 : ∀ y, x0 y = x (y 0).val (y 1).val)
    (h1 : ∀ y, x1 y = w (y 0).val (y 1).val) (y : S2176x128.Idx) :
    out0_A_2 c i arg1 harg1 arg2 harg2 arg3 harg3 arg4 harg4 x0 x1 y = conv (padded x) w (y 0).val (y 1).val := by
  unfold out0_A_2
  refine View.read_writes_apply_of_pieces _ _ (fun y => conv (padded x) w (y 0).val (y 1).val) _ ?_ y (cover0_A_2 c i arg1 harg1 arg2 harg2 arg3 harg3 arg4 harg4 x0 x1 y)
  unfold kernelRun0_A
  dsimp only
  exact pieces Variants.none c none i arg1 harg1 arg2 harg2 arg3 harg3 arg4 harg4 _ _ (fun y => by rw [harg2.read_unread]; exact h1 y) (scratch c arg1 harg1 arg4 h0) _

end Cert.ConvDx
-- ==== Proof.ConvDx.Ref.lean ====
/- The reference's gradient of the convolution's input, read at one row. -/
module

public import proofs.«01_k».proof.Proof.Gen.Reference3Ideal.Read
public import proofs.«01_k».proof.Proof.Conv.Taps

@[expose] public section

set_option maxRecDepth 16384

noncomputable section

open Idealize.ShloMosaic Idealize.ShloMosaic.TcCoe Idealize.SL.Sem

namespace Cert.ConvDx

open Cert.Conv Cert.Reference3Ideal Cert.Reference3Ideal.Read

/-- The rows of the cotangent. -/
def ctN (x2 : FVec Ideal S1x2064x1024 .f32) : ℕ → ℕ → EReal := rows 2064 1024 fun a l => x2 (ix3 0 a l)

/-- The taps. -/
def tapN (x1 : FVec Ideal S1x31x1024 .f32) : ℕ → ℕ → EReal := rows 31 1024 fun j l => x1 (ix3 0 j l)

/-- What one tap gives back to a row of the padded input. -/
def back (x1 : FVec Ideal S1x31x1024 .f32) (x2 : FVec Ideal S1x2064x1024 .f32) (a l j : ℕ) : EReal :=
  if j ≤ a then ctN x2 (a - j) l * tapN x1 j l else 0

theorem back_at (x1 : FVec Ideal S1x31x1024 .f32) (x2 : FVec Ideal S1x2064x1024 .f32) (a : Fin 2094) (l : Fin 1024) (j : ℕ) (hj : j < 31) :
    (if h : j ≤ a.val ∧ a.val - j < 2064 then x2 (ix3 0 ⟨a.val - j, h.2⟩ l) * x1 (ix3 0 ⟨j, hj⟩ l) else (0 : EReal)) = back x1 x2 a.val l.val j := by
  unfold back ctN tapN
  rw [rows_in _ hj l.isLt]
  by_cases h1 : j ≤ a.val
  · by_cases h2 : a.val - j < 2064
    · rw [dif_pos ⟨h1, h2⟩, if_pos h1, rows_in _ h2 l.isLt]
    · rw [dif_neg (fun h => h2 h.2), if_pos h1, rows_out _ (by omega), zero_mul]
  · rw [dif_neg (fun h => h1 h.1), if_neg h1]

theorem back_zero (x1 : FVec Ideal S1x31x1024 .f32) (x2 : FVec Ideal S1x2064x1024 .f32) (a : Fin 2094) (l : Fin 1024) :
    (if h : a.val < 2064 then x2 (ix3 0 ⟨a.val, h⟩ l) * x1 (ix3 0 0 l) else (0 : EReal)) = back x1 x2 a.val l.val 0 := by
  refine Eq.trans ?_ (back_at x1 x2 a l 0 (by decide))
  by_cases h : a.val < 2064
  · rw [dif_pos h, dif_pos ⟨Nat.zero_le _, by omega⟩]; rfl
  · rw [dif_neg h, dif_neg (fun h' => h (by omega))]

/-- The transpose of the windows, all taps. -/
theorem ref_rows (x1 : FVec Ideal S1x31x1024 .f32) (x2 : FVec Ideal S1x2064x1024 .f32) (a : Fin 2094) (l : Fin 1024) :
    val_main_v561 (F := Ideal) x1 x2 (ix3 0 a l)
      = ∑ j ∈ Finset.range 31, back x1 x2 a.val l.val j := by
  pointwise [val_main_v561, val_main_v560, val_main_v555, val_main_v554, val_main_v7, val_main_v6, val_main_v5, val_main_v221,
    val_main_cst_125, val_main_v550, val_main_v549, val_main_v544, val_main_v543, val_main_v14, val_main_v13, val_main_v12,
    val_main_cst_121, val_main_v539, val_main_v538, val_main_v533, val_main_v532, val_main_v21, val_main_v20, val_main_v19,
    val_main_cst_117, val_main_v528, val_main_v527, val_main_v522, val_main_v521, val_main_v28, val_main_v27, val_main_v26,
    val_main_cst_113, val_main_v517, val_main_v516, val_main_v511, val_main_v510, val_main_v35, val_main_v34, val_main_v33,
    val_main_cst_109, val_main_v506, val_main_v505, val_main_v500, val_main_v499, val_main_v42, val_main_v41, val_main_v40,
    val_main_cst_105, val_main_v495, val_main_v494, val_main_v489, val_main_v488, val_main_v49, val_main_v48, val_main_v47,
    val_main_cst_101, val_main_v484, val_main_v483, val_main_v478, val_main_v477, val_main_v56, val_main_v55, val_main_v54,
    val_main_cst_97, val_main_v473, val_main_v472, val_main_v467, val_main_v466, val_main_v63, val_main_v62, val_main_v61,
    val_main_cst_93, val_main_v462, val_main_v461, val_main_v456, val_main_v455, val_main_v70, val_main_v69, val_main_v68,
    val_main_cst_89, val_main_v451, val_main_v450, val_main_v445, val_main_v444, val_main_v77, val_main_v76, val_main_v75,
    val_main_cst_85, val_main_v440, val_main_v439, val_main_v434, val_main_v433, val_main_v84, val_main_v83, val_main_v82,
    val_main_cst_81, val_main_v429, val_main_v428, val_main_v423, val_main_v422, val_main_v91, val_main_v90, val_main_v89,
    val_main_cst_77, val_main_v418, val_main_v417, val_main_v412, val_main_v411, val_main_v98, val_main_v97, val_main_v96,
    val_main_cst_73, val_main_v407, val_main_v406, val_main_v401, val_main_v400, val_main_v105, val_main_v104, val_main_v103,
    val_main_cst_69, val_main_v396, val_main_v395, val_main_v390, val_main_v389, val_main_v112, val_main_v111, val_main_v110,
    val_main_cst_65, val_main_v385, val_main_v384, val_main_v379, val_main_v378, val_main_v119, val_main_v118, val_main_v117,
    val_main_cst_61, val_main_v374, val_main_v373, val_main_v368, val_main_v367, val_main_v126, val_main_v125, val_main_v124,
    val_main_cst_57, val_main_v363, val_main_v362, val_main_v357, val_main_v356, val_main_v133, val_main_v132, val_main_v131,
    val_main_cst_53, val_main_v352, val_main_v351, val_main_v346, val_main_v345, val_main_v140, val_main_v139, val_main_v138,
    val_main_cst_49, val_main_v341, val_main_v340, val_main_v335, val_main_v334, val_main_v147, val_main_v146, val_main_v145,
    val_main_cst_45, val_main_v330, val_main_v329, val_main_v324, val_main_v323, val_main_v154, val_main_v153, val_main_v152,
    val_main_cst_41, val_main_v319, val_main_v318, val_main_v313, val_main_v312, val_main_v161, val_main_v160, val_main_v159,
    val_main_cst_37, val_main_v308, val_main_v307, val_main_v302, val_main_v301, val_main_v168, val_main_v167, val_main_v166,
    val_main_cst_33, val_main_v297, val_main_v296, val_main_v291, val_main_v290, val_main_v175, val_main_v174, val_main_v173,
    val_main_cst_29, val_main_v286, val_main_v285, val_main_v280, val_main_v279, val_main_v182, val_main_v181, val_main_v180,
    val_main_cst_25, val_main_v275, val_main_v274, val_main_v269, val_main_v268, val_main_v189, val_main_v188, val_main_v187,
    val_main_cst_21, val_main_v264, val_main_v263, val_main_v258, val_main_v257, val_main_v196, val_main_v195, val_main_v194,
    val_main_cst_17, val_main_v253, val_main_v252, val_main_v247, val_main_v246, val_main_v203, val_main_v202, val_main_v201,
    val_main_cst_13, val_main_v242, val_main_v241, val_main_v236, val_main_v235, val_main_v210, val_main_v209, val_main_v208,
    val_main_cst_9, val_main_v231, val_main_v227, val_main_v226, val_main_v217, val_main_v216, val_main_v215, val_main_v222,
    val_main_cst_5]
  refine Eq.trans ?_ (down fun j => back x1 x2 a.val l.val j)
  repeat' refine congrArg₂ (· + ·) ?_ ?_
  all_goals first | exact back_zero x1 x2 a l | exact back_at x1 x2 a l _ (by decide)

/-- A row of the gradient: the taps over the rows that follow it. -/
theorem ref_at (x1 : FVec Ideal S1x31x1024 .f32) (x2 : FVec Ideal S1x2064x1024 .f32) (s : Fin 2176) (l : Fin 1024) :
    val_main_v565 (F := Ideal) x1 x2 (ix2 s l) = ∑ j ∈ Finset.range 31, ctN x2 (s.val + j) l.val * tapN x1 (30 - j) l.val := by
  have e : val_main_v565 (F := Ideal) x1 x2 (ix2 s l) = if h : s.val < 2064 then val_main_v561 (F := Ideal) x1 x2 (ix3 0 ⟨30 + s.val, by omega⟩ l) else 0 := by
    pointwise [val_main_v565, val_main_v564, val_main_v563, val_main_call0_v0, val_main_c]
    rw [sitofp_zero]
  rw [e]
  by_cases h : s.val < 2064
  · rw [dif_pos h, ref_rows, ← Finset.sum_range_reflect]
    refine Finset.sum_congr rfl fun j hj => ?_
    rw [Finset.mem_range] at hj
    show back x1 x2 (30 + s.val) l.val (31 - 1 - j) = _
    unfold back
    rw [if_pos (by omega), show 30 + s.val - (31 - 1 - j) = s.val + j by omega]
  · rw [dif_neg h]
    refine (Finset.sum_eq_zero fun j _ => ?_).symm
    rw [ctN, rows_out _ (by omega), zero_mul]

end Cert.ConvDx
-- ==== Proof.ConvDx.Value.lean ====
/- The convolution's input gradient: the array which the kernel's run leaves is the reference's. -/
module

public import proofs.«01_k».proof.Defs
public import proofs.«01_k».proof.Proof.Gen.Kernel3.Frame
public import proofs.«01_k».proof.Proof.Gen.Reference3Ideal
public import proofs.«01_k».proof.Proof.Gen.Reference3Ideal.Run
public import Idealize.ShloMosaic.Lib.Claim
public import Idealize.ShloMosaic.Lib.Quiescent
public import proofs.«01_k».proof.Proof.ConvDx.Block
public import proofs.«01_k».proof.Proof.ConvDx.Ref

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen Cert.Conv

namespace Cert.ConvDx

variable (m : (ℓ : Loc nD τ sig) → Buf (Elt Ideal) ℓ) (c : Dev nD)

/-- The taps and the cotangent that the call starts from. -/
abbrev W : FVec Ideal S1x31x1024 .f32 := m ((c : Thread nD τ).loc main_arg1)
abbrev D : FVec Ideal S1x2064x1024 .f32 := m ((c : Thread nD τ).loc main_arg2)

/-- Which block each window is on at each point. -/
theorem idx : ∀ t : Fin cfg0.N, win0_0.index t = ![0, t.val] ∧ win0_1.index t = ![0, t.val] ∧ win0_2.index t = ![0, t.val] ∧ t.val < 8 :=
  (by decide +kernel : ∀ t : Fin grid0.N, _)

/-- The cotangent with its rows of padding, as the host prepares it. -/
theorem V_ct : Gen.V m c main_v4 = pad S2176x1024 ![0, 0] ![112, 0] ![0, 0] (shapeCast _ (D m c) shapeCasts_S1x2064x1024_S2064x1024)
      (sitofp .f32 (constantI S_ 32 0#32)) pads_S2064x1024_S2176x1024_01120_000 h_S_ := by
  unfold Gen.V
  simp only [hostOps0, hostOps0_1, hostOps0_2, hostOps0_3, hostOps0_4, List.flatten_cons, List.flatten_nil, List.cons_append, List.nil_append, List.append_nil]
  entry_read
  rfl

theorem V_ct_at (s : Fin 2176) (l : Fin 1024) : Gen.V m c main_v4 (ix2 s l) = ctN (D m c) s.val l.val := by
  rw [V_ct]
  pointwise
  rw [sitofp_zero]
  unfold ctN
  by_cases h : s.val < 2064
  · rw [dif_pos h, rows_in _ h l.isLt]
  · rw [dif_neg h, rows_out _ (by omega)]

/-- The taps from the last to the first. -/
theorem V_taps : Gen.V m c main_v5 = Host.reverse [0] (shapeCast _ (W m c) shapeCasts_S1x31x1024_S31x1024 : (⟨S31x1024, .f32⟩ : BufTy).Contents (Elt Ideal)) := by
  unfold Gen.V
  simp only [hostOps0, hostOps0_1, hostOps0_2, hostOps0_3, hostOps0_4, List.flatten_cons, List.flatten_nil, List.cons_append, List.nil_append, List.append_nil]
  entry_read
  rfl

theorem V_taps_at (j : Fin 31) (l : Fin 1024) : Gen.V m c main_v5 (ix2 j l) = tapN (W m c) (30 - j.val) l.val := by
  rw [V_taps]
  pointwise
  have hj : (j.rev).val = 30 - j.val := by rw [Fin.val_rev]; omega
  refine (show _ = W m c (ix3 0 (j.rev : Fin 31) (l : Fin 1024)) from rfl).trans ?_
  rw [tapN, rows_in _ (by omega) l.isLt]
  exact congrArg (fun k => W m c (ix3 0 k l)) (Fin.ext hj)

/-- A block of the cotangent. -/
theorem blk0 (t : Fin cfg0.N) (y : S2176x128.Idx) : iblk m c 0 t y = ctN (D m c) (y 0).val (128 * t.val + (y 1).val) := by
  obtain ⟨-, -, -, ht⟩ := idx t
  have h0 : (y 0).val < 2176 := (y 0).isLt
  have h1 : (y 1).val < 128 := (y 1).isLt
  unfold iblk
  blk_simp [idx t]
  refine (congrArg (Gen.V m c main_v4) (?_ : _ = ix2 ⟨(y 0).val, h0⟩ ⟨128 * t.val + (y 1).val, by omega⟩)).trans (V_ct_at m c _ _)
  blk_ext [idx t]

/-- A block of the reversed taps. -/
theorem blk1 (t : Fin cfg0.N) (y : S31x128.Idx) : iblk m c 1 t y = tapN (W m c) (30 - (y 0).val) (128 * t.val + (y 1).val) := by
  obtain ⟨-, -, -, ht⟩ := idx t
  have h0 : (y 0).val < 31 := (y 0).isLt
  have h1 : (y 1).val < 128 := (y 1).isLt
  unfold iblk
  blk_simp [idx t]
  refine (congrArg (Gen.V m c main_v5) (?_ : _ = ix2 ⟨(y 0).val, h0⟩ ⟨128 * t.val + (y 1).val, by omega⟩)).trans (V_taps_at m c _ _)
  blk_ext [idx t]

/-- The gradient's array after the run. -/
theorem final2 : (dats m 0 c).arrAt 2 (cfgs 0).N = Reference3Ideal.Read.val_main_v565 (F := Ideal) (W m c) (D m c) := by
  refine (dats m 0 c).arrAt_eq_of_covers 2 _ (by decide +kernel) fun t hf y => ?_
  obtain ⟨-, -, -, ht⟩ := idx t
  have h0 : (y 0).val < 2176 := (y 0).isLt
  have h1 : (y 1).val < 128 := (y 1).isLt
  blk_simp
  rw [after0_2]
  refine Eq.trans ?_ ((congrArg _ (?_ : _ = ix2 ⟨(y 0).val, h0⟩ ⟨128 * t.val + (y 1).val, by omega⟩)).trans (ref_at (W m c) (D m c) _ _)).symm
  · unfold outsAt0
    refine (block c _ _ _ _ _ _ _ _ _ (x := fun a l => ctN (D m c) a (128 * t.val + l)) (w := fun j l => tapN (W m c) (30 - j) (128 * t.val + l))
      (blk0 m c t) (blk1 m c t) y).trans ?_
    unfold conv
    refine Finset.sum_congr rfl fun j hj => congrArg (· * _) ?_
    unfold padded
    by_cases h : (y 0).val + j < 2176
    · rw [if_pos h]
    · rw [if_neg h, ctN, rows_out _ (by show 2064 ≤ (y 0).val + j; omega)]
  · blk_ext [idx t]

theorem frame : quiescent_Kernel3 (hKernel3 := Kernel3.Gen.facts) :=
  fun m g _ => Kernel3.Gen.frame m g

theorem frame_ideal : quiescent_Kernel3Ideal (hKernel3Ideal := Kernel3Ideal.Gen.facts) :=
  fun m g _ => Kernel3Ideal.Gen.frame m g

theorem frame_ref : quiescent_Reference3Ideal (hReference3Ideal := Reference3Ideal.Gen.facts) :=
  fun m g _ => (θ_run Reference3Ideal.defs _ _).mono
    (fun r h => ⟨fun c => (h c).2, sem_eq_zero_of_no_sems (by decide) r.2⟩) (Reference3Ideal.Value.run m g)

theorem same {x1 y1 : FVec Ideal Reference3Ideal.S1x31x1024 .f32} {x2 y2 : FVec Ideal Reference3Ideal.S1x2064x1024 .f32} (h1 : x1 = y1) (h2 : x2 = y2) :
    Reference3Ideal.Read.val_main_v565 (F := Ideal) x1 x2 = Reference3Ideal.Read.val_main_v565 (F := Ideal) y1 y2 := by
  rw [h1, h2]

set_option maxHeartbeats 2000000 in
theorem algebraic : algebraic_Kernel3Ideal_Reference3Ideal (hKernel3Ideal := Kernel3Ideal.Gen.facts)
    (hReference3Ideal := Reference3Ideal.Gen.facts) := by
  pair_intro
  · run_from Kernel3Ideal.Gen.run_main m g
    · exact Kernel3Ideal.Gen.V_main_arg0 m c
    · exact Kernel3Ideal.Gen.V_main_arg1 m c
    · exact Kernel3Ideal.Gen.V_main_arg2 m c
  · refine (θ_run Reference3Ideal.defs _ _).mono (fun r h c => ?_) (Reference3Ideal.Value.run m' g')
    have a1 := (hagree c).2.1
    have a2 := (hagree c).2.2
    have r2 := (h c).1.trans (Reference3Ideal.Read.val_main_v565_eq _)
    have e2 := same a1 a2
    have k := (h c).2
    clear h
    have l2 := r2.trans e2
    exact ⟨l2.trans (final2 m c).symm, k⟩

end Cert.ConvDx
-- ==== Proof.ConvDw.Block.lean ====
/- What the call for the taps' gradient leaves in its block: for every tap a sum over the rows. -/
module

public import proofs.«01_k».proof.Proof.Gen.Kernel4Ideal.Value
public import proofs.«01_k».proof.Proof.Conv.Taps
public import Idealize.ShloMosaic.Lib.WritesUnit

@[expose] public section

set_option maxRecDepth 16384

noncomputable section

open Idealize.ShloMosaic Idealize.ShloMosaic.TcCoe Idealize.SL.Sem
open Cert.Kernel4Ideal Cert.Kernel4Ideal.Gen Cert.Conv

namespace Cert.ConvDw

/-- One row block's addition to a tap's accumulator, at one of its eight rows. -/
def part (x d : ℕ → ℕ → EReal) (k j e l : ℕ) : EReal := ∑ q : Fin 16, x (128 * k + (q.val * 8 + e) + (2 + j)) l * d (128 * k + (q.val * 8 + e)) l

variable (𝒱 : Variants) (c : Dev nD) (bd : Option 𝒱.V) (i : grid0.Coords)
  (arg1 : Memref sig .tc .vmem S2176x128 .f32) (harg1 : arg1.IsWhole)
  (arg2 : Memref sig .tc .vmem S2176x128 .f32) (harg2 : arg2.IsWhole)
  (arg3 : Memref sig .tc .vmem S31x128 .f32) (harg3 : arg3.IsWhole)
  (arg4 : Memref sig .tc .vmem S2216x128 .f32) (harg4 : arg4.IsWhole)
  (arg5 : Memref sig .tc .vmem S31x8x128 .f32) (harg5 : arg5.IsWhole)

theorem off1_eq : ∀ k : Fin k0_t1_loop.trips, k0_off1 k = ![128 * k.val, 0] := by decide +kernel

theorem off2_eq : ∀ k : Fin k0_t1_loop.trips, k0_off2 k = ![128 * k.val, 0] := by decide +kernel

/-- A load of one tap's accumulator. -/
theorem load3 {f : BufTy.Contents (Elt Ideal) arg5.view.ty} {a : ℕ → ℕ → ℕ → EReal}
    (h : ∀ y, arg5.view.read (Elt Ideal) f y = a (y 0).val (y 1).val (y 2).val) {j : ℕ}
    (inb : ∀ b, (![j, 0, 0] : Fin 3 → ℕ) b + (![1, 8, 128] : Fin 3 → ℕ) b ≤ S31x8x128.size b) (z : Fin 1) (e : Fin 8) (l : Fin 128) :
    arg5.view.readAt (Elt Ideal) (Rect.unit (s := S31x8x128) ![j, 0, 0] ![1, 8, 128] inb).toLoadRect f (ix3 z e l) = a j e.val l.val := by
  refine (h _).trans ?_
  show a (j + 1 * z.val) (0 + 1 * e.val) (0 + 1 * l.val) = _
  rw [one_mul, one_mul, one_mul, Nat.zero_add, Nat.zero_add, Fin.val_eq_zero z, Nat.add_zero]

section Loop

variable (X_arg2 : BufTy.Contents (Elt Ideal) arg2.view.ty) (X_arg4 : BufTy.Contents (Elt Ideal) arg4.view.ty) {x d : ℕ → ℕ → EReal}
  (hd : ∀ y, arg2.view.read (Elt Ideal) X_arg2 y = d (y 0).val (y 1).val) (hx : ∀ y, arg4.view.read (Elt Ideal) X_arg4 y = x (y 0).val (y 1).val)

include hd hx

set_option maxHeartbeats 4000000 in
/-- One trip adds its rows to every tap's accumulator. -/
theorem trip (k : Fin k0_t1_loop.trips) (f : BufTy.Contents (Elt Ideal) arg5.view.ty) {a : ℕ → ℕ → ℕ → EReal}
    (hf : ∀ y, arg5.view.read (Elt Ideal) f y = a (y 0).val (y 1).val (y 2).val) :
    ∀ p ∈ tripL_k0_t1 (F := Ideal) 𝒱 c bd i arg1 harg1 arg2 harg2 arg3 harg3 arg4 harg4 arg5 harg5 X_arg2 X_arg4 k f, ∀ z : p.1.shape.Idx,
      p.2 z = a ((p.1.emb z) 0).val ((p.1.emb z) 1).val ((p.1.emb z) 2).val
        + part x d k.val ((p.1.emb z) 0).val ((p.1.emb z) 1).val ((p.1.emb z) 2).val := by
  unfold tripL_k0_t1 trip_k0_t1
  dsimp only
  iterate 31
    refine List.forall_mem_cons.2 ⟨?_, ?_⟩
    · intro (z : S1x8x128.Idx)
      obtain ⟨n, e, l, rfl⟩ : ∃ (n : Fin 1) (e : Fin 8) (l : Fin 128), z = ix3 n e l :=
        ⟨z 0, z 1, z 2, by funext b; match b with | 0 => rfl | 1 => rfl | 2 => rfl⟩
      obtain rfl : n = 0 := Subsingleton.elim _ _
      show _ = a (_ + 1 * 0) (0 + 1 * e.val) (0 + 1 * l.val) + part x d k.val (_ + 1 * 0) (0 + 1 * e.val) (0 + 1 * l.val)
      simp only [trip_k0_t1.sl.v199, trip_k0_t1.sl.v209, trip_k0_t1.sl.v219, trip_k0_t1.sl.v229, trip_k0_t1.sl.v239, trip_k0_t1.sl.v249,
        trip_k0_t1.sl.v259, trip_k0_t1.sl.v269, trip_k0_t1.sl.v279, trip_k0_t1.sl.v289, trip_k0_t1.sl.v299, trip_k0_t1.sl.v309,
        trip_k0_t1.sl.v319, trip_k0_t1.sl.v329, trip_k0_t1.sl.v339, trip_k0_t1.sl.v349, trip_k0_t1.sl.v359, trip_k0_t1.sl.v369,
        trip_k0_t1.sl.v379, trip_k0_t1.sl.v389, trip_k0_t1.sl.v399, trip_k0_t1.sl.v409, trip_k0_t1.sl.v419, trip_k0_t1.sl.v429,
        trip_k0_t1.sl.v439, trip_k0_t1.sl.v449, trip_k0_t1.sl.v459, trip_k0_t1.sl.v469, trip_k0_t1.sl.v479, trip_k0_t1.sl.v489,
        trip_k0_t1.sl.r, trip_k0_t1.sl.r_1, trip_k0_t1.sl.r_2, trip_k0_t1.sl.r_3, trip_k0_t1.sl.r_4, trip_k0_t1.sl.r_5, trip_k0_t1.sl.r_6,
        trip_k0_t1.sl.r_7, trip_k0_t1.sl.r_8, trip_k0_t1.sl.r_9, trip_k0_t1.sl.r_10, trip_k0_t1.sl.r_11, trip_k0_t1.sl.r_12,
        trip_k0_t1.sl.r_13, trip_k0_t1.sl.r_14, trip_k0_t1.sl.r_15, trip_k0_t1.sl.r_16, trip_k0_t1.sl.r_17]
      pointwise [k0_pay1, k0_pay2, k0_pay3, k0_pay4, k0_pay5, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, k0_pay25, k0_pay26, k0_pay27,
        k0_pay28, k0_pay29, k0_pay30, k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49]
      have he := e.isLt
      simp only [load3 arg5 hf, load_off hd (off2_eq k), load_off hx (off1_eq k), part, mul_zero, zero_add, add_zero, one_mul]
      refine congrArg (a _ _ _ + ·) (Finset.sum_congr rfl fun q _ => congrArg (· * _) (congrArg (x · _) ?_))
      have hq := q.isLt
      omega
  exact fun p hp => absurd hp List.not_mem_nil

/-- The accumulators before a trip, from zeros. -/
theorem acc (G : BufTy.Contents (Elt Ideal) arg5.view.ty) (hG : ∀ y, arg5.view.read (Elt Ideal) G y = 0) : ∀ n, n ≤ 17 → ∀ y,
    arg5.view.read (Elt Ideal) (arg5.view.writes (Elt Ideal) G (pb_k0_t1 (F := Ideal) 𝒱 c bd i arg1 harg1 arg2 harg2 arg3 harg3 arg4 harg4 arg5 harg5 X_arg2 X_arg4 G n)) y
      = ∑ k ∈ Finset.range n, part x d k (y 0).val (y 1).val (y 2).val
  | 0, _, y => (hG y).trans (Finset.sum_range_zero _).symm
  | n + 1, h, y => by
    have hn : n < k0_t1_loop.trips := by rw [show k0_t1_loop.trips = 17 by decide]; omega
    rw [pb_k0_t1_succ (F := Ideal) 𝒱 c bd i arg1 harg1 arg2 harg2 arg3 harg3 arg4 harg4 arg5 harg5 X_arg2 X_arg4 G ⟨n, hn⟩, View.writes_append, Finset.sum_range_succ]
    refine View.read_writes_apply_of_pieces (Val := Elt Ideal) (e := .f32) _ _ (fun y : S31x8x128.Idx => (∑ k ∈ Finset.range n, part x d k (y 0).val (y 1).val (y 2).val) + part x d n (y 0).val (y 1).val (y 2).val) _
      (trip 𝒱 c bd i arg1 harg1 arg2 harg2 arg3 harg3 arg4 harg4 arg5 harg5 X_arg2 X_arg4 hd hx ⟨n, hn⟩ _ (a := fun j e l => ∑ k ∈ Finset.range n, part x d k j e l)
        (acc G hG n (by omega))) y ?_
    exact View.cover_of_tiledL (s := S31x8x128) _ ![1, 8, 128] (by sl_kernel_rfl) y

end Loop

/-- The padded operand: zeros, the block's rows, zeros. -/
def padded (x : ℕ → ℕ → EReal) (a l : ℕ) : EReal := if 32 ≤ a ∧ a < 2208 then x (a - 32) l else 0

theorem scratch {x0 : Vec Ideal S2176x128 .f32} {x : ℕ → ℕ → EReal} (h0 : ∀ y, x0 y = x (y 0).val (y 1).val) (y : S2216x128.Idx) :
    arg4.view.read (Elt Ideal) (arg4.view.writes (Elt Ideal) arg4.view.junk (kernelRun0_A.sl.HS0_3 c arg1 harg1 x0)) y = padded x (y 0).val (y 1).val := by
  unfold kernelRun0_A.sl.HS0_3
  have hy : (y 0).val < 2216 := (y 0).isLt
  by_cases ha : 32 ≤ (y 0).val ∧ (y 0).val < 2208
  · refine (View.read_writes_cons_rows_of_mem _ _ _ _ _ y (ix2 (⟨(y 0).val - 32, by omega⟩ : Fin 2176) (y 1)) rfl (by show _ = 32 + ((y 0).val - 32); omega) rfl).trans ?_
    rw [padded, if_pos ha]
    pointwise [k0_pay45]
    refine (load_at (o0 := 0) (o1 := 0) (F := x) (fun z => by rw [harg1.read_unread]; exact h0 z) _ _ _).trans ?_
    rw [Nat.zero_add, Nat.zero_add]
  · rw [padded, if_neg ha]
    refine (View.read_writes_cons_rows_of_not_mem _ _ _ _ _ y rfl rfl (by show _ < 32 ∨ 32 + 2176 ≤ _; omega)).trans ?_
    by_cases hb : (y 0).val < 32
    · refine (View.read_writes_cons_rows_of_not_mem _ _ _ _ _ y rfl rfl (Or.inl (by show _ < 2208; omega))).trans ?_
      refine (View.read_writes_cons_rows_of_mem _ _ _ _ _ y (ix2 (⟨(y 0).val, hb⟩ : Fin 32) (y 1)) rfl (Nat.zero_add _).symm rfl).trans ?_
      pointwise [k0_pay43]
    · refine (View.read_writes_cons_rows_of_mem _ _ _ _ _ y (ix2 (⟨(y 0).val - 2208, by omega⟩ : Fin 8) (y 1)) rfl (by show _ = 2208 + ((y 0).val - 2208); omega) rfl).trans ?_
      pointwise [k0_pay44]

/-- The accumulators start from zero. -/
theorem zeros (y : S31x8x128.Idx) :
    arg5.view.read (Elt Ideal) (arg5.view.writes (Elt Ideal) arg5.view.junk (kernelRun0_A.sl.HS1_1 (F := Ideal))) y = 0 := by
  unfold kernelRun0_A.sl.HS1_1
  refine View.read_writes_apply_of_pieces (Val := Elt Ideal) (e := .f32) _ _ (fun _ : S31x8x128.Idx => (0 : EReal)) _ ?_ y (View.cover_of_tiledL _ S31x8x128.size (by sl_kernel_rfl) y)
  intro p hp
  rw [List.mem_singleton] at hp
  subst hp
  intro (z : S31x8x128.Idx)
  show k0_pay46 (F := Ideal) z = 0
  pointwise [k0_pay46]

section Out

variable {x0 x1 : Vec Ideal S2176x128 .f32} {x d : ℕ → ℕ → EReal} (h0 : ∀ y, x0 y = x (y 0).val (y 1).val) (h1 : ∀ y, x1 y = d (y 0).val (y 1).val)

include h0 h1

/-- A tap's accumulator after all trips. -/
theorem total {j : ℕ} (inb : ∀ b, (![j, 0, 0] : Fin 3 → ℕ) b + (![1, 8, 128] : Fin 3 → ℕ) b ≤ S31x8x128.size b) (z : Fin 1) (e : Fin 8) (l : Fin 128) :
    arg5.view.readCov (pb_k0_t1 (F := Ideal) Variants.none c none i arg1 harg1 arg2 harg2 arg3 harg3 arg4 harg4 arg5 harg5 (harg2.unread x1)
          (arg4.view.writes (Elt Ideal) arg4.view.junk (kernelRun0_A.sl.HS0_3 c arg1 harg1 x0))
          (arg5.view.writes (Elt Ideal) arg5.view.junk kernelRun0_A.sl.HS1_1)
          (Scf.trips k0_t1_loop.lb k0_t1_loop.ub k0_t1_loop.st) ++ kernelRun0_A.sl.HS1_1)
      (Rect.unit (s := S31x8x128) ![j, 0, 0] ![1, 8, 128] inb).toLoadRect (ix3 z e l) = ∑ k ∈ Finset.range 17, part (padded x) d k j e.val l.val := by
  unfold View.readCov
  rw [View.writes_append]
  exact load3 arg5 (a := fun j e l => ∑ k ∈ Finset.range 17, part (padded x) d k j e l)
    (acc Variants.none c none i arg1 harg1 arg2 harg2 arg3 harg3 arg4 harg4 arg5 harg5 _ _ (fun y => by rw [harg2.read_unread]; exact h1 y)
      (scratch c arg1 harg1 arg4 h0) _ (zeros arg5) 17 le_rfl) inb z e l

set_option maxHeartbeats 4000000 in
theorem block (y : S31x128.Idx) :
    out0_A_2 c i arg1 harg1 arg2 harg2 arg3 harg3 arg4 harg4 arg5 harg5 x0 x1 y
      = ∑ e : Fin 8, ∑ k ∈ Finset.range 17, part (padded x) d k (y 0).val e.val (y 1).val := by
  unfold out0_A_2
  refine View.read_writes_apply_of_pieces _ _ (fun y : S31x128.Idx => ∑ e : Fin 8, ∑ k ∈ Finset.range 17, part (padded x) d k (y 0).val e.val (y 1).val) _ ?_ y
    (cover0_A_2 c i arg1 harg1 arg2 harg2 arg3 harg3 arg4 harg4 arg5 harg5 x0 x1 y)
  unfold kernelRun0_A
  dsimp only
  have T := @total c i arg1 harg1 arg2 harg2 arg3 harg3 arg4 harg4 arg5 harg5 x0 x1 x d h0 h1
  iterate 31
    refine List.forall_mem_cons.2 ⟨?_, ?_⟩
    · intro (z : S1x128.Idx)
      obtain ⟨n, l, rfl⟩ : ∃ (n : Fin 1) (l : Fin 128), z = ix2 n l := ⟨z 0, z 1, by funext b; match b with | 0 => rfl | 1 => rfl⟩
      obtain rfl : n = 0 := Subsingleton.elim _ _
      show _ = ∑ e : Fin 8, ∑ k ∈ Finset.range 17, part (padded x) d k (_ + 1 * 0) e.val (0 + 1 * l.val)
      simp only [kernelRun0_A.sl.r, kernelRun0_A.sl.r_1, kernelRun0_A.sl.r_2, kernelRun0_A.sl.r_3, kernelRun0_A.sl.r_4, kernelRun0_A.sl.r_5,
        kernelRun0_A.sl.v18, kernelRun0_A.sl.v23, kernelRun0_A.sl.v28, kernelRun0_A.sl.v33, kernelRun0_A.sl.v38, kernelRun0_A.sl.v43,
        kernelRun0_A.sl.v48, kernelRun0_A.sl.v53, kernelRun0_A.sl.v58, kernelRun0_A.sl.v63, kernelRun0_A.sl.v68, kernelRun0_A.sl.v73,
        kernelRun0_A.sl.v78, kernelRun0_A.sl.v83, kernelRun0_A.sl.v88, kernelRun0_A.sl.v93, kernelRun0_A.sl.v98, kernelRun0_A.sl.v103,
        kernelRun0_A.sl.v108, kernelRun0_A.sl.v113, kernelRun0_A.sl.v118, kernelRun0_A.sl.v123, kernelRun0_A.sl.v128,
        kernelRun0_A.sl.v133, kernelRun0_A.sl.v138, kernelRun0_A.sl.v143, kernelRun0_A.sl.v148, kernelRun0_A.sl.v153,
        kernelRun0_A.sl.v158, kernelRun0_A.sl.v163, kernelRun0_A.sl.v168]
      pointwise [k0_pay50, k0_pay51, k0_pay52, k0_pay53, k0_pay54, k0_pay55, k0_pay56, k0_pay57, k0_pay58, k0_pay59, k0_pay60, k0_pay61, k0_pay62,
        k0_pay63, k0_pay64, k0_pay65, k0_pay66, k0_pay67, k0_pay68, k0_pay69, k0_pay70, k0_pay71, k0_pay72, k0_pay73, k0_pay74, k0_pay75,
        k0_pay76, k0_pay77, k0_pay78, k0_pay79, k0_pay80, k0_pay81, k0_pay82, k0_pay83, k0_pay84, k0_pay85, k0_pay86]
      simp only [T, one_mul, mul_zero, add_zero, zero_add]
  exact fun p hp => absurd hp List.not_mem_nil

end Out

end Cert.ConvDw
-- ==== Proof.ConvDw.Ref.lean ====
/- The reference's gradient of the taps, read at one tap. -/
module

public import proofs.«01_k».proof.Proof.Gen.Reference4Ideal.Read
public import proofs.«01_k».proof.Proof.Conv.Taps

@[expose] public section

set_option maxRecDepth 16384

noncomputable section

open Idealize.ShloMosaic Idealize.ShloMosaic.TcCoe Idealize.SL.Sem

namespace Cert.ConvDw

open Cert.Conv Cert.Reference4Ideal Cert.Reference4Ideal.Read

/-- A reduction over two axes of length one. -/
theorem reduce_two (h : S1x1x1024.ReducesTo [0, 1] S1024) (v : S1x1x1024.Idx → EReal) (init : EReal) (l : Fin 1024) :
    Ideal.hostReduceAdd h v init (ix1 l) = init + v (ix3 0 0 l) := by
  refine congrArg (init + ·) ?_
  rw [Finset.filter_congr (q := fun i => i = ix3 0 0 l) fun i _ => ?_, Finset.filter_eq', if_pos (Finset.mem_univ _), Finset.sum_singleton]
  have e : ∀ i, ((h.drop i) 0).val = (i 2).val := fun i => h.drop_apply_val_of_eq i 0 2
  constructor
  · intro hi
    have e' : (l : ℕ) = (i 2).val := by rw [← e i, hi]; rfl
    funext b
    match b with
    | 0 => exact Subsingleton.elim (α := Fin 1) _ _
    | 1 => exact Subsingleton.elim (α := Fin 1) _ _
    | 2 => exact Fin.ext e'.symm
  · rintro rfl
    funext b
    obtain rfl : b = 0 := Subsingleton.elim (α := Fin 1) _ _
    exact Fin.ext (e _)

/-- One tap's gradient: the input shifted behind thirty zeros, against the cotangent. -/
def corr (u d : ℕ → ℕ → EReal) (m l : ℕ) : EReal := ∑ s ∈ Finset.range 2064, (if m + s < 30 then 0 else u (m + s - 30) l) * d s l

/-- An argument read at any row and lane. -/
abbrev arg (x : FVec Ideal S1x2064x1024 .f32) : ℕ → ℕ → EReal := rows 2064 1024 fun s l => x (ix3 0 s l)

theorem tap (x0 x2 : FVec Ideal S1x2064x1024 .f32) (l : Fin 1024) (m : ℕ) (hm : ∀ x : Fin 2064, ¬ m + x.val < 30 → m + x.val - 30 < 2064) :
    (∑ x : Fin 2064, (if h : m + x.val < 30 then (0 : EReal) else x0 (ix3 0 ⟨m + x.val - 30, hm x h⟩ l)) * x2 (ix3 0 x l)) = corr (arg x0) (arg x2) m l.val := by
  rw [corr, Finset.sum_range]
  refine Finset.sum_congr rfl fun s _ => ?_
  rw [arg, arg, rows_in _ s.isLt l.isLt]
  by_cases h : m + s.val < 30
  · rw [dif_pos h, if_pos h]
  · rw [dif_neg h, if_neg h, rows_in _ (hm s h) l.isLt]

theorem tap_zero (x0 x2 : FVec Ideal S1x2064x1024 .f32) (l : Fin 1024) (h1 : ∀ x : Fin 30, x.val < 2064) (h2 : ∀ x : Fin 2034, x.val < 2064) (h3 : ∀ x : Fin 2034, 30 + x.val < 2064) :
    (∑ x : Fin 30, (0 : EReal) * x2 (ix3 0 ⟨x.val, h1 x⟩ l)) + (∑ x : Fin 2034, x0 (ix3 0 ⟨x.val, h2 x⟩ l) * x2 (ix3 0 ⟨30 + x.val, h3 x⟩ l))
      = corr (arg x0) (arg x2) 0 l.val := by
  refine Eq.trans ?_ (Finset.sum_range_add (fun s => (if 0 + s < 30 then 0 else arg x0 (0 + s - 30) l.val) * arg x2 s l.val) 30 2034).symm
  rw [Finset.sum_range, Finset.sum_range]
  congr 1
  · refine Finset.sum_congr rfl fun s _ => ?_
    rw [if_pos (by have := s.isLt; omega), arg, rows_in _ (h1 s) l.isLt]
  · refine Finset.sum_congr rfl fun s _ => ?_
    rw [if_neg (by omega), arg, arg, rows_in _ (h3 s) l.isLt, show 0 + (30 + s.val) - 30 = s.val by omega, rows_in _ (h2 s) l.isLt]

theorem tap_last (x0 x2 : FVec Ideal S1x2064x1024 .f32) (l : Fin 1024) :
    (∑ x : Fin 2064, x0 (ix3 0 x l) * x2 (ix3 0 x l)) = corr (arg x0) (arg x2) 30 l.val := by
  rw [corr, Finset.sum_range]
  refine Finset.sum_congr rfl fun s _ => ?_
  rw [if_neg (by omega), arg, arg, rows_in _ s.isLt l.isLt, show 30 + s.val - 30 = s.val by omega, rows_in _ s.isLt l.isLt]

theorem ref_rows (x0 x2 : FVec Ideal S1x2064x1024 .f32) (a : Fin 31) (l : Fin 1024) :
    val_main_v559 (F := Ideal) x0 x2 (ix3 0 a l) = corr (arg x0) (arg x2) a.val l.val := by
  pointwise [val_main_v559, val_main_v558, val_main_v557, val_main_v556, val_main_v553, val_main_v552, val_main_v551, val_main_v4, val_main_v1,
    val_main_v0, val_main_cst, val_main_v221, val_main_cst_122, val_main_cst_123, val_main_cst_124, val_main_v548, val_main_v547,
    val_main_v546, val_main_v545, val_main_v542, val_main_v541, val_main_v540, val_main_v11, val_main_cst_118, val_main_cst_119,
    val_main_cst_120, val_main_v537, val_main_v536, val_main_v535, val_main_v534, val_main_v531, val_main_v530, val_main_v529,
    val_main_v18, val_main_cst_114, val_main_cst_115, val_main_cst_116, val_main_v526, val_main_v525, val_main_v524,
    val_main_v523, val_main_v520, val_main_v519, val_main_v518, val_main_v25, val_main_cst_110, val_main_cst_111,
    val_main_cst_112, val_main_v515, val_main_v514, val_main_v513, val_main_v512, val_main_v509, val_main_v508, val_main_v507,
    val_main_v32, val_main_cst_106, val_main_cst_107, val_main_cst_108, val_main_v504, val_main_v503, val_main_v502,
    val_main_v501, val_main_v498, val_main_v497, val_main_v496, val_main_v39, val_main_cst_102, val_main_cst_103,
    val_main_cst_104, val_main_v493, val_main_v492, val_main_v491, val_main_v490, val_main_v487, val_main_v486, val_main_v485,
    val_main_v46, val_main_cst_98, val_main_cst_99, val_main_cst_100, val_main_v482, val_main_v481, val_main_v480, val_main_v479,
    val_main_v476, val_main_v475, val_main_v474, val_main_v53, val_main_cst_94, val_main_cst_95, val_main_cst_96, val_main_v471,
    val_main_v470, val_main_v469, val_main_v468, val_main_v465, val_main_v464, val_main_v463, val_main_v60, val_main_cst_90,
    val_main_cst_91, val_main_cst_92, val_main_v460, val_main_v459, val_main_v458, val_main_v457, val_main_v454, val_main_v453,
    val_main_v452, val_main_v67, val_main_cst_86, val_main_cst_87, val_main_cst_88, val_main_v449, val_main_v448, val_main_v447,
    val_main_v446, val_main_v443, val_main_v442, val_main_v441, val_main_v74, val_main_cst_82, val_main_cst_83, val_main_cst_84,
    val_main_v438, val_main_v437, val_main_v436, val_main_v435, val_main_v432, val_main_v431, val_main_v430, val_main_v81,
    val_main_cst_78, val_main_cst_79, val_main_cst_80, val_main_v427, val_main_v426, val_main_v425, val_main_v424, val_main_v421,
    val_main_v420, val_main_v419, val_main_v88, val_main_cst_74, val_main_cst_75, val_main_cst_76, val_main_v416, val_main_v415,
    val_main_v414, val_main_v413, val_main_v410, val_main_v409, val_main_v408, val_main_v95, val_main_cst_70, val_main_cst_71,
    val_main_cst_72, val_main_v405, val_main_v404, val_main_v403, val_main_v402, val_main_v399, val_main_v398, val_main_v397,
    val_main_v102, val_main_cst_66, val_main_cst_67, val_main_cst_68, val_main_v394, val_main_v393, val_main_v392, val_main_v391,
    val_main_v388, val_main_v387, val_main_v386, val_main_v109, val_main_cst_62, val_main_cst_63, val_main_cst_64, val_main_v383,
    val_main_v382, val_main_v381, val_main_v380, val_main_v377, val_main_v376, val_main_v375, val_main_v116, val_main_cst_58,
    val_main_cst_59, val_main_cst_60, val_main_v372, val_main_v371, val_main_v370, val_main_v369, val_main_v366, val_main_v365,
    val_main_v364, val_main_v123, val_main_cst_54, val_main_cst_55, val_main_cst_56, val_main_v361, val_main_v360, val_main_v359,
    val_main_v358, val_main_v355, val_main_v354, val_main_v353, val_main_v130, val_main_cst_50, val_main_cst_51, val_main_cst_52,
    val_main_v350, val_main_v349, val_main_v348, val_main_v347, val_main_v344, val_main_v343, val_main_v342, val_main_v137,
    val_main_cst_46, val_main_cst_47, val_main_cst_48, val_main_v339, val_main_v338, val_main_v337, val_main_v336, val_main_v333,
    val_main_v332, val_main_v331, val_main_v144, val_main_cst_42, val_main_cst_43, val_main_cst_44, val_main_v328, val_main_v327,
    val_main_v326, val_main_v325, val_main_v322, val_main_v321, val_main_v320, val_main_v151, val_main_cst_38, val_main_cst_39,
    val_main_cst_40, val_main_v317, val_main_v316, val_main_v315, val_main_v314, val_main_v311, val_main_v310, val_main_v309,
    val_main_v158, val_main_cst_34, val_main_cst_35, val_main_cst_36, val_main_v306, val_main_v305, val_main_v304, val_main_v303,
    val_main_v300, val_main_v299, val_main_v298, val_main_v165, val_main_cst_30, val_main_cst_31, val_main_cst_32, val_main_v295,
    val_main_v294, val_main_v293, val_main_v292, val_main_v289, val_main_v288, val_main_v287, val_main_v172, val_main_cst_26,
    val_main_cst_27, val_main_cst_28, val_main_v284, val_main_v283, val_main_v282, val_main_v281, val_main_v278, val_main_v277,
    val_main_v276, val_main_v179, val_main_cst_22, val_main_cst_23, val_main_cst_24, val_main_v273, val_main_v272, val_main_v271,
    val_main_v270, val_main_v267, val_main_v266, val_main_v265, val_main_v186, val_main_cst_18, val_main_cst_19, val_main_cst_20,
    val_main_v262, val_main_v261, val_main_v260, val_main_v259, val_main_v256, val_main_v255, val_main_v254, val_main_v193,
    val_main_cst_14, val_main_cst_15, val_main_cst_16, val_main_v251, val_main_v250, val_main_v249, val_main_v248, val_main_v245,
    val_main_v244, val_main_v243, val_main_v200, val_main_cst_10, val_main_cst_11, val_main_cst_12, val_main_v240, val_main_v239,
    val_main_v238, val_main_v237, val_main_v234, val_main_v233, val_main_v232, val_main_v207, val_main_cst_6, val_main_cst_7,
    val_main_cst_8, val_main_v230, val_main_v229, val_main_v228, val_main_v225, val_main_v224, val_main_v223, val_main_v222,
    val_main_v214, val_main_cst_2, val_main_cst_3, val_main_cst_4]
  simp only [reduce_two]
  pointwise []
  simp only [tap, tap_zero, tap_last]
  obtain ⟨a, ha⟩ := a
  dsimp only
  interval_cases a <;> simp

theorem ref_at (x0 x2 : FVec Ideal S1x2064x1024 .f32) (a : Fin 31) (l : Fin 1024) :
    val_main_v564 (F := Ideal) x0 x2 (ix2 a l) = corr (arg x0) (arg x2) a.val l.val := by
  rw [← ref_rows]
  pointwise [val_main_v564]

/-- A sum over rows, in blocks. -/
theorem in_blocks (b : ℕ) (f : ℕ → EReal) : ∀ n, ∑ s ∈ Finset.range (n * b), f s = ∑ k ∈ Finset.range n, ∑ r ∈ Finset.range b, f (b * k + r)
  | 0 => by rw [Nat.zero_mul]; rfl
  | n + 1 => by rw [Nat.succ_mul, Finset.sum_range_add, in_blocks b f n, Finset.sum_range_succ, Nat.mul_comm n b]

/-- The rows as the kernel goes through them: eight partial sums, each over the blocks and the eights of a block. -/
theorem in_eights (f : ℕ → EReal) :
    ∑ e : Fin 8, ∑ k ∈ Finset.range 17, ∑ q : Fin 16, f (128 * k + (q.val * 8 + e.val)) = ∑ s ∈ Finset.range 2176, f s := by
  rw [show 2176 = 17 * 128 from rfl, in_blocks, Finset.sum_comm]
  refine Finset.sum_congr rfl fun k _ => ?_
  rw [show 128 = 16 * 8 from rfl, in_blocks, Finset.sum_comm, Finset.sum_range]
  refine Finset.sum_congr rfl fun q _ => ?_
  rw [Finset.sum_range]
  refine Finset.sum_congr rfl fun e _ => ?_
  rw [Nat.mul_comm q.val 8]

end Cert.ConvDw
-- ==== Proof.ConvDw.Value.lean ====
/- The gradient of the convolution's taps: the array which the kernel's run leaves is the reference's. -/
module

public import proofs.«01_k».proof.Defs
public import proofs.«01_k».proof.Proof.Gen.Kernel4.Frame
public import proofs.«01_k».proof.Proof.Gen.Reference4Ideal
public import proofs.«01_k».proof.Proof.Gen.Reference4Ideal.Run
public import Idealize.ShloMosaic.Lib.Claim
public import Idealize.ShloMosaic.Lib.Quiescent
public import proofs.«01_k».proof.Proof.ConvDw.Block
public import proofs.«01_k».proof.Proof.ConvDw.Ref

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen Cert.Conv

namespace Cert.ConvDw

variable (m : (ℓ : Loc nD τ sig) → Buf (Elt Ideal) ℓ) (c : Dev nD)

/-- The convolution's input and the cotangent that the call starts from. -/
abbrev U : FVec Ideal S1x2064x1024 .f32 := m ((c : Thread nD τ).loc main_arg0)
abbrev D : FVec Ideal S1x2064x1024 .f32 := m ((c : Thread nD τ).loc main_arg2)

/-- Which block each window is on at each point. -/
theorem idx : ∀ t : Fin cfg0.N, win0_0.index t = ![0, t.val] ∧ win0_1.index t = ![0, t.val] ∧ win0_2.index t = ![0, t.val] ∧ t.val < 8 :=
  (by decide +kernel : ∀ t : Fin grid0.N, _)

/-- An argument with its rows of padding, as the host prepares it. -/
abbrev tall (x : FVec Ideal S1x2064x1024 .f32) : FVec Ideal S2176x1024 .f32 :=
  pad S2176x1024 ![0, 0] ![112, 0] ![0, 0] (shapeCast _ x shapeCasts_S1x2064x1024_S2064x1024) (sitofp .f32 (constantI S_ 32 0#32))
    pads_S2064x1024_S2176x1024_01120_000 h_S_

theorem tall_at (x : FVec Ideal S1x2064x1024 .f32) (s : Fin 2176) (l : Fin 1024) : tall x (ix2 s l) = arg x s.val l.val := by
  unfold tall
  pointwise
  rw [sitofp_zero]
  unfold arg
  by_cases h : s.val < 2064
  · rw [dif_pos h, rows_in _ h l.isLt]
  · rw [dif_neg h, rows_out _ (by omega)]

theorem V_input : Gen.V m c main_v1 = tall (U m c) := by
  unfold Gen.V
  simp only [hostOps0, hostOps0_1, hostOps0_2, hostOps0_3, List.flatten_cons, List.flatten_nil, List.cons_append, List.nil_append, List.append_nil]
  entry_read
  rfl

/-- A block of the input. -/
theorem blk0 (t : Fin cfg0.N) (y : S2176x128.Idx) : iblk m c 0 t y = arg (U m c) (y 0).val (128 * t.val + (y 1).val) := by
  obtain ⟨-, -, -, ht⟩ := idx t
  have h0 : (y 0).val < 2176 := (y 0).isLt
  have h1 : (y 1).val < 128 := (y 1).isLt
  unfold iblk
  blk_simp [idx t]
  refine (congrArg (Gen.V m c main_v1) (?_ : _ = ix2 ⟨(y 0).val, h0⟩ ⟨128 * t.val + (y 1).val, by omega⟩)).trans
    ((congrFun (V_input m c) _).trans (tall_at (U m c) _ _))
  blk_ext [idx t]

theorem V_cotangent : Gen.V m c main_v3 = tall (D m c) := by
  unfold Gen.V
  simp only [hostOps0, hostOps0_1, hostOps0_2, hostOps0_3, List.flatten_cons, List.flatten_nil, List.cons_append, List.nil_append, List.append_nil]
  entry_read
  rfl

/-- A block of the cotangent. -/
theorem blk1 (t : Fin cfg0.N) (y : S2176x128.Idx) : iblk m c 1 t y = arg (D m c) (y 0).val (128 * t.val + (y 1).val) := by
  obtain ⟨-, -, -, ht⟩ := idx t
  have h0 : (y 0).val < 2176 := (y 0).isLt
  have h1 : (y 1).val < 128 := (y 1).isLt
  unfold iblk
  blk_simp [idx t]
  refine (congrArg (Gen.V m c main_v3) (?_ : _ = ix2 ⟨(y 0).val, h0⟩ ⟨128 * t.val + (y 1).val, by omega⟩)).trans
    ((congrFun (V_cotangent m c) _).trans (tall_at (D m c) _ _))
  blk_ext [idx t]

/-- A tap's sum as the kernel takes it is the reference's. -/
theorem taps (u d : FVec Ideal S1x2064x1024 .f32) (j l o : ℕ) :
    ∑ e : Fin 8, ∑ k ∈ Finset.range 17, part (padded fun a l => arg u a (o + l)) (fun a l => arg d a (o + l)) k j e.val l = corr (arg u) (arg d) j (o + l) := by
  unfold part
  rw [in_eights (fun s => padded (fun a l => arg u a (o + l)) (s + (2 + j)) l * arg d s (o + l)), show 2176 = 2064 + 112 from rfl, Finset.sum_range_add, corr]
  rw [Finset.sum_eq_zero (s := Finset.range 112) fun s _ => ?_, add_zero]
  · refine Finset.sum_congr rfl fun s hs => congrArg (· * _) ?_
    rw [Finset.mem_range] at hs
    unfold padded
    by_cases h : j + s < 30
    · rw [if_pos h, if_neg (by omega)]
    · rw [if_neg h]
      by_cases h2 : s + (2 + j) < 2208
      · rw [if_pos ⟨by omega, h2⟩, show s + (2 + j) - 32 = j + s - 30 by omega]
      · rw [if_neg (by omega), arg, rows_out _ (by omega)]
  · rw [show arg d (2064 + s) (o + l) = 0 from rows_out _ (by omega), mul_zero]

/-- The gradient's array after the run. -/
theorem final2 : (dats m 0 c).arrAt 2 (cfgs 0).N = Reference4Ideal.Read.val_main_v564 (F := Ideal) (U m c) (D m c) := by
  refine (dats m 0 c).arrAt_eq_of_covers 2 _ (by decide +kernel) fun t hf y => ?_
  obtain ⟨-, -, -, ht⟩ := idx t
  have h0 : (y 0).val < 31 := (y 0).isLt
  have h1 : (y 1).val < 128 := (y 1).isLt
  blk_simp
  rw [after0_2]
  refine Eq.trans ?_ ((congrArg _ (?_ : _ = ix2 ⟨(y 0).val, h0⟩ ⟨128 * t.val + (y 1).val, by omega⟩)).trans (ref_at (U m c) (D m c) _ _)).symm
  · unfold outsAt0
    exact (block c _ _ _ _ _ _ _ _ _ _ _ (x := fun a l => arg (U m c) a (128 * t.val + l)) (d := fun a l => arg (D m c) a (128 * t.val + l))
      (blk0 m c t) (blk1 m c t) y).trans (taps (U m c) (D m c) (y 0).val (y 1).val (128 * t.val))
  · blk_ext [idx t]

theorem frame : quiescent_Kernel4 (hKernel4 := Kernel4.Gen.facts) :=
  fun m g _ => Kernel4.Gen.frame m g

theorem frame_ideal : quiescent_Kernel4Ideal (hKernel4Ideal := Kernel4Ideal.Gen.facts) :=
  fun m g _ => Kernel4Ideal.Gen.frame m g

theorem frame_ref : quiescent_Reference4Ideal (hReference4Ideal := Reference4Ideal.Gen.facts) :=
  fun m g _ => (θ_run Reference4Ideal.defs _ _).mono
    (fun r h => ⟨fun c => (h c).2, sem_eq_zero_of_no_sems (by decide) r.2⟩) (Reference4Ideal.Value.run m g)

theorem same {x1 y1 x2 y2 : FVec Ideal Reference4Ideal.S1x2064x1024 .f32} (h1 : x1 = y1) (h2 : x2 = y2) :
    Reference4Ideal.Read.val_main_v564 (F := Ideal) x1 x2 = Reference4Ideal.Read.val_main_v564 (F := Ideal) y1 y2 := by
  rw [h1, h2]

set_option maxHeartbeats 2000000 in
theorem algebraic : algebraic_Kernel4Ideal_Reference4Ideal (hKernel4Ideal := Kernel4Ideal.Gen.facts)
    (hReference4Ideal := Reference4Ideal.Gen.facts) := by
  pair_intro
  · run_from Kernel4Ideal.Gen.run_main m g
    · exact Kernel4Ideal.Gen.V_main_arg0 m c
    · exact Kernel4Ideal.Gen.V_main_arg1 m c
    · exact Kernel4Ideal.Gen.V_main_arg2 m c
  · refine (θ_run Reference4Ideal.defs _ _).mono (fun r h c => ?_) (Reference4Ideal.Value.run m' g')
    have a1 := (hagree c).1
    have a2 := (hagree c).2.2
    have r2 := (h c).1.trans (Reference4Ideal.Read.val_main_v564_eq _)
    have e2 := same a1 a2
    have k := (h c).2
    clear h
    have l2 := r2.trans e2
    exact ⟨l2.trans (final2 m c).symm, k⟩

end Cert.ConvDw
-- ==== Proof.Rows.Base.lean ====
/- What the row-by-row gradients share: an argument's rows followed by rows of zeros, the constants, and the logistic function
   as the two programs write it. -/
module

public import Idealize.ShloMosaic.Lib.Pipeline.ValueKit

@[expose] public section

set_option maxRecDepth 16384

noncomputable section

open Idealize.ShloMosaic Idealize.ShloMosaic.TcCoe Idealize.SL.Sem

namespace Cert.Rows

/-- The rows of an argument, zero past its last row. -/
def rows {n : ℕ} (x : (⟨3, ![1, 2064, n]⟩ : Shape).Idx → EReal) (r l : ℕ) : EReal :=
  if h : r < 2064 ∧ l < n then x (ix3 (0 : Fin 1) ⟨r, h.1⟩ ⟨l, h.2⟩) else 0

theorem rows_at {n : ℕ} (x : (⟨3, ![1, 2064, n]⟩ : Shape).Idx → EReal) (r : Fin 2064) (l : Fin n) : x (ix3 (0 : Fin 1) r l) = rows x r l := by
  rw [rows, dif_pos ⟨r.isLt, l.isLt⟩]

theorem rows_out {n : ℕ} (x : (⟨3, ![1, 2064, n]⟩ : Shape).Idx → EReal) {r l : ℕ} (h : 2064 ≤ r) : rows x r l = 0 := by
  rw [rows, dif_neg (fun e => absurd e.1 (by omega))]

/-- The rows that are there, else a zero. -/
theorem rows_pad {n : ℕ} (x : (⟨3, ![1, 2064, n]⟩ : Shape).Idx → EReal) (r : ℕ) (l : Fin n) :
    (if h : r < 2064 then x (ix3 (0 : Fin 1) ⟨r, h⟩ l) else (0 : EReal)) = rows x r l := by
  by_cases h : r < 2064
  · rw [dif_pos h]; exact rows_at x ⟨r, h⟩ l
  · rw [dif_neg h, rows_out x (by omega)]

/-- A row's entries at a column. -/
def cols {n : ℕ} (x : (⟨2, ![1, n]⟩ : Shape).Idx → EReal) (l : ℕ) : EReal := if h : l < n then x (ix2 (0 : Fin 1) ⟨l, h⟩) else 0

theorem cols_at {n : ℕ} (x : (⟨2, ![1, n]⟩ : Shape).Idx → EReal) (l : Fin n) : x (ix2 (0 : Fin 1) l) = cols x l.val := by rw [cols, dif_pos l.isLt]

theorem zero_f32 : Ideal.ofBits .f32 0x00000000#32 = (0 : EReal) := by simp [Ideal.ofBits, Ideal.ieee]

theorem one_f32 : Ideal.ofBits .f32 0x3F800000#32 = (1 : EReal) := by
  simp [Ideal.ofBits, Ideal.ieee]; rw [← EReal.coe_mul]; norm_num

theorem sitofp_zero : (FloatOps.sitofp (F := Ideal) .f32 (0#32 : BitVec 32) : EReal) = 0 := by simp [FloatOps.sitofp]

/-- The logistic function, as a reciprocal. -/
abbrev sg (x : EReal) : EReal := Ideal.div 1 (1 + Ideal.exp (-x))

theorem sg_eq (x : EReal) : Ideal.logistic x = sg x := rfl

end Cert.Rows
-- ==== Proof.Rows.Norm.lean ====
/- The gradient of a division by the root of the mean square over 1024 columns: the function, row by row. -/
module

public import proofs.«01_k».proof.Proof.Rows.Base

@[expose] public section

noncomputable section

open Idealize.ShloMosaic Idealize.ShloMosaic.TcCoe Idealize.SL.Sem

namespace Cert.Rows

/-- The number of columns, 1024, and minus one half, as the two programs write them. -/
abbrev width : EReal := Ideal.ofBits .f32 0x44800000#32
abbrev negHalf : EReal := Ideal.ofBits .f32 0xBF000000#32

/-- A zero divided by the width is zero. -/
theorem zero_div_width : Ideal.div 0 width = 0 := by
  have h : width = (1024 : ℝ) := by
    simp [width, Ideal.ofBits, Ideal.ieee]; rw [← EReal.coe_mul]; norm_num
  rw [h, Ideal.div, if_neg (by norm_num), zero_mul]

variable (X D : ℕ → ℕ → EReal) (G : ℕ → EReal) (e : EReal)

/-- The mean square of a row, and the small number. -/
def ms (r : ℕ) : EReal := Ideal.div (∑ l : Fin 1024, X r l.val * X r l.val) width + e

/-- One over its root. -/
def scale (r : ℕ) : EReal := Ideal.rsqrt (ms X e r)

/-- The factor by which a row's entries enter the gradient through the mean square. -/
def pull (r : ℕ) : EReal :=
  Ideal.div ((∑ l : Fin 1024, X r l.val * (D r l.val * G l.val)) * (negHalf * Ideal.div (scale X e r) (ms X e r))) width

/-- The gradient of an entry. -/
def dx (r l : ℕ) : EReal := D r l * G l * scale X e r + X r l * pull X D G e r + pull X D G e r * X r l

/-- The gradient of an entry which is also passed on with gradient `U`. -/
def dxu (U : ℕ → ℕ → EReal) (r l : ℕ) : EReal := U r l + D r l * G l * scale X e r + X r l * pull X D G e r + pull X D G e r * X r l

/-- A row's part of the weight's gradient. -/
def dg (r l : ℕ) : EReal := X r l * scale X e r * D r l

variable {X D G e}

theorem pull_zero {r : ℕ} (h : ∀ l, D r l = 0) : pull X D G e r = 0 := by
  simp only [pull, h, zero_mul, mul_zero, Finset.sum_const_zero, zero_div_width]

theorem dx_zero {r l : ℕ} (h : ∀ l, D r l = 0) : dx X D G e r l = 0 := by
  simp only [dx, pull_zero h, h, zero_mul, mul_zero, add_zero]

theorem dxu_zero {U : ℕ → ℕ → EReal} {r l : ℕ} (h : ∀ l, D r l = 0) (u : U r l = 0) : dxu X D G e U r l = 0 := by
  simp only [dxu, pull_zero h, h, u, zero_mul, mul_zero, add_zero]

theorem dg_zero {r l : ℕ} (h : ∀ l, D r l = 0) : dg X D e r l = 0 := by rw [dg, h, mul_zero]

end Cert.Rows
-- ==== Proof.Rows.Reduce.lean ====
/- Sums over two dimensions of length 1: one entry is left. -/
module

public import Idealize.ShloMosaic.Lib.Pipeline.ValueKit

@[expose] public section

noncomputable section

open Idealize.ShloMosaic Idealize.ShloMosaic.TcCoe Idealize.SL.Sem

namespace Cert.Rows

theorem reduce_first {n : ℕ} (h : (⟨3, ![1, 1, n]⟩ : Shape).ReducesTo [0, 1] ⟨1, ![n]⟩) (v : (⟨3, ![1, 1, n]⟩ : Shape).Idx → EReal) (init : EReal)
    (l : Fin n) : Ideal.hostReduceAdd h v init (ix1 l) = init + v (ix3 0 0 l) := by
  refine congrArg (init + ·) ?_
  rw [Finset.filter_congr (q := fun i => i = ix3 0 0 l) fun i _ => ?_, Finset.filter_eq', if_pos (Finset.mem_univ _), Finset.sum_singleton]
  have e : ∀ i, ((h.drop i) 0).val = (i 2).val := fun i => h.drop_apply_val_of_eq i 0 2 Nat.one_pos rfl
  constructor
  · intro hi
    have e' : (l : ℕ) = (i 2).val := by rw [← e i, hi]; rfl
    funext b
    match b with
    | 0 => exact Subsingleton.elim (α := Fin 1) _ _
    | 1 => exact Subsingleton.elim (α := Fin 1) _ _
    | 2 => exact Fin.ext e'.symm
  · rintro rfl
    funext b
    obtain rfl : b = 0 := Subsingleton.elim (α := Fin 1) _ _
    exact Fin.ext (e _)

theorem reduce_ends {n : ℕ} (h : (⟨3, ![1, n, 1]⟩ : Shape).ReducesTo [0, 2] ⟨1, ![n]⟩) (v : (⟨3, ![1, n, 1]⟩ : Shape).Idx → EReal) (init : EReal)
    (l : Fin n) : Ideal.hostReduceAdd h v init (ix1 l) = init + v (ix3 0 l 0) := by
  refine congrArg (init + ·) ?_
  rw [Finset.filter_congr (q := fun i => i = ix3 0 l 0) fun i _ => ?_, Finset.filter_eq', if_pos (Finset.mem_univ _), Finset.sum_singleton]
  have e : ∀ i, ((h.drop i) 0).val = (i 1).val := fun i => h.drop_apply_val_of_eq i 0 1 Nat.one_pos rfl
  constructor
  · intro hi
    have e' : (l : ℕ) = (i 1).val := by rw [← e i, hi]; rfl
    funext b
    match b with
    | 0 => exact Subsingleton.elim (α := Fin 1) _ _
    | 1 => exact Fin.ext e'.symm
    | 2 => exact Subsingleton.elim (α := Fin 1) _ _
  · rintro rfl
    funext b
    obtain rfl : b = 0 := Subsingleton.elim (α := Fin 1) _ _
    exact Fin.ext (e _)

end Cert.Rows
-- ==== Proof.ResRms.Ref.lean ====
/- The post-norm's gradient: the reference's two results, index by index. -/
module

public import proofs.«01_k».proof.Proof.Gen.Reference5Ideal.Read
public import proofs.«01_k».proof.Proof.Rows.Norm
public import proofs.«01_k».proof.Proof.Rows.Reduce

@[expose] public section

set_option maxRecDepth 16384

noncomputable section

open Idealize.ShloMosaic Idealize.ShloMosaic.TcCoe Idealize.SL.Sem
open Cert.Reference5Ideal Cert.Reference5Ideal.Read Cert.Rows

namespace Cert.ResRms

/-- The norm's small number. -/
abbrev small : EReal := Ideal.ofBits .f32 0x358637BD#32

variable (x : S1x2064x1024.Idx → EReal) (g : S1x1024.Idx → EReal) (d : S1x2064x1024.Idx → EReal)

theorem ms_at (r : Fin 2064) : val_main_v7 (F := Ideal) x (ix3 0 r 0) = ms (rows x) small r.val := by
  have e : val_main_v7 (F := Ideal) x (ix3 0 r 0)
      = Ideal.div (Ideal.ofBits .f32 0x00000000#32 + ∑ l : Fin 1024, x (ix3 0 r l) * x (ix3 0 r l)) width + small := by
    pointwise [val_main_v7, val_main_v6, val_main_cst_1, val_main_v5, val_main_v4, val_main_cst_0, val_main_v3, val_main_v2, val_main_cst, val_main_v1]
  rw [e, zero_f32, zero_add, ms]
  simp only [rows_at x]

theorem scale_at (r : Fin 2064) : val_main_v8 (F := Ideal) x (ix3 0 r 0) = scale (rows x) small r.val := by
  have e : val_main_v8 (F := Ideal) x (ix3 0 r 0) = Ideal.rsqrt (val_main_v7 (F := Ideal) x (ix3 0 r 0)) := by pointwise [val_main_v8]
  rw [e, ms_at, scale]

theorem slope_at (r : Fin 2064) : val_main_v11 (F := Ideal) x (ix3 0 r 0) = negHalf * Ideal.div (scale (rows x) small r.val) (ms (rows x) small r.val) := by
  have e : val_main_v11 (F := Ideal) x (ix3 0 r 0)
      = negHalf * Ideal.div (val_main_v8 (F := Ideal) x (ix3 0 r 0)) (val_main_v7 (F := Ideal) x (ix3 0 r 0)) := by
    pointwise [val_main_v11, val_main_v10, val_main_cst_2, val_main_v9]
  rw [e, scale_at, ms_at]

theorem weighted_at (r : Fin 2064) (l : Fin 1024) : val_main_v22 (F := Ideal) g d (ix3 0 r l) = rows d r.val l.val * cols g l.val := by
  have e : val_main_v22 (F := Ideal) g d (ix3 0 r l) = d (ix3 0 r l) * g (ix2 0 l) := by
    pointwise [val_main_v22, val_main_v21, val_main_v14, val_main_v0]
  rw [e, rows_at d, cols_at g]

theorem pull_at (r : Fin 2064) : val_main_v32 (F := Ideal) x g d (ix1 r) = pull (rows x) (rows d) (cols g) small r.val := by
  have e1 : val_main_v32 (F := Ideal) x g d (ix1 r) = Ideal.ofBits .f32 0x00000000#32 + val_main_v31 (F := Ideal) x g d (ix3 0 r 0) :=
    reduce_ends _ _ _ r
  have e2 : val_main_v31 (F := Ideal) x g d (ix3 0 r 0)
      = Ideal.div ((Ideal.ofBits .f32 0x00000000#32 + ∑ l : Fin 1024, x (ix3 0 r l) * val_main_v22 (F := Ideal) g d (ix3 0 r l))
        * val_main_v11 (F := Ideal) x (ix3 0 r 0)) width := by
    pointwise [val_main_v31, val_main_v30, val_main_cst_6, val_main_v29, val_main_v26, val_main_v25, val_main_cst_5, val_main_v24]
  rw [e1, e2, zero_f32, zero_add, zero_add, slope_at, pull]
  simp only [rows_at x, weighted_at]

theorem ref_dx (s : Fin 2176) (l : Fin 1024) :
    val_main_v42 (F := Ideal) x g d (ix2 s l) = dx (rows x) (rows d) (cols g) small s.val l.val := by
  have e : val_main_v42 (F := Ideal) x g d (ix2 s l) = if h : s.val < 2064 then
      val_main_v22 (F := Ideal) g d (ix3 0 ⟨s.val, h⟩ l) * val_main_v8 (F := Ideal) x (ix3 0 ⟨s.val, h⟩ 0)
        + x (ix3 0 ⟨s.val, h⟩ l) * val_main_v32 (F := Ideal) x g d (ix1 ⟨s.val, h⟩)
        + val_main_v32 (F := Ideal) x g d (ix1 ⟨s.val, h⟩) * x (ix3 0 ⟨s.val, h⟩ l)
      else FloatOps.sitofp (F := Ideal) .f32 (0#32 : BitVec 32) := by
    pointwise [val_main_v42, val_main_v41, val_main_call0_v0, val_main_c, val_main_v40, val_main_v38, val_main_v37, val_main_v36, val_main_v35, val_main_v34,
      val_main_v33, val_main_v28, val_main_v27]
  rw [e, sitofp_zero]
  by_cases hs : s.val < 2064
  · rw [dif_pos hs, weighted_at, scale_at, pull_at, rows_at x, dx]
  · rw [dif_neg hs, dx_zero fun l => rows_out d (by omega)]

theorem ref_dg (l : Fin 1024) : val_main_v39 (F := Ideal) x d (ix2 0 l) = ∑ r : Fin 2064, dg (rows x) (rows d) small r.val l.val := by
  have e1 : val_main_v39 (F := Ideal) x d (ix2 0 l) = val_main_v23 (F := Ideal) x d (ix1 l) := by pointwise [val_main_v39]
  have e2 : val_main_v23 (F := Ideal) x d (ix1 l) = Ideal.ofBits .f32 0x00000000#32 + val_main_v20 (F := Ideal) x d (ix3 0 0 l) :=
    reduce_first _ _ _ l
  have e3 : val_main_v20 (F := Ideal) x d (ix3 0 0 l)
      = Ideal.ofBits .f32 0x00000000#32 + ∑ r : Fin 2064, x (ix3 0 r l) * val_main_v8 (F := Ideal) x (ix3 0 r 0) * d (ix3 0 r l) := by
    pointwise [val_main_v20, val_main_v19, val_main_cst_3, val_main_v18, val_main_v13, val_main_v12]
  rw [e1, e2, e3, zero_f32, zero_add, zero_add]
  exact Finset.sum_congr rfl fun r _ => by rw [scale_at, rows_at x, rows_at d, dg]

end Cert.ResRms
-- ==== Proof.Rows.Pad.lean ====
/- An argument's rows with the rows of padding which the host adds, read at an index. -/
module

public import proofs.«01_k».proof.Proof.Rows.Base
public import Idealize.ShloMosaic.Lib.ValueLayout

@[expose] public section

noncomputable section

open Idealize.ShloMosaic Idealize.ShloMosaic.TcCoe Idealize.SL.Sem

namespace Cert.Rows

theorem pad_at {n : ℕ} (x : FVec Ideal ⟨3, ![1, 2064, n]⟩ .f32) (hc : (⟨3, ![1, 2064, n]⟩ : Shape).ShapeCasts ⟨2, ![2064, n]⟩)
    (hp : (⟨2, ![2064, n]⟩ : Shape).Pads (![0, 0] : Fin 2 → ℕ) ![112, 0] ![0, 0] ⟨2, ![2176, n]⟩) (h0 : 0 < (⟨0, ![]⟩ : Shape).numel) (r : Fin 2176) (l : Fin n) :
    pad ⟨2, ![2176, n]⟩ ![0, 0] ![112, 0] ![0, 0] (shapeCast ⟨2, ![2064, n]⟩ x hc) (sitofp (F := Ideal) .f32 (constantI ⟨0, ![]⟩ 32 0#32)) hp h0 (ix2 r l)
      = rows x r.val l.val := by
  have e : shapeCast ⟨2, ![2064, n]⟩ x hc = fun y => x (ix3 (0 : Fin 1) (y 0) (y 1)) := by
    funext y
    exact (congrArg _ (eq_ix2 y)).trans (ValueIdx.shapeCast_1ab_ab_apply x hc (y 0) (y 1))
  rw [e]
  pointwise
  rw [sitofp_zero]
  refine Eq.trans ?_ (rows_pad x r.val l)
  by_cases h : r.val < 2064
  · rw [dif_pos h, dif_pos h]
    refine congrArg x (funext fun a => ?_)
    match a with
    | 0 => rfl
    | 1 => exact Fin.ext (by show (r.val - 0) / (0 + 1) = r.val; omega)
    | 2 => exact Fin.ext (by show (l.val - 0) / (0 + 1) = l.val; omega)
  · rw [dif_neg h, dif_neg h]

end Cert.Rows
-- ==== Proof.Rows.Sum.lean ====
/- A sum over an argument's rows, taken tile by tile: 8 tiles of 272 rows, of which the last rows are zero. -/
module

public import Idealize.ShloMosaic.Lib.Pipeline.ValueKit

@[expose] public section

noncomputable section

namespace Cert.Rows

/-- A value which starts as the first tile's sum and takes each further tile's sum is the sum over the rows so far. -/
theorem carried {p : (n : ℕ) → n < 8 → EReal} {g : ℕ → EReal} (h0 : p 0 (by omega) = ∑ x : Fin 272, g x.val)
    (hs : ∀ n (h : n + 1 < 8), p (n + 1) h = p n (by omega) + ∑ x : Fin 272, g (272 * (n + 1) + x.val)) :
    ∀ n (h : n < 8), p n h = ∑ r ∈ Finset.range (272 * (n + 1)), g r := by
  intro n
  induction n with
  | zero => intro h; rw [h0, Finset.sum_range]
  | succ n ih =>
    intro h
    rw [hs, ih, show 272 * (n + 1 + 1) = 272 * (n + 1) + 272 by omega, Finset.sum_range_add, Finset.sum_range (fun x => g (272 * (n + 1) + x))]

/-- The rows past the last add nothing. -/
theorem kept {g : ℕ → EReal} (hz : ∀ r, 2064 ≤ r → g r = 0) : ∑ r ∈ Finset.range (272 * (7 + 1)), g r = ∑ r : Fin 2064, g r.val := by
  rw [show 272 * (7 + 1) = 2064 + 112 by omega, Finset.sum_range_add, Finset.sum_eq_zero (s := Finset.range 112) fun x _ => hz _ (by omega), add_zero,
    Finset.sum_range]

end Cert.Rows
-- ==== Proof.ResRms.Value.lean ====
/- The post-norm's gradient: the two arrays which the kernel's run leaves are the reference's. -/
module

public import proofs.«01_k».proof.Defs
public import proofs.«01_k».proof.Proof.Gen.Kernel5.Frame
public import proofs.«01_k».proof.Proof.Gen.Reference5Ideal
public import proofs.«01_k».proof.Proof.Gen.Reference5Ideal.Run
public import Idealize.ShloMosaic.Lib.Claim
public import Idealize.ShloMosaic.Lib.Quiescent
public import proofs.«01_k».proof.Proof.Gen.Kernel5Ideal.Value
public import proofs.«01_k».proof.Proof.ResRms.Ref
public import proofs.«01_k».proof.Proof.Rows.Pad
public import proofs.«01_k».proof.Proof.Rows.Sum

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen Cert.Rows

namespace Cert.ResRms

variable (m : (ℓ : Loc nD τ sig) → Buf (Elt Ideal) ℓ) (c : Dev nD)

theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![0, 0]
    ∧ t.val < 8 :=
  (by decide +kernel : ∀ t : Fin grid0.N, _)

theorem V_x (r : Fin 2176) (l : Fin 1024) : Gen.V m c main_v3 (ix2 r l) = rows (m ((c : Thread nD τ).loc main_arg1)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

theorem V_d (r : Fin 2176) (l : Fin 1024) : Gen.V m c main_v5 (ix2 r l) = rows (m ((c : Thread nD τ).loc main_arg3)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

/-- The arguments. -/
abbrev h := m ((c : Thread nD τ).loc main_arg0)
abbrev x := m ((c : Thread nD τ).loc main_arg1)
abbrev g := m ((c : Thread nD τ).loc main_arg2)
abbrev d := m ((c : Thread nD τ).loc main_arg3)

theorem blk1 (t : Fin cfg0.N) (r : Fin 272) (l : Fin 1024) : iblk m c 1 t (ix2 r l) = rows (x m c) (272 * t.val + r.val) (l.val) := by
  have ht : t.val < 8 := by have := idx t; tauto
  unfold iblk
  blk_simp [idx t]
  refine (congrArg (Gen.V m c main_v3) (?_ : _ = ix2 ⟨272 * t.val + r.val, by omega⟩ ⟨l.val, by omega⟩)).trans
    (V_x m c _ _)
  blk_ext [idx t]

theorem blk2 (t : Fin cfg0.N) (l : Fin 1024) : iblk m c 2 t (ix2 0 l) = cols (g m c) (l.val) := by
  unfold iblk
  blk_simp [idx t]
  refine (congrArg (Gen.V m c main_arg2) (?_ : _ = ix2 (0 : Fin 1) ⟨l.val, by omega⟩)).trans
    ((congrFun (Gen.V_main_arg2 m c) _).trans (cols_at (g m c) _))
  blk_ext [idx t]

theorem blk3 (t : Fin cfg0.N) (r : Fin 272) (l : Fin 1024) : iblk m c 3 t (ix2 r l) = rows (d m c) (272 * t.val + r.val) (l.val) := by
  have ht : t.val < 8 := by have := idx t; tauto
  unfold iblk
  blk_simp [idx t]
  refine (congrArg (Gen.V m c main_v5) (?_ : _ = ix2 ⟨272 * t.val + r.val, by omega⟩ ⟨l.val, by omega⟩)).trans
    (V_d m c _ _)
  blk_ext [idx t]

/-- The gradient of the rows, of a tile. -/
theorem point4 (t : Fin cfg0.N) (r : Fin 272) (l : Fin 1024) :
    (outsAt0 m c t.val t.isLt).1 (ix2 r l) = dx (rows (x m c)) (rows (d m c)) (cols (g m c)) small (272 * t.val + r.val) l.val := by
  by_cases h : t.val % 8 = 0 <;> (first | rw [outsAt0_A m c t h] | rw [outsAt0_B m c t h]) <;> dsimp only <;> frame_out <;>
  pointwise [k0_pay1, k0_pay2, k0_pay8, k0_pay7, k0_pay6, k0_pay5, k0_pay4, k0_pay3] <;>
  simp only [blk1, blk2, blk3, dx, pull, scale, ms, Finset.univ_unique, Finset.sum_singleton]

theorem final4 : (dats m 0 c).arrAt 4 (cfgs 0).N = Reference5Ideal.Read.val_main_v42 (F := Ideal) (x m c) (g m c) (d m c) := by
  refine (dats m 0 c).arrAt_eq_of_covers 4 _ (by decide +kernel) fun t hf w => ?_
  blk_simp
  rw [after0_4]
  have ht : t.val < 8 := by have := idx t; tauto
  refine ((congrArg (outsAt0 m c t.val t.isLt).1 (eq_ix2 (n0 := 272) (n1 := 1024) w)).trans (point4 m c t (w 0) (w 1))).trans ?_
  have h0 : (w 0).val < 272 := (w 0).isLt
  have h1 : (w 1).val < 1024 := (w 1).isLt
  refine ((congrArg _ (?_ : _ = ix2 ⟨272 * t.val + (w 0).val, by omega⟩ ⟨(w 1).val, h1⟩)).trans (ref_dx _ _ _ _ _)).symm
  blk_ext [idx t]

/-- The gradient of the weight, over the rows of the tiles so far. -/
theorem total5 (l : Fin 1024) (n : ℕ) (h : n < 8) : (outsAt0 m c n (lt_of_lt_of_eq h N_0.symm)).2 (ix2 0 l)
    = ∑ r ∈ Finset.range (272 * (n + 1)), dg (rows (x m c)) (rows (d m c)) small r l.val := by
  have first : ∀ t : Fin cfg0.N, t.val % 8 = 0 → (outsAt0 m c t.val t.isLt).2 (ix2 0 l) = ∑ a : Fin 272, dg (rows (x m c)) (rows (d m c)) small (272 * t.val + a.val) l.val := by
    intro t h
    rw [outsAt0_A m c t h]
    dsimp only
    frame_out
    pointwise [k0_pay1, k0_pay2, k0_pay8, k0_pay7, k0_pay6, k0_pay5, k0_pay4, k0_pay3]
    simp only [blk1, blk3, dg, scale, ms]
  have next : ∀ t : Fin cfg0.N, ¬t.val % 8 = 0 → (outsAt0 m c t.val t.isLt).2 (ix2 0 l)
      = (outsAt0 m c (t.val - 1) (Nat.lt_of_le_of_lt (Nat.sub_le _ _) t.isLt)).2 (ix2 0 l) + ∑ a : Fin 272, dg (rows (x m c)) (rows (d m c)) small (272 * t.val + a.val) l.val := by
    intro t h
    rw [outsAt0_B m c t h]
    dsimp only
    frame_out
    pointwise [k0_pay1, k0_pay2, k0_pay8, k0_pay7, k0_pay6, k0_pay5, k0_pay4, k0_pay3]
    simp only [blk1, blk3, dg, scale, ms]
  refine carried (p := fun n h => (outsAt0 m c n (lt_of_lt_of_eq h N_0.symm)).2 (ix2 0 l)) ?_ (fun n h => ?_) n h
  · refine (first ⟨0, lt_of_lt_of_eq (by omega) N_0.symm⟩ rfl).trans ?_
    simp only [Nat.mul_zero, Nat.zero_add]
  · exact next ⟨n + 1, lt_of_lt_of_eq h N_0.symm⟩ (by dsimp only; omega)

theorem final5 : (dats m 0 c).arrAt 5 (cfgs 0).N = Reference5Ideal.Read.val_main_v39 (F := Ideal) (x m c) (d m c) := by
  refine (dats m 0 c).arrAt_eq_of_covers 5 _ (by decide +kernel) fun t hf w => ?_
  have ht : t.val < 8 := by have := idx t; tauto
  have h7 : t.val = 7 := by have := (flush0_5 _).mp hf; omega
  blk_simp
  rw [after0_5]
  have h1 : (w 1).val < 1024 := (w 1).isLt
  refine ((congrArg (outsAt0 m c t.val t.isLt).2 ((eq_ix2 (n0 := 1) (n1 := 1024) w).trans
    (congrArg (fun a : Fin 1 => ix2 a (w 1 : Fin 1024)) (Subsingleton.elim (α := Fin 1) _ 0)))).trans (total5 m c (w 1) t.val ht)).trans ?_
  refine ((congrArg (fun n => ∑ r ∈ Finset.range (272 * (n + 1)), dg (rows (x m c)) (rows (d m c)) small r (w 1).val) h7).trans (kept fun r hr => dg_zero fun l => rows_out _ hr)).trans ?_
  refine ((congrArg _ (?_ : _ = ix2 (0 : Fin 1) ⟨(w 1).val, h1⟩)).trans (ref_dg _ _ _)).symm
  blk_ext [idx t]

theorem frame : quiescent_Kernel5 (hKernel5 := Kernel5.Gen.facts) :=
  fun m g _ => Kernel5.Gen.frame m g

theorem frame_ideal : quiescent_Kernel5Ideal (hKernel5Ideal := Kernel5Ideal.Gen.facts) :=
  fun m g _ => Kernel5Ideal.Gen.frame m g

theorem frame_ref : quiescent_Reference5Ideal (hReference5Ideal := Reference5Ideal.Gen.facts) :=
  fun m g _ => (θ_run Reference5Ideal.defs _ _).mono
    (fun r h => ⟨fun c => (h c).2.2, sem_eq_zero_of_no_sems (by decide) r.2⟩) (Reference5Ideal.Value.run m g)

section
open Reference5Ideal.Read

/-- Equal arguments have equal results. -/
theorem same4 {x1 x2 x3 y1 y2 y3} (h1 : x1 = y1) (h2 : x2 = y2) (h3 : x3 = y3) :
    val_main_v42 (F := Ideal) x1 x2 x3 = val_main_v42 (F := Ideal) y1 y2 y3 := by rw [h1, h2, h3]
theorem same5 {x1 x3 y1 y3} (h1 : x1 = y1) (h3 : x3 = y3) :
    val_main_v39 (F := Ideal) x1 x3 = val_main_v39 (F := Ideal) y1 y3 := by rw [h1, h3]
end

set_option maxHeartbeats 2000000 in
theorem algebraic : algebraic_Kernel5Ideal_Reference5Ideal (hKernel5Ideal := Kernel5Ideal.Gen.facts)
    (hReference5Ideal := Reference5Ideal.Gen.facts) := by
  pair_intro
  · run_from Kernel5Ideal.Gen.run_main m g
    · exact Kernel5Ideal.Gen.V_main_arg0 m c
    · exact Kernel5Ideal.Gen.V_main_arg1 m c
    · exact Kernel5Ideal.Gen.V_main_arg3 m c
  · refine (θ_run Reference5Ideal.defs _ _).mono (fun r h c => ?_) (Reference5Ideal.Value.run m' g')
    have a0 := (hagree c).1
    have a1 := (hagree c).2.1
    have a2 := (hagree c).2.2.1
    have a3 := (hagree c).2.2.2
    have r4 := (h c).1.trans (Reference5Ideal.Read.val_main_v42_eq _ _)
    have r5 := (h c).2.1.trans (Reference5Ideal.Read.val_main_v39_eq _ _)
    have k := (h c).2.2
    clear h
    have e4 := same4 a1 a2 a3
    have e5 := same5 a1 a3
    have l4 := r4.trans e4
    have l5 := r5.trans e5
    exact ⟨l4.trans (final4 m c).symm, l5.trans (final5 m c).symm, k⟩

end Cert.ResRms
-- ==== Proof.Swiglu.Value.lean ====
/- The gradient of the feed-forward gate: the array which the kernel's run leaves is the reference's. -/
module

public import proofs.«01_k».proof.Defs
public import proofs.«01_k».proof.Proof.Gen.Kernel6.Frame
public import proofs.«01_k».proof.Proof.Gen.Reference6Ideal
public import proofs.«01_k».proof.Proof.Gen.Reference6Ideal.Run
public import Idealize.ShloMosaic.Lib.Claim
public import Idealize.ShloMosaic.Lib.Quiescent
public import proofs.«01_k».proof.Proof.Gen.Kernel6Ideal.Value
public import proofs.«01_k».proof.Proof.Gen.Reference6Ideal.Read
public import proofs.«01_k».proof.Proof.Rows.Pad

@[expose] public section

set_option maxRecDepth 16384

noncomputable section

open Idealize.ShloMosaic Idealize.ShloMosaic.TcCoe Idealize.SL.Sem
open Idealize.ShloMosaic.Pipeline (Dat)
open Cert.Kernel6Ideal Cert.Kernel6Ideal.Gen Cert.Rows

namespace Cert.Swiglu

/-- The gradient's row: the left half for the gates, the right half for the values. -/
def out (a b d : ℕ → ℕ → EReal) (r l : ℕ) : EReal :=
  if l < 2816 then d r l * b r l * sg (a r l) + a r l * (d r l * b r l) * (sg (a r l) * (1 - sg (a r l)))
  else a r (l - 2816) * sg (a r (l - 2816)) * d r (l - 2816)

theorem block {x0 x1 x2 : Vec Ideal S128x2816 .f32} {a b d : ℕ → ℕ → EReal} (h0 : ∀ y, x0 y = a (y 0).val (y 1).val)
    (h1 : ∀ y, x1 y = b (y 0).val (y 1).val) (h2 : ∀ y, x2 y = d (y 0).val (y 1).val) (y : S128x5632.Idx) :
    out0_3 x0 x1 x2 y = out a b d (y 0).val (y 1).val := by
  unfold out0_3
  canon_tiles x w
  · pointwise [k0_pay5, k0_pay1, k0_pay2, k0_pay3]
    rw [sg_eq, h0, h2, w0, w1, out, if_neg (by omega), Nat.add_sub_cancel_left]
  · pointwise [k0_pay4, k0_pay1, k0_pay2, k0_pay3]
    rw [sg_eq, h0, h1, h2, w0, w1, out, if_pos x1_lt]

open Reference6Ideal.Read in
theorem ref_at (p : FVec Ideal Reference6Ideal.S1x2064x5632 .f32) (ct : FVec Ideal Reference6Ideal.S1x2064x2816 .f32) (s : Fin 2176) (l : Fin 5632) :
    val_main_v10 (F := Ideal) p ct (ix2 s l) = out (rows p) (fun r l => rows p r (2816 + l)) (rows ct) s.val l.val := by
  have e : val_main_v10 (F := Ideal) p ct (ix2 s l) = if h : s.val < 2064 then
      (if h' : l.val < 2816 then ct (ix3 0 ⟨s.val, h⟩ ⟨l.val, by omega⟩) * p (ix3 0 ⟨s.val, h⟩ ⟨2816 + l.val, by omega⟩) * sg (p (ix3 0 ⟨s.val, h⟩ ⟨l.val, by omega⟩))
          + p (ix3 0 ⟨s.val, h⟩ ⟨l.val, by omega⟩) * (ct (ix3 0 ⟨s.val, h⟩ ⟨l.val, by omega⟩) * p (ix3 0 ⟨s.val, h⟩ ⟨2816 + l.val, by omega⟩))
            * (sg (p (ix3 0 ⟨s.val, h⟩ ⟨l.val, by omega⟩)) * (1 - sg (p (ix3 0 ⟨s.val, h⟩ ⟨l.val, by omega⟩))))
        else p (ix3 0 ⟨s.val, h⟩ ⟨l.val - 2816, by omega⟩) * sg (p (ix3 0 ⟨s.val, h⟩ ⟨l.val - 2816, by omega⟩))
          * ct (ix3 0 ⟨s.val, h⟩ ⟨l.val - 2816, by omega⟩))
      else FloatOps.sitofp (F := Ideal) .f32 (0#32 : BitVec 32) := by
    pointwise [val_main_v10, val_main_v9, val_main_call2_v0, val_main_c, val_main_v8, val_main_v7, val_main_v6, val_main_call1_v2, val_main_call1_v1,
      val_main_call1_v0, val_main_v5, val_main_v4, val_main_v3, val_main_v2_0, val_main_v2_1, val_main_call0_v7, val_main_call0_v6, val_main_call0_cst_1,
      val_main_v2_2, val_main_call0_v4, val_main_call0_cst_0, val_main_call0_v3, val_main_call0_v2, val_main_call0_cst, val_main_call0_v1,
      val_main_call0_v0, val_main_v1, val_main_v0]
  rw [e, sitofp_zero]
  unfold out
  by_cases hs : s.val < 2064
  · rw [dif_pos hs]
    by_cases hl : l.val < 2816
    · rw [dif_pos hl, if_pos hl, rows_at ct, rows_at p, rows_at p]
    · rw [dif_neg hl, if_neg hl, rows_at ct, rows_at p]
  · rw [dif_neg hs]
    have hs : 2064 ≤ s.val := by omega
    simp only [rows_out ct hs, mul_zero, zero_mul, add_zero, ite_self]

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 0]
    ∧ win0_3.index t = ![t.val, 0] ∧ t.val < 17 :=
  (by decide +kernel : ∀ t : Fin grid0.N, _)

theorem V_p (r : Fin 2176) (l : Fin 5632) : Gen.V m c main_v1 (ix2 r l) = rows (m ((c : Thread nD τ).loc main_arg0)) r.val l.val := by
  refine Eq.trans (congrFun ?_ _) (pad_at _ shapeCasts_S1x2064x5632_S2064x5632 pads_S2064x5632_S2176x5632_01120_000 h_S_ r l)
  unfold Gen.V
  simp only [hostOps0, hostOps0_1, hostOps0_2, hostOps0_3, List.flatten_cons, List.flatten_nil, List.cons_append, List.nil_append, List.append_nil]
  entry_read
  rfl

theorem V_ct (r : Fin 2176) (l : Fin 2816) : Gen.V m c main_v3 (ix2 r l) = rows (m ((c : Thread nD τ).loc main_arg1)) r.val l.val := by
  refine Eq.trans (congrFun ?_ _) (pad_at _ shapeCasts_S1x2064x2816_S2064x2816 pads_S2064x2816_S2176x2816_01120_000 h_S_ r l)
  unfold Gen.V
  simp only [hostOps0, hostOps0_1, hostOps0_2, hostOps0_3, List.flatten_cons, List.flatten_nil, List.cons_append, List.nil_append, List.append_nil]
  entry_read
  rfl

theorem blk0 (t : Fin cfg0.N) (y : S128x2816.Idx) : iblk m c 0 t y = rows (m ((c : Thread nD τ).loc main_arg0)) (128 * t.val + (y 0).val) (y 1).val := by
  have h0 : (y 0).val < 128 := (y 0).isLt
  have h1 : (y 1).val < 2816 := (y 1).isLt
  have ht := (idx t).2.2.2.2
  unfold iblk
  blk_simp [idx t]
  refine (congrArg (Gen.V m c main_v1) (?_ : _ = ix2 ⟨128 * t.val + (y 0).val, by omega⟩ ⟨(y 1).val, by omega⟩)).trans
    (V_p m c _ _)
  blk_ext [idx t]

theorem blk1 (t : Fin cfg0.N) (y : S128x2816.Idx) : iblk m c 1 t y = rows (m ((c : Thread nD τ).loc main_arg0)) (128 * t.val + (y 0).val) (2816 + (y 1).val) := by
  have h0 : (y 0).val < 128 := (y 0).isLt
  have h1 : (y 1).val < 2816 := (y 1).isLt
  have ht := (idx t).2.2.2.2
  unfold iblk
  blk_simp [idx t]
  refine (congrArg (Gen.V m c main_v1) (?_ : _ = ix2 ⟨128 * t.val + (y 0).val, by omega⟩ ⟨2816 + (y 1).val, by omega⟩)).trans
    (V_p m c _ _)
  blk_ext [idx t]

theorem blk2 (t : Fin cfg0.N) (y : S128x2816.Idx) : iblk m c 2 t y = rows (m ((c : Thread nD τ).loc main_arg1)) (128 * t.val + (y 0).val) (y 1).val := by
  have h0 : (y 0).val < 128 := (y 0).isLt
  have h1 : (y 1).val < 2816 := (y 1).isLt
  have ht := (idx t).2.2.2.2
  unfold iblk
  blk_simp [idx t]
  refine (congrArg (Gen.V m c main_v3) (?_ : _ = ix2 ⟨128 * t.val + (y 0).val, by omega⟩ ⟨(y 1).val, by omega⟩)).trans
    (V_ct m c _ _)
  blk_ext [idx t]

theorem final3 : (dats m 0 c).arrAt 3 (cfgs 0).N = Reference6Ideal.Read.val_main_v10 (F := Ideal) (m ((c : Thread nD τ).loc main_arg0))
    (m ((c : Thread nD τ).loc main_arg1)) := by
  refine (dats m 0 c).arrAt_eq_of_covers 3 _ (by decide +kernel) fun t hf y => ?_
  blk_simp
  rw [after0_3]
  have h0 : (y 0).val < 128 := (y 0).isLt
  have h1 : (y 1).val < 5632 := (y 1).isLt
  have ht := (idx t).2.2.2.2
  refine (block (a := fun a l => rows (m ((c : Thread nD τ).loc main_arg0)) (128 * t.val + a) l)
    (b := fun a l => rows (m ((c : Thread nD τ).loc main_arg0)) (128 * t.val + a) (2816 + l))
    (d := fun a l => rows (m ((c : Thread nD τ).loc main_arg1)) (128 * t.val + a) l) (blk0 m c t) (blk1 m c t) (blk2 m c t) y).trans ?_
  refine ((congrArg _ (?_ : _ = ix2 ⟨128 * t.val + (y 0).val, by omega⟩ ⟨(y 1).val, by omega⟩)).trans (ref_at _ _ _ _)).symm
  blk_ext [idx t]

theorem frame : quiescent_Kernel6 (hKernel6 := Kernel6.Gen.facts) :=
  fun m g _ => Kernel6.Gen.frame m g

theorem frame_ideal : quiescent_Kernel6Ideal (hKernel6Ideal := Kernel6Ideal.Gen.facts) :=
  fun m g _ => Kernel6Ideal.Gen.frame m g

theorem frame_ref : quiescent_Reference6Ideal (hReference6Ideal := Reference6Ideal.Gen.facts) :=
  fun m g _ => (θ_run Reference6Ideal.defs _ _).mono
    (fun r h => ⟨fun c => (h c).2, sem_eq_zero_of_no_sems (by decide) r.2⟩) (Reference6Ideal.Value.run m g)

section
open Reference6Ideal.Read

/-- Equal arguments have equal results. -/
theorem same3 {x0 x1 y0 y1} (h0 : x0 = y0) (h1 : x1 = y1) :
    val_main_v10 (F := Ideal) x0 x1 = val_main_v10 (F := Ideal) y0 y1 := by rw [h0, h1]
end

set_option maxHeartbeats 2000000 in
theorem algebraic : algebraic_Kernel6Ideal_Reference6Ideal (hKernel6Ideal := Kernel6Ideal.Gen.facts)
    (hReference6Ideal := Reference6Ideal.Gen.facts) := by
  pair_intro
  · run_from Kernel6Ideal.Gen.run_main m g
    · exact Kernel6Ideal.Gen.V_main_arg0 m c
    · exact Kernel6Ideal.Gen.V_main_arg1 m c
  · refine (θ_run Reference6Ideal.defs _ _).mono (fun r h c => ?_) (Reference6Ideal.Value.run m' g')
    have a0 := (hagree c).1
    have a1 := (hagree c).2
    have r3 := (h c).1.trans (Reference6Ideal.Read.val_main_v10_eq _ _)
    have k := (h c).2
    clear h
    have e3 := same3 a0 a1
    have l3 := r3.trans e3
    exact ⟨l3.trans (final3 m c).symm, k⟩

end Cert.Swiglu
-- ==== Proof.Rms.Ref.lean ====
/- The pre-norm's gradient: the reference's two results, index by index. -/
module

public import proofs.«01_k».proof.Proof.Gen.Reference7Ideal.Read
public import proofs.«01_k».proof.Proof.Rows.Norm
public import proofs.«01_k».proof.Proof.Rows.Reduce

@[expose] public section

set_option maxRecDepth 16384

noncomputable section

open Idealize.ShloMosaic Idealize.ShloMosaic.TcCoe Idealize.SL.Sem
open Cert.Reference7Ideal Cert.Reference7Ideal.Read Cert.Rows

namespace Cert.Rms

/-- The norm's small number. -/
abbrev small : EReal := Ideal.ofBits .f32 0x358637BD#32

variable (x : S1x2064x1024.Idx → EReal) (g : S1x1024.Idx → EReal) (d u : S1x2064x1024.Idx → EReal)

theorem ms_at (r : Fin 2064) : val_main_v7 (F := Ideal) x (ix3 0 r 0) = ms (rows x) small r.val := by
  have e : val_main_v7 (F := Ideal) x (ix3 0 r 0)
      = Ideal.div (Ideal.ofBits .f32 0x00000000#32 + ∑ l : Fin 1024, x (ix3 0 r l) * x (ix3 0 r l)) width + small := by
    pointwise [val_main_v7, val_main_v6, val_main_cst_1, val_main_v5, val_main_v4, val_main_cst_0, val_main_v3, val_main_v2, val_main_cst, val_main_v1]
  rw [e, zero_f32, zero_add, ms]
  simp only [rows_at x]

theorem scale_at (r : Fin 2064) : val_main_v8 (F := Ideal) x (ix3 0 r 0) = scale (rows x) small r.val := by
  have e : val_main_v8 (F := Ideal) x (ix3 0 r 0) = Ideal.rsqrt (val_main_v7 (F := Ideal) x (ix3 0 r 0)) := by pointwise [val_main_v8]
  rw [e, ms_at, scale]

theorem slope_at (r : Fin 2064) : val_main_v11 (F := Ideal) x (ix3 0 r 0) = negHalf * Ideal.div (scale (rows x) small r.val) (ms (rows x) small r.val) := by
  have e : val_main_v11 (F := Ideal) x (ix3 0 r 0)
      = negHalf * Ideal.div (val_main_v8 (F := Ideal) x (ix3 0 r 0)) (val_main_v7 (F := Ideal) x (ix3 0 r 0)) := by
    pointwise [val_main_v11, val_main_v10, val_main_cst_2, val_main_v9]
  rw [e, scale_at, ms_at]

theorem weighted_at (r : Fin 2064) (l : Fin 1024) : val_main_v21 (F := Ideal) g d (ix3 0 r l) = rows d r.val l.val * cols g l.val := by
  have e : val_main_v21 (F := Ideal) g d (ix3 0 r l) = d (ix3 0 r l) * g (ix2 0 l) := by
    pointwise [val_main_v21, val_main_v20, val_main_v14, val_main_v0]
  rw [e, rows_at d, cols_at g]

theorem pull_at (r : Fin 2064) : val_main_v32 (F := Ideal) x g d (ix1 r) = pull (rows x) (rows d) (cols g) small r.val := by
  have e1 : val_main_v32 (F := Ideal) x g d (ix1 r) = Ideal.ofBits .f32 0x00000000#32 + val_main_v31 (F := Ideal) x g d (ix3 0 r 0) :=
    reduce_ends _ _ _ r
  have e2 : val_main_v31 (F := Ideal) x g d (ix3 0 r 0)
      = Ideal.div ((Ideal.ofBits .f32 0x00000000#32 + ∑ l : Fin 1024, x (ix3 0 r l) * val_main_v21 (F := Ideal) g d (ix3 0 r l))
        * val_main_v11 (F := Ideal) x (ix3 0 r 0)) width := by
    pointwise [val_main_v31, val_main_v30, val_main_cst_6, val_main_v29, val_main_v25, val_main_v24, val_main_cst_5, val_main_v23]
  rw [e1, e2, zero_f32, zero_add, zero_add, slope_at, pull]
  simp only [rows_at x, weighted_at]

theorem ref_dx (s : Fin 2176) (l : Fin 1024) :
    val_main_v41 (F := Ideal) x g d u (ix2 s l) = dxu (rows x) (rows d) (cols g) small (rows u) s.val l.val := by
  have e : val_main_v41 (F := Ideal) x g d u (ix2 s l) = if h : s.val < 2064 then
      u (ix3 0 ⟨s.val, h⟩ l) + val_main_v21 (F := Ideal) g d (ix3 0 ⟨s.val, h⟩ l) * val_main_v8 (F := Ideal) x (ix3 0 ⟨s.val, h⟩ 0)
        + x (ix3 0 ⟨s.val, h⟩ l) * val_main_v32 (F := Ideal) x g d (ix1 ⟨s.val, h⟩)
        + val_main_v32 (F := Ideal) x g d (ix1 ⟨s.val, h⟩) * x (ix3 0 ⟨s.val, h⟩ l)
      else FloatOps.sitofp (F := Ideal) .f32 (0#32 : BitVec 32) := by
    pointwise [val_main_v41, val_main_call0_v0, val_main_c, val_main_v40, val_main_v38, val_main_v37, val_main_v36, val_main_v35, val_main_v34,
      val_main_v33, val_main_v28, val_main_v27, val_main_v26]
  rw [e, sitofp_zero]
  by_cases hs : s.val < 2064
  · rw [dif_pos hs, weighted_at, scale_at, pull_at, rows_at u, rows_at x, dxu]
  · rw [dif_neg hs, dxu_zero (fun l => rows_out d (by omega)) (rows_out u (by omega))]

theorem ref_dg (l : Fin 1024) : val_main_v39 (F := Ideal) x d (ix2 0 l) = ∑ r : Fin 2064, dg (rows x) (rows d) small r.val l.val := by
  have e1 : val_main_v39 (F := Ideal) x d (ix2 0 l) = val_main_v22 (F := Ideal) x d (ix1 l) := by pointwise [val_main_v39]
  have e2 : val_main_v22 (F := Ideal) x d (ix1 l) = Ideal.ofBits .f32 0x00000000#32 + val_main_v19 (F := Ideal) x d (ix3 0 0 l) :=
    reduce_first _ _ _ l
  have e3 : val_main_v19 (F := Ideal) x d (ix3 0 0 l)
      = Ideal.ofBits .f32 0x00000000#32 + ∑ r : Fin 2064, x (ix3 0 r l) * val_main_v8 (F := Ideal) x (ix3 0 r 0) * d (ix3 0 r l) := by
    pointwise [val_main_v19, val_main_v18, val_main_cst_3, val_main_v17, val_main_v13, val_main_v12]
  rw [e1, e2, e3, zero_f32, zero_add, zero_add]
  exact Finset.sum_congr rfl fun r _ => by rw [scale_at, rows_at x, rows_at d, dg]

end Cert.Rms
-- ==== Proof.Rms.Value.lean ====
/- The pre-norm's gradient: the two arrays which the kernel's run leaves are the reference's. -/
module

public import proofs.«01_k».proof.Defs
public import proofs.«01_k».proof.Proof.Gen.Kernel7.Frame
public import proofs.«01_k».proof.Proof.Gen.Reference7Ideal
public import proofs.«01_k».proof.Proof.Gen.Reference7Ideal.Run
public import Idealize.ShloMosaic.Lib.Claim
public import Idealize.ShloMosaic.Lib.Quiescent
public import proofs.«01_k».proof.Proof.Gen.Kernel7Ideal.Value
public import proofs.«01_k».proof.Proof.Rms.Ref
public import proofs.«01_k».proof.Proof.Rows.Pad
public import proofs.«01_k».proof.Proof.Rows.Sum

@[expose] public section

set_option maxRecDepth 16384

noncomputable section

open Idealize.ShloMosaic Idealize.ShloMosaic.TcCoe Idealize.SL.Sem
open Idealize.ShloMosaic.Pipeline (Dat)
open Cert.Kernel7Ideal Cert.Kernel7Ideal.Gen Cert.Rows

namespace Cert.Rms

variable (m : (ℓ : Loc nD τ sig) → Buf (Elt Ideal) ℓ) (c : Dev nD)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ t.val < 8 :=
  (by decide +kernel : ∀ t : Fin grid0.N, _)

theorem V_x (r : Fin 2176) (l : Fin 1024) : Gen.V m c main_v1 (ix2 r l) = rows (m ((c : Thread nD τ).loc main_arg0)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

theorem V_d (r : Fin 2176) (l : Fin 1024) : Gen.V m c main_v3 (ix2 r l) = rows (m ((c : Thread nD τ).loc main_arg2)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

theorem V_u (r : Fin 2176) (l : Fin 1024) : Gen.V m c main_v5 (ix2 r l) = rows (m ((c : Thread nD τ).loc main_arg3)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

/-- The arguments. -/
abbrev x := m ((c : Thread nD τ).loc main_arg0)
abbrev g := m ((c : Thread nD τ).loc main_arg1)
abbrev d := m ((c : Thread nD τ).loc main_arg2)
abbrev u := m ((c : Thread nD τ).loc main_arg3)

theorem blk0 (t : Fin cfg0.N) (r : Fin 272) (l : Fin 1024) : iblk m c 0 t (ix2 r l) = rows (x m c) (272 * t.val + r.val) (l.val) := by
  have ht : t.val < 8 := by have := idx t; tauto
  unfold iblk
  blk_simp [idx t]
  refine (congrArg (Gen.V m c main_v1) (?_ : _ = ix2 ⟨272 * t.val + r.val, by omega⟩ ⟨l.val, by omega⟩)).trans
    (V_x m c _ _)
  blk_ext [idx t]

theorem blk1 (t : Fin cfg0.N) (l : Fin 1024) : iblk m c 1 t (ix2 0 l) = cols (g m c) (l.val) := by
  unfold iblk
  blk_simp [idx t]
  refine (congrArg (Gen.V m c main_arg1) (?_ : _ = ix2 (0 : Fin 1) ⟨l.val, by omega⟩)).trans
    ((congrFun (Gen.V_main_arg1 m c) _).trans (cols_at (g m c) _))
  blk_ext [idx t]

theorem blk2 (t : Fin cfg0.N) (r : Fin 272) (l : Fin 1024) : iblk m c 2 t (ix2 r l) = rows (d m c) (272 * t.val + r.val) (l.val) := by
  have ht : t.val < 8 := by have := idx t; tauto
  unfold iblk
  blk_simp [idx t]
  refine (congrArg (Gen.V m c main_v3) (?_ : _ = ix2 ⟨272 * t.val + r.val, by omega⟩ ⟨l.val, by omega⟩)).trans
    (V_d m c _ _)
  blk_ext [idx t]

theorem blk3 (t : Fin cfg0.N) (r : Fin 272) (l : Fin 1024) : iblk m c 3 t (ix2 r l) = rows (u m c) (272 * t.val + r.val) (l.val) := by
  have ht : t.val < 8 := by have := idx t; tauto
  unfold iblk
  blk_simp [idx t]
  refine (congrArg (Gen.V m c main_v5) (?_ : _ = ix2 ⟨272 * t.val + r.val, by omega⟩ ⟨l.val, by omega⟩)).trans
    (V_u m c _ _)
  blk_ext [idx t]

/-- The gradient of the rows, of a tile. -/
theorem point4 (t : Fin cfg0.N) (r : Fin 272) (l : Fin 1024) :
    (outsAt0 m c t.val t.isLt).1 (ix2 r l) = dxu (rows (x m c)) (rows (d m c)) (cols (g m c)) small (rows (u m c)) (272 * t.val + r.val) l.val := by
  by_cases h : t.val % 8 = 0 <;> (first | rw [outsAt0_A m c t h] | rw [outsAt0_B m c t h]) <;> dsimp only <;> frame_out <;>
  pointwise [k0_pay1, k0_pay2, k0_pay8, k0_pay7, k0_pay6, k0_pay5, k0_pay4, k0_pay3] <;>
  simp only [blk0, blk1, blk2, blk3, dxu, pull, scale, ms, Finset.univ_unique, Finset.sum_singleton]

theorem final4 : (dats m 0 c).arrAt 4 (cfgs 0).N = Reference7Ideal.Read.val_main_v41 (F := Ideal) (x m c) (g m c) (d m c) (u m c) := by
  refine (dats m 0 c).arrAt_eq_of_covers 4 _ (by decide +kernel) fun t hf w => ?_
  blk_simp
  rw [after0_4]
  have ht : t.val < 8 := by have := idx t; tauto
  refine ((congrArg (outsAt0 m c t.val t.isLt).1 (eq_ix2 (n0 := 272) (n1 := 1024) w)).trans (point4 m c t (w 0) (w 1))).trans ?_
  have h0 : (w 0).val < 272 := (w 0).isLt
  have h1 : (w 1).val < 1024 := (w 1).isLt
  refine ((congrArg _ (?_ : _ = ix2 ⟨272 * t.val + (w 0).val, by omega⟩ ⟨(w 1).val, h1⟩)).trans (ref_dx _ _ _ _ _ _)).symm
  blk_ext [idx t]

/-- The gradient of the weight, over the rows of the tiles so far. -/
theorem total5 (l : Fin 1024) (n : ℕ) (h : n < 8) : (outsAt0 m c n (lt_of_lt_of_eq h N_0.symm)).2 (ix2 0 l)
    = ∑ r ∈ Finset.range (272 * (n + 1)), dg (rows (x m c)) (rows (d m c)) small r l.val := by
  have first : ∀ t : Fin cfg0.N, t.val % 8 = 0 → (outsAt0 m c t.val t.isLt).2 (ix2 0 l) = ∑ a : Fin 272, dg (rows (x m c)) (rows (d m c)) small (272 * t.val + a.val) l.val := by
    intro t h
    rw [outsAt0_A m c t h]
    dsimp only
    frame_out
    pointwise [k0_pay1, k0_pay2, k0_pay8, k0_pay7, k0_pay6, k0_pay5, k0_pay4, k0_pay3]
    simp only [blk0, blk2, dg, scale, ms]
  have next : ∀ t : Fin cfg0.N, ¬t.val % 8 = 0 → (outsAt0 m c t.val t.isLt).2 (ix2 0 l)
      = (outsAt0 m c (t.val - 1) (Nat.lt_of_le_of_lt (Nat.sub_le _ _) t.isLt)).2 (ix2 0 l) + ∑ a : Fin 272, dg (rows (x m c)) (rows (d m c)) small (272 * t.val + a.val) l.val := by
    intro t h
    rw [outsAt0_B m c t h]
    dsimp only
    frame_out
    pointwise [k0_pay1, k0_pay2, k0_pay8, k0_pay7, k0_pay6, k0_pay5, k0_pay4, k0_pay3]
    simp only [blk0, blk2, dg, scale, ms]
  refine carried (p := fun n h => (outsAt0 m c n (lt_of_lt_of_eq h N_0.symm)).2 (ix2 0 l)) ?_ (fun n h => ?_) n h
  · refine (first ⟨0, lt_of_lt_of_eq (by omega) N_0.symm⟩ rfl).trans ?_
    simp only [Nat.mul_zero, Nat.zero_add]
  · exact next ⟨n + 1, lt_of_lt_of_eq h N_0.symm⟩ (by dsimp only; omega)

theorem final5 : (dats m 0 c).arrAt 5 (cfgs 0).N = Reference7Ideal.Read.val_main_v39 (F := Ideal) (x m c) (d m c) := by
  refine (dats m 0 c).arrAt_eq_of_covers 5 _ (by decide +kernel) fun t hf w => ?_
  have ht : t.val < 8 := by have := idx t; tauto
  have h7 : t.val = 7 := by have := (flush0_5 _).mp hf; omega
  blk_simp
  rw [after0_5]
  have h1 : (w 1).val < 1024 := (w 1).isLt
  refine ((congrArg (outsAt0 m c t.val t.isLt).2 ((eq_ix2 (n0 := 1) (n1 := 1024) w).trans
    (congrArg (fun a : Fin 1 => ix2 a (w 1 : Fin 1024)) (Subsingleton.elim (α := Fin 1) _ 0)))).trans (total5 m c (w 1) t.val ht)).trans ?_
  refine ((congrArg (fun n => ∑ r ∈ Finset.range (272 * (n + 1)), dg (rows (x m c)) (rows (d m c)) small r (w 1).val) h7).trans (kept fun r hr => dg_zero fun l => rows_out _ hr)).trans ?_
  refine ((congrArg _ (?_ : _ = ix2 (0 : Fin 1) ⟨(w 1).val, h1⟩)).trans (ref_dg _ _ _)).symm
  blk_ext [idx t]

theorem frame : quiescent_Kernel7 (hKernel7 := Kernel7.Gen.facts) :=
  fun m g _ => Kernel7.Gen.frame m g

theorem frame_ideal : quiescent_Kernel7Ideal (hKernel7Ideal := Kernel7Ideal.Gen.facts) :=
  fun m g _ => Kernel7Ideal.Gen.frame m g

theorem frame_ref : quiescent_Reference7Ideal (hReference7Ideal := Reference7Ideal.Gen.facts) :=
  fun m g _ => (θ_run Reference7Ideal.defs _ _).mono
    (fun r h => ⟨fun c => (h c).2.2, sem_eq_zero_of_no_sems (by decide) r.2⟩) (Reference7Ideal.Value.run m g)

section
open Reference7Ideal.Read

/-- Equal arguments have equal results. -/
theorem same4 {x0 x1 x2 x3 y0 y1 y2 y3} (h0 : x0 = y0) (h1 : x1 = y1) (h2 : x2 = y2) (h3 : x3 = y3) :
    val_main_v41 (F := Ideal) x0 x1 x2 x3 = val_main_v41 (F := Ideal) y0 y1 y2 y3 := by rw [h0, h1, h2, h3]
theorem same5 {x0 x2 y0 y2} (h0 : x0 = y0) (h2 : x2 = y2) :
    val_main_v39 (F := Ideal) x0 x2 = val_main_v39 (F := Ideal) y0 y2 := by rw [h0, h2]
end

set_option maxHeartbeats 2000000 in
theorem algebraic : algebraic_Kernel7Ideal_Reference7Ideal (hKernel7Ideal := Kernel7Ideal.Gen.facts)
    (hReference7Ideal := Reference7Ideal.Gen.facts) := by
  pair_intro
  · run_from Kernel7Ideal.Gen.run_main m g
    · exact Kernel7Ideal.Gen.V_main_arg0 m c
    · exact Kernel7Ideal.Gen.V_main_arg2 m c
    · exact Kernel7Ideal.Gen.V_main_arg3 m c
  · refine (θ_run Reference7Ideal.defs _ _).mono (fun r h c => ?_) (Reference7Ideal.Value.run m' g')
    have a0 := (hagree c).1
    have a1 := (hagree c).2.1
    have a2 := (hagree c).2.2.1
    have a3 := (hagree c).2.2.2
    have r4 := (h c).1.trans (Reference7Ideal.Read.val_main_v41_eq _ _)
    have r5 := (h c).2.1.trans (Reference7Ideal.Read.val_main_v39_eq _ _)
    have k := (h c).2.2
    clear h
    have e4 := same4 a0 a1 a2 a3
    have e5 := same5 a0 a2
    have l4 := r4.trans e4
    have l5 := r5.trans e5
    exact ⟨l4.trans (final4 m c).symm, l5.trans (final5 m c).symm, k⟩

end Cert.Rms
-- ==== Proof.Mix.Ref.lean ====
/- The mixing gates' gradient, index by index, and the reference's results. -/
module

public import proofs.«01_k».proof.Proof.Gen.Reference8Ideal.Read
public import proofs.«01_k».proof.Proof.Rows.Base
public import proofs.«01_k».proof.Proof.Rows.Reduce

@[expose] public section

set_option maxRecDepth 16384

noncomputable section

open Idealize.ShloMosaic Idealize.ShloMosaic.TcCoe Idealize.SL.Sem
open Cert.Reference8Ideal Cert.Reference8Ideal.Read Cert.Rows

namespace Cert.Mix

variable (p : S1x2064x7168.Idx → EReal) (y z : S1x2064x1024.Idx → EReal) (b : S1x2048.Idx → EReal) (d : S1x2064x1024.Idx → EReal)

/-- A gate. -/
def gate (r l : ℕ) : EReal := sg (rows p r (5120 + l) + cols b l)

/-- The gradient of the sum inside a gate; `o` is the first column of the branch's gates. -/
def dgate (o r l : ℕ) : EReal := rows d r l * rows y r l * (gate p b r (o + l) * (1 - gate p b r (o + l)))

/-- The gradient of a branch's output. -/
def dy (o r l : ℕ) : EReal := gate p b r (o + l) * rows d r l

theorem dgate_out {o r l : ℕ} (h : 2064 ≤ r) : dgate p y b d o r l = 0 := by rw [dgate, rows_out d h, zero_mul, zero_mul]

theorem dy_out {o r l : ℕ} (h : 2064 ≤ r) : dy p b d o r l = 0 := by rw [dy, rows_out d h, mul_zero]

theorem gate_at (r : Fin 2064) (l : Fin 2048) : val_main_v10 (F := Ideal) p b (ix3 0 r l) = gate p b r.val l.val := by
  have e : val_main_v10 (F := Ideal) p b (ix3 0 r l) = sg (p (ix3 0 r ⟨5120 + l.val, by omega⟩) + b (ix2 0 l)) := by
    pointwise [val_main_v10, val_main_v9, val_main_cst_0, val_main_v8, val_main_v7, val_main_cst, val_main_v6, val_main_v5, val_main_v4, val_main_v3,
      val_main_v2, val_main_v1, val_main_v0]
  rw [e, rows_at p, cols_at b]
  rfl

theorem slope_at (r : Fin 2064) (l : Fin 2048) :
    val_main_v13 (F := Ideal) p b (ix3 0 r l) = gate p b r.val l.val * (1 - gate p b r.val l.val) := by
  have e : val_main_v13 (F := Ideal) p b (ix3 0 r l) = val_main_v10 (F := Ideal) p b (ix3 0 r l) * (1 - val_main_v10 (F := Ideal) p b (ix3 0 r l)) := by
    pointwise [val_main_v13, val_main_v12, val_main_v11, val_main_cst_1]
  rw [e, gate_at]

theorem sum_at (r : Fin 2064) (l : Fin 2048) : val_main_v26 (F := Ideal) p y z b d (ix3 0 r l)
    = if l.val < 1024 then dgate p y b d 0 r.val l.val else dgate p z b d 1024 r.val (l.val - 1024) := by
  have e : val_main_v26 (F := Ideal) p y z b d (ix3 0 r l)
      = (if h : l.val < 1024 then d (ix3 0 r ⟨l.val, h⟩) * y (ix3 0 r ⟨l.val, h⟩) else d (ix3 0 r ⟨l.val - 1024, by omega⟩) * z (ix3 0 r ⟨l.val - 1024, by omega⟩))
        * val_main_v13 (F := Ideal) p b (ix3 0 r l) := by
    pointwise [val_main_v26, val_main_v25, val_main_v24, val_main_v22, val_main_v20, val_main_v19]
  rw [e, slope_at]
  by_cases h : l.val < 1024
  · rw [dif_pos h, if_pos h, dgate, rows_at d, rows_at y, Nat.zero_add]
  · rw [dif_neg h, if_neg h, dgate, rows_at d, rows_at z, Nat.add_sub_cancel' (by omega)]

theorem ref_pc (s : Fin 2176) (l : Fin 1024) : val_main_v34 (F := Ideal) p y z b d (ix2 s l) = dgate p y b d 0 s.val l.val := by
  have e : val_main_v34 (F := Ideal) p y z b d (ix2 s l) = if h : s.val < 2064 then val_main_v26 (F := Ideal) p y z b d (ix3 0 ⟨s.val, h⟩ ⟨l.val, by omega⟩)
      else FloatOps.sitofp (F := Ideal) .f32 (0#32 : BitVec 32) := by
    pointwise [val_main_v34, val_main_call0_v0, val_main_c, val_main_v33, val_main_v32, val_main_v31]
  rw [e, sitofp_zero]
  by_cases hs : s.val < 2064
  · rw [dif_pos hs, sum_at, if_pos l.isLt]
  · rw [dif_neg hs, dgate_out _ _ _ _ (by omega)]

theorem ref_pa (s : Fin 2176) (l : Fin 1024) : val_main_v38 (F := Ideal) p y z b d (ix2 s l) = dgate p z b d 1024 s.val l.val := by
  have e : val_main_v38 (F := Ideal) p y z b d (ix2 s l)
      = if h : s.val < 2064 then val_main_v26 (F := Ideal) p y z b d (ix3 0 ⟨s.val, h⟩ ⟨1024 + l.val, by omega⟩)
      else FloatOps.sitofp (F := Ideal) .f32 (0#32 : BitVec 32) := by
    pointwise [val_main_v38, val_main_call1_v0, val_main_c_4, val_main_v37, val_main_v36, val_main_v35]
  rw [e, sitofp_zero]
  by_cases hs : s.val < 2064
  · rw [dif_pos hs, sum_at, if_neg (by dsimp only; omega), Nat.add_sub_cancel_left]
  · rw [dif_neg hs, dgate_out _ _ _ _ (by omega)]

theorem ref_yc (s : Fin 2176) (l : Fin 1024) : val_main_v41 (F := Ideal) p b d (ix2 s l) = dy p b d 0 s.val l.val := by
  have e : val_main_v41 (F := Ideal) p b d (ix2 s l)
      = if h : s.val < 2064 then val_main_v10 (F := Ideal) p b (ix3 0 ⟨s.val, h⟩ ⟨l.val, by omega⟩) * d (ix3 0 ⟨s.val, h⟩ l)
      else FloatOps.sitofp (F := Ideal) .f32 (0#32 : BitVec 32) := by
    pointwise [val_main_v41, val_main_call2_v0, val_main_c_5, val_main_v40, val_main_v39, val_main_v23, val_main_v19, val_main_v14]
  rw [e, sitofp_zero]
  by_cases hs : s.val < 2064
  · rw [dif_pos hs, gate_at, rows_at d, dy, Nat.zero_add]
  · rw [dif_neg hs, dy_out _ _ _ (by omega)]

theorem ref_ya (s : Fin 2176) (l : Fin 1024) : val_main_v44 (F := Ideal) p b d (ix2 s l) = dy p b d 1024 s.val l.val := by
  have e : val_main_v44 (F := Ideal) p b d (ix2 s l)
      = if h : s.val < 2064 then val_main_v10 (F := Ideal) p b (ix3 0 ⟨s.val, h⟩ ⟨1024 + l.val, by omega⟩) * d (ix3 0 ⟨s.val, h⟩ l)
      else FloatOps.sitofp (F := Ideal) .f32 (0#32 : BitVec 32) := by
    pointwise [val_main_v44, val_main_call3_v0, val_main_c_6, val_main_v43, val_main_v42, val_main_v21, val_main_v20, val_main_v15]
  rw [e, sitofp_zero]
  by_cases hs : s.val < 2064
  · rw [dif_pos hs, gate_at, rows_at d, dy]
  · rw [dif_neg hs, dy_out _ _ _ (by omega)]

theorem total_at (l : Fin 2048) : val_main_v30 (F := Ideal) p y z b d (ix2 0 l)
    = ∑ r : Fin 2064, val_main_v26 (F := Ideal) p y z b d (ix3 0 r l) := by
  have e1 : val_main_v30 (F := Ideal) p y z b d (ix2 0 l) = val_main_v29 (F := Ideal) p y z b d (ix1 l) := by pointwise [val_main_v30]
  have e2 : val_main_v29 (F := Ideal) p y z b d (ix1 l) = Ideal.ofBits .f32 0x00000000#32 + val_main_v28 (F := Ideal) p y z b d (ix3 0 0 l) :=
    reduce_first _ _ _ l
  have e3 : val_main_v28 (F := Ideal) p y z b d (ix3 0 0 l) = Ideal.ofBits .f32 0x00000000#32 + ∑ r : Fin 2064, val_main_v26 (F := Ideal) p y z b d (ix3 0 r l) := by
    pointwise [val_main_v28, val_main_v27, val_main_cst_2]
  rw [e1, e2, e3, zero_f32, zero_add, zero_add]

theorem ref_bc (l : Fin 1024) : val_main_v45 (F := Ideal) p y z b d (ix2 0 l) = ∑ r : Fin 2064, dgate p y b d 0 r.val l.val := by
  have e : val_main_v45 (F := Ideal) p y z b d (ix2 0 l) = val_main_v30 (F := Ideal) p y z b d (ix2 0 ⟨l.val, by omega⟩) := by pointwise [val_main_v45]
  rw [e, total_at]
  exact Finset.sum_congr rfl fun r _ => by rw [sum_at, if_pos l.isLt]

theorem ref_ba (l : Fin 1024) : val_main_v46 (F := Ideal) p y z b d (ix2 0 l) = ∑ r : Fin 2064, dgate p z b d 1024 r.val l.val := by
  have e : val_main_v46 (F := Ideal) p y z b d (ix2 0 l) = val_main_v30 (F := Ideal) p y z b d (ix2 0 ⟨1024 + l.val, by omega⟩) := by pointwise [val_main_v46]
  rw [e, total_at]
  exact Finset.sum_congr rfl fun r _ => by rw [sum_at, if_neg (by dsimp only; omega), Nat.add_sub_cancel_left]

end Cert.Mix
-- ==== Proof.Mix.Value.lean ====
/- The mixing gates' gradient: the six arrays which the kernel's run leaves are the reference's. -/
module

public import proofs.«01_k».proof.Defs
public import proofs.«01_k».proof.Proof.Gen.Kernel8.Frame
public import proofs.«01_k».proof.Proof.Gen.Reference8Ideal
public import proofs.«01_k».proof.Proof.Gen.Reference8Ideal.Run
public import Idealize.ShloMosaic.Lib.Claim
public import Idealize.ShloMosaic.Lib.Quiescent
public import proofs.«01_k».proof.Proof.Gen.Kernel8Ideal.Value
public import proofs.«01_k».proof.Proof.Mix.Ref
public import proofs.«01_k».proof.Proof.Rows.Pad
public import proofs.«01_k».proof.Proof.Rows.Sum

@[expose] public section

set_option maxRecDepth 16384

noncomputable section

open Idealize.ShloMosaic Idealize.ShloMosaic.TcCoe Idealize.SL.Sem
open Idealize.ShloMosaic.Pipeline (Dat)
open Cert.Kernel8Ideal Cert.Kernel8Ideal.Gen Cert.Rows

namespace Cert.Mix

variable (m : (ℓ : Loc nD τ sig) → Buf (Elt Ideal) ℓ) (c : Dev nD)

theorem idx : ∀ t : Fin cfg0.N, win0_0.index t = ![t.val, 5]
    ∧ win0_1.index t = ![t.val, 6]
    ∧ win0_2.index t = ![t.val, 0]
    ∧ win0_3.index t = ![t.val, 0]
    ∧ win0_4.index t = ![0, 0]
    ∧ win0_5.index t = ![0, 1]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![0, 0]
    ∧ win0_12.index t = ![0, 0]
    ∧ t.val < 8 :=
  (by decide +kernel : ∀ t : Fin grid0.N, _)

theorem V_p (r : Fin 2176) (l : Fin 7168) : Gen.V m c main_v1 (ix2 r l) = rows (m ((c : Thread nD τ).loc main_arg0)) r.val l.val := by
  refine Eq.trans (congrFun ?_ _) (pad_at _ shapeCasts_S1x2064x7168_S2064x7168 pads_S2064x7168_S2176x7168_01120_000 h_S_ r l)
  unfold Gen.V
  simp only [hostOps0, hostOps0_1, hostOps0_2, hostOps0_3, hostOps0_4, hostOps0_5, hostOps0_6, hostOps0_7, List.flatten_cons, List.flatten_nil, List.cons_append, List.nil_append, List.append_nil]
  entry_read
  rfl

theorem V_y (r : Fin 2176) (l : Fin 1024) : Gen.V m c main_v3 (ix2 r l) = rows (m ((c : Thread nD τ).loc main_arg1)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, hostOps0_6, hostOps0_7, List.flatten_cons, List.flatten_nil, List.cons_append, List.nil_append, List.append_nil]
  entry_read
  rfl

theorem V_z (r : Fin 2176) (l : Fin 1024) : Gen.V m c main_v5 (ix2 r l) = rows (m ((c : Thread nD τ).loc main_arg2)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, hostOps0_6, hostOps0_7, List.flatten_cons, List.flatten_nil, List.cons_append, List.nil_append, List.append_nil]
  entry_read
  rfl

theorem V_d (r : Fin 2176) (l : Fin 1024) : Gen.V m c main_v7 (ix2 r l) = rows (m ((c : Thread nD τ).loc main_arg4)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, hostOps0_4, hostOps0_5, hostOps0_6, hostOps0_7, List.flatten_cons, List.flatten_nil, List.cons_append, List.nil_append, List.append_nil]
  entry_read
  rfl

/-- The arguments. -/
abbrev p := m ((c : Thread nD τ).loc main_arg0)
abbrev y := m ((c : Thread nD τ).loc main_arg1)
abbrev z := m ((c : Thread nD τ).loc main_arg2)
abbrev b := m ((c : Thread nD τ).loc main_arg3)
abbrev d := m ((c : Thread nD τ).loc main_arg4)

theorem blk0 (t : Fin cfg0.N) (r : Fin 272) (l : Fin 1024) : iblk m c 0 t (ix2 r l) = rows (p m c) (272 * t.val + r.val) (5120 + l.val) := by
  have ht : t.val < 8 := by have := idx t; tauto
  unfold iblk
  blk_simp [idx t]
  refine (congrArg (Gen.V m c main_v1) (?_ : _ = ix2 ⟨272 * t.val + r.val, by omega⟩ ⟨5120 + l.val, by omega⟩)).trans
    (V_p m c _ _)
  blk_ext [idx t]

theorem blk1 (t : Fin cfg0.N) (r : Fin 272) (l : Fin 1024) : iblk m c 1 t (ix2 r l) = rows (p m c) (272 * t.val + r.val) (6144 + l.val) := by
  have ht : t.val < 8 := by have := idx t; tauto
  unfold iblk
  blk_simp [idx t]
  refine (congrArg (Gen.V m c main_v1) (?_ : _ = ix2 ⟨272 * t.val + r.val, by omega⟩ ⟨6144 + l.val, by omega⟩)).trans
    (V_p m c _ _)
  blk_ext [idx t]

theorem blk2 (t : Fin cfg0.N) (r : Fin 272) (l : Fin 1024) : iblk m c 2 t (ix2 r l) = rows (y m c) (272 * t.val + r.val) (l.val) := by
  have ht : t.val < 8 := by have := idx t; tauto
  unfold iblk
  blk_simp [idx t]
  refine (congrArg (Gen.V m c main_v3) (?_ : _ = ix2 ⟨272 * t.val + r.val, by omega⟩ ⟨l.val, by omega⟩)).trans
    (V_y m c _ _)
  blk_ext [idx t]

theorem blk3 (t : Fin cfg0.N) (r : Fin 272) (l : Fin 1024) : iblk m c 3 t (ix2 r l) = rows (z m c) (272 * t.val + r.val) (l.val) := by
  have ht : t.val < 8 := by have := idx t; tauto
  unfold iblk
  blk_simp [idx t]
  refine (congrArg (Gen.V m c main_v5) (?_ : _ = ix2 ⟨272 * t.val + r.val, by omega⟩ ⟨l.val, by omega⟩)).trans
    (V_z m c _ _)
  blk_ext [idx t]

theorem blk6 (t : Fin cfg0.N) (r : Fin 272) (l : Fin 1024) : iblk m c 6 t (ix2 r l) = rows (d m c) (272 * t.val + r.val) (l.val) := by
  have ht : t.val < 8 := by have := idx t; tauto
  unfold iblk
  blk_simp [idx t]
  refine (congrArg (Gen.V m c main_v7) (?_ : _ = ix2 ⟨272 * t.val + r.val, by omega⟩ ⟨l.val, by omega⟩)).trans
    (V_d m c _ _)
  blk_ext [idx t]

theorem blk4 (t : Fin cfg0.N) (l : Fin 1024) : iblk m c 4 t (ix2 0 l) = cols (b m c) (l.val) := by
  unfold iblk
  blk_simp [idx t]
  refine (congrArg (Gen.V m c main_arg3) (?_ : _ = ix2 (0 : Fin 1) ⟨l.val, by omega⟩)).trans
    ((congrFun (Gen.V_main_arg3 m c) _).trans (cols_at (b m c) _))
  blk_ext [idx t]

theorem blk5 (t : Fin cfg0.N) (l : Fin 1024) : iblk m c 5 t (ix2 0 l) = cols (b m c) (1024 + l.val) := by
  unfold iblk
  blk_simp [idx t]
  refine (congrArg (Gen.V m c main_arg3) (?_ : _ = ix2 (0 : Fin 1) ⟨1024 + l.val, by omega⟩)).trans
    ((congrFun (Gen.V_main_arg3 m c) _).trans (cols_at (b m c) _))
  blk_ext [idx t]

/-- The gradient of the first branch's gates, of a tile. -/
theorem point7 (t : Fin cfg0.N) (r : Fin 272) (l : Fin 1024) :
    (outsAt0 m c t.val t.isLt).1 (ix2 r l) = dgate (p m c) (y m c) (b m c) (d m c) 0 (272 * t.val + r.val) l.val := by
  by_cases h : t.val % 8 = 0 <;> (first | rw [outsAt0_A m c t h] | rw [outsAt0_B m c t h]) <;> dsimp only <;> frame_out <;>
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17] <;>
  simp only [sg_eq, blk0, blk2, blk4, blk6, dgate, dy, gate, Nat.zero_add]

theorem final7 : (dats m 0 c).arrAt 7 (cfgs 0).N = Reference8Ideal.Read.val_main_v34 (F := Ideal) (p m c) (y m c) (z m c) (b m c) (d m c) := by
  refine (dats m 0 c).arrAt_eq_of_covers 7 _ (by decide +kernel) fun t hf w => ?_
  blk_simp
  rw [after0_7]
  have ht : t.val < 8 := by have := idx t; tauto
  refine ((congrArg (outsAt0 m c t.val t.isLt).1 (eq_ix2 (n0 := 272) (n1 := 1024) w)).trans (point7 m c t (w 0) (w 1))).trans ?_
  have h0 : (w 0).val < 272 := (w 0).isLt
  have h1 : (w 1).val < 1024 := (w 1).isLt
  refine ((congrArg _ (?_ : _ = ix2 ⟨272 * t.val + (w 0).val, by omega⟩ ⟨(w 1).val, h1⟩)).trans (ref_pc _ _ _ _ _ _ _)).symm
  blk_ext [idx t]

/-- The gradient of the second branch's gates, of a tile. -/
theorem point8 (t : Fin cfg0.N) (r : Fin 272) (l : Fin 1024) :
    (outsAt0 m c t.val t.isLt).2.1 (ix2 r l) = dgate (p m c) (z m c) (b m c) (d m c) 1024 (272 * t.val + r.val) l.val := by
  by_cases h : t.val % 8 = 0 <;> (first | rw [outsAt0_A m c t h] | rw [outsAt0_B m c t h]) <;> dsimp only <;> frame_out <;>
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17] <;>
  simp only [sg_eq, blk1, blk3, blk5, blk6, dgate, dy, gate, ← Nat.add_assoc]

theorem final8 : (dats m 0 c).arrAt 8 (cfgs 0).N = Reference8Ideal.Read.val_main_v38 (F := Ideal) (p m c) (y m c) (z m c) (b m c) (d m c) := by
  refine (dats m 0 c).arrAt_eq_of_covers 8 _ (by decide +kernel) fun t hf w => ?_
  blk_simp
  rw [after0_8]
  have ht : t.val < 8 := by have := idx t; tauto
  refine ((congrArg (outsAt0 m c t.val t.isLt).2.1 (eq_ix2 (n0 := 272) (n1 := 1024) w)).trans (point8 m c t (w 0) (w 1))).trans ?_
  have h0 : (w 0).val < 272 := (w 0).isLt
  have h1 : (w 1).val < 1024 := (w 1).isLt
  refine ((congrArg _ (?_ : _ = ix2 ⟨272 * t.val + (w 0).val, by omega⟩ ⟨(w 1).val, h1⟩)).trans (ref_pa _ _ _ _ _ _ _)).symm
  blk_ext [idx t]

/-- The gradient of the first branch's output, of a tile. -/
theorem point9 (t : Fin cfg0.N) (r : Fin 272) (l : Fin 1024) :
    (outsAt0 m c t.val t.isLt).2.2.1 (ix2 r l) = dy (p m c) (b m c) (d m c) 0 (272 * t.val + r.val) l.val := by
  by_cases h : t.val % 8 = 0 <;> (first | rw [outsAt0_A m c t h] | rw [outsAt0_B m c t h]) <;> dsimp only <;> frame_out <;>
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17] <;>
  simp only [sg_eq, blk0, blk2, blk4, blk6, dgate, dy, gate, Nat.zero_add]

theorem final9 : (dats m 0 c).arrAt 9 (cfgs 0).N = Reference8Ideal.Read.val_main_v41 (F := Ideal) (p m c) (b m c) (d m c) := by
  refine (dats m 0 c).arrAt_eq_of_covers 9 _ (by decide +kernel) fun t hf w => ?_
  blk_simp
  rw [after0_9]
  have ht : t.val < 8 := by have := idx t; tauto
  refine ((congrArg (outsAt0 m c t.val t.isLt).2.2.1 (eq_ix2 (n0 := 272) (n1 := 1024) w)).trans (point9 m c t (w 0) (w 1))).trans ?_
  have h0 : (w 0).val < 272 := (w 0).isLt
  have h1 : (w 1).val < 1024 := (w 1).isLt
  refine ((congrArg _ (?_ : _ = ix2 ⟨272 * t.val + (w 0).val, by omega⟩ ⟨(w 1).val, h1⟩)).trans (ref_yc _ _ _ _ _)).symm
  blk_ext [idx t]

/-- The gradient of the second branch's output, of a tile. -/
theorem point10 (t : Fin cfg0.N) (r : Fin 272) (l : Fin 1024) :
    (outsAt0 m c t.val t.isLt).2.2.2.1 (ix2 r l) = dy (p m c) (b m c) (d m c) 1024 (272 * t.val + r.val) l.val := by
  by_cases h : t.val % 8 = 0 <;> (first | rw [outsAt0_A m c t h] | rw [outsAt0_B m c t h]) <;> dsimp only <;> frame_out <;>
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17] <;>
  simp only [sg_eq, blk1, blk3, blk5, blk6, dgate, dy, gate, ← Nat.add_assoc]

theorem final10 : (dats m 0 c).arrAt 10 (cfgs 0).N = Reference8Ideal.Read.val_main_v44 (F := Ideal) (p m c) (b m c) (d m c) := by
  refine (dats m 0 c).arrAt_eq_of_covers 10 _ (by decide +kernel) fun t hf w => ?_
  blk_simp
  rw [after0_10]
  have ht : t.val < 8 := by have := idx t; tauto
  refine ((congrArg (outsAt0 m c t.val t.isLt).2.2.2.1 (eq_ix2 (n0 := 272) (n1 := 1024) w)).trans (point10 m c t (w 0) (w 1))).trans ?_
  have h0 : (w 0).val < 272 := (w 0).isLt
  have h1 : (w 1).val < 1024 := (w 1).isLt
  refine ((congrArg _ (?_ : _ = ix2 ⟨272 * t.val + (w 0).val, by omega⟩ ⟨(w 1).val, h1⟩)).trans (ref_ya _ _ _ _ _)).symm
  blk_ext [idx t]

/-- The gradient of the bias of the first branch's gates, over the rows of the tiles so far. -/
theorem total11 (l : Fin 1024) (n : ℕ) (h : n < 8) : (outsAt0 m c n (lt_of_lt_of_eq h N_0.symm)).2.2.2.2.1 (ix2 0 l)
    = ∑ r ∈ Finset.range (272 * (n + 1)), dgate (p m c) (y m c) (b m c) (d m c) 0 r l.val := by
  have first : ∀ t : Fin cfg0.N, t.val % 8 = 0 → (outsAt0 m c t.val t.isLt).2.2.2.2.1 (ix2 0 l) = ∑ a : Fin 272, dgate (p m c) (y m c) (b m c) (d m c) 0 (272 * t.val + a.val) l.val := by
    intro t h
    rw [outsAt0_A m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [sg_eq, blk0, blk2, blk4, blk6, dgate, dy, gate, Nat.zero_add]
  have next : ∀ t : Fin cfg0.N, ¬t.val % 8 = 0 → (outsAt0 m c t.val t.isLt).2.2.2.2.1 (ix2 0 l)
      = (outsAt0 m c (t.val - 1) (Nat.lt_of_le_of_lt (Nat.sub_le _ _) t.isLt)).2.2.2.2.1 (ix2 0 l) + ∑ a : Fin 272, dgate (p m c) (y m c) (b m c) (d m c) 0 (272 * t.val + a.val) l.val := by
    intro t h
    rw [outsAt0_B m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [sg_eq, blk0, blk2, blk4, blk6, dgate, dy, gate, Nat.zero_add]
  refine carried (p := fun n h => (outsAt0 m c n (lt_of_lt_of_eq h N_0.symm)).2.2.2.2.1 (ix2 0 l)) ?_ (fun n h => ?_) n h
  · refine (first ⟨0, lt_of_lt_of_eq (by omega) N_0.symm⟩ rfl).trans ?_
    simp only [Nat.mul_zero, Nat.zero_add]
  · exact next ⟨n + 1, lt_of_lt_of_eq h N_0.symm⟩ (by dsimp only; omega)

theorem final11 : (dats m 0 c).arrAt 11 (cfgs 0).N = Reference8Ideal.Read.val_main_v45 (F := Ideal) (p m c) (y m c) (z m c) (b m c) (d m c) := by
  refine (dats m 0 c).arrAt_eq_of_covers 11 _ (by decide +kernel) fun t hf w => ?_
  have ht : t.val < 8 := by have := idx t; tauto
  have h7 : t.val = 7 := by have := (flush0_11 _).mp hf; omega
  blk_simp
  rw [after0_11]
  have h1 : (w 1).val < 1024 := (w 1).isLt
  refine ((congrArg (outsAt0 m c t.val t.isLt).2.2.2.2.1 ((eq_ix2 (n0 := 1) (n1 := 1024) w).trans
    (congrArg (fun a : Fin 1 => ix2 a (w 1 : Fin 1024)) (Subsingleton.elim (α := Fin 1) _ 0)))).trans (total11 m c (w 1) t.val ht)).trans ?_
  refine ((congrArg (fun n => ∑ r ∈ Finset.range (272 * (n + 1)), dgate (p m c) (y m c) (b m c) (d m c) 0 r (w 1).val) h7).trans (kept fun r hr => dgate_out _ _ _ _ hr)).trans ?_
  refine ((congrArg _ (?_ : _ = ix2 (0 : Fin 1) ⟨(w 1).val, h1⟩)).trans (ref_bc _ _ _ _ _ _)).symm
  blk_ext [idx t]

/-- The gradient of the bias of the second branch's gates, over the rows of the tiles so far. -/
theorem total12 (l : Fin 1024) (n : ℕ) (h : n < 8) : (outsAt0 m c n (lt_of_lt_of_eq h N_0.symm)).2.2.2.2.2 (ix2 0 l)
    = ∑ r ∈ Finset.range (272 * (n + 1)), dgate (p m c) (z m c) (b m c) (d m c) 1024 r l.val := by
  have first : ∀ t : Fin cfg0.N, t.val % 8 = 0 → (outsAt0 m c t.val t.isLt).2.2.2.2.2 (ix2 0 l) = ∑ a : Fin 272, dgate (p m c) (z m c) (b m c) (d m c) 1024 (272 * t.val + a.val) l.val := by
    intro t h
    rw [outsAt0_A m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [sg_eq, blk1, blk3, blk5, blk6, dgate, dy, gate, ← Nat.add_assoc]
  have next : ∀ t : Fin cfg0.N, ¬t.val % 8 = 0 → (outsAt0 m c t.val t.isLt).2.2.2.2.2 (ix2 0 l)
      = (outsAt0 m c (t.val - 1) (Nat.lt_of_le_of_lt (Nat.sub_le _ _) t.isLt)).2.2.2.2.2 (ix2 0 l) + ∑ a : Fin 272, dgate (p m c) (z m c) (b m c) (d m c) 1024 (272 * t.val + a.val) l.val := by
    intro t h
    rw [outsAt0_B m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    simp only [sg_eq, blk1, blk3, blk5, blk6, dgate, dy, gate, ← Nat.add_assoc]
  refine carried (p := fun n h => (outsAt0 m c n (lt_of_lt_of_eq h N_0.symm)).2.2.2.2.2 (ix2 0 l)) ?_ (fun n h => ?_) n h
  · refine (first ⟨0, lt_of_lt_of_eq (by omega) N_0.symm⟩ rfl).trans ?_
    simp only [Nat.mul_zero, Nat.zero_add]
  · exact next ⟨n + 1, lt_of_lt_of_eq h N_0.symm⟩ (by dsimp only; omega)

theorem final12 : (dats m 0 c).arrAt 12 (cfgs 0).N = Reference8Ideal.Read.val_main_v46 (F := Ideal) (p m c) (y m c) (z m c) (b m c) (d m c) := by
  refine (dats m 0 c).arrAt_eq_of_covers 12 _ (by decide +kernel) fun t hf w => ?_
  have ht : t.val < 8 := by have := idx t; tauto
  have h7 : t.val = 7 := by have := (flush0_12 _).mp hf; omega
  blk_simp
  rw [after0_12]
  have h1 : (w 1).val < 1024 := (w 1).isLt
  refine ((congrArg (outsAt0 m c t.val t.isLt).2.2.2.2.2 ((eq_ix2 (n0 := 1) (n1 := 1024) w).trans
    (congrArg (fun a : Fin 1 => ix2 a (w 1 : Fin 1024)) (Subsingleton.elim (α := Fin 1) _ 0)))).trans (total12 m c (w 1) t.val ht)).trans ?_
  refine ((congrArg (fun n => ∑ r ∈ Finset.range (272 * (n + 1)), dgate (p m c) (z m c) (b m c) (d m c) 1024 r (w 1).val) h7).trans (kept fun r hr => dgate_out _ _ _ _ hr)).trans ?_
  refine ((congrArg _ (?_ : _ = ix2 (0 : Fin 1) ⟨(w 1).val, h1⟩)).trans (ref_ba _ _ _ _ _ _)).symm
  blk_ext [idx t]

theorem frame : quiescent_Kernel8 (hKernel8 := Kernel8.Gen.facts) :=
  fun m g _ => Kernel8.Gen.frame m g

theorem frame_ideal : quiescent_Kernel8Ideal (hKernel8Ideal := Kernel8Ideal.Gen.facts) :=
  fun m g _ => Kernel8Ideal.Gen.frame m g

theorem frame_ref : quiescent_Reference8Ideal (hReference8Ideal := Reference8Ideal.Gen.facts) :=
  fun m g _ => (θ_run Reference8Ideal.defs _ _).mono
    (fun r h => ⟨fun c => (h c).2.2.2.2.2.2, sem_eq_zero_of_no_sems (by decide) r.2⟩) (Reference8Ideal.Value.run m g)

section
open Reference8Ideal.Read

/-- Equal arguments have equal results. -/
theorem same7 {x0 x1 x2 x3 x4 y0 y1 y2 y3 y4} (h0 : x0 = y0) (h1 : x1 = y1) (h2 : x2 = y2) (h3 : x3 = y3) (h4 : x4 = y4) :
    val_main_v34 (F := Ideal) x0 x1 x2 x3 x4 = val_main_v34 (F := Ideal) y0 y1 y2 y3 y4 := by rw [h0, h1, h2, h3, h4]
theorem same8 {x0 x1 x2 x3 x4 y0 y1 y2 y3 y4} (h0 : x0 = y0) (h1 : x1 = y1) (h2 : x2 = y2) (h3 : x3 = y3) (h4 : x4 = y4) :
    val_main_v38 (F := Ideal) x0 x1 x2 x3 x4 = val_main_v38 (F := Ideal) y0 y1 y2 y3 y4 := by rw [h0, h1, h2, h3, h4]
theorem same9 {x0 x3 x4 y0 y3 y4} (h0 : x0 = y0) (h3 : x3 = y3) (h4 : x4 = y4) :
    val_main_v41 (F := Ideal) x0 x3 x4 = val_main_v41 (F := Ideal) y0 y3 y4 := by rw [h0, h3, h4]
theorem same10 {x0 x3 x4 y0 y3 y4} (h0 : x0 = y0) (h3 : x3 = y3) (h4 : x4 = y4) :
    val_main_v44 (F := Ideal) x0 x3 x4 = val_main_v44 (F := Ideal) y0 y3 y4 := by rw [h0, h3, h4]
theorem same11 {x0 x1 x2 x3 x4 y0 y1 y2 y3 y4} (h0 : x0 = y0) (h1 : x1 = y1) (h2 : x2 = y2) (h3 : x3 = y3) (h4 : x4 = y4) :
    val_main_v45 (F := Ideal) x0 x1 x2 x3 x4 = val_main_v45 (F := Ideal) y0 y1 y2 y3 y4 := by rw [h0, h1, h2, h3, h4]
theorem same12 {x0 x1 x2 x3 x4 y0 y1 y2 y3 y4} (h0 : x0 = y0) (h1 : x1 = y1) (h2 : x2 = y2) (h3 : x3 = y3) (h4 : x4 = y4) :
    val_main_v46 (F := Ideal) x0 x1 x2 x3 x4 = val_main_v46 (F := Ideal) y0 y1 y2 y3 y4 := by rw [h0, h1, h2, h3, h4]
end

set_option maxHeartbeats 2000000 in
theorem algebraic : algebraic_Kernel8Ideal_Reference8Ideal (hKernel8Ideal := Kernel8Ideal.Gen.facts)
    (hReference8Ideal := Reference8Ideal.Gen.facts) := by
  pair_intro
  · run_from Kernel8Ideal.Gen.run_main m g
    · exact Kernel8Ideal.Gen.V_main_arg0 m c
    · exact Kernel8Ideal.Gen.V_main_arg1 m c
    · exact Kernel8Ideal.Gen.V_main_arg2 m c
    · exact Kernel8Ideal.Gen.V_main_arg4 m c
  · refine (θ_run Reference8Ideal.defs _ _).mono (fun r h c => ?_) (Reference8Ideal.Value.run m' g')
    have a0 := (hagree c).1
    have a1 := (hagree c).2.1
    have a2 := (hagree c).2.2.1
    have a3 := (hagree c).2.2.2.1
    have a4 := (hagree c).2.2.2.2
    have r7 := (h c).1.trans (Reference8Ideal.Read.val_main_v34_eq _ _ _ _ _)
    have r8 := (h c).2.1.trans (Reference8Ideal.Read.val_main_v38_eq _ _ _ _ _)
    have r9 := (h c).2.2.1.trans (Reference8Ideal.Read.val_main_v41_eq _ _ _)
    have r10 := (h c).2.2.2.1.trans (Reference8Ideal.Read.val_main_v44_eq _ _ _)
    have r11 := (h c).2.2.2.2.1.trans (Reference8Ideal.Read.val_main_v45_eq _ _ _ _ _)
    have r12 := (h c).2.2.2.2.2.1.trans (Reference8Ideal.Read.val_main_v46_eq _ _ _ _ _)
    have k := (h c).2.2.2.2.2.2
    clear h
    have e7 := same7 a0 a1 a2 a3 a4
    have e8 := same8 a0 a1 a2 a3 a4
    have e9 := same9 a0 a3 a4
    have e10 := same10 a0 a3 a4
    have e11 := same11 a0 a1 a2 a3 a4
    have e12 := same12 a0 a1 a2 a3 a4
    have l7 := r7.trans e7
    have l8 := r8.trans e8
    have l9 := r9.trans e9
    have l10 := r10.trans e10
    have l11 := r11.trans e11
    have l12 := r12.trans e12
    exact ⟨l7.trans (final7 m c).symm, l8.trans (final8 m c).symm, l9.trans (final9 m c).symm, l10.trans (final10 m c).symm, l11.trans (final11 m c).symm, l12.trans (final12 m c).symm, k⟩

end Cert.Mix
-- ==== Proof.ConvPost.Ref.lean ====
/- The gradient of the convolution's bias, layer norm and activation: the function, row by row, and the reference's results. -/
module

public import proofs.«01_k».proof.Proof.Gen.Reference9Ideal.Read
public import proofs.«01_k».proof.Proof.Rows.Norm
public import proofs.«01_k».proof.Proof.Rows.Reduce

@[expose] public section

set_option maxRecDepth 16384

noncomputable section

open Idealize.ShloMosaic Idealize.ShloMosaic.TcCoe Idealize.SL.Sem
open Cert.Reference9Ideal Cert.Reference9Ideal.Gen Cert.Reference9Ideal.Read Cert.Rows

namespace Cert.ConvPost

/-- The norm's small number. -/
abbrev small : EReal := Ideal.ofBits .f32 0x3727C5AC#32

variable (x : S1x2064x1024.Idx → EReal) (b g k : S1x1024.Idx → EReal) (d : S1x2064x1024.Idx → EReal)

/-- An entry less its row's mean. -/
def cent (r l : ℕ) : EReal := rows x r l + cols b l - Ideal.div (∑ a : Fin 1024, (rows x r a.val + cols b a.val)) width

/-- An entry after the norm. -/
def normed (r l : ℕ) : EReal := cent x b r l * scale (cent x b) small r * cols g l + cols k l

/-- The gradient of an entry after the norm: the activation is the entry times its logistic. -/
def dn (r l : ℕ) : EReal := rows d r l * sg (normed x b g k r l)
  + normed x b g k r l * rows d r l * (sg (normed x b g k r l) * (1 - sg (normed x b g k r l)))

/-- The gradient of an entry less its row's mean. -/
def dcent (r l : ℕ) : EReal := dx (cent x b) (dn x b g k d) (cols g) small r l

/-- The gradient of an entry. -/
def dent (r l : ℕ) : EReal := dcent x b g k d r l + Ideal.div (∑ a : Fin 1024, -dcent x b g k d r a.val) width

variable {x b g k d} in
theorem dn_out {r : ℕ} (h : 2064 ≤ r) (l : ℕ) : dn x b g k d r l = 0 := by
  rw [dn, rows_out d h, zero_mul, mul_zero, zero_mul, add_zero]

variable {x b g k d} in
theorem dent_out {r : ℕ} (h : 2064 ≤ r) (l : ℕ) : dent x b g k d r l = 0 := by
  have e : ∀ l, dcent x b g k d r l = 0 := fun l => dx_zero (dn_out h)
  simp only [dent, e, neg_zero, Finset.sum_const_zero, zero_div_width, add_zero]

theorem cent_at (r : Fin 2064) (l : Fin 1024) : val_main_v11 (F := Ideal) x b (ix3 0 r l) = cent x b r.val l.val := by
  have e : val_main_v11 (F := Ideal) x b (ix3 0 r l) = x (ix3 0 r l) + b (ix2 0 l)
      - Ideal.div (Ideal.ofBits .f32 0x00000000#32 + ∑ a : Fin 1024, (x (ix3 0 r a) + b (ix2 0 a))) width := by
    pointwise [val_main_v11, val_main_v10, val_main_v9, val_main_v8, val_main_cst_0, val_main_v7, val_main_v6, val_main_cst, val_main_v3, val_main_v2,
      val_main_v1, val_main_v0]
  rw [e, zero_f32, zero_add, cent]
  simp only [rows_at x, cols_at b]

theorem ms_at (r : Fin 2064) : val_main_v18 (F := Ideal) x b (ix3 0 r 0) = ms (cent x b) small r.val := by
  have e : val_main_v18 (F := Ideal) x b (ix3 0 r 0) = Ideal.div (Ideal.ofBits .f32 0x00000000#32
      + ∑ l : Fin 1024, val_main_v11 (F := Ideal) x b (ix3 0 r l) * val_main_v11 (F := Ideal) x b (ix3 0 r l)) width + small := by
    pointwise [val_main_v18, val_main_v17, val_main_cst_3, val_main_v16, val_main_v15, val_main_cst_2, val_main_v14, val_main_v13, val_main_cst_1,
      val_main_v12]
  rw [e, zero_f32, zero_add, ms]
  simp only [cent_at]

theorem scale_at (r : Fin 2064) : val_main_v19 (F := Ideal) x b (ix3 0 r 0) = scale (cent x b) small r.val := by
  have e : val_main_v19 (F := Ideal) x b (ix3 0 r 0) = Ideal.rsqrt (val_main_v18 (F := Ideal) x b (ix3 0 r 0)) := by pointwise [val_main_v19]
  rw [e, ms_at, scale]

theorem slope_at (r : Fin 2064) :
    val_main_v22 (F := Ideal) x b (ix3 0 r 0) = negHalf * Ideal.div (scale (cent x b) small r.val) (ms (cent x b) small r.val) := by
  have e : val_main_v22 (F := Ideal) x b (ix3 0 r 0)
      = negHalf * Ideal.div (val_main_v19 (F := Ideal) x b (ix3 0 r 0)) (val_main_v18 (F := Ideal) x b (ix3 0 r 0)) := by
    pointwise [val_main_v22, val_main_v21, val_main_cst_4, val_main_v20]
  rw [e, scale_at, ms_at]

theorem scaled_at (r : Fin 2064) (l : Fin 1024) :
    val_main_v24 (F := Ideal) x b (ix3 0 r l) = cent x b r.val l.val * scale (cent x b) small r.val := by
  have e : val_main_v24 (F := Ideal) x b (ix3 0 r l) = val_main_v11 (F := Ideal) x b (ix3 0 r l) * val_main_v19 (F := Ideal) x b (ix3 0 r 0) := by
    pointwise [val_main_v24, val_main_v23]
  rw [e, cent_at, scale_at]

theorem normed_at (r : Fin 2064) (l : Fin 1024) : val_main_v30 (F := Ideal) x b g k (ix3 0 r l) = normed x b g k r.val l.val := by
  have e : val_main_v30 (F := Ideal) x b g k (ix3 0 r l) = val_main_v24 (F := Ideal) x b (ix3 0 r l) * g (ix2 0 l) + k (ix2 0 l) := by
    pointwise [val_main_v30, val_main_v29, val_main_v28, val_main_v27, val_main_v26, val_main_v25, val_main_v5, val_main_v4]
  rw [e, scaled_at, cols_at g, cols_at k, normed]

theorem dn_at (r : Fin 2064) (l : Fin 1024) : val_main_v32 (F := Ideal) x b g k d (ix3 0 r l) = dn x b g k d r.val l.val := by
  have e : val_main_v32 (F := Ideal) x b g k d (ix3 0 r l) = d (ix3 0 r l) * sg (val_main_v30 (F := Ideal) x b g k (ix3 0 r l))
      + val_main_v30 (F := Ideal) x b g k (ix3 0 r l) * d (ix3 0 r l)
        * (sg (val_main_v30 (F := Ideal) x b g k (ix3 0 r l)) * (1 - sg (val_main_v30 (F := Ideal) x b g k (ix3 0 r l)))) := by
    pointwise [val_main_v32, val_main_call1_v2, val_main_call1_v1, val_main_call1_v0, val_main_v31_1, val_main_v31_2, val_main_call0_v7,
      val_main_call0_v6, val_main_call0_cst_1, val_main_call0_v4, val_main_call0_cst_0, val_main_call0_v3, val_main_call0_v2, val_main_call0_cst,
      val_main_call0_v1, val_main_call0_v0]
  rw [e, normed_at, rows_at d, dn]

theorem weighted_at (r : Fin 2064) (l : Fin 1024) :
    val_main_v40 (F := Ideal) x b g k d (ix3 0 r l) = dn x b g k d r.val l.val * cols g l.val := by
  have e : val_main_v40 (F := Ideal) x b g k d (ix3 0 r l) = val_main_v32 (F := Ideal) x b g k d (ix3 0 r l) * g (ix2 0 l) := by
    pointwise [val_main_v40, val_main_v39, val_main_v25, val_main_v4]
  rw [e, dn_at, cols_at g]

theorem pull_at (r : Fin 2064) :
    val_main_v50 (F := Ideal) x b g k d (ix1 r) = pull (cent x b) (dn x b g k d) (cols g) small r.val := by
  have e1 : val_main_v50 (F := Ideal) x b g k d (ix1 r) = Ideal.ofBits .f32 0x00000000#32 + val_main_v49 (F := Ideal) x b g k d (ix3 0 r 0) :=
    reduce_ends _ _ _ r
  have e2 : val_main_v49 (F := Ideal) x b g k d (ix3 0 r 0) = Ideal.div ((Ideal.ofBits .f32 0x00000000#32
      + ∑ l : Fin 1024, val_main_v11 (F := Ideal) x b (ix3 0 r l) * val_main_v40 (F := Ideal) x b g k d (ix3 0 r l))
        * val_main_v22 (F := Ideal) x b (ix3 0 r 0)) width := by
    pointwise [val_main_v49, val_main_v48, val_main_cst_10, val_main_v47, val_main_v44, val_main_v43, val_main_cst_9, val_main_v42]
  rw [e1, e2, zero_f32, zero_add, zero_add, slope_at, pull]
  simp only [cent_at, weighted_at]

theorem dcent_at (r : Fin 2064) (l : Fin 1024) : val_main_v56 (F := Ideal) x b g k d (ix3 0 r l) = dcent x b g k d r.val l.val := by
  have e : val_main_v56 (F := Ideal) x b g k d (ix3 0 r l)
      = val_main_v40 (F := Ideal) x b g k d (ix3 0 r l) * val_main_v19 (F := Ideal) x b (ix3 0 r 0)
        + val_main_v11 (F := Ideal) x b (ix3 0 r l) * val_main_v50 (F := Ideal) x b g k d (ix1 r)
        + val_main_v50 (F := Ideal) x b g k d (ix1 r) * val_main_v11 (F := Ideal) x b (ix3 0 r l) := by
    pointwise [val_main_v56, val_main_v55, val_main_v54, val_main_v53, val_main_v52, val_main_v51, val_main_v46, val_main_v45]
  rw [e, weighted_at, scale_at, cent_at, pull_at, dcent, dx]

theorem dent_at (r : Fin 2064) (l : Fin 1024) : val_main_v65 (F := Ideal) x b g k d (ix3 0 r l) = dent x b g k d r.val l.val := by
  have e1 : val_main_v65 (F := Ideal) x b g k d (ix3 0 r l)
      = val_main_v56 (F := Ideal) x b g k d (ix3 0 r l) + val_main_v62 (F := Ideal) x b g k d (ix1 r) := by
    pointwise [val_main_v65, val_main_v64, val_main_v63]
  have e2 : val_main_v62 (F := Ideal) x b g k d (ix1 r) = Ideal.ofBits .f32 0x00000000#32 + val_main_v61 (F := Ideal) x b g k d (ix3 0 r 0) :=
    reduce_ends _ _ _ r
  have e3 : val_main_v61 (F := Ideal) x b g k d (ix3 0 r 0)
      = Ideal.div (Ideal.ofBits .f32 0x00000000#32 + ∑ a : Fin 1024, -val_main_v56 (F := Ideal) x b g k d (ix3 0 r a)) width := by
    pointwise [val_main_v61, val_main_v60, val_main_cst_13, val_main_v59, val_main_v58, val_main_cst_12, val_main_v57]
  rw [e1, e2, e3, zero_f32, zero_add, zero_add, dent]
  simp only [dcent_at]

theorem ref_dx (s : Fin 2176) (l : Fin 1024) : val_main_v73 (F := Ideal) x b g k d (ix2 s l) = dent x b g k d s.val l.val := by
  have e : val_main_v73 (F := Ideal) x b g k d (ix2 s l) = if h : s.val < 2064 then val_main_v65 (F := Ideal) x b g k d (ix3 0 ⟨s.val, h⟩ l)
      else FloatOps.sitofp (F := Ideal) .f32 (0#32 : BitVec 32) := by
    pointwise [val_main_v73, val_main_call2_v0, val_main_c, val_main_v72]
  rw [e, sitofp_zero]
  by_cases hs : s.val < 2064
  · rw [dif_pos hs, dent_at]
  · rw [dif_neg hs, dent_out (by omega)]

/-- An array's sum over its rows, as the reference takes it. -/
def total (v : FVec Ideal S1x2064x1024 .f32) : FVec Ideal S1x1024 .f32 :=
  broadcastInDim S1x1024 ![1] bcast_S1024_S1x1024_1 (Host.reduceAdd (shapeCast _ (Host.reduceAdd v (constant S_ .f32 0x00000000#32)
    reducesTo_S1x2064x1024_S1x1024_d1 h_S_) shapeCasts_S1x1024_S1x1x1024) (constant S_ .f32 0x00000000#32) reducesTo_S1x1x1024_S1024_d0_1 h_S_)

theorem total_at (v : FVec Ideal S1x2064x1024 .f32) (l : Fin 1024) : total v (ix2 0 l) = ∑ r : Fin 2064, v (ix3 0 r l) := by
  have e1 : total v (ix2 0 l) = Host.reduceAdd (F := Ideal) (shapeCast S1x1x1024 (Host.reduceAdd (F := Ideal) v (constant S_ .f32 0x00000000#32)
      reducesTo_S1x2064x1024_S1x1024_d1 h_S_) shapeCasts_S1x1024_S1x1x1024) (constant S_ .f32 0x00000000#32) reducesTo_S1x1x1024_S1024_d0_1 h_S_ (ix1 l) := by
    pointwise [total]
  have e2 := reduce_first reducesTo_S1x1x1024_S1024_d0_1 (shapeCast S1x1x1024 (Host.reduceAdd (F := Ideal) v (constant S_ .f32 0x00000000#32)
      reducesTo_S1x2064x1024_S1x1024_d1 h_S_) shapeCasts_S1x1024_S1x1x1024) (Ideal.ofBits .f32 0x00000000#32) l
  have e3 : shapeCast S1x1x1024 (Host.reduceAdd (F := Ideal) v (constant S_ .f32 0x00000000#32) reducesTo_S1x2064x1024_S1x1024_d1 h_S_)
      shapeCasts_S1x1024_S1x1x1024 (ix3 0 0 l) = Ideal.ofBits .f32 0x00000000#32 + ∑ r : Fin 2064, v (ix3 0 r l) := by
    pointwise []
  refine e1.trans (e2.trans ?_)
  rw [e3, zero_f32, zero_add, zero_add]

theorem ref_db (l : Fin 1024) : val_main_v71 (F := Ideal) x b g k d (ix2 0 l) = ∑ r : Fin 2064, dent x b g k d r.val l.val :=
  (total_at (val_main_v65 (F := Ideal) x b g k d) l).trans (Finset.sum_congr rfl fun r _ => dent_at x b g k d r l)

theorem ref_dg (l : Fin 1024) :
    val_main_v67 (F := Ideal) x b g k d (ix2 0 l) = ∑ r : Fin 2064, dg (cent x b) (dn x b g k d) small r.val l.val :=
  (total_at (val_main_v36 (F := Ideal) x b g k d) l).trans (Finset.sum_congr rfl fun r _ => by
    have e : val_main_v36 (F := Ideal) x b g k d (ix3 0 r l) = val_main_v24 (F := Ideal) x b (ix3 0 r l) * val_main_v32 (F := Ideal) x b g k d (ix3 0 r l) := by
      pointwise [val_main_v36]
    rw [e, scaled_at, dn_at, dg])

theorem ref_dk (l : Fin 1024) : val_main_v66 (F := Ideal) x b g k d (ix2 0 l) = ∑ r : Fin 2064, dn x b g k d r.val l.val :=
  (total_at (val_main_v32 (F := Ideal) x b g k d) l).trans (Finset.sum_congr rfl fun r _ => dn_at x b g k d r l)

end Cert.ConvPost
-- ==== Proof.ConvPost.Value.lean ====
/- The gradient of the convolution's bias, norm and activation: the four arrays which the kernel's run leaves are the reference's. -/
module

public import proofs.«01_k».proof.Defs
public import proofs.«01_k».proof.Proof.Gen.Kernel9.Frame
public import proofs.«01_k».proof.Proof.Gen.Reference9Ideal
public import proofs.«01_k».proof.Proof.Gen.Reference9Ideal.Run
public import Idealize.ShloMosaic.Lib.Claim
public import Idealize.ShloMosaic.Lib.Quiescent
public import proofs.«01_k».proof.Proof.Gen.Kernel9Ideal.Value
public import proofs.«01_k».proof.Proof.ConvPost.Ref
public import proofs.«01_k».proof.Proof.Rows.Pad
public import proofs.«01_k».proof.Proof.Rows.Sum

@[expose] public section

set_option maxRecDepth 16384

noncomputable section

open Idealize.ShloMosaic Idealize.ShloMosaic.TcCoe Idealize.SL.Sem
open Idealize.ShloMosaic.Pipeline (Dat)
open Cert.Kernel9Ideal Cert.Kernel9Ideal.Gen Cert.Rows

namespace Cert.ConvPost

variable (m : (ℓ : Loc nD τ sig) → Buf (Elt Ideal) ℓ) (c : Dev nD)

theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![0, 0]
    ∧ win0_7.index t = ![0, 0]
    ∧ win0_8.index t = ![0, 0]
    ∧ t.val < 8 :=
  (by decide +kernel : ∀ t : Fin grid0.N, _)

theorem V_x (r : Fin 2176) (l : Fin 1024) : Gen.V m c main_v1 (ix2 r l) = rows (m ((c : Thread nD τ).loc main_arg0)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, List.flatten_cons, List.flatten_nil, List.cons_append, List.nil_append, List.append_nil]
  entry_read
  rfl

theorem V_d (r : Fin 2176) (l : Fin 1024) : Gen.V m c main_v3 (ix2 r l) = rows (m ((c : Thread nD τ).loc main_arg4)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, List.flatten_cons, List.flatten_nil, List.cons_append, List.nil_append, List.append_nil]
  entry_read
  rfl

/-- The arguments. -/
abbrev x := m ((c : Thread nD τ).loc main_arg0)
abbrev b := m ((c : Thread nD τ).loc main_arg1)
abbrev g := m ((c : Thread nD τ).loc main_arg2)
abbrev k := m ((c : Thread nD τ).loc main_arg3)
abbrev d := m ((c : Thread nD τ).loc main_arg4)

theorem blk0 (t : Fin cfg0.N) (r : Fin 272) (l : Fin 1024) : iblk m c 0 t (ix2 r l) = rows (x m c) (272 * t.val + r.val) (l.val) := by
  have ht : t.val < 8 := by have := idx t; tauto
  unfold iblk
  blk_simp [idx t]
  refine (congrArg (Gen.V m c main_v1) (?_ : _ = ix2 ⟨272 * t.val + r.val, by omega⟩ ⟨l.val, by omega⟩)).trans
    (V_x m c _ _)
  blk_ext [idx t]

theorem blk1 (t : Fin cfg0.N) (l : Fin 1024) : iblk m c 1 t (ix2 0 l) = cols (b m c) (l.val) := by
  unfold iblk
  blk_simp [idx t]
  refine (congrArg (Gen.V m c main_arg1) (?_ : _ = ix2 (0 : Fin 1) ⟨l.val, by omega⟩)).trans
    ((congrFun (Gen.V_main_arg1 m c) _).trans (cols_at (b m c) _))
  blk_ext [idx t]

theorem blk2 (t : Fin cfg0.N) (l : Fin 1024) : iblk m c 2 t (ix2 0 l) = cols (g m c) (l.val) := by
  unfold iblk
  blk_simp [idx t]
  refine (congrArg (Gen.V m c main_arg2) (?_ : _ = ix2 (0 : Fin 1) ⟨l.val, by omega⟩)).trans
    ((congrFun (Gen.V_main_arg2 m c) _).trans (cols_at (g m c) _))
  blk_ext [idx t]

theorem blk3 (t : Fin cfg0.N) (l : Fin 1024) : iblk m c 3 t (ix2 0 l) = cols (k m c) (l.val) := by
  unfold iblk
  blk_simp [idx t]
  refine (congrArg (Gen.V m c main_arg3) (?_ : _ = ix2 (0 : Fin 1) ⟨l.val, by omega⟩)).trans
    ((congrFun (Gen.V_main_arg3 m c) _).trans (cols_at (k m c) _))
  blk_ext [idx t]

theorem blk4 (t : Fin cfg0.N) (r : Fin 272) (l : Fin 1024) : iblk m c 4 t (ix2 r l) = rows (d m c) (272 * t.val + r.val) (l.val) := by
  have ht : t.val < 8 := by have := idx t; tauto
  unfold iblk
  blk_simp [idx t]
  refine (congrArg (Gen.V m c main_v3) (?_ : _ = ix2 ⟨272 * t.val + r.val, by omega⟩ ⟨l.val, by omega⟩)).trans
    (V_d m c _ _)
  blk_ext [idx t]

/-- The gradient of the rows, of a tile. -/
theorem point5 (t : Fin cfg0.N) (r : Fin 272) (l : Fin 1024) :
    (outsAt0 m c t.val t.isLt).1 (ix2 r l) = dent (x m c) (b m c) (g m c) (k m c) (d m c) (272 * t.val + r.val) l.val := by
  by_cases h : t.val % 8 = 0 <;> (first | rw [outsAt0_A m c t h] | rw [outsAt0_B m c t h]) <;> dsimp only <;> frame_out <;>
  pointwise [k0_pay1, k0_pay2, k0_pay3, k0_pay4, k0_pay5, k0_pay6, k0_pay7, k0_pay8, k0_pay9, k0_pay10, k0_pay11, k0_pay12, k0_pay13, k0_pay14, k0_pay15, k0_pay16] <;>
  simp only [sg_eq, blk0, blk1, blk2, blk3, blk4, dent, dcent, dx, pull, dg, dn, normed, scale, ms, cent, Finset.univ_unique, Finset.sum_singleton, zero_sub]

theorem final5 : (dats m 0 c).arrAt 5 (cfgs 0).N = Reference9Ideal.Read.val_main_v73 (F := Ideal) (x m c) (b m c) (g m c) (k m c) (d m c) := by
  refine (dats m 0 c).arrAt_eq_of_covers 5 _ (by decide +kernel) fun t hf w => ?_
  blk_simp
  rw [after0_5]
  have ht : t.val < 8 := by have := idx t; tauto
  refine ((congrArg (outsAt0 m c t.val t.isLt).1 (eq_ix2 (n0 := 272) (n1 := 1024) w)).trans (point5 m c t (w 0) (w 1))).trans ?_
  have h0 : (w 0).val < 272 := (w 0).isLt
  have h1 : (w 1).val < 1024 := (w 1).isLt
  refine ((congrArg _ (?_ : _ = ix2 ⟨272 * t.val + (w 0).val, by omega⟩ ⟨(w 1).val, h1⟩)).trans (ref_dx _ _ _ _ _ _ _)).symm
  blk_ext [idx t]

/-- The gradient of the bias, over the rows of the tiles so far. -/
theorem total6 (l : Fin 1024) (n : ℕ) (h : n < 8) : (outsAt0 m c n (lt_of_lt_of_eq h N_0.symm)).2.1 (ix2 0 l)
    = ∑ r ∈ Finset.range (272 * (n + 1)), dent (x m c) (b m c) (g m c) (k m c) (d m c) r l.val := by
  have first : ∀ t : Fin cfg0.N, t.val % 8 = 0 → (outsAt0 m c t.val t.isLt).2.1 (ix2 0 l) = ∑ a : Fin 272, dent (x m c) (b m c) (g m c) (k m c) (d m c) (272 * t.val + a.val) l.val := by
    intro t h
    rw [outsAt0_A m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [sg_eq, blk0, blk1, blk2, blk3, blk4, dent, dcent, dx, pull, dg, dn, normed, scale, ms, cent, Finset.univ_unique, Finset.sum_singleton, zero_sub]
  have next : ∀ t : Fin cfg0.N, ¬t.val % 8 = 0 → (outsAt0 m c t.val t.isLt).2.1 (ix2 0 l)
      = (outsAt0 m c (t.val - 1) (Nat.lt_of_le_of_lt (Nat.sub_le _ _) t.isLt)).2.1 (ix2 0 l) + ∑ a : Fin 272, dent (x m c) (b m c) (g m c) (k m c) (d m c) (272 * t.val + a.val) l.val := by
    intro t h
    rw [outsAt0_B m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [sg_eq, blk0, blk1, blk2, blk3, blk4, dent, dcent, dx, pull, dg, dn, normed, scale, ms, cent, Finset.univ_unique, Finset.sum_singleton, zero_sub]
  refine carried (p := fun n h => (outsAt0 m c n (lt_of_lt_of_eq h N_0.symm)).2.1 (ix2 0 l)) ?_ (fun n h => ?_) n h
  · refine (first ⟨0, lt_of_lt_of_eq (by omega) N_0.symm⟩ rfl).trans ?_
    simp only [Nat.mul_zero, Nat.zero_add]
  · exact next ⟨n + 1, lt_of_lt_of_eq h N_0.symm⟩ (by dsimp only; omega)

theorem final6 : (dats m 0 c).arrAt 6 (cfgs 0).N = Reference9Ideal.Read.val_main_v71 (F := Ideal) (x m c) (b m c) (g m c) (k m c) (d m c) := by
  refine (dats m 0 c).arrAt_eq_of_covers 6 _ (by decide +kernel) fun t hf w => ?_
  have ht : t.val < 8 := by have := idx t; tauto
  have h7 : t.val = 7 := by have := (flush0_6 _).mp hf; omega
  blk_simp
  rw [after0_6]
  have h1 : (w 1).val < 1024 := (w 1).isLt
  refine ((congrArg (outsAt0 m c t.val t.isLt).2.1 ((eq_ix2 (n0 := 1) (n1 := 1024) w).trans
    (congrArg (fun a : Fin 1 => ix2 a (w 1 : Fin 1024)) (Subsingleton.elim (α := Fin 1) _ 0)))).trans (total6 m c (w 1) t.val ht)).trans ?_
  refine ((congrArg (fun n => ∑ r ∈ Finset.range (272 * (n + 1)), dent (x m c) (b m c) (g m c) (k m c) (d m c) r (w 1).val) h7).trans (kept fun r hr => dent_out hr _)).trans ?_
  refine ((congrArg _ (?_ : _ = ix2 (0 : Fin 1) ⟨(w 1).val, h1⟩)).trans (ref_db _ _ _ _ _ _)).symm
  blk_ext [idx t]

/-- The gradient of the norm's weight, over the rows of the tiles so far. -/
theorem total7 (l : Fin 1024) (n : ℕ) (h : n < 8) : (outsAt0 m c n (lt_of_lt_of_eq h N_0.symm)).2.2.1 (ix2 0 l)
    = ∑ r ∈ Finset.range (272 * (n + 1)), dg (cent (x m c) (b m c)) (dn (x m c) (b m c) (g m c) (k m c) (d m c)) small r l.val := by
  have first : ∀ t : Fin cfg0.N, t.val % 8 = 0 → (outsAt0 m c t.val t.isLt).2.2.1 (ix2 0 l) = ∑ a : Fin 272, dg (cent (x m c) (b m c)) (dn (x m c) (b m c) (g m c) (k m c) (d m c)) small (272 * t.val + a.val) l.val := by
    intro t h
    rw [outsAt0_A m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [sg_eq, blk0, blk1, blk2, blk3, blk4, dent, dcent, dx, pull, dg, dn, normed, scale, ms, cent, Finset.univ_unique, Finset.sum_singleton, zero_sub]
  have next : ∀ t : Fin cfg0.N, ¬t.val % 8 = 0 → (outsAt0 m c t.val t.isLt).2.2.1 (ix2 0 l)
      = (outsAt0 m c (t.val - 1) (Nat.lt_of_le_of_lt (Nat.sub_le _ _) t.isLt)).2.2.1 (ix2 0 l) + ∑ a : Fin 272, dg (cent (x m c) (b m c)) (dn (x m c) (b m c) (g m c) (k m c) (d m c)) small (272 * t.val + a.val) l.val := by
    intro t h
    rw [outsAt0_B m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [sg_eq, blk0, blk1, blk2, blk3, blk4, dent, dcent, dx, pull, dg, dn, normed, scale, ms, cent, Finset.univ_unique, Finset.sum_singleton, zero_sub]
  refine carried (p := fun n h => (outsAt0 m c n (lt_of_lt_of_eq h N_0.symm)).2.2.1 (ix2 0 l)) ?_ (fun n h => ?_) n h
  · refine (first ⟨0, lt_of_lt_of_eq (by omega) N_0.symm⟩ rfl).trans ?_
    simp only [Nat.mul_zero, Nat.zero_add]
  · exact next ⟨n + 1, lt_of_lt_of_eq h N_0.symm⟩ (by dsimp only; omega)

theorem final7 : (dats m 0 c).arrAt 7 (cfgs 0).N = Reference9Ideal.Read.val_main_v67 (F := Ideal) (x m c) (b m c) (g m c) (k m c) (d m c) := by
  refine (dats m 0 c).arrAt_eq_of_covers 7 _ (by decide +kernel) fun t hf w => ?_
  have ht : t.val < 8 := by have := idx t; tauto
  have h7 : t.val = 7 := by have := (flush0_7 _).mp hf; omega
  blk_simp
  rw [after0_7]
  have h1 : (w 1).val < 1024 := (w 1).isLt
  refine ((congrArg (outsAt0 m c t.val t.isLt).2.2.1 ((eq_ix2 (n0 := 1) (n1 := 1024) w).trans
    (congrArg (fun a : Fin 1 => ix2 a (w 1 : Fin 1024)) (Subsingleton.elim (α := Fin 1) _ 0)))).trans (total7 m c (w 1) t.val ht)).trans ?_
  refine ((congrArg (fun n => ∑ r ∈ Finset.range (272 * (n + 1)), dg (cent (x m c) (b m c)) (dn (x m c) (b m c) (g m c) (k m c) (d m c)) small r (w 1).val) h7).trans (kept fun r hr => dg_zero (dn_out hr))).trans ?_
  refine ((congrArg _ (?_ : _ = ix2 (0 : Fin 1) ⟨(w 1).val, h1⟩)).trans (ref_dg _ _ _ _ _ _)).symm
  blk_ext [idx t]

/-- The gradient of the norm's bias, over the rows of the tiles so far. -/
theorem total8 (l : Fin 1024) (n : ℕ) (h : n < 8) : (outsAt0 m c n (lt_of_lt_of_eq h N_0.symm)).2.2.2 (ix2 0 l)
    = ∑ r ∈ Finset.range (272 * (n + 1)), dn (x m c) (b m c) (g m c) (k m c) (d m c) r l.val := by
  have first : ∀ t : Fin cfg0.N, t.val % 8 = 0 → (outsAt0 m c t.val t.isLt).2.2.2 (ix2 0 l) = ∑ a : Fin 272, dn (x m c) (b m c) (g m c) (k m c) (d m c) (272 * t.val + a.val) l.val := by
    intro t h
    rw [outsAt0_A m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [sg_eq, blk0, blk1, blk2, blk3, blk4, dent, dcent, dx, pull, dg, dn, normed, scale, ms, cent, Finset.univ_unique, Finset.sum_singleton, zero_sub]
  have next : ∀ t : Fin cfg0.N, ¬t.val % 8 = 0 → (outsAt0 m c t.val t.isLt).2.2.2 (ix2 0 l)
      = (outsAt0 m c (t.val - 1) (Nat.lt_of_le_of_lt (Nat.sub_le _ _) t.isLt)).2.2.2 (ix2 0 l) + ∑ a : Fin 272, dn (x m c) (b m c) (g m c) (k m c) (d m c) (272 * t.val + a.val) l.val := by
    intro t h
    rw [outsAt0_B m c t h]
    dsimp only
    frame_out
    pointwise [k0_pay1, k0_pay2, k0_pay3, k0_pay4, k0_pay5, k0_pay6, k0_pay7, k0_pay8, k0_pay9, k0_pay10, k0_pay11, k0_pay12, k0_pay13, k0_pay14, k0_pay15, k0_pay16]
    simp only [sg_eq, blk0, blk1, blk2, blk3, blk4, dent, dcent, dx, pull, dg, dn, normed, scale, ms, cent, Finset.univ_unique, Finset.sum_singleton, zero_sub]
  refine carried (p := fun n h => (outsAt0 m c n (lt_of_lt_of_eq h N_0.symm)).2.2.2 (ix2 0 l)) ?_ (fun n h => ?_) n h
  · refine (first ⟨0, lt_of_lt_of_eq (by omega) N_0.symm⟩ rfl).trans ?_
    simp only [Nat.mul_zero, Nat.zero_add]
  · exact next ⟨n + 1, lt_of_lt_of_eq h N_0.symm⟩ (by dsimp only; omega)

theorem final8 : (dats m 0 c).arrAt 8 (cfgs 0).N = Reference9Ideal.Read.val_main_v66 (F := Ideal) (x m c) (b m c) (g m c) (k m c) (d m c) := by
  refine (dats m 0 c).arrAt_eq_of_covers 8 _ (by decide +kernel) fun t hf w => ?_
  have ht : t.val < 8 := by have := idx t; tauto
  have h7 : t.val = 7 := by have := (flush0_8 _).mp hf; omega
  blk_simp
  rw [after0_8]
  have h1 : (w 1).val < 1024 := (w 1).isLt
  refine ((congrArg (outsAt0 m c t.val t.isLt).2.2.2 ((eq_ix2 (n0 := 1) (n1 := 1024) w).trans
    (congrArg (fun a : Fin 1 => ix2 a (w 1 : Fin 1024)) (Subsingleton.elim (α := Fin 1) _ 0)))).trans (total8 m c (w 1) t.val ht)).trans ?_
  refine ((congrArg (fun n => ∑ r ∈ Finset.range (272 * (n + 1)), dn (x m c) (b m c) (g m c) (k m c) (d m c) r (w 1).val) h7).trans (kept fun r hr => dn_out hr _)).trans ?_
  refine ((congrArg _ (?_ : _ = ix2 (0 : Fin 1) ⟨(w 1).val, h1⟩)).trans (ref_dk _ _ _ _ _ _)).symm
  blk_ext [idx t]

theorem frame : quiescent_Kernel9 (hKernel9 := Kernel9.Gen.facts) :=
  fun m g _ => Kernel9.Gen.frame m g

theorem frame_ideal : quiescent_Kernel9Ideal (hKernel9Ideal := Kernel9Ideal.Gen.facts) :=
  fun m g _ => Kernel9Ideal.Gen.frame m g

theorem frame_ref : quiescent_Reference9Ideal (hReference9Ideal := Reference9Ideal.Gen.facts) :=
  fun m g _ => (θ_run Reference9Ideal.defs _ _).mono
    (fun r h => ⟨fun c => (h c).2.2.2.2, sem_eq_zero_of_no_sems (by decide) r.2⟩) (Reference9Ideal.Value.run m g)

section
open Reference9Ideal.Read

/-- Equal arguments have equal results. -/
theorem same5 {x0 x1 x2 x3 x4 y0 y1 y2 y3 y4} (h0 : x0 = y0) (h1 : x1 = y1) (h2 : x2 = y2) (h3 : x3 = y3) (h4 : x4 = y4) :
    val_main_v73 (F := Ideal) x0 x1 x2 x3 x4 = val_main_v73 (F := Ideal) y0 y1 y2 y3 y4 := by rw [h0, h1, h2, h3, h4]
theorem same6 {x0 x1 x2 x3 x4 y0 y1 y2 y3 y4} (h0 : x0 = y0) (h1 : x1 = y1) (h2 : x2 = y2) (h3 : x3 = y3) (h4 : x4 = y4) :
    val_main_v71 (F := Ideal) x0 x1 x2 x3 x4 = val_main_v71 (F := Ideal) y0 y1 y2 y3 y4 := by rw [h0, h1, h2, h3, h4]
theorem same7 {x0 x1 x2 x3 x4 y0 y1 y2 y3 y4} (h0 : x0 = y0) (h1 : x1 = y1) (h2 : x2 = y2) (h3 : x3 = y3) (h4 : x4 = y4) :
    val_main_v67 (F := Ideal) x0 x1 x2 x3 x4 = val_main_v67 (F := Ideal) y0 y1 y2 y3 y4 := by rw [h0, h1, h2, h3, h4]
theorem same8 {x0 x1 x2 x3 x4 y0 y1 y2 y3 y4} (h0 : x0 = y0) (h1 : x1 = y1) (h2 : x2 = y2) (h3 : x3 = y3) (h4 : x4 = y4) :
    val_main_v66 (F := Ideal) x0 x1 x2 x3 x4 = val_main_v66 (F := Ideal) y0 y1 y2 y3 y4 := by rw [h0, h1, h2, h3, h4]
end

set_option maxHeartbeats 2000000 in
theorem algebraic : algebraic_Kernel9Ideal_Reference9Ideal (hKernel9Ideal := Kernel9Ideal.Gen.facts)
    (hReference9Ideal := Reference9Ideal.Gen.facts) := by
  pair_intro
  · run_from Kernel9Ideal.Gen.run_main m g
    · exact Kernel9Ideal.Gen.V_main_arg0 m c
    · exact Kernel9Ideal.Gen.V_main_arg4 m c
  · refine (θ_run Reference9Ideal.defs _ _).mono (fun r h c => ?_) (Reference9Ideal.Value.run m' g')
    have a0 := (hagree c).1
    have a1 := (hagree c).2.1
    have a2 := (hagree c).2.2.1
    have a3 := (hagree c).2.2.2.1
    have a4 := (hagree c).2.2.2.2
    have r5 := (h c).1.trans (Reference9Ideal.Read.val_main_v73_eq _)
    have r6 := (h c).2.1.trans (Reference9Ideal.Read.val_main_v71_eq _)
    have r7 := (h c).2.2.1.trans (Reference9Ideal.Read.val_main_v67_eq _)
    have r8 := (h c).2.2.2.1.trans (Reference9Ideal.Read.val_main_v66_eq _)
    have k := (h c).2.2.2.2
    clear h
    have e5 := same5 a0 a1 a2 a3 a4
    have e6 := same6 a0 a1 a2 a3 a4
    have e7 := same7 a0 a1 a2 a3 a4
    have e8 := same8 a0 a1 a2 a3 a4
    have l5 := r5.trans e5
    have l6 := r6.trans e6
    have l7 := r7.trans e7
    have l8 := r8.trans e8
    exact ⟨l5.trans (final5 m c).symm, l6.trans (final6 m c).symm, l7.trans (final7 m c).symm, l8.trans (final8 m c).symm, k⟩

end Cert.ConvPost
-- ==== Proof.Glu.Value.lean ====
/- The gated unit's gradient: the array which the kernel's run leaves is the reference's. -/
module

public import proofs.«01_k».proof.Defs
public import proofs.«01_k».proof.Proof.Gen.Kernel10.Frame
public import proofs.«01_k».proof.Proof.Gen.Reference10Ideal
public import proofs.«01_k».proof.Proof.Gen.Reference10Ideal.Run
public import Idealize.ShloMosaic.Lib.Claim
public import Idealize.ShloMosaic.Lib.Quiescent
public import proofs.«01_k».proof.Proof.Gen.Kernel10Ideal.Value
public import proofs.«01_k».proof.Proof.Gen.Reference10Ideal.Read
public import proofs.«01_k».proof.Proof.Rows.Pad

@[expose] public section

set_option maxRecDepth 16384

noncomputable section

open Idealize.ShloMosaic Idealize.ShloMosaic.TcCoe Idealize.SL.Sem
open Idealize.ShloMosaic.Pipeline (Dat)
open Cert.Kernel10Ideal Cert.Kernel10Ideal.Gen Cert.Rows

namespace Cert.Glu

/-- The gradient's row: the left half for the values, the right half for the gates. -/
def out (a g d : ℕ → ℕ → EReal) (r l : ℕ) : EReal :=
  if l < 1024 then d r l * sg (g r l) else a r (l - 1024) * d r (l - 1024) * (sg (g r (l - 1024)) * (1 - sg (g r (l - 1024))))

theorem block {x0 x1 x2 : Vec Ideal S272x1024 .f32} {a g d : ℕ → ℕ → EReal} (h0 : ∀ y, x0 y = a (y 0).val (y 1).val)
    (h1 : ∀ y, x1 y = g (y 0).val (y 1).val) (h2 : ∀ y, x2 y = d (y 0).val (y 1).val) (y : S272x2048.Idx) :
    out0_3 x0 x1 x2 y = out a g d (y 0).val (y 1).val := by
  unfold out0_3
  canon_tiles x w
  · pointwise [k0_pay4, k0_pay1, k0_pay2]
    rw [sg_eq, h0, h1, h2, w0, w1, out, if_neg (by omega), Nat.add_sub_cancel_left]
  · pointwise [k0_pay3, k0_pay1, k0_pay2]
    rw [sg_eq, h1, h2, w0, w1, out, if_pos x1_lt]

open Reference10Ideal.Read in
theorem ref_at (p : FVec Ideal Reference10Ideal.S1x2064x7168 .f32) (ct : FVec Ideal Reference10Ideal.S1x2064x1024 .f32) (s : Fin 2176) (l : Fin 2048) :
    val_main_v19 (F := Ideal) p ct (ix2 s l) = out (rows p) (fun r l => rows p r (1024 + l)) (rows ct) s.val l.val := by
  have e : val_main_v19 (F := Ideal) p ct (ix2 s l) = if h : s.val < 2064 then
      (if h' : l.val < 1024 then ct (ix3 0 ⟨s.val, h⟩ ⟨l.val, h'⟩) * sg (p (ix3 0 ⟨s.val, h⟩ ⟨1024 + l.val, by omega⟩))
        else p (ix3 0 ⟨s.val, h⟩ ⟨l.val - 1024, by omega⟩) * ct (ix3 0 ⟨s.val, h⟩ ⟨l.val - 1024, by omega⟩)
          * (sg (p (ix3 0 ⟨s.val, h⟩ ⟨1024 + (l.val - 1024), by omega⟩)) * (1 - sg (p (ix3 0 ⟨s.val, h⟩ ⟨1024 + (l.val - 1024), by omega⟩)))))
      else FloatOps.sitofp (F := Ideal) .f32 (0#32 : BitVec 32) := by
    pointwise [val_main_v19, val_main_v18, val_main_call0_v0, val_main_c, val_main_v17, val_main_v16, val_main_v15, val_main_v14, val_main_v13, val_main_v12,
      val_main_v11, val_main_v10, val_main_v9, val_main_cst_1, val_main_v8, val_main_v7, val_main_cst_0, val_main_v6, val_main_v5, val_main_cst, val_main_v4,
      val_main_v3, val_main_v2, val_main_v1, val_main_v0]
  rw [e, sitofp_zero]
  unfold out
  by_cases hs : s.val < 2064
  · rw [dif_pos hs]
    by_cases hl : l.val < 1024
    · rw [dif_pos hl, if_pos hl, rows_at ct, rows_at p]
    · rw [dif_neg hl, if_neg hl, rows_at ct, rows_at p, rows_at p]
  · rw [dif_neg hs]
    have hs : 2064 ≤ s.val := by omega
    simp only [rows_out ct hs, mul_zero, zero_mul, ite_self]

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 0]
    ∧ win0_3.index t = ![t.val, 0] ∧ t.val < 8 :=
  (by decide +kernel : ∀ t : Fin grid0.N, _)

theorem V_p (r : Fin 2176) (l : Fin 7168) : Gen.V m c main_v1 (ix2 r l) = rows (m ((c : Thread nD τ).loc main_arg0)) r.val l.val := by
  refine Eq.trans (congrFun ?_ _) (pad_at _ shapeCasts_S1x2064x7168_S2064x7168 pads_S2064x7168_S2176x7168_01120_000 h_S_ r l)
  unfold Gen.V
  simp only [hostOps0, hostOps0_1, hostOps0_2, hostOps0_3, List.flatten_cons, List.flatten_nil, List.cons_append, List.nil_append, List.append_nil]
  entry_read
  rfl

theorem V_ct (r : Fin 2176) (l : Fin 1024) : Gen.V m c main_v3 (ix2 r l) = rows (m ((c : Thread nD τ).loc main_arg1)) r.val l.val := by
  refine Eq.trans (congrFun ?_ _) (pad_at _ shapeCasts_S1x2064x1024_S2064x1024 pads_S2064x1024_S2176x1024_01120_000 h_S_ r l)
  unfold Gen.V
  simp only [hostOps0, hostOps0_1, hostOps0_2, hostOps0_3, List.flatten_cons, List.flatten_nil, List.cons_append, List.nil_append, List.append_nil]
  entry_read
  rfl

theorem blk0 (t : Fin cfg0.N) (y : S272x1024.Idx) : iblk m c 0 t y = rows (m ((c : Thread nD τ).loc main_arg0)) (272 * t.val + (y 0).val) (y 1).val := by
  have h0 : (y 0).val < 272 := (y 0).isLt
  have h1 : (y 1).val < 1024 := (y 1).isLt
  have ht := (idx t).2.2.2.2
  unfold iblk
  blk_simp [idx t]
  refine (congrArg (Gen.V m c main_v1) (?_ : _ = ix2 ⟨272 * t.val + (y 0).val, by omega⟩ ⟨(y 1).val, by omega⟩)).trans
    (V_p m c _ _)
  blk_ext [idx t]

theorem blk1 (t : Fin cfg0.N) (y : S272x1024.Idx) : iblk m c 1 t y = rows (m ((c : Thread nD τ).loc main_arg0)) (272 * t.val + (y 0).val) (1024 + (y 1).val) := by
  have h0 : (y 0).val < 272 := (y 0).isLt
  have h1 : (y 1).val < 1024 := (y 1).isLt
  have ht := (idx t).2.2.2.2
  unfold iblk
  blk_simp [idx t]
  refine (congrArg (Gen.V m c main_v1) (?_ : _ = ix2 ⟨272 * t.val + (y 0).val, by omega⟩ ⟨1024 + (y 1).val, by omega⟩)).trans
    (V_p m c _ _)
  blk_ext [idx t]

theorem blk2 (t : Fin cfg0.N) (y : S272x1024.Idx) : iblk m c 2 t y = rows (m ((c : Thread nD τ).loc main_arg1)) (272 * t.val + (y 0).val) (y 1).val := by
  have h0 : (y 0).val < 272 := (y 0).isLt
  have h1 : (y 1).val < 1024 := (y 1).isLt
  have ht := (idx t).2.2.2.2
  unfold iblk
  blk_simp [idx t]
  refine (congrArg (Gen.V m c main_v3) (?_ : _ = ix2 ⟨272 * t.val + (y 0).val, by omega⟩ ⟨(y 1).val, by omega⟩)).trans
    (V_ct m c _ _)
  blk_ext [idx t]

theorem final3 : (dats m 0 c).arrAt 3 (cfgs 0).N = Reference10Ideal.Read.val_main_v19 (F := Ideal) (m ((c : Thread nD τ).loc main_arg0))
    (m ((c : Thread nD τ).loc main_arg1)) := by
  refine (dats m 0 c).arrAt_eq_of_covers 3 _ (by decide +kernel) fun t hf y => ?_
  blk_simp
  rw [after0_3]
  have h0 : (y 0).val < 272 := (y 0).isLt
  have h1 : (y 1).val < 2048 := (y 1).isLt
  have ht := (idx t).2.2.2.2
  refine (block (a := fun a l => rows (m ((c : Thread nD τ).loc main_arg0)) (272 * t.val + a) l)
    (g := fun a l => rows (m ((c : Thread nD τ).loc main_arg0)) (272 * t.val + a) (1024 + l))
    (d := fun a l => rows (m ((c : Thread nD τ).loc main_arg1)) (272 * t.val + a) l) (blk0 m c t) (blk1 m c t) (blk2 m c t) y).trans ?_
  refine ((congrArg _ (?_ : _ = ix2 ⟨272 * t.val + (y 0).val, by omega⟩ ⟨(y 1).val, by omega⟩)).trans (ref_at _ _ _ _)).symm
  blk_ext [idx t]

theorem frame : quiescent_Kernel10 (hKernel10 := Kernel10.Gen.facts) :=
  fun m g _ => Kernel10.Gen.frame m g

theorem frame_ideal : quiescent_Kernel10Ideal (hKernel10Ideal := Kernel10Ideal.Gen.facts) :=
  fun m g _ => Kernel10Ideal.Gen.frame m g

theorem frame_ref : quiescent_Reference10Ideal (hReference10Ideal := Reference10Ideal.Gen.facts) :=
  fun m g _ => (θ_run Reference10Ideal.defs _ _).mono
    (fun r h => ⟨fun c => (h c).2, sem_eq_zero_of_no_sems (by decide) r.2⟩) (Reference10Ideal.Value.run m g)

section
open Reference10Ideal.Read

/-- Equal arguments have equal results. -/
theorem same3 {x0 x1 y0 y1} (h0 : x0 = y0) (h1 : x1 = y1) :
    val_main_v19 (F := Ideal) x0 x1 = val_main_v19 (F := Ideal) y0 y1 := by rw [h0, h1]
end

set_option maxHeartbeats 2000000 in
theorem algebraic : algebraic_Kernel10Ideal_Reference10Ideal (hKernel10Ideal := Kernel10Ideal.Gen.facts)
    (hReference10Ideal := Reference10Ideal.Gen.facts) := by
  pair_intro
  · run_from Kernel10Ideal.Gen.run_main m g
    · exact Kernel10Ideal.Gen.V_main_arg0 m c
    · exact Kernel10Ideal.Gen.V_main_arg1 m c
  · refine (θ_run Reference10Ideal.defs _ _).mono (fun r h c => ?_) (Reference10Ideal.Value.run m' g')
    have a0 := (hagree c).1
    have a1 := (hagree c).2
    have r3 := (h c).1.trans (Reference10Ideal.Read.val_main_v19_eq _ _)
    have k := (h c).2
    clear h
    have e3 := same3 a0 a1
    have l3 := r3.trans e3
    exact ⟨l3.trans (final3 m c).symm, k⟩

end Cert.Glu
-- ==== Proof.AttnFwd.Is.lean ====
/- Arrays of two axes at the ideal values.  `Is v f` says that entry `(a, b)` of `v` is `f a b`, a function over plain natural
   numbers; each operation of the forward attention's body takes such arrays to such arrays, and its lemma here names the
   function of the result.  Nothing here asks an entry to be finite. -/
module

public import proofs.«01_k».proof.Proof.Gen.Kernel11Ideal.Value
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem

namespace Cert.AttnFwd

/-- Entry `(a, b)` of the array is `f a b`. -/
def Is {d : Fin 2 → ℕ} (v : (⟨2, d⟩ : Shape).Idx → EReal) (f : ℕ → ℕ → EReal) : Prop :=
  ∀ y : (⟨2, d⟩ : Shape).Idx, v y = f (y (0 : Fin 2)).val (y (1 : Fin 2)).val

/-- Entry `(a, b)` of the array of bits is set exactly where `p a b`. -/
def IsB {d : Fin 2 → ℕ} (v : (⟨2, d⟩ : Shape).Idx → BitVec 1) (p : ℕ → ℕ → Prop) : Prop :=
  ∀ y : (⟨2, d⟩ : Shape).Idx, v y = 1 ↔ p (y (0 : Fin 2)).val (y (1 : Fin 2)).val

variable {d : Fin 2 → ℕ} {φ : FTy} {f g : ℕ → ℕ → EReal} {p q : ℕ → ℕ → Prop}

theorem Is.congr {v : (⟨2, d⟩ : Shape).Idx → EReal} (h : Is v f) (e : ∀ a b, a < d 0 → b < d 1 → f a b = g a b) : Is v g :=
  fun y => by rw [h y, e _ _ (y (0 : Fin 2)).isLt (y (1 : Fin 2)).isLt]

theorem IsB.congr {v : (⟨2, d⟩ : Shape).Idx → BitVec 1} (h : IsB v p) (e : ∀ a b, a < d 0 → b < d 1 → (p a b ↔ q a b)) : IsB v q :=
  fun y => (h y).trans (e _ _ (y (0 : Fin 2)).isLt (y (1 : Fin 2)).isLt)

theorem Is.add {v w : FVec Ideal ⟨2, d⟩ φ} (hv : Is v f) (hw : Is w g) : Is (addf v w) (fun a b => f a b + g a b) :=
  fun y => by show v y + w y = _; rw [hv y, hw y]

theorem Is.sub {v w : FVec Ideal ⟨2, d⟩ φ} (hv : Is v f) (hw : Is w g) : Is (subf v w) (fun a b => f a b - g a b) :=
  fun y => by show v y - w y = _; rw [hv y, hw y]

theorem Is.exp {v : FVec Ideal ⟨2, d⟩ φ} (hv : Is v f) : Is (exp v) (fun a b => Ideal.exp (f a b)) :=
  fun y => by show Ideal.exp (v y) = _; rw [hv y]

theorem zero_f32 : Ideal.ofBits .f32 0x00000000#32 = (0 : EReal) := by simp [Ideal.ofBits, Ideal.ieee]

theorem zero_bf16 : Ideal.ofBits .bf16 0x0000#16 = (0 : EReal) := by simp [Ideal.ofBits, Ideal.ieee]

theorem one_f32 : Ideal.ofBits .f32 0x3F800000#32 = (1 : EReal) := by
  simp [Ideal.ofBits, Ideal.ieee]; rw [← EReal.coe_mul]; norm_num

theorem Is.zero : Is (broadcast (⟨2, d⟩ : Shape) (Scalar.ofBits (F := Ideal) .f32 0x00000000#32)) (fun _ _ => 0) :=
  fun y => zero_f32

theorem Is.zerob : Is (broadcast (⟨2, d⟩ : Shape) (Scalar.ofBits (F := Ideal) .bf16 0x0000#16)) (fun _ _ => 0) :=
  fun y => zero_bf16

/-- The softplus of a score, as the two programs write it. -/
def sp (x : EReal) : EReal := max x 0 + Ideal.log (1 + Ideal.exp (-max x (-x)))

theorem is_sp {z : FVec Ideal ⟨2, d⟩ .f32} (hz : Is z f) :
    Is (addf (maximumf z (broadcast (⟨2, d⟩ : Shape) (Scalar.ofBits (F := Ideal) .f32 0x00000000#32)))
      (log (addf (broadcast (⟨2, d⟩ : Shape) (Scalar.ofBits (F := Ideal) .f32 0x3F800000#32))
        (exp (subf (broadcast (⟨2, d⟩ : Shape) (Scalar.ofBits (F := Ideal) .f32 0x00000000#32)) (absf z))))))
      (fun a b => sp (f a b)) := fun y => by
  show max (z y) (Ideal.ofBits .f32 0x00000000#32)
      + Ideal.log (Ideal.ofBits .f32 0x3F800000#32 + Ideal.exp (Ideal.ofBits .f32 0x00000000#32 - max (z y) (-(z y)))) = _
  rw [zero_f32, one_f32, hz y, zero_sub]
  rfl

theorem Is.select {c : IVec ⟨2, d⟩ 1} {v w : (⟨2, d⟩ : Shape).Idx → EReal} [∀ a b, Decidable (p a b)] (hc : IsB c p) (hv : Is v f) (hw : Is w g) :
    Is (select c v w) (fun a b => if p a b then f a b else g a b) :=
  fun y => by
    show (if c y = 1 then v y else w y) = _
    by_cases h : p (y (0 : Fin 2)).val (y (1 : Fin 2)).val
    · rw [if_pos ((hc y).2 h), hv y]; simp only [if_pos h]
    · rw [if_neg (fun e => h ((hc y).1 e)), hw y]; simp only [if_neg h]

/-- A slice reads at its offsets. -/
theorem Is.slice {e off : Fin 2 → ℕ} {v : (⟨2, d⟩ : Shape).Idx → EReal} (hv : Is v f) (h : Shape.Slices (⟨2, d⟩ : Shape) off (⟨2, e⟩ : Shape)) :
    Is (extractStridedSlice (⟨2, e⟩ : Shape) off v h) (fun a b => f (off 0 + a) (off 1 + b)) :=
  fun y => hv _

theorem IsB.slice {e off : Fin 2 → ℕ} {v : (⟨2, d⟩ : Shape).Idx → BitVec 1} (hv : IsB v p) (h : Shape.Slices (⟨2, d⟩ : Shape) off (⟨2, e⟩ : Shape)) :
    IsB (extractStridedSlice (⟨2, e⟩ : Shape) off v h) (fun a b => p (off 0 + a) (off 1 + b)) :=
  fun y => hv _

/-- Two arrays, one below the other. -/
def two {α : Type} (n : ℕ) (f g : ℕ → ℕ → α) (a b : ℕ) : α := if a < n then f a b else g (a - n) b

theorem Is.cat {e k : Fin 2 → ℕ} {v : (⟨2, d⟩ : Shape).Idx → EReal} {w : (⟨2, e⟩ : Shape).Idx → EReal} (hv : Is v f) (hw : Is w g)
    (h : Shape.Concatenates [(⟨2, d⟩ : Shape), (⟨2, e⟩ : Shape)] (⟨2, k⟩ : Shape) (0 : Fin 2)) :
    Is (concatenate (⟨2, k⟩ : Shape) (0 : Fin 2) [⟨(⟨2, d⟩ : Shape), v⟩, ⟨(⟨2, e⟩ : Shape), w⟩] h) (two (d 0) f g) :=
  fun y => by
    rw [concatenate_pair_apply, two]
    by_cases hl : (y (0 : Fin 2)).val < d 0
    · refine (dif_pos hl).trans ?_; rw [hv]; simp only [if_pos hl]; rfl
    · refine (dif_neg hl).trans ?_; rw [hw]; simp only [if_neg hl]; rfl

theorem IsB.cat {e k : Fin 2 → ℕ} {v : (⟨2, d⟩ : Shape).Idx → BitVec 1} {w : (⟨2, e⟩ : Shape).Idx → BitVec 1} (hv : IsB v p) (hw : IsB w q)
    (h : Shape.Concatenates [(⟨2, d⟩ : Shape), (⟨2, e⟩ : Shape)] (⟨2, k⟩ : Shape) (0 : Fin 2)) :
    IsB (concatenate (⟨2, k⟩ : Shape) (0 : Fin 2) [⟨(⟨2, d⟩ : Shape), v⟩, ⟨(⟨2, e⟩ : Shape), w⟩] h) (two (d 0) p q) :=
  fun y => by
    rw [concatenate_pair_apply, two]
    by_cases hl : (y (0 : Fin 2)).val < d 0
    · rw [if_pos hl]; exact (iff_of_eq (congrArg (· = 1) (dif_pos hl))).trans (hv _)
    · rw [if_neg hl]; exact (iff_of_eq (congrArg (· = 1) (dif_neg hl))).trans (hw _)

/-- A column repeated along the rows. -/
theorem Is.bcol {n m : ℕ} {v : (⟨2, ![n, 1]⟩ : Shape).Idx → EReal} (hv : Is v f) (h : Shape.Broadcasts (⟨2, ![n, 1]⟩ : Shape) (⟨2, ![n, m]⟩ : Shape)) :
    Is (broadcastTo (⟨2, ![n, m]⟩ : Shape) v h) (fun a _ => f a 0) :=
  fun y => by
    refine (broadcastTo_apply v h y (ix2 (y (0 : Fin 2)) (0 : Fin 1)) fun a => ?_).trans (hv _)
    have h0 : (y (0 : Fin 2)).val < n := (y (0 : Fin 2)).isLt
    match a with
    | 0 =>
      show (y (0 : Fin 2)).val = if n = 1 then 0 else (y (0 : Fin 2)).val
      split <;> omega
    | 1 => rfl

/-- A cast to the same shape. -/
theorem Is.cast {v : (⟨2, d⟩ : Shape).Idx → EReal} (hv : Is v f) (h : Shape.ShapeCasts (⟨2, d⟩ : Shape) (⟨2, d⟩ : Shape)) :
    Is (shapeCast (⟨2, d⟩ : Shape) v h) f :=
  fun y => by rw [shapeCast_apply v h y y rfl]; exact hv y

/-- A rounding to another format is the identity at the ideal values. -/
theorem Is.trunc {v : FVec Ideal ⟨2, d⟩ .f32} (hv : Is v f) (h) : Is (truncf .bf16 v h) f := fun y => hv y

end Cert.AttnFwd
-- ==== Proof.AttnFwd.Sums.lean ====
/- One row of the attention at any entries: the sums over the columns from some column on, and what a tile of 256 columns
   adds to them.  `T a` is the number of columns row `a` sees. -/
module

public import proofs.«01_k».proof.Proof.AttnFwd.Is

@[expose] public section

noncomputable section

open Idealize.ShloMosaic

namespace Cert.AttnFwd

/-- The products of the body. -/
def NT (f g : ℕ → ℕ → EReal) (a b : ℕ) : EReal := ∑ l ∈ Finset.range 128, f a l * g b l
def NN (f g : ℕ → ℕ → EReal) (a b : ℕ) : EReal := ∑ k ∈ Finset.range 256, f a k * g k b

/-- The columns up to and including `b`. -/
def tri (c b : ℕ) : EReal := if b ≤ c then 1 else 0

section Row

variable (T : ℕ → ℕ) (z : ℕ → ℕ → EReal)

/-- The softplus of the scores, zero where unseen. -/
def S (a s : ℕ) : EReal := if s < T a then sp (z a s) else 0
/-- Its total from column `o` on. -/
def R (a o : ℕ) : EReal := ∑ s ∈ Finset.Ico o 2304, S T z a s
/-- The weights. -/
def A (a s : ℕ) : EReal := if s < T a then Ideal.exp (z a s - R T z a s) else 0
/-- The weighted rows from column `o` on. -/
def O (v : ℕ → ℕ → EReal) (o a l : ℕ) : EReal := ∑ s ∈ Finset.Ico o 2304, A T z a s * v s l

variable {T z}

theorem shift (f : ℕ → EReal) (o : ℕ) : ∑ b ∈ Finset.range 256, f (o + b) = ∑ s ∈ Finset.Ico o (o + 256), f s := by
  rw [Finset.sum_Ico_eq_sum_range, Nat.add_sub_cancel_left]

/-- The running total inside a tile. -/
theorem cum (a b o : ℕ) (hb : b < 256) : NN (fun a b => S T z a (o + b)) tri a b = ∑ s ∈ Finset.Ico (o + b) (o + 256), S T z a s := by
  have e : ∀ c, S T z a (o + c) * tri c b = (fun s => if o + b ≤ s then S T z a s else 0) (o + c) := fun c => by
    unfold tri
    by_cases h : b ≤ c
    · simp only [if_pos h, if_pos (Nat.add_le_add_left h o), mul_one]
    · simp only [if_neg h, mul_zero]; rw [if_neg (by omega)]
  unfold NN
  simp only [e]
  rw [shift (fun s => if o + b ≤ s then S T z a s else 0), ← Finset.sum_Ico_consecutive _ (Nat.le_add_right o b) (by omega : o + b ≤ o + 256)]
  rw [Finset.sum_eq_zero fun s hs => if_neg (by have := Finset.mem_Ico.1 hs; omega), zero_add]
  exact Finset.sum_congr rfl fun s hs => if_pos (Finset.mem_Ico.1 hs).1

theorem R_tile (a b o : ℕ) (hb : b < 256) (ho : o + 256 ≤ 2304) :
    NN (fun a b => S T z a (o + b)) tri a b + R T z a (o + 256) = R T z a (o + b) := by
  rw [cum a b o hb]; exact Finset.sum_Ico_consecutive _ (by omega) ho

theorem O_tile (v : ℕ → ℕ → EReal) (o a l : ℕ) (ho : o + 256 ≤ 2304) :
    O T z v (o + 256) a l + NN (fun a b => A T z a (o + b)) (fun b l => v (o + b) l) a l = O T z v o a l := by
  unfold NN O
  rw [shift (fun s => A T z a s * v s l), add_comm]
  exact Finset.sum_Ico_consecutive _ (by omega) ho

theorem R_end (a o : ℕ) (h : T a ≤ o) : R T z a o = 0 :=
  Finset.sum_eq_zero fun s hs => if_neg (by have := Finset.mem_Ico.1 hs; omega)

theorem O_end (v : ℕ → ℕ → EReal) (a o l : ℕ) (h : T a ≤ o) : O T z v o a l = 0 :=
  Finset.sum_eq_zero fun s hs => by
    rw [A, if_neg (by have := Finset.mem_Ico.1 hs; omega), zero_mul]

end Row

end Cert.AttnFwd
-- ==== Proof.AttnFwd.Tile.lean ====
/- The matrix products of the forward attention's body, one lemma for each set of shapes, and the stages of one tile for any
   number of rows. -/
module

public import proofs.«01_k».proof.Proof.AttnFwd.Sums

@[expose] public section

set_option maxRecDepth 16384

noncomputable section

open Idealize.ShloMosaic Idealize.ShloMosaic.TcCoe Idealize.SL.Sem
open Cert.Kernel11Ideal Cert.Kernel11Ideal.Gen

namespace Cert.AttnFwd

section Products

variable {f g : ℕ → ℕ → EReal}

theorem is_nt512 {q : FVec Ideal S512x128 .bf16} {k : FVec Ideal S256x128 .bf16} (hq : Is q f) (hk : Is k g) :
    Is (matmul dot_S512x128_S256x128_S512x256_1_1_0_0_n_n none q k (constant S512x256 .f32 0x00000000#32)) (NT f g) := fun y => by
  idx_vars y
  pointwise []
  simp only [hq _, hk _]
  exact (Finset.sum_range fun l => f y0 l * g y1 l).symm

theorem is_nn512 {q : FVec Ideal S512x256 .bf16} {k : FVec Ideal S256x128 .bf16} (hq : Is q f) (hk : Is k g) :
    Is (matmul dot_S512x256_S256x128_S512x128_1_0_0_1_n_n none q k (constant S512x128 .f32 0x00000000#32)) (NN f g) := fun y => by
  idx_vars y
  pointwise []
  simp only [hq _, hk _]
  exact (Finset.sum_range fun l => f y0 l * g l y1).symm

theorem is_cum512 {q : FVec Ideal S2048x256 .bf16} {k : FVec Ideal S256x256 .bf16} (hq : Is q f) (hk : Is k g) :
    Is (matmul dot_S2048x256_S256x256_S2048x256_1_0_0_1_n_n none q k (constant S2048x256 .f32 0x00000000#32)) (NN f g) := fun y => by
  idx_vars y
  pointwise []
  simp only [hq _, hk _]
  exact (Finset.sum_range fun l => f y0 l * g l y1).symm

theorem is_nt32 {q : FVec Ideal S32x128 .bf16} {k : FVec Ideal S256x128 .bf16} (hq : Is q f) (hk : Is k g) :
    Is (matmul dot_S32x128_S256x128_S32x256_1_1_0_0_n_n none q k (constant S32x256 .f32 0x00000000#32)) (NT f g) := fun y => by
  idx_vars y
  pointwise []
  simp only [hq _, hk _]
  exact (Finset.sum_range fun l => f y0 l * g y1 l).symm

theorem is_nn32 {q : FVec Ideal S32x256 .bf16} {k : FVec Ideal S256x128 .bf16} (hq : Is q f) (hk : Is k g) :
    Is (matmul dot_S32x256_S256x128_S32x128_1_0_0_1_n_n none q k (constant S32x128 .f32 0x00000000#32)) (NN f g) := fun y => by
  idx_vars y
  pointwise []
  simp only [hq _, hk _]
  exact (Finset.sum_range fun l => f y0 l * g l y1).symm

theorem is_cum32 {q : FVec Ideal S128x256 .bf16} {k : FVec Ideal S256x256 .bf16} (hq : Is q f) (hk : Is k g) :
    Is (matmul dot_S128x256_S256x256_S128x256_1_0_0_1_n_n none q k (constant S128x256 .f32 0x00000000#32)) (NN f g) := fun y => by
  idx_vars y
  pointwise []
  simp only [hq _, hk _]
  exact (Finset.sum_range fun l => f y0 l * g l y1).symm

end Products

/-- Four arrays of `n` rows, one below the other. -/
def four (n : ℕ) (f : Fin 4 → ℕ → ℕ → EReal) (a b : ℕ) : EReal :=
  if a < n then f 0 a b else if a - n < n then f 1 (a - n) b else if a - n - n < n then f 2 (a - n - n) b else f 3 (a - n - n - n) b

theorem four_at (n : ℕ) (f : Fin 4 → ℕ → ℕ → EReal) (p : Fin 4) (a b : ℕ) (ha : a < n) : four n f (n * p.val + a) b = f p a b := by
  unfold four
  match p with
  | 0 => rw [if_pos (by show n * 0 + a < n; omega)]; congr 1; show n * 0 + a = a; omega
  | 1 =>
    have e : n * 1 + a - n = a := by omega
    rw [if_neg (by show ¬(n * 1 + a < n); omega), if_pos (by show n * 1 + a - n < n; omega)]
    show f 1 (n * 1 + a - n) b = _
    rw [e]
  | 2 =>
    have e : n * 2 + a - n - n = a := by omega
    rw [if_neg (by show ¬(n * 2 + a < n); omega), if_neg (by show ¬(n * 2 + a - n < n); omega), if_pos (by show n * 2 + a - n - n < n; omega)]
    show f 2 (n * 2 + a - n - n) b = _
    rw [e]
  | 3 =>
    have e : n * 3 + a - n - n - n = a := by omega
    rw [if_neg (by show ¬(n * 3 + a < n); omega), if_neg (by show ¬(n * 3 + a - n < n); omega), if_neg (by show ¬(n * 3 + a - n - n < n); omega)]
    show f 3 (n * 3 + a - n - n - n) b = _
    rw [e]

theorem is_four512 {s0 s1 s2 s3 : FVec Ideal S512x256 .f32} {f : Fin 4 → ℕ → ℕ → EReal} (h0 : Is s0 (f 0)) (h1 : Is s1 (f 1)) (h2 : Is s2 (f 2)) (h3 : Is s3 (f 3)) :
    Is (concatenate S2048x256 0 [⟨S512x256, s0⟩, ⟨S512x256, s1⟩, ⟨S512x256, s2⟩, ⟨S512x256, s3⟩] concatenates_S512x256_S512x256_S512x256_S512x256_S2048x256_d0) (four 512 f) := fun y => by
  idx_vars y
  pointwise []
  simp only [h0 _, h1 _, h2 _, h3 _, dite_eq_ite]
  rfl

theorem is_four32 {s0 s1 s2 s3 : FVec Ideal S32x256 .f32} {f : Fin 4 → ℕ → ℕ → EReal} (h0 : Is s0 (f 0)) (h1 : Is s1 (f 1)) (h2 : Is s2 (f 2)) (h3 : Is s3 (f 3)) :
    Is (concatenate S128x256 0 [⟨S32x256, s0⟩, ⟨S32x256, s1⟩, ⟨S32x256, s2⟩, ⟨S32x256, s3⟩] concatenates_S32x256_S32x256_S32x256_S32x256_S128x256_d0) (four 32 f) := fun y => by
  idx_vars y
  pointwise []
  simp only [h0 _, h1 _, h2 _, h3 _, dite_eq_ite]
  rfl

section Stages

variable {n : ℕ} {T : ℕ → ℕ} {z : ℕ → ℕ → EReal} {o : ℕ}

/-- Every column of the tile is seen by every row. -/
theorem is_S {v : FVec Ideal (⟨2, ![n, 256]⟩ : Shape) .f32} (hT : ∀ a < n, o + 256 ≤ T a) (hv : Is v (fun a b => sp (z a (o + b)))) :
    Is v (fun a b => S T z a (o + b)) :=
  hv.congr fun a b ha hb => by
    have h1 := hT a ha
    have h2 : b < 256 := hb
    rw [S, if_pos (by omega)]

theorem is_Sm {c : IVec (⟨2, ![n, 256]⟩ : Shape) 1} {v : FVec Ideal (⟨2, ![n, 256]⟩ : Shape) .f32} (hc : IsB c (fun a b => o + b < T a))
    (hv : Is v (fun a b => sp (z a (o + b)))) :
    Is (select c v (broadcast (⟨2, ![n, 256]⟩ : Shape) (Scalar.ofBits (F := Ideal) .f32 0x00000000#32))) (fun a b => S T z a (o + b)) :=
  Is.select hc hv Is.zero

/-- The running totals of the four pairs, and those of one pair. -/
theorem is_rw {m : ℕ} {f : Fin 4 → ℕ → ℕ → EReal} {x : FVec Ideal (⟨2, ![m, 256]⟩ : Shape) .f32} (hx : Is x (NN (four n f) tri)) (p : Fin 4) {k : ℕ} (hk : k = n * p.val)
    (h : Shape.Slices (⟨2, ![m, 256]⟩ : Shape) ![k, 0] (⟨2, ![n, 256]⟩ : Shape)) :
    Is (extractStridedSlice (⟨2, ![n, 256]⟩ : Shape) ![k, 0] x h) (NN (f p) tri) :=
  (hx.slice h).congr fun a b ha _ => by
    subst hk
    show NN _ tri (n * p.val + a) (0 + b) = _
    rw [zero_add]
    exact Finset.sum_congr rfl fun c _ => by rw [four_at n f p a c ha]

variable (ho : o + 256 ≤ 2304)

include ho in
/-- The exponential of the weight. -/
theorem is_w {zv rw : FVec Ideal (⟨2, ![n, 256]⟩ : Shape) .f32} {cv : FVec Ideal (⟨2, ![n, 1]⟩ : Shape) .f32} {hb}
    (hz : Is zv (fun a b => z a (o + b))) (hr : Is rw (NN (fun a b => S T z a (o + b)) tri)) (hc : Is cv (fun a _ => R T z a (o + 256))) :
    Is (exp (subf zv (addf rw (broadcastTo (⟨2, ![n, 256]⟩ : Shape) cv hb)))) (fun a b => Ideal.exp (z a (o + b) - R T z a (o + b))) :=
  (Is.exp (hz.sub (hr.add (hc.bcol hb)))).congr fun a b _ h => by
    show Ideal.exp (_ - (NN _ tri a b + R T z a (o + 256))) = _
    rw [R_tile a b o h ho]

theorem is_A {v : FVec Ideal (⟨2, ![n, 256]⟩ : Shape) .f32} (hT : ∀ a < n, o + 256 ≤ T a)
    (hv : Is v (fun a b => Ideal.exp (z a (o + b) - R T z a (o + b)))) : Is v (fun a b => A T z a (o + b)) :=
  hv.congr fun a b ha hb => by
    have h1 := hT a ha
    have h2 : b < 256 := hb
    rw [A, if_pos (by omega)]

theorem is_Am {c : IVec (⟨2, ![n, 256]⟩ : Shape) 1} {v : FVec Ideal (⟨2, ![n, 256]⟩ : Shape) .f32} (hc : IsB c (fun a b => o + b < T a))
    (hv : Is v (fun a b => Ideal.exp (z a (o + b) - R T z a (o + b)))) :
    Is (select c v (broadcast (⟨2, ![n, 256]⟩ : Shape) (Scalar.ofBits (F := Ideal) .f32 0x00000000#32))) (fun a b => A T z a (o + b)) :=
  Is.select hc hv Is.zero

include ho in
/-- The carried total after the tile, from the running total's first column. -/
theorem is_R {cv : FVec Ideal (⟨2, ![n, 1]⟩ : Shape) .f32} {rw : FVec Ideal (⟨2, ![n, 256]⟩ : Shape) .f32} {h} (hc : Is cv (fun a _ => R T z a (o + 256)))
    (hr : Is rw (NN (fun a b => S T z a (o + b)) tri)) :
    Is (addf cv (extractStridedSlice (⟨2, ![n, 1]⟩ : Shape) ![0, 0] rw h)) (fun a _ => R T z a o) :=
  (hc.add (hr.slice h)).congr fun a b _ hb => by
    have h1 : b = 0 := Nat.lt_one_iff.1 hb
    subst h1
    show R T z a (o + 256) + NN _ tri (0 + a) (0 + 0) = _
    rw [zero_add, zero_add, add_comm, R_tile a 0 o (by norm_num) ho, add_zero]

include ho in
/-- The carried rows after the tile. -/
theorem is_O {av mv : FVec Ideal (⟨2, ![n, 128]⟩ : Shape) .f32} {v : ℕ → ℕ → EReal} (ha : Is av (O T z v (o + 256)))
    (hm : Is mv (NN (fun a b => A T z a (o + b)) (fun b l => v (o + b) l))) : Is (addf av mv) (O T z v o) :=
  (ha.add hm).congr fun a l _ _ => O_tile v o a l ho

end Stages

end Cert.AttnFwd
-- ==== Proof.AttnFwd.Scalars.lean ====
/- The loops' numbers of trips and the offsets of the loads at each grid point. -/
module

public import proofs.«01_k».proof.Proof.Gen.Kernel11Ideal.Value
public import Idealize.ShloMosaic.Lib.Pipeline.ValueKit

@[expose] public section

set_option maxRecDepth 16384

noncomputable section

open Idealize.ShloMosaic Idealize.ShloMosaic.TcCoe Idealize.SL.Sem
open Cert.Kernel11Ideal Cert.Kernel11Ideal.Gen

namespace Cert.AttnFwd

theorem trips1 : ∀ i : grid0.Coords, (k0_t1_loop i).trips = (i 1).val := by decide +kernel
theorem trips2 : ∀ i : grid0.Coords, (k0_t2_loop i).trips = 0 := by decide +kernel
theorem trips3 : ∀ i : grid0.Coords, (k0_t3_loop i).trips = (i 1).val := by decide +kernel
theorem trips4 : ∀ i : grid0.Coords, (k0_t4_loop i).trips = 0 := by decide +kernel

theorem off1 : ∀ i : grid0.Coords, k0_off1 i = ![256 * (i 1).val, 0] := by decide +kernel
theorem off2 : ∀ i : grid0.Coords, k0_off2 i = ![256 * (i 1).val, 128] := by decide +kernel
theorem off3 : ∀ i : grid0.Coords, k0_off3 i = ![256 * (i 1).val, 256] := by decide +kernel
theorem off4 : ∀ i : grid0.Coords, k0_off4 i = ![256 * (i 1).val, 384] := by decide +kernel

theorem off5 : ∀ (i : grid0.Coords) (k : Fin (k0_t1_loop i).trips), k0_off5 i k = ![256 * ((i 1).val - 1 - k.val), 0] := by decide +kernel
theorem off6 : ∀ (i : grid0.Coords) (k : Fin (k0_t1_loop i).trips), k0_off6 i k = ![256 * ((i 1).val - 1 - k.val), 128] := by decide +kernel
theorem off7 : ∀ (i : grid0.Coords) (k : Fin (k0_t1_loop i).trips), k0_off7 i k = ![256 * ((i 1).val - 1 - k.val), 256] := by decide +kernel
theorem off8 : ∀ (i : grid0.Coords) (k : Fin (k0_t1_loop i).trips), k0_off8 i k = ![256 * ((i 1).val - 1 - k.val), 384] := by decide +kernel

theorem off13 : ∀ i : grid0.Coords, k0_off13 i = ![256 * (i 1).val, 0] := by decide +kernel
theorem off14 : ∀ i : grid0.Coords, k0_off14 i = ![256 * (i 1).val, 128] := by decide +kernel
theorem off15 : ∀ i : grid0.Coords, k0_off15 i = ![256 * (i 1).val, 256] := by decide +kernel
theorem off16 : ∀ i : grid0.Coords, k0_off16 i = ![256 * (i 1).val, 384] := by decide +kernel

theorem off17 : ∀ (i : grid0.Coords) (k : Fin (k0_t3_loop i).trips), k0_off17 i k = ![256 * ((i 1).val - 1 - k.val), 0] := by decide +kernel
theorem off18 : ∀ (i : grid0.Coords) (k : Fin (k0_t3_loop i).trips), k0_off18 i k = ![256 * ((i 1).val - 1 - k.val), 128] := by decide +kernel
theorem off19 : ∀ (i : grid0.Coords) (k : Fin (k0_t3_loop i).trips), k0_off19 i k = ![256 * ((i 1).val - 1 - k.val), 256] := by decide +kernel
theorem off20 : ∀ (i : grid0.Coords) (k : Fin (k0_t3_loop i).trips), k0_off20 i k = ![256 * ((i 1).val - 1 - k.val), 384] := by decide +kernel

end Cert.AttnFwd
-- ==== Proof.AttnFwd.Carry.lean ====
/- Loads of the forward attention's blocks, and what the loop over the tiles carries. -/
module

public import proofs.«01_k».proof.Proof.AttnFwd.Tile
public import proofs.«01_k».proof.Proof.AttnFwd.Scalars

@[expose] public section

set_option maxRecDepth 16384

noncomputable section

open Idealize.ShloMosaic Idealize.ShloMosaic.TcCoe Idealize.SL.Sem
open Cert.Kernel11Ideal Cert.Kernel11Ideal.Gen

namespace Cert.AttnFwd

section Views

variable {sig : RefSig} {κ : Kind} {σ : Space} {d : Fin 2 → ℕ} {F : ℕ → ℕ → EReal} {off size : Fin 2 → ℕ} {o0 o1 : ℕ}

theorem Is.load {v : View sig κ σ (⟨2, d⟩ : Shape) .bf16} {f : v.ty.Contents (Elt Ideal)} (h : Is (v.read (Elt Ideal) f) F)
    (inb : ∀ a, off a + size a ≤ (⟨2, d⟩ : Shape).size a) (e : off = ![o0, o1]) :
    Is (d := size) (v.readAt (Elt Ideal) (Rect.unit (s := (⟨2, d⟩ : Shape)) off size inb).toLoadRect f) (fun a b => F (o0 + a) (o1 + b)) := fun y => by
  subst e
  refine (h _).trans ?_
  show F (o0 + 1 * (y (0 : Fin 2)).val) (o1 + 1 * (y (1 : Fin 2)).val) = _
  rw [one_mul, one_mul]

/-- What is read of whole contents given by an array. -/
theorem Is.whole {μ : Memref sig κ σ (⟨2, d⟩ : Shape) .bf16} (hμ : μ.IsWhole) {x : (⟨2, d⟩ : Shape).Idx → Elt Ideal .bf16} (hx : Is x F) :
    Is (μ.view.read (Elt Ideal) (hμ.unread x)) F := by rw [hμ.read_unread]; exact hx

end Views

/-- The lanes of one pair of heads. -/
def lanes (f : ℕ → ℕ → EReal) (p : Fin 4) (s l : ℕ) : EReal := f s (128 * p.val + l)

/-- The scores of a pair's stacked rows. -/
def sc (q : Fin 4 → ℕ → ℕ → EReal) (kb : ℕ → ℕ → EReal) (p : Fin 4) : ℕ → ℕ → EReal := NT (q p) (lanes kb p)

/-- What the loop over the tiles carries when the columns from `o` on are done: each pair's totals and weighted rows. -/
def CarryIs (n : ℕ) (T : ℕ → ℕ) (q : Fin 4 → ℕ → ℕ → EReal) (kb vb : ℕ → ℕ → EReal) (o : ℕ)
    (cr : FVec Ideal (⟨2, ![n, 1]⟩ : Shape) .f32 × FVec Ideal (⟨2, ![n, 128]⟩ : Shape) .f32 × FVec Ideal (⟨2, ![n, 1]⟩ : Shape) .f32 × FVec Ideal (⟨2, ![n, 128]⟩ : Shape) .f32
      × FVec Ideal (⟨2, ![n, 1]⟩ : Shape) .f32 × FVec Ideal (⟨2, ![n, 128]⟩ : Shape) .f32 × FVec Ideal (⟨2, ![n, 1]⟩ : Shape) .f32 × FVec Ideal (⟨2, ![n, 128]⟩ : Shape) .f32) : Prop :=
  (Is cr.1 (fun a _ => R T (sc q kb 0) a o) ∧ Is cr.2.1 (O T (sc q kb 0) (lanes vb 0) o)) ∧
  (Is cr.2.2.1 (fun a _ => R T (sc q kb 1) a o) ∧ Is cr.2.2.2.1 (O T (sc q kb 1) (lanes vb 1) o)) ∧
  (Is cr.2.2.2.2.1 (fun a _ => R T (sc q kb 2) a o) ∧ Is cr.2.2.2.2.2.1 (O T (sc q kb 2) (lanes vb 2) o)) ∧
  Is cr.2.2.2.2.2.2.1 (fun a _ => R T (sc q kb 3) a o) ∧ Is cr.2.2.2.2.2.2.2 (O T (sc q kb 3) (lanes vb 3) o)

end Cert.AttnFwd
-- ==== Proof.AttnFwd.Loop512.lean ====
/- The loop over the full tiles of the sweep over 512 stacked rows: one trip, and by induction every trip. -/
module

public import proofs.«01_k».proof.Proof.AttnFwd.Carry

@[expose] public section

set_option maxRecDepth 16384

noncomputable section

open Idealize.ShloMosaic Idealize.ShloMosaic.TcCoe Idealize.SL.Sem
open Cert.Kernel11Ideal Cert.Kernel11Ideal.Gen

namespace Cert.AttnFwd.Full

variable {T : ℕ → ℕ} {q : Fin 4 → ℕ → ℕ → EReal} {kb vb : ℕ → ℕ → EReal}

variable (𝒱 : Variants)
  (c : Dev nD)
  (bd : Option 𝒱.V)
  (i : grid0.Coords)
  (arg2 : Memref sig .tc .vmem S256x512 .bf16)
  (harg2 : arg2.IsWhole)
  (arg3 : Memref sig .tc .vmem S2304x512 .bf16)
  (harg3 : arg3.IsWhole)
  (arg4 : Memref sig .tc .vmem S2304x512 .bf16)
  (harg4 : arg4.IsWhole)
  (arg5 : Memref sig .tc .vmem S256x512 .bf16)
  (harg5 : arg5.IsWhole)
  (arg6 : Memref sig .tc .vmem S8x256x1 .f32)
  (harg6 : arg6.IsWhole)
  (arg1 : BitVec 32)
  (v5 : FVec Ideal S256x256 .bf16)
  (v8 : IVec S256x128 1)
  (v14 : FVec Ideal S512x128 .bf16)
  (v20 : FVec Ideal S512x128 .bf16)
  (v26 : FVec Ideal S512x128 .bf16)
  (v32 : FVec Ideal S512x128 .bf16)
  (k0_h1 : k0_cond1 i = 1#1)
  (v47 : FVec Ideal S512x1 .f32)
  (v48 : FVec Ideal S512x128 .f32)
  (v130 : FVec Ideal S512x128 .f32)
  (v132 : FVec Ideal S512x1 .f32)
  (v145 : FVec Ideal S512x128 .f32)
  (v147 : FVec Ideal S512x1 .f32)
  (v160 : FVec Ideal S512x128 .f32)
  (v162 : FVec Ideal S512x1 .f32)
  (v163 : FVec Ideal S512x256 .f32)
  (v170 : FVec Ideal S512x256 .bf16)
  (v173 : FVec Ideal S256x128 .bf16)
  (X_arg3 : BufTy.Contents (Elt Ideal) arg3.view.ty)
  (X_arg4 : BufTy.Contents (Elt Ideal) arg4.view.ty)
  (hK : Is (arg3.view.read (Elt Ideal) X_arg3) kb) (hV : Is (arg4.view.read (Elt Ideal) X_arg4) vb)
  (ht : Is v5 tri) (hq0 : Is v14 (q 0)) (hq1 : Is v20 (q 1)) (hq2 : Is v26 (q 2)) (hq3 : Is v32 (q 3))

include hK hV ht hq0 hq1 hq2 hq3

/-- One trip. -/
theorem trip (k : Fin (k0_t1_loop i).trips) (o : ℕ) (eo : 256 * ((i 1).val - 1 - k.val) = o) (ho : o + 256 ≤ 2304) (hT : ∀ a < 512, o + 256 ≤ T a)
    (acc : FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32) (hc : CarryIs 512 T q kb vb (o + 256) acc) :
    CarryIs 512 T q kb vb o (tripR_k0_t1 (F := Ideal) 𝒱 c bd i arg2 harg2 arg3 harg3 arg4 harg4 arg5 harg5 arg6 harg6 arg1 v5 v8 v14 v20 v26 v32 k0_h1 v47 v48 v130 v132 v145 v147 v160 v162 v163 v170 v173 X_arg3 X_arg4 k acc) := by
  subst eo
  obtain ⟨⟨hr0, ha0⟩, ⟨hr1, ha1⟩, ⟨hr2, ha2⟩, hr3, ha3⟩ := hc
  have hk0 := hK.load (k0_off5_inb i k ‹_›) (off5 i k)
  have hv0 := hV.load (k0_off5_inb i k ‹_›) (off5 i k)
  have hz0 : Is _ (fun a b => sc q kb 0 a (256 * ((i 1).val - 1 - k.val) + b)) := is_nt512 hq0 (hk0.cast shapeCasts_S256x128_S256x128)
  have hs0 := is_S hT (is_sp hz0)
  have hk1 := hK.load (k0_off6_inb i k ‹_›) (off6 i k)
  have hv1 := hV.load (k0_off6_inb i k ‹_›) (off6 i k)
  have hz1 : Is _ (fun a b => sc q kb 1 a (256 * ((i 1).val - 1 - k.val) + b)) := is_nt512 hq1 (hk1.cast shapeCasts_S256x128_S256x128)
  have hs1 := is_S hT (is_sp hz1)
  have hk2 := hK.load (k0_off7_inb i k ‹_›) (off7 i k)
  have hv2 := hV.load (k0_off7_inb i k ‹_›) (off7 i k)
  have hz2 : Is _ (fun a b => sc q kb 2 a (256 * ((i 1).val - 1 - k.val) + b)) := is_nt512 hq2 (hk2.cast shapeCasts_S256x128_S256x128)
  have hs2 := is_S hT (is_sp hz2)
  have hk3 := hK.load (k0_off8_inb i k ‹_›) (off8 i k)
  have hv3 := hV.load (k0_off8_inb i k ‹_›) (off8 i k)
  have hz3 : Is _ (fun a b => sc q kb 3 a (256 * ((i 1).val - 1 - k.val) + b)) := is_nt512 hq3 (hk3.cast shapeCasts_S256x128_S256x128)
  have hs3 := is_S hT (is_sp hz3)
  have hw := is_cum512 ((is_four512 (f := fun p a b => S T (sc q kb p) a (256 * ((i 1).val - 1 - k.val) + b)) hs0 hs1 hs2 hs3).trunc bitsLt_bf16_f32) ht
  have hw0 := is_rw hw 0 (k := 0) rfl slices_S2048x256_o0_0_S512x256
  have hx0 := (is_A hT (is_w (hb := broadcasts_S512x1_S512x256) ho hz0 hw0 hr0)).trunc bitsLt_bf16_f32
  have hw1 := is_rw hw 1 (k := 512) rfl slices_S2048x256_o512_0_S512x256
  have hx1 := (is_A hT (is_w (hb := broadcasts_S512x1_S512x256) ho hz1 hw1 hr1)).trunc bitsLt_bf16_f32
  have hw2 := is_rw hw 2 (k := 1024) rfl slices_S2048x256_o1024_0_S512x256
  have hx2 := (is_A hT (is_w (hb := broadcasts_S512x1_S512x256) ho hz2 hw2 hr2)).trunc bitsLt_bf16_f32
  have hw3 := is_rw hw 3 (k := 1536) rfl slices_S2048x256_o1536_0_S512x256
  have hx3 := (is_A hT (is_w (hb := broadcasts_S512x1_S512x256) ho hz3 hw3 hr3)).trunc bitsLt_bf16_f32
  unfold tripR_k0_t1 trip_k0_t1
  dsimp only
  refine ⟨⟨?_, ?_⟩, ⟨?_, ?_⟩, ⟨?_, ?_⟩, ?_, ?_⟩
  · exact is_R (h := slices_S512x256_o0_0_S512x1) ho hr0 hw0
  · exact is_O ho ha0 (is_nn512 hx0 (hv0.cast shapeCasts_S256x128_S256x128))
  · exact is_R (h := slices_S512x256_o0_0_S512x1) ho hr1 hw1
  · exact is_O ho ha1 (is_nn512 hx1 (hv1.cast shapeCasts_S256x128_S256x128))
  · exact is_R (h := slices_S512x256_o0_0_S512x1) ho hr2 hw2
  · exact is_O ho ha2 (is_nn512 hx2 (hv2.cast shapeCasts_S256x128_S256x128))
  · exact is_R (h := slices_S512x256_o0_0_S512x1) ho hr3 hw3
  · exact is_O ho ha3 (is_nn512 hx3 (hv3.cast shapeCasts_S256x128_S256x128))

/-- Every trip. -/
theorem loop (hi : (k0_t1_loop i).trips = (i 1).val) (hi8 : (i 1).val ≤ 8) (hT : ∀ a < 512, 256 * (i 1).val ≤ T a) (init : FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32) (h0 : CarryIs 512 T q kb vb (256 * (i 1).val) init) :
    ∀ n, n ≤ (i 1).val → CarryIs 512 T q kb vb (256 * ((i 1).val - n)) (st_k0_t1 (F := Ideal) 𝒱 c bd i arg2 harg2 arg3 harg3 arg4 harg4 arg5 harg5 arg6 harg6 arg1 v5 v8 v14 v20 v26 v32 k0_h1 v47 v48 v130 v132 v145 v147 v160 v162 v163 v170 v173 X_arg3 X_arg4 init n)
  | 0, _ => h0
  | n + 1, hn => by
    have hs := st_k0_t1_succ (F := Ideal) 𝒱 c bd i arg2 harg2 arg3 harg3 arg4 harg4 arg5 harg5 arg6 harg6 arg1 v5 v8 v14 v20 v26 v32 k0_h1 v47 v48 v130 v132 v145 v147 v160 v162 v163 v170 v173 X_arg3 X_arg4 init ⟨n, by omega⟩
    refine (congrArg (CarryIs 512 T q kb vb (256 * ((i 1).val - (n + 1)))) hs).mpr ?_
    refine trip 𝒱 c bd i arg2 harg2 arg3 harg3 arg4 harg4 arg5 harg5 arg6 harg6 arg1 v5 v8 v14 v20 v26 v32 k0_h1 v47 v48 v130 v132 v145 v147 v160 v162 v163 v170 v173 X_arg3 X_arg4 hK hV ht hq0 hq1 hq2 hq3 ⟨n, by omega⟩ _ (by show 256 * ((i 1).val - 1 - n) = _; omega) (by omega) (fun a ha => by have := hT a ha; omega) _ ?_
    have ih := loop hi hi8 hT init h0 n (by omega)
    rwa [show 256 * ((i 1).val - n) = 256 * ((i 1).val - (n + 1)) + 256 by omega] at ih

/-- The loop's trips, and after them none of the loop that takes up what is left over. -/
theorem both (w : BitVec 32) (hi : (k0_t1_loop i).trips = (i 1).val) (hi8 : (i 1).val ≤ 8) (hT : ∀ a < 512, 256 * (i 1).val ≤ T a) (init : FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32) (h0 : CarryIs 512 T q kb vb (256 * (i 1).val) init)
    (m n' : ℕ) (hm : m = (i 1).val) (hn' : n' = 0) :
    let r := st_k0_t1 (F := Ideal) 𝒱 c bd i arg2 harg2 arg3 harg3 arg4 harg4 arg5 harg5 arg6 harg6 arg1 v5 v8 v14 v20 v26 v32 k0_h1 v47 v48 v130 v132 v145 v147 v160 v162 v163 v170 v173 X_arg3 X_arg4 init m
    CarryIs 512 T q kb vb 0 (st_k0_t2 (F := Ideal) 𝒱 c bd i arg2 harg2 arg3 harg3 arg4 harg4 arg5 harg5 arg6 harg6 arg1 v5 v8 v14 v20 v26 v32 k0_h1 v47 v48 v130 v132 v145 v147 v160 v162 v163 v170 v173 w X_arg3 X_arg4
      (r.1, r.2.1, r.2.2.1, r.2.2.2.1, r.2.2.2.2.1, r.2.2.2.2.2.1, r.2.2.2.2.2.2.1, r.2.2.2.2.2.2.2) n') := by
  subst hn'
  have h := loop 𝒱 c bd i arg2 harg2 arg3 harg3 arg4 harg4 arg5 harg5 arg6 harg6 arg1 v5 v8 v14 v20 v26 v32 k0_h1 v47 v48 v130 v132 v145 v147 v160 v162 v163 v170 v173 X_arg3 X_arg4 hK hV ht hq0 hq1 hq2 hq3 hi hi8 hT init h0 m (le_of_eq hm)
  rw [hm, Nat.sub_self, Nat.mul_zero, ← hm] at h
  exact h

end Cert.AttnFwd.Full
-- ==== Proof.AttnFwd.Rows.lean ====
/- The forward attention's masks, the stacked rows of its pairs of heads, and what its blocks' stores hold. -/
module

public import proofs.«01_k».proof.Proof.AttnFwd.Carry

@[expose] public section

set_option maxRecDepth 16384

noncomputable section

open Idealize.ShloMosaic Idealize.ShloMosaic.TcCoe Idealize.SL.Sem
open Cert.Kernel11Ideal Cert.Kernel11Ideal.Gen

namespace Cert.AttnFwd

theorem slt_iff {a b : ℕ} (ha : a < 2 ^ 31) (hb : b < 2 ^ 31) :
    IntOp.cmpi .slt (BitVec.ofNat 32 a) (BitVec.ofNat 32 b) = 1 ↔ a < b := WordCmp.cmpi_slt_ofNat_eq_one_iff ha hb

theorem is_tri : Is (k0_pay183 (F := Ideal)) tri := fun y => by
  idx_vars y
  have h0 := y0.isLt
  have h1 := y1.isLt
  pointwise [k0_pay183]
  have e : IntOp.cmpi .sge (BitVec.ofNat 32 y0.val) (BitVec.ofNat 32 y1.val) = BitVec.ofBool (decide (y1.val ≤ y0.val)) :=
    WordCmp.cmpi_sge_ofNat (by omega) (by omega)
  show _ = tri y0.val y1.val
  unfold tri
  by_cases h : y1.val ≤ y0.val
  · rw [e, if_pos h, decide_eq_true h]; show ((((1 : ℤ) : ℝ)) : EReal) = _; norm_num
  · rw [e, if_neg h, decide_eq_false h]; show ((((0 : ℤ) : ℝ)) : EReal) = _; norm_num

theorem is_first : IsB k0_pay184 (fun _ l => l < 64) := fun y => by
  idx_vars y
  have h1 := y1.isLt
  pointwise [k0_pay184]
  exact slt_iff (by omega) (by norm_num)

theorem is_before : IsB (cmpi .slt (iota .tc S256x256 32 [1] iota_S256x256_d1_w32) (iota .tc S256x256 32 [0] iota_S256x256_d0_w32)) (fun a b => b < a) := fun y => by
  idx_vars y
  have h0 := y0.isLt
  have h1 := y1.isLt
  pointwise
  exact slt_iff (by omega) (by omega)

/-- Of each head's `n` rows from row `o` on, the columns that a row sees. -/
def seen (n o a : ℕ) : ℕ := o + a % n

theorem is_mask (o : ℕ) : IsB (k0_pay35 (iota .tc S256x256 32 [0] iota_S256x256_d0_w32) (iota .tc S256x256 32 [1] iota_S256x256_d1_w32)) (fun a b => o + b < seen 256 o a) := by
  have h := is_before
  refine (IsB.cat h h concatenates_S256x256_S256x256_S512x256_d0).congr fun a b ha hb => ?_
  have ha' : a < 512 := ha
  show (if a < 256 then b < a else b < a - 256) ↔ o + b < o + a % 256
  split <;> omega

theorem is_mask16 (o : ℕ) : IsB (k0_pay118 (iota .tc S256x256 32 [0] iota_S256x256_d0_w32) (iota .tc S256x256 32 [1] iota_S256x256_d1_w32)) (fun a b => o + b < seen 16 o a) := by
  have h := is_before
  have s := h.slice slices_S256x256_o0_0_S16x256
  refine (IsB.cat s s concatenates_S16x256_S16x256_S32x256_d0).congr fun a b ha hb => ?_
  have ha' : a < 32 := ha
  show (if a < 16 then 0 + b < 0 + a else 0 + b < 0 + (a - 16)) ↔ o + b < o + a % 16
  split <;> omega

/-- Two heads of `n` rows stacked: the first keeps the first 64 lanes, the second the others. -/
def stack (n : ℕ) (f : ℕ → ℕ → EReal) (a l : ℕ) : EReal :=
  if a < n then (if l < 64 then f a l else 0) else (if l < 64 then 0 else f (a - n) l)

/-- The stacked rows of a pair of heads, from the rows of a block. -/
def pq (n : ℕ) (qb : ℕ → ℕ → EReal) (p : Fin 4) : ℕ → ℕ → EReal := stack n (lanes qb p)

theorem is_stack {v : Vec Ideal S256x128 .bf16} {f : ℕ → ℕ → EReal} (hv : Is v f) : Is (k0_pay185 v) (stack 256 f) :=
  (Is.select is_first (hv.cast shapeCasts_S256x128_S256x128) Is.zerob).cat
    (Is.select is_first Is.zerob (hv.cast shapeCasts_S256x128_S256x128)) concatenates_S256x128_S256x128_S512x128_d0
theorem is_stack1 {v : Vec Ideal S256x128 .bf16} {f : ℕ → ℕ → EReal} (hv : Is v f) : Is (k0_pay186 v) (stack 256 f) := is_stack hv
theorem is_stack2 {v : Vec Ideal S256x128 .bf16} {f : ℕ → ℕ → EReal} (hv : Is v f) : Is (k0_pay187 v) (stack 256 f) := is_stack hv
theorem is_stack3 {v : Vec Ideal S256x128 .bf16} {f : ℕ → ℕ → EReal} (hv : Is v f) : Is (k0_pay188 v) (stack 256 f) := is_stack hv

/-- The first 16 rows of each head of a stacked pair. -/
theorem is_cut {v : FVec Ideal S512x128 .bf16} {f : ℕ → ℕ → EReal} (hv : Is v (stack 256 f)) : Is (k0_pay119 v) (stack 16 f) := by
  refine ((hv.slice slices_S512x128_o0_0_S16x128).cat (hv.slice slices_S512x128_o256_0_S16x128) concatenates_S16x128_S16x128_S32x128_d0).congr fun a b ha hb => ?_
  have ha' : a < 32 := ha
  show (if a < 16 then stack 256 f (0 + a) (0 + b) else stack 256 f (256 + (a - 16)) (0 + b)) = _
  unfold stack
  by_cases h : a < 16
  · rw [if_pos h, if_pos h, if_pos (by omega), zero_add, zero_add]
  · rw [if_neg h, if_neg h, if_neg (by omega), zero_add, show 256 + (a - 16) - 256 = a - 16 by omega]

/-- The two heads of a pair put side by side again. -/
def unstack (n : ℕ) (f : ℕ → ℕ → EReal) (a l : ℕ) : EReal := if l < 64 then f a l else f (n + a) l

theorem is_res {v : FVec Ideal S512x128 .f32} {f : ℕ → ℕ → EReal} (hv : Is v f) : Is (k0_pay190 v) (unstack 256 f) :=
  (Is.select is_first (hv.slice slices_S512x128_o0_0_S256x128) (hv.slice slices_S512x128_o256_0_S256x128)).congr fun a l _ _ => by
    show (if l < 64 then f (0 + a) (0 + l) else f (256 + a) (0 + l)) = _
    rw [zero_add, zero_add]; rfl

theorem is_res16 {v : FVec Ideal S32x128 .f32} {f : ℕ → ℕ → EReal} (hv : Is v f) : Is (k0_pay163 k0_pay184 v) (unstack 16 f) :=
  (Is.select ((is_first.slice slices_S256x128_o0_0_S16x128)) (hv.slice slices_S32x128_o0_0_S16x128) (hv.slice slices_S32x128_o16_0_S16x128)).congr fun a l _ _ => by
    show (if 0 + l < 64 then f (0 + a) (0 + l) else f (16 + a) (0 + l)) = _
    rw [zero_add, zero_add]; rfl

/-- A column held under a leading axis of length one. -/
def IsC {n : ℕ} (v : (⟨3, ![1, n, 1]⟩ : Shape).Idx → EReal) (r : ℕ → EReal) : Prop :=
  ∀ y : (⟨3, ![1, n, 1]⟩ : Shape).Idx, v y = r (y (1 : Fin 3)).val

theorem IsC.of {n m k : ℕ} {v : (⟨2, ![m, 1]⟩ : Shape).Idx → EReal} {f : ℕ → EReal} (hv : Is v (fun a _ => f a))
    (hs : Shape.Slices (⟨2, ![m, 1]⟩ : Shape) ![k, 0] (⟨2, ![n, 1]⟩ : Shape)) (h : Shape.ShapeCasts (⟨2, ![n, 1]⟩ : Shape) (⟨3, ![1, n, 1]⟩ : Shape)) :
    IsC (shapeCast (⟨3, ![1, n, 1]⟩ : Shape) (extractStridedSlice (⟨2, ![n, 1]⟩ : Shape) ![k, 0] v hs) h) (fun a => f (k + a)) := fun y => by
  have h0 : (y (0 : Fin 3)).val = 0 := Nat.lt_one_iff.1 (y (0 : Fin 3)).isLt
  have h2 : (y (2 : Fin 3)).val = 0 := Nat.lt_one_iff.1 (y (2 : Fin 3)).isLt
  rw [shapeCast_apply _ h y (ix2 (y (1 : Fin 3)) (0 : Fin 1)) ?_]
  · exact hv.slice hs _
  · rw [Shape.rowMajor_val_two, Shape.rowMajor_val_succ, Shape.rowMajor_val_two]
    show (y (1 : Fin 3)).val * 1 + 0 = (y (0 : Fin 3)).val * _ + ((y (1 : Fin 3)).val * 1 + (y (2 : Fin 3)).val)
    rw [h0, h2]; omega

theorem IsC.zero {n : ℕ} (h : Shape.ShapeCasts (⟨2, ![n, 1]⟩ : Shape) (⟨3, ![1, n, 1]⟩ : Shape)) :
    IsC (shapeCast (⟨3, ![1, n, 1]⟩ : Shape) (broadcast (⟨2, ![n, 1]⟩ : Shape) (Scalar.ofBits (F := Ideal) .f32 0x00000000#32)) h) (fun _ => 0) :=
  fun y => zero_f32

/-- A pair's number among four. -/
def pair (k : ℕ) : Fin 4 := ⟨k % 4, Nat.mod_lt _ (by norm_num)⟩

/-- A block of the result, and of the totals. -/
def outF (n : ℕ) (T : ℕ → ℕ) (qb kb vb : ℕ → ℕ → EReal) (a l : ℕ) : EReal :=
  unstack n (O T (sc (pq n qb) kb (pair (l / 128))) (lanes vb (pair (l / 128))) 0) a (l % 128)
def totF (n : ℕ) (T : ℕ → ℕ) (qb kb : ℕ → ℕ → EReal) (e a : ℕ) : EReal := R T (sc (pq n qb) kb (pair (e / 2))) (n * (e % 2) + a) 0

/-- A store into a block. -/
theorem piece {d off size : Fin 2 → ℕ} (inb : ∀ a, off a + size a ≤ (⟨2, d⟩ : Shape).size a) {f G : ℕ → ℕ → EReal}
    {w : (Rect.unit (s := (⟨2, d⟩ : Shape)) off size inb).shape.Idx → Elt Ideal .bf16} (hw : Is (d := size) w f)
    (e : ∀ a b, a < size 0 → b < size 1 → f a b = G (off 0 + a) (off 1 + b)) (z : (Rect.unit (s := (⟨2, d⟩ : Shape)) off size inb).shape.Idx) :
    w z = G ((Rect.unit (s := (⟨2, d⟩ : Shape)) off size inb).emb z (0 : Fin 2)).val ((Rect.unit (s := (⟨2, d⟩ : Shape)) off size inb).emb z (1 : Fin 2)).val := by
  refine (hw z).trans ((e _ _ (z (0 : Fin 2)).isLt (z (1 : Fin 2)).isLt).trans ?_)
  show _ = G (off 0 + 1 * (z (0 : Fin 2)).val) (off 1 + 1 * (z (1 : Fin 2)).val)
  rw [one_mul, one_mul]

theorem pieceC {d : Fin 3 → ℕ} {n o k : ℕ} (inb : ∀ a, (![o, k, 0] : Fin 3 → ℕ) a + (![1, n, 1] : Fin 3 → ℕ) a ≤ (⟨3, d⟩ : Shape).size a) {f : ℕ → EReal} {G : ℕ → ℕ → EReal}
    {w : (Rect.unit (s := (⟨3, d⟩ : Shape)) ![o, k, 0] ![1, n, 1] inb).shape.Idx → Elt Ideal .f32} (hw : IsC (n := n) w f)
    (e : ∀ a, a < n → f a = G o (k + a)) (z : (Rect.unit (s := (⟨3, d⟩ : Shape)) ![o, k, 0] ![1, n, 1] inb).shape.Idx) :
    w z = G ((Rect.unit (s := (⟨3, d⟩ : Shape)) ![o, k, 0] ![1, n, 1] inb).emb z (0 : Fin 3)).val ((Rect.unit (s := (⟨3, d⟩ : Shape)) ![o, k, 0] ![1, n, 1] inb).emb z (1 : Fin 3)).val := by
  have h0 : (z (0 : Fin 3)).val = 0 := Nat.lt_one_iff.1 (z (0 : Fin 3)).isLt
  refine (hw z).trans ((e _ (z (1 : Fin 3)).isLt).trans ?_)
  show _ = G (o + 1 * (z (0 : Fin 3)).val) (k + 1 * (z (1 : Fin 3)).val)
  rw [h0, one_mul (z (1 : Fin 3)).val, Nat.mul_zero, Nat.add_zero]

theorem out_at {n : ℕ} {T : ℕ → ℕ} {qb kb vb : ℕ → ℕ → EReal} (p : Fin 4) {k : ℕ} (hk : k = 128 * p.val) (a b : ℕ) (hb : b < 128) :
    unstack n (O T (sc (pq n qb) kb p) (lanes vb p) 0) a b = outF n T qb kb vb (0 + a) (k + b) := by
  have h := p.isLt
  have e1 : (k + b) / 128 = p.val := by omega
  have e2 : (k + b) % 128 = b := by omega
  have e3 : pair p.val = p := Fin.ext (Nat.mod_eq_of_lt h)
  rw [outF, e1, e2, e3, zero_add]

theorem tot_at {n : ℕ} {T : ℕ → ℕ} {qb kb : ℕ → ℕ → EReal} (p : Fin 4) {e s k : ℕ} (he : e = 2 * p.val + s) (hs : s < 2) (hk : k = n * s) (a : ℕ) :
    R T (sc (pq n qb) kb p) (k + a) 0 = totF n T qb kb e (0 + a) := by
  have h := p.isLt
  have e1 : e / 2 = p.val := by omega
  have e2 : e % 2 = s := by omega
  have e3 : pair p.val = p := Fin.ext (Nat.mod_eq_of_lt h)
  rw [totF, e1, e2, e3, zero_add, hk]

end Cert.AttnFwd
-- ==== Proof.AttnFwd.RunA.lean ====
/- One block of 256 rows of each head: its diagonal tile, the sweep over the tiles before it, and what is stored. -/
module

public import proofs.«01_k».proof.Proof.AttnFwd.Loop512
public import proofs.«01_k».proof.Proof.AttnFwd.Rows

@[expose] public section

set_option maxRecDepth 16384

noncomputable section

open Idealize.ShloMosaic Idealize.ShloMosaic.TcCoe Idealize.SL.Sem
open Cert.Kernel11Ideal Cert.Kernel11Ideal.Gen Cert.Kernel11Ideal.Gen.kernelRun0_A

namespace Cert.AttnFwd.Full

variable (c : Dev nD) (i : grid0.Coords)
  (arg2 : Memref sig .tc .vmem S256x512 .bf16) (harg2 : arg2.IsWhole)
  (arg3 : Memref sig .tc .vmem S2304x512 .bf16) (harg3 : arg3.IsWhole)
  (arg4 : Memref sig .tc .vmem S2304x512 .bf16) (harg4 : arg4.IsWhole)
  (arg5 : Memref sig .tc .vmem S256x512 .bf16) (harg5 : arg5.IsWhole)
  (arg6 : Memref sig .tc .vmem S8x256x1 .f32) (harg6 : arg6.IsWhole)
  (hc0 : cond0_0 i) (hc1 : ¬cond0_1 i)
  (x0 : Vec Ideal S256x512 .bf16) (x1 : Vec Ideal S2304x512 .bf16) (x2 : Vec Ideal S2304x512 .bf16)
  {qb kb vb : ℕ → ℕ → EReal} (hx0 : Is x0 qb) (hx1 : Is x1 kb) (hx2 : Is x2 vb)

/-! The heads' stacked queries, as the body loads them. -/

abbrev s0 := k0_pay185 (F := Ideal) (View.readAt (Elt Ideal) arg2.view (Rect.unit (s := S256x512) ![0, 0] ![256, 128] inb_S256x512_S256x128_0_0).toLoadRect (harg2.unread x0) : (Rect.unit (s := S256x512) ![0, 0] ![256, 128] inb_S256x512_S256x128_0_0).shape.Idx → Elt Ideal .bf16)
abbrev s1 := k0_pay186 (F := Ideal) (View.readAt (Elt Ideal) arg2.view (Rect.unit (s := S256x512) ![0, 128] ![256, 128] inb_S256x512_S256x128_0_128).toLoadRect (harg2.unread x0) : (Rect.unit (s := S256x512) ![0, 128] ![256, 128] inb_S256x512_S256x128_0_128).shape.Idx → Elt Ideal .bf16)
abbrev s2 := k0_pay187 (F := Ideal) (View.readAt (Elt Ideal) arg2.view (Rect.unit (s := S256x512) ![0, 256] ![256, 128] inb_S256x512_S256x128_0_256).toLoadRect (harg2.unread x0) : (Rect.unit (s := S256x512) ![0, 256] ![256, 128] inb_S256x512_S256x128_0_256).shape.Idx → Elt Ideal .bf16)
abbrev s3 := k0_pay188 (F := Ideal) (View.readAt (Elt Ideal) arg2.view (Rect.unit (s := S256x512) ![0, 384] ![256, 128] inb_S256x512_S256x128_0_384).toLoadRect (harg2.unread x0) : (Rect.unit (s := S256x512) ![0, 384] ![256, 128] inb_S256x512_S256x128_0_384).shape.Idx → Elt Ideal .bf16)

/-- What the sweep starts from. -/
abbrev init := (sl.r_11 c i arg2 harg2 arg3 harg3 hc0 x0 x1, sl.r_10 c i arg2 harg2 arg3 harg3 arg4 harg4 hc0 x0 x1 x2, sl.r_13 c i arg2 harg2 arg3 harg3 hc0 x0 x1,
      sl.r_12 c i arg2 harg2 arg3 harg3 arg4 harg4 hc0 x0 x1 x2, sl.r_15 c i arg2 harg2 arg3 harg3 hc0 x0 x1, sl.r_14 c i arg2 harg2 arg3 harg3 arg4 harg4 hc0 x0 x1 x2,
      k0_pay67 k0_pay42 (sl.r_16 c i arg2 harg2 arg3 harg3 hc0 x0 x1), k0_pay66 k0_pay43 (sl.r_17 c i arg2 harg2 arg3 harg3 hc0 x0 x1) (sl.r_18 c i arg4 harg4 hc0 x2))

/-- What the sweep over the whole tiles leaves. -/
abbrev swept := st_k0_t1 (F := Ideal) Variants.none c none i arg2 harg2 arg3 harg3 arg4 harg4 arg5 harg5 arg6 harg6 (BitVec.ofNat 32 (i 1).val) k0_pay183 k0_pay184
    (s0 arg2 harg2 x0)
    (s1 arg2 harg2 x0)
    (s2 arg2 harg2 x0)
    (s3 arg2 harg2 x0) hc0 k0_pay42 k0_pay43
    (sl.r_10 c i arg2 harg2 arg3 harg3 arg4 harg4 hc0 x0 x1 x2) (sl.r_11 c i arg2 harg2 arg3 harg3 hc0 x0 x1) (sl.r_12 c i arg2 harg2 arg3 harg3 arg4 harg4 hc0 x0 x1 x2)
    (sl.r_13 c i arg2 harg2 arg3 harg3 hc0 x0 x1) (sl.r_14 c i arg2 harg2 arg3 harg3 arg4 harg4 hc0 x0 x1 x2) (sl.r_15 c i arg2 harg2 arg3 harg3 hc0 x0 x1)
    (sl.r_16 c i arg2 harg2 arg3 harg3 hc0 x0 x1) (sl.r_17 c i arg2 harg2 arg3 harg3 hc0 x0 x1) (sl.r_18 c i arg4 harg4 hc0 x2) (harg3.unread x1) (harg4.unread x2) (init c i arg2 harg2 arg3 harg3 arg4 harg4 hc0 x0 x1 x2) (Scf.trips (k0_t1_loop i).lb (k0_t1_loop i).ub (k0_t1_loop i).st)

include hx0

theorem q0 : Is (s0 arg2 harg2 x0) ((pq 256 qb) 0) := ((is_stack ((hx0.whole harg2).load inb_S256x512_S256x128_0_0 rfl)).congr (g := stack 256 (lanes qb 0)) fun a l _ _ => by unfold stack lanes; simp only [zero_add, Fin.val_zero, mul_zero] <;> rfl)
theorem q1 : Is (s1 arg2 harg2 x0) ((pq 256 qb) 1) := ((is_stack1 ((hx0.whole harg2).load inb_S256x512_S256x128_0_128 rfl)).congr (g := stack 256 (lanes qb 1)) fun a l _ _ => by unfold stack lanes; simp only [zero_add, Fin.val_zero, mul_zero] <;> rfl)
theorem q2 : Is (s2 arg2 harg2 x0) ((pq 256 qb) 2) := ((is_stack2 ((hx0.whole harg2).load inb_S256x512_S256x128_0_256 rfl)).congr (g := stack 256 (lanes qb 2)) fun a l _ _ => by unfold stack lanes; simp only [zero_add, Fin.val_zero, mul_zero] <;> rfl)
theorem q3 : Is (s3 arg2 harg2 x0) ((pq 256 qb) 3) := ((is_stack3 ((hx0.whole harg2).load inb_S256x512_S256x128_0_384 rfl)).congr (g := stack 256 (lanes qb 3)) fun a l _ _ => by unfold stack lanes; simp only [zero_add, Fin.val_zero, mul_zero] <;> rfl)

include hx1 hx2

set_option maxHeartbeats 1000000 in
/-- What the loop starts from: the diagonal tile. -/
theorem start : CarryIs 512 (seen 256 (256 * (i 1).val)) (pq 256 qb) kb vb (256 * (i 1).val)
    (init c i arg2 harg2 arg3 harg3 arg4 harg4 hc0 x0 x1 x2) := by
  have hK := hx1.whole harg3
  have hV := hx2.whole harg4
  have ho : 256 * (i 1).val + 256 ≤ 2304 := by have h : (i 1).val < 9 := (i 1).isLt; omega
  have hm := is_mask (256 * (i 1).val)
  have hT : ∀ a, (seen 256 (256 * (i 1).val)) a ≤ 256 * (i 1).val + 256 := fun a => by
    unfold seen; have := Nat.mod_lt a (show 256 > 0 by norm_num); omega
  have hr : ∀ p : Fin 4, Is (k0_pay42 (F := Ideal)) (fun a _ => R (seen 256 (256 * (i 1).val)) (sc (pq 256 qb) kb p) a (256 * (i 1).val + 256)) :=
    fun p => (show Is (k0_pay42 (F := Ideal)) fun _ _ => 0 from Is.zero).congr fun a _ _ _ => (R_end a _ (hT a)).symm
  have ha : ∀ p : Fin 4, Is (k0_pay43 (F := Ideal)) (O (seen 256 (256 * (i 1).val)) (sc (pq 256 qb) kb p) (lanes vb p) (256 * (i 1).val + 256)) :=
    fun p => (show Is (k0_pay43 (F := Ideal)) fun _ _ => 0 from Is.zero).congr fun a l _ _ => (O_end _ a _ l (hT a)).symm
  have hk0 := hK.load (k0_off1_inb i ‹_›) (off1 i)
  have hv0 := hV.load (k0_off1_inb i ‹_›) (off1 i)
  have hz0 : Is _ (fun a b => sc (pq 256 qb) kb 0 a (256 * (i 1).val + b)) := is_nt512 (q0 arg2 harg2 x0 hx0) (hk0.cast shapeCasts_S256x128_S256x128)
  have hs0 := is_Sm hm (is_sp hz0)
  have hk1 := hK.load (k0_off2_inb i ‹_›) (off2 i)
  have hv1 := hV.load (k0_off2_inb i ‹_›) (off2 i)
  have hz1 : Is _ (fun a b => sc (pq 256 qb) kb 1 a (256 * (i 1).val + b)) := is_nt512 (q1 arg2 harg2 x0 hx0) (hk1.cast shapeCasts_S256x128_S256x128)
  have hs1 := is_Sm hm (is_sp hz1)
  have hk2 := hK.load (k0_off3_inb i ‹_›) (off3 i)
  have hv2 := hV.load (k0_off3_inb i ‹_›) (off3 i)
  have hz2 : Is _ (fun a b => sc (pq 256 qb) kb 2 a (256 * (i 1).val + b)) := is_nt512 (q2 arg2 harg2 x0 hx0) (hk2.cast shapeCasts_S256x128_S256x128)
  have hs2 := is_Sm hm (is_sp hz2)
  have hk3 := hK.load (k0_off4_inb i ‹_›) (off4 i)
  have hv3 := hV.load (k0_off4_inb i ‹_›) (off4 i)
  have hz3 : Is _ (fun a b => sc (pq 256 qb) kb 3 a (256 * (i 1).val + b)) := is_nt512 (q3 arg2 harg2 x0 hx0) (hk3.cast shapeCasts_S256x128_S256x128)
  have hs3 := is_Sm hm (is_sp hz3)
  have hw := is_cum512 ((is_four512 (f := fun p a b => S (seen 256 (256 * (i 1).val)) (sc (pq 256 qb) kb p) a (256 * (i 1).val + b)) hs0 hs1 hs2 hs3).trunc bitsLt_bf16_f32) is_tri
  have hw0 := is_rw hw 0 (k := 0) rfl slices_S2048x256_o0_0_S512x256
  have hx0 := (is_Am hm (is_w (hb := broadcasts_S512x1_S512x256) ho hz0 hw0 (hr 0))).trunc bitsLt_bf16_f32
  have hw1 := is_rw hw 1 (k := 512) rfl slices_S2048x256_o512_0_S512x256
  have hx1 := (is_Am hm (is_w (hb := broadcasts_S512x1_S512x256) ho hz1 hw1 (hr 1))).trunc bitsLt_bf16_f32
  have hw2 := is_rw hw 2 (k := 1024) rfl slices_S2048x256_o1024_0_S512x256
  have hx2 := (is_Am hm (is_w (hb := broadcasts_S512x1_S512x256) ho hz2 hw2 (hr 2))).trunc bitsLt_bf16_f32
  have hw3 := is_rw hw 3 (k := 1536) rfl slices_S2048x256_o1536_0_S512x256
  have hx3 := (is_Am hm (is_w (hb := broadcasts_S512x1_S512x256) ho hz3 hw3 (hr 3))).trunc bitsLt_bf16_f32
  refine ⟨⟨?_, ?_⟩, ⟨?_, ?_⟩, ⟨?_, ?_⟩, ?_, ?_⟩
  · exact is_R (h := slices_S512x256_o0_0_S512x1) ho (hr 0) hw0
  · exact is_O ho (ha 0) (is_nn512 hx0 (hv0.cast shapeCasts_S256x128_S256x128))
  · exact is_R (h := slices_S512x256_o0_0_S512x1) ho (hr 1) hw1
  · exact is_O ho (ha 1) (is_nn512 hx1 (hv1.cast shapeCasts_S256x128_S256x128))
  · exact is_R (h := slices_S512x256_o0_0_S512x1) ho (hr 2) hw2
  · exact is_O ho (ha 2) (is_nn512 hx2 (hv2.cast shapeCasts_S256x128_S256x128))
  · exact is_R (h := slices_S512x256_o0_0_S512x1) ho (hr 3) hw3
  · exact is_O ho (ha 3) (is_nn512 hx3 (hv3.cast shapeCasts_S256x128_S256x128))

/-- What the loops leave: every tile is done. -/
theorem carried :
    let w := swept c i arg2 harg2 arg3 harg3 arg4 harg4 arg5 harg5 arg6 harg6 hc0 x0 x1 x2
    CarryIs 512 (seen 256 (256 * (i 1).val)) (pq 256 qb) kb vb 0 (st_k0_t2 (F := Ideal) Variants.none c none i arg2 harg2 arg3 harg3 arg4 harg4 arg5 harg5 arg6 harg6 (BitVec.ofNat 32 (i 1).val) k0_pay183 k0_pay184
    (s0 arg2 harg2 x0)
    (s1 arg2 harg2 x0)
    (s2 arg2 harg2 x0)
    (s3 arg2 harg2 x0) hc0 k0_pay42 k0_pay43
    (sl.r_10 c i arg2 harg2 arg3 harg3 arg4 harg4 hc0 x0 x1 x2) (sl.r_11 c i arg2 harg2 arg3 harg3 hc0 x0 x1) (sl.r_12 c i arg2 harg2 arg3 harg3 arg4 harg4 hc0 x0 x1 x2)
    (sl.r_13 c i arg2 harg2 arg3 harg3 hc0 x0 x1) (sl.r_14 c i arg2 harg2 arg3 harg3 arg4 harg4 hc0 x0 x1 x2) (sl.r_15 c i arg2 harg2 arg3 harg3 hc0 x0 x1)
    (sl.r_16 c i arg2 harg2 arg3 harg3 hc0 x0 x1) (sl.r_17 c i arg2 harg2 arg3 harg3 hc0 x0 x1) (sl.r_18 c i arg4 harg4 hc0 x2) (sl.v182 i) (harg3.unread x1) (harg4.unread x2) (w.1,
      w.2.1,
      w.2.2.1,
      w.2.2.2.1,
      w.2.2.2.2.1,
      w.2.2.2.2.2.1,
      w.2.2.2.2.2.2.1,
      w.2.2.2.2.2.2.2) (Scf.trips (k0_t2_loop i).lb (k0_t2_loop i).ub (k0_t2_loop i).st)) := by
  have h9 : (i 1).val < 9 := (i 1).isLt
  exact both (q := (pq 256 qb)) Variants.none c none i arg2 harg2 arg3 harg3 arg4 harg4 arg5 harg5 arg6 harg6 (BitVec.ofNat 32 (i 1).val) k0_pay183 k0_pay184
    (s0 arg2 harg2 x0)
    (s1 arg2 harg2 x0)
    (s2 arg2 harg2 x0)
    (s3 arg2 harg2 x0) hc0 k0_pay42 k0_pay43
    (sl.r_10 c i arg2 harg2 arg3 harg3 arg4 harg4 hc0 x0 x1 x2) (sl.r_11 c i arg2 harg2 arg3 harg3 hc0 x0 x1) (sl.r_12 c i arg2 harg2 arg3 harg3 arg4 harg4 hc0 x0 x1 x2)
    (sl.r_13 c i arg2 harg2 arg3 harg3 hc0 x0 x1) (sl.r_14 c i arg2 harg2 arg3 harg3 arg4 harg4 hc0 x0 x1 x2) (sl.r_15 c i arg2 harg2 arg3 harg3 hc0 x0 x1)
    (sl.r_16 c i arg2 harg2 arg3 harg3 hc0 x0 x1) (sl.r_17 c i arg2 harg2 arg3 harg3 hc0 x0 x1) (sl.r_18 c i arg4 harg4 hc0 x2) (harg3.unread x1) (harg4.unread x2) (hx1.whole harg3) (hx2.whole harg4) is_tri (q0 arg2 harg2 x0 hx0) (q1 arg2 harg2 x0 hx0) (q2 arg2 harg2 x0 hx0) (q3 arg2 harg2 x0 hx0) (sl.v182 i) (trips1 i) (by omega)
    (fun a _ => Nat.le_add_right _ _) (init c i arg2 harg2 arg3 harg3 arg4 harg4 hc0 x0 x1 x2) (start c i arg2 harg2 arg3 harg3 arg4 harg4 hc0 x0 x1 x2 hx0 hx1 hx2)
    (Scf.trips (k0_t1_loop i).lb (k0_t1_loop i).ub (k0_t1_loop i).st) (Scf.trips (k0_t2_loop i).lb (k0_t2_loop i).ub (k0_t2_loop i).st) (trips1 i) (trips2 i)

set_option maxHeartbeats 1000000 in
/-- The block of the result. -/
theorem out (y : S256x512.Idx) : out0_A_3 (F := Ideal) c i arg2 harg2 arg3 harg3 arg4 harg4 arg5 harg5 arg6 harg6 hc0 hc1 x0 x1 x2 y = outF 256 (seen 256 (256 * (i 1).val)) qb kb vb (y 0).val (y 1).val := by
  have hb := carried c i arg2 harg2 arg3 harg3 arg4 harg4 arg5 harg5 arg6 harg6 hc0 x0 x1 x2 hx0 hx1 hx2
  unfold out0_A_3
  refine View.read_writes_apply_of_pieces (Val := Elt Ideal) (e := .bf16) _ _ (fun y : S256x512.Idx => outF 256 (seen 256 (256 * (i 1).val)) qb kb vb (y 0).val (y 1).val) _ ?_ y (cover0_A_3 c i arg2 harg2 arg3 harg3 arg4 harg4 arg5 harg5 arg6 harg6 hc0 hc1 x0 x1 x2 y)
  unfold kernelRun0_A
  dsimp only
  refine List.forall_mem_cons.2 ⟨piece (by decide) (G := outF 256 (seen 256 (256 * (i 1).val)) qb kb vb) (is_res hb.2.2.2.2) fun a b _ hb => out_at 3 rfl a b hb,
    List.forall_mem_cons.2 ⟨piece (by decide) (G := outF 256 (seen 256 (256 * (i 1).val)) qb kb vb) (is_res hb.2.2.1.2) fun a b _ hb => out_at 2 rfl a b hb,
    List.forall_mem_cons.2 ⟨piece (by decide) (G := outF 256 (seen 256 (256 * (i 1).val)) qb kb vb) (is_res hb.2.1.2) fun a b _ hb => out_at 1 rfl a b hb,
    List.forall_mem_cons.2 ⟨piece (by decide) (G := outF 256 (seen 256 (256 * (i 1).val)) qb kb vb) (is_res hb.1.2) fun a b _ hb => out_at 0 rfl a b hb,
    (fun p hp => absurd hp List.not_mem_nil)⟩⟩⟩⟩

set_option maxHeartbeats 1000000 in
/-- The block of the totals. -/
theorem tot (y : S8x256x1.Idx) : out0_A_4 (F := Ideal) c i arg2 harg2 arg3 harg3 arg4 harg4 arg5 harg5 arg6 harg6 hc0 hc1 x0 x1 x2 y = totF 256 (seen 256 (256 * (i 1).val)) qb kb (y 0).val (y 1).val := by
  have hb := carried c i arg2 harg2 arg3 harg3 arg4 harg4 arg5 harg5 arg6 harg6 hc0 x0 x1 x2 hx0 hx1 hx2
  unfold out0_A_4
  refine View.read_writes_apply_of_pieces (Val := Elt Ideal) (e := .f32) _ _ (fun y : S8x256x1.Idx => totF 256 (seen 256 (256 * (i 1).val)) qb kb (y 0).val (y 1).val) _ ?_ y (cover0_A_4 c i arg2 harg2 arg3 harg3 arg4 harg4 arg5 harg5 arg6 harg6 hc0 hc1 x0 x1 x2 y)
  unfold kernelRun0_A
  dsimp only
  refine List.forall_mem_cons.2 ⟨pieceC (by decide) (G := totF 256 (seen 256 (256 * (i 1).val)) qb kb) (IsC.of (k := 256) hb.2.2.2.1 slices_S512x1_o256_0_S256x1 shapeCasts_S256x1_S1x256x1) fun a _ => tot_at 3 (s := 1) rfl (by norm_num) rfl a,
    List.forall_mem_cons.2 ⟨pieceC (by decide) (G := totF 256 (seen 256 (256 * (i 1).val)) qb kb) (IsC.of (k := 0) hb.2.2.2.1 slices_S512x1_o0_0_S256x1 shapeCasts_S256x1_S1x256x1) fun a _ => tot_at 3 (s := 0) rfl (by norm_num) rfl a,
    List.forall_mem_cons.2 ⟨pieceC (by decide) (G := totF 256 (seen 256 (256 * (i 1).val)) qb kb) (IsC.of (k := 256) hb.2.2.1.1 slices_S512x1_o256_0_S256x1 shapeCasts_S256x1_S1x256x1) fun a _ => tot_at 2 (s := 1) rfl (by norm_num) rfl a,
    List.forall_mem_cons.2 ⟨pieceC (by decide) (G := totF 256 (seen 256 (256 * (i 1).val)) qb kb) (IsC.of (k := 0) hb.2.2.1.1 slices_S512x1_o0_0_S256x1 shapeCasts_S256x1_S1x256x1) fun a _ => tot_at 2 (s := 0) rfl (by norm_num) rfl a,
    List.forall_mem_cons.2 ⟨pieceC (by decide) (G := totF 256 (seen 256 (256 * (i 1).val)) qb kb) (IsC.of (k := 256) hb.2.1.1 slices_S512x1_o256_0_S256x1 shapeCasts_S256x1_S1x256x1) fun a _ => tot_at 1 (s := 1) rfl (by norm_num) rfl a,
    List.forall_mem_cons.2 ⟨pieceC (by decide) (G := totF 256 (seen 256 (256 * (i 1).val)) qb kb) (IsC.of (k := 0) hb.2.1.1 slices_S512x1_o0_0_S256x1 shapeCasts_S256x1_S1x256x1) fun a _ => tot_at 1 (s := 0) rfl (by norm_num) rfl a,
    List.forall_mem_cons.2 ⟨pieceC (by decide) (G := totF 256 (seen 256 (256 * (i 1).val)) qb kb) (IsC.of (k := 256) hb.1.1 slices_S512x1_o256_0_S256x1 shapeCasts_S256x1_S1x256x1) fun a _ => tot_at 0 (s := 1) rfl (by norm_num) rfl a,
    List.forall_mem_cons.2 ⟨pieceC (by decide) (G := totF 256 (seen 256 (256 * (i 1).val)) qb kb) (IsC.of (k := 0) hb.1.1 slices_S512x1_o0_0_S256x1 shapeCasts_S256x1_S1x256x1) fun a _ => tot_at 0 (s := 0) rfl (by norm_num) rfl a,
    (fun p hp => absurd hp List.not_mem_nil)⟩⟩⟩⟩⟩⟩⟩⟩

end Cert.AttnFwd.Full
-- ==== Proof.AttnFwd.Loop32.lean ====
/- The loop over the full tiles of the sweep over 32 stacked rows: one trip, and by induction every trip. -/
module

public import proofs.«01_k».proof.Proof.AttnFwd.Carry

@[expose] public section

set_option maxRecDepth 16384

noncomputable section

open Idealize.ShloMosaic Idealize.ShloMosaic.TcCoe Idealize.SL.Sem
open Cert.Kernel11Ideal Cert.Kernel11Ideal.Gen

namespace Cert.AttnFwd.Last

variable {T : ℕ → ℕ} {q : Fin 4 → ℕ → ℕ → EReal} {kb vb : ℕ → ℕ → EReal}

variable (𝒱 : Variants)
  (c : Dev nD)
  (bd : Option 𝒱.V)
  (i : grid0.Coords)
  (arg2 : Memref sig .tc .vmem S256x512 .bf16)
  (harg2 : arg2.IsWhole)
  (arg3 : Memref sig .tc .vmem S2304x512 .bf16)
  (harg3 : arg3.IsWhole)
  (arg4 : Memref sig .tc .vmem S2304x512 .bf16)
  (harg4 : arg4.IsWhole)
  (arg5 : Memref sig .tc .vmem S256x512 .bf16)
  (harg5 : arg5.IsWhole)
  (arg6 : Memref sig .tc .vmem S8x256x1 .f32)
  (harg6 : arg6.IsWhole)
  (arg1 : BitVec 32)
  (v5 : FVec Ideal S256x256 .bf16)
  (v8 : IVec S256x128 1)
  (k0_h2 : k0_cond2 i = 1#1)
  (v41 : IVec S32x256 1)
  (v44 : FVec Ideal S32x128 .bf16)
  (v47 : FVec Ideal S32x128 .bf16)
  (v50 : FVec Ideal S32x128 .bf16)
  (v53 : FVec Ideal S32x128 .bf16)
  (v60 : FVec Ideal S32x1 .f32)
  (v61 : FVec Ideal S32x128 .f32)
  (v63 : BitVec 32)
  (v115 : FVec Ideal S32x256 .f32)
  (v130 : FVec Ideal S128x256 .f32)
  (v143 : FVec Ideal S32x128 .f32)
  (v145 : FVec Ideal S32x1 .f32)
  (v158 : FVec Ideal S32x128 .f32)
  (v160 : FVec Ideal S32x1 .f32)
  (v173 : FVec Ideal S32x128 .f32)
  (v175 : FVec Ideal S32x1 .f32)
  (X_arg3 : BufTy.Contents (Elt Ideal) arg3.view.ty)
  (X_arg4 : BufTy.Contents (Elt Ideal) arg4.view.ty)
  (hK : Is (arg3.view.read (Elt Ideal) X_arg3) kb) (hV : Is (arg4.view.read (Elt Ideal) X_arg4) vb)
  (ht : Is v5 tri) (hq0 : Is v44 (q 0)) (hq1 : Is v47 (q 1)) (hq2 : Is v50 (q 2)) (hq3 : Is v53 (q 3))

include hK hV ht hq0 hq1 hq2 hq3

/-- One trip. -/
theorem trip (k : Fin (k0_t3_loop i).trips) (o : ℕ) (eo : 256 * ((i 1).val - 1 - k.val) = o) (ho : o + 256 ≤ 2304) (hT : ∀ a < 32, o + 256 ≤ T a)
    (acc : FVec Ideal S32x1 .f32 × FVec Ideal S32x128 .f32 × FVec Ideal S32x1 .f32 × FVec Ideal S32x128 .f32 × FVec Ideal S32x1 .f32 × FVec Ideal S32x128 .f32 × FVec Ideal S32x1 .f32 × FVec Ideal S32x128 .f32) (hc : CarryIs 32 T q kb vb (o + 256) acc) :
    CarryIs 32 T q kb vb o (tripR_k0_t3 (F := Ideal) 𝒱 c bd i arg2 harg2 arg3 harg3 arg4 harg4 arg5 harg5 arg6 harg6 arg1 v5 v8 k0_h2 v41 v44 v47 v50 v53 v60 v61 v63 v115 v130 v143 v145 v158 v160 v173 v175 X_arg3 X_arg4 k acc) := by
  subst eo
  obtain ⟨⟨hr0, ha0⟩, ⟨hr1, ha1⟩, ⟨hr2, ha2⟩, hr3, ha3⟩ := hc
  have hk0 := hK.load (k0_off17_inb i k ‹_›) (off17 i k)
  have hv0 := hV.load (k0_off17_inb i k ‹_›) (off17 i k)
  have hz0 : Is _ (fun a b => sc q kb 0 a (256 * ((i 1).val - 1 - k.val) + b)) := is_nt32 hq0 (hk0.cast shapeCasts_S256x128_S256x128)
  have hs0 := is_S hT (is_sp hz0)
  have hk1 := hK.load (k0_off18_inb i k ‹_›) (off18 i k)
  have hv1 := hV.load (k0_off18_inb i k ‹_›) (off18 i k)
  have hz1 : Is _ (fun a b => sc q kb 1 a (256 * ((i 1).val - 1 - k.val) + b)) := is_nt32 hq1 (hk1.cast shapeCasts_S256x128_S256x128)
  have hs1 := is_S hT (is_sp hz1)
  have hk2 := hK.load (k0_off19_inb i k ‹_›) (off19 i k)
  have hv2 := hV.load (k0_off19_inb i k ‹_›) (off19 i k)
  have hz2 : Is _ (fun a b => sc q kb 2 a (256 * ((i 1).val - 1 - k.val) + b)) := is_nt32 hq2 (hk2.cast shapeCasts_S256x128_S256x128)
  have hs2 := is_S hT (is_sp hz2)
  have hk3 := hK.load (k0_off20_inb i k ‹_›) (off20 i k)
  have hv3 := hV.load (k0_off20_inb i k ‹_›) (off20 i k)
  have hz3 : Is _ (fun a b => sc q kb 3 a (256 * ((i 1).val - 1 - k.val) + b)) := is_nt32 hq3 (hk3.cast shapeCasts_S256x128_S256x128)
  have hs3 := is_S hT (is_sp hz3)
  have hw := is_cum32 ((is_four32 (f := fun p a b => S T (sc q kb p) a (256 * ((i 1).val - 1 - k.val) + b)) hs0 hs1 hs2 hs3).trunc bitsLt_bf16_f32) ht
  have hw0 := is_rw hw 0 (k := 0) rfl slices_S128x256_o0_0_S32x256
  have hx0 := (is_A hT (is_w (hb := broadcasts_S32x1_S32x256) ho hz0 hw0 hr0)).trunc bitsLt_bf16_f32
  have hw1 := is_rw hw 1 (k := 32) rfl slices_S128x256_o32_0_S32x256
  have hx1 := (is_A hT (is_w (hb := broadcasts_S32x1_S32x256) ho hz1 hw1 hr1)).trunc bitsLt_bf16_f32
  have hw2 := is_rw hw 2 (k := 64) rfl slices_S128x256_o64_0_S32x256
  have hx2 := (is_A hT (is_w (hb := broadcasts_S32x1_S32x256) ho hz2 hw2 hr2)).trunc bitsLt_bf16_f32
  have hw3 := is_rw hw 3 (k := 96) rfl slices_S128x256_o96_0_S32x256
  have hx3 := (is_A hT (is_w (hb := broadcasts_S32x1_S32x256) ho hz3 hw3 hr3)).trunc bitsLt_bf16_f32
  unfold tripR_k0_t3 trip_k0_t3
  dsimp only
  refine ⟨⟨?_, ?_⟩, ⟨?_, ?_⟩, ⟨?_, ?_⟩, ?_, ?_⟩
  · exact is_R (h := slices_S32x256_o0_0_S32x1) ho hr0 hw0
  · exact is_O ho ha0 (is_nn32 hx0 (hv0.cast shapeCasts_S256x128_S256x128))
  · exact is_R (h := slices_S32x256_o0_0_S32x1) ho hr1 hw1
  · exact is_O ho ha1 (is_nn32 hx1 (hv1.cast shapeCasts_S256x128_S256x128))
  · exact is_R (h := slices_S32x256_o0_0_S32x1) ho hr2 hw2
  · exact is_O ho ha2 (is_nn32 hx2 (hv2.cast shapeCasts_S256x128_S256x128))
  · exact is_R (h := slices_S32x256_o0_0_S32x1) ho hr3 hw3
  · exact is_O ho ha3 (is_nn32 hx3 (hv3.cast shapeCasts_S256x128_S256x128))

/-- Every trip. -/
theorem loop (hi : (k0_t3_loop i).trips = (i 1).val) (hi8 : (i 1).val ≤ 8) (hT : ∀ a < 32, 256 * (i 1).val ≤ T a) (init : FVec Ideal S32x1 .f32 × FVec Ideal S32x128 .f32 × FVec Ideal S32x1 .f32 × FVec Ideal S32x128 .f32 × FVec Ideal S32x1 .f32 × FVec Ideal S32x128 .f32 × FVec Ideal S32x1 .f32 × FVec Ideal S32x128 .f32) (h0 : CarryIs 32 T q kb vb (256 * (i 1).val) init) :
    ∀ n, n ≤ (i 1).val → CarryIs 32 T q kb vb (256 * ((i 1).val - n)) (st_k0_t3 (F := Ideal) 𝒱 c bd i arg2 harg2 arg3 harg3 arg4 harg4 arg5 harg5 arg6 harg6 arg1 v5 v8 k0_h2 v41 v44 v47 v50 v53 v60 v61 v63 v115 v130 v143 v145 v158 v160 v173 v175 X_arg3 X_arg4 init n)
  | 0, _ => h0
  | n + 1, hn => by
    have hs := st_k0_t3_succ (F := Ideal) 𝒱 c bd i arg2 harg2 arg3 harg3 arg4 harg4 arg5 harg5 arg6 harg6 arg1 v5 v8 k0_h2 v41 v44 v47 v50 v53 v60 v61 v63 v115 v130 v143 v145 v158 v160 v173 v175 X_arg3 X_arg4 init ⟨n, by omega⟩
    refine (congrArg (CarryIs 32 T q kb vb (256 * ((i 1).val - (n + 1)))) hs).mpr ?_
    refine trip 𝒱 c bd i arg2 harg2 arg3 harg3 arg4 harg4 arg5 harg5 arg6 harg6 arg1 v5 v8 k0_h2 v41 v44 v47 v50 v53 v60 v61 v63 v115 v130 v143 v145 v158 v160 v173 v175 X_arg3 X_arg4 hK hV ht hq0 hq1 hq2 hq3 ⟨n, by omega⟩ _ (by show 256 * ((i 1).val - 1 - n) = _; omega) (by omega) (fun a ha => by have := hT a ha; omega) _ ?_
    have ih := loop hi hi8 hT init h0 n (by omega)
    rwa [show 256 * ((i 1).val - n) = 256 * ((i 1).val - (n + 1)) + 256 by omega] at ih

/-- The loop's trips, and after them none of the loop that takes up what is left over. -/
theorem both (w : BitVec 32) (hi : (k0_t3_loop i).trips = (i 1).val) (hi8 : (i 1).val ≤ 8) (hT : ∀ a < 32, 256 * (i 1).val ≤ T a) (init : FVec Ideal S32x1 .f32 × FVec Ideal S32x128 .f32 × FVec Ideal S32x1 .f32 × FVec Ideal S32x128 .f32 × FVec Ideal S32x1 .f32 × FVec Ideal S32x128 .f32 × FVec Ideal S32x1 .f32 × FVec Ideal S32x128 .f32) (h0 : CarryIs 32 T q kb vb (256 * (i 1).val) init)
    (m n' : ℕ) (hm : m = (i 1).val) (hn' : n' = 0) :
    let r := st_k0_t3 (F := Ideal) 𝒱 c bd i arg2 harg2 arg3 harg3 arg4 harg4 arg5 harg5 arg6 harg6 arg1 v5 v8 k0_h2 v41 v44 v47 v50 v53 v60 v61 v63 v115 v130 v143 v145 v158 v160 v173 v175 X_arg3 X_arg4 init m
    CarryIs 32 T q kb vb 0 (st_k0_t4 (F := Ideal) 𝒱 c bd i arg2 harg2 arg3 harg3 arg4 harg4 arg5 harg5 arg6 harg6 arg1 v5 v8 k0_h2 v41 v44 v47 v50 v53 v60 v61 v63 v115 v130 v143 v145 v158 v160 v173 v175 w X_arg3 X_arg4
      (r.1, r.2.1, r.2.2.1, r.2.2.2.1, r.2.2.2.2.1, r.2.2.2.2.2.1, r.2.2.2.2.2.2.1, r.2.2.2.2.2.2.2) n') := by
  subst hn'
  have h := loop 𝒱 c bd i arg2 harg2 arg3 harg3 arg4 harg4 arg5 harg5 arg6 harg6 arg1 v5 v8 k0_h2 v41 v44 v47 v50 v53 v60 v61 v63 v115 v130 v143 v145 v158 v160 v173 v175 X_arg3 X_arg4 hK hV ht hq0 hq1 hq2 hq3 hi hi8 hT init h0 m (le_of_eq hm)
  rw [hm, Nat.sub_self, Nat.mul_zero, ← hm] at h
  exact h

end Cert.AttnFwd.Last
-- ==== Proof.AttnFwd.RunB.lean ====
/- One block of 16 rows of each head: its diagonal tile, the sweep over the tiles before it, and what is stored. -/
module

public import proofs.«01_k».proof.Proof.AttnFwd.Loop32
public import proofs.«01_k».proof.Proof.AttnFwd.Rows

@[expose] public section

set_option maxRecDepth 16384

noncomputable section

open Idealize.ShloMosaic Idealize.ShloMosaic.TcCoe Idealize.SL.Sem
open Cert.Kernel11Ideal Cert.Kernel11Ideal.Gen Cert.Kernel11Ideal.Gen.kernelRun0_B

namespace Cert.AttnFwd.Last

variable (c : Dev nD) (i : grid0.Coords)
  (arg2 : Memref sig .tc .vmem S256x512 .bf16) (harg2 : arg2.IsWhole)
  (arg3 : Memref sig .tc .vmem S2304x512 .bf16) (harg3 : arg3.IsWhole)
  (arg4 : Memref sig .tc .vmem S2304x512 .bf16) (harg4 : arg4.IsWhole)
  (arg5 : Memref sig .tc .vmem S256x512 .bf16) (harg5 : arg5.IsWhole)
  (arg6 : Memref sig .tc .vmem S8x256x1 .f32) (harg6 : arg6.IsWhole)
  (hc0 : ¬cond0_0 i) (hc1 : cond0_1 i)
  (x0 : Vec Ideal S256x512 .bf16) (x1 : Vec Ideal S2304x512 .bf16) (x2 : Vec Ideal S2304x512 .bf16)
  {qb kb vb : ℕ → ℕ → EReal} (hx0 : Is x0 qb) (hx1 : Is x1 kb) (hx2 : Is x2 vb)

/-- What the sweep starts from. -/
abbrev init := (sl.r_15 c i arg2 harg2 arg3 harg3 hc1 x0 x1, sl.r_14 c i arg2 harg2 arg3 harg3 arg4 harg4 hc1 x0 x1 x2, sl.r_17 c i arg2 harg2 arg3 harg3 hc1 x0 x1,
      sl.r_16 c i arg2 harg2 arg3 harg3 arg4 harg4 hc1 x0 x1 x2, sl.r_19 c i arg2 harg2 arg3 harg3 hc1 x0 x1, sl.r_18 c i arg2 harg2 arg3 harg3 arg4 harg4 hc1 x0 x1 x2,
      k0_pay152 k0_pay129 (sl.r_13 c i arg2 harg2 arg3 harg3 hc1 x0 x1),
      k0_pay151 (k0_pay118 sl.v0 sl.v1) k0_pay129 k0_pay130 (sl.r_11 c i arg2 harg2 arg3 harg3 hc1 x0 x1) (sl.r_13 c i arg2 harg2 arg3 harg3 hc1 x0 x1)
        (View.readAt (Elt Ideal) arg4.view (Rect.unit (s := S2304x512) (k0_off16 i) ![256, 128] (k0_off16_inb i hc1)).toLoadRect (harg4.unread x2) : (Rect.unit (s := S2304x512) (k0_off16 i) ![256, 128] (k0_off16_inb i hc1)).shape.Idx → Elt Ideal .bf16))

/-- What the sweep over the whole tiles leaves. -/
abbrev swept := st_k0_t3 (F := Ideal) Variants.none c none i arg2 harg2 arg3 harg3 arg4 harg4 arg5 harg5 arg6 harg6 (BitVec.ofNat 32 (i 1).val) k0_pay183 k0_pay184 hc1 (k0_pay118 sl.v0 sl.v1)
    (sl.r c arg2 harg2 x0) (sl.r_1 c arg2 harg2 x0) (sl.r_2 c arg2 harg2 x0) (sl.r_3 c arg2 harg2 x0) k0_pay129 k0_pay130 (sl.v62 i)
    (sl.r_11 c i arg2 harg2 arg3 harg3 hc1 x0 x1) (sl.r_13 c i arg2 harg2 arg3 harg3 hc1 x0 x1) (sl.r_14 c i arg2 harg2 arg3 harg3 arg4 harg4 hc1 x0 x1 x2)
    (sl.r_15 c i arg2 harg2 arg3 harg3 hc1 x0 x1) (sl.r_16 c i arg2 harg2 arg3 harg3 arg4 harg4 hc1 x0 x1 x2) (sl.r_17 c i arg2 harg2 arg3 harg3 hc1 x0 x1)
    (sl.r_18 c i arg2 harg2 arg3 harg3 arg4 harg4 hc1 x0 x1 x2) (sl.r_19 c i arg2 harg2 arg3 harg3 hc1 x0 x1) (harg3.unread x1) (harg4.unread x2) (init c i arg2 harg2 arg3 harg3 arg4 harg4 hc1 x0 x1 x2) (Scf.trips (k0_t3_loop i).lb (k0_t3_loop i).ub (k0_t3_loop i).st)

include hx0

theorem q0 : Is (sl.r c arg2 harg2 x0) ((pq 16 qb) 0) := is_cut (((is_stack ((hx0.whole harg2).load inb_S256x512_S256x128_0_0 rfl)).congr (g := stack 256 (lanes qb 0)) fun a l _ _ => by unfold stack lanes; simp only [zero_add, Fin.val_zero, mul_zero] <;> rfl))
theorem q1 : Is (sl.r_1 c arg2 harg2 x0) ((pq 16 qb) 1) := is_cut (((is_stack1 ((hx0.whole harg2).load inb_S256x512_S256x128_0_128 rfl)).congr (g := stack 256 (lanes qb 1)) fun a l _ _ => by unfold stack lanes; simp only [zero_add, Fin.val_zero, mul_zero] <;> rfl))
theorem q2 : Is (sl.r_2 c arg2 harg2 x0) ((pq 16 qb) 2) := is_cut (((is_stack2 ((hx0.whole harg2).load inb_S256x512_S256x128_0_256 rfl)).congr (g := stack 256 (lanes qb 2)) fun a l _ _ => by unfold stack lanes; simp only [zero_add, Fin.val_zero, mul_zero] <;> rfl))
theorem q3 : Is (sl.r_3 c arg2 harg2 x0) ((pq 16 qb) 3) := is_cut (((is_stack3 ((hx0.whole harg2).load inb_S256x512_S256x128_0_384 rfl)).congr (g := stack 256 (lanes qb 3)) fun a l _ _ => by unfold stack lanes; simp only [zero_add, Fin.val_zero, mul_zero] <;> rfl))

include hx1 hx2

set_option maxHeartbeats 1000000 in
/-- What the loop starts from: the diagonal tile. -/
theorem start : CarryIs 32 (seen 16 (256 * (i 1).val)) (pq 16 qb) kb vb (256 * (i 1).val)
    (init c i arg2 harg2 arg3 harg3 arg4 harg4 hc1 x0 x1 x2) := by
  have hK := hx1.whole harg3
  have hV := hx2.whole harg4
  have ho : 256 * (i 1).val + 256 ≤ 2304 := by have h : (i 1).val < 9 := (i 1).isLt; omega
  have hm := is_mask16 (256 * (i 1).val)
  have hT : ∀ a, (seen 16 (256 * (i 1).val)) a ≤ 256 * (i 1).val + 256 := fun a => by
    unfold seen; have := Nat.mod_lt a (show 16 > 0 by norm_num); omega
  have hr : ∀ p : Fin 4, Is (k0_pay129 (F := Ideal)) (fun a _ => R (seen 16 (256 * (i 1).val)) (sc (pq 16 qb) kb p) a (256 * (i 1).val + 256)) :=
    fun p => (show Is (k0_pay129 (F := Ideal)) fun _ _ => 0 from Is.zero).congr fun a _ _ _ => (R_end a _ (hT a)).symm
  have ha : ∀ p : Fin 4, Is (k0_pay130 (F := Ideal)) (O (seen 16 (256 * (i 1).val)) (sc (pq 16 qb) kb p) (lanes vb p) (256 * (i 1).val + 256)) :=
    fun p => (show Is (k0_pay130 (F := Ideal)) fun _ _ => 0 from Is.zero).congr fun a l _ _ => (O_end _ a _ l (hT a)).symm
  have hk0 := hK.load (k0_off13_inb i ‹_›) (off13 i)
  have hv0 := hV.load (k0_off13_inb i ‹_›) (off13 i)
  have hz0 : Is _ (fun a b => sc (pq 16 qb) kb 0 a (256 * (i 1).val + b)) := is_nt32 (q0 c arg2 harg2 x0 hx0) (hk0.cast shapeCasts_S256x128_S256x128)
  have hs0 := is_Sm hm (is_sp hz0)
  have hk1 := hK.load (k0_off14_inb i ‹_›) (off14 i)
  have hv1 := hV.load (k0_off14_inb i ‹_›) (off14 i)
  have hz1 : Is _ (fun a b => sc (pq 16 qb) kb 1 a (256 * (i 1).val + b)) := is_nt32 (q1 c arg2 harg2 x0 hx0) (hk1.cast shapeCasts_S256x128_S256x128)
  have hs1 := is_Sm hm (is_sp hz1)
  have hk2 := hK.load (k0_off15_inb i ‹_›) (off15 i)
  have hv2 := hV.load (k0_off15_inb i ‹_›) (off15 i)
  have hz2 : Is _ (fun a b => sc (pq 16 qb) kb 2 a (256 * (i 1).val + b)) := is_nt32 (q2 c arg2 harg2 x0 hx0) (hk2.cast shapeCasts_S256x128_S256x128)
  have hs2 := is_Sm hm (is_sp hz2)
  have hk3 := hK.load (k0_off16_inb i ‹_›) (off16 i)
  have hv3 := hV.load (k0_off16_inb i ‹_›) (off16 i)
  have hz3 : Is _ (fun a b => sc (pq 16 qb) kb 3 a (256 * (i 1).val + b)) := is_nt32 (q3 c arg2 harg2 x0 hx0) (hk3.cast shapeCasts_S256x128_S256x128)
  have hs3 := is_Sm hm (is_sp hz3)
  have hw := is_cum32 ((is_four32 (f := fun p a b => S (seen 16 (256 * (i 1).val)) (sc (pq 16 qb) kb p) a (256 * (i 1).val + b)) hs0 hs1 hs2 hs3).trunc bitsLt_bf16_f32) is_tri
  have hw0 := is_rw hw 0 (k := 0) rfl slices_S128x256_o0_0_S32x256
  have hx0 := (is_Am hm (is_w (hb := broadcasts_S32x1_S32x256) ho hz0 hw0 (hr 0))).trunc bitsLt_bf16_f32
  have hw1 := is_rw hw 1 (k := 32) rfl slices_S128x256_o32_0_S32x256
  have hx1 := (is_Am hm (is_w (hb := broadcasts_S32x1_S32x256) ho hz1 hw1 (hr 1))).trunc bitsLt_bf16_f32
  have hw2 := is_rw hw 2 (k := 64) rfl slices_S128x256_o64_0_S32x256
  have hx2 := (is_Am hm (is_w (hb := broadcasts_S32x1_S32x256) ho hz2 hw2 (hr 2))).trunc bitsLt_bf16_f32
  have hw3 := is_rw hw 3 (k := 96) rfl slices_S128x256_o96_0_S32x256
  have hx3 := (is_Am hm (is_w (hb := broadcasts_S32x1_S32x256) ho hz3 hw3 (hr 3))).trunc bitsLt_bf16_f32
  refine ⟨⟨?_, ?_⟩, ⟨?_, ?_⟩, ⟨?_, ?_⟩, ?_, ?_⟩
  · exact is_R (h := slices_S32x256_o0_0_S32x1) ho (hr 0) hw0
  · exact is_O ho (ha 0) (is_nn32 hx0 (hv0.cast shapeCasts_S256x128_S256x128))
  · exact is_R (h := slices_S32x256_o0_0_S32x1) ho (hr 1) hw1
  · exact is_O ho (ha 1) (is_nn32 hx1 (hv1.cast shapeCasts_S256x128_S256x128))
  · exact is_R (h := slices_S32x256_o0_0_S32x1) ho (hr 2) hw2
  · exact is_O ho (ha 2) (is_nn32 hx2 (hv2.cast shapeCasts_S256x128_S256x128))
  · exact is_R (h := slices_S32x256_o0_0_S32x1) ho (hr 3) hw3
  · exact is_O ho (ha 3) (is_nn32 hx3 (hv3.cast shapeCasts_S256x128_S256x128))

/-- What the loops leave: every tile is done. -/
theorem carried :
    let w := swept c i arg2 harg2 arg3 harg3 arg4 harg4 arg5 harg5 arg6 harg6 hc1 x0 x1 x2
    CarryIs 32 (seen 16 (256 * (i 1).val)) (pq 16 qb) kb vb 0 (st_k0_t4 (F := Ideal) Variants.none c none i arg2 harg2 arg3 harg3 arg4 harg4 arg5 harg5 arg6 harg6 (BitVec.ofNat 32 (i 1).val) k0_pay183 k0_pay184 hc1 (k0_pay118 sl.v0 sl.v1)
    (sl.r c arg2 harg2 x0) (sl.r_1 c arg2 harg2 x0) (sl.r_2 c arg2 harg2 x0) (sl.r_3 c arg2 harg2 x0) k0_pay129 k0_pay130 (sl.v62 i)
    (sl.r_11 c i arg2 harg2 arg3 harg3 hc1 x0 x1) (sl.r_13 c i arg2 harg2 arg3 harg3 hc1 x0 x1) (sl.r_14 c i arg2 harg2 arg3 harg3 arg4 harg4 hc1 x0 x1 x2)
    (sl.r_15 c i arg2 harg2 arg3 harg3 hc1 x0 x1) (sl.r_16 c i arg2 harg2 arg3 harg3 arg4 harg4 hc1 x0 x1 x2) (sl.r_17 c i arg2 harg2 arg3 harg3 hc1 x0 x1)
    (sl.r_18 c i arg2 harg2 arg3 harg3 arg4 harg4 hc1 x0 x1 x2) (sl.r_19 c i arg2 harg2 arg3 harg3 hc1 x0 x1) (sl.v195 i) (harg3.unread x1) (harg4.unread x2) (w.1,
      w.2.1,
      w.2.2.1,
      w.2.2.2.1,
      w.2.2.2.2.1,
      w.2.2.2.2.2.1,
      w.2.2.2.2.2.2.1,
      w.2.2.2.2.2.2.2) (Scf.trips (k0_t4_loop i).lb (k0_t4_loop i).ub (k0_t4_loop i).st)) := by
  have h9 : (i 1).val < 9 := (i 1).isLt
  exact both (q := (pq 16 qb)) Variants.none c none i arg2 harg2 arg3 harg3 arg4 harg4 arg5 harg5 arg6 harg6 (BitVec.ofNat 32 (i 1).val) k0_pay183 k0_pay184 hc1 (k0_pay118 sl.v0 sl.v1)
    (sl.r c arg2 harg2 x0) (sl.r_1 c arg2 harg2 x0) (sl.r_2 c arg2 harg2 x0) (sl.r_3 c arg2 harg2 x0) k0_pay129 k0_pay130 (sl.v62 i)
    (sl.r_11 c i arg2 harg2 arg3 harg3 hc1 x0 x1) (sl.r_13 c i arg2 harg2 arg3 harg3 hc1 x0 x1) (sl.r_14 c i arg2 harg2 arg3 harg3 arg4 harg4 hc1 x0 x1 x2)
    (sl.r_15 c i arg2 harg2 arg3 harg3 hc1 x0 x1) (sl.r_16 c i arg2 harg2 arg3 harg3 arg4 harg4 hc1 x0 x1 x2) (sl.r_17 c i arg2 harg2 arg3 harg3 hc1 x0 x1)
    (sl.r_18 c i arg2 harg2 arg3 harg3 arg4 harg4 hc1 x0 x1 x2) (sl.r_19 c i arg2 harg2 arg3 harg3 hc1 x0 x1) (harg3.unread x1) (harg4.unread x2) (hx1.whole harg3) (hx2.whole harg4) is_tri (q0 c arg2 harg2 x0 hx0) (q1 c arg2 harg2 x0 hx0) (q2 c arg2 harg2 x0 hx0) (q3 c arg2 harg2 x0 hx0) (sl.v195 i) (trips3 i) (by omega)
    (fun a _ => Nat.le_add_right _ _) (init c i arg2 harg2 arg3 harg3 arg4 harg4 hc1 x0 x1 x2) (start c i arg2 harg2 arg3 harg3 arg4 harg4 hc1 x0 x1 x2 hx0 hx1 hx2)
    (Scf.trips (k0_t3_loop i).lb (k0_t3_loop i).ub (k0_t3_loop i).st) (Scf.trips (k0_t4_loop i).lb (k0_t4_loop i).ub (k0_t4_loop i).st) (trips3 i) (trips4 i)

set_option maxHeartbeats 1000000 in
/-- The block of the result. -/
theorem out (y : S256x512.Idx) : out0_B_3 (F := Ideal) c i arg2 harg2 arg3 harg3 arg4 harg4 arg5 harg5 arg6 harg6 hc0 hc1 x0 x1 x2 y = (if (y 0).val < 16 then outF 16 (seen 16 (256 * (i 1).val)) qb kb vb (y 0).val (y 1).val else 0) := by
  have hb := carried c i arg2 harg2 arg3 harg3 arg4 harg4 arg5 harg5 arg6 harg6 hc1 x0 x1 x2 hx0 hx1 hx2
  unfold out0_B_3
  refine View.read_writes_apply_of_pieces (Val := Elt Ideal) (e := .bf16) _ _ (fun y : S256x512.Idx => (if (y 0).val < 16 then outF 16 (seen 16 (256 * (i 1).val)) qb kb vb (y 0).val (y 1).val else 0)) _ ?_ y (cover0_B_3 c i arg2 harg2 arg3 harg3 arg4 harg4 arg5 harg5 arg6 harg6 hc0 hc1 x0 x1 x2 y)
  unfold kernelRun0_B
  dsimp only
  refine List.forall_mem_cons.2 ⟨piece (by decide) (G := fun a l => (if a < 16 then outF 16 (seen 16 (256 * (i 1).val)) qb kb vb a l else 0)) (f := fun _ _ => 0) Is.zerob fun a b _ _ => (if_neg (not_lt.2 (Nat.le_add_right 16 a))).symm,
    List.forall_mem_cons.2 ⟨piece (by decide) (G := fun a l => (if a < 16 then outF 16 (seen 16 (256 * (i 1).val)) qb kb vb a l else 0)) (is_res16 hb.2.2.2.2) fun a b ha hb => (out_at 3 rfl a b hb).trans (if_pos (lt_of_eq_of_lt (Nat.zero_add a) ha)).symm,
    List.forall_mem_cons.2 ⟨piece (by decide) (G := fun a l => (if a < 16 then outF 16 (seen 16 (256 * (i 1).val)) qb kb vb a l else 0)) (f := fun _ _ => 0) Is.zerob fun a b _ _ => (if_neg (not_lt.2 (Nat.le_add_right 16 a))).symm,
    List.forall_mem_cons.2 ⟨piece (by decide) (G := fun a l => (if a < 16 then outF 16 (seen 16 (256 * (i 1).val)) qb kb vb a l else 0)) (is_res16 hb.2.2.1.2) fun a b ha hb => (out_at 2 rfl a b hb).trans (if_pos (lt_of_eq_of_lt (Nat.zero_add a) ha)).symm,
    List.forall_mem_cons.2 ⟨piece (by decide) (G := fun a l => (if a < 16 then outF 16 (seen 16 (256 * (i 1).val)) qb kb vb a l else 0)) (f := fun _ _ => 0) Is.zerob fun a b _ _ => (if_neg (not_lt.2 (Nat.le_add_right 16 a))).symm,
    List.forall_mem_cons.2 ⟨piece (by decide) (G := fun a l => (if a < 16 then outF 16 (seen 16 (256 * (i 1).val)) qb kb vb a l else 0)) (is_res16 hb.2.1.2) fun a b ha hb => (out_at 1 rfl a b hb).trans (if_pos (lt_of_eq_of_lt (Nat.zero_add a) ha)).symm,
    List.forall_mem_cons.2 ⟨piece (by decide) (G := fun a l => (if a < 16 then outF 16 (seen 16 (256 * (i 1).val)) qb kb vb a l else 0)) (f := fun _ _ => 0) Is.zerob fun a b _ _ => (if_neg (not_lt.2 (Nat.le_add_right 16 a))).symm,
    List.forall_mem_cons.2 ⟨piece (by decide) (G := fun a l => (if a < 16 then outF 16 (seen 16 (256 * (i 1).val)) qb kb vb a l else 0)) (is_res16 hb.1.2) fun a b ha hb => (out_at 0 rfl a b hb).trans (if_pos (lt_of_eq_of_lt (Nat.zero_add a) ha)).symm,
    (fun p hp => absurd hp List.not_mem_nil)⟩⟩⟩⟩⟩⟩⟩⟩

set_option maxHeartbeats 1000000 in
/-- The block of the totals. -/
theorem tot (y : S8x256x1.Idx) : out0_B_4 (F := Ideal) c i arg2 harg2 arg3 harg3 arg4 harg4 arg5 harg5 arg6 harg6 hc0 hc1 x0 x1 x2 y = (if (y 1).val < 16 then totF 16 (seen 16 (256 * (i 1).val)) qb kb (y 0).val (y 1).val else 0) := by
  have hb := carried c i arg2 harg2 arg3 harg3 arg4 harg4 arg5 harg5 arg6 harg6 hc1 x0 x1 x2 hx0 hx1 hx2
  unfold out0_B_4
  refine View.read_writes_apply_of_pieces (Val := Elt Ideal) (e := .f32) _ _ (fun y : S8x256x1.Idx => (if (y 1).val < 16 then totF 16 (seen 16 (256 * (i 1).val)) qb kb (y 0).val (y 1).val else 0)) _ ?_ y (cover0_B_4 c i arg2 harg2 arg3 harg3 arg4 harg4 arg5 harg5 arg6 harg6 hc0 hc1 x0 x1 x2 y)
  unfold kernelRun0_B
  dsimp only
  refine List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.of (k := 16) hb.2.2.2.1 slices_S32x1_o16_0_S16x1 shapeCasts_S16x1_S1x16x1) fun a ha => (tot_at 3 (s := 1) rfl (by norm_num) rfl a).trans (if_pos (lt_of_eq_of_lt (Nat.zero_add a) ha)).symm,
    List.forall_mem_cons.2 ⟨pieceC (by decide) (G := fun e a => (if a < 16 then totF 16 (seen 16 (256 * (i 1).val)) qb kb e a else 0)) (IsC.of (k := 0) hb.2.2.2.1 slices_S32x1_o0_0_S16x1 shapeCasts_S16x1_S1x16x1) fun a ha => (tot_at 3 (s := 0) rfl (by norm_num) rfl a).trans (if_pos (lt_of_eq_of_lt (Nat.zero_add a) ha)).symm,
    List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.of (k := 16) hb.2.2.1.1 slices_S32x1_o16_0_S16x1 shapeCasts_S16x1_S1x16x1) fun a ha => (tot_at 2 (s := 1) rfl (by norm_num) rfl a).trans (if_pos (lt_of_eq_of_lt (Nat.zero_add a) ha)).symm,
    List.forall_mem_cons.2 ⟨pieceC (by decide) (G := fun e a => (if a < 16 then totF 16 (seen 16 (256 * (i 1).val)) qb kb e a else 0)) (IsC.of (k := 0) hb.2.2.1.1 slices_S32x1_o0_0_S16x1 shapeCasts_S16x1_S1x16x1) fun a ha => (tot_at 2 (s := 0) rfl (by norm_num) rfl a).trans (if_pos (lt_of_eq_of_lt (Nat.zero_add a) ha)).symm,
    List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.of (k := 16) hb.2.1.1 slices_S32x1_o16_0_S16x1 shapeCasts_S16x1_S1x16x1) fun a ha => (tot_at 1 (s := 1) rfl (by norm_num) rfl a).trans (if_pos (lt_of_eq_of_lt (Nat.zero_add a) ha)).symm,
    List.forall_mem_cons.2 ⟨pieceC (by decide) (G := fun e a => (if a < 16 then totF 16 (seen 16 (256 * (i 1).val)) qb kb e a else 0)) (IsC.of (k := 0) hb.2.1.1 slices_S32x1_o0_0_S16x1 shapeCasts_S16x1_S1x16x1) fun a ha => (tot_at 1 (s := 0) rfl (by norm_num) rfl a).trans (if_pos (lt_of_eq_of_lt (Nat.zero_add a) ha)).symm,
    List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.zero shapeCasts_S240x1_S1x240x1) fun a _ => (if_neg (not_lt.2 (Nat.le_add_right 16 a))).symm,
    List.forall_mem_cons.2 ⟨pieceC (by decide) (G := fun e a => (if a < 16 then totF 16 (seen 16 (256 * (i 1).val)) qb kb e a else 0)) (IsC.of (k := 16) hb.1.1 slices_S32x1_o16_0_S16x1 shapeCasts_S16x1_S1x16x1) fun a ha => (tot_at 0 (s := 1) rfl (by norm_num) rfl a).trans (if_pos (lt_of_eq_of_lt (Nat.zero_add a) ha)).symm,
    List.forall_mem_cons.2 ⟨pieceC (by decide) (G := fun e a => (if a < 16 then totF 16 (seen 16 (256 * (i 1).val)) qb kb e a else 0)) (IsC.of (k := 0) hb.1.1 slices_S32x1_o0_0_S16x1 shapeCasts_S16x1_S1x16x1) fun a ha => (tot_at 0 (s := 0) rfl (by norm_num) rfl a).trans (if_pos (lt_of_eq_of_lt (Nat.zero_add a) ha)).symm,
    (fun p hp => absurd hp List.not_mem_nil)⟩⟩⟩⟩⟩⟩⟩⟩⟩⟩⟩⟩⟩⟩⟩⟩

end Cert.AttnFwd.Last
-- ==== Proof.AttnFwd.Heads.lean ====
/- From the stacked pairs of a block to one head's row: the scores, the totals and the weighted rows. -/
module

public import proofs.«01_k».proof.Proof.AttnFwd.Rows

@[expose] public section

noncomputable section

open Idealize.ShloMosaic

namespace Cert.AttnFwd

/-- An array by head, row and lane, as the kernel takes it: heads side by side, zero rows below. -/
def flat (X : ℕ → ℕ → ℕ → EReal) (t c : ℕ) : EReal := if t < 2064 then X (c / 64) t (c % 64) else 0

/-- One eighth. -/
def eighth : EReal := ((1 / 8 : ℝ) : EReal)

/-- A head's scores. -/
def score (Q K : ℕ → ℕ → ℕ → EReal) (h t s : ℕ) : EReal := (∑ l ∈ Finset.range 64, Q h t l * K h s l) * eighth

theorem sum_eighth (f g : ℕ → EReal) (n : ℕ) : ∑ l ∈ Finset.range n, f l * eighth * g l = (∑ l ∈ Finset.range n, f l * g l) * eighth := by
  induction n with
  | zero => simp
  | succ n ih =>
    rw [Finset.sum_range_succ, Finset.sum_range_succ, ih, mul_right_comm]
    exact (EReal.right_distrib_of_nonneg_of_ne_top (EReal.coe_nonneg.2 (by norm_num)) (EReal.coe_ne_top _) _ _).symm

section Congr

variable {T T' : ℕ → ℕ} {z z' : ℕ → ℕ → EReal} {a a' : ℕ}

theorem S_congr (hT : T a = T' a') (hz : ∀ s < T a, z a s = z' a' s) (s : ℕ) : S T z a s = S T' z' a' s := by
  unfold S
  rw [← hT]
  by_cases h : s < T a
  · rw [if_pos h, if_pos h, hz s h]
  · rw [if_neg h, if_neg h]

theorem R_congr (hT : T a = T' a') (hz : ∀ s < T a, z a s = z' a' s) (o : ℕ) : R T z a o = R T' z' a' o :=
  Finset.sum_congr rfl fun s _ => S_congr hT hz s

theorem A_congr (hT : T a = T' a') (hz : ∀ s < T a, z a s = z' a' s) (s : ℕ) : A T z a s = A T' z' a' s := by
  unfold A
  rw [← hT, R_congr hT hz]
  by_cases h : s < T a
  · rw [if_pos h, if_pos h, hz s h]
  · rw [if_neg h, if_neg h]

theorem O_congr {v v' : ℕ → ℕ → EReal} {l l' : ℕ} (hT : T a = T' a') (hz : ∀ s < T a, z a s = z' a' s) (hv : ∀ s < T a, v s l = v' s l') (o : ℕ) :
    O T z v o a l = O T' z' v' o a' l' :=
  Finset.sum_congr rfl fun s _ => by
    by_cases h : s < T a
    · rw [A_congr hT hz, hv s h]
    · unfold A
      rw [← hT, if_neg h, if_neg h, zero_mul, zero_mul]

/-- Columns past the last seen one add nothing. -/
theorem R_short {N : ℕ} (hN : N ≤ 2304) (hT : T a ≤ N) (o : ℕ) : ∑ s ∈ Finset.Ico o N, S T z a s = R T z a o := by
  refine Finset.sum_subset (Finset.Ico_subset_Ico_right hN) fun s hs hn => if_neg ?_
  rw [Finset.mem_Ico] at hs hn
  omega

theorem O_short {v : ℕ → ℕ → EReal} {l N : ℕ} (hN : N ≤ 2304) (hT : T a ≤ N) (o : ℕ) : ∑ s ∈ Finset.Ico o N, A T z a s * v s l = O T z v o a l := by
  refine Finset.sum_subset (Finset.Ico_subset_Ico_right hN) fun s hs hn => ?_
  rw [Finset.mem_Ico] at hs hn
  unfold A
  rw [if_neg (by omega), zero_mul]

end Congr

variable (Q K V : ℕ → ℕ → ℕ → EReal) (g i n : ℕ)

/-- The blocks of head group `g` at row block `i`. -/
def qb (a l : ℕ) : EReal := flat (fun h t l => Q h t l * eighth) (256 * i + a) (512 * g + l)
def kb (s l : ℕ) : EReal := flat K s (512 * g + l)

/-- What the call leaves: the weighted rows, and each row's total. -/
def outR (t c : ℕ) : EReal := if t < 2064 then O id (score Q K (c / 64)) (V (c / 64)) 0 t (c % 64) else 0
def totR (h t : ℕ) : EReal := if t < 2064 then R id (score Q K h) t 0 else 0

variable {g i n}

theorem flat_at (X : ℕ → ℕ → ℕ → EReal) {t c h l : ℕ} (ht : t < 2064) (hc : c = 64 * h + l) (hl : l < 64) : flat X t c = X h t l := by
  unfold flat
  rw [if_pos ht, show c / 64 = h by omega, show c % 64 = l by omega]

theorem score_lo (p : Fin 4) {a s : ℕ} (ha : a < n) (ht : 256 * i + a < 2064) (hs : s < 2064) :
    sc (pq n (qb Q g i)) (kb K g) p a s = score Q K (8 * g + 2 * p.val) (256 * i + a) s := by
  show ∑ l ∈ Finset.range (64 + 64), stack n (lanes (qb Q g i) p) a l * lanes (kb K g) p s l = _
  rw [Finset.sum_range_add, Finset.sum_eq_zero (s := Finset.range 64) (f := fun k => stack n (lanes (qb Q g i) p) a (64 + k) * lanes (kb K g) p s (64 + k)) fun l _ => by
    rw [stack, if_pos ha, if_neg (by omega), zero_mul], add_zero]
  refine (Finset.sum_congr rfl fun l hl => ?_).trans (sum_eighth (Q (8 * g + 2 * p.val) (256 * i + a)) (K (8 * g + 2 * p.val) s) 64)
  have hl' : l < 64 := Finset.mem_range.1 hl
  rw [stack, if_pos ha, if_pos hl']
  exact congrArg₂ (· * ·) (flat_at (fun h t l => Q h t l * eighth) (h := 8 * g + 2 * p.val) ht (by omega) hl') (flat_at K (h := 8 * g + 2 * p.val) hs (by omega) hl')

theorem score_hi (p : Fin 4) {a s : ℕ} (ht : 256 * i + a < 2064) (hs : s < 2064) :
    sc (pq n (qb Q g i)) (kb K g) p (n + a) s = score Q K (8 * g + 2 * p.val + 1) (256 * i + a) s := by
  show ∑ l ∈ Finset.range (64 + 64), stack n (lanes (qb Q g i) p) (n + a) l * lanes (kb K g) p s l = _
  rw [Finset.sum_range_add, Finset.sum_eq_zero (s := Finset.range 64) (f := fun k => stack n (lanes (qb Q g i) p) (n + a) k * lanes (kb K g) p s k) fun l hl => by
    rw [stack, if_neg (by omega), if_pos (Finset.mem_range.1 hl), zero_mul], zero_add]
  refine (Finset.sum_congr rfl fun l hl => ?_).trans (sum_eighth (Q (8 * g + 2 * p.val + 1) (256 * i + a)) (K (8 * g + 2 * p.val + 1) s) 64)
  have hl' : l < 64 := Finset.mem_range.1 hl
  rw [stack, if_neg (by omega), if_neg (by omega), Nat.add_sub_cancel_left]
  exact congrArg₂ (· * ·) (flat_at (fun h t l => Q h t l * eighth) (h := 8 * g + 2 * p.val + 1) ht (by omega) hl') (flat_at K (h := 8 * g + 2 * p.val + 1) hs (by omega) hl')

theorem seen_lo {a : ℕ} (ha : a < n) : seen n (256 * i) a = 256 * i + a := by rw [seen, Nat.mod_eq_of_lt ha]
theorem seen_hi {a : ℕ} (ha : a < n) : seen n (256 * i) (n + a) = 256 * i + a := by rw [seen, Nat.add_mod_left, Nat.mod_eq_of_lt ha]

/-- A block's entry is the head's row. -/
theorem outF_eq {a l : ℕ} (ha : a < n) (hl : l < 512) (ht : 256 * i + a < 2064) :
    outF n (seen n (256 * i)) (qb Q g i) (kb K g) (kb V g) a l = outR Q K V (256 * i + a) (512 * g + l) := by
  have hp : (pair (l / 128)).val = l / 128 := Nat.mod_eq_of_lt (by omega)
  unfold outF outR unstack
  rw [if_pos ht]
  by_cases h : l % 128 < 64
  · have e : (512 * g + l) / 64 = 8 * g + 2 * (pair (l / 128)).val := by rw [hp]; omega
    rw [if_pos h, e, show (512 * g + l) % 64 = l % 128 by omega]
    refine O_congr (T' := id) (a' := 256 * i + a) (seen_lo ha) (fun s hs => ?_) (fun s hs => ?_) 0
    · rw [seen_lo ha] at hs
      exact score_lo Q K _ ha ht (by omega)
    · rw [seen_lo ha] at hs
      exact flat_at V (by omega) (by rw [hp]; omega) h
  · have e : (512 * g + l) / 64 = 8 * g + 2 * (pair (l / 128)).val + 1 := by rw [hp]; omega
    rw [if_neg h, e]
    refine O_congr (T' := id) (a' := 256 * i + a) (l' := (512 * g + l) % 64) (seen_hi ha) (fun s hs => ?_) (fun s hs => ?_) 0
    · rw [seen_hi ha] at hs
      exact score_hi Q K _ ht (by omega)
    · rw [seen_hi ha] at hs
      exact flat_at V (by omega) (by rw [hp]; omega) (Nat.mod_lt _ (by norm_num))

theorem totF_eq {e a : ℕ} (ha : a < n) (he : e < 8) (ht : 256 * i + a < 2064) :
    totF n (seen n (256 * i)) (qb Q g i) (kb K g) e a = totR Q K (8 * g + e) (256 * i + a) := by
  have hp : (pair (e / 2)).val = e / 2 := Nat.mod_eq_of_lt (by omega)
  unfold totF totR
  rw [if_pos ht]
  by_cases h : e % 2 = 0
  · rw [h, Nat.mul_zero, zero_add, show 8 * g + e = 8 * g + 2 * (pair (e / 2)).val by rw [hp]; omega]
    refine R_congr (T' := id) (a' := 256 * i + a) (seen_lo ha) (fun s hs => ?_) 0
    rw [seen_lo ha] at hs
    exact score_lo Q K _ ha ht (by omega)
  · rw [show e % 2 = 1 by omega, Nat.mul_one, show 8 * g + e = 8 * g + 2 * (pair (e / 2)).val + 1 by rw [hp]; omega]
    refine R_congr (T' := id) (a' := 256 * i + a) (seen_hi ha) (fun s hs => ?_) 0
    rw [seen_hi ha] at hs
    exact score_hi Q K _ ht (by omega)

end Cert.AttnFwd
-- ==== Proof.AttnFwd.Ref.lean ====
/- The reference read at an entry: one head's row, at any entries. -/
module

public import proofs.«01_k».proof.Proof.AttnFwd.Heads
public import proofs.«01_k».proof.Proof.Attn.Window
public import proofs.«01_k».proof.Proof.Gen.Reference11Ideal.Read
public import Idealize.ShloMosaic.Lib.WordCmp

@[expose] public section

set_option maxRecDepth 16384

noncomputable section

open Idealize.ShloMosaic Idealize.ShloMosaic.TcCoe Idealize.SL.Sem
open Cert.Reference11Ideal Cert.Reference11Ideal.Gen Cert.Reference11Ideal.Read

namespace Cert.AttnFwd

/-- The entries of an array of heads, by head, row and lane. -/
def ent (x : FVec Ideal S1x2064x16x64 .f32) (h t l : ℕ) : EReal :=
  if hb : h < 16 ∧ t < 2064 ∧ l < 64 then x (ix4 (0 : Fin 1) ⟨t, hb.2.1⟩ ⟨h, hb.1⟩ ⟨l, hb.2.2⟩) else 0

theorem ent_at (x : FVec Ideal S1x2064x16x64 .f32) (h : Fin 16) (t : Fin 2064) (l : Fin 64) : x (ix4 (0 : Fin 1) t h l) = ent x h t l :=
  (dif_pos ⟨h.isLt, t.isLt, l.isLt⟩ : ent x h t l = _).symm

theorem eighth_bits : Ideal.ofBits .f32 0x3E000000#32 = eighth := by
  unfold eighth
  simp [Ideal.ofBits, Ideal.ieee]; rw [← EReal.coe_mul]; norm_num

theorem bot_bits : Ideal.ofBits .f32 0xFF800000#32 = ⊥ := by
  simp [Ideal.ofBits, Ideal.ieee]

theorem sitofp_zero : (FloatOps.sitofp (F := Ideal) .f32 (0#32) : EReal) = 0 := by
  show (((0#32 : BitVec 32).toInt : ℝ) : EReal) = 0
  simp

variable (q k v : FVec Ideal S1x2064x16x64 .f32) (h : Fin 16) (t s : Fin 2064)

theorem ref_z : val_main_v2 (F := Ideal) q k (ix4 (0 : Fin 1) h t s) = score (ent q) (ent k) h t s := by
  pointwise [val_main_v2, val_main_v0, val_main_v1, val_main_cst]
  rw [eighth_bits, score, Finset.sum_range]
  exact congrArg (· * eighth) (Finset.sum_congr rfl fun l _ => congrArg₂ (· * ·) (ent_at q h t l) (ent_at k h s l))

/-- The softplus as the host writes it. -/
theorem softplus_at (z : EReal) : (if z ≠ z then z else max z 0 + Ideal.log1p (Ideal.exp (-max z (-z)))) = sp z := if_neg (fun h => h rfl)

theorem ref_sp : val_main_v10 (F := Ideal) q k (ix4 (0 : Fin 1) h t s) = sp (score (ent q) (ent k) h t s) := by
  rw [← ref_z]
  pointwise [val_main_v10, val_main_call0_v4, val_main_call0_v6, val_main_call0_v11, val_main_call0_v3, val_main_call0_v5, val_main_call0_v1, val_main_call0_v10, val_main_call0_v9, val_main_call0_v8, val_main_call0_v7, val_main_call0_v2, val_main_call0_v0, val_main_call0_cst]
  exact softplus_at _

theorem ref_mask : val_main_v9 (F := Ideal) (ix2 t s) = 1 ↔ s.val < t.val := by
  have hs := s.isLt
  have ht := t.isLt
  pointwise [val_main_v9, val_main_v7, val_main_v8, val_main_v4, val_main_v3, val_main_v5, val_main_v6]
  exact WordCmp.cmpi_slt_ofNat_eq_one_iff (by omega) (by omega)

/-- The softplus of the seen columns. -/
theorem ref_S : val_main_v11 (F := Ideal) q k (ix4 (0 : Fin 1) h t s) = S id (score (ent q) (ent k) h) t s := by
  have e := ref_sp q k h t s
  have i := ref_mask t s
  pointwise [val_main_v11, val_main_call1_v2, val_main_call1_v0, val_main_call1_v1, val_main_cst_0]
  rw [e]
  unfold Scalar.select S
  by_cases hm : s.val < t.val
  · rw [if_pos (i.2 hm)]; exact (if_pos hm).symm
  · rw [if_neg (fun h => hm (i.1 h))]
    refine Eq.trans ?_ (if_neg hm).symm
    first | rfl | exact zero_f32

/-- Its total from one column on. -/
theorem ref_R : val_main_v12 (F := Ideal) q k (ix4 (0 : Fin 1) h t s) = R id (score (ent q) (ent k) h) t s := by
  unfold val_main_v12 Host.reduceWindowAdd
  have e0 : val_main_call2_v0 (F := Ideal) (Shape.Idx.first h_S_) = (0 : EReal) := by
    pointwise [val_main_call2_v0, val_main_call2_cst]
  rw [e0]
  have hs := s.isLt
  have ht := t.isLt
  refine (Attn.window_at (H := 16) (N := 2064) (L := 0) _ _ (0 : Fin 1) h t s).trans ?_
  rw [← R_short (N := 2064) (by norm_num) (show id t.val ≤ 2064 from ht.le), Finset.sum_Ico_eq_sum_range]
  refine (Finset.sum_congr rfl fun n _ => ?_ : _ = ∑ n : Fin 2064, (fun n => if s.val + n < 2064 then S id (score (ent q) (ent k) h) t (s.val + n) else 0) n.val).trans ?_
  · beta_reduce
    by_cases hc : s.val + n.val < 2064
    · rw [dif_pos ⟨by omega, by omega⟩, if_pos hc]
      exact ref_S q k h t ⟨s.val + n.val, hc⟩
    · rw [dif_neg (by omega), if_neg hc]
  · rw [← Finset.sum_range (fun n => if s.val + n < 2064 then S id (score (ent q) (ent k) h) t (s.val + n) else 0)]
    rw [← Finset.sum_subset (Finset.range_subset_range.2 (by omega : 2064 - s.val ≤ 2064)) (fun n _ hn => by
      rw [Finset.mem_range, not_lt] at hn; exact if_neg (by omega))]
    exact Finset.sum_congr rfl fun n hn => by rw [Finset.mem_range] at hn; exact if_pos (by omega)

/-- The weights. -/
theorem ref_A : val_main_v15 (F := Ideal) q k (ix4 (0 : Fin 1) h t s) = A id (score (ent q) (ent k) h) t s := by
  have e := ref_z q k h t s
  have r := ref_R q k h t s
  have i := ref_mask t s
  pointwise [val_main_v15, val_main_v14, val_main_v13, val_main_call3_v2, val_main_call3_v0, val_main_call3_v1, val_main_cst_1]
  rw [e, r]
  unfold Scalar.select A
  by_cases hm : s.val < t.val
  · rw [if_pos (i.2 hm)]; exact (if_pos hm).symm
  · rw [if_neg (fun h => hm (i.1 h))]
    refine Eq.trans ?_ (if_neg hm).symm
    exact (congrArg Ideal.exp bot_bits).trans Ideal.exp_bot

theorem ref_O (l : Fin 64) : val_main_v16 (F := Ideal) q k v (ix4 (0 : Fin 1) h l t) = O id (score (ent q) (ent k) h) (ent v h) 0 t l := by
  have ht := t.isLt
  rw [← O_short (N := 2064) (by norm_num) (show id t.val ≤ 2064 from ht.le), Finset.sum_Ico_eq_sum_range]
  pointwise [val_main_v16]
  refine Eq.trans ?_ (Finset.sum_range fun s => A id (score (ent q) (ent k) h) t s * ent v h s l).symm
  refine Finset.sum_congr rfl fun s _ => ?_
  rw [ent_at v h s l, ref_A, mul_comm]

theorem ref_out (r : Fin 2304) (c : Fin 1024) : val_main_v23 (F := Ideal) q k v (ix2 r c) = outR (ent q) (ent k) (ent v) r c := by
  have hc := c.isLt
  pointwise [val_main_v23, val_main_v22, val_main_v21, val_main_v20, val_main_v17, val_main_call4_v0, val_main_c]
  unfold outR
  by_cases hr : r.val < 2064
  · rw [dif_pos hr, if_pos hr]
    exact ref_O q k v ⟨c.val / 64, by omega⟩ ⟨r.val, hr⟩ ⟨c.val % 64, by omega⟩
  · rw [dif_neg hr, if_neg hr]
    exact sitofp_zero

theorem ref_tot (e : Fin 16) (r : Fin 2304) : val_main_v24 (F := Ideal) q k (ix3 e r (0 : Fin 1)) = totR (ent q) (ent k) e r := by
  pointwise [val_main_v24, val_main_v19, val_main_v18, val_main_call5_v0, val_main_c_2]
  unfold totR
  by_cases hr : r.val < 2064
  · rw [dif_pos hr, if_pos hr]
    exact ref_R q k e ⟨r.val, hr⟩ (0 : Fin 2064)
  · rw [dif_neg hr, if_neg hr]
    exact sitofp_zero

end Cert.AttnFwd
-- ==== Proof.AttnFwd.Final.lean ====
/- The two results after the run. -/
module

public import proofs.«01_k».proof.Proof.AttnFwd.RunA
public import proofs.«01_k».proof.Proof.AttnFwd.RunB
public import proofs.«01_k».proof.Proof.AttnFwd.Ref

@[expose] public section

set_option maxRecDepth 16384

noncomputable section

open Idealize.ShloMosaic Idealize.ShloMosaic.TcCoe Idealize.SL.Sem
open Cert.Kernel11Ideal Cert.Kernel11Ideal.Gen
open Idealize.ShloMosaic.Pipeline (Dat)

namespace Cert.AttnFwd

variable (m : (ℓ : Loc nD τ sig) → Buf (Elt Ideal) ℓ) (c : Dev nD)

theorem idx : ∀ t : Fin cfg0.N, win0_0.index t = ![t.val % 9, t.val / 9] ∧ win0_1.index t = ![0, t.val / 9] ∧ win0_2.index t = ![0, t.val / 9]
    ∧ win0_3.index t = ![t.val % 9, t.val / 9] ∧ win0_4.index t = ![t.val / 9, t.val % 9, 0] ∧ t.val < 18 :=
  (by decide +kernel : ∀ t : Fin grid0.N, _)

/-- The grid's points, by head group and row block. -/
theorem coord : ∀ t : Fin cfg0.N, (grid0.coords t 1).val = t.val % 9 := (by decide +kernel : ∀ t : Fin grid0.N, (grid0.coords t 1).val = t.val % 9)

/-- A head-split argument, the heads side by side, zero rows below. -/
def wide (x : Vec Ideal S1x2064x16x64 .f32) : Vec Ideal S2304x1024 .bf16 :=
  truncf .bf16 (pad S2304x1024 ![0, 0] ![240, 0] ![0, 0] (shapeCast S2064x1024 (shapeCast S2064x16x64 x
    shapeCasts_S1x2064x16x64_S2064x16x64) shapeCasts_S2064x16x64_S2064x1024) (sitofp (F := Ideal) .f32 (constantI S_ 32 0#32))
    pads_S2064x1024_S2304x1024_02400_000 h_S_) bitsLt_bf16_f32

theorem wide_at (x : Vec Ideal S1x2064x16x64 .f32) {X : ℕ → ℕ → ℕ → EReal} (hx : ∀ (h : Fin 16) (t : Fin 2064) (l : Fin 64), x (ix4 (0 : Fin 1) t h l) = X h t l)
    (r : Fin 2304) (l : Fin 1024) : wide x (ix2 r l) = flat X r l := by
  pointwise [wide]
  unfold flat
  by_cases hr : r.val < 2064
  · rw [dif_pos hr, if_pos hr]
    exact hx ⟨l.val / 64, by omega⟩ ⟨r.val, hr⟩ ⟨l.val % 64, by omega⟩
  · rw [dif_neg hr, if_neg hr]
    exact sitofp_zero

/-- The scaled queries. -/
def scaled (x : Vec Ideal S1x2064x16x64 .f32) : Vec Ideal S1x2064x16x64 .f32 :=
  mulf (F := Ideal) x (broadcastInDim S1x2064x16x64 ![] bcast_S_S1x2064x16x64 (constant S_ .f32 0x3E000000#32))

theorem scaled_at (x : Vec Ideal S1x2064x16x64 .f32) (h : Fin 16) (t : Fin 2064) (l : Fin 64) :
    scaled x (ix4 (0 : Fin 1) t h l) = (fun h t l => ent x h t l * eighth) h t l := by
  pointwise [scaled]
  rw [eighth_bits]
  exact congrArg (· * eighth) (ent_at x h t l)

theorem V_q : Gen.V m c main_v5 = wide (scaled (m ((c : Thread nD τ).loc main_arg0))) := by
  unfold Gen.V
  simp only [hostOps0, hostOps0_1, hostOps0_2, hostOps0_3, List.flatten_cons, List.flatten_nil, List.cons_append, List.nil_append, List.append_nil]
  entry_read
  rfl

theorem V_k : Gen.V m c main_v9 = wide (m ((c : Thread nD τ).loc main_arg1)) := by
  unfold Gen.V
  simp only [hostOps0, hostOps0_1, hostOps0_2, hostOps0_3, List.flatten_cons, List.flatten_nil, List.cons_append, List.nil_append, List.append_nil]
  entry_read
  rfl

theorem V_v : Gen.V m c main_v13 = wide (m ((c : Thread nD τ).loc main_arg2)) := by
  unfold Gen.V
  simp only [hostOps0, hostOps0_1, hostOps0_2, hostOps0_3, List.flatten_cons, List.flatten_nil, List.cons_append, List.nil_append, List.append_nil]
  entry_read
  rfl

theorem blk_q (t : Fin cfg0.N) : Is (d := ![256, 512]) (iblk m c 0 t) (qb (ent (m ((c : Thread nD τ).loc main_arg0))) (t.val / 9) (t.val % 9)) := fun y => by
  have h0 : (y 0).val < 256 := (y 0).isLt
  have h1 : (y 1).val < 512 := (y 1).isLt
  have ht := (idx t).2.2.2.2.2
  unfold iblk
  blk_simp [idx t]
  refine (congrArg (Gen.V m c main_v5) (?_ : _ = ix2 ⟨256 * (t.val % 9) + (y 0).val, by omega⟩ ⟨512 * (t.val / 9) + (y 1).val, by omega⟩)).trans
    ((congrFun (V_q m c) _).trans (wide_at _ (scaled_at _) _ _))
  blk_ext [idx t]

theorem blk_k (t : Fin cfg0.N) : Is (d := ![2304, 512]) (iblk m c 1 t) (kb (ent (m ((c : Thread nD τ).loc main_arg1))) (t.val / 9)) := fun y => by
  have h0 : (y 0).val < 2304 := (y 0).isLt
  have h1 : (y 1).val < 512 := (y 1).isLt
  have ht := (idx t).2.2.2.2.2
  unfold iblk
  blk_simp [idx t]
  refine (congrArg (Gen.V m c main_v9) (?_ : _ = ix2 ⟨(y 0).val, by omega⟩ ⟨512 * (t.val / 9) + (y 1).val, by omega⟩)).trans
    ((congrFun (V_k m c) _).trans (wide_at _ (ent_at _) _ _))
  blk_ext [idx t]

theorem blk_v (t : Fin cfg0.N) : Is (d := ![2304, 512]) (iblk m c 2 t) (kb (ent (m ((c : Thread nD τ).loc main_arg2))) (t.val / 9)) := fun y => by
  have h0 : (y 0).val < 2304 := (y 0).isLt
  have h1 : (y 1).val < 512 := (y 1).isLt
  have ht := (idx t).2.2.2.2.2
  unfold iblk
  blk_simp [idx t]
  refine (congrArg (Gen.V m c main_v13) (?_ : _ = ix2 ⟨(y 0).val, by omega⟩ ⟨512 * (t.val / 9) + (y 1).val, by omega⟩)).trans
    ((congrFun (V_v m c) _).trans (wide_at _ (ent_at _) _ _))
  blk_ext [idx t]

section Points

variable {Q K V' : ℕ → ℕ → ℕ → EReal}

set_option maxHeartbeats 1000000 in
/-- What a grid point leaves: its block of both results. -/
theorem point (t : Fin cfg0.N) (hq : Is (d := ![256, 512]) (iblk m c 0 t) (qb Q (t.val / 9) (t.val % 9)))
    (hk : Is (d := ![2304, 512]) (iblk m c 1 t) (kb K (t.val / 9))) (hv : Is (d := ![2304, 512]) (iblk m c 2 t) (kb V' (t.val / 9))) :
    (∀ y : S256x512.Idx, (outsAt0 m c t.val t.isLt).1 y = outR Q K V' (256 * (t.val % 9) + (y 0).val) (512 * (t.val / 9) + (y 1).val))
    ∧ ∀ y : S8x256x1.Idx, (outsAt0 m c t.val t.isLt).2 y = totR Q K (8 * (t.val / 9) + (y 0).val) (256 * (t.val % 9) + (y 1).val) := by
  have e := coord t
  have ht := (idx t).2.2.2.2.2
  by_cases h : t.val % 9 ≤ 7
  · rw [outsAt0_A m c t h (by omega)]
    dsimp only
    refine ⟨fun y => ?_, fun y => ?_⟩
    · have h0 : (y 0).val < 256 := (y 0).isLt
      have h1 : (y 1).val < 512 := (y 1).isLt
      refine (Full.out c (grid0.coords t) (ms0_0 t) (hs0_0 t) (ms0_1 t) (hs0_1 t) (ms0_2 t) (hs0_2 t) (ms0_3 t) (hs0_3 t) (ms0_4 t) (hs0_4 t) ((hcond0_0 t).mpr h) (fun h' => (by omega : ¬ t.val % 9 = 8) ((hcond0_1 t).mp h')) _ _ _ hq hk hv y).trans ?_
      rw [e]
      exact outF_eq Q K V' h0 h1 (by omega)
    · have h0 : (y 0).val < 8 := (y 0).isLt
      have h1 : (y 1).val < 256 := (y 1).isLt
      refine (Full.tot c (grid0.coords t) (ms0_0 t) (hs0_0 t) (ms0_1 t) (hs0_1 t) (ms0_2 t) (hs0_2 t) (ms0_3 t) (hs0_3 t) (ms0_4 t) (hs0_4 t) ((hcond0_0 t).mpr h) (fun h' => (by omega : ¬ t.val % 9 = 8) ((hcond0_1 t).mp h')) _ _ _ hq hk hv y).trans ?_
      rw [e]
      exact totF_eq Q K h1 h0 (by omega)
  · rw [outsAt0_B m c t h (by omega)]
    dsimp only
    refine ⟨fun y => ?_, fun y => ?_⟩
    · have h0 : (y 0).val < 256 := (y 0).isLt
      have h1 : (y 1).val < 512 := (y 1).isLt
      refine (Last.out c (grid0.coords t) (ms0_0 t) (hs0_0 t) (ms0_1 t) (hs0_1 t) (ms0_2 t) (hs0_2 t) (ms0_3 t) (hs0_3 t) (ms0_4 t) (hs0_4 t) (fun h' => h ((hcond0_0 t).mp h')) ((hcond0_1 t).mpr (by omega)) _ _ _ hq hk hv y).trans ?_
      rw [e]
      by_cases ha : (y 0).val < 16
      · rw [if_pos ha]
        exact outF_eq Q K V' ha h1 (by omega)
      · rw [if_neg ha, outR, if_neg (by omega)]
    · have h0 : (y 0).val < 8 := (y 0).isLt
      have h1 : (y 1).val < 256 := (y 1).isLt
      refine (Last.tot c (grid0.coords t) (ms0_0 t) (hs0_0 t) (ms0_1 t) (hs0_1 t) (ms0_2 t) (hs0_2 t) (ms0_3 t) (hs0_3 t) (ms0_4 t) (hs0_4 t) (fun h' => h ((hcond0_0 t).mp h')) ((hcond0_1 t).mpr (by omega)) _ _ _ hq hk hv y).trans ?_
      rw [e]
      by_cases ha : (y 1).val < 16
      · rw [if_pos ha]
        exact totF_eq Q K ha h0 (by omega)
      · rw [if_neg ha, totR, if_neg (by omega)]

end Points

theorem final3 : (dats m 0 c).arrAt 3 (cfgs 0).N = Cert.Reference11Ideal.Read.val_main_v23 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  refine ((point m c t (blk_q m c t) (blk_k m c t) (blk_v m c t)).1 y).trans ?_
  have h0 : (y 0).val < 256 := (y 0).isLt
  have h1 : (y 1).val < 512 := (y 1).isLt
  have ht := (idx t).2.2.2.2.2
  refine ((congrArg _ (?_ : _ = ix2 ⟨256 * (t.val % 9) + (y 0).val, by omega⟩ ⟨512 * (t.val / 9) + (y 1).val, by omega⟩)).trans (ref_out _ _ _ _ _)).symm
  blk_ext [idx t]

theorem final4 : (dats m 0 c).arrAt 4 (cfgs 0).N = Cert.Reference11Ideal.Read.val_main_v24 (F := Ideal) (m ((c : Thread nD τ).loc main_arg0))
    (m ((c : Thread nD τ).loc main_arg1)) := by
  refine (dats m 0 c).arrAt_eq_of_covers 4 _ (by decide +kernel) fun t hf y => ?_
  blk_simp
  rw [after0_4]
  refine ((point m c t (blk_q m c t) (blk_k m c t) (blk_v m c t)).2 y).trans ?_
  have h0 : (y 0).val < 8 := (y 0).isLt
  have h1 : (y 1).val < 256 := (y 1).isLt
  have h2 : (y 2).val < 1 := (y 2).isLt
  have ht := (idx t).2.2.2.2.2
  refine ((congrArg _ (?_ : _ = ix3 ⟨8 * (t.val / 9) + (y 0).val, by omega⟩ ⟨256 * (t.val % 9) + (y 1).val, by omega⟩ (0 : Fin 1))).trans (ref_tot _ _ _ _)).symm
  blk_ext [idx t]

end Cert.AttnFwd
-- ==== Proof.AttnFwd.Claims.lean ====
/- The claims about the attention's forward call: the frames, and the kernel's two results equal to the reference's. -/
module

public import proofs.«01_k».proof.Defs
public import proofs.«01_k».proof.Proof.Gen.Kernel11.Frame
public import proofs.«01_k».proof.Proof.Gen.Reference11Ideal
public import proofs.«01_k».proof.Proof.Gen.Reference11Ideal.Run
public import proofs.«01_k».proof.Proof.AttnFwd.Final
public import Idealize.ShloMosaic.Lib.Claim
public import Idealize.ShloMosaic.Lib.Quiescent

@[expose] public section

set_option maxRecDepth 16384

noncomputable section

namespace Cert.AttnFwd

open Idealize.ShloMosaic Idealize.ShloMosaic.TcCoe Idealize.SL.Sem

theorem frame : Cert.quiescent_Kernel11 (hKernel11 := Cert.Kernel11.Gen.facts) :=
  fun m g _ => Cert.Kernel11.Gen.frame m g

theorem frame_ideal : Cert.quiescent_Kernel11Ideal (hKernel11Ideal := Cert.Kernel11Ideal.Gen.facts) :=
  fun m g _ => Cert.Kernel11Ideal.Gen.frame m g

theorem frame_ref : Cert.quiescent_Reference11Ideal (hReference11Ideal := Cert.Reference11Ideal.Gen.facts) :=
  fun m g _ => (θ_run Cert.Reference11Ideal.defs _ _).mono
    (fun r h => ⟨fun c => (h c).2.2, sem_eq_zero_of_no_sems (by decide) r.2⟩) (Cert.Reference11Ideal.Value.run m g)

section
variable {x0 x1 x2 y0 y1 y2 : FVec Ideal Cert.Reference11Ideal.S1x2064x16x64 .f32}

/-- Equal arguments have equal results. -/
theorem same3 (h0 : x0 = y0) (h1 : x1 = y1) (h2 : x2 = y2) :
    Cert.Reference11Ideal.Read.val_main_v23 (F := Ideal) x0 x1 x2 = Cert.Reference11Ideal.Read.val_main_v23 (F := Ideal) y0 y1 y2 := by rw [h0, h1, h2]
theorem same4 (h0 : x0 = y0) (h1 : x1 = y1) :
    Cert.Reference11Ideal.Read.val_main_v24 (F := Ideal) x0 x1 = Cert.Reference11Ideal.Read.val_main_v24 (F := Ideal) y0 y1 := by rw [h0, h1]
end

set_option maxHeartbeats 2000000 in
theorem algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
    · exact Cert.Kernel11Ideal.Gen.V_main_arg0 m c
    · exact Cert.Kernel11Ideal.Gen.V_main_arg1 m c
    · exact Cert.Kernel11Ideal.Gen.V_main_arg2 m c
  · refine (θ_run Cert.Reference11Ideal.defs _ _).mono (fun r h c => ?_) (Cert.Reference11Ideal.Value.run m' g')
    have a0 := (hagree c).1
    have a1 := (hagree c).2.1
    have a2 := (hagree c).2.2
    have r3 := (h c).1.trans (Cert.Reference11Ideal.Read.val_main_v23_eq _ _ _)
    have r4 := (h c).2.1.trans (Cert.Reference11Ideal.Read.val_main_v24_eq _ _)
    have e3 := same3 a0 a1 a2
    have e4 := same4 a0 a1
    have k := (h c).2.2
    clear h
    have l3 := r3.trans e3
    have l4 := r4.trans e4
    exact ⟨l3.trans (final3 m c).symm, l4.trans (final4 m c).symm, k⟩

end Cert.AttnFwd

end
-- ==== Proof.GluFwd.Value.lean ====
/- The gated unit's forward call: the array which the kernel's run leaves is the reference's. -/
module

public import proofs.«01_k».proof.Defs
public import proofs.«01_k».proof.Proof.Gen.Kernel12.Frame
public import proofs.«01_k».proof.Proof.Gen.Reference12Ideal
public import proofs.«01_k».proof.Proof.Gen.Reference12Ideal.Run
public import Idealize.ShloMosaic.Lib.Claim
public import Idealize.ShloMosaic.Lib.Quiescent
public import proofs.«01_k».proof.Proof.Gen.Kernel12Ideal.Value
public import proofs.«01_k».proof.Proof.Gen.Reference12Ideal.Read
public import proofs.«01_k».proof.Proof.Rows.Pad

@[expose] public section

set_option maxRecDepth 16384

noncomputable section

open Idealize.ShloMosaic Idealize.ShloMosaic.TcCoe Idealize.SL.Sem
open Idealize.ShloMosaic.Pipeline (Dat)
open Cert.Kernel12Ideal Cert.Kernel12Ideal.Gen Cert.Rows

namespace Cert.GluFwd

/-- A value times the logistic of its gate, 1024 columns to the right. -/
def out (p : ℕ → ℕ → EReal) (r l : ℕ) : EReal := p r l * sg (p r (1024 + l))

open Reference12Ideal.Read in
theorem ref_at (p : FVec Ideal Reference12Ideal.S1x2064x7168 .f32) (s : Fin 2176) (l : Fin 1024) :
    val_main_v11 (F := Ideal) p (ix2 s l) = out (rows p) s.val l.val := by
  have e : val_main_v11 (F := Ideal) p (ix2 s l) = if h : s.val < 2064 then p (ix3 0 ⟨s.val, h⟩ ⟨l.val, by omega⟩) * sg (p (ix3 0 ⟨s.val, h⟩ ⟨1024 + l.val, by omega⟩))
      else FloatOps.sitofp (F := Ideal) .f32 (0#32 : BitVec 32) := by
    pointwise [val_main_v11, val_main_call0_v0, val_main_c, val_main_v10, val_main_v9, val_main_v8, val_main_v7, val_main_cst_0, val_main_v6, val_main_v5,
      val_main_cst, val_main_v4, val_main_v3, val_main_v2, val_main_v1, val_main_v0]
  rw [e, sitofp_zero, out]
  by_cases hs : s.val < 2064
  · rw [dif_pos hs, rows_at p, rows_at p]
  · rw [dif_neg hs, rows_out p (by omega), zero_mul]

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 0]
    ∧ t.val < 8 :=
  (by decide +kernel : ∀ t : Fin grid0.N, _)

/-- The arguments. -/
abbrev p := m ((c : Thread nD τ).loc main_arg0)

theorem V_p (r : Fin 2176) (l : Fin 7168) : Gen.V m c main_v1 (ix2 r l) = rows (p m c) r.val l.val := by
  refine Eq.trans (congrFun ?_ _) (pad_at (p m c) shapeCasts_S1x2064x7168_S2064x7168 pads_S2064x7168_S2176x7168_01120_000 h_S_ r l)
  unfold Gen.V
  simp only [hostOps0, hostOps0_1, List.flatten_cons, List.flatten_nil, List.cons_append, List.nil_append, List.append_nil]
  entry_read
  rfl

theorem blk0 (t : Fin cfg0.N) (j : S272x1024.Idx) : iblk m c 0 t j = rows (p m c) (272 * t.val + (j 0).val) ((j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v1) (?_ : _ = ix2 ⟨272 * t.val + (j 0).val, by omega⟩ ⟨(j 1).val, by omega⟩)).trans (V_p m c _ _)
  blk_ext [idx t]

theorem blk1 (t : Fin cfg0.N) (j : S272x1024.Idx) : iblk m c 1 t j = rows (p m c) (272 * t.val + (j 0).val) (1024 + (j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v1) (?_ : _ = ix2 ⟨272 * t.val + (j 0).val, by omega⟩ ⟨1024 + (j 1).val, by omega⟩)).trans (V_p m c _ _)
  blk_ext [idx t]

theorem final2 : (dats m 0 c).arrAt 2 (cfgs 0).N = Reference12Ideal.Read.val_main_v11 (F := Ideal) (p m c) := by
  have point : ∀ (t : Fin cfg0.N) (w : S272x1024.Idx), out0_2 (iblk m c 0 t) (iblk m c 1 t) w = out (rows (p m c)) (272 * t.val + (w 0).val) (w 1).val := by
    intro t w
    unfold out0_2
    canon_tiles x e
    pointwise [k0_pay1]
    rw [sg_eq, blk0, blk1, e0, e1, out]
  refine (dats m 0 c).arrAt_eq_of_covers 2 _ (by decide +kernel) fun t hf w => ?_
  blk_simp
  rw [after0_2]
  have ht : t.val < 8 := by have := idx t; tauto
  have h0 : (w 0).val < 272 := (w 0).isLt
  have h1 : (w 1).val < 1024 := (w 1).isLt
  refine (point t w).trans ((congrArg _ (?_ : _ = ix2 ⟨272 * t.val + (w 0).val, by omega⟩ ⟨(w 1).val, h1⟩)).trans (ref_at _ _ _)).symm
  blk_ext [idx t]

theorem frame : quiescent_Kernel12 (hKernel12 := Kernel12.Gen.facts) :=
  fun m g _ => Kernel12.Gen.frame m g

theorem frame_ideal : quiescent_Kernel12Ideal (hKernel12Ideal := Kernel12Ideal.Gen.facts) :=
  fun m g _ => Kernel12Ideal.Gen.frame m g

theorem frame_ref : quiescent_Reference12Ideal (hReference12Ideal := Reference12Ideal.Gen.facts) :=
  fun m g _ => (θ_run Reference12Ideal.defs _ _).mono
    (fun r h => ⟨fun c => (h c).2, sem_eq_zero_of_no_sems (by decide) r.2⟩) (Reference12Ideal.Value.run m g)

section
open Reference12Ideal.Read

/-- Equal arguments have equal results. -/
theorem same2 {x0 y0} (h0 : x0 = y0) :
    val_main_v11 (F := Ideal) x0 = val_main_v11 (F := Ideal) y0 := by rw [h0]
end

set_option maxHeartbeats 2000000 in
theorem algebraic : algebraic_Kernel12Ideal_Reference12Ideal (hKernel12Ideal := Kernel12Ideal.Gen.facts)
    (hReference12Ideal := Reference12Ideal.Gen.facts) := by
  pair_intro
  · run_from Kernel12Ideal.Gen.run_main m g
    · exact Kernel12Ideal.Gen.V_main_arg0 m c
  · refine (θ_run Reference12Ideal.defs _ _).mono (fun r h c => ?_) (Reference12Ideal.Value.run m' g')
    have a0 := (hagree c)
    have r2 := (h c).1.trans (Reference12Ideal.Read.val_main_v11_eq _)
    have k := (h c).2
    clear h
    have e2 := same2 a0
    have l2 := r2.trans e2
    exact ⟨l2.trans (final2 m c).symm, k⟩

end Cert.GluFwd
-- ==== Proof.SwigluFwd.Value.lean ====
/- The forward call of the feed-forward gate: the array which the kernel's run leaves is the reference's. -/
module

public import proofs.«01_k».proof.Defs
public import proofs.«01_k».proof.Proof.Gen.Kernel13.Frame
public import proofs.«01_k».proof.Proof.Gen.Reference13Ideal
public import proofs.«01_k».proof.Proof.Gen.Reference13Ideal.Run
public import Idealize.ShloMosaic.Lib.Claim
public import Idealize.ShloMosaic.Lib.Quiescent
public import proofs.«01_k».proof.Proof.Gen.Kernel13Ideal.Value
public import proofs.«01_k».proof.Proof.Gen.Reference13Ideal.Read
public import proofs.«01_k».proof.Proof.Rows.Pad

@[expose] public section

set_option maxRecDepth 16384

noncomputable section

open Idealize.ShloMosaic Idealize.ShloMosaic.TcCoe Idealize.SL.Sem
open Idealize.ShloMosaic.Pipeline (Dat)
open Cert.Kernel13Ideal Cert.Kernel13Ideal.Gen Cert.Rows

namespace Cert.SwigluFwd

/-- A value times its logistic, times the value 2816 columns to the right. -/
def out (a : ℕ → ℕ → EReal) (r l : ℕ) : EReal := a r l * sg (a r l) * a r (2816 + l)

open Reference13Ideal.Read in
theorem ref_at (p : FVec Ideal Reference13Ideal.S1x2064x5632 .f32) (s : Fin 2176) (l : Fin 2816) :
    val_main_v6 (F := Ideal) p (ix2 s l) = out (rows p) s.val l.val := by
  have e : val_main_v6 (F := Ideal) p (ix2 s l) = if h : s.val < 2064 then
      p (ix3 0 ⟨s.val, h⟩ ⟨l.val, by omega⟩) * sg (p (ix3 0 ⟨s.val, h⟩ ⟨l.val, by omega⟩)) * p (ix3 0 ⟨s.val, h⟩ ⟨2816 + l.val, by omega⟩)
      else FloatOps.sitofp (F := Ideal) .f32 (0#32 : BitVec 32) := by
    pointwise [val_main_v6, val_main_v5, val_main_call1_v0, val_main_c, val_main_v4, val_main_v3, val_main_v2, val_main_call0_v5, val_main_call0_v4,
      val_main_call0_cst_0, val_main_call0_v3, val_main_call0_v2, val_main_call0_cst, val_main_call0_v1, val_main_call0_v0, val_main_v1, val_main_v0]
  rw [e, sitofp_zero, out]
  by_cases hs : s.val < 2064
  · rw [dif_pos hs, rows_at p, rows_at p]
  · rw [dif_neg hs, rows_out p (by omega), zero_mul, zero_mul]

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 0]
    ∧ t.val < 17 :=
  (by decide +kernel : ∀ t : Fin grid0.N, _)

/-- The arguments. -/
abbrev a := m ((c : Thread nD τ).loc main_arg0)

theorem V_a (r : Fin 2176) (l : Fin 5632) : Gen.V m c main_v1 (ix2 r l) = rows (a m c) r.val l.val := by
  refine Eq.trans (congrFun ?_ _) (pad_at (a m c) shapeCasts_S1x2064x5632_S2064x5632 pads_S2064x5632_S2176x5632_01120_000 h_S_ r l)
  unfold Gen.V
  simp only [hostOps0, hostOps0_1, List.flatten_cons, List.flatten_nil, List.cons_append, List.nil_append, List.append_nil]
  entry_read
  rfl

theorem blk0 (t : Fin cfg0.N) (j : S128x2816.Idx) : iblk m c 0 t j = rows (a m c) (128 * t.val + (j 0).val) ((j 1).val) := by
  have h0 : (j 0).val < 128 := (j 0).isLt
  have h1 : (j 1).val < 2816 := (j 1).isLt
  have ht : t.val < 17 := by have := idx t; tauto
  unfold iblk
  blk_simp [idx t]
  refine (congrArg (Gen.V m c main_v1) (?_ : _ = ix2 ⟨128 * t.val + (j 0).val, by omega⟩ ⟨(j 1).val, by omega⟩)).trans (V_a m c _ _)
  blk_ext [idx t]

theorem blk1 (t : Fin cfg0.N) (j : S128x2816.Idx) : iblk m c 1 t j = rows (a m c) (128 * t.val + (j 0).val) (2816 + (j 1).val) := by
  have h0 : (j 0).val < 128 := (j 0).isLt
  have h1 : (j 1).val < 2816 := (j 1).isLt
  have ht : t.val < 17 := by have := idx t; tauto
  unfold iblk
  blk_simp [idx t]
  refine (congrArg (Gen.V m c main_v1) (?_ : _ = ix2 ⟨128 * t.val + (j 0).val, by omega⟩ ⟨2816 + (j 1).val, by omega⟩)).trans (V_a m c _ _)
  blk_ext [idx t]

theorem final2 : (dats m 0 c).arrAt 2 (cfgs 0).N = Reference13Ideal.Read.val_main_v6 (F := Ideal) (a m c) := by
  have point : ∀ (t : Fin cfg0.N) (w : S128x2816.Idx), out0_2 (iblk m c 0 t) (iblk m c 1 t) w = out (rows (a m c)) (128 * t.val + (w 0).val) (w 1).val := by
    intro t w
    unfold out0_2
    canon_tiles x e
    pointwise [k0_pay1]
    rw [sg_eq, blk0, blk1, e0, e1, out]
  refine (dats m 0 c).arrAt_eq_of_covers 2 _ (by decide +kernel) fun t hf w => ?_
  blk_simp
  rw [after0_2]
  have ht : t.val < 17 := by have := idx t; tauto
  have h0 : (w 0).val < 128 := (w 0).isLt
  have h1 : (w 1).val < 2816 := (w 1).isLt
  refine (point t w).trans ((congrArg _ (?_ : _ = ix2 ⟨128 * t.val + (w 0).val, by omega⟩ ⟨(w 1).val, h1⟩)).trans (ref_at _ _ _)).symm
  blk_ext [idx t]

theorem frame : quiescent_Kernel13 (hKernel13 := Kernel13.Gen.facts) :=
  fun m g _ => Kernel13.Gen.frame m g

theorem frame_ideal : quiescent_Kernel13Ideal (hKernel13Ideal := Kernel13Ideal.Gen.facts) :=
  fun m g _ => Kernel13Ideal.Gen.frame m g

theorem frame_ref : quiescent_Reference13Ideal (hReference13Ideal := Reference13Ideal.Gen.facts) :=
  fun m g _ => (θ_run Reference13Ideal.defs _ _).mono
    (fun r h => ⟨fun c => (h c).2, sem_eq_zero_of_no_sems (by decide) r.2⟩) (Reference13Ideal.Value.run m g)

section
open Reference13Ideal.Read

/-- Equal arguments have equal results. -/
theorem same2 {x0 y0} (h0 : x0 = y0) :
    val_main_v6 (F := Ideal) x0 = val_main_v6 (F := Ideal) y0 := by rw [h0]
end

set_option maxHeartbeats 2000000 in
theorem algebraic : algebraic_Kernel13Ideal_Reference13Ideal (hKernel13Ideal := Kernel13Ideal.Gen.facts)
    (hReference13Ideal := Reference13Ideal.Gen.facts) := by
  pair_intro
  · run_from Kernel13Ideal.Gen.run_main m g
    · exact Kernel13Ideal.Gen.V_main_arg0 m c
  · refine (θ_run Reference13Ideal.defs _ _).mono (fun r h c => ?_) (Reference13Ideal.Value.run m' g')
    have a0 := (hagree c)
    have r2 := (h c).1.trans (Reference13Ideal.Read.val_main_v6_eq _)
    have k := (h c).2
    clear h
    have e2 := same2 a0
    have l2 := r2.trans e2
    exact ⟨l2.trans (final2 m c).symm, k⟩

end Cert.SwigluFwd
-- ==== Proof.RmsFwd.Value.lean ====
/- The pre-norm's forward call: the array which the kernel's run leaves is the reference's. -/
module

public import proofs.«01_k».proof.Defs
public import proofs.«01_k».proof.Proof.Gen.Kernel14.Frame
public import proofs.«01_k».proof.Proof.Gen.Reference14Ideal
public import proofs.«01_k».proof.Proof.Gen.Reference14Ideal.Run
public import Idealize.ShloMosaic.Lib.Claim
public import Idealize.ShloMosaic.Lib.Quiescent
public import proofs.«01_k».proof.Proof.Gen.Kernel14Ideal.Value
public import proofs.«01_k».proof.Proof.Gen.Reference14Ideal.Read
public import proofs.«01_k».proof.Proof.Rows.Pad
public import proofs.«01_k».proof.Proof.Rows.Norm

@[expose] public section

set_option maxRecDepth 16384

noncomputable section

open Idealize.ShloMosaic Idealize.ShloMosaic.TcCoe Idealize.SL.Sem
open Idealize.ShloMosaic.Pipeline (Dat)
open Cert.Kernel14Ideal Cert.Kernel14Ideal.Gen Cert.Rows

namespace Cert.RmsFwd

/-- The norm's small number. -/
abbrev small : EReal := Ideal.ofBits .f32 0x358637BD#32

/-- An entry of the normalised row. -/
def out (x : ℕ → ℕ → EReal) (g : ℕ → EReal) (r l : ℕ) : EReal := x r l * scale x small r * g l

open Reference14Ideal.Read in
theorem ref_at (x : FVec Ideal Reference14Ideal.S1x2064x1024 .f32) (g : FVec Ideal Reference14Ideal.S1x1024 .f32) (s : Fin 2176) (l : Fin 1024) :
    val_main_v16 (F := Ideal) x g (ix2 s l) = out (rows x) (cols g) s.val l.val := by
  have e : val_main_v16 (F := Ideal) x g (ix2 s l) = if h : s.val < 2064 then x (ix3 0 ⟨s.val, h⟩ l) * Ideal.rsqrt (Ideal.div (Ideal.ofBits .f32 0x00000000#32
      + ∑ a : Fin 1024, x (ix3 0 ⟨s.val, h⟩ a) * x (ix3 0 ⟨s.val, h⟩ a)) width + small) * g (ix2 0 l)
      else FloatOps.sitofp (F := Ideal) .f32 (0#32 : BitVec 32) := by
    pointwise [val_main_v16, val_main_v15, val_main_call0_v0, val_main_c, val_main_v14, val_main_v13, val_main_v12, val_main_v11, val_main_v10, val_main_v9,
      val_main_v8, val_main_v7, val_main_v6, val_main_cst_1, val_main_v5, val_main_v4, val_main_cst_0, val_main_v3, val_main_v2, val_main_cst, val_main_v1,
      val_main_v0]
  rw [e, sitofp_zero, out]
  by_cases hs : s.val < 2064
  · rw [dif_pos hs, zero_f32, zero_add, cols_at g, scale, ms]
    simp only [rows_at x]
  · rw [dif_neg hs, rows_out x (by omega), zero_mul, zero_mul]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ t.val < 8 :=
  (by decide +kernel : ∀ t : Fin grid0.N, _)

/-- The arguments. -/
abbrev x := m ((c : Thread nD τ).loc main_arg0)
abbrev g := m ((c : Thread nD τ).loc main_arg1)

theorem V_x (r : Fin 2176) (l : Fin 1024) : Gen.V m c main_v1 (ix2 r l) = rows (x m c) r.val l.val := by
  refine Eq.trans (congrFun ?_ _) (pad_at (x m c) shapeCasts_S1x2064x1024_S2064x1024 pads_S2064x1024_S2176x1024_01120_000 h_S_ r l)
  unfold Gen.V
  simp only [hostOps0, hostOps0_1, List.flatten_cons, List.flatten_nil, List.cons_append, List.nil_append, List.append_nil]
  entry_read
  rfl

theorem blk0 (t : Fin cfg0.N) (j : S272x1024.Idx) : iblk m c 0 t j = rows (x m c) (272 * t.val + (j 0).val) ((j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v1) (?_ : _ = ix2 ⟨272 * t.val + (j 0).val, by omega⟩ ⟨(j 1).val, by omega⟩)).trans (V_x m c _ _)
  blk_ext [idx t]

theorem blk1 (t : Fin cfg0.N) (j : S1x1024.Idx) : iblk m c 1 t j = cols (g m c) ((j 1).val) := by
  have h1 : (j 1).val < 1024 := (j 1).isLt
  unfold iblk
  blk_simp [idx t]
  refine (congrArg (Gen.V m c main_arg1) (?_ : _ = ix2 (0 : Fin 1) ⟨(j 1).val, by omega⟩)).trans ((congrFun (Gen.V_main_arg1 m c) _).trans (cols_at (g m c) _))
  blk_ext [idx t]

theorem final2 : (dats m 0 c).arrAt 2 (cfgs 0).N = Reference14Ideal.Read.val_main_v16 (F := Ideal) (x m c) (g m c) := by
  have point : ∀ (t : Fin cfg0.N) (w : S272x1024.Idx), out0_2 (iblk m c 0 t) (iblk m c 1 t) w = out (rows (x m c)) (cols (g m c)) (272 * t.val + (w 0).val) (w 1).val := by
    intro t w
    unfold out0_2
    canon_tiles x e
    pointwise [k0_pay1]
    simp only [blk0, blk1, e0, e1, out, scale, ms, Finset.univ_unique, Finset.sum_singleton]
    rfl
  refine (dats m 0 c).arrAt_eq_of_covers 2 _ (by decide +kernel) fun t hf w => ?_
  blk_simp
  rw [after0_2]
  have ht : t.val < 8 := by have := idx t; tauto
  have h0 : (w 0).val < 272 := (w 0).isLt
  have h1 : (w 1).val < 1024 := (w 1).isLt
  refine (point t w).trans ((congrArg _ (?_ : _ = ix2 ⟨272 * t.val + (w 0).val, by omega⟩ ⟨(w 1).val, h1⟩)).trans (ref_at _ _ _ _)).symm
  blk_ext [idx t]

theorem frame : quiescent_Kernel14 (hKernel14 := Kernel14.Gen.facts) :=
  fun m g _ => Kernel14.Gen.frame m g

theorem frame_ideal : quiescent_Kernel14Ideal (hKernel14Ideal := Kernel14Ideal.Gen.facts) :=
  fun m g _ => Kernel14Ideal.Gen.frame m g

theorem frame_ref : quiescent_Reference14Ideal (hReference14Ideal := Reference14Ideal.Gen.facts) :=
  fun m g _ => (θ_run Reference14Ideal.defs _ _).mono
    (fun r h => ⟨fun c => (h c).2, sem_eq_zero_of_no_sems (by decide) r.2⟩) (Reference14Ideal.Value.run m g)

section
open Reference14Ideal.Read

/-- Equal arguments have equal results. -/
theorem same2 {x0 x1 y0 y1} (h0 : x0 = y0) (h1 : x1 = y1) :
    val_main_v16 (F := Ideal) x0 x1 = val_main_v16 (F := Ideal) y0 y1 := by rw [h0, h1]
end

set_option maxHeartbeats 2000000 in
theorem algebraic : algebraic_Kernel14Ideal_Reference14Ideal (hKernel14Ideal := Kernel14Ideal.Gen.facts)
    (hReference14Ideal := Reference14Ideal.Gen.facts) := by
  pair_intro
  · run_from Kernel14Ideal.Gen.run_main m g
    · exact Kernel14Ideal.Gen.V_main_arg0 m c
  · refine (θ_run Reference14Ideal.defs _ _).mono (fun r h c => ?_) (Reference14Ideal.Value.run m' g')
    have a0 := (hagree c).1
    have a1 := (hagree c).2
    have r2 := (h c).1.trans (Reference14Ideal.Read.val_main_v16_eq _ _)
    have k := (h c).2
    clear h
    have e2 := same2 a0 a1
    have l2 := r2.trans e2
    exact ⟨l2.trans (final2 m c).symm, k⟩

end Cert.RmsFwd
-- ==== Proof.ResFwd.Value.lean ====
/- The forward call of the residual and the post-norm: the array which the kernel's run leaves is the reference's. -/
module

public import proofs.«01_k».proof.Defs
public import proofs.«01_k».proof.Proof.Gen.Kernel15.Frame
public import proofs.«01_k».proof.Proof.Gen.Reference15Ideal
public import proofs.«01_k».proof.Proof.Gen.Reference15Ideal.Run
public import Idealize.ShloMosaic.Lib.Claim
public import Idealize.ShloMosaic.Lib.Quiescent
public import proofs.«01_k».proof.Proof.Gen.Kernel15Ideal.Value
public import proofs.«01_k».proof.Proof.Gen.Reference15Ideal.Read
public import proofs.«01_k».proof.Proof.Rows.Pad
public import proofs.«01_k».proof.Proof.Rows.Norm

@[expose] public section

set_option maxRecDepth 16384

noncomputable section

open Idealize.ShloMosaic Idealize.ShloMosaic.TcCoe Idealize.SL.Sem
open Idealize.ShloMosaic.Pipeline (Dat)
open Cert.Kernel15Ideal Cert.Kernel15Ideal.Gen Cert.Rows

namespace Cert.ResFwd

/-- The norm's small number. -/
abbrev small : EReal := Ideal.ofBits .f32 0x358637BD#32

/-- A residual's entry and the entry of the normalised row. -/
def out (h f : ℕ → ℕ → EReal) (g : ℕ → EReal) (r l : ℕ) : EReal := h r l + f r l * scale f small r * g l

open Reference15Ideal.Read in
theorem ref_at (h x : FVec Ideal Reference15Ideal.S1x2064x1024 .f32) (g : FVec Ideal Reference15Ideal.S1x1024 .f32) (s : Fin 2176) (l : Fin 1024) :
    val_main_v16 (F := Ideal) h x g (ix2 s l) = out (rows h) (rows x) (cols g) s.val l.val := by
  have e : val_main_v16 (F := Ideal) h x g (ix2 s l) = if k : s.val < 2064 then h (ix3 0 ⟨s.val, k⟩ l) + x (ix3 0 ⟨s.val, k⟩ l) * Ideal.rsqrt (Ideal.div
      (Ideal.ofBits .f32 0x00000000#32 + ∑ a : Fin 1024, x (ix3 0 ⟨s.val, k⟩ a) * x (ix3 0 ⟨s.val, k⟩ a)) width + small) * g (ix2 0 l)
      else FloatOps.sitofp (F := Ideal) .f32 (0#32 : BitVec 32) := by
    pointwise [val_main_v16, val_main_v15, val_main_call0_v0, val_main_c, val_main_v14, val_main_v13, val_main_v12, val_main_v11, val_main_v10, val_main_v9,
      val_main_v8, val_main_v7, val_main_v6, val_main_cst_1, val_main_v5, val_main_v4, val_main_cst_0, val_main_v3, val_main_v2, val_main_cst, val_main_v1,
      val_main_v0]
  rw [e, sitofp_zero, out]
  by_cases hs : s.val < 2064
  · rw [dif_pos hs, zero_f32, zero_add, cols_at g, scale, ms]
    simp only [rows_at x, rows_at h]
  · rw [dif_neg hs, rows_out x (by omega), rows_out h (by omega), zero_mul, zero_mul, add_zero]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ t.val < 8 :=
  (by decide +kernel : ∀ t : Fin grid0.N, _)

/-- The arguments. -/
abbrev h := m ((c : Thread nD τ).loc main_arg0)
abbrev f := m ((c : Thread nD τ).loc main_arg1)
abbrev g := m ((c : Thread nD τ).loc main_arg2)

theorem V_h (r : Fin 2176) (l : Fin 1024) : Gen.V m c main_v1 (ix2 r l) = rows (h m c) r.val l.val := by
  refine Eq.trans (congrFun ?_ _) (pad_at (h m c) shapeCasts_S1x2064x1024_S2064x1024 pads_S2064x1024_S2176x1024_01120_000 h_S_ r l)
  unfold Gen.V
  simp only [hostOps0, hostOps0_1, hostOps0_2, hostOps0_3, List.flatten_cons, List.flatten_nil, List.cons_append, List.nil_append, List.append_nil]
  entry_read
  rfl

theorem V_f (r : Fin 2176) (l : Fin 1024) : Gen.V m c main_v3 (ix2 r l) = rows (f m c) r.val l.val := by
  refine Eq.trans (congrFun ?_ _) (pad_at (f m c) shapeCasts_S1x2064x1024_S2064x1024 pads_S2064x1024_S2176x1024_01120_000 h_S_ r l)
  unfold Gen.V
  simp only [hostOps0, hostOps0_1, hostOps0_2, hostOps0_3, List.flatten_cons, List.flatten_nil, List.cons_append, List.nil_append, List.append_nil]
  entry_read
  rfl

theorem blk0 (t : Fin cfg0.N) (j : S272x1024.Idx) : iblk m c 0 t j = rows (h m c) (272 * t.val + (j 0).val) ((j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v1) (?_ : _ = ix2 ⟨272 * t.val + (j 0).val, by omega⟩ ⟨(j 1).val, by omega⟩)).trans (V_h m c _ _)
  blk_ext [idx t]

theorem blk1 (t : Fin cfg0.N) (j : S272x1024.Idx) : iblk m c 1 t j = rows (f m c) (272 * t.val + (j 0).val) ((j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v3) (?_ : _ = ix2 ⟨272 * t.val + (j 0).val, by omega⟩ ⟨(j 1).val, by omega⟩)).trans (V_f m c _ _)
  blk_ext [idx t]

theorem blk2 (t : Fin cfg0.N) (j : S1x1024.Idx) : iblk m c 2 t j = cols (g m c) ((j 1).val) := by
  have h1 : (j 1).val < 1024 := (j 1).isLt
  unfold iblk
  blk_simp [idx t]
  refine (congrArg (Gen.V m c main_arg2) (?_ : _ = ix2 (0 : Fin 1) ⟨(j 1).val, by omega⟩)).trans ((congrFun (Gen.V_main_arg2 m c) _).trans (cols_at (g m c) _))
  blk_ext [idx t]

theorem final3 : (dats m 0 c).arrAt 3 (cfgs 0).N = Reference15Ideal.Read.val_main_v16 (F := Ideal) (h m c) (f m c) (g m c) := by
  have point : ∀ (t : Fin cfg0.N) (w : S272x1024.Idx), out0_3 (iblk m c 0 t) (iblk m c 1 t) (iblk m c 2 t) w = out (rows (h m c)) (rows (f m c)) (cols (g m c)) (272 * t.val + (w 0).val) (w 1).val := by
    intro t w
    unfold out0_3
    canon_tiles x e
    pointwise [k0_pay1]
    simp only [blk0, blk1, blk2, e0, e1, out, scale, ms, Finset.univ_unique, Finset.sum_singleton]
    rfl
  refine (dats m 0 c).arrAt_eq_of_covers 3 _ (by decide +kernel) fun t hf w => ?_
  blk_simp
  rw [after0_3]
  have ht : t.val < 8 := by have := idx t; tauto
  have h0 : (w 0).val < 272 := (w 0).isLt
  have h1 : (w 1).val < 1024 := (w 1).isLt
  refine (point t w).trans ((congrArg _ (?_ : _ = ix2 ⟨272 * t.val + (w 0).val, by omega⟩ ⟨(w 1).val, h1⟩)).trans (ref_at _ _ _ _ _)).symm
  blk_ext [idx t]

theorem frame : quiescent_Kernel15 (hKernel15 := Kernel15.Gen.facts) :=
  fun m g _ => Kernel15.Gen.frame m g

theorem frame_ideal : quiescent_Kernel15Ideal (hKernel15Ideal := Kernel15Ideal.Gen.facts) :=
  fun m g _ => Kernel15Ideal.Gen.frame m g

theorem frame_ref : quiescent_Reference15Ideal (hReference15Ideal := Reference15Ideal.Gen.facts) :=
  fun m g _ => (θ_run Reference15Ideal.defs _ _).mono
    (fun r h => ⟨fun c => (h c).2, sem_eq_zero_of_no_sems (by decide) r.2⟩) (Reference15Ideal.Value.run m g)

section
open Reference15Ideal.Read

/-- Equal arguments have equal results. -/
theorem same3 {x0 x1 x2 y0 y1 y2} (h0 : x0 = y0) (h1 : x1 = y1) (h2 : x2 = y2) :
    val_main_v16 (F := Ideal) x0 x1 x2 = val_main_v16 (F := Ideal) y0 y1 y2 := by rw [h0, h1, h2]
end

set_option maxHeartbeats 2000000 in
theorem algebraic : algebraic_Kernel15Ideal_Reference15Ideal (hKernel15Ideal := Kernel15Ideal.Gen.facts)
    (hReference15Ideal := Reference15Ideal.Gen.facts) := by
  pair_intro
  · run_from Kernel15Ideal.Gen.run_main m g
    · exact Kernel15Ideal.Gen.V_main_arg0 m c
    · exact Kernel15Ideal.Gen.V_main_arg1 m c
  · refine (θ_run Reference15Ideal.defs _ _).mono (fun r h c => ?_) (Reference15Ideal.Value.run m' g')
    have a0 := (hagree c).1
    have a1 := (hagree c).2.1
    have a2 := (hagree c).2.2
    have r3 := (h c).1.trans (Reference15Ideal.Read.val_main_v16_eq _ _ _)
    have k := (h c).2
    clear h
    have e3 := same3 a0 a1 a2
    have l3 := r3.trans e3
    exact ⟨l3.trans (final3 m c).symm, k⟩

end Cert.ResFwd
-- ==== Proof.MixFwd.Value.lean ====
/- The forward call of the gate which mixes the two branches: the array which the kernel's run leaves is the reference's. -/
module

public import proofs.«01_k».proof.Defs
public import proofs.«01_k».proof.Proof.Gen.Kernel16.Frame
public import proofs.«01_k».proof.Proof.Gen.Reference16Ideal
public import proofs.«01_k».proof.Proof.Gen.Reference16Ideal.Run
public import Idealize.ShloMosaic.Lib.Claim
public import Idealize.ShloMosaic.Lib.Quiescent
public import proofs.«01_k».proof.Proof.Gen.Kernel16Ideal.Value
public import proofs.«01_k».proof.Proof.Gen.Reference16Ideal.Read
public import proofs.«01_k».proof.Proof.Rows.Pad

@[expose] public section

set_option maxRecDepth 16384

noncomputable section

open Idealize.ShloMosaic Idealize.ShloMosaic.TcCoe Idealize.SL.Sem
open Idealize.ShloMosaic.Pipeline (Dat)
open Cert.Kernel16Ideal Cert.Kernel16Ideal.Gen Cert.Rows

namespace Cert.MixFwd

/-- The two branches, each times its gate. -/
def out (p y z : ℕ → ℕ → EReal) (b : ℕ → EReal) (r l : ℕ) : EReal := sg (p r (5120 + l) + b l) * y r l + sg (p r (6144 + l) + b (1024 + l)) * z r l

open Reference16Ideal.Read in
theorem ref_at (p : FVec Ideal Reference16Ideal.S1x2064x7168 .f32) (y z : FVec Ideal Reference16Ideal.S1x2064x1024 .f32)
    (b : FVec Ideal Reference16Ideal.S1x2048 .f32) (s : Fin 2176) (l : Fin 1024) :
    val_main_v18 (F := Ideal) p y z b (ix2 s l) = out (rows p) (rows y) (rows z) (cols b) s.val l.val := by
  have e : val_main_v18 (F := Ideal) p y z b (ix2 s l) = if h : s.val < 2064 then
      sg (p (ix3 0 ⟨s.val, h⟩ ⟨5120 + l.val, by omega⟩) + b (ix2 0 ⟨l.val, by omega⟩)) * y (ix3 0 ⟨s.val, h⟩ l)
        + sg (p (ix3 0 ⟨s.val, h⟩ ⟨5120 + (1024 + l.val), by omega⟩) + b (ix2 0 ⟨1024 + l.val, by omega⟩)) * z (ix3 0 ⟨s.val, h⟩ l)
      else FloatOps.sitofp (F := Ideal) .f32 (0#32 : BitVec 32) := by
    pointwise [val_main_v18, val_main_v17, val_main_call0_v0, val_main_c, val_main_v16, val_main_v15, val_main_v14, val_main_v13, val_main_v12, val_main_v11,
      val_main_v10, val_main_v9, val_main_cst_0, val_main_v8, val_main_v7, val_main_cst, val_main_v6, val_main_v5, val_main_v4, val_main_v3, val_main_v2,
      val_main_v1, val_main_v0]
  rw [e, sitofp_zero, out]
  by_cases hs : s.val < 2064
  · rw [dif_pos hs]
    simp only [rows_at p, rows_at y, rows_at z, cols_at b]
    rw [show 5120 + (1024 + l.val) = 6144 + l.val by omega]
  · rw [dif_neg hs, rows_out y (by omega), rows_out z (by omega), mul_zero, mul_zero, add_zero]

variable (m : (ℓ : Loc nD τ sig) → Buf (Elt Ideal) ℓ) (c : Dev nD)

theorem idx : ∀ t : Fin cfg0.N, win0_0.index t = ![t.val, 5] ∧ win0_1.index t = ![t.val, 6] ∧ win0_2.index t = ![t.val, 0]
    ∧ win0_3.index t = ![t.val, 0] ∧ win0_4.index t = ![0, 0] ∧ win0_5.index t = ![0, 1]
    ∧ win0_6.index t = ![t.val, 0] ∧ t.val < 8 :=
  (by decide +kernel : ∀ t : Fin grid0.N, _)

/-- The arguments. -/
abbrev p := m ((c : Thread nD τ).loc main_arg0)
abbrev y := m ((c : Thread nD τ).loc main_arg1)
abbrev z := m ((c : Thread nD τ).loc main_arg2)
abbrev b := m ((c : Thread nD τ).loc main_arg3)

theorem V_p (r : Fin 2176) (l : Fin 7168) : Gen.V m c main_v1 (ix2 r l) = rows (p m c) r.val l.val := by
  refine Eq.trans (congrFun ?_ _) (pad_at (p m c) shapeCasts_S1x2064x7168_S2064x7168 pads_S2064x7168_S2176x7168_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

theorem V_y (r : Fin 2176) (l : Fin 1024) : Gen.V m c main_v3 (ix2 r l) = rows (y m c) r.val l.val := by
  refine Eq.trans (congrFun ?_ _) (pad_at (y m c) shapeCasts_S1x2064x1024_S2064x1024 pads_S2064x1024_S2176x1024_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

theorem V_z (r : Fin 2176) (l : Fin 1024) : Gen.V m c main_v5 (ix2 r l) = rows (z m c) r.val l.val := by
  refine Eq.trans (congrFun ?_ _) (pad_at (z m c) shapeCasts_S1x2064x1024_S2064x1024 pads_S2064x1024_S2176x1024_01120_000 h_S_ r l)
  unfold Gen.V
  simp only [hostOps0, hostOps0_1, hostOps0_2, hostOps0_3, hostOps0_4, hostOps0_5, List.flatten_cons, List.flatten_nil, List.cons_append, List.nil_append, List.append_nil]
  entry_read
  rfl

theorem blk0 (t : Fin cfg0.N) (j : S272x1024.Idx) : iblk m c 0 t j = rows (p m c) (272 * t.val + (j 0).val) (5120 + (j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v1) (?_ : _ = ix2 ⟨272 * t.val + (j 0).val, by omega⟩ ⟨5120 + (j 1).val, by omega⟩)).trans (V_p m c _ _)
  blk_ext [idx t]

theorem blk1 (t : Fin cfg0.N) (j : S272x1024.Idx) : iblk m c 1 t j = rows (p m c) (272 * t.val + (j 0).val) (6144 + (j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v1) (?_ : _ = ix2 ⟨272 * t.val + (j 0).val, by omega⟩ ⟨6144 + (j 1).val, by omega⟩)).trans (V_p m c _ _)
  blk_ext [idx t]

theorem blk2 (t : Fin cfg0.N) (j : S272x1024.Idx) : iblk m c 2 t j = rows (y m c) (272 * t.val + (j 0).val) ((j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v3) (?_ : _ = ix2 ⟨272 * t.val + (j 0).val, by omega⟩ ⟨(j 1).val, by omega⟩)).trans (V_y m c _ _)
  blk_ext [idx t]

theorem blk3 (t : Fin cfg0.N) (j : S272x1024.Idx) : iblk m c 3 t j = rows (z m c) (272 * t.val + (j 0).val) ((j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v5) (?_ : _ = ix2 ⟨272 * t.val + (j 0).val, by omega⟩ ⟨(j 1).val, by omega⟩)).trans (V_z m c _ _)
  blk_ext [idx t]

theorem blk4 (t : Fin cfg0.N) (j : S1x1024.Idx) : iblk m c 4 t j = cols (b m c) ((j 1).val) := by
  have h1 : (j 1).val < 1024 := (j 1).isLt
  unfold iblk
  blk_simp [idx t]
  refine (congrArg (Gen.V m c main_arg3) (?_ : _ = ix2 (0 : Fin 1) ⟨(j 1).val, by omega⟩)).trans ((congrFun (Gen.V_main_arg3 m c) _).trans (cols_at (b m c) _))
  blk_ext [idx t]

theorem blk5 (t : Fin cfg0.N) (j : S1x1024.Idx) : iblk m c 5 t j = cols (b m c) (1024 + (j 1).val) := by
  have h1 : (j 1).val < 1024 := (j 1).isLt
  unfold iblk
  blk_simp [idx t]
  refine (congrArg (Gen.V m c main_arg3) (?_ : _ = ix2 (0 : Fin 1) ⟨1024 + (j 1).val, by omega⟩)).trans ((congrFun (Gen.V_main_arg3 m c) _).trans (cols_at (b m c) _))
  blk_ext [idx t]

theorem final6 : (dats m 0 c).arrAt 6 (cfgs 0).N = Reference16Ideal.Read.val_main_v18 (F := Ideal) (p m c) (y m c) (z m c) (b m c) := by
  have point : ∀ (t : Fin cfg0.N) (w : S272x1024.Idx), out0_6 (iblk m c 0 t) (iblk m c 1 t) (iblk m c 2 t) (iblk m c 3 t) (iblk m c 4 t) (iblk m c 5 t) w = out (rows (p m c)) (rows (y m c)) (rows (z m c)) (cols (b m c)) (272 * t.val + (w 0).val) (w 1).val := by
    intro t w
    unfold out0_6
    canon_tiles x e
    pointwise [k0_pay1]
    simp only [sg_eq, blk0, blk1, blk2, blk3, blk4, blk5, e0, e1, out]
    rfl
  refine (dats m 0 c).arrAt_eq_of_covers 6 _ (by decide +kernel) fun t hf w => ?_
  blk_simp
  rw [after0_6]
  have ht : t.val < 8 := by have := idx t; tauto
  have h0 : (w 0).val < 272 := (w 0).isLt
  have h1 : (w 1).val < 1024 := (w 1).isLt
  refine (point t w).trans ((congrArg _ (?_ : _ = ix2 ⟨272 * t.val + (w 0).val, by omega⟩ ⟨(w 1).val, h1⟩)).trans (ref_at _ _ _ _ _ _)).symm
  blk_ext [idx t]

theorem frame : quiescent_Kernel16 (hKernel16 := Kernel16.Gen.facts) :=
  fun m g _ => Kernel16.Gen.frame m g

theorem frame_ideal : quiescent_Kernel16Ideal (hKernel16Ideal := Kernel16Ideal.Gen.facts) :=
  fun m g _ => Kernel16Ideal.Gen.frame m g

theorem frame_ref : quiescent_Reference16Ideal (hReference16Ideal := Reference16Ideal.Gen.facts) :=
  fun m g _ => (θ_run Reference16Ideal.defs _ _).mono
    (fun r h => ⟨fun c => (h c).2, sem_eq_zero_of_no_sems (by decide) r.2⟩) (Reference16Ideal.Value.run m g)

section
open Reference16Ideal.Read

/-- Equal arguments have equal results. -/
theorem same6 {x0 x1 x2 x3 y0 y1 y2 y3} (h0 : x0 = y0) (h1 : x1 = y1) (h2 : x2 = y2) (h3 : x3 = y3) :
    val_main_v18 (F := Ideal) x0 x1 x2 x3 = val_main_v18 (F := Ideal) y0 y1 y2 y3 := by rw [h0, h1, h2, h3]
end

set_option maxHeartbeats 2000000 in
theorem algebraic : algebraic_Kernel16Ideal_Reference16Ideal (hKernel16Ideal := Kernel16Ideal.Gen.facts)
    (hReference16Ideal := Reference16Ideal.Gen.facts) := by
  pair_intro
  · run_from Kernel16Ideal.Gen.run_main m g
    · exact Kernel16Ideal.Gen.V_main_arg0 m c
    · exact Kernel16Ideal.Gen.V_main_arg1 m c
    · exact Kernel16Ideal.Gen.V_main_arg2 m c
  · refine (θ_run Reference16Ideal.defs _ _).mono (fun r h c => ?_) (Reference16Ideal.Value.run m' g')
    have a0 := (hagree c).1
    have a1 := (hagree c).2.1
    have a2 := (hagree c).2.2.1
    have a3 := (hagree c).2.2.2
    have r6 := (h c).1.trans (Reference16Ideal.Read.val_main_v18_eq _ _ _ _)
    have k := (h c).2
    clear h
    have e6 := same6 a0 a1 a2 a3
    have l6 := r6.trans e6
    exact ⟨l6.trans (final6 m c).symm, k⟩

end Cert.MixFwd
-- ==== Proof.ConvPostFwd.Value.lean ====
/- The forward call of the convolution's bias, norm and activation: the array which the kernel's run leaves is the reference's. -/
module

public import proofs.«01_k».proof.Defs
public import proofs.«01_k».proof.Proof.Gen.Kernel17.Frame
public import proofs.«01_k».proof.Proof.Gen.Reference17Ideal
public import proofs.«01_k».proof.Proof.Gen.Reference17Ideal.Run
public import Idealize.ShloMosaic.Lib.Claim
public import Idealize.ShloMosaic.Lib.Quiescent
public import proofs.«01_k».proof.Proof.Gen.Kernel17Ideal.Value
public import proofs.«01_k».proof.Proof.Gen.Reference17Ideal.Read
public import proofs.«01_k».proof.Proof.Rows.Pad
public import proofs.«01_k».proof.Proof.Rows.Norm

@[expose] public section

set_option maxRecDepth 16384

noncomputable section

open Idealize.ShloMosaic Idealize.ShloMosaic.TcCoe Idealize.SL.Sem
open Idealize.ShloMosaic.Pipeline (Dat)
open Cert.Kernel17Ideal Cert.Kernel17Ideal.Gen Cert.Rows

namespace Cert.ConvPostFwd

/-- The norm's small number. -/
abbrev small : EReal := Ideal.ofBits .f32 0x3727C5AC#32

/-- An entry with its bias, less its row's mean. -/
def cent (x : ℕ → ℕ → EReal) (b : ℕ → EReal) (r l : ℕ) : EReal := x r l + b l - Ideal.div (∑ a : Fin 1024, (x r a.val + b a.val)) width

/-- The same after the norm. -/
def normed (x : ℕ → ℕ → EReal) (b g k : ℕ → EReal) (r l : ℕ) : EReal := cent x b r l * scale (cent x b) small r * g l + k l

/-- The activation. -/
def out (x : ℕ → ℕ → EReal) (b g k : ℕ → EReal) (r l : ℕ) : EReal := normed x b g k r l * sg (normed x b g k r l)

section
open Reference17Ideal Reference17Ideal.Gen Reference17Ideal.Read

variable (x : FVec Ideal Reference17Ideal.S1x2064x1024 .f32) (b g k : FVec Ideal Reference17Ideal.S1x1024 .f32)

/-- The reference's rows with their padding. -/
theorem ref_in (s : Fin 2176) (l : Fin 1024) : val_main_v1 (F := Ideal) x (ix2 s l) = rows x s.val l.val :=
  pad_at x _ _ _ s l

/-- The entry with its bias. -/
theorem ref_sum (s : Fin 2176) (l : Fin 1024) : val_main_v5 (F := Ideal) x b (ix2 s l) = rows x s.val l.val + cols b l.val := by
  have e : val_main_v5 (F := Ideal) x b (ix2 s l) = val_main_v1 (F := Ideal) x (ix2 s l) + b (ix2 0 l) := by
    pointwise [val_main_v5, val_main_v4, val_main_v3, val_main_v2]
  rw [e, ref_in, cols_at b]

/-- The same less the mean. -/
theorem ref_cent (s : Fin 2176) (l : Fin 1024) : val_main_v13 (F := Ideal) x b (ix2 s l) = cent (rows x) (cols b) s.val l.val := by
  have e : val_main_v13 (F := Ideal) x b (ix2 s l) = val_main_v5 (F := Ideal) x b (ix2 s l)
      - Ideal.div (Ideal.ofBits .f32 0x00000000#32 + ∑ a : Fin 1024, val_main_v5 (F := Ideal) x b (ix2 s a)) width := by
    pointwise [val_main_v13, val_main_v12, val_main_v11, val_main_v10, val_main_cst_0, val_main_v9, val_main_v8, val_main_cst]
  rw [e, zero_f32, zero_add, cent]
  simp only [ref_sum]

/-- The norm's output. -/
theorem ref_norm (s : Fin 2176) (l : Fin 1024) : val_main_v29 (F := Ideal) x b g k (ix2 s l) = normed (rows x) (cols b) (cols g) (cols k) s.val l.val := by
  have e : val_main_v29 (F := Ideal) x b g k (ix2 s l) = val_main_v13 (F := Ideal) x b (ix2 s l) * Ideal.rsqrt (Ideal.div (Ideal.ofBits .f32 0x00000000#32
      + ∑ a : Fin 1024, val_main_v13 (F := Ideal) x b (ix2 s a) * val_main_v13 (F := Ideal) x b (ix2 s a)) width + small) * g (ix2 0 l) + k (ix2 0 l) := by
    pointwise [val_main_v29, val_main_v28, val_main_v27, val_main_v26, val_main_v25, val_main_v24, val_main_v23, val_main_v22, val_main_v21, val_main_v20,
      val_main_v19, val_main_cst_3, val_main_v18, val_main_v17, val_main_cst_2, val_main_v16, val_main_v15, val_main_cst_1, val_main_v14, val_main_v7,
      val_main_v6]
  rw [e, zero_f32, zero_add, normed, scale, ms, cols_at g, cols_at k]
  simp only [ref_cent]

theorem ref_at (s : Fin 2176) (l : Fin 1024) : val_main_v31 (F := Ideal) x b g k (ix2 s l) = out (rows x) (cols b) (cols g) (cols k) s.val l.val := by
  have e : val_main_v31 (F := Ideal) x b g k (ix2 s l) = val_main_v29 (F := Ideal) x b g k (ix2 s l) * sg (val_main_v29 (F := Ideal) x b g k (ix2 s l)) := by
    pointwise [val_main_v31, val_main_v30, val_main_call1_v5, val_main_call1_v4, val_main_call1_cst_0, val_main_call1_v3, val_main_call1_v2,
      val_main_call1_cst, val_main_call1_v1, val_main_call1_v0]
  rw [e, ref_norm, out]
end

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ t.val < 8 :=
  (by decide +kernel : ∀ t : Fin grid0.N, _)

/-- The arguments. -/
abbrev x := m ((c : Thread nD τ).loc main_arg0)
abbrev b := m ((c : Thread nD τ).loc main_arg1)
abbrev g := m ((c : Thread nD τ).loc main_arg2)
abbrev k := m ((c : Thread nD τ).loc main_arg3)

theorem V_x (r : Fin 2176) (l : Fin 1024) : Gen.V m c main_v1 (ix2 r l) = rows (x m c) r.val l.val := by
  refine Eq.trans (congrFun ?_ _) (pad_at (x m c) shapeCasts_S1x2064x1024_S2064x1024 pads_S2064x1024_S2176x1024_01120_000 h_S_ r l)
  unfold Gen.V
  simp only [hostOps0, hostOps0_1, List.flatten_cons, List.flatten_nil, List.cons_append, List.nil_append, List.append_nil]
  entry_read
  rfl

theorem blk0 (t : Fin cfg0.N) (j : S272x1024.Idx) : iblk m c 0 t j = rows (x m c) (272 * t.val + (j 0).val) ((j 1).val) := by
  have h0 : (j 0).val < 272 := (j 0).isLt
  have h1 : (j 1).val < 1024 := (j 1).isLt
  have ht : t.val < 8 := by have := idx t; tauto
  unfold iblk
  blk_simp [idx t]
  refine (congrArg (Gen.V m c main_v1) (?_ : _ = ix2 ⟨272 * t.val + (j 0).val, by omega⟩ ⟨(j 1).val, by omega⟩)).trans (V_x m c _ _)
  blk_ext [idx t]

theorem blk1 (t : Fin cfg0.N) (j : S1x1024.Idx) : iblk m c 1 t j = cols (b m c) ((j 1).val) := by
  have h1 : (j 1).val < 1024 := (j 1).isLt
  unfold iblk
  blk_simp [idx t]
  refine (congrArg (Gen.V m c main_arg1) (?_ : _ = ix2 (0 : Fin 1) ⟨(j 1).val, by omega⟩)).trans ((congrFun (Gen.V_main_arg1 m c) _).trans (cols_at (b m c) _))
  blk_ext [idx t]

theorem blk2 (t : Fin cfg0.N) (j : S1x1024.Idx) : iblk m c 2 t j = cols (g m c) ((j 1).val) := by
  have h1 : (j 1).val < 1024 := (j 1).isLt
  unfold iblk
  blk_simp [idx t]
  refine (congrArg (Gen.V m c main_arg2) (?_ : _ = ix2 (0 : Fin 1) ⟨(j 1).val, by omega⟩)).trans ((congrFun (Gen.V_main_arg2 m c) _).trans (cols_at (g m c) _))
  blk_ext [idx t]

theorem blk3 (t : Fin cfg0.N) (j : S1x1024.Idx) : iblk m c 3 t j = cols (k m c) ((j 1).val) := by
  have h1 : (j 1).val < 1024 := (j 1).isLt
  unfold iblk
  blk_simp [idx t]
  refine (congrArg (Gen.V m c main_arg3) (?_ : _ = ix2 (0 : Fin 1) ⟨(j 1).val, by omega⟩)).trans ((congrFun (Gen.V_main_arg3 m c) _).trans (cols_at (k m c) _))
  blk_ext [idx t]

theorem final4 : (dats m 0 c).arrAt 4 (cfgs 0).N = Reference17Ideal.Read.val_main_v31 (F := Ideal) (x m c) (b m c) (g m c) (k m c) := by
  have point : ∀ (t : Fin cfg0.N) (w : S272x1024.Idx), out0_4 (iblk m c 0 t) (iblk m c 1 t) (iblk m c 2 t) (iblk m c 3 t) w = out (rows (x m c)) (cols (b m c)) (cols (g m c)) (cols (k m c)) (272 * t.val + (w 0).val) (w 1).val := by
    intro t w
    unfold out0_4
    canon_tiles x e
    pointwise [k0_pay1]
    simp only [sg_eq, blk0, blk1, blk2, blk3, e0, e1, out, normed, scale, ms, cent, Finset.univ_unique, Finset.sum_singleton]
    rfl
  refine (dats m 0 c).arrAt_eq_of_covers 4 _ (by decide +kernel) fun t hf w => ?_
  blk_simp
  rw [after0_4]
  have ht : t.val < 8 := by have := idx t; tauto
  have h0 : (w 0).val < 272 := (w 0).isLt
  have h1 : (w 1).val < 1024 := (w 1).isLt
  refine (point t w).trans ((congrArg _ (?_ : _ = ix2 ⟨272 * t.val + (w 0).val, by omega⟩ ⟨(w 1).val, h1⟩)).trans (ref_at _ _ _ _ _ _)).symm
  blk_ext [idx t]

theorem frame : quiescent_Kernel17 (hKernel17 := Kernel17.Gen.facts) :=
  fun m g _ => Kernel17.Gen.frame m g

theorem frame_ideal : quiescent_Kernel17Ideal (hKernel17Ideal := Kernel17Ideal.Gen.facts) :=
  fun m g _ => Kernel17Ideal.Gen.frame m g

theorem frame_ref : quiescent_Reference17Ideal (hReference17Ideal := Reference17Ideal.Gen.facts) :=
  fun m g _ => (θ_run Reference17Ideal.defs _ _).mono
    (fun r h => ⟨fun c => (h c).2, sem_eq_zero_of_no_sems (by decide) r.2⟩) (Reference17Ideal.Value.run m g)

section
open Reference17Ideal.Read

/-- Equal arguments have equal results. -/
theorem same4 {x0 x1 x2 x3 y0 y1 y2 y3} (h0 : x0 = y0) (h1 : x1 = y1) (h2 : x2 = y2) (h3 : x3 = y3) :
    val_main_v31 (F := Ideal) x0 x1 x2 x3 = val_main_v31 (F := Ideal) y0 y1 y2 y3 := by rw [h0, h1, h2, h3]
end

set_option maxHeartbeats 2000000 in
theorem algebraic : algebraic_Kernel17Ideal_Reference17Ideal (hKernel17Ideal := Kernel17Ideal.Gen.facts)
    (hReference17Ideal := Reference17Ideal.Gen.facts) := by
  pair_intro
  · run_from Kernel17Ideal.Gen.run_main m g
    · exact Kernel17Ideal.Gen.V_main_arg0 m c
  · refine (θ_run Reference17Ideal.defs _ _).mono (fun r h c => ?_) (Reference17Ideal.Value.run m' g')
    have a0 := (hagree c).1
    have a1 := (hagree c).2.1
    have a2 := (hagree c).2.2.1
    have a3 := (hagree c).2.2.2
    have r4 := (h c).1.trans (Reference17Ideal.Read.val_main_v31_eq _ _)
    have k := (h c).2
    clear h
    have e4 := same4 a0 a1 a2 a3
    have l4 := r4.trans e4
    exact ⟨l4.trans (final4 m c).symm, k⟩

end Cert.ConvPostFwd
-- ==== Proof.ConvFwd.Block.lean ====
/- What the convolution's call leaves in its block: every row a sum over the taps. -/
module

public import proofs.«01_k».proof.Proof.Gen.Kernel18Ideal.Value
public import proofs.«01_k».proof.Proof.Conv.Taps
public import Idealize.ShloMosaic.Lib.WritesUnit

@[expose] public section

set_option maxRecDepth 16384

noncomputable section

open Idealize.ShloMosaic Idealize.ShloMosaic.TcCoe Idealize.SL.Sem
open Cert.Kernel18Ideal Cert.Kernel18Ideal.Gen Cert.Conv

namespace Cert.ConvFwd

/-- One row of the result: the taps, each at its own row of the padded operand, whose first two rows no tap meets. -/
def conv (x w : ℕ → ℕ → EReal) (a l : ℕ) : EReal := ∑ j ∈ Finset.range 31, x (a + (2 + j)) l * w j l

variable (𝒱 : Variants) (c : Dev nD) (bd : Option 𝒱.V) (i : grid0.Coords)
  (arg1 : Memref sig .tc .vmem S2176x128 .f32) (harg1 : arg1.IsWhole)
  (arg2 : Memref sig .tc .vmem S31x128 .f32) (harg2 : arg2.IsWhole)
  (arg3 : Memref sig .tc .vmem S2176x128 .f32) (harg3 : arg3.IsWhole)
  (arg4 : Memref sig .tc .vmem S2216x128 .f32) (harg4 : arg4.IsWhole)

theorem off1_eq : ∀ k : Fin k0_t1_loop.trips, k0_off1 k = ![128 * k.val, 0] := by decide +kernel

theorem off2_eq : ∀ k : Fin k0_t1_loop.trips, k0_off2 k = ![128 * k.val, 0] := by decide +kernel

section Loop

variable (X_arg2 : BufTy.Contents (Elt Ideal) arg2.view.ty) (X_arg4 : BufTy.Contents (Elt Ideal) arg4.view.ty) {x w : ℕ → ℕ → EReal}
  (hw : ∀ y, arg2.view.read (Elt Ideal) X_arg2 y = w (y 0).val (y 1).val) (hx : ∀ y, arg4.view.read (Elt Ideal) X_arg4 y = x (y 0).val (y 1).val)

include hw hx

/-- One trip stores its rows of the result. -/
theorem trip (k : Fin k0_t1_loop.trips) :
    ∀ p ∈ tripL_k0_t1 (F := Ideal) 𝒱 c bd i arg1 harg1 arg2 harg2 arg3 harg3 arg4 harg4 X_arg2 X_arg4 k,
      ∀ z : p.1.shape.Idx, p.2 z = conv x w ((p.1.emb z) 0).val ((p.1.emb z) 1).val := by
  unfold tripL_k0_t1 trip_k0_t1
  dsimp only
  intro p hp
  rw [List.mem_singleton] at hp
  subst hp
  intro (z : S128x128.Idx)
  obtain ⟨r, l, rfl⟩ : ∃ (r l : Fin 128), z = ix2 r l := ⟨z 0, z 1, by funext a; match a with | 0 => rfl | 1 => rfl⟩
  refine (?_ : (k0_pay4 (F := Ideal) _ _ _ _ _ _ _ : S128x128.Idx → EReal) (ix2 r l) = conv x w (128 * k.val + r.val) l.val).trans ?_
  · simp only [trip_k0_t1.sl.r, trip_k0_t1.sl.r_1, trip_k0_t1.sl.r_2, trip_k0_t1.sl.r_3, trip_k0_t1.sl.r_4, trip_k0_t1.sl.r_5,
      trip_k0_t1.sl.r_6, trip_k0_t1.sl.r_7, trip_k0_t1.sl.r_8, trip_k0_t1.sl.r_9, trip_k0_t1.sl.r_10, trip_k0_t1.sl.r_11,
      trip_k0_t1.sl.r_12, trip_k0_t1.sl.r_13, trip_k0_t1.sl.r_14, trip_k0_t1.sl.r_15, trip_k0_t1.sl.r_16]
    pointwise [k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21]
    have hr := r.isLt
    simp only [load_at hw, load_off hx (off1_eq k)]
    simp (disch := omega) only [wrap, wrap0, zero_add, Nat.reduceSub, Nat.reduceAdd]
    have o := order2 fun j => x (128 * k.val + r.val + (2 + j)) l.val * w j l.val
    have e1 : ∀ a : ℕ, x (128 * k.val + (a + r.val)) = x (128 * k.val + r.val + a) := fun a => congrArg x (by omega)
    have e2 : ∀ a : ℕ, x (128 * k.val + (r.val + a)) = x (128 * k.val + r.val + a) := fun a => congrArg x (by omega)
    simp only [e1, e2, add_zero, Fin.val_zero] at o ⊢
    exact o
  · show _ = conv x w (k0_off2 k 0 + 1 * r.val) (k0_off2 k 1 + 1 * l.val)
    rw [off2_eq k, one_mul, one_mul]
    exact congrArg _ (Nat.zero_add _).symm

/-- Every piece that the loop stores is some trip's. -/
theorem pieces : ∀ n, ∀ p ∈ pb_k0_t1 (F := Ideal) 𝒱 c bd i arg1 harg1 arg2 harg2 arg3 harg3 arg4 harg4 X_arg2 X_arg4 n,
      ∀ z : p.1.shape.Idx, p.2 z = conv x w ((p.1.emb z) 0).val ((p.1.emb z) 1).val
  | 0, p, hp => absurd hp List.not_mem_nil
  | n + 1, p, hp => by
    rw [pb_k0_t1.eq_2] at hp
    unfold pb_k0_t1Step at hp
    split at hp
    · rcases List.mem_append.1 hp with h | h
      · exact trip 𝒱 c bd i arg1 harg1 arg2 harg2 arg3 harg3 arg4 harg4 X_arg2 X_arg4 hw hx _ p h
      · exact pieces n p h
    · exact pieces n p hp

end Loop

/-- The padded operand: zeros, the block's rows, then zeros. -/
def padded (x : ℕ → ℕ → EReal) (a l : ℕ) : EReal := if a < 32 then 0 else if a < 2208 then x (a - 32) l else 0

theorem scratch {x0 : Vec Ideal S2176x128 .f32} {x : ℕ → ℕ → EReal} (h0 : ∀ y, x0 y = x (y 0).val (y 1).val) (y : S2216x128.Idx) :
    arg4.view.read (Elt Ideal) (arg4.view.writes (Elt Ideal) arg4.view.junk (kernelRun0_A.sl.HS0_3 c arg1 harg1 x0)) y = padded x (y 0).val (y 1).val := by
  unfold kernelRun0_A.sl.HS0_3
  have hy : (y 0).val < 2216 := (y 0).isLt
  by_cases ha : (y 0).val < 32
  · rw [padded, if_pos ha]
    refine (View.read_writes_cons_rows_of_not_mem _ _ _ _ _ y rfl rfl (Or.inl (by show _ < 32; omega))).trans ?_
    refine (View.read_writes_cons_rows_of_not_mem _ _ _ _ _ y rfl rfl (Or.inl (by show _ < 2208; omega))).trans ?_
    refine (View.read_writes_cons_rows_of_mem _ _ _ _ _ y (ix2 (⟨(y 0).val, ha⟩ : Fin 32) (y 1)) rfl (Nat.zero_add _).symm rfl).trans ?_
    pointwise [k0_pay1]
  · rw [padded, if_neg ha]
    by_cases hb : (y 0).val < 2208
    · refine (View.read_writes_cons_rows_of_mem _ _ _ _ _ y (ix2 (⟨(y 0).val - 32, by omega⟩ : Fin 2176) (y 1)) rfl (by show _ = 32 + ((y 0).val - 32); omega) rfl).trans ?_
      rw [if_pos hb]
      pointwise [k0_pay3]
      refine (load_at (F := x) (fun z => by rw [harg1.read_unread]; exact h0 z) _ _ _).trans ?_
      rw [Nat.zero_add, Nat.zero_add]
    · rw [if_neg hb]
      refine (View.read_writes_cons_rows_of_not_mem _ _ _ _ _ y rfl rfl (Or.inr (by show 32 + 2176 ≤ _; omega))).trans ?_
      refine (View.read_writes_cons_rows_of_mem _ _ _ _ _ y (ix2 (⟨(y 0).val - 2208, by omega⟩ : Fin 8) (y 1)) rfl (by show _ = 2208 + ((y 0).val - 2208); omega) rfl).trans ?_
      pointwise [k0_pay2]

theorem block {x0 : Vec Ideal S2176x128 .f32} {x1 : Vec Ideal S31x128 .f32} {x w : ℕ → ℕ → EReal} (h0 : ∀ y, x0 y = x (y 0).val (y 1).val)
    (h1 : ∀ y, x1 y = w (y 0).val (y 1).val) (y : S2176x128.Idx) :
    out0_A_2 c i arg1 harg1 arg2 harg2 arg3 harg3 arg4 harg4 x0 x1 y = conv (padded x) w (y 0).val (y 1).val := by
  unfold out0_A_2
  refine View.read_writes_apply_of_pieces _ _ (fun y => conv (padded x) w (y 0).val (y 1).val) _ ?_ y (cover0_A_2 c i arg1 harg1 arg2 harg2 arg3 harg3 arg4 harg4 x0 x1 y)
  unfold kernelRun0_A
  dsimp only
  exact pieces Variants.none c none i arg1 harg1 arg2 harg2 arg3 harg3 arg4 harg4 _ _ (fun y => by rw [harg2.read_unread]; exact h1 y) (scratch c arg1 harg1 arg4 h0) _

end Cert.ConvFwd
-- ==== Proof.ConvFwd.Ref.lean ====
/- The reference's convolution, read at one row. -/
module

public import proofs.«01_k».proof.Proof.Gen.Reference18Ideal.Read
public import proofs.«01_k».proof.Proof.Conv.Taps

@[expose] public section

set_option maxRecDepth 16384

noncomputable section

open Idealize.ShloMosaic Idealize.ShloMosaic.TcCoe Idealize.SL.Sem

namespace Cert.ConvFwd

open Cert.Conv Cert.Reference18Ideal Cert.Reference18Ideal.Read

/-- The rows of the operand. -/
def inN (x0 : FVec Ideal S1x2064x1024 .f32) : ℕ → ℕ → EReal := rows 2064 1024 fun a l => x0 (ix3 0 a l)

/-- The taps. -/
def tapN (x1 : FVec Ideal S1x31x1024 .f32) : ℕ → ℕ → EReal := rows 31 1024 fun j l => x1 (ix3 0 j l)

/-- The operand after thirty rows of zeros. -/
def lead (x0 : FVec Ideal S1x2064x1024 .f32) (a l : ℕ) : EReal := if a < 30 then 0 else inN x0 (a - 30) l

theorem lead_at (x0 : FVec Ideal S1x2064x1024 .f32) (a : Fin 2206) (l : Fin 1024) : val_main_v2 (F := Ideal) x0 (ix3 0 a l) = lead x0 a.val l.val := by
  have e : val_main_v2 (F := Ideal) x0 (ix3 0 a l) = if h : a.val < 30 then 0
      else if h' : a.val - 30 < 2064 then x0 (ix3 0 ⟨a.val - 30, h'⟩ l) else FloatOps.sitofp (F := Ideal) .f32 (0#32 : BitVec 32) := by
    pointwise [val_main_v2, val_main_v1, val_main_cst, val_main_v0, val_main_call0_v0, val_main_c]
  rw [e, lead, sitofp_zero]
  by_cases h : a.val < 30
  · rw [dif_pos h, if_pos h]
  · rw [dif_neg h, if_neg h, inN]
    by_cases h' : a.val - 30 < 2064
    · rw [dif_pos h', rows_in _ h' l.isLt]
    · rw [dif_neg h', rows_out _ (by omega)]

theorem tap_at (x1 : FVec Ideal S1x31x1024 .f32) (j : Fin 31) (l : Fin 1024) : x1 (ix3 0 j l) = tapN x1 j.val l.val := by
  rw [tapN, rows_in _ j.isLt l.isLt]

/-- A row of the result: the taps over the rows that end at it. -/
theorem ref_at (x0 : FVec Ideal S1x2064x1024 .f32) (x1 : FVec Ideal S1x31x1024 .f32) (s : Fin 2176) (l : Fin 1024) :
    val_main_v221 (F := Ideal) x0 x1 (ix2 s l) = ∑ j ∈ Finset.range 31, lead x0 (s.val + j) l.val * tapN x1 j l.val := by
  pointwise [val_main_v221, val_main_v220, val_main_v219, val_main_v218, val_main_v217, val_main_v216, val_main_v215, val_main_v214, val_main_v213,
      val_main_v212, val_main_v211, val_main_v210, val_main_v209, val_main_v208, val_main_v207, val_main_v206, val_main_v205, val_main_v204,
      val_main_v203, val_main_v202, val_main_v201, val_main_v200, val_main_v199, val_main_v198, val_main_v197, val_main_v196, val_main_v195,
      val_main_v194, val_main_v193, val_main_v192, val_main_v191, val_main_v190, val_main_v189, val_main_v188, val_main_v187, val_main_v186,
      val_main_v185, val_main_v184, val_main_v183, val_main_v182, val_main_v181, val_main_v180, val_main_v179, val_main_v178, val_main_v177,
      val_main_v176, val_main_v175, val_main_v174, val_main_v173, val_main_v172, val_main_v171, val_main_v170, val_main_v169, val_main_v168,
      val_main_v167, val_main_v166, val_main_v165, val_main_v164, val_main_v163, val_main_v162, val_main_v161, val_main_v160, val_main_v159,
      val_main_v158, val_main_v157, val_main_v156, val_main_v155, val_main_v154, val_main_v153, val_main_v152, val_main_v151, val_main_v150,
      val_main_v149, val_main_v148, val_main_v147, val_main_v146, val_main_v145, val_main_v144, val_main_v143, val_main_v142, val_main_v141,
      val_main_v140, val_main_v139, val_main_v138, val_main_v137, val_main_v136, val_main_v135, val_main_v134, val_main_v133, val_main_v132,
      val_main_v131, val_main_v130, val_main_v129, val_main_v128, val_main_v127, val_main_v126, val_main_v125, val_main_v124, val_main_v123,
      val_main_v122, val_main_v121, val_main_v120, val_main_v119, val_main_v118, val_main_v117, val_main_v116, val_main_v115, val_main_v114,
      val_main_v113, val_main_v112, val_main_v111, val_main_v110, val_main_v109, val_main_v108, val_main_v107, val_main_v106, val_main_v105,
      val_main_v104, val_main_v103, val_main_v102, val_main_v101, val_main_v100, val_main_v99, val_main_v98, val_main_v97, val_main_v96, val_main_v95,
      val_main_v94, val_main_v93, val_main_v92, val_main_v91, val_main_v90, val_main_v89, val_main_v88, val_main_v87, val_main_v86, val_main_v85,
      val_main_v84, val_main_v83, val_main_v82, val_main_v81, val_main_v80, val_main_v79, val_main_v78, val_main_v77, val_main_v76, val_main_v75,
      val_main_v74, val_main_v73, val_main_v72, val_main_v71, val_main_v70, val_main_v69, val_main_v68, val_main_v67, val_main_v66, val_main_v65,
      val_main_v64, val_main_v63, val_main_v62, val_main_v61, val_main_v60, val_main_v59, val_main_v58, val_main_v57, val_main_v56, val_main_v55,
      val_main_v54, val_main_v53, val_main_v52, val_main_v51, val_main_v50, val_main_v49, val_main_v48, val_main_v47, val_main_v46, val_main_v45,
      val_main_v44, val_main_v43, val_main_v42, val_main_v41, val_main_v40, val_main_v39, val_main_v38, val_main_v37, val_main_v36, val_main_v35,
      val_main_v34, val_main_v33, val_main_v32, val_main_v31, val_main_v30, val_main_v29, val_main_v28, val_main_v27, val_main_v26, val_main_v25,
      val_main_v24, val_main_v23, val_main_v22, val_main_v21, val_main_v20, val_main_v19, val_main_v18, val_main_v17, val_main_v16, val_main_v15,
      val_main_v14, val_main_v13, val_main_v12, val_main_v11, val_main_v10, val_main_v9, val_main_v8, val_main_v7, val_main_v6, val_main_v5,
      val_main_v4, val_main_v3, val_main_cst_0]
  simp only [lead_at, tap_at]
  rw [Finset.sum_congr rfl fun j _ => by rw [Nat.add_comm s.val j]]
  simp only [Finset.sum_range_succ, Finset.sum_range_zero, zero_add]
  rfl

end Cert.ConvFwd
-- ==== Proof.ConvFwd.Value.lean ====
/- The convolution: the array which the kernel's run leaves is the reference's. -/
module

public import proofs.«01_k».proof.Defs
public import proofs.«01_k».proof.Proof.Gen.Kernel18.Frame
public import proofs.«01_k».proof.Proof.Gen.Reference18Ideal
public import proofs.«01_k».proof.Proof.Gen.Reference18Ideal.Run
public import Idealize.ShloMosaic.Lib.Claim
public import Idealize.ShloMosaic.Lib.Quiescent
public import proofs.«01_k».proof.Proof.ConvFwd.Block
public import proofs.«01_k».proof.Proof.ConvFwd.Ref

@[expose] public section

set_option maxRecDepth 16384

noncomputable section

open Idealize.ShloMosaic Idealize.ShloMosaic.TcCoe Idealize.SL.Sem
open Idealize.ShloMosaic.Pipeline (Dat)
open Cert.Kernel18Ideal Cert.Kernel18Ideal.Gen Cert.Conv

namespace Cert.ConvFwd

variable (m : (ℓ : Loc nD τ sig) → Buf (Elt Ideal) ℓ) (c : Dev nD)

/-- The operand and the taps that the call starts from. -/
abbrev U : FVec Ideal S1x2064x1024 .f32 := m ((c : Thread nD τ).loc main_arg0)
abbrev W : FVec Ideal S1x31x1024 .f32 := m ((c : Thread nD τ).loc main_arg1)

/-- Which block each window is on at each point. -/
theorem idx : ∀ t : Fin cfg0.N, win0_0.index t = ![0, t.val] ∧ win0_1.index t = ![0, t.val] ∧ win0_2.index t = ![0, t.val] ∧ t.val < 8 :=
  (by decide +kernel : ∀ t : Fin grid0.N, _)

/-- The operand with its rows of padding, as the host prepares it. -/
theorem V_u : Gen.V m c main_v1 = pad S2176x1024 ![0, 0] ![112, 0] ![0, 0] (shapeCast _ (U m c) shapeCasts_S1x2064x1024_S2064x1024)
      (sitofp .f32 (constantI S_ 32 0#32)) pads_S2064x1024_S2176x1024_01120_000 h_S_ := by
  unfold Gen.V
  simp only [hostOps0, hostOps0_1, hostOps0_2, List.flatten_cons, List.flatten_nil, List.cons_append, List.nil_append, List.append_nil]
  entry_read
  rfl

theorem V_u_at (s : Fin 2176) (l : Fin 1024) : Gen.V m c main_v1 (ix2 s l) = inN (U m c) s.val l.val := by
  rw [V_u]
  pointwise
  rw [sitofp_zero]
  unfold inN
  by_cases h : s.val < 2064
  · rw [dif_pos h, rows_in _ h l.isLt]
  · rw [dif_neg h, rows_out _ (by omega)]

theorem V_taps_at (j : Fin 31) (l : Fin 1024) : Gen.V m c main_v2 (ix2 j l) = tapN (W m c) j.val l.val := by
  have e : Gen.V m c main_v2 = shapeCast S31x1024 (W m c) shapeCasts_S1x31x1024_S31x1024 := by
    unfold Gen.V
    simp only [hostOps0, hostOps0_1, hostOps0_2, List.flatten_cons, List.flatten_nil, List.cons_append, List.nil_append, List.append_nil]
    entry_read
    rfl
  rw [e]
  pointwise
  exact tap_at (W m c) j l

/-- A block of the operand. -/
theorem blk0 (t : Fin cfg0.N) (y : S2176x128.Idx) : iblk m c 0 t y = inN (U m c) (y 0).val (128 * t.val + (y 1).val) := by
  obtain ⟨-, -, -, ht⟩ := idx t
  have h0 : (y 0).val < 2176 := (y 0).isLt
  have h1 : (y 1).val < 128 := (y 1).isLt
  unfold iblk
  blk_simp [idx t]
  refine (congrArg (Gen.V m c main_v1) (?_ : _ = ix2 ⟨(y 0).val, h0⟩ ⟨128 * t.val + (y 1).val, by omega⟩)).trans (V_u_at m c _ _)
  blk_ext [idx t]

/-- A block of the taps. -/
theorem blk1 (t : Fin cfg0.N) (y : S31x128.Idx) : iblk m c 1 t y = tapN (W m c) ((y 0).val) (128 * t.val + (y 1).val) := by
  obtain ⟨-, -, -, ht⟩ := idx t
  have h0 : (y 0).val < 31 := (y 0).isLt
  have h1 : (y 1).val < 128 := (y 1).isLt
  unfold iblk
  blk_simp [idx t]
  refine (congrArg (Gen.V m c main_v2) (?_ : _ = ix2 ⟨(y 0).val, h0⟩ ⟨128 * t.val + (y 1).val, by omega⟩)).trans (V_taps_at m c _ _)
  blk_ext [idx t]

/-- The result's array after the run. -/
theorem final2 : (dats m 0 c).arrAt 2 (cfgs 0).N = Reference18Ideal.Read.val_main_v221 (F := Ideal) (U m c) (W m c) := by
  refine (dats m 0 c).arrAt_eq_of_covers 2 _ (by decide +kernel) fun t hf y => ?_
  obtain ⟨-, -, -, ht⟩ := idx t
  have h0 : (y 0).val < 2176 := (y 0).isLt
  have h1 : (y 1).val < 128 := (y 1).isLt
  blk_simp
  rw [after0_2]
  refine Eq.trans ?_ ((congrArg _ (?_ : _ = ix2 ⟨(y 0).val, h0⟩ ⟨128 * t.val + (y 1).val, by omega⟩)).trans (ref_at (U m c) (W m c) _ _)).symm
  · unfold outsAt0
    refine (block c _ _ _ _ _ _ _ _ _ (x := fun a l => inN (U m c) a (128 * t.val + l)) (w := fun j l => tapN (W m c) j (128 * t.val + l))
      (blk0 m c t) (blk1 m c t) y).trans ?_
    unfold conv
    refine Finset.sum_congr rfl fun j hj => congrArg (· * _) ?_
    rw [Finset.mem_range] at hj
    unfold padded lead
    by_cases h : (y 0).val + j < 30
    · rw [if_pos (by omega), if_pos h]
    · rw [if_neg (by omega), if_pos (by omega), if_neg h]
      exact congrArg (fun a => inN (U m c) a _) (by show (y 0).val + (2 + j) - 32 = (y 0).val + j - 30; omega)
  · blk_ext [idx t]

theorem frame : quiescent_Kernel18 (hKernel18 := Kernel18.Gen.facts) :=
  fun m g _ => Kernel18.Gen.frame m g

theorem frame_ideal : quiescent_Kernel18Ideal (hKernel18Ideal := Kernel18Ideal.Gen.facts) :=
  fun m g _ => Kernel18Ideal.Gen.frame m g

theorem frame_ref : quiescent_Reference18Ideal (hReference18Ideal := Reference18Ideal.Gen.facts) :=
  fun m g _ => (θ_run Reference18Ideal.defs _ _).mono
    (fun r h => ⟨fun c => (h c).2, sem_eq_zero_of_no_sems (by decide) r.2⟩) (Reference18Ideal.Value.run m g)

section
open Reference18Ideal.Read

/-- Equal arguments have equal results. -/
theorem same2 {x0 x1 y0 y1} (h0 : x0 = y0) (h1 : x1 = y1) :
    val_main_v221 (F := Ideal) x0 x1 = val_main_v221 (F := Ideal) y0 y1 := by rw [h0, h1]
end

set_option maxHeartbeats 2000000 in
theorem algebraic : algebraic_Kernel18Ideal_Reference18Ideal (hKernel18Ideal := Kernel18Ideal.Gen.facts)
    (hReference18Ideal := Reference18Ideal.Gen.facts) := by
  pair_intro
  · run_from Kernel18Ideal.Gen.run_main m g
    · exact Kernel18Ideal.Gen.V_main_arg0 m c
    · exact Kernel18Ideal.Gen.V_main_arg1 m c
  · refine (θ_run Reference18Ideal.defs _ _).mono (fun r h c => ?_) (Reference18Ideal.Value.run m' g')
    have a0 := (hagree c).1
    have a1 := (hagree c).2
    have r2 := (h c).1.trans (Reference18Ideal.Read.val_main_v221_eq _)
    have k := (h c).2
    clear h
    have e2 := same2 a0 a1
    have l2 := r2.trans e2
    exact ⟨l2.trans (final2 m c).symm, k⟩

end Cert.ConvFwd
-- ==== Proof.Rows.Mm.lean ====
/- What the matrix products share: a matrix argument read at an index. -/
module

public import proofs.«01_k».proof.Proof.Rows.Pad
public import proofs.«01_k».proof.Proof.Rows.Sum

@[expose] public section

set_option maxRecDepth 16384

noncomputable section

open Idealize.ShloMosaic Idealize.ShloMosaic.TcCoe Idealize.SL.Sem

namespace Cert.Rows

/-- The entries of a matrix argument, zero outside. -/
def mat {a n : ℕ} (x : (⟨3, ![1, a, n]⟩ : Shape).Idx → EReal) (r l : ℕ) : EReal :=
  if h : r < a ∧ l < n then x (ix3 (0 : Fin 1) ⟨r, h.1⟩ ⟨l, h.2⟩) else 0

theorem mat_at {a n : ℕ} (x : (⟨3, ![1, a, n]⟩ : Shape).Idx → EReal) (r : Fin a) (l : Fin n) : x (ix3 (0 : Fin 1) r l) = mat x r.val l.val := by
  rw [mat, dif_pos ⟨r.isLt, l.isLt⟩]

theorem mat_cast {a n : ℕ} (x : FVec Ideal ⟨3, ![1, a, n]⟩ .f32) (hc : (⟨3, ![1, a, n]⟩ : Shape).ShapeCasts ⟨2, ![a, n]⟩) (r : Fin a) (l : Fin n) :
    shapeCast ⟨2, ![a, n]⟩ x hc (ix2 r l) = mat x r.val l.val :=
  (ValueIdx.shapeCast_1ab_ab_apply x hc r l).trans (mat_at x r l)

/-- A matrix cut into four blocks of columns, as the host cuts it. -/
theorem chips_at (x : FVec Ideal ⟨3, ![1, 1024, 7168]⟩ .f32) (h1 : (⟨3, ![1, 1024, 7168]⟩ : Shape).ShapeCasts ⟨2, ![1024, 7168]⟩)
    (h2 : (⟨2, ![1024, 7168]⟩ : Shape).ShapeCasts ⟨3, ![1024, 4, 1792]⟩) (h3) (p : Fin 4) (r : Fin 1024) (l : Fin 1792) :
    transpose ⟨3, ![4, 1024, 1792]⟩ [1, 0, 2] (shapeCast ⟨3, ![1024, 4, 1792]⟩ (shapeCast ⟨2, ![1024, 7168]⟩ x h1) h2) h3 (ix3 p r l)
      = mat x r.val (1792 * p.val + l.val) := by
  refine Eq.trans ?_ (mat_at x r ⟨1792 * p.val + l.val, by omega⟩)
  simp only [Nat.mul_comm 1792 p.val]
  pointwise

/-- The rows past the last add nothing to a product's entry. -/
theorem kept_rows {g : ℕ → EReal} (hz : ∀ r, 2064 ≤ r → g r = 0) : ∑ r : Fin 2176, g r.val = ∑ r : Fin 2064, g r.val :=
  (Finset.sum_range _).symm.trans (kept hz)

end Cert.Rows
-- ==== Proof.Adam.Value.lean ====
/- The optimiser's step: the arrays which the kernel's run leaves are the reference's. -/
module

public import proofs.«01_k».proof.Defs
public import proofs.«01_k».proof.Proof.Gen.Kernel19.Frame
public import proofs.«01_k».proof.Proof.Gen.Reference19Ideal
public import proofs.«01_k».proof.Proof.Gen.Reference19Ideal.Run
public import Idealize.ShloMosaic.Lib.Claim
public import Idealize.ShloMosaic.Lib.Quiescent
public import proofs.«01_k».proof.Proof.Gen.Kernel19Ideal.Value
public import proofs.«01_k».proof.Proof.Gen.Reference19Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel19Ideal Cert.Kernel19Ideal.Gen Cert.Rows

namespace Cert.Adam

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ t.val < 4 :=
  (by decide +kernel : ∀ t : Fin grid0.N, _)

/-- The arguments: the weights, their gradient, and the two moments. -/
abbrev w := m ((c : Thread nD τ).loc main_arg0)
abbrev g := m ((c : Thread nD τ).loc main_arg1)
abbrev p := m ((c : Thread nD τ).loc main_arg2)
abbrev q := m ((c : Thread nD τ).loc main_arg3)

theorem V_w (r : Fin 1024) (l : Fin 1792) : Gen.V m c main_v0 (ix2 r l) = w m c (ix3 0 r l) := by
  refine Eq.trans (congrFun ?_ _) (ValueIdx.shapeCast_1ab_ab_apply (w m c) shapeCasts_S1x1024x1792_S1024x1792 r l)
  unfold Gen.V
  simp only [hostOps0, List.flatten_cons, List.flatten_nil, List.cons_append, List.nil_append, List.append_nil]
  entry_read
  rfl

theorem V_g (r : Fin 1024) (l : Fin 1792) : Gen.V m c main_v1 (ix2 r l) = g m c (ix3 0 r l) := by
  refine Eq.trans (congrFun ?_ _) (ValueIdx.shapeCast_1ab_ab_apply (g m c) shapeCasts_S1x1024x1792_S1024x1792 r l)
  unfold Gen.V
  simp only [hostOps0, List.flatten_cons, List.flatten_nil, List.cons_append, List.nil_append, List.append_nil]
  entry_read
  rfl

theorem V_p (r : Fin 1024) (l : Fin 1792) : Gen.V m c main_v2 (ix2 r l) = p m c (ix3 0 r l) := by
  refine Eq.trans (congrFun ?_ _) (ValueIdx.shapeCast_1ab_ab_apply (p m c) shapeCasts_S1x1024x1792_S1024x1792 r l)
  unfold Gen.V
  simp only [hostOps0, List.flatten_cons, List.flatten_nil, List.cons_append, List.nil_append, List.append_nil]
  entry_read
  rfl

theorem V_q (r : Fin 1024) (l : Fin 1792) : Gen.V m c main_v3 (ix2 r l) = q m c (ix3 0 r l) := by
  refine Eq.trans (congrFun ?_ _) (ValueIdx.shapeCast_1ab_ab_apply (q m c) shapeCasts_S1x1024x1792_S1024x1792 r l)
  unfold Gen.V
  simp only [hostOps0, List.flatten_cons, List.flatten_nil, List.cons_append, List.nil_append, List.append_nil]
  entry_read
  rfl

/-- An entry's place in the whole array, from its place in a block of 256 rows. -/
def at' (t : Fin cfg0.N) (j : S256x1792.Idx) : (⟨2, ![1024, 1792]⟩ : Shape).Idx :=
  ix2 ⟨t.val * 256 + (j 0).val, by have h0 : (j 0).val < 256 := (j 0).isLt; have := idx t; omega⟩ ⟨(j 1).val, (j 1).isLt⟩

theorem at'_eq (t : Fin cfg0.N) (j x : S256x1792.Idx) (e0 : (j 0).val = (x 0).val) (e1 : (j 1).val = (x 1).val) : at' t j = at' t x := by
  blk_ext [idx t, at']

theorem blk0 (t : Fin cfg0.N) (j : S256x1792.Idx) : iblk m c 0 t j = w m c (ix3 0 (at' t j 0) (at' t j 1)) := by
  unfold iblk
  blk_simp [idx t]
  refine (congrArg (Gen.V m c main_v0) (?_ : _ = ix2 (at' t j 0) (at' t j 1))).trans (V_w m c _ _)
  blk_ext [idx t, at']

theorem blk1 (t : Fin cfg0.N) (j : S256x1792.Idx) : iblk m c 1 t j = g m c (ix3 0 (at' t j 0) (at' t j 1)) := by
  unfold iblk
  blk_simp [idx t]
  refine (congrArg (Gen.V m c main_v1) (?_ : _ = ix2 (at' t j 0) (at' t j 1))).trans (V_g m c _ _)
  blk_ext [idx t, at']

theorem blk2 (t : Fin cfg0.N) (j : S256x1792.Idx) : iblk m c 2 t j = p m c (ix3 0 (at' t j 0) (at' t j 1)) := by
  unfold iblk
  blk_simp [idx t]
  refine (congrArg (Gen.V m c main_v2) (?_ : _ = ix2 (at' t j 0) (at' t j 1))).trans (V_p m c _ _)
  blk_ext [idx t, at']

theorem blk3 (t : Fin cfg0.N) (j : S256x1792.Idx) : iblk m c 3 t j = q m c (ix3 0 (at' t j 0) (at' t j 1)) := by
  unfold iblk
  blk_simp [idx t]
  refine (congrArg (Gen.V m c main_v3) (?_ : _ = ix2 (at' t j 0) (at' t j 1))).trans (V_q m c _ _)
  blk_ext [idx t, at']

open Reference19Ideal.Read in
theorem point4 (t : Fin cfg0.N) (j : S256x1792.Idx) : out0_4 (iblk m c 0 t) (iblk m c 1 t) (iblk m c 2 t) (iblk m c 3 t) j
    = val_main_v27 (F := Ideal) (w m c) (g m c) (p m c) (q m c) (at' t j) := by
  rw [eq_ix2 (at' t j)]
  unfold out0_4
  canon_tiles x e
  pointwise [k0_pay4, k0_pay3, k0_pay2, k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [blk0, blk1, blk2, blk3]
  rw [at'_eq t j x e0 e1]

theorem final4 : (dats m 0 c).arrAt 4 (cfgs 0).N = Reference19Ideal.Read.val_main_v27 (F := Ideal) (w m c) (g m c) (p m c) (q m c) := by
  refine (dats m 0 c).arrAt_eq_of_covers 4 _ (by decide +kernel) fun t hf y => ?_
  blk_simp
  rw [after0_4]
  refine (point4 m c t y).trans (congrArg _ (?_ : _ = at' t y)).symm
  blk_ext [idx t, at']

open Reference19Ideal.Read in
theorem point5 (t : Fin cfg0.N) (j : S256x1792.Idx) : out0_5 (iblk m c 0 t) (iblk m c 1 t) (iblk m c 2 t) (iblk m c 3 t) j
    = val_main_v8 (F := Ideal) (g m c) (p m c) (at' t j) := by
  rw [eq_ix2 (at' t j)]
  unfold out0_5
  canon_tiles x e
  pointwise [k0_pay4, k0_pay3, k0_pay2, k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [blk0, blk1, blk2, blk3]
  rw [at'_eq t j x e0 e1]

theorem final5 : (dats m 0 c).arrAt 5 (cfgs 0).N = Reference19Ideal.Read.val_main_v8 (F := Ideal) (g m c) (p m c) := by
  refine (dats m 0 c).arrAt_eq_of_covers 5 _ (by decide +kernel) fun t hf y => ?_
  blk_simp
  rw [after0_5]
  refine (point5 m c t y).trans (congrArg _ (?_ : _ = at' t y)).symm
  blk_ext [idx t, at']

open Reference19Ideal.Read in
theorem point6 (t : Fin cfg0.N) (j : S256x1792.Idx) : out0_6 (iblk m c 0 t) (iblk m c 1 t) (iblk m c 2 t) (iblk m c 3 t) j
    = val_main_v14 (F := Ideal) (g m c) (q m c) (at' t j) := by
  rw [eq_ix2 (at' t j)]
  unfold out0_6
  canon_tiles x e
  pointwise [k0_pay4, k0_pay3, k0_pay2, k0_pay1, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [blk0, blk1, blk2, blk3]
  rw [at'_eq t j x e0 e1]

theorem final6 : (dats m 0 c).arrAt 6 (cfgs 0).N = Reference19Ideal.Read.val_main_v14 (F := Ideal) (g m c) (q m c) := by
  refine (dats m 0 c).arrAt_eq_of_covers 6 _ (by decide +kernel) fun t hf y => ?_
  blk_simp
  rw [after0_6]
  refine (point6 m c t y).trans (congrArg _ (?_ : _ = at' t y)).symm
  blk_ext [idx t, at']

theorem frame : quiescent_Kernel19 (hKernel19 := Kernel19.Gen.facts) :=
  fun m g _ => Kernel19.Gen.frame m g

theorem frame_ideal : quiescent_Kernel19Ideal (hKernel19Ideal := Kernel19Ideal.Gen.facts) :=
  fun m g _ => Kernel19Ideal.Gen.frame m g

theorem frame_ref : quiescent_Reference19Ideal (hReference19Ideal := Reference19Ideal.Gen.facts) :=
  fun m g _ => (θ_run Reference19Ideal.defs _ _).mono
    (fun r h => ⟨fun c => (h c).2.2.2, sem_eq_zero_of_no_sems (by decide) r.2⟩) (Reference19Ideal.Value.run m g)

section
open Reference19Ideal.Read

/-- Equal arguments have equal results. -/
theorem same4 {x0 x1 x2 x3 y0 y1 y2 y3} (h0 : x0 = y0) (h1 : x1 = y1) (h2 : x2 = y2) (h3 : x3 = y3) :
    val_main_v27 (F := Ideal) x0 x1 x2 x3 = val_main_v27 (F := Ideal) y0 y1 y2 y3 := by rw [h0, h1, h2, h3]
theorem same5 {x1 x2 y1 y2} (h1 : x1 = y1) (h2 : x2 = y2) :
    val_main_v8 (F := Ideal) x1 x2 = val_main_v8 (F := Ideal) y1 y2 := by rw [h1, h2]
theorem same6 {x1 x3 y1 y3} (h1 : x1 = y1) (h3 : x3 = y3) :
    val_main_v14 (F := Ideal) x1 x3 = val_main_v14 (F := Ideal) y1 y3 := by rw [h1, h3]
end

set_option maxHeartbeats 2000000 in
theorem algebraic : algebraic_Kernel19Ideal_Reference19Ideal (hKernel19Ideal := Kernel19Ideal.Gen.facts)
    (hReference19Ideal := Reference19Ideal.Gen.facts) := by
  pair_intro
  · run_from Kernel19Ideal.Gen.run_main m g
  · refine (θ_run Reference19Ideal.defs _ _).mono (fun r h c => ?_) (Reference19Ideal.Value.run m' g')
    have a0 := (hagree c).1
    have a1 := (hagree c).2.1
    have a2 := (hagree c).2.2.1
    have a3 := (hagree c).2.2.2
    have r4 := (h c).1.trans (Reference19Ideal.Read.val_main_v27_eq _ _ _ _)
    have r5 := (h c).2.1.trans (Reference19Ideal.Read.val_main_v8_eq _ _)
    have r6 := (h c).2.2.1.trans (Reference19Ideal.Read.val_main_v14_eq _ _)
    have k := (h c).2.2.2
    clear h
    have e4 := same4 a0 a1 a2 a3
    have e5 := same5 a1 a2
    have e6 := same6 a1 a3
    have l4 := r4.trans e4
    have l5 := r5.trans e5
    have l6 := r6.trans e6
    exact ⟨l4.trans (final4 m c).symm, l5.trans (final5 m c).symm, l6.trans (final6 m c).symm, k⟩

end Cert.Adam

end
-- ==== Proof.MmNN.Value.lean ====
/- The product of rows with a matrix: the array which the kernel's run leaves is the reference's. -/
module

public import proofs.«01_k».proof.Defs
public import proofs.«01_k».proof.Proof.Gen.Kernel20.Frame
public import proofs.«01_k».proof.Proof.Gen.Reference20Ideal
public import proofs.«01_k».proof.Proof.Gen.Reference20Ideal.Run
public import Idealize.ShloMosaic.Lib.Claim
public import Idealize.ShloMosaic.Lib.Quiescent
public import proofs.«01_k».proof.Proof.Gen.Kernel20Ideal.Value
public import proofs.«01_k».proof.Proof.Gen.Reference20Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel20Ideal Cert.Kernel20Ideal.Gen Cert.Rows

namespace Cert.MmNN

/-- An entry of the product. -/
def out (a b : ℕ → ℕ → EReal) (r l : ℕ) : EReal := ∑ k : Fin 2816, a r k.val * b k.val l

open Reference20Ideal.Read in
theorem ref_at (x : FVec Ideal Reference20Ideal.S1x2064x2816 .f32) (w : FVec Ideal Reference20Ideal.S1x2816x1024 .f32) (s : Fin 2176) (l : Fin 1024) :
    val_main_v3 (F := Ideal) x w (ix2 s l) = out (rows x) (mat w) s.val l.val := by
  have e : val_main_v3 (F := Ideal) x w (ix2 s l) = if h : s.val < 2064 then ∑ k : Fin 2816, x (ix3 0 ⟨s.val, h⟩ k) * w (ix3 0 k l)
      else FloatOps.sitofp (F := Ideal) .f32 (0#32 : BitVec 32) := by
    pointwise [val_main_v3, val_main_call0_v0, val_main_c, val_main_v2, val_main_v1, val_main_v0]
  rw [e, sitofp_zero, out]
  by_cases hs : s.val < 2064
  · rw [dif_pos hs]
    exact Finset.sum_congr rfl fun k _ => by rw [rows_at x ⟨s.val, hs⟩ k, mat_at w k l]
  · rw [dif_neg hs]
    exact (Finset.sum_eq_zero fun k _ => by rw [rows_out x (by omega), zero_mul]).symm

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ t.val < 4 :=
  (by decide +kernel : ∀ t : Fin grid0.N, _)

/-- The arguments. -/
abbrev x := m ((c : Thread nD τ).loc main_arg0)
abbrev w := m ((c : Thread nD τ).loc main_arg1)

theorem V_x (r : Fin 2176) (l : Fin 2816) : Gen.V m c main_v2 (ix2 r l) = rows (x m c) r.val l.val := by
  refine Eq.trans (congrFun ?_ _) (pad_at (x m c) shapeCasts_S1x2064x2816_S2064x2816 pads_S2064x2816_S2176x2816_01120_000 h_S_ r l)
  unfold Gen.V
  simp only [hostOps0, hostOps0_1, List.flatten_cons, List.flatten_nil, List.cons_append, List.nil_append, List.append_nil]
  entry_read
  rfl

theorem V_w (r : Fin 2816) (l : Fin 1024) : Gen.V m c main_v4 (ix2 r l) = mat (w m c) r.val l.val := by
  refine Eq.trans (congrFun ?_ _) (mat_cast (w m c) shapeCasts_S1x2816x1024_S2816x1024 r l)
  unfold Gen.V
  simp only [hostOps0, hostOps0_1, List.flatten_cons, List.flatten_nil, List.cons_append, List.nil_append, List.append_nil]
  entry_read
  rfl

theorem blk0 (t : Fin cfg0.N) (j : S544x2816.Idx) : iblk m c 0 t j = rows (x m c) (544 * t.val + (j 0).val) ((j 1).val) := by
  have h0 : (j 0).val < 544 := (j 0).isLt
  have h1 : (j 1).val < 2816 := (j 1).isLt
  have ht : t.val < 4 := by have := idx t; tauto
  unfold iblk
  blk_simp [idx t]
  refine (congrArg (Gen.V m c main_v2) (?_ : _ = ix2 ⟨544 * t.val + (j 0).val, by omega⟩ ⟨(j 1).val, by omega⟩)).trans (V_x m c _ _)
  blk_ext [idx t]

theorem blk1 (t : Fin cfg0.N) (j : S2816x1024.Idx) : iblk m c 1 t j = mat (w m c) (j 0).val (j 1).val := by
  have h0 : (j 0).val < 2816 := (j 0).isLt
  have h1 : (j 1).val < 1024 := (j 1).isLt
  unfold iblk
  blk_simp [idx t]
  refine (congrArg (Gen.V m c main_v4) (?_ : _ = ix2 ⟨(j 0).val, h0⟩ ⟨(j 1).val, h1⟩)).trans (V_w m c _ _)
  blk_ext [idx t]

theorem point (t : Fin cfg0.N) (y : S544x1024.Idx) : out0_2 (iblk m c 0 t) (iblk m c 1 t) y
    = out (rows (x m c)) (mat (w m c)) (544 * t.val + (y 0).val) (y 1).val := by
  unfold out0_2
  canon_tiles x e
  pointwise [k0_pay1]
  simp only [blk0, blk1, e0, e1, out]
  rfl

theorem final2 : (dats m 0 c).arrAt 2 (cfgs 0).N = Reference20Ideal.Read.val_main_v3 (F := Ideal) (x m c) (w m c) := by
  refine (dats m 0 c).arrAt_eq_of_covers 2 _ (by decide +kernel) fun t hf y => ?_
  blk_simp
  rw [after0_2]
  have ht : t.val < 4 := by have := idx t; tauto
  have h0 : (y 0).val < 544 := (y 0).isLt
  have h1 : (y 1).val < 1024 := (y 1).isLt
  refine (point m c t y).trans ((congrArg _ (?_ : _ = ix2 ⟨544 * t.val + (y 0).val, by omega⟩ ⟨(y 1).val, h1⟩)).trans (ref_at _ _ _ _)).symm
  blk_ext [idx t]

theorem frame : quiescent_Kernel20 (hKernel20 := Kernel20.Gen.facts) :=
  fun m g _ => Kernel20.Gen.frame m g

theorem frame_ideal : quiescent_Kernel20Ideal (hKernel20Ideal := Kernel20Ideal.Gen.facts) :=
  fun m g _ => Kernel20Ideal.Gen.frame m g

theorem frame_ref : quiescent_Reference20Ideal (hReference20Ideal := Reference20Ideal.Gen.facts) :=
  fun m g _ => (θ_run Reference20Ideal.defs _ _).mono
    (fun r h => ⟨fun c => (h c).2, sem_eq_zero_of_no_sems (by decide) r.2⟩) (Reference20Ideal.Value.run m g)

section
open Reference20Ideal.Read

/-- Equal arguments have equal results. -/
theorem same2 {x0 x1 y0 y1} (h0 : x0 = y0) (h1 : x1 = y1) :
    val_main_v3 (F := Ideal) x0 x1 = val_main_v3 (F := Ideal) y0 y1 := by rw [h0, h1]
end

set_option maxHeartbeats 2000000 in
theorem algebraic : algebraic_Kernel20Ideal_Reference20Ideal (hKernel20Ideal := Kernel20Ideal.Gen.facts)
    (hReference20Ideal := Reference20Ideal.Gen.facts) := by
  pair_intro
  · run_from Kernel20Ideal.Gen.run_main m g
    · exact Kernel20Ideal.Gen.V_main_arg0 m c
    · exact Kernel20Ideal.Gen.V_main_arg1 m c
  · refine (θ_run Reference20Ideal.defs _ _).mono (fun r h c => ?_) (Reference20Ideal.Value.run m' g')
    have a0 := (hagree c).1
    have a1 := (hagree c).2
    have r2 := (h c).1.trans (Reference20Ideal.Read.val_main_v3_eq _ _)
    have k := (h c).2
    clear h
    have e2 := same2 a0 a1
    have l2 := r2.trans e2
    exact ⟨l2.trans (final2 m c).symm, k⟩

end Cert.MmNN

end
-- ==== Proof.MmNT.Value.lean ====
/- The product of rows with the transpose of a matrix: the array which the kernel's run leaves is the reference's. -/
module

public import proofs.«01_k».proof.Defs
public import proofs.«01_k».proof.Proof.Gen.Kernel21.Frame
public import proofs.«01_k».proof.Proof.Gen.Reference21Ideal
public import proofs.«01_k».proof.Proof.Gen.Reference21Ideal.Run
public import Idealize.ShloMosaic.Lib.Claim
public import Idealize.ShloMosaic.Lib.Quiescent
public import proofs.«01_k».proof.Proof.Gen.Kernel21Ideal.Value
public import proofs.«01_k».proof.Proof.Gen.Reference21Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel21Ideal Cert.Kernel21Ideal.Gen Cert.Rows

namespace Cert.MmNT

/-- An entry of the product. -/
def out (a b : ℕ → ℕ → EReal) (r l : ℕ) : EReal := ∑ k : Fin 1024, a r k.val * b l k.val

open Reference21Ideal.Read in
theorem ref_at (x : FVec Ideal Reference21Ideal.S1x2064x1024 .f32) (w : FVec Ideal Reference21Ideal.S1x2816x1024 .f32) (s : Fin 2176) (l : Fin 2816) :
    val_main_v4 (F := Ideal) x w (ix2 s l) = out (rows x) (mat w) s.val l.val := by
  have e : val_main_v4 (F := Ideal) x w (ix2 s l) = if h : s.val < 2064 then ∑ k : Fin 1024, x (ix3 0 ⟨s.val, h⟩ k) * w (ix3 0 l k)
      else FloatOps.sitofp (F := Ideal) .f32 (0#32 : BitVec 32) := by
    pointwise [val_main_v4, val_main_call0_v0, val_main_c, val_main_v3, val_main_v2, val_main_v1, val_main_v0]
  rw [e, sitofp_zero, out]
  by_cases hs : s.val < 2064
  · rw [dif_pos hs]
    exact Finset.sum_congr rfl fun k _ => by rw [rows_at x ⟨s.val, hs⟩ k, mat_at w l k]
  · rw [dif_neg hs]
    exact (Finset.sum_eq_zero fun k _ => by rw [rows_out x (by omega), zero_mul]).symm

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ t.val < 4 :=
  (by decide +kernel : ∀ t : Fin grid0.N, _)

/-- The arguments. -/
abbrev x := m ((c : Thread nD τ).loc main_arg0)
abbrev w := m ((c : Thread nD τ).loc main_arg1)

theorem V_x (r : Fin 2176) (l : Fin 1024) : Gen.V m c main_v2 (ix2 r l) = rows (x m c) r.val l.val := by
  refine Eq.trans (congrFun ?_ _) (pad_at (x m c) shapeCasts_S1x2064x1024_S2064x1024 pads_S2064x1024_S2176x1024_01120_000 h_S_ r l)
  unfold Gen.V
  simp only [hostOps0, hostOps0_1, List.flatten_cons, List.flatten_nil, List.cons_append, List.nil_append, List.append_nil]
  entry_read
  rfl

theorem V_w (r : Fin 2816) (l : Fin 1024) : Gen.V m c main_v4 (ix2 r l) = mat (w m c) r.val l.val := by
  refine Eq.trans (congrFun ?_ _) (mat_cast (w m c) shapeCasts_S1x2816x1024_S2816x1024 r l)
  unfold Gen.V
  simp only [hostOps0, hostOps0_1, List.flatten_cons, List.flatten_nil, List.cons_append, List.nil_append, List.append_nil]
  entry_read
  rfl

theorem blk0 (t : Fin cfg0.N) (j : S544x1024.Idx) : iblk m c 0 t j = rows (x m c) (544 * t.val + (j 0).val) ((j 1).val) := by
  have h0 : (j 0).val < 544 := (j 0).isLt
  have h1 : (j 1).val < 1024 := (j 1).isLt
  have ht : t.val < 4 := by have := idx t; tauto
  unfold iblk
  blk_simp [idx t]
  refine (congrArg (Gen.V m c main_v2) (?_ : _ = ix2 ⟨544 * t.val + (j 0).val, by omega⟩ ⟨(j 1).val, by omega⟩)).trans (V_x m c _ _)
  blk_ext [idx t]

theorem blk1 (t : Fin cfg0.N) (j : S2816x1024.Idx) : iblk m c 1 t j = mat (w m c) (j 0).val (j 1).val := by
  have h0 : (j 0).val < 2816 := (j 0).isLt
  have h1 : (j 1).val < 1024 := (j 1).isLt
  unfold iblk
  blk_simp [idx t]
  refine (congrArg (Gen.V m c main_v4) (?_ : _ = ix2 ⟨(j 0).val, h0⟩ ⟨(j 1).val, h1⟩)).trans (V_w m c _ _)
  blk_ext [idx t]

theorem point (t : Fin cfg0.N) (y : S544x2816.Idx) : out0_2 (iblk m c 0 t) (iblk m c 1 t) y
    = out (rows (x m c)) (mat (w m c)) (544 * t.val + (y 0).val) (y 1).val := by
  unfold out0_2
  canon_tiles x e
  pointwise [k0_pay1]
  simp only [blk0, blk1, e0, e1, out]
  rfl

theorem final2 : (dats m 0 c).arrAt 2 (cfgs 0).N = Reference21Ideal.Read.val_main_v4 (F := Ideal) (x m c) (w m c) := by
  refine (dats m 0 c).arrAt_eq_of_covers 2 _ (by decide +kernel) fun t hf y => ?_
  blk_simp
  rw [after0_2]
  have ht : t.val < 4 := by have := idx t; tauto
  have h0 : (y 0).val < 544 := (y 0).isLt
  have h1 : (y 1).val < 2816 := (y 1).isLt
  refine (point m c t y).trans ((congrArg _ (?_ : _ = ix2 ⟨544 * t.val + (y 0).val, by omega⟩ ⟨(y 1).val, h1⟩)).trans (ref_at _ _ _ _)).symm
  blk_ext [idx t]

theorem frame : quiescent_Kernel21 (hKernel21 := Kernel21.Gen.facts) :=
  fun m g _ => Kernel21.Gen.frame m g

theorem frame_ideal : quiescent_Kernel21Ideal (hKernel21Ideal := Kernel21Ideal.Gen.facts) :=
  fun m g _ => Kernel21Ideal.Gen.frame m g

theorem frame_ref : quiescent_Reference21Ideal (hReference21Ideal := Reference21Ideal.Gen.facts) :=
  fun m g _ => (θ_run Reference21Ideal.defs _ _).mono
    (fun r h => ⟨fun c => (h c).2, sem_eq_zero_of_no_sems (by decide) r.2⟩) (Reference21Ideal.Value.run m g)

section
open Reference21Ideal.Read

/-- Equal arguments have equal results. -/
theorem same2 {x0 x1 y0 y1} (h0 : x0 = y0) (h1 : x1 = y1) :
    val_main_v4 (F := Ideal) x0 x1 = val_main_v4 (F := Ideal) y0 y1 := by rw [h0, h1]
end

set_option maxHeartbeats 2000000 in
theorem algebraic : algebraic_Kernel21Ideal_Reference21Ideal (hKernel21Ideal := Kernel21Ideal.Gen.facts)
    (hReference21Ideal := Reference21Ideal.Gen.facts) := by
  pair_intro
  · run_from Kernel21Ideal.Gen.run_main m g
    · exact Kernel21Ideal.Gen.V_main_arg0 m c
    · exact Kernel21Ideal.Gen.V_main_arg1 m c
  · refine (θ_run Reference21Ideal.defs _ _).mono (fun r h c => ?_) (Reference21Ideal.Value.run m' g')
    have a0 := (hagree c).1
    have a1 := (hagree c).2
    have r2 := (h c).1.trans (Reference21Ideal.Read.val_main_v4_eq _ _)
    have k := (h c).2
    clear h
    have e2 := same2 a0 a1
    have l2 := r2.trans e2
    exact ⟨l2.trans (final2 m c).symm, k⟩

end Cert.MmNT

end
-- ==== Proof.MmNNCols.Value.lean ====
/- The product of rows with a matrix given in four blocks of columns: the array which the kernel's run leaves is the reference's. -/
module

public import proofs.«01_k».proof.Defs
public import proofs.«01_k».proof.Proof.Gen.Kernel22.Frame
public import proofs.«01_k».proof.Proof.Gen.Reference22Ideal
public import proofs.«01_k».proof.Proof.Gen.Reference22Ideal.Run
public import Idealize.ShloMosaic.Lib.Claim
public import Idealize.ShloMosaic.Lib.Quiescent
public import proofs.«01_k».proof.Proof.Gen.Kernel22Ideal.Value
public import proofs.«01_k».proof.Proof.Gen.Reference22Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel22Ideal Cert.Kernel22Ideal.Gen Cert.Rows

namespace Cert.MmNNCols

/-- An entry of the product. -/
def out (a b : ℕ → ℕ → EReal) (r l : ℕ) : EReal := ∑ k : Fin 1024, a r k.val * b k.val l

open Reference22Ideal.Read in
theorem ref_at (x : FVec Ideal Reference22Ideal.S1x2064x1024 .f32) (w : FVec Ideal Reference22Ideal.S1x1024x7168 .f32) (s : Fin 2176) (l : Fin 7168) :
    val_main_v3 (F := Ideal) x w (ix2 s l) = out (rows x) (mat w) s.val l.val := by
  have e : val_main_v3 (F := Ideal) x w (ix2 s l) = if h : s.val < 2064 then ∑ k : Fin 1024, x (ix3 0 ⟨s.val, h⟩ k) * w (ix3 0 k l)
      else FloatOps.sitofp (F := Ideal) .f32 (0#32 : BitVec 32) := by
    pointwise [val_main_v3, val_main_call0_v0, val_main_c, val_main_v2, val_main_v1, val_main_v0]
  rw [e, sitofp_zero, out]
  by_cases hs : s.val < 2064
  · rw [dif_pos hs]
    exact Finset.sum_congr rfl fun k _ => by rw [rows_at x ⟨s.val, hs⟩ k, mat_at w k l]
  · rw [dif_neg hs]
    exact (Finset.sum_eq_zero fun k _ => by rw [rows_out x (by omega), zero_mul]).symm

variable (m : (ℓ : Loc nD τ sig) → Buf (Elt Ideal) ℓ) (c : Dev nD)

theorem idx : ∀ t : Fin cfg0.N, win0_0.index t = ![t.val % 4, 0] ∧ win0_1.index t = ![t.val / 4, 0, 0] ∧ win0_2.index t = ![t.val % 4, t.val / 4]
    ∧ t.val < 16 :=
  (by decide +kernel : ∀ t : Fin grid0.N, _)

/-- The arguments. -/
abbrev x := m ((c : Thread nD τ).loc main_arg0)
abbrev w := m ((c : Thread nD τ).loc main_arg1)

theorem V_x (r : Fin 2176) (l : Fin 1024) : Gen.V m c main_v2 (ix2 r l) = rows (x m c) r.val l.val := by
  refine Eq.trans (congrFun ?_ _) (pad_at (x m c) shapeCasts_S1x2064x1024_S2064x1024 pads_S2064x1024_S2176x1024_01120_000 h_S_ r l)
  unfold Gen.V
  simp only [hostOps0, hostOps0_1, List.flatten_cons, List.flatten_nil, List.cons_append, List.nil_append, List.append_nil]
  entry_read
  rfl

theorem V_w (p : Fin 4) (r : Fin 1024) (l : Fin 1792) : Gen.V m c main_v6 (ix3 p r l) = mat (w m c) r.val (1792 * p.val + l.val) := by
  refine Eq.trans (congrFun ?_ _) (chips_at (w m c) shapeCasts_S1x1024x7168_S1024x7168 shapeCasts_S1024x7168_S1024x4x1792
    transposes_S1024x4x1792_S4x1024x1792_1_0_2 p r l)
  unfold Gen.V
  simp only [hostOps0, hostOps0_1, List.flatten_cons, List.flatten_nil, List.cons_append, List.nil_append, List.append_nil]
  entry_read
  rfl

theorem blk0 (t : Fin cfg0.N) (j : S544x1024.Idx) : iblk m c 0 t j = rows (x m c) (544 * (t.val % 4) + (j 0).val) ((j 1).val) := by
  have h0 : (j 0).val < 544 := (j 0).isLt
  have h1 : (j 1).val < 1024 := (j 1).isLt
  unfold iblk
  blk_simp [idx t]
  refine (congrArg (Gen.V m c main_v2) (?_ : _ = ix2 ⟨544 * (t.val % 4) + (j 0).val, by omega⟩ ⟨(j 1).val, by omega⟩)).trans (V_x m c _ _)
  blk_ext [idx t]

theorem blk1 (t : Fin cfg0.N) (j : S1x1024x1792.Idx) : iblk m c 1 t j = mat (w m c) (j 1).val (1792 * (t.val / 4) + (j 2).val) := by
  have h0 : (j 0).val < 1 := (j 0).isLt
  have h1 : (j 1).val < 1024 := (j 1).isLt
  have h2 : (j 2).val < 1792 := (j 2).isLt
  have ht : t.val < 16 := by have := idx t; tauto
  unfold iblk
  blk_simp [idx t]
  refine (congrArg (Gen.V m c main_v6) (?_ : _ = ix3 ⟨t.val / 4, by omega⟩ ⟨(j 1).val, h1⟩ ⟨(j 2).val, h2⟩)).trans (V_w m c _ _ _)
  blk_ext [idx t]

theorem point (t : Fin cfg0.N) (y : S544x1792.Idx) : out0_2 (iblk m c 0 t) (iblk m c 1 t) y
    = out (rows (x m c)) (mat (w m c)) (544 * (t.val % 4) + (y 0).val) (1792 * (t.val / 4) + (y 1).val) := by
  unfold out0_2
  canon_tiles x e
  pointwise [k0_pay1]
  simp only [blk0, blk1, e0, e1, out]
  rfl

theorem final2 : (dats m 0 c).arrAt 2 (cfgs 0).N = Reference22Ideal.Read.val_main_v3 (F := Ideal) (x m c) (w m c) := by
  refine (dats m 0 c).arrAt_eq_of_covers 2 _ (by decide +kernel) fun t hf y => ?_
  blk_simp
  rw [after0_2]
  have ht : t.val < 16 := by have := idx t; tauto
  have h0 : (y 0).val < 544 := (y 0).isLt
  have h1 : (y 1).val < 1792 := (y 1).isLt
  refine (point m c t y).trans ((congrArg _ (?_ : _ = ix2 ⟨544 * (t.val % 4) + (y 0).val, by omega⟩ ⟨1792 * (t.val / 4) + (y 1).val, by omega⟩)).trans (ref_at _ _ _ _)).symm
  blk_ext [idx t]

theorem frame : quiescent_Kernel22 (hKernel22 := Kernel22.Gen.facts) :=
  fun m g _ => Kernel22.Gen.frame m g

theorem frame_ideal : quiescent_Kernel22Ideal (hKernel22Ideal := Kernel22Ideal.Gen.facts) :=
  fun m g _ => Kernel22Ideal.Gen.frame m g

theorem frame_ref : quiescent_Reference22Ideal (hReference22Ideal := Reference22Ideal.Gen.facts) :=
  fun m g _ => (θ_run Reference22Ideal.defs _ _).mono
    (fun r h => ⟨fun c => (h c).2, sem_eq_zero_of_no_sems (by decide) r.2⟩) (Reference22Ideal.Value.run m g)

section
open Reference22Ideal.Read

/-- Equal arguments have equal results. -/
theorem same2 {x0 x1 y0 y1} (h0 : x0 = y0) (h1 : x1 = y1) :
    val_main_v3 (F := Ideal) x0 x1 = val_main_v3 (F := Ideal) y0 y1 := by rw [h0, h1]
end

set_option maxHeartbeats 2000000 in
theorem algebraic : algebraic_Kernel22Ideal_Reference22Ideal (hKernel22Ideal := Kernel22Ideal.Gen.facts)
    (hReference22Ideal := Reference22Ideal.Gen.facts) := by
  pair_intro
  · run_from Kernel22Ideal.Gen.run_main m g
    · exact Kernel22Ideal.Gen.V_main_arg0 m c
    · exact Kernel22Ideal.Gen.V_main_arg1 m c
  · refine (θ_run Reference22Ideal.defs _ _).mono (fun r h c => ?_) (Reference22Ideal.Value.run m' g')
    have a0 := (hagree c).1
    have a1 := (hagree c).2
    have r2 := (h c).1.trans (Reference22Ideal.Read.val_main_v3_eq _ _)
    have k := (h c).2
    clear h
    have e2 := same2 a0 a1
    have l2 := r2.trans e2
    exact ⟨l2.trans (final2 m c).symm, k⟩

end Cert.MmNNCols

end
-- ==== Proof.MmTN.Value.lean ====
/- The product of the transpose of rows with rows: the array which the kernel's run leaves is the reference's. -/
module

public import proofs.«01_k».proof.Defs
public import proofs.«01_k».proof.Proof.Gen.Kernel23.Frame
public import proofs.«01_k».proof.Proof.Gen.Reference23Ideal
public import proofs.«01_k».proof.Proof.Gen.Reference23Ideal.Run
public import Idealize.ShloMosaic.Lib.Claim
public import Idealize.ShloMosaic.Lib.Quiescent
public import proofs.«01_k».proof.Proof.Gen.Kernel23Ideal.Value
public import proofs.«01_k».proof.Proof.Gen.Reference23Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel23Ideal Cert.Kernel23Ideal.Gen Cert.Rows

namespace Cert.MmTN

/-- An entry of the product. -/
def out (a b : ℕ → ℕ → EReal) (r l : ℕ) : EReal := ∑ k : Fin 2064, a k.val r * b k.val l

open Reference23Ideal.Read in
theorem ref_at (x : FVec Ideal Reference23Ideal.S1x2064x2816 .f32) (d : FVec Ideal Reference23Ideal.S1x2064x1024 .f32) (r : Fin 2816) (l : Fin 1024) :
    val_main_v3 (F := Ideal) x d (ix2 r l) = out (rows x) (rows d) r.val l.val := by
  pointwise [val_main_v3, val_main_v2, val_main_v1, val_main_v0]
  exact Finset.sum_congr rfl fun k _ => by rw [rows_at x k r, rows_at d k l]

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0]
    ∧ t.val < 11 :=
  (by decide +kernel : ∀ t : Fin grid0.N, _)

/-- The arguments. -/
abbrev x := m ((c : Thread nD τ).loc main_arg0)
abbrev d := m ((c : Thread nD τ).loc main_arg1)

theorem V_x (r : Fin 2176) (l : Fin 2816) : Gen.V m c main_v2 (ix2 r l) = rows (x m c) r.val l.val := by
  refine Eq.trans (congrFun ?_ _) (pad_at (x m c) shapeCasts_S1x2064x2816_S2064x2816 pads_S2064x2816_S2176x2816_01120_000 h_S_ r l)
  unfold Gen.V
  simp only [hostOps0, hostOps0_1, List.flatten_cons, List.flatten_nil, List.cons_append, List.nil_append, List.append_nil]
  entry_read
  rfl

theorem V_d (r : Fin 2176) (l : Fin 1024) : Gen.V m c main_v5 (ix2 r l) = rows (d m c) r.val l.val := by
  refine Eq.trans (congrFun ?_ _) (pad_at (d m c) shapeCasts_S1x2064x1024_S2064x1024 pads_S2064x1024_S2176x1024_01120_000 h_S_ r l)
  unfold Gen.V
  simp only [hostOps0, hostOps0_1, List.flatten_cons, List.flatten_nil, List.cons_append, List.nil_append, List.append_nil]
  entry_read
  rfl

theorem blk0 (t : Fin cfg0.N) (j : S2176x256.Idx) : iblk m c 0 t j = rows (x m c) (j 0).val (256 * t.val + (j 1).val) := by
  have h0 : (j 0).val < 2176 := (j 0).isLt
  have h1 : (j 1).val < 256 := (j 1).isLt
  have ht : t.val < 11 := by have := idx t; tauto
  unfold iblk
  blk_simp [idx t]
  refine (congrArg (Gen.V m c main_v2) (?_ : _ = ix2 ⟨(j 0).val, h0⟩ ⟨256 * t.val + (j 1).val, by omega⟩)).trans (V_x m c _ _)
  blk_ext [idx t]

theorem blk1 (t : Fin cfg0.N) (j : S2176x1024.Idx) : iblk m c 1 t j = rows (d m c) (j 0).val (j 1).val := by
  have h0 : (j 0).val < 2176 := (j 0).isLt
  have h1 : (j 1).val < 1024 := (j 1).isLt
  unfold iblk
  blk_simp [idx t]
  refine (congrArg (Gen.V m c main_v5) (?_ : _ = ix2 ⟨(j 0).val, h0⟩ ⟨(j 1).val, h1⟩)).trans (V_d m c _ _)
  blk_ext [idx t]

theorem point (t : Fin cfg0.N) (r : Fin 256) (l : Fin 1024) : outsAt0 m c t (ix2 r l)
    = out (rows (x m c)) (rows (d m c)) (256 * t.val + r.val) l.val := by
  refine Eq.trans ?_ (kept_rows (g := fun k => rows (x m c) k (256 * t.val + r.val) * rows (d m c) k l.val) fun k hk => by rw [rows_out _ hk, zero_mul])
  unfold outsAt0
  frame_out
  pointwise [k0_pay1]
  simp only [blk0, blk1]
  rfl

theorem final2 : (dats m 0 c).arrAt 2 (cfgs 0).N = Reference23Ideal.Read.val_main_v3 (F := Ideal) (x m c) (d m c) := by
  refine (dats m 0 c).arrAt_eq_of_covers 2 _ (by decide +kernel) fun t hf y => ?_
  blk_simp
  rw [after0_2]
  have ht : t.val < 11 := by have := idx t; tauto
  have h0 : (y 0).val < 256 := (y 0).isLt
  have h1 : (y 1).val < 1024 := (y 1).isLt
  refine ((congrArg (outsAt0 m c t) (eq_ix2 (n0 := 256) (n1 := 1024) y)).trans (point m c t (y 0) (y 1))).trans ?_
  refine ((congrArg _ (?_ : _ = ix2 ⟨256 * t.val + (y 0).val, by omega⟩ ⟨(y 1).val, h1⟩)).trans (ref_at _ _ _ _)).symm
  blk_ext [idx t]

theorem frame : quiescent_Kernel23 (hKernel23 := Kernel23.Gen.facts) :=
  fun m g _ => Kernel23.Gen.frame m g

theorem frame_ideal : quiescent_Kernel23Ideal (hKernel23Ideal := Kernel23Ideal.Gen.facts) :=
  fun m g _ => Kernel23Ideal.Gen.frame m g

theorem frame_ref : quiescent_Reference23Ideal (hReference23Ideal := Reference23Ideal.Gen.facts) :=
  fun m g _ => (θ_run Reference23Ideal.defs _ _).mono
    (fun r h => ⟨fun c => (h c).2, sem_eq_zero_of_no_sems (by decide) r.2⟩) (Reference23Ideal.Value.run m g)

section
open Reference23Ideal.Read

/-- Equal arguments have equal results. -/
theorem same2 {x0 x1 y0 y1} (h0 : x0 = y0) (h1 : x1 = y1) :
    val_main_v3 (F := Ideal) x0 x1 = val_main_v3 (F := Ideal) y0 y1 := by rw [h0, h1]
end

set_option maxHeartbeats 2000000 in
theorem algebraic : algebraic_Kernel23Ideal_Reference23Ideal (hKernel23Ideal := Kernel23Ideal.Gen.facts)
    (hReference23Ideal := Reference23Ideal.Gen.facts) := by
  pair_intro
  · run_from Kernel23Ideal.Gen.run_main m g
    · exact Kernel23Ideal.Gen.V_main_arg0 m c
    · exact Kernel23Ideal.Gen.V_main_arg1 m c
  · refine (θ_run Reference23Ideal.defs _ _).mono (fun r h c => ?_) (Reference23Ideal.Value.run m' g')
    have a0 := (hagree c).1
    have a1 := (hagree c).2
    have r2 := (h c).1.trans (Reference23Ideal.Read.val_main_v3_eq _ _)
    have k := (h c).2
    clear h
    have e2 := same2 a0 a1
    have l2 := r2.trans e2
    exact ⟨l2.trans (final2 m c).symm, k⟩

end Cert.MmTN

end
-- ==== Proof.MmTNCols.Value.lean ====
/- The product of the transpose of rows with rows, in four blocks of columns: the array which the kernel's run leaves is the reference's. -/
module

public import proofs.«01_k».proof.Defs
public import proofs.«01_k».proof.Proof.Gen.Kernel24.Frame
public import proofs.«01_k».proof.Proof.Gen.Reference24Ideal
public import proofs.«01_k».proof.Proof.Gen.Reference24Ideal.Run
public import Idealize.ShloMosaic.Lib.Claim
public import Idealize.ShloMosaic.Lib.Quiescent
public import proofs.«01_k».proof.Proof.Gen.Kernel24Ideal.Value
public import proofs.«01_k».proof.Proof.Gen.Reference24Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel24Ideal Cert.Kernel24Ideal.Gen Cert.Rows

namespace Cert.MmTNCols

/-- An entry of the product. -/
def out (a b : ℕ → ℕ → EReal) (r l : ℕ) : EReal := ∑ k : Fin 2064, a k.val r * b k.val l

open Reference24Ideal.Read in
theorem ref_at (x : FVec Ideal Reference24Ideal.S1x2064x1024 .f32) (d : FVec Ideal Reference24Ideal.S1x2064x7168 .f32) (p : Fin 4) (r : Fin 1024) (l : Fin 1792) :
    val_main_v5 (F := Ideal) x d (ix3 p r l) = out (rows x) (rows d) r.val (1792 * p.val + l.val) := by
  pointwise [val_main_v5, val_main_v4, val_main_v3, val_main_v2, val_main_v1, val_main_v0]
  exact Finset.sum_congr rfl fun k _ => by rw [rows_at x k r, rows_at d k, Nat.mul_comm 1792]

variable (m : (ℓ : Loc nD τ sig) → Buf (Elt Ideal) ℓ) (c : Dev nD)

theorem idx : ∀ t : Fin cfg0.N, win0_0.index t = ![0, 0] ∧ win0_1.index t = ![0, t.val] ∧ win0_2.index t = ![t.val, 0, 0]
    ∧ t.val < 4 :=
  (by decide +kernel : ∀ t : Fin grid0.N, _)

/-- The arguments. -/
abbrev x := m ((c : Thread nD τ).loc main_arg0)
abbrev d := m ((c : Thread nD τ).loc main_arg1)

theorem V_x (r : Fin 2176) (l : Fin 1024) : Gen.V m c main_v2 (ix2 r l) = rows (x m c) r.val l.val := by
  refine Eq.trans (congrFun ?_ _) (pad_at (x m c) shapeCasts_S1x2064x1024_S2064x1024 pads_S2064x1024_S2176x1024_01120_000 h_S_ r l)
  unfold Gen.V
  simp only [hostOps0, hostOps0_1, List.flatten_cons, List.flatten_nil, List.cons_append, List.nil_append, List.append_nil]
  entry_read
  rfl

theorem V_d (r : Fin 2176) (l : Fin 7168) : Gen.V m c main_v5 (ix2 r l) = rows (d m c) r.val l.val := by
  refine Eq.trans (congrFun ?_ _) (pad_at (d m c) shapeCasts_S1x2064x7168_S2064x7168 pads_S2064x7168_S2176x7168_01120_000 h_S_ r l)
  unfold Gen.V
  simp only [hostOps0, hostOps0_1, List.flatten_cons, List.flatten_nil, List.cons_append, List.nil_append, List.append_nil]
  entry_read
  rfl

theorem blk0 (t : Fin cfg0.N) (j : S2176x1024.Idx) : iblk m c 0 t j = rows (x m c) (j 0).val (j 1).val := by
  have h0 : (j 0).val < 2176 := (j 0).isLt
  have h1 : (j 1).val < 1024 := (j 1).isLt
  unfold iblk
  blk_simp [idx t]
  refine (congrArg (Gen.V m c main_v2) (?_ : _ = ix2 ⟨(j 0).val, h0⟩ ⟨(j 1).val, h1⟩)).trans (V_x m c _ _)
  blk_ext [idx t]

theorem blk1 (t : Fin cfg0.N) (j : S2176x1792.Idx) : iblk m c 1 t j = rows (d m c) (j 0).val (1792 * t.val + (j 1).val) := by
  have h0 : (j 0).val < 2176 := (j 0).isLt
  have h1 : (j 1).val < 1792 := (j 1).isLt
  have ht : t.val < 4 := by have := idx t; tauto
  unfold iblk
  blk_simp [idx t]
  refine (congrArg (Gen.V m c main_v5) (?_ : _ = ix2 ⟨(j 0).val, h0⟩ ⟨1792 * t.val + (j 1).val, by omega⟩)).trans (V_d m c _ _)
  blk_ext [idx t]

theorem point (t : Fin cfg0.N) (r : Fin 1024) (l : Fin 1792) : outsAt0 m c t (ix3 0 r l)
    = out (rows (x m c)) (rows (d m c)) r.val (1792 * t.val + l.val) := by
  refine Eq.trans ?_ (kept_rows (g := fun k => rows (x m c) k r.val * rows (d m c) k (1792 * t.val + l.val)) fun k hk => by rw [rows_out _ hk, zero_mul])
  unfold outsAt0
  frame_out
  pointwise [k0_pay1, k0_pay2]
  simp only [blk0, blk1]
  rfl

theorem final2 : (dats m 0 c).arrAt 2 (cfgs 0).N = Reference24Ideal.Read.val_main_v5 (F := Ideal) (x m c) (d m c) := by
  refine (dats m 0 c).arrAt_eq_of_covers 2 _ (by decide +kernel) fun t hf y => ?_
  blk_simp
  rw [after0_2]
  have ht : t.val < 4 := by have := idx t; tauto
  have h0 : (y 0).val < 1 := (y 0).isLt
  have h1 : (y 1).val < 1024 := (y 1).isLt
  have h2 : (y 2).val < 1792 := (y 2).isLt
  refine ((congrArg (outsAt0 m c t) ((eq_ix3 (n0 := 1) (n1 := 1024) (n2 := 1792) y).trans
    (congrArg (fun a : Fin 1 => ix3 a (y 1 : Fin 1024) (y 2 : Fin 1792)) (Subsingleton.elim (α := Fin 1) _ 0)))).trans (point m c t (y 1) (y 2))).trans ?_
  refine ((congrArg _ (?_ : _ = ix3 ⟨t.val, ht⟩ ⟨(y 1).val, h1⟩ ⟨(y 2).val, h2⟩)).trans (ref_at _ _ _ _ _)).symm
  blk_ext [idx t]

theorem frame : quiescent_Kernel24 (hKernel24 := Kernel24.Gen.facts) :=
  fun m g _ => Kernel24.Gen.frame m g

theorem frame_ideal : quiescent_Kernel24Ideal (hKernel24Ideal := Kernel24Ideal.Gen.facts) :=
  fun m g _ => Kernel24Ideal.Gen.frame m g

theorem frame_ref : quiescent_Reference24Ideal (hReference24Ideal := Reference24Ideal.Gen.facts) :=
  fun m g _ => (θ_run Reference24Ideal.defs _ _).mono
    (fun r h => ⟨fun c => (h c).2, sem_eq_zero_of_no_sems (by decide) r.2⟩) (Reference24Ideal.Value.run m g)

section
open Reference24Ideal.Read

/-- Equal arguments have equal results. -/
theorem same2 {x0 x1 y0 y1} (h0 : x0 = y0) (h1 : x1 = y1) :
    val_main_v5 (F := Ideal) x0 x1 = val_main_v5 (F := Ideal) y0 y1 := by rw [h0, h1]
end

set_option maxHeartbeats 2000000 in
theorem algebraic : algebraic_Kernel24Ideal_Reference24Ideal (hKernel24Ideal := Kernel24Ideal.Gen.facts)
    (hReference24Ideal := Reference24Ideal.Gen.facts) := by
  pair_intro
  · run_from Kernel24Ideal.Gen.run_main m g
    · exact Kernel24Ideal.Gen.V_main_arg0 m c
    · exact Kernel24Ideal.Gen.V_main_arg1 m c
  · refine (θ_run Reference24Ideal.defs _ _).mono (fun r h c => ?_) (Reference24Ideal.Value.run m' g')
    have a0 := (hagree c).1
    have a1 := (hagree c).2
    have r2 := (h c).1.trans (Reference24Ideal.Read.val_main_v5_eq _ _)
    have k := (h c).2
    clear h
    have e2 := same2 a0 a1
    have l2 := r2.trans e2
    exact ⟨l2.trans (final2 m c).symm, k⟩

end Cert.MmTNCols

end
-- ==== Proof.MmNTCols.Value.lean ====
/- The product of rows with the transpose of a matrix given in four blocks of columns, summed block by block: the array which the kernel's run leaves is the reference's. -/
module

public import proofs.«01_k».proof.Defs
public import proofs.«01_k».proof.Proof.Gen.Kernel25.Frame
public import proofs.«01_k».proof.Proof.Gen.Reference25Ideal
public import proofs.«01_k».proof.Proof.Gen.Reference25Ideal.Run
public import Idealize.ShloMosaic.Lib.Claim
public import Idealize.ShloMosaic.Lib.Quiescent
public import proofs.«01_k».proof.Proof.Gen.Kernel25Ideal.Value
public import proofs.«01_k».proof.Proof.Gen.Reference25Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel25Ideal Cert.Kernel25Ideal.Gen Cert.Rows

namespace Cert.MmNTCols

/-- An entry of the product. -/
def out (a b : ℕ → ℕ → EReal) (r l : ℕ) : EReal := ∑ k : Fin 7168, a r k.val * b l k.val

open Reference25Ideal.Read in
theorem ref_at (x : FVec Ideal Reference25Ideal.S1x2064x7168 .f32) (w : FVec Ideal Reference25Ideal.S1x1024x7168 .f32) (s : Fin 2176) (l : Fin 1024) :
    val_main_v4 (F := Ideal) x w (ix2 s l) = out (rows x) (mat w) s.val l.val := by
  have e : val_main_v4 (F := Ideal) x w (ix2 s l) = if h : s.val < 2064 then ∑ k : Fin 7168, x (ix3 0 ⟨s.val, h⟩ k) * w (ix3 0 l k)
      else FloatOps.sitofp (F := Ideal) .f32 (0#32 : BitVec 32) := by
    pointwise [val_main_v4, val_main_call0_v0, val_main_c, val_main_v3, val_main_v2, val_main_v1, val_main_v0]
  rw [e, sitofp_zero, out]
  by_cases hs : s.val < 2064
  · rw [dif_pos hs]
    exact Finset.sum_congr rfl fun k _ => by rw [rows_at x ⟨s.val, hs⟩ k, mat_at w l k]
  · rw [dif_neg hs]
    exact (Finset.sum_eq_zero fun k _ => by rw [rows_out x (by omega), zero_mul]).symm

variable (m : (ℓ : Loc nD τ sig) → Buf (Elt Ideal) ℓ) (c : Dev nD)

theorem idx : ∀ t : Fin cfg0.N, win0_0.index t = ![t.val / 4, t.val % 4] ∧ win0_1.index t = ![t.val % 4, 0, 0] ∧ win0_2.index t = ![t.val / 4, 0]
    ∧ t.val < 8 :=
  (by decide +kernel : ∀ t : Fin grid0.N, _)

/-- The arguments. -/
abbrev x := m ((c : Thread nD τ).loc main_arg0)
abbrev w := m ((c : Thread nD τ).loc main_arg1)

theorem V_x (r : Fin 2176) (l : Fin 7168) : Gen.V m c main_v2 (ix2 r l) = rows (x m c) r.val l.val := by
  refine Eq.trans (congrFun ?_ _) (pad_at (x m c) shapeCasts_S1x2064x7168_S2064x7168 pads_S2064x7168_S2176x7168_01120_000 h_S_ r l)
  unfold Gen.V
  simp only [hostOps0, hostOps0_1, List.flatten_cons, List.flatten_nil, List.cons_append, List.nil_append, List.append_nil]
  entry_read
  rfl

theorem V_w (p : Fin 4) (r : Fin 1024) (l : Fin 1792) : Gen.V m c main_v6 (ix3 p r l) = mat (w m c) r.val (1792 * p.val + l.val) := by
  refine Eq.trans (congrFun ?_ _) (chips_at (w m c) shapeCasts_S1x1024x7168_S1024x7168 shapeCasts_S1024x7168_S1024x4x1792
    transposes_S1024x4x1792_S4x1024x1792_1_0_2 p r l)
  unfold Gen.V
  simp only [hostOps0, hostOps0_1, List.flatten_cons, List.flatten_nil, List.cons_append, List.nil_append, List.append_nil]
  entry_read
  rfl

theorem blk0 (t : Fin cfg0.N) (j : S1088x1792.Idx) : iblk m c 0 t j = rows (x m c) (1088 * (t.val / 4) + (j 0).val) (1792 * (t.val % 4) + (j 1).val) := by
  have h0 : (j 0).val < 1088 := (j 0).isLt
  have h1 : (j 1).val < 1792 := (j 1).isLt
  have ht : t.val < 8 := by have := idx t; tauto
  unfold iblk
  blk_simp [idx t]
  refine (congrArg (Gen.V m c main_v2) (?_ : _ = ix2 ⟨1088 * (t.val / 4) + (j 0).val, by omega⟩ ⟨1792 * (t.val % 4) + (j 1).val, by omega⟩)).trans (V_x m c _ _)
  blk_ext [idx t]

theorem blk1 (t : Fin cfg0.N) (j : S1x1024x1792.Idx) : iblk m c 1 t j = mat (w m c) (j 1).val (1792 * (t.val % 4) + (j 2).val) := by
  have h0 : (j 0).val < 1 := (j 0).isLt
  have h1 : (j 1).val < 1024 := (j 1).isLt
  have h2 : (j 2).val < 1792 := (j 2).isLt
  unfold iblk
  blk_simp [idx t]
  refine (congrArg (Gen.V m c main_v6) (?_ : _ = ix3 ⟨t.val % 4, by omega⟩ ⟨(j 1).val, h1⟩ ⟨(j 2).val, h2⟩)).trans (V_w m c _ _ _)
  blk_ext [idx t]

/-- A product of the sum, at a column. -/
def part (r l q : ℕ) : EReal := rows (x m c) r q * mat (w m c) l q

/-- The sum over the blocks of columns so far. -/
theorem total (r : Fin 1088) (l : Fin 1024) (n : ℕ) (h : n < 8) : outsAt0 m c n (lt_of_lt_of_eq h N_0.symm) (ix2 r l)
    = ∑ q ∈ Finset.range (1792 * (n % 4 + 1)), part m c (1088 * (n / 4) + r.val) l.val q := by
  have first : ∀ t : Fin cfg0.N, t.val % 4 = 0 → outsAt0 m c t.val t.isLt (ix2 r l)
      = ∑ a : Fin 1792, part m c (1088 * (t.val / 4) + r.val) l.val (1792 * (t.val % 4) + a.val) := by
    intro t h
    rw [outsAt0_A m c t h (by omega)]
    frame_out
    pointwise [k0_pay1]
    simp only [blk0, blk1, part]
    rfl
  have next : ∀ t : Fin cfg0.N, ¬t.val % 4 = 0 → outsAt0 m c t.val t.isLt (ix2 r l)
      = outsAt0 m c (t.val - 1) (Nat.lt_of_le_of_lt (Nat.sub_le _ _) t.isLt) (ix2 r l)
        + ∑ a : Fin 1792, part m c (1088 * (t.val / 4) + r.val) l.val (1792 * (t.val % 4) + a.val) := by
    intro t h
    rw [outsAt0_B m c t h (by omega)]
    frame_out
    pointwise [k0_pay1, k0_pay2]
    simp only [blk0, blk1, part]
    rfl
  have start : ∀ n (h : n < 8), n % 4 = 0 → outsAt0 m c n (lt_of_lt_of_eq h N_0.symm) (ix2 r l)
      = ∑ q ∈ Finset.range (1792 * (n % 4 + 1)), part m c (1088 * (n / 4) + r.val) l.val q := fun n h h4 => by
    refine (first ⟨n, lt_of_lt_of_eq h N_0.symm⟩ h4).trans ?_
    simp only [h4, Nat.mul_zero, Nat.zero_add, Nat.mul_one, Finset.sum_range]
  induction n with
  | zero => exact start 0 h rfl
  | succ n ih =>
    by_cases h4 : (n + 1) % 4 = 0
    · exact start _ h h4
    · refine (next ⟨n + 1, lt_of_lt_of_eq h N_0.symm⟩ h4).trans ?_
      have e : (n + 1) / 4 = n / 4 := by omega
      have e' : (n + 1) % 4 = n % 4 + 1 := by omega
      dsimp only
      rw [e, e', Nat.mul_add 1792 (n % 4 + 1) 1, Nat.mul_one, Finset.sum_range_add, Finset.sum_range (fun x => part m c _ _ (_ + x))]
      exact congrArg (· + _) (ih (by omega))

theorem final2 : (dats m 0 c).arrAt 2 (cfgs 0).N = Reference25Ideal.Read.val_main_v4 (F := Ideal) (x m c) (w m c) := by
  refine (dats m 0 c).arrAt_eq_of_covers 2 _ (by decide +kernel) fun t hf y => ?_
  have ht : t.val < 8 := by have := idx t; tauto
  have h3 : t.val % 4 = 3 := by have := (flush0_2 _).mp hf; omega
  blk_simp
  rw [after0_2]
  have h0 : (y 0).val < 1088 := (y 0).isLt
  have h1 : (y 1).val < 1024 := (y 1).isLt
  refine ((congrArg (outsAt0 m c t.val t.isLt) (eq_ix2 (n0 := 1088) (n1 := 1024) y)).trans (total m c (y 0) (y 1) t.val ht)).trans ?_
  rw [h3, Finset.sum_range]
  refine ((congrArg _ (?_ : _ = ix2 ⟨1088 * (t.val / 4) + (y 0).val, by omega⟩ ⟨(y 1).val, h1⟩)).trans (ref_at _ _ _ _)).symm
  blk_ext [idx t]

theorem frame : quiescent_Kernel25 (hKernel25 := Kernel25.Gen.facts) :=
  fun m g _ => Kernel25.Gen.frame m g

theorem frame_ideal : quiescent_Kernel25Ideal (hKernel25Ideal := Kernel25Ideal.Gen.facts) :=
  fun m g _ => Kernel25Ideal.Gen.frame m g

theorem frame_ref : quiescent_Reference25Ideal (hReference25Ideal := Reference25Ideal.Gen.facts) :=
  fun m g _ => (θ_run Reference25Ideal.defs _ _).mono
    (fun r h => ⟨fun c => (h c).2, sem_eq_zero_of_no_sems (by decide) r.2⟩) (Reference25Ideal.Value.run m g)

section
open Reference25Ideal.Read

/-- Equal arguments have equal results. -/
theorem same2 {x0 x1 y0 y1} (h0 : x0 = y0) (h1 : x1 = y1) :
    val_main_v4 (F := Ideal) x0 x1 = val_main_v4 (F := Ideal) y0 y1 := by rw [h0, h1]
end

set_option maxHeartbeats 2000000 in
theorem algebraic : algebraic_Kernel25Ideal_Reference25Ideal (hKernel25Ideal := Kernel25Ideal.Gen.facts)
    (hReference25Ideal := Reference25Ideal.Gen.facts) := by
  pair_intro
  · run_from Kernel25Ideal.Gen.run_main m g
    · exact Kernel25Ideal.Gen.V_main_arg0 m c
    · exact Kernel25Ideal.Gen.V_main_arg1 m c
  · refine (θ_run Reference25Ideal.defs _ _).mono (fun r h c => ?_) (Reference25Ideal.Value.run m' g')
    have a0 := (hagree c).1
    have a1 := (hagree c).2
    have r2 := (h c).1.trans (Reference25Ideal.Read.val_main_v4_eq _ _)
    have k := (h c).2
    clear h
    have e2 := same2 a0 a1
    have l2 := r2.trans e2
    exact ⟨l2.trans (final2 m c).symm, k⟩

end Cert.MmNTCols

end
-- ==== Proof.SumSlots.Value.lean ====
/- The sum of eight slots: the array which the kernel's run leaves is the reference's. -/
module

public import proofs.«01_k».proof.Defs
public import proofs.«01_k».proof.Proof.Gen.Kernel26.Frame
public import proofs.«01_k».proof.Proof.Gen.Reference26Ideal
public import proofs.«01_k».proof.Proof.Gen.Reference26Ideal.Run
public import Idealize.ShloMosaic.Lib.Claim
public import Idealize.ShloMosaic.Lib.Quiescent
public import proofs.«01_k».proof.Proof.Gen.Kernel26Ideal.Value
public import proofs.«01_k».proof.Proof.Gen.Reference26Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel26Ideal Cert.Kernel26Ideal.Gen Cert.Rows

namespace Cert.SumSlots

/-- The sum of the slots at an entry. -/
def out (b : (⟨3, ![8, 448, 128]⟩ : Shape).Idx → EReal) (r : Fin 448) (l : Fin 128) : EReal := ∑ k : Fin 8, b (ix3 k r l)

open Reference26Ideal.Read in
theorem ref_at (b : FVec Ideal Reference26Ideal.S8x448x128 .f32) (r : Fin 448) (l : Fin 128) : val_main_v0 (F := Ideal) b (ix2 r l) = out b r l := by
  pointwise [val_main_v0, val_main_cst]
  rfl

variable (m : (ℓ : Loc nD τ sig) → Buf (Elt Ideal) ℓ) (c : Dev nD)

theorem idx : ∀ t : Fin cfg0.N, win0_0.index t = ![0, t.val, 0] ∧ win0_1.index t = ![t.val, 0] ∧ t.val < 7 :=
  (by decide +kernel : ∀ t : Fin grid0.N, _)

/-- The argument. -/
abbrev b := m ((c : Thread nD τ).loc main_arg0)

/-- A row's place in the whole array, from its place in a block of 64 rows. -/
def row (t : Fin cfg0.N) (r : Fin 64) : Fin 448 := ⟨t.val * 64 + r.val, by have := idx t; omega⟩

theorem blk0 (t : Fin cfg0.N) (j : S8x64x128.Idx) : iblk m c 0 t j = b m c (ix3 (j 0) (row t (j 1)) (j 2)) := by
  unfold iblk
  blk_simp [idx t]
  refine (congrArg (Gen.V m c main_arg0) (?_ : _ = ix3 (j 0 : Fin 8) (row t (j 1)) (j 2 : Fin 128))).trans (congrFun (V_main_arg0 m c) _)
  blk_ext [idx t, row]

theorem point (t : Fin cfg0.N) (j : S64x128.Idx) : out0_1 (iblk m c 0 t) j = out (b m c) (row t (j 0)) (j 1) := by
  unfold out0_1
  canon_tiles x e
  pointwise [k0_pay1]
  simp only [blk0, out, Fin.sum_univ_eight]
  rw [show j 0 = x 0 from Fin.ext e0, show j 1 = x 1 from Fin.ext e1]
  rfl

theorem final1 : (dats m 0 c).arrAt 1 (cfgs 0).N = Reference26Ideal.Read.val_main_v0 (F := Ideal) (b m c) := by
  refine (dats m 0 c).arrAt_eq_of_covers 1 _ (by decide +kernel) fun t hf y => ?_
  blk_simp
  rw [after0_1]
  refine (point m c t y).trans ((congrArg _ (?_ : _ = ix2 (row t (y 0)) (y 1 : Fin 128))).trans (ref_at _ _ _)).symm
  blk_ext [idx t, row]

theorem frame : quiescent_Kernel26 (hKernel26 := Kernel26.Gen.facts) :=
  fun m g _ => Kernel26.Gen.frame m g

theorem frame_ideal : quiescent_Kernel26Ideal (hKernel26Ideal := Kernel26Ideal.Gen.facts) :=
  fun m g _ => Kernel26Ideal.Gen.frame m g

theorem frame_ref : quiescent_Reference26Ideal (hReference26Ideal := Reference26Ideal.Gen.facts) :=
  fun m g _ => (θ_run Reference26Ideal.defs _ _).mono
    (fun r h => ⟨fun c => (h c).2, sem_eq_zero_of_no_sems (by decide) r.2⟩) (Reference26Ideal.Value.run m g)

section
open Reference26Ideal.Read

/-- Equal arguments have equal results. -/
theorem same1 {x0 y0} (h0 : x0 = y0) :
    val_main_v0 (F := Ideal) x0 = val_main_v0 (F := Ideal) y0 := by rw [h0]
end

set_option maxHeartbeats 2000000 in
theorem algebraic : algebraic_Kernel26Ideal_Reference26Ideal (hKernel26Ideal := Kernel26Ideal.Gen.facts)
    (hReference26Ideal := Reference26Ideal.Gen.facts) := by
  pair_intro
  · run_from Kernel26Ideal.Gen.run_main m g
  · refine (θ_run Reference26Ideal.defs _ _).mono (fun r h c => ?_) (Reference26Ideal.Value.run m' g')
    have a0 := (hagree c)
    have r1 := (h c).1.trans (Reference26Ideal.Read.val_main_v0_eq _)
    have k := (h c).2
    clear h
    have e1 := same1 a0
    have l1 := r1.trans e1
    exact ⟨l1.trans (final1 m c).symm, k⟩

end Cert.SumSlots

end
-- ==== Proof.QkvSplit.Value.lean ====
/- Queries, keys and values taken out of the projection: the arrays which the kernel's run leaves are the reference's. -/
module

public import proofs.«01_k».proof.Defs
public import proofs.«01_k».proof.Proof.Gen.Kernel27.Frame
public import proofs.«01_k».proof.Proof.Gen.Reference27Ideal
public import proofs.«01_k».proof.Proof.Gen.Reference27Ideal.Run
public import Idealize.ShloMosaic.Lib.Claim
public import Idealize.ShloMosaic.Lib.Quiescent
public import proofs.«01_k».proof.Proof.Gen.Kernel27Ideal.Value
public import proofs.«01_k».proof.Proof.Gen.Reference27Ideal.Read
public import proofs.«01_k».proof.Proof.Rows.Pad

@[expose] public section

set_option maxRecDepth 16384

noncomputable section

open Idealize.ShloMosaic Idealize.ShloMosaic.TcCoe Idealize.SL.Sem
open Idealize.ShloMosaic.Pipeline (Dat)
open Cert.Kernel27Ideal Cert.Kernel27Ideal.Gen Cert.Rows

namespace Cert.QkvSplit

variable (m : (ℓ : Loc nD τ sig) → Buf (Elt Ideal) ℓ) (c : Dev nD)

theorem idx : ∀ t : Fin cfg0.N, win0_0.index t = ![min t.val 16, 2] ∧ win0_1.index t = ![min t.val 16, 3] ∧ win0_2.index t = ![min t.val 16, 4]
    ∧ win0_3.index t = ![t.val, 0] ∧ win0_4.index t = ![t.val, 0] ∧ win0_5.index t = ![t.val, 0] ∧ t.val < 18 :=
  (by decide +kernel : ∀ t : Fin grid0.N, _)

/-- The argument. -/
abbrev p := m ((c : Thread nD τ).loc main_arg0)

theorem V_p (r : Fin 2176) (l : Fin 7168) : Gen.V m c main_v1 (ix2 r l) = rows (p m c) r.val l.val := by
  refine Eq.trans (congrFun ?_ _) (pad_at (p m c) shapeCasts_S1x2064x7168_S2064x7168 pads_S2064x7168_S2176x7168_01120_000 h_S_ r l)
  unfold Gen.V
  simp only [hostOps0, hostOps0_1, List.flatten_cons, List.flatten_nil, List.cons_append, List.nil_append, List.append_nil]
  entry_read
  rfl

/-- An entry's row in the whole array, from its row in a block of 128. -/
def row (t : Fin cfg0.N) (r : Fin 128) : Fin 2304 := ⟨t.val * 128 + r.val, by have := idx t; omega⟩

/-- The version's test for the tiles of rows which it copies. -/
theorem live : ∀ t : Fin cfg0.N, Scalar.cmpi .slt (BitVec.ofNat 32 (grid0.coords t 0).val) 17#32 = if t.val < 17 then 1#1 else 0#1 :=
  (by decide +kernel : ∀ t : Fin grid0.N, _)

/-- The rows of the tiles which are not copied are zero anyway, so a tile's rows are those of the whole array. -/
theorem last (x : (⟨3, ![1, 2064, 7168]⟩ : Shape).Idx → EReal) (t : Fin cfg0.N) (r : Fin 128) (l : ℕ) (f : EReal → EReal) (hf : f 0 = 0) :
    Scalar.select (Scalar.cmpi .slt (BitVec.ofNat 32 (grid0.coords t 0).val) 17#32) (f (rows x (min t.val 16 * 128 + r.val) l)) 0 = f (rows x (row t r).val l) := by
  rw [live t]
  by_cases h : t.val < 17
  · rw [if_pos h, show min t.val 16 = t.val by omega]
    rfl
  · rw [if_neg h, rows_out x (r := (row t r).val) (by show 2064 ≤ t.val * 128 + r.val; omega), hf]
    rfl

theorem padded (x : (⟨3, ![1, 2064, 7168]⟩ : Shape).Idx → EReal) (s : ℕ) (l : Fin 7168) (f : EReal → EReal) (hf : f 0 = 0) :
    (if h : s < 2064 then f (x (ix3 (0 : Fin 1) ⟨s, h⟩ l)) else FloatOps.sitofp (F := Ideal) .f32 (0#32 : BitVec 32)) = f (rows x s l) := by
  rw [← rows_pad x s l, sitofp_zero]
  by_cases h : s < 2064
  · rw [dif_pos h, dif_pos h]
  · rw [dif_neg h, dif_neg h, hf]

theorem blk0 (t : Fin cfg0.N) (j : S128x1024.Idx) : iblk m c 0 t j = rows (p m c) (min t.val 16 * 128 + (j 0).val) (2048 + (j 1).val) := by
  have h0 : (j 0).val < 128 := (j 0).isLt
  have h1 : (j 1).val < 1024 := (j 1).isLt
  unfold iblk
  blk_simp [idx t]
  refine (congrArg (Gen.V m c main_v1) (?_ : _ = ix2 ⟨min t.val 16 * 128 + (j 0).val, by omega⟩ ⟨2048 + (j 1).val, by omega⟩)).trans (V_p m c _ _)
  blk_ext [idx t]

theorem blk1 (t : Fin cfg0.N) (j : S128x1024.Idx) : iblk m c 1 t j = rows (p m c) (min t.val 16 * 128 + (j 0).val) (3072 + (j 1).val) := by
  have h0 : (j 0).val < 128 := (j 0).isLt
  have h1 : (j 1).val < 1024 := (j 1).isLt
  unfold iblk
  blk_simp [idx t]
  refine (congrArg (Gen.V m c main_v1) (?_ : _ = ix2 ⟨min t.val 16 * 128 + (j 0).val, by omega⟩ ⟨3072 + (j 1).val, by omega⟩)).trans (V_p m c _ _)
  blk_ext [idx t]

theorem blk2 (t : Fin cfg0.N) (j : S128x1024.Idx) : iblk m c 2 t j = rows (p m c) (min t.val 16 * 128 + (j 0).val) (4096 + (j 1).val) := by
  have h0 : (j 0).val < 128 := (j 0).isLt
  have h1 : (j 1).val < 1024 := (j 1).isLt
  unfold iblk
  blk_simp [idx t]
  refine (congrArg (Gen.V m c main_v1) (?_ : _ = ix2 ⟨min t.val 16 * 128 + (j 0).val, by omega⟩ ⟨4096 + (j 1).val, by omega⟩)).trans (V_p m c _ _)
  blk_ext [idx t]

/-- The queries' factor. -/
def eighth : EReal := Ideal.ofBits .f32 0x3E000000#32

open Reference27Ideal.Read in
theorem ref0 (x : FVec Ideal Reference27Ideal.S1x2064x7168 .f32) (s : Fin 2304) (l : Fin 1024) :
    val_main_v9 (F := Ideal) x (ix2 s l) = rows x s.val (2048 + l.val) * eighth := by
  pointwise [val_main_v13, val_main_v12, val_main_v11, val_main_v10, val_main_v9, val_main_v8, val_main_v7, val_main_v6, val_main_v5, val_main_v4, val_main_v3, val_main_v2, val_main_v1, val_main_v0, val_main_call0_v0, val_main_call1_v0, val_main_call2_v0, val_main_c, val_main_c_0, val_main_c_1, val_main_cst]
  exact padded x s.val ⟨2048 + l.val, by omega⟩ (· * eighth) (zero_mul _)

theorem point0 (t : Fin cfg0.N) (j : S128x1024.Idx) : out0_3 (grid0.coords t) (iblk m c 0 t) (iblk m c 1 t) (iblk m c 2 t) j
    = rows (p m c) (row t (j 0)).val (2048 + (j 1).val) * eighth := by
  unfold out0_3
  canon_tiles x e
  pointwise [k0_pay1]
  simp only [blk0]
  rw [show j 0 = x 0 from Fin.ext e0, show j 1 = x 1 from Fin.ext e1]
  exact last (p m c) t (x 0) _ (· * eighth) (zero_mul _)

theorem final3 : (dats m 0 c).arrAt 3 (cfgs 0).N = Reference27Ideal.Read.val_main_v9 (F := Ideal) (p m c) := by
  refine (dats m 0 c).arrAt_eq_of_covers 3 _ (by decide +kernel) fun t hf y => ?_
  blk_simp
  rw [after0_3]
  refine (point0 m c t y).trans ((congrArg _ (?_ : _ = ix2 (row t (y 0)) (y 1 : Fin 1024))).trans (ref0 _ _ _)).symm
  blk_ext [idx t, row]

open Reference27Ideal.Read in
theorem ref1 (x : FVec Ideal Reference27Ideal.S1x2064x7168 .f32) (s : Fin 2304) (l : Fin 1024) :
    val_main_v11 (F := Ideal) x (ix2 s l) = rows x s.val (3072 + l.val) := by
  pointwise [val_main_v13, val_main_v12, val_main_v11, val_main_v10, val_main_v9, val_main_v8, val_main_v7, val_main_v6, val_main_v5, val_main_v4, val_main_v3, val_main_v2, val_main_v1, val_main_v0, val_main_call0_v0, val_main_call1_v0, val_main_call2_v0, val_main_c, val_main_c_0, val_main_c_1, val_main_cst]
  exact padded x s.val ⟨3072 + l.val, by omega⟩ id rfl

theorem point1 (t : Fin cfg0.N) (j : S128x1024.Idx) : out0_4 (grid0.coords t) (iblk m c 0 t) (iblk m c 1 t) (iblk m c 2 t) j
    = rows (p m c) (row t (j 0)).val (3072 + (j 1).val) := by
  unfold out0_4
  canon_tiles x e
  pointwise [k0_pay2]
  simp only [blk1]
  rw [show j 0 = x 0 from Fin.ext e0, show j 1 = x 1 from Fin.ext e1]
  exact last (p m c) t (x 0) _ id rfl

theorem final4 : (dats m 0 c).arrAt 4 (cfgs 0).N = Reference27Ideal.Read.val_main_v11 (F := Ideal) (p m c) := by
  refine (dats m 0 c).arrAt_eq_of_covers 4 _ (by decide +kernel) fun t hf y => ?_
  blk_simp
  rw [after0_4]
  refine (point1 m c t y).trans ((congrArg _ (?_ : _ = ix2 (row t (y 0)) (y 1 : Fin 1024))).trans (ref1 _ _ _)).symm
  blk_ext [idx t, row]

open Reference27Ideal.Read in
theorem ref2 (x : FVec Ideal Reference27Ideal.S1x2064x7168 .f32) (s : Fin 2304) (l : Fin 1024) :
    val_main_v13 (F := Ideal) x (ix2 s l) = rows x s.val (4096 + l.val) := by
  pointwise [val_main_v13, val_main_v12, val_main_v11, val_main_v10, val_main_v9, val_main_v8, val_main_v7, val_main_v6, val_main_v5, val_main_v4, val_main_v3, val_main_v2, val_main_v1, val_main_v0, val_main_call0_v0, val_main_call1_v0, val_main_call2_v0, val_main_c, val_main_c_0, val_main_c_1, val_main_cst]
  exact padded x s.val ⟨4096 + l.val, by omega⟩ id rfl

theorem point2 (t : Fin cfg0.N) (j : S128x1024.Idx) : out0_5 (grid0.coords t) (iblk m c 0 t) (iblk m c 1 t) (iblk m c 2 t) j
    = rows (p m c) (row t (j 0)).val (4096 + (j 1).val) := by
  unfold out0_5
  canon_tiles x e
  pointwise [k0_pay3]
  simp only [blk2]
  rw [show j 0 = x 0 from Fin.ext e0, show j 1 = x 1 from Fin.ext e1]
  exact last (p m c) t (x 0) _ id rfl

theorem final5 : (dats m 0 c).arrAt 5 (cfgs 0).N = Reference27Ideal.Read.val_main_v13 (F := Ideal) (p m c) := by
  refine (dats m 0 c).arrAt_eq_of_covers 5 _ (by decide +kernel) fun t hf y => ?_
  blk_simp
  rw [after0_5]
  refine (point2 m c t y).trans ((congrArg _ (?_ : _ = ix2 (row t (y 0)) (y 1 : Fin 1024))).trans (ref2 _ _ _)).symm
  blk_ext [idx t, row]

theorem frame : quiescent_Kernel27 (hKernel27 := Kernel27.Gen.facts) :=
  fun m g _ => Kernel27.Gen.frame m g

theorem frame_ideal : quiescent_Kernel27Ideal (hKernel27Ideal := Kernel27Ideal.Gen.facts) :=
  fun m g _ => Kernel27Ideal.Gen.frame m g

theorem frame_ref : quiescent_Reference27Ideal (hReference27Ideal := Reference27Ideal.Gen.facts) :=
  fun m g _ => (θ_run Reference27Ideal.defs _ _).mono
    (fun r h => ⟨fun c => (h c).2.2.2, sem_eq_zero_of_no_sems (by decide) r.2⟩) (Reference27Ideal.Value.run m g)

section
open Reference27Ideal.Read

/-- Equal arguments have equal results. -/
theorem same3 {x0 y0} (h0 : x0 = y0) :
    val_main_v9 (F := Ideal) x0 = val_main_v9 (F := Ideal) y0 := by rw [h0]
theorem same4 {x0 y0} (h0 : x0 = y0) :
    val_main_v11 (F := Ideal) x0 = val_main_v11 (F := Ideal) y0 := by rw [h0]
theorem same5 {x0 y0} (h0 : x0 = y0) :
    val_main_v13 (F := Ideal) x0 = val_main_v13 (F := Ideal) y0 := by rw [h0]
end

set_option maxHeartbeats 2000000 in
theorem algebraic : algebraic_Kernel27Ideal_Reference27Ideal (hKernel27Ideal := Kernel27Ideal.Gen.facts)
    (hReference27Ideal := Reference27Ideal.Gen.facts) := by
  pair_intro
  · run_from Kernel27Ideal.Gen.run_main m g
    · exact Kernel27Ideal.Gen.V_main_arg0 m c
  · refine (θ_run Reference27Ideal.defs _ _).mono (fun r h c => ?_) (Reference27Ideal.Value.run m' g')
    have a0 := (hagree c)
    have r3 := (h c).1.trans (Reference27Ideal.Read.val_main_v9_eq _)
    have r4 := (h c).2.1.trans (Reference27Ideal.Read.val_main_v11_eq _)
    have r5 := (h c).2.2.1.trans (Reference27Ideal.Read.val_main_v13_eq _)
    have k := (h c).2.2.2
    clear h
    have e3 := same3 a0
    have e4 := same4 a0
    have e5 := same5 a0
    have l3 := r3.trans e3
    have l4 := r4.trans e4
    have l5 := r5.trans e5
    exact ⟨l3.trans (final3 m c).symm, l4.trans (final4 m c).symm, l5.trans (final5 m c).symm, k⟩

end Cert.QkvSplit

end
-- ==== Proof.AdamSmall.Value.lean ====
/- The optimiser's step for the small weights: the arrays which the run leaves are the reference's. -/
module

public import proofs.«01_k».proof.Defs
public import proofs.«01_k».proof.Proof.Gen.Kernel28.Frame
public import proofs.«01_k».proof.Proof.Gen.Reference28Ideal
public import proofs.«01_k».proof.Proof.Gen.Reference28Ideal.Run
public import Idealize.ShloMosaic.Lib.Claim
public import Idealize.ShloMosaic.Lib.Quiescent
public import Idealize.ShloMosaic.Lib.KernelVsHost
public import proofs.«01_k».proof.Proof.Gen.Kernel28Ideal.Value
public import proofs.«01_k».proof.Proof.Gen.Reference28Ideal.Read
public import proofs.«01_k».proof.Proof.Rows.Mm

@[expose] public section

set_option maxRecDepth 16384

noncomputable section

open Idealize.ShloMosaic Idealize.ShloMosaic.TcCoe Idealize.SL.Sem
open Idealize.ShloMosaic.Pipeline (Dat)
open Cert.Kernel28Ideal Cert.Kernel28Ideal.Gen Cert.Rows

namespace Cert.AdamSmall

/-- The ten arrays of the small weights (or of their gradients or moments), each in rows of 128. -/
structure Parts where
  p0 : (⟨2, ![16, 128]⟩ : Shape).Idx → EReal
  p1 : (⟨2, ![8, 128]⟩ : Shape).Idx → EReal
  p2 : (⟨2, ![16, 128]⟩ : Shape).Idx → EReal
  p3 : (⟨2, ![31, 128]⟩ : Shape).Idx → EReal
  p4 : (⟨2, ![8, 128]⟩ : Shape).Idx → EReal
  p5 : (⟨2, ![8, 128]⟩ : Shape).Idx → EReal
  p6 : (⟨2, ![8, 128]⟩ : Shape).Idx → EReal
  p7 : (⟨2, ![8, 128]⟩ : Shape).Idx → EReal
  p8 : (⟨2, ![8, 128]⟩ : Shape).Idx → EReal
  p9 : (⟨2, ![8, 128]⟩ : Shape).Idx → EReal

/-- The arrays as the host holds them, put in rows of 128. -/
def parts (a0 : FVec Ideal S16x128 .f32) (a1 : FVec Ideal S1x1024 .f32) (a2 : FVec Ideal S1x2048 .f32) (a3 : FVec Ideal S1x31x128 .f32)
    (a4 a5 a6 a7 a8 a9 : FVec Ideal S1x1024 .f32) : Parts :=
  ⟨a0, shapeCast _ a1 (by decide), shapeCast _ a2 (by decide), shapeCast _ a3 (by decide), shapeCast _ a4 (by decide), shapeCast _ a5 (by decide),
    shapeCast _ a6 (by decide), shapeCast _ a7 (by decide), shapeCast _ a8 (by decide), shapeCast _ a9 (by decide)⟩

/-- A function of four numbers, taken entry by entry. -/
def map4 (f : EReal → EReal → EReal → EReal → EReal) (w g p q : Parts) : Parts :=
  ⟨fun i => f (w.p0 i) (g.p0 i) (p.p0 i) (q.p0 i), fun i => f (w.p1 i) (g.p1 i) (p.p1 i) (q.p1 i), fun i => f (w.p2 i) (g.p2 i) (p.p2 i) (q.p2 i),
    fun i => f (w.p3 i) (g.p3 i) (p.p3 i) (q.p3 i), fun i => f (w.p4 i) (g.p4 i) (p.p4 i) (q.p4 i), fun i => f (w.p5 i) (g.p5 i) (p.p5 i) (q.p5 i),
    fun i => f (w.p6 i) (g.p6 i) (p.p6 i) (q.p6 i), fun i => f (w.p7 i) (g.p7 i) (p.p7 i) (q.p7 i), fun i => f (w.p8 i) (g.p8 i) (p.p8 i) (q.p8 i),
    fun i => f (w.p9 i) (g.p9 i) (p.p9 i) (q.p9 i)⟩

/-- The rows one below the other, with a row of zeros at the end. -/
abbrev rowList (b : Parts) : List ((s : Shape) × (s.Idx → EReal)) :=
  [⟨S16x128, b.p0⟩, ⟨⟨2, ![8, 128]⟩, b.p1⟩, ⟨S16x128, b.p2⟩, ⟨⟨2, ![31, 128]⟩, b.p3⟩, ⟨⟨2, ![8, 128]⟩, b.p4⟩, ⟨⟨2, ![8, 128]⟩, b.p5⟩, ⟨⟨2, ![8, 128]⟩, b.p6⟩,
    ⟨⟨2, ![8, 128]⟩, b.p7⟩, ⟨⟨2, ![8, 128]⟩, b.p8⟩, ⟨⟨2, ![8, 128]⟩, b.p9⟩, ⟨⟨2, ![1, 128]⟩, fun _ => Ideal.ofBits FTy.f32 0#32⟩]

theorem rowsFit (b : Parts) : Shape.Concatenates ((rowList b).map (·.1)) S120x128 0 :=
  (by decide : Shape.Concatenates [S16x128, ⟨2, ![8, 128]⟩, S16x128, ⟨2, ![31, 128]⟩, ⟨2, ![8, 128]⟩, ⟨2, ![8, 128]⟩, ⟨2, ![8, 128]⟩, ⟨2, ![8, 128]⟩, ⟨2, ![8, 128]⟩,
    ⟨2, ![8, 128]⟩, ⟨2, ![1, 128]⟩] S120x128 0)

def stack (b : Parts) : (⟨2, ![120, 128]⟩ : Shape).Idx → EReal := concatenate S120x128 0 (rowList b) (rowsFit b)

/-- The arrays laid out flat one after the other. -/
abbrev flatList (b : Parts) : List ((s : Shape) × (s.Idx → EReal)) :=
  [⟨S2048, shapeCast _ b.p0 (by decide)⟩, ⟨S1024, shapeCast _ b.p1 (by decide)⟩, ⟨S2048, shapeCast _ b.p2 (by decide)⟩, ⟨S3968, shapeCast _ b.p3 (by decide)⟩,
    ⟨S1024, shapeCast _ b.p4 (by decide)⟩, ⟨S1024, shapeCast _ b.p5 (by decide)⟩, ⟨S1024, shapeCast _ b.p6 (by decide)⟩, ⟨S1024, shapeCast _ b.p7 (by decide)⟩,
    ⟨S1024, shapeCast _ b.p8 (by decide)⟩, ⟨S1024, shapeCast _ b.p9 (by decide)⟩]

theorem flatsFit (b : Parts) : Shape.Concatenates ((flatList b).map (·.1)) S15232 0 :=
  concatenates_S2048_S1024_S2048_S3968_S1024_S1024_S1024_S1024_S1024_S1024_S15232_d0

def cat (a0 : FVec Ideal S2048 .f32) (a1 : FVec Ideal S1024 .f32) (a2 : FVec Ideal S2048 .f32) (a3 : FVec Ideal S3968 .f32)
    (a4 a5 a6 a7 a8 a9 : FVec Ideal S1024 .f32) : FVec Ideal S15232 .f32 :=
  concatenate S15232 0 [⟨S2048, a0⟩, ⟨S1024, a1⟩, ⟨S2048, a2⟩, ⟨S3968, a3⟩, ⟨S1024, a4⟩, ⟨S1024, a5⟩, ⟨S1024, a6⟩, ⟨S1024, a7⟩, ⟨S1024, a8⟩, ⟨S1024, a9⟩]
    concatenates_S2048_S1024_S2048_S3968_S1024_S1024_S1024_S1024_S1024_S1024_S15232_d0

/-- The version's packing: flat, padded with zeros, cut into rows of 128. -/
def pack (b : Parts) : (⟨2, ![120, 128]⟩ : Shape).Idx → EReal :=
  shapeCast S120x128 (pad S15360 ![0] ![128] ![0] (cat (shapeCast _ b.p0 (by decide)) (shapeCast _ b.p1 (by decide)) (shapeCast _ b.p2 (by decide))
      (shapeCast _ b.p3 (by decide)) (shapeCast _ b.p4 (by decide)) (shapeCast _ b.p5 (by decide)) (shapeCast _ b.p6 (by decide)) (shapeCast _ b.p7 (by decide))
      (shapeCast _ b.p8 (by decide)) (shapeCast _ b.p9 (by decide)))
    (sitofp (F := Ideal) .f32 (constantI S_ 32 0#32)) pads_S15232_S15360_01280 h_S_) shapeCasts_S15360_S120x128

theorem flat_at {k n : ℕ} (a : (⟨2, ![k, 128]⟩ : Shape).Idx → EReal) (h : (⟨2, ![k, 128]⟩ : Shape).ShapeCasts ⟨1, ![n]⟩) (r : Fin k) (l : Fin 128)
    (i : Fin n) (hi : i.val = r.val * 128 + l.val) : shapeCast ⟨1, ![n]⟩ a h (ix1 i) = a (ix2 r l) := by
  refine shapeCast_apply a h _ _ ?_
  rw [Shape.rowMajor_val_two, Shape.rowMajor_val_one]
  exact hi.symm

abbrev flatShapes : List Shape := [S2048, S1024, S2048, S3968, S1024, S1024, S1024, S1024, S1024, S1024]

/-- A row of the packed array is a row of the array it comes from. -/
theorem pack_at (b : Parts) (R : Fin 120) (l : Fin 128) (k : ℕ) (hk : k < (flatList b).length) {n d : ℕ} (a : (⟨2, ![d, 128]⟩ : Shape).Idx → EReal)
    (h : (⟨2, ![d, 128]⟩ : Shape).ShapeCasts ⟨1, ![n]⟩) (hn : n = d * 128) (hx : (flatList b)[k] = ⟨⟨1, ![n]⟩, shapeCast _ a h⟩) (pre : ℕ)
    (hpre : ((flatShapes.take k).map fun s => if h : s.rank = S15232.rank then s.size ((0 : Fin S15232.rank).cast h.symm) else 0).sum = pre * 128)
    (r : Fin d) (hr : R.val = pre + r.val) (h9 : R.val < 119) : pack b (ix2 R l) = a (ix2 r l) := by
  unfold pack
  have hR : R.val * 128 + l.val < 15232 := by omega
  refine (shapeCast_apply _ shapeCasts_S15360_S120x128 (ix2 R l) (ix1 ⟨R.val * 128 + l.val, by omega⟩ : S15360.Idx) ?_).trans ?_
  · rw [Shape.rowMajor_val_two, Shape.rowMajor_val_one]; rfl
  refine (pad_apply_of_inside _ _ _ _ _ _ _ _ (ix1 ⟨R.val * 128 + l.val, hR⟩ : S15232.Idx) ?_).trans ?_
  · intro x; fin_cases x; simp [ix1]
  show concatenate S15232 0 (flatList b) (flatsFit b) (ix1 ⟨R.val * 128 + l.val, hR⟩) = _
  refine (concatenate_apply_piece 0 (flatList b) (flatsFit b) (ix1 ⟨R.val * 128 + l.val, hR⟩ : S15232.Idx) k hk _ _ hx rfl (pre * 128) ((congrArg _ (congrArg _ (List.map_take (l := flatList b)))).trans hpre) (ix1 ⟨r.val * 128 + l.val, by omega⟩) ?_ ?_).trans (flat_at a h r l _ rfl)
  · intro x hne; exact absurd (Subsingleton.elim _ _) hne
  · show pre * 128 + (r.val * 128 + l.val) = R.val * 128 + l.val
    omega

theorem pack_last (b : Parts) (R : Fin 120) (l : Fin 128) (hR : R.val = 119) : pack b (ix2 R l) = 0 := by
  unfold pack
  refine (shapeCast_apply _ shapeCasts_S15360_S120x128 (ix2 R l) (ix1 ⟨R.val * 128 + l.val, by omega⟩ : S15360.Idx) ?_).trans ?_
  · rw [Shape.rowMajor_val_two, Shape.rowMajor_val_one]; rfl
  refine (pad_apply_of_not_inside _ _ _ _ _ _ _ _ 0 ?_).trans Rows.sitofp_zero
  rintro ⟨-, -, h⟩
  have h' : (R.val * 128 + l.val - 0) / (0 + 1) < 15232 := h
  omega

/-- The same row, where the rows are put one below the other. -/
theorem stack_at (b : Parts) (R : Fin 120) (l : Fin 128) (k : ℕ) (hk : k < (rowList b).length) {d : ℕ} (a : (⟨2, ![d, 128]⟩ : Shape).Idx → EReal)
    (hx : (rowList b)[k] = ⟨⟨2, ![d, 128]⟩, a⟩) (pre : ℕ)
    (hpre : ((((rowList b).take k).map (·.1)).map fun s => if h : s.rank = S120x128.rank then s.size ((0 : Fin S120x128.rank).cast h.symm) else 0).sum = pre)
    (r : Fin d) (hr : R.val = pre + r.val) : stack b (ix2 R l) = a (ix2 r l) := by
  unfold stack
  refine concatenate_apply_piece 0 (rowList b) _ (ix2 R l) k hk _ _ hx rfl pre hpre (ix2 r l) ?_ (by exact hr.symm)
  intro x hne
  fin_cases x
  · exact absurd rfl hne
  · rfl

/-- Both layouts hold the same numbers, also of a function taken entry by entry which is zero at zeros. -/
theorem stack_map (f : EReal → EReal → EReal → EReal → EReal) (hf : f 0 0 0 0 = 0) (w g p q : Parts) (j : (⟨2, ![120, 128]⟩ : Shape).Idx) :
    stack (map4 f w g p q) j = f (pack w j) (pack g j) (pack p j) (pack q j) := by
  obtain ⟨R, l, rfl⟩ : ∃ (R : Fin 120) (l : Fin 128), j = ix2 R l := ⟨j 0, j 1, eq_ix2 j⟩
  have step : ∀ (d : ℕ) (a : Parts → (⟨2, ![d, 128]⟩ : Shape).Idx → EReal) (r : Fin d),
      (∀ b, stack b (ix2 R l) = a b (ix2 r l)) → (∀ b, pack b (ix2 R l) = a b (ix2 r l)) →
      a (map4 f w g p q) (ix2 r l) = f (a w (ix2 r l)) (a g (ix2 r l)) (a p (ix2 r l)) (a q (ix2 r l)) →
      stack (map4 f w g p q) (ix2 R l) = f (pack w (ix2 R l)) (pack g (ix2 R l)) (pack p (ix2 R l)) (pack q (ix2 R l)) :=
    fun _ a r h1 h2 h3 => by rw [h1, h2, h2, h2, h2, h3]
  by_cases h0 : R.val < 16
  · exact step 16 Parts.p0 ⟨R.val - 0, by omega⟩ (fun b => stack_at b R l 0 (by decide : 0 < 11) b.p0 rfl 0 rfl _ (by show R.val = 0 + (R.val - 0); omega))
      (fun b => pack_at b R l 0 (by decide : 0 < 10) (n := 2048) b.p0 (by decide) (by norm_num) rfl 0 (by decide +kernel) _ (by show R.val = 0 + (R.val - 0); omega) (by omega)) rfl
  by_cases h1 : R.val < 24
  · exact step 8 Parts.p1 ⟨R.val - 16, by omega⟩ (fun b => stack_at b R l 1 (by decide : 1 < 11) b.p1 rfl 16 rfl _ (by show R.val = 16 + (R.val - 16); omega))
      (fun b => pack_at b R l 1 (by decide : 1 < 10) (n := 1024) b.p1 (by decide) (by norm_num) rfl 16 (by decide +kernel) _ (by show R.val = 16 + (R.val - 16); omega) (by omega)) rfl
  by_cases h2 : R.val < 40
  · exact step 16 Parts.p2 ⟨R.val - 24, by omega⟩ (fun b => stack_at b R l 2 (by decide : 2 < 11) b.p2 rfl 24 rfl _ (by show R.val = 24 + (R.val - 24); omega))
      (fun b => pack_at b R l 2 (by decide : 2 < 10) (n := 2048) b.p2 (by decide) (by norm_num) rfl 24 (by decide +kernel) _ (by show R.val = 24 + (R.val - 24); omega) (by omega)) rfl
  by_cases h3 : R.val < 71
  · exact step 31 Parts.p3 ⟨R.val - 40, by omega⟩ (fun b => stack_at b R l 3 (by decide : 3 < 11) b.p3 rfl 40 rfl _ (by show R.val = 40 + (R.val - 40); omega))
      (fun b => pack_at b R l 3 (by decide : 3 < 10) (n := 3968) b.p3 (by decide) (by norm_num) rfl 40 (by decide +kernel) _ (by show R.val = 40 + (R.val - 40); omega) (by omega)) rfl
  by_cases h4 : R.val < 79
  · exact step 8 Parts.p4 ⟨R.val - 71, by omega⟩ (fun b => stack_at b R l 4 (by decide : 4 < 11) b.p4 rfl 71 rfl _ (by show R.val = 71 + (R.val - 71); omega))
      (fun b => pack_at b R l 4 (by decide : 4 < 10) (n := 1024) b.p4 (by decide) (by norm_num) rfl 71 (by decide +kernel) _ (by show R.val = 71 + (R.val - 71); omega) (by omega)) rfl
  by_cases h5 : R.val < 87
  · exact step 8 Parts.p5 ⟨R.val - 79, by omega⟩ (fun b => stack_at b R l 5 (by decide : 5 < 11) b.p5 rfl 79 rfl _ (by show R.val = 79 + (R.val - 79); omega))
      (fun b => pack_at b R l 5 (by decide : 5 < 10) (n := 1024) b.p5 (by decide) (by norm_num) rfl 79 (by decide +kernel) _ (by show R.val = 79 + (R.val - 79); omega) (by omega)) rfl
  by_cases h6 : R.val < 95
  · exact step 8 Parts.p6 ⟨R.val - 87, by omega⟩ (fun b => stack_at b R l 6 (by decide : 6 < 11) b.p6 rfl 87 rfl _ (by show R.val = 87 + (R.val - 87); omega))
      (fun b => pack_at b R l 6 (by decide : 6 < 10) (n := 1024) b.p6 (by decide) (by norm_num) rfl 87 (by decide +kernel) _ (by show R.val = 87 + (R.val - 87); omega) (by omega)) rfl
  by_cases h7 : R.val < 103
  · exact step 8 Parts.p7 ⟨R.val - 95, by omega⟩ (fun b => stack_at b R l 7 (by decide : 7 < 11) b.p7 rfl 95 rfl _ (by show R.val = 95 + (R.val - 95); omega))
      (fun b => pack_at b R l 7 (by decide : 7 < 10) (n := 1024) b.p7 (by decide) (by norm_num) rfl 95 (by decide +kernel) _ (by show R.val = 95 + (R.val - 95); omega) (by omega)) rfl
  by_cases h8 : R.val < 111
  · exact step 8 Parts.p8 ⟨R.val - 103, by omega⟩ (fun b => stack_at b R l 8 (by decide : 8 < 11) b.p8 rfl 103 rfl _ (by show R.val = 103 + (R.val - 103); omega))
      (fun b => pack_at b R l 8 (by decide : 8 < 10) (n := 1024) b.p8 (by decide) (by norm_num) rfl 103 (by decide +kernel) _ (by show R.val = 103 + (R.val - 103); omega) (by omega)) rfl
  by_cases h9 : R.val < 119
  · exact step 8 Parts.p9 ⟨R.val - 111, by omega⟩ (fun b => stack_at b R l 9 (by decide : 9 < 11) b.p9 rfl 111 rfl _ (by show R.val = 111 + (R.val - 111); omega))
      (fun b => pack_at b R l 9 (by decide : 9 < 10) (n := 1024) b.p9 (by decide) (by norm_num) rfl 111 (by decide +kernel) _ (by show R.val = 111 + (R.val - 111); omega) (by omega)) rfl
  have hR : R.val = 119 := by omega
  rw [stack_at (map4 f w g p q) R l 10 (by decide : 10 < 11) _ rfl 119 rfl 0 (by rw [hR]; rfl), zero_f32, pack_last w R l hR, pack_last g R l hR, pack_last p R l hR,
    pack_last q R l hR, hf]

/-- The optimiser's step of one number: its change and its new moments. -/
def newP (_ g p _ : EReal) : EReal := Ideal.ofBits FTy.f32 1063675494#32 * p + Ideal.ofBits FTy.f32 1036831949#32 * g
def newQ (_ g _ q : EReal) : EReal := Ideal.ofBits FTy.f32 1065336439#32 * q + Ideal.ofBits FTy.f32 981668463#32 * (g * g)
def change (w g p q : EReal) : EReal :=
  Ideal.ofBits FTy.f32 3129152111#32 * (Ideal.div (Ideal.div (newP w g p q) (Ideal.ofBits FTy.f32 1059503362#32))
    (Ideal.sqrt (Ideal.div (newQ w g p q) (Ideal.ofBits FTy.f32 1008933580#32)) + Ideal.ofBits FTy.f32 841731191#32)
      + Ideal.ofBits FTy.f32 1008981770#32 * w)

theorem newP_zero : newP 0 0 0 0 = 0 := by simp [newP]
theorem newQ_zero : newQ 0 0 0 0 = 0 := by simp [newQ]
theorem c1_ne : Ideal.ofBits FTy.f32 1059503362#32 ≠ 0 := by
  simp [Ideal.ofBits, Ideal.ieee]
theorem c2_ne : Ideal.ofBits FTy.f32 1008933580#32 ≠ 0 := by
  simp [Ideal.ofBits, Ideal.ieee]
theorem c3_ne : Ideal.ofBits FTy.f32 841731191#32 ≠ 0 := by
  simp [Ideal.ofBits, Ideal.ieee]
theorem sqrt_zero : Ideal.sqrt 0 = 0 := by
  rw [← EReal.coe_zero, Ideal.sqrt_coe]
  simp
theorem change_zero : change 0 0 0 0 = 0 := by
  rw [change, newP_zero, newQ_zero]
  simp [Ideal.div, c1_ne, c2_ne, c3_ne, sqrt_zero]

section
open Reference28Ideal.Read
variable {w0 g0 p0 q0 : FVec Ideal S16x128 .f32} {w1 w4 w5 w6 w7 w8 w9 g1 g4 g5 g6 g7 g8 g9 p1 p4 p5 p6 p7 p8 p9 q1 q4 q5 q6 q7 q8 q9 : FVec Ideal S1x1024 .f32}
  {w2 g2 p2 q2 : FVec Ideal S1x2048 .f32} {w3 g3 p3 q3 : FVec Ideal S1x31x128 .f32}

theorem ref4 : val_main_v250 (F := Ideal) w0 w1 w2 w3 w4 w5 w6 w7 w8 w9 g0 g1 g2 g3 g4 g5 g6 g7 g8 g9 p0 p1 p2 p3 p4 p5 p6 p7 p8 p9 q0 q1 q2 q3 q4 q5 q6 q7 q8 q9
    = stack (map4 change (parts w0 w1 w2 w3 w4 w5 w6 w7 w8 w9) (parts g0 g1 g2 g3 g4 g5 g6 g7 g8 g9) (parts p0 p1 p2 p3 p4 p5 p6 p7 p8 p9)
      (parts q0 q1 q2 q3 q4 q5 q6 q7 q8 q9)) := rfl

theorem ref5 : val_main_v261 (F := Ideal) g0 g1 g2 g3 g4 g5 g6 g7 g8 g9 p0 p1 p2 p3 p4 p5 p6 p7 p8 p9
    = stack (map4 newP (parts w0 w1 w2 w3 w4 w5 w6 w7 w8 w9) (parts g0 g1 g2 g3 g4 g5 g6 g7 g8 g9) (parts p0 p1 p2 p3 p4 p5 p6 p7 p8 p9)
      (parts q0 q1 q2 q3 q4 q5 q6 q7 q8 q9)) := rfl

theorem ref6 : val_main_v272 (F := Ideal) g0 g1 g2 g3 g4 g5 g6 g7 g8 g9 q0 q1 q2 q3 q4 q5 q6 q7 q8 q9
    = stack (map4 newQ (parts w0 w1 w2 w3 w4 w5 w6 w7 w8 w9) (parts g0 g1 g2 g3 g4 g5 g6 g7 g8 g9) (parts p0 p1 p2 p3 p4 p5 p6 p7 p8 p9)
      (parts q0 q1 q2 q3 q4 q5 q6 q7 q8 q9)) := rfl
end

variable (m : (ℓ : Loc nD τ sig) → Buf (Elt Ideal) ℓ) (c : Dev nD)

abbrev w : Parts := parts (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9))
abbrev g : Parts := parts (m ((c : Thread nD τ).loc main_arg10)) (m ((c : Thread nD τ).loc main_arg11)) (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17)) (m ((c : Thread nD τ).loc main_arg18)) (m ((c : Thread nD τ).loc main_arg19))
abbrev p : Parts := parts (m ((c : Thread nD τ).loc main_arg20)) (m ((c : Thread nD τ).loc main_arg21)) (m ((c : Thread nD τ).loc main_arg22)) (m ((c : Thread nD τ).loc main_arg23)) (m ((c : Thread nD τ).loc main_arg24))
      (m ((c : Thread nD τ).loc main_arg25)) (m ((c : Thread nD τ).loc main_arg26)) (m ((c : Thread nD τ).loc main_arg27)) (m ((c : Thread nD τ).loc main_arg28)) (m ((c : Thread nD τ).loc main_arg29))
abbrev q : Parts := parts (m ((c : Thread nD τ).loc main_arg30)) (m ((c : Thread nD τ).loc main_arg31)) (m ((c : Thread nD τ).loc main_arg32)) (m ((c : Thread nD τ).loc main_arg33)) (m ((c : Thread nD τ).loc main_arg34))
      (m ((c : Thread nD τ).loc main_arg35)) (m ((c : Thread nD τ).loc main_arg36)) (m ((c : Thread nD τ).loc main_arg37)) (m ((c : Thread nD τ).loc main_arg38)) (m ((c : Thread nD τ).loc main_arg39))

set_option maxHeartbeats 1000000 in
theorem V_w : Gen.V m c main_v12 = pack (w m c) := by
  simp only [pack, parts, shapeCast_comp]
  rfl

set_option maxHeartbeats 1000000 in
theorem V_g : Gen.V m c main_v25 = pack (g m c) := by
  simp only [pack, parts, shapeCast_comp]
  rfl

set_option maxHeartbeats 1000000 in
theorem V_p : Gen.V m c main_v38 = pack (p m c) := by
  simp only [pack, parts, shapeCast_comp]
  rfl

set_option maxHeartbeats 1000000 in
theorem V_q : Gen.V m c main_v51 = pack (q m c) := by
  simp only [pack, parts, shapeCast_comp]
  rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ t.val < 15 :=
  (by decide +kernel : ∀ t : Fin grid0.N, _)

/-- An entry's place in the whole array, from its place in a block of 8 rows. -/
def at' (t : Fin cfg0.N) (j : S8x128.Idx) : (⟨2, ![120, 128]⟩ : Shape).Idx :=
  ix2 ⟨t.val * 8 + (j 0).val, by have h0 : (j 0).val < 8 := (j 0).isLt; have := idx t; omega⟩ ⟨(j 1).val, (j 1).isLt⟩

theorem at'_eq (t : Fin cfg0.N) (j x : S8x128.Idx) (e0 : (j 0).val = (x 0).val) (e1 : (j 1).val = (x 1).val) : at' t j = at' t x := by
  blk_ext [idx t, at']

theorem blk0 (t : Fin cfg0.N) (j : S8x128.Idx) : iblk m c 0 t j = pack (w m c) (at' t j) := by
  unfold iblk
  blk_simp [idx t]
  refine (congrArg (Gen.V m c main_v12) (?_ : _ = at' t j)).trans (congrFun (V_w m c) _)
  blk_ext [idx t, at']

theorem blk1 (t : Fin cfg0.N) (j : S8x128.Idx) : iblk m c 1 t j = pack (g m c) (at' t j) := by
  unfold iblk
  blk_simp [idx t]
  refine (congrArg (Gen.V m c main_v25) (?_ : _ = at' t j)).trans (congrFun (V_g m c) _)
  blk_ext [idx t, at']

theorem blk2 (t : Fin cfg0.N) (j : S8x128.Idx) : iblk m c 2 t j = pack (p m c) (at' t j) := by
  unfold iblk
  blk_simp [idx t]
  refine (congrArg (Gen.V m c main_v38) (?_ : _ = at' t j)).trans (congrFun (V_p m c) _)
  blk_ext [idx t, at']

theorem blk3 (t : Fin cfg0.N) (j : S8x128.Idx) : iblk m c 3 t j = pack (q m c) (at' t j) := by
  unfold iblk
  blk_simp [idx t]
  refine (congrArg (Gen.V m c main_v51) (?_ : _ = at' t j)).trans (congrFun (V_q m c) _)
  blk_ext [idx t, at']

theorem point4 (t : Fin cfg0.N) (j : S8x128.Idx) : out0_4 (iblk m c 0 t) (iblk m c 1 t) (iblk m c 2 t) (iblk m c 3 t) j
    = stack (map4 change (w m c) (g m c) (p m c) (q m c)) (at' t j) := by
  rw [stack_map change change_zero]
  unfold out0_4
  canon_tiles x e
  pointwise [k0_pay4, k0_pay3, k0_pay2, k0_pay1]
  simp only [blk0, blk1, blk2, blk3]
  rw [at'_eq t j x e0 e1]
  rfl

theorem final4 : (dats m 0 c).arrAt 4 (cfgs 0).N = stack (map4 change (w m c) (g m c) (p m c) (q m c)) := by
  refine (dats m 0 c).arrAt_eq_of_covers 4 _ (by decide +kernel) fun t hf y => ?_
  blk_simp
  rw [after0_4]
  refine (point4 m c t y).trans (congrArg _ (?_ : _ = at' t y)).symm
  blk_ext [idx t, at']

theorem point5 (t : Fin cfg0.N) (j : S8x128.Idx) : out0_5 (iblk m c 0 t) (iblk m c 1 t) (iblk m c 2 t) (iblk m c 3 t) j
    = stack (map4 newP (w m c) (g m c) (p m c) (q m c)) (at' t j) := by
  rw [stack_map newP newP_zero]
  unfold out0_5
  canon_tiles x e
  pointwise [k0_pay4, k0_pay3, k0_pay2, k0_pay1]
  simp only [blk0, blk1, blk2, blk3]
  rw [at'_eq t j x e0 e1]
  rfl

theorem final5 : (dats m 0 c).arrAt 5 (cfgs 0).N = stack (map4 newP (w m c) (g m c) (p m c) (q m c)) := by
  refine (dats m 0 c).arrAt_eq_of_covers 5 _ (by decide +kernel) fun t hf y => ?_
  blk_simp
  rw [after0_5]
  refine (point5 m c t y).trans (congrArg _ (?_ : _ = at' t y)).symm
  blk_ext [idx t, at']

theorem point6 (t : Fin cfg0.N) (j : S8x128.Idx) : out0_6 (iblk m c 0 t) (iblk m c 1 t) (iblk m c 2 t) (iblk m c 3 t) j
    = stack (map4 newQ (w m c) (g m c) (p m c) (q m c)) (at' t j) := by
  rw [stack_map newQ newQ_zero]
  unfold out0_6
  canon_tiles x e
  pointwise [k0_pay4, k0_pay3, k0_pay2, k0_pay1]
  simp only [blk0, blk1, blk2, blk3]
  rw [at'_eq t j x e0 e1]
  rfl

theorem final6 : (dats m 0 c).arrAt 6 (cfgs 0).N = stack (map4 newQ (w m c) (g m c) (p m c) (q m c)) := by
  refine (dats m 0 c).arrAt_eq_of_covers 6 _ (by decide +kernel) fun t hf y => ?_
  blk_simp
  rw [after0_6]
  refine (point6 m c t y).trans (congrArg _ (?_ : _ = at' t y)).symm
  blk_ext [idx t, at']

theorem parts_eq {a0 b0 : FVec Ideal S16x128 .f32} {a1 b1 : FVec Ideal S1x1024 .f32} {a2 b2 : FVec Ideal S1x2048 .f32} {a3 b3 : FVec Ideal S1x31x128 .f32}
    {a4 b4 a5 b5 a6 b6 a7 b7 a8 b8 a9 b9 : FVec Ideal S1x1024 .f32} (h0 : a0 = b0) (h1 : a1 = b1) (h2 : a2 = b2) (h3 : a3 = b3) (h4 : a4 = b4)
    (h5 : a5 = b5) (h6 : a6 = b6) (h7 : a7 = b7) (h8 : a8 = b8) (h9 : a9 = b9) :
    parts a0 a1 a2 a3 a4 a5 a6 a7 a8 a9 = parts b0 b1 b2 b3 b4 b5 b6 b7 b8 b9 := by
  rw [h0, h1, h2, h3, h4, h5, h6, h7, h8, h9]

theorem same (f : EReal → EReal → EReal → EReal → EReal) {w g p q w' g' p' q' : Parts} (hw : w = w') (hg : g = g') (hp : p = p') (hq : q = q') :
    stack (map4 f w g p q) = stack (map4 f w' g' p' q') := by rw [hw, hg, hp, hq]

theorem frame : quiescent_Kernel28 (hKernel28 := Kernel28.Gen.facts) :=
  fun m g _ => Kernel28.Gen.frame m g

theorem frame_ideal : quiescent_Kernel28Ideal (hKernel28Ideal := Kernel28Ideal.Gen.facts) :=
  fun m g _ => Kernel28Ideal.Gen.frame m g

theorem frame_ref : quiescent_Reference28Ideal (hReference28Ideal := Reference28Ideal.Gen.facts) :=
  fun m g _ => (θ_run Reference28Ideal.defs _ _).mono
    (fun r h => ⟨fun c => (h c).2.2.2, sem_eq_zero_of_no_sems (by decide) r.2⟩) (Reference28Ideal.Value.run m g)

set_option maxHeartbeats 2000000 in
theorem algebraic : algebraic_Kernel28Ideal_Reference28Ideal (hKernel28Ideal := Kernel28Ideal.Gen.facts)
    (hReference28Ideal := Reference28Ideal.Gen.facts) := by
  pair_intro
  · run_from Kernel28Ideal.Gen.run_main m g
    all_goals rfl
  · refine (θ_run Reference28Ideal.defs _ _).mono (fun r h c => ?_) (Reference28Ideal.Value.run m' g')
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hagree c
    have r4 := (h c).1.trans (Reference28Ideal.Read.val_main_v250_eq _)
    have r5 := (h c).2.1.trans (Reference28Ideal.Read.val_main_v261_eq _)
    have r6 := (h c).2.2.1.trans (Reference28Ideal.Read.val_main_v272_eq _)
    have k := (h c).2.2.2
    clear h
    have ew := parts_eq a0 a1 a2 a3 a4 a5 a6 a7 a8 a9
    have eg := parts_eq a10 a11 a12 a13 a14 a15 a16 a17 a18 a19
    have ep := parts_eq a20 a21 a22 a23 a24 a25 a26 a27 a28 a29
    have eq := parts_eq a30 a31 a32 a33 a34 a35 a36 a37 a38 a39
    have s4 := same change ew eg ep eq
    have s5 := same newP ew eg ep eq
    have s6 := same newQ ew eg ep eq
    have l4 := r4.trans (ref4.trans s4)
    have l5 := r5.trans (ref5.trans s5)
    have l6 := r6.trans (ref6.trans s6)
    exact ⟨l4.trans (final4 m c).symm, l5.trans (final5 m c).symm, l6.trans (final6 m c).symm, k⟩

end Cert.AdamSmall

end
-- ==== Proof.lean ====
/- The proof of all claims: the facts the programs state, then the claims of each pair, proved in its own module. -/
module

public import proofs.«01_k».proof.Defs
public import proofs.«01_k».proof.Proof.Attn.Claims
public import proofs.«01_k».proof.Proof.Loss.Claims
public import proofs.«01_k».proof.Proof.ConvDx.Value
public import proofs.«01_k».proof.Proof.ConvDw.Value
public import proofs.«01_k».proof.Proof.ResRms.Value
public import proofs.«01_k».proof.Proof.Swiglu.Value
public import proofs.«01_k».proof.Proof.Rms.Value
public import proofs.«01_k».proof.Proof.Mix.Value
public import proofs.«01_k».proof.Proof.ConvPost.Value
public import proofs.«01_k».proof.Proof.Glu.Value
public import proofs.«01_k».proof.Proof.AttnFwd.Claims
public import proofs.«01_k».proof.Proof.GluFwd.Value
public import proofs.«01_k».proof.Proof.SwigluFwd.Value
public import proofs.«01_k».proof.Proof.RmsFwd.Value
public import proofs.«01_k».proof.Proof.ResFwd.Value
public import proofs.«01_k».proof.Proof.MixFwd.Value
public import proofs.«01_k».proof.Proof.ConvPostFwd.Value
public import proofs.«01_k».proof.Proof.ConvFwd.Value
public import proofs.«01_k».proof.Proof.Adam.Value
public import proofs.«01_k».proof.Proof.MmNN.Value
public import proofs.«01_k».proof.Proof.MmNT.Value
public import proofs.«01_k».proof.Proof.MmNNCols.Value
public import proofs.«01_k».proof.Proof.MmTN.Value
public import proofs.«01_k».proof.Proof.MmTNCols.Value
public import proofs.«01_k».proof.Proof.MmNTCols.Value
public import proofs.«01_k».proof.Proof.SumSlots.Value
public import proofs.«01_k».proof.Proof.QkvSplit.Value
public import proofs.«01_k».proof.Proof.AdamSmall.Value
public import Idealize.ShloMosaic.Adequacy
public import Idealize.ShloMosaic.Init

@[expose] public section

noncomputable section

namespace Cert.Proof

open Idealize.ShloMosaic Idealize.SL.Sem Cert.Kernel

theorem claim : Cert.Claim := ⟨
  Kernel.Gen.facts, KernelIdeal.Gen.facts, ReferenceIdeal.Gen.facts, Kernel2.Gen.facts, Kernel2Ideal.Gen.facts,
  Reference2Ideal.Gen.facts, Kernel3.Gen.facts, Kernel3Ideal.Gen.facts, Reference3Ideal.Gen.facts,
  Kernel4.Gen.facts, Kernel4Ideal.Gen.facts, Reference4Ideal.Gen.facts, Kernel5.Gen.facts, Kernel5Ideal.Gen.facts,
  Reference5Ideal.Gen.facts, Kernel6.Gen.facts, Kernel6Ideal.Gen.facts, Reference6Ideal.Gen.facts,
  Kernel7.Gen.facts, Kernel7Ideal.Gen.facts, Reference7Ideal.Gen.facts, Kernel8.Gen.facts, Kernel8Ideal.Gen.facts,
  Reference8Ideal.Gen.facts, Kernel9.Gen.facts, Kernel9Ideal.Gen.facts, Reference9Ideal.Gen.facts,
  Kernel10.Gen.facts, Kernel10Ideal.Gen.facts, Reference10Ideal.Gen.facts, Kernel11.Gen.facts,
  Kernel11Ideal.Gen.facts, Reference11Ideal.Gen.facts, Kernel12.Gen.facts, Kernel12Ideal.Gen.facts,
  Reference12Ideal.Gen.facts, Kernel13.Gen.facts, Kernel13Ideal.Gen.facts, Reference13Ideal.Gen.facts,
  Kernel14.Gen.facts, Kernel14Ideal.Gen.facts, Reference14Ideal.Gen.facts, Kernel15.Gen.facts,
  Kernel15Ideal.Gen.facts, Reference15Ideal.Gen.facts, Kernel16.Gen.facts, Kernel16Ideal.Gen.facts,
  Reference16Ideal.Gen.facts, Kernel17.Gen.facts, Kernel17Ideal.Gen.facts, Reference17Ideal.Gen.facts,
  Kernel18.Gen.facts, Kernel18Ideal.Gen.facts, Reference18Ideal.Gen.facts, Kernel19.Gen.facts,
  Kernel19Ideal.Gen.facts, Reference19Ideal.Gen.facts, Kernel20.Gen.facts, Kernel20Ideal.Gen.facts,
  Reference20Ideal.Gen.facts, Kernel21.Gen.facts, Kernel21Ideal.Gen.facts, Reference21Ideal.Gen.facts,
  Kernel22.Gen.facts, Kernel22Ideal.Gen.facts, Reference22Ideal.Gen.facts, Kernel23.Gen.facts,
  Kernel23Ideal.Gen.facts, Reference23Ideal.Gen.facts, Kernel24.Gen.facts, Kernel24Ideal.Gen.facts,
  Reference24Ideal.Gen.facts, Kernel25.Gen.facts, Kernel25Ideal.Gen.facts, Reference25Ideal.Gen.facts,
  Kernel26.Gen.facts, Kernel26Ideal.Gen.facts, Reference26Ideal.Gen.facts, Kernel27.Gen.facts,
  Kernel27Ideal.Gen.facts, Reference27Ideal.Gen.facts, Kernel28.Gen.facts, Kernel28Ideal.Gen.facts, Reference28Ideal.Gen.facts, Cert.Pre_finite.Gen.facts, Cert.Attn.frame, Cert.Attn.frame_ideal,
  Cert.Attn.frame_ideal_finite, Cert.Attn.frame_ref, Cert.Attn.frame_ref_finite, Cert.Loss.frame, Cert.Loss.frame_ideal, Cert.Loss.frame_ref,
  Cert.ConvDx.frame, Cert.ConvDx.frame_ideal, Cert.ConvDx.frame_ref, Cert.ConvDw.frame, Cert.ConvDw.frame_ideal, Cert.ConvDw.frame_ref,
  Cert.ResRms.frame, Cert.ResRms.frame_ideal, Cert.ResRms.frame_ref, Cert.Swiglu.frame, Cert.Swiglu.frame_ideal, Cert.Swiglu.frame_ref,
  Cert.Rms.frame, Cert.Rms.frame_ideal, Cert.Rms.frame_ref, Cert.Mix.frame, Cert.Mix.frame_ideal, Cert.Mix.frame_ref, Cert.ConvPost.frame,
  Cert.ConvPost.frame_ideal, Cert.ConvPost.frame_ref, Cert.Glu.frame, Cert.Glu.frame_ideal, Cert.Glu.frame_ref, Cert.AttnFwd.frame,
  Cert.AttnFwd.frame_ideal, Cert.AttnFwd.frame_ref, Cert.GluFwd.frame, Cert.GluFwd.frame_ideal, Cert.GluFwd.frame_ref, Cert.SwigluFwd.frame,
  Cert.SwigluFwd.frame_ideal, Cert.SwigluFwd.frame_ref, Cert.RmsFwd.frame, Cert.RmsFwd.frame_ideal, Cert.RmsFwd.frame_ref, Cert.ResFwd.frame,
  Cert.ResFwd.frame_ideal, Cert.ResFwd.frame_ref, Cert.MixFwd.frame, Cert.MixFwd.frame_ideal, Cert.MixFwd.frame_ref, Cert.ConvPostFwd.frame,
  Cert.ConvPostFwd.frame_ideal, Cert.ConvPostFwd.frame_ref, Cert.ConvFwd.frame, Cert.ConvFwd.frame_ideal, Cert.ConvFwd.frame_ref,
  Cert.Adam.frame, Cert.Adam.frame_ideal, Cert.Adam.frame_ref, Cert.MmNN.frame, Cert.MmNN.frame_ideal, Cert.MmNN.frame_ref, Cert.MmNT.frame,
  Cert.MmNT.frame_ideal, Cert.MmNT.frame_ref, Cert.MmNNCols.frame, Cert.MmNNCols.frame_ideal, Cert.MmNNCols.frame_ref, Cert.MmTN.frame,
  Cert.MmTN.frame_ideal, Cert.MmTN.frame_ref, Cert.MmTNCols.frame, Cert.MmTNCols.frame_ideal, Cert.MmTNCols.frame_ref, Cert.MmNTCols.frame,
  Cert.MmNTCols.frame_ideal, Cert.MmNTCols.frame_ref, Cert.SumSlots.frame, Cert.SumSlots.frame_ideal, Cert.SumSlots.frame_ref,
  Cert.QkvSplit.frame, Cert.QkvSplit.frame_ideal, Cert.QkvSplit.frame_ref,
  Cert.AdamSmall.frame, Cert.AdamSmall.frame_ideal, Cert.AdamSmall.frame_ref, trivial, Cert.Attn.algebraic, trivial, Cert.Loss.algebraic,
  trivial, Cert.ConvDx.algebraic, trivial, Cert.ConvDw.algebraic, trivial, Cert.ResRms.algebraic, trivial, Cert.Swiglu.algebraic, trivial,
  Cert.Rms.algebraic, trivial, Cert.Mix.algebraic, trivial, Cert.ConvPost.algebraic, trivial, Cert.Glu.algebraic, trivial,
  Cert.AttnFwd.algebraic, trivial, Cert.GluFwd.algebraic, trivial, Cert.SwigluFwd.algebraic, trivial, Cert.RmsFwd.algebraic, trivial,
  Cert.ResFwd.algebraic, trivial, Cert.MixFwd.algebraic, trivial, Cert.ConvPostFwd.algebraic, trivial, Cert.ConvFwd.algebraic, trivial,
  Cert.Adam.algebraic, trivial, Cert.MmNN.algebraic, trivial, Cert.MmNT.algebraic, trivial, Cert.MmNNCols.algebraic, trivial,
  Cert.MmTN.algebraic, trivial, Cert.MmTNCols.algebraic, trivial, Cert.MmNTCols.algebraic, trivial, Cert.SumSlots.algebraic, trivial,
  Cert.QkvSplit.algebraic, trivial, Cert.AdamSmall.algebraic⟩

end Cert.Proof

end
